-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Kernel12Ideal_finite_latent [hPre_finite_latent : Cert.Pre_finite_latent.Facts] (m : (ℓ : Loc Cert.Kernel12Ideal.nD Cert.Kernel12Ideal.τ Cert.Kernel12Ideal.sig) → Buf (Elt Ideal) ℓ) : Prop :=
  ∀ c : Dev Cert.Kernel12Ideal.nD,
    (Cert.Pre_finite_latent.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5))).1 = (fun _ => 1#1)
    ∧ (Cert.Pre_finite_latent.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5))).2.1 = (fun _ => 1#1)
    ∧ (Cert.Pre_finite_latent.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5))).2.2.1 = (fun _ => 1#1)
    ∧ (Cert.Pre_finite_latent.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5))).2.2.2.1 = (fun _ => 1#1)
    ∧ (Cert.Pre_finite_latent.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5))).2.2.2.2.1 = (fun _ => 1#1)
    ∧ (Cert.Pre_finite_latent.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5))).2.2.2.2.2 = (fun _ => 1#1)

def Pre_Reference12Ideal (m : (ℓ : Loc Cert.Reference12Ideal.nD Cert.Reference12Ideal.τ Cert.Reference12Ideal.sig) → Buf (Elt Ideal) ℓ) : Prop :=
  True

def Pre_Reference12Ideal_finite_latent [hPre_finite_latent : Cert.Pre_finite_latent.Facts] (m : (ℓ : Loc Cert.Reference12Ideal.nD Cert.Reference12Ideal.τ Cert.Reference12Ideal.sig) → Buf (Elt Ideal) ℓ) : Prop :=
  ∀ c : Dev Cert.Reference12Ideal.nD,
    (Cert.Pre_finite_latent.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5))).1 = (fun _ => 1#1)
    ∧ (Cert.Pre_finite_latent.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5))).2.1 = (fun _ => 1#1)
    ∧ (Cert.Pre_finite_latent.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5))).2.2.1 = (fun _ => 1#1)
    ∧ (Cert.Pre_finite_latent.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5))).2.2.2.1 = (fun _ => 1#1)
    ∧ (Cert.Pre_finite_latent.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5))).2.2.2.2.1 = (fun _ => 1#1)
    ∧ (Cert.Pre_finite_latent.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5))).2.2.2.2.2 = (fun _ => 1#1)

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Kernel14Ideal_finite_latent_forward [hPre_finite_latent_forward : Cert.Pre_finite_latent_forward.Facts] (m : (ℓ : Loc Cert.Kernel14Ideal.nD Cert.Kernel14Ideal.τ Cert.Kernel14Ideal.sig) → Buf (Elt Ideal) ℓ) : Prop :=
  ∀ c : Dev Cert.Kernel14Ideal.nD,
    (Cert.Pre_finite_latent_forward.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4))).1 = (fun _ => 1#1)
    ∧ (Cert.Pre_finite_latent_forward.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4))).2.1 = (fun _ => 1#1)
    ∧ (Cert.Pre_finite_latent_forward.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4))).2.2.1 = (fun _ => 1#1)
    ∧ (Cert.Pre_finite_latent_forward.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4))).2.2.2.1 = (fun _ => 1#1)
    ∧ (Cert.Pre_finite_latent_forward.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4))).2.2.2.2 = (fun _ => 1#1)

def Pre_Reference14Ideal (m : (ℓ : Loc Cert.Reference14Ideal.nD Cert.Reference14Ideal.τ Cert.Reference14Ideal.sig) → Buf (Elt Ideal) ℓ) : Prop :=
  True

def Pre_Reference14Ideal_finite_latent_forward [hPre_finite_latent_forward : Cert.Pre_finite_latent_forward.Facts] (m : (ℓ : Loc Cert.Reference14Ideal.nD Cert.Reference14Ideal.τ Cert.Reference14Ideal.sig) → Buf (Elt Ideal) ℓ) : Prop :=
  ∀ c : Dev Cert.Reference14Ideal.nD,
    (Cert.Pre_finite_latent_forward.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3)) (m ((c.tc : Thread Cert.Reference14Ideal.nD Cert.Reference14Ideal.τ).loc Cert.Reference14Ideal.main_arg4))).1 = (fun _ => 1#1)
    ∧ (Cert.Pre_finite_latent_forward.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3)) (m ((c.tc : Thread Cert.Reference14Ideal.nD Cert.Reference14Ideal.τ).loc Cert.Reference14Ideal.main_arg4))).2.1 = (fun _ => 1#1)
    ∧ (Cert.Pre_finite_latent_forward.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3)) (m ((c.tc : Thread Cert.Reference14Ideal.nD Cert.Reference14Ideal.τ).loc Cert.Reference14Ideal.main_arg4))).2.2.1 = (fun _ => 1#1)
    ∧ (Cert.Pre_finite_latent_forward.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3)) (m ((c.tc : Thread Cert.Reference14Ideal.nD Cert.Reference14Ideal.τ).loc Cert.Reference14Ideal.main_arg4))).2.2.2.1 = (fun _ => 1#1)
    ∧ (Cert.Pre_finite_latent_forward.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3)) (m ((c.tc : Thread Cert.Reference14Ideal.nD Cert.Reference14Ideal.τ).loc Cert.Reference14Ideal.main_arg4))).2.2.2.2 = (fun _ => 1#1)

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ r.2.sem = fun _ => 0)

def quiescent_Kernel12Ideal_pre_finite_latent [hKernel12Ideal : Cert.Kernel12Ideal.Facts] [hPre_finite_latent : Cert.Pre_finite_latent.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal_finite_latent m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5))
      ∧ r.2.sem = fun _ => 0)

def quiescent_Reference12Ideal_pre_finite_latent [hReference12Ideal : Cert.Reference12Ideal.Facts] [hPre_finite_latent : Cert.Pre_finite_latent.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal_finite_latent m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Kernel14Ideal_pre_finite_latent_forward [hKernel14Ideal : Cert.Kernel14Ideal.Facts] [hPre_finite_latent_forward : Cert.Pre_finite_latent_forward.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal_finite_latent_forward m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def quiescent_Reference14Ideal_pre_finite_latent_forward [hReference14Ideal : Cert.Reference14Ideal.Facts] [hPre_finite_latent_forward : Cert.Pre_finite_latent_forward.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal_finite_latent_forward m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4)
      ∧ r.2.mem ((c.tc : Thread Cert.Kernel16.nD Cert.Kernel16.τ).loc Cert.Kernel16.main_arg5) = m ((c.tc : Thread Cert.Kernel16.nD Cert.Kernel16.τ).loc Cert.Kernel16.main_arg5))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
      ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4)
      ∧ r.2.mem ((c.tc : Thread Cert.Reference16Ideal.nD Cert.Reference16Ideal.τ).loc Cert.Reference16Ideal.main_arg5) = m ((c.tc : Thread Cert.Reference16Ideal.nD Cert.Reference16Ideal.τ).loc Cert.Reference16Ideal.main_arg5))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4)
      ∧ r.2.mem ((c.tc : Thread Cert.Kernel18.nD Cert.Kernel18.τ).loc Cert.Kernel18.main_arg5) = m ((c.tc : Thread Cert.Kernel18.nD Cert.Kernel18.τ).loc Cert.Kernel18.main_arg5)
      ∧ r.2.mem ((c.tc : Thread Cert.Kernel18.nD Cert.Kernel18.τ).loc Cert.Kernel18.main_arg6) = m ((c.tc : Thread Cert.Kernel18.nD Cert.Kernel18.τ).loc Cert.Kernel18.main_arg6)
      ∧ r.2.mem ((c.tc : Thread Cert.Kernel18.nD Cert.Kernel18.τ).loc Cert.Kernel18.main_arg7) = m ((c.tc : Thread Cert.Kernel18.nD Cert.Kernel18.τ).loc Cert.Kernel18.main_arg7))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
      ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5)
      ∧ r.2.mem ((c.tc : Thread Cert.Kernel18Ideal.nD Cert.Kernel18Ideal.τ).loc Cert.Kernel18Ideal.main_arg6) = m ((c.tc : Thread Cert.Kernel18Ideal.nD Cert.Kernel18Ideal.τ).loc Cert.Kernel18Ideal.main_arg6)
      ∧ r.2.mem ((c.tc : Thread Cert.Kernel18Ideal.nD Cert.Kernel18Ideal.τ).loc Cert.Kernel18Ideal.main_arg7) = m ((c.tc : Thread Cert.Kernel18Ideal.nD Cert.Kernel18Ideal.τ).loc Cert.Kernel18Ideal.main_arg7))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4)
      ∧ r.2.mem ((c.tc : Thread Cert.Reference18Ideal.nD Cert.Reference18Ideal.τ).loc Cert.Reference18Ideal.main_arg5) = m ((c.tc : Thread Cert.Reference18Ideal.nD Cert.Reference18Ideal.τ).loc Cert.Reference18Ideal.main_arg5)
      ∧ r.2.mem ((c.tc : Thread Cert.Reference18Ideal.nD Cert.Reference18Ideal.τ).loc Cert.Reference18Ideal.main_arg6) = m ((c.tc : Thread Cert.Reference18Ideal.nD Cert.Reference18Ideal.τ).loc Cert.Reference18Ideal.main_arg6)
      ∧ r.2.mem ((c.tc : Thread Cert.Reference18Ideal.nD Cert.Reference18Ideal.τ).loc Cert.Reference18Ideal.main_arg7) = m ((c.tc : Thread Cert.Reference18Ideal.nD Cert.Reference18Ideal.τ).loc Cert.Reference18Ideal.main_arg7))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3)
      ∧ r.2.mem ((c.tc : Thread Cert.Kernel24.nD Cert.Kernel24.τ).loc Cert.Kernel24.main_arg4) = m ((c.tc : Thread Cert.Kernel24.nD Cert.Kernel24.τ).loc Cert.Kernel24.main_arg4))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
      ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3)
      ∧ r.2.mem ((c.tc : Thread Cert.Reference24Ideal.nD Cert.Reference24Ideal.τ).loc Cert.Reference24Ideal.main_arg4) = m ((c.tc : Thread Cert.Reference24Ideal.nD Cert.Reference24Ideal.τ).loc Cert.Reference24Ideal.main_arg4))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)) (v3 : (c : Dev Cert.KernelIdeal.nD) → Buf (Elt Ideal) ((c.tc : Thread Cert.KernelIdeal.nD Cert.KernelIdeal.τ).loc Cert.KernelIdeal.main_v6_3)) (v4 : (c : Dev Cert.KernelIdeal.nD) → Buf (Elt Ideal) ((c.tc : Thread Cert.KernelIdeal.nD Cert.KernelIdeal.τ).loc Cert.KernelIdeal.main_v6_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_v6_3) = v3 c
          ∧ r.2.mem ((c.tc : Thread Cert.KernelIdeal.nD Cert.KernelIdeal.τ).loc Cert.KernelIdeal.main_v6_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_v88) = v1 c
          ∧ r.2.mem ((c.tc : Thread Cert.ReferenceIdeal.nD Cert.ReferenceIdeal.τ).loc Cert.ReferenceIdeal.main_v86) = v2 c
          ∧ r.2.mem ((c.tc : Thread Cert.ReferenceIdeal.nD Cert.ReferenceIdeal.τ).loc Cert.ReferenceIdeal.main_v77) = v3 c
          ∧ r.2.mem ((c.tc : Thread Cert.ReferenceIdeal.nD Cert.ReferenceIdeal.τ).loc Cert.ReferenceIdeal.main_v80) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v4)) (v1 : (c : Dev Cert.Kernel2Ideal.nD) → Buf (Elt Ideal) ((c.tc : Thread Cert.Kernel2Ideal.nD Cert.Kernel2Ideal.τ).loc Cert.Kernel2Ideal.main_v5)) (v2 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_v5) = v1 c
          ∧ r.2.mem ((c.tc : Thread Cert.Kernel2Ideal.nD Cert.Kernel2Ideal.τ).loc Cert.Kernel2Ideal.main_v3) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v19) = v0 c
          ∧ r.2.mem ((c.tc : Thread Cert.Reference2Ideal.nD Cert.Reference2Ideal.τ).loc Cert.Reference2Ideal.main_v20) = v1 c
          ∧ r.2.mem ((c.tc : Thread Cert.Reference2Ideal.nD Cert.Reference2Ideal.τ).loc Cert.Reference2Ideal.main_v21) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)) (v1 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_v1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_v6) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v0)) (v1 : (c : Dev Cert.Kernel7Ideal.nD) → Buf (Elt Ideal) ((c.tc : Thread Cert.Kernel7Ideal.nD Cert.Kernel7Ideal.τ).loc Cert.Kernel7Ideal.main_v1)) (v2 : (c : Dev Cert.Kernel7Ideal.nD) → Buf (Elt Ideal) ((c.tc : Thread Cert.Kernel7Ideal.nD Cert.Kernel7Ideal.τ).loc Cert.Kernel7Ideal.main_v2)) (v3 : (c : Dev Cert.Kernel7Ideal.nD) → Buf (Elt Ideal) ((c.tc : Thread Cert.Kernel7Ideal.nD Cert.Kernel7Ideal.τ).loc Cert.Kernel7Ideal.main_v3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_v1) = v1 c
          ∧ r.2.mem ((c.tc : Thread Cert.Kernel7Ideal.nD Cert.Kernel7Ideal.τ).loc Cert.Kernel7Ideal.main_v2) = v2 c
          ∧ r.2.mem ((c.tc : Thread Cert.Kernel7Ideal.nD Cert.Kernel7Ideal.τ).loc Cert.Kernel7Ideal.main_v3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_v5) = v1 c
          ∧ r.2.mem ((c.tc : Thread Cert.Reference7Ideal.nD Cert.Reference7Ideal.τ).loc Cert.Reference7Ideal.main_v9) = v2 c
          ∧ r.2.mem ((c.tc : Thread Cert.Reference7Ideal.nD Cert.Reference7Ideal.τ).loc Cert.Reference7Ideal.main_v12) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)) →
    ∃ (v0 : (c : Dev Cert.Kernel10Ideal.nD) → Buf (Elt Ideal) ((c.tc : Thread Cert.Kernel10Ideal.nD Cert.Kernel10Ideal.τ).loc Cert.Kernel10Ideal.main_v4)) (v1 : (c : Dev Cert.Kernel10Ideal.nD) → Buf (Elt Ideal) ((c.tc : Thread Cert.Kernel10Ideal.nD Cert.Kernel10Ideal.τ).loc Cert.Kernel10Ideal.main_v6)) (v2 : (c : Dev Cert.Kernel10Ideal.nD) → Buf (Elt Ideal) ((c.tc : Thread Cert.Kernel10Ideal.nD Cert.Kernel10Ideal.τ).loc Cert.Kernel10Ideal.main_v7_0)) (v3 : (c : Dev Cert.Kernel10Ideal.nD) → Buf (Elt Ideal) ((c.tc : Thread Cert.Kernel10Ideal.nD Cert.Kernel10Ideal.τ).loc Cert.Kernel10Ideal.main_v7_1)) (v4 : (c : Dev Cert.Kernel10Ideal.nD) → Buf (Elt Ideal) ((c.tc : Thread Cert.Kernel10Ideal.nD Cert.Kernel10Ideal.τ).loc Cert.Kernel10Ideal.main_v7_2)) (v5 : (c : Dev Cert.Kernel10Ideal.nD) → Buf (Elt Ideal) ((c.tc : Thread Cert.Kernel10Ideal.nD Cert.Kernel10Ideal.τ).loc Cert.Kernel10Ideal.main_v7_3)) (v6 : (c : Dev Cert.Kernel10Ideal.nD) → Buf (Elt Ideal) ((c.tc : Thread Cert.Kernel10Ideal.nD Cert.Kernel10Ideal.τ).loc Cert.Kernel10Ideal.main_v7_4)) (v7 : (c : Dev Cert.Kernel10Ideal.nD) → Buf (Elt Ideal) ((c.tc : Thread Cert.Kernel10Ideal.nD Cert.Kernel10Ideal.τ).loc Cert.Kernel10Ideal.main_v7_5)) (v8 : (c : Dev Cert.Kernel10Ideal.nD) → Buf (Elt Ideal) ((c.tc : Thread Cert.Kernel10Ideal.nD Cert.Kernel10Ideal.τ).loc Cert.Kernel10Ideal.main_v8)) (v9 : (c : Dev Cert.Kernel10Ideal.nD) → Buf (Elt Ideal) ((c.tc : Thread Cert.Kernel10Ideal.nD Cert.Kernel10Ideal.τ).loc Cert.Kernel10Ideal.main_v9)) (v10 : (c : Dev Cert.Kernel10Ideal.nD) → Buf (Elt Ideal) ((c.tc : Thread Cert.Kernel10Ideal.nD Cert.Kernel10Ideal.τ).loc Cert.Kernel10Ideal.main_v10)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v4) = v0 c
          ∧ r.2.mem ((c.tc : Thread Cert.Kernel10Ideal.nD Cert.Kernel10Ideal.τ).loc Cert.Kernel10Ideal.main_v6) = v1 c
          ∧ r.2.mem ((c.tc : Thread Cert.Kernel10Ideal.nD Cert.Kernel10Ideal.τ).loc Cert.Kernel10Ideal.main_v7_0) = v2 c
          ∧ r.2.mem ((c.tc : Thread Cert.Kernel10Ideal.nD Cert.Kernel10Ideal.τ).loc Cert.Kernel10Ideal.main_v7_1) = v3 c
          ∧ r.2.mem ((c.tc : Thread Cert.Kernel10Ideal.nD Cert.Kernel10Ideal.τ).loc Cert.Kernel10Ideal.main_v7_2) = v4 c
          ∧ r.2.mem ((c.tc : Thread Cert.Kernel10Ideal.nD Cert.Kernel10Ideal.τ).loc Cert.Kernel10Ideal.main_v7_3) = v5 c
          ∧ r.2.mem ((c.tc : Thread Cert.Kernel10Ideal.nD Cert.Kernel10Ideal.τ).loc Cert.Kernel10Ideal.main_v7_4) = v6 c
          ∧ r.2.mem ((c.tc : Thread Cert.Kernel10Ideal.nD Cert.Kernel10Ideal.τ).loc Cert.Kernel10Ideal.main_v7_5) = v7 c
          ∧ r.2.mem ((c.tc : Thread Cert.Kernel10Ideal.nD Cert.Kernel10Ideal.τ).loc Cert.Kernel10Ideal.main_v8) = v8 c
          ∧ r.2.mem ((c.tc : Thread Cert.Kernel10Ideal.nD Cert.Kernel10Ideal.τ).loc Cert.Kernel10Ideal.main_v9) = v9 c
          ∧ r.2.mem ((c.tc : Thread Cert.Kernel10Ideal.nD Cert.Kernel10Ideal.τ).loc Cert.Kernel10Ideal.main_v10) = v10 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v24) = v0 c
          ∧ r.2.mem ((c.tc : Thread Cert.Reference10Ideal.nD Cert.Reference10Ideal.τ).loc Cert.Reference10Ideal.main_v40) = v1 c
          ∧ r.2.mem ((c.tc : Thread Cert.Reference10Ideal.nD Cert.Reference10Ideal.τ).loc Cert.Reference10Ideal.main_v35) = v2 c
          ∧ r.2.mem ((c.tc : Thread Cert.Reference10Ideal.nD Cert.Reference10Ideal.τ).loc Cert.Reference10Ideal.main_v37) = v3 c
          ∧ r.2.mem ((c.tc : Thread Cert.Reference10Ideal.nD Cert.Reference10Ideal.τ).loc Cert.Reference10Ideal.main_v39) = v4 c
          ∧ r.2.mem ((c.tc : Thread Cert.Reference10Ideal.nD Cert.Reference10Ideal.τ).loc Cert.Reference10Ideal.main_v43) = v5 c
          ∧ r.2.mem ((c.tc : Thread Cert.Reference10Ideal.nD Cert.Reference10Ideal.τ).loc Cert.Reference10Ideal.main_v46) = v6 c
          ∧ r.2.mem ((c.tc : Thread Cert.Reference10Ideal.nD Cert.Reference10Ideal.τ).loc Cert.Reference10Ideal.main_v49) = v7 c
          ∧ r.2.mem ((c.tc : Thread Cert.Reference10Ideal.nD Cert.Reference10Ideal.τ).loc Cert.Reference10Ideal.main_v54) = v8 c
          ∧ r.2.mem ((c.tc : Thread Cert.Reference10Ideal.nD Cert.Reference10Ideal.τ).loc Cert.Reference10Ideal.main_v56) = v9 c
          ∧ r.2.mem ((c.tc : Thread Cert.Reference10Ideal.nD Cert.Reference10Ideal.τ).loc Cert.Reference10Ideal.main_v58) = v10 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)) →
    ∃ (v0 : (c : Dev Cert.Kernel11Ideal.nD) → Buf (Elt Ideal) ((c.tc : Thread Cert.Kernel11Ideal.nD Cert.Kernel11Ideal.τ).loc Cert.Kernel11Ideal.main_v3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v3) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v20) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5))

def preserves_Kernel13_Kernel13Ideal : Prop :=
  IdealRules.named_const.Statement Cert.Kernel13Ideal.κ "mask" .f32 0xF149F2CA#32 ⊥

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v6)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v6) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v41) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel12_Kernel12Ideal : Prop :=
  IdealRules.named_const.Statement Cert.Kernel12Ideal.κ "mask" .f32 0xF149F2CA#32 ⊥

def algebraic_Kernel12Ideal_Reference12Ideal_pre_finite_latent [hKernel12Ideal : Cert.Kernel12Ideal.Facts] [hReference12Ideal : Cert.Reference12Ideal.Facts] [hPre_finite_latent : Cert.Pre_finite_latent.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal_finite_latent m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v118) = v0 c
          ∧ r.2.mem ((c.tc : Thread Cert.Reference12Ideal.nD Cert.Reference12Ideal.τ).loc Cert.Reference12Ideal.main_v116) = v1 c
          ∧ r.2.mem ((c.tc : Thread Cert.Reference12Ideal.nD Cert.Reference12Ideal.τ).loc Cert.Reference12Ideal.main_v95) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5))

def preserves_Kernel14_Kernel14Ideal : Prop :=
  IdealRules.named_const.Statement Cert.Kernel14Ideal.κ "mask" .f32 0xF149F2CA#32 ⊥

def algebraic_Kernel14Ideal_Reference14Ideal_pre_finite_latent_forward [hKernel14Ideal : Cert.Kernel14Ideal.Facts] [hReference14Ideal : Cert.Reference14Ideal.Facts] [hPre_finite_latent_forward : Cert.Pre_finite_latent_forward.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal_finite_latent_forward m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v50) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v1_0)) (v1 : (c : Dev Cert.Kernel17Ideal.nD) → Buf (Elt Ideal) ((c.tc : Thread Cert.Kernel17Ideal.nD Cert.Kernel17Ideal.τ).loc Cert.Kernel17Ideal.main_v1_1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v1_0) = v0 c
          ∧ r.2.mem ((c.tc : Thread Cert.Kernel17Ideal.nD Cert.Kernel17Ideal.τ).loc Cert.Kernel17Ideal.main_v1_1) = v1 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v36) = v0 c
          ∧ r.2.mem ((c.tc : Thread Cert.Reference17Ideal.nD Cert.Reference17Ideal.τ).loc Cert.Reference17Ideal.main_v37) = v1 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)
      ∧ m' ((c.tc : Thread Cert.Reference16Ideal.nD Cert.Reference16Ideal.τ).loc Cert.Reference16Ideal.main_arg5) = m ((c.tc : Thread Cert.Kernel16Ideal.nD Cert.Kernel16Ideal.τ).loc Cert.Kernel16Ideal.main_arg5)) →
    ∃ (v0 : (c : Dev Cert.Kernel16Ideal.nD) → Buf (Elt Ideal) ((c.tc : Thread Cert.Kernel16Ideal.nD Cert.Kernel16Ideal.τ).loc Cert.Kernel16Ideal.main_v2_0)) (v1 : (c : Dev Cert.Kernel16Ideal.nD) → Buf (Elt Ideal) ((c.tc : Thread Cert.Kernel16Ideal.nD Cert.Kernel16Ideal.τ).loc Cert.Kernel16Ideal.main_v2_1)) (v2 : (c : Dev Cert.Kernel16Ideal.nD) → Buf (Elt Ideal) ((c.tc : Thread Cert.Kernel16Ideal.nD Cert.Kernel16Ideal.τ).loc Cert.Kernel16Ideal.main_v2_2)) (v3 : (c : Dev Cert.Kernel16Ideal.nD) → Buf (Elt Ideal) ((c.tc : Thread Cert.Kernel16Ideal.nD Cert.Kernel16Ideal.τ).loc Cert.Kernel16Ideal.main_v2_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v2_0) = v0 c
          ∧ r.2.mem ((c.tc : Thread Cert.Kernel16Ideal.nD Cert.Kernel16Ideal.τ).loc Cert.Kernel16Ideal.main_v2_1) = v1 c
          ∧ r.2.mem ((c.tc : Thread Cert.Kernel16Ideal.nD Cert.Kernel16Ideal.τ).loc Cert.Kernel16Ideal.main_v2_2) = v2 c
          ∧ r.2.mem ((c.tc : Thread Cert.Kernel16Ideal.nD Cert.Kernel16Ideal.τ).loc Cert.Kernel16Ideal.main_v2_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
          ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v53) = v0 c
          ∧ r.2.mem ((c.tc : Thread Cert.Reference16Ideal.nD Cert.Reference16Ideal.τ).loc Cert.Reference16Ideal.main_v75) = v1 c
          ∧ r.2.mem ((c.tc : Thread Cert.Reference16Ideal.nD Cert.Reference16Ideal.τ).loc Cert.Reference16Ideal.main_v76) = v2 c
          ∧ r.2.mem ((c.tc : Thread Cert.Reference16Ideal.nD Cert.Reference16Ideal.τ).loc Cert.Reference16Ideal.main_v77) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4)
          ∧ r.2.mem ((c.tc : Thread Cert.Reference16Ideal.nD Cert.Reference16Ideal.τ).loc Cert.Reference16Ideal.main_arg5) = m' ((c.tc : Thread Cert.Reference16Ideal.nD Cert.Reference16Ideal.τ).loc Cert.Reference16Ideal.main_arg5))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)
      ∧ m' ((c.tc : Thread Cert.Reference18Ideal.nD Cert.Reference18Ideal.τ).loc Cert.Reference18Ideal.main_arg5) = m ((c.tc : Thread Cert.Kernel18Ideal.nD Cert.Kernel18Ideal.τ).loc Cert.Kernel18Ideal.main_arg5)
      ∧ m' ((c.tc : Thread Cert.Reference18Ideal.nD Cert.Reference18Ideal.τ).loc Cert.Reference18Ideal.main_arg6) = m ((c.tc : Thread Cert.Kernel18Ideal.nD Cert.Kernel18Ideal.τ).loc Cert.Kernel18Ideal.main_arg6)
      ∧ m' ((c.tc : Thread Cert.Reference18Ideal.nD Cert.Reference18Ideal.τ).loc Cert.Reference18Ideal.main_arg7) = m ((c.tc : Thread Cert.Kernel18Ideal.nD Cert.Kernel18Ideal.τ).loc Cert.Kernel18Ideal.main_arg7)) →
    ∃ (v0 : (c : Dev Cert.Kernel18Ideal.nD) → Buf (Elt Ideal) ((c.tc : Thread Cert.Kernel18Ideal.nD Cert.Kernel18Ideal.τ).loc Cert.Kernel18Ideal.main_v2_0)) (v1 : (c : Dev Cert.Kernel18Ideal.nD) → Buf (Elt Ideal) ((c.tc : Thread Cert.Kernel18Ideal.nD Cert.Kernel18Ideal.τ).loc Cert.Kernel18Ideal.main_v2_1)) (v2 : (c : Dev Cert.Kernel18Ideal.nD) → Buf (Elt Ideal) ((c.tc : Thread Cert.Kernel18Ideal.nD Cert.Kernel18Ideal.τ).loc Cert.Kernel18Ideal.main_v2_2)) (v3 : (c : Dev Cert.Kernel18Ideal.nD) → Buf (Elt Ideal) ((c.tc : Thread Cert.Kernel18Ideal.nD Cert.Kernel18Ideal.τ).loc Cert.Kernel18Ideal.main_v2_3)) (v4 : (c : Dev Cert.Kernel18Ideal.nD) → Buf (Elt Ideal) ((c.tc : Thread Cert.Kernel18Ideal.nD Cert.Kernel18Ideal.τ).loc Cert.Kernel18Ideal.main_v2_4)) (v5 : (c : Dev Cert.Kernel18Ideal.nD) → Buf (Elt Ideal) ((c.tc : Thread Cert.Kernel18Ideal.nD Cert.Kernel18Ideal.τ).loc Cert.Kernel18Ideal.main_v2_5)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v2_0) = v0 c
          ∧ r.2.mem ((c.tc : Thread Cert.Kernel18Ideal.nD Cert.Kernel18Ideal.τ).loc Cert.Kernel18Ideal.main_v2_1) = v1 c
          ∧ r.2.mem ((c.tc : Thread Cert.Kernel18Ideal.nD Cert.Kernel18Ideal.τ).loc Cert.Kernel18Ideal.main_v2_2) = v2 c
          ∧ r.2.mem ((c.tc : Thread Cert.Kernel18Ideal.nD Cert.Kernel18Ideal.τ).loc Cert.Kernel18Ideal.main_v2_3) = v3 c
          ∧ r.2.mem ((c.tc : Thread Cert.Kernel18Ideal.nD Cert.Kernel18Ideal.τ).loc Cert.Kernel18Ideal.main_v2_4) = v4 c
          ∧ r.2.mem ((c.tc : Thread Cert.Kernel18Ideal.nD Cert.Kernel18Ideal.τ).loc Cert.Kernel18Ideal.main_v2_5) = v5 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
          ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5)
          ∧ r.2.mem ((c.tc : Thread Cert.Kernel18Ideal.nD Cert.Kernel18Ideal.τ).loc Cert.Kernel18Ideal.main_arg6) = m ((c.tc : Thread Cert.Kernel18Ideal.nD Cert.Kernel18Ideal.τ).loc Cert.Kernel18Ideal.main_arg6)
          ∧ r.2.mem ((c.tc : Thread Cert.Kernel18Ideal.nD Cert.Kernel18Ideal.τ).loc Cert.Kernel18Ideal.main_arg7) = m ((c.tc : Thread Cert.Kernel18Ideal.nD Cert.Kernel18Ideal.τ).loc Cert.Kernel18Ideal.main_arg7))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v83) = v0 c
          ∧ r.2.mem ((c.tc : Thread Cert.Reference18Ideal.nD Cert.Reference18Ideal.τ).loc Cert.Reference18Ideal.main_v84) = v1 c
          ∧ r.2.mem ((c.tc : Thread Cert.Reference18Ideal.nD Cert.Reference18Ideal.τ).loc Cert.Reference18Ideal.main_v85) = v2 c
          ∧ r.2.mem ((c.tc : Thread Cert.Reference18Ideal.nD Cert.Reference18Ideal.τ).loc Cert.Reference18Ideal.main_v86) = v3 c
          ∧ r.2.mem ((c.tc : Thread Cert.Reference18Ideal.nD Cert.Reference18Ideal.τ).loc Cert.Reference18Ideal.main_v87) = v4 c
          ∧ r.2.mem ((c.tc : Thread Cert.Reference18Ideal.nD Cert.Reference18Ideal.τ).loc Cert.Reference18Ideal.main_v88) = v5 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4)
          ∧ r.2.mem ((c.tc : Thread Cert.Reference18Ideal.nD Cert.Reference18Ideal.τ).loc Cert.Reference18Ideal.main_arg5) = m' ((c.tc : Thread Cert.Reference18Ideal.nD Cert.Reference18Ideal.τ).loc Cert.Reference18Ideal.main_arg5)
          ∧ r.2.mem ((c.tc : Thread Cert.Reference18Ideal.nD Cert.Reference18Ideal.τ).loc Cert.Reference18Ideal.main_arg6) = m' ((c.tc : Thread Cert.Reference18Ideal.nD Cert.Reference18Ideal.τ).loc Cert.Reference18Ideal.main_arg6)
          ∧ r.2.mem ((c.tc : Thread Cert.Reference18Ideal.nD Cert.Reference18Ideal.τ).loc Cert.Reference18Ideal.main_arg7) = m' ((c.tc : Thread Cert.Reference18Ideal.nD Cert.Reference18Ideal.τ).loc Cert.Reference18Ideal.main_arg7))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v2_0)) (v1 : (c : Dev Cert.Kernel22Ideal.nD) → Buf (Elt Ideal) ((c.tc : Thread Cert.Kernel22Ideal.nD Cert.Kernel22Ideal.τ).loc Cert.Kernel22Ideal.main_v2_1)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v2_0) = v0 c
          ∧ r.2.mem ((c.tc : Thread Cert.Kernel22Ideal.nD Cert.Kernel22Ideal.τ).loc Cert.Kernel22Ideal.main_v2_1) = v1 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v13) = v0 c
          ∧ r.2.mem ((c.tc : Thread Cert.Reference22Ideal.nD Cert.Reference22Ideal.τ).loc Cert.Reference22Ideal.main_v27) = v1 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v1)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v1) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v13) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)
      ∧ m' ((c.tc : Thread Cert.Reference24Ideal.nD Cert.Reference24Ideal.τ).loc Cert.Reference24Ideal.main_arg4) = m ((c.tc : Thread Cert.Kernel24Ideal.nD Cert.Kernel24Ideal.τ).loc Cert.Kernel24Ideal.main_arg4)) →
    ∃ (v0 : (c : Dev Cert.Kernel24Ideal.nD) → Buf (Elt Ideal) ((c.tc : Thread Cert.Kernel24Ideal.nD Cert.Kernel24Ideal.τ).loc Cert.Kernel24Ideal.main_v2_0)) (v1 : (c : Dev Cert.Kernel24Ideal.nD) → Buf (Elt Ideal) ((c.tc : Thread Cert.Kernel24Ideal.nD Cert.Kernel24Ideal.τ).loc Cert.Kernel24Ideal.main_v2_1)) (v2 : (c : Dev Cert.Kernel24Ideal.nD) → Buf (Elt Ideal) ((c.tc : Thread Cert.Kernel24Ideal.nD Cert.Kernel24Ideal.τ).loc Cert.Kernel24Ideal.main_v2_2)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v2_0) = v0 c
          ∧ r.2.mem ((c.tc : Thread Cert.Kernel24Ideal.nD Cert.Kernel24Ideal.τ).loc Cert.Kernel24Ideal.main_v2_1) = v1 c
          ∧ r.2.mem ((c.tc : Thread Cert.Kernel24Ideal.nD Cert.Kernel24Ideal.τ).loc Cert.Kernel24Ideal.main_v2_2) = v2 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
          ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v33) = v0 c
          ∧ r.2.mem ((c.tc : Thread Cert.Reference24Ideal.nD Cert.Reference24Ideal.τ).loc Cert.Reference24Ideal.main_v34) = v1 c
          ∧ r.2.mem ((c.tc : Thread Cert.Reference24Ideal.nD Cert.Reference24Ideal.τ).loc Cert.Reference24Ideal.main_v32) = v2 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3)
          ∧ r.2.mem ((c.tc : Thread Cert.Reference24Ideal.nD Cert.Reference24Ideal.τ).loc Cert.Reference24Ideal.main_arg4) = m' ((c.tc : Thread Cert.Reference24Ideal.nD Cert.Reference24Ideal.τ).loc Cert.Reference24Ideal.main_arg4))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v27) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel13 : Cert.Kernel13.Facts) (hKernel13Ideal : Cert.Kernel13Ideal.Facts) (hReference13Ideal : Cert.Reference13Ideal.Facts) (hKernel12 : Cert.Kernel12.Facts) (hKernel12Ideal : Cert.Kernel12Ideal.Facts) (hReference12Ideal : Cert.Reference12Ideal.Facts) (hKernel14 : Cert.Kernel14.Facts) (hKernel14Ideal : Cert.Kernel14Ideal.Facts) (hReference14Ideal : Cert.Reference14Ideal.Facts) (hKernel17 : Cert.Kernel17.Facts) (hKernel17Ideal : Cert.Kernel17Ideal.Facts) (hReference17Ideal : Cert.Reference17Ideal.Facts) (hKernel16 : Cert.Kernel16.Facts) (hKernel16Ideal : Cert.Kernel16Ideal.Facts) (hReference16Ideal : Cert.Reference16Ideal.Facts) (hKernel18 : Cert.Kernel18.Facts) (hKernel18Ideal : Cert.Kernel18Ideal.Facts) (hReference18Ideal : Cert.Reference18Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel21 : Cert.Kernel21.Facts) (hKernel21Ideal : Cert.Kernel21Ideal.Facts) (hReference21Ideal : Cert.Reference21Ideal.Facts) (hPre_finite : Cert.Pre_finite.Facts) (hPre_finite_latent : Cert.Pre_finite_latent.Facts) (hPre_finite_latent_forward : Cert.Pre_finite_latent_forward.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel12 (hKernel12 := hKernel12)
    ∧ quiescent_Kernel12Ideal (hKernel12Ideal := hKernel12Ideal)
    ∧ quiescent_Kernel12Ideal_pre_finite_latent (hKernel12Ideal := hKernel12Ideal) (hPre_finite_latent := hPre_finite_latent)
    ∧ quiescent_Reference12Ideal (hReference12Ideal := hReference12Ideal)
    ∧ quiescent_Reference12Ideal_pre_finite_latent (hReference12Ideal := hReference12Ideal) (hPre_finite_latent := hPre_finite_latent)
    ∧ quiescent_Kernel14 (hKernel14 := hKernel14)
    ∧ quiescent_Kernel14Ideal (hKernel14Ideal := hKernel14Ideal)
    ∧ quiescent_Kernel14Ideal_pre_finite_latent_forward (hKernel14Ideal := hKernel14Ideal) (hPre_finite_latent_forward := hPre_finite_latent_forward)
    ∧ quiescent_Reference14Ideal (hReference14Ideal := hReference14Ideal)
    ∧ quiescent_Reference14Ideal_pre_finite_latent_forward (hReference14Ideal := hReference14Ideal) (hPre_finite_latent_forward := hPre_finite_latent_forward)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel21 (hKernel21 := hKernel21)
    ∧ quiescent_Kernel21Ideal (hKernel21Ideal := hKernel21Ideal)
    ∧ quiescent_Reference21Ideal (hReference21Ideal := hReference21Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel13_Kernel13Ideal
    ∧ algebraic_Kernel13Ideal_Reference13Ideal (hKernel13Ideal := hKernel13Ideal) (hReference13Ideal := hReference13Ideal)
    ∧ preserves_Kernel12_Kernel12Ideal
    ∧ algebraic_Kernel12Ideal_Reference12Ideal_pre_finite_latent (hKernel12Ideal := hKernel12Ideal) (hReference12Ideal := hReference12Ideal) (hPre_finite_latent := hPre_finite_latent)
    ∧ preserves_Kernel14_Kernel14Ideal
    ∧ algebraic_Kernel14Ideal_Reference14Ideal_pre_finite_latent_forward (hKernel14Ideal := hKernel14Ideal) (hReference14Ideal := hReference14Ideal) (hPre_finite_latent_forward := hPre_finite_latent_forward)
    ∧ preserves_Kernel17_Kernel17Ideal
    ∧ algebraic_Kernel17Ideal_Reference17Ideal (hKernel17Ideal := hKernel17Ideal) (hReference17Ideal := hReference17Ideal)
    ∧ preserves_Kernel16_Kernel16Ideal
    ∧ algebraic_Kernel16Ideal_Reference16Ideal (hKernel16Ideal := hKernel16Ideal) (hReference16Ideal := hReference16Ideal)
    ∧ preserves_Kernel18_Kernel18Ideal
    ∧ algebraic_Kernel18Ideal_Reference18Ideal (hKernel18Ideal := hKernel18Ideal) (hReference18Ideal := hReference18Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel21_Kernel21Ideal
    ∧ algebraic_Kernel21Ideal_Reference21Ideal (hKernel21Ideal := hKernel21Ideal) (hReference21Ideal := hReference21Ideal)
-- ==== Pre_finite.lean ====
abbrev S2176x13824 : Shape := ⟨2, ![2176, 13824]⟩
abbrev S2176x128 : Shape := ⟨2, ![2176, 128]⟩
abbrev S2176x1024 : Shape := ⟨2, ![2176, 1024]⟩
abbrev S_ : Shape := ⟨0, ![]⟩

class Facts : Prop where
  bcast_S_S2176x13824 : S_.BroadcastsInDim S2176x13824 (![] : Fin 0 → Fin S2176x13824.rank)
  bcast_S_S2176x128 : S_.BroadcastsInDim S2176x128 (![] : Fin 0 → Fin S2176x128.rank)
  bcast_S_S2176x1024 : S_.BroadcastsInDim S2176x1024 (![] : Fin 0 → Fin S2176x1024.rank)

variable [Facts]

def fn {F : FTy → Type} [FloatOps F] (main_arg0 : FVec F S2176x13824 .f32) (main_arg1 : FVec F S2176x128 .f32) (main_arg2 : FVec F S2176x1024 .f32) : IVec S2176x13824 1 × IVec S2176x128 1 × IVec S2176x1024 1 :=
  let main_v0 : FVec F S2176x13824 .f32 := Host.absf main_arg0
  let main_cst : FVec F S_ .f32 := constant S_ .f32 0x7F800000#32
  let main_v1 : FVec F S2176x13824 .f32 := broadcastInDim S2176x13824 ![] bcast_S_S2176x13824 main_cst
  let main_v2 : IVec S2176x13824 1 := cmpf .olt main_v0 main_v1
  let main_v3 : FVec F S2176x128 .f32 := Host.absf main_arg1
  let main_cst_0 : FVec F S_ .f32 := constant S_ .f32 0x7F800000#32
  let main_v4 : FVec F S2176x128 .f32 := broadcastInDim S2176x128 ![] bcast_S_S2176x128 main_cst_0
  let main_v5 : IVec S2176x128 1 := cmpf .olt main_v3 main_v4
  let main_v6 : FVec F S2176x1024 .f32 := Host.absf main_arg2
  let main_cst_1 : FVec F S_ .f32 := constant S_ .f32 0x7F800000#32
  let main_v7 : FVec F S2176x1024 .f32 := broadcastInDim S2176x1024 ![] bcast_S_S2176x1024 main_cst_1
  let main_v8 : IVec S2176x1024 1 := cmpf .olt main_v6 main_v7
  (main_v2, main_v5, main_v8)
-- ==== Pre_finite_latent.lean ====
abbrev S2176x3072 : Shape := ⟨2, ![2176, 3072]⟩
abbrev S2176x2048 : Shape := ⟨2, ![2176, 2048]⟩
abbrev S2176x128 : Shape := ⟨2, ![2176, 128]⟩
abbrev S2176x1024 : Shape := ⟨2, ![2176, 1024]⟩
abbrev S_ : Shape := ⟨0, ![]⟩

class Facts : Prop where
  bcast_S_S2176x3072 : S_.BroadcastsInDim S2176x3072 (![] : Fin 0 → Fin S2176x3072.rank)
  bcast_S_S2176x2048 : S_.BroadcastsInDim S2176x2048 (![] : Fin 0 → Fin S2176x2048.rank)
  bcast_S_S2176x128 : S_.BroadcastsInDim S2176x128 (![] : Fin 0 → Fin S2176x128.rank)
  bcast_S_S2176x1024 : S_.BroadcastsInDim S2176x1024 (![] : Fin 0 → Fin S2176x1024.rank)

variable [Facts]

def fn {F : FTy → Type} [FloatOps F] (main_arg0 : FVec F S2176x3072 .f32) (main_arg1 : FVec F S2176x2048 .f32) (main_arg2 : FVec F S2176x128 .f32) (main_arg3 : FVec F S2176x128 .f32) (main_arg4 : FVec F S2176x128 .f32) (main_arg5 : FVec F S2176x1024 .f32) : IVec S2176x3072 1 × IVec S2176x2048 1 × IVec S2176x128 1 × IVec S2176x128 1 × IVec S2176x128 1 × IVec S2176x1024 1 :=
  let main_v0 : FVec F S2176x3072 .f32 := Host.absf main_arg0
  let main_cst : FVec F S_ .f32 := constant S_ .f32 0x7F800000#32
  let main_v1 : FVec F S2176x3072 .f32 := broadcastInDim S2176x3072 ![] bcast_S_S2176x3072 main_cst
  let main_v2 : IVec S2176x3072 1 := cmpf .olt main_v0 main_v1
  let main_v3 : FVec F S2176x2048 .f32 := Host.absf main_arg1
  let main_cst_0 : FVec F S_ .f32 := constant S_ .f32 0x7F800000#32
  let main_v4 : FVec F S2176x2048 .f32 := broadcastInDim S2176x2048 ![] bcast_S_S2176x2048 main_cst_0
  let main_v5 : IVec S2176x2048 1 := cmpf .olt main_v3 main_v4
  let main_v6 : FVec F S2176x128 .f32 := Host.absf main_arg2
  let main_cst_1 : FVec F S_ .f32 := constant S_ .f32 0x7F800000#32
  let main_v7 : FVec F S2176x128 .f32 := broadcastInDim S2176x128 ![] bcast_S_S2176x128 main_cst_1
  let main_v8 : IVec S2176x128 1 := cmpf .olt main_v6 main_v7
  let main_v9 : FVec F S2176x128 .f32 := Host.absf main_arg3
  let main_cst_2 : FVec F S_ .f32 := constant S_ .f32 0x7F800000#32
  let main_v10 : FVec F S2176x128 .f32 := broadcastInDim S2176x128 ![] bcast_S_S2176x128 main_cst_2
  let main_v11 : IVec S2176x128 1 := cmpf .olt main_v9 main_v10
  let main_v12 : FVec F S2176x128 .f32 := Host.absf main_arg4
  let main_cst_3 : FVec F S_ .f32 := constant S_ .f32 0x7F800000#32
  let main_v13 : FVec F S2176x128 .f32 := broadcastInDim S2176x128 ![] bcast_S_S2176x128 main_cst_3
  let main_v14 : IVec S2176x128 1 := cmpf .olt main_v12 main_v13
  let main_v15 : FVec F S2176x1024 .f32 := Host.absf main_arg5
  let main_cst_4 : FVec F S_ .f32 := constant S_ .f32 0x7F800000#32
  let main_v16 : FVec F S2176x1024 .f32 := broadcastInDim S2176x1024 ![] bcast_S_S2176x1024 main_cst_4
  let main_v17 : IVec S2176x1024 1 := cmpf .olt main_v15 main_v16
  (main_v2, main_v5, main_v8, main_v11, main_v14, main_v17)
-- ==== Pre_finite_latent_forward.lean ====
abbrev S2176x3072 : Shape := ⟨2, ![2176, 3072]⟩
abbrev S2176x2048 : Shape := ⟨2, ![2176, 2048]⟩
abbrev S2176x128 : Shape := ⟨2, ![2176, 128]⟩
abbrev S_ : Shape := ⟨0, ![]⟩

class Facts : Prop where
  bcast_S_S2176x3072 : S_.BroadcastsInDim S2176x3072 (![] : Fin 0 → Fin S2176x3072.rank)
  bcast_S_S2176x2048 : S_.BroadcastsInDim S2176x2048 (![] : Fin 0 → Fin S2176x2048.rank)
  bcast_S_S2176x128 : S_.BroadcastsInDim S2176x128 (![] : Fin 0 → Fin S2176x128.rank)

variable [Facts]

def fn {F : FTy → Type} [FloatOps F] (main_arg0 : FVec F S2176x3072 .f32) (main_arg1 : FVec F S2176x2048 .f32) (main_arg2 : FVec F S2176x128 .f32) (main_arg3 : FVec F S2176x128 .f32) (main_arg4 : FVec F S2176x128 .f32) : IVec S2176x3072 1 × IVec S2176x2048 1 × IVec S2176x128 1 × IVec S2176x128 1 × IVec S2176x128 1 :=
  let main_v0 : FVec F S2176x3072 .f32 := Host.absf main_arg0
  let main_cst : FVec F S_ .f32 := constant S_ .f32 0x7F800000#32
  let main_v1 : FVec F S2176x3072 .f32 := broadcastInDim S2176x3072 ![] bcast_S_S2176x3072 main_cst
  let main_v2 : IVec S2176x3072 1 := cmpf .olt main_v0 main_v1
  let main_v3 : FVec F S2176x2048 .f32 := Host.absf main_arg1
  let main_cst_0 : FVec F S_ .f32 := constant S_ .f32 0x7F800000#32
  let main_v4 : FVec F S2176x2048 .f32 := broadcastInDim S2176x2048 ![] bcast_S_S2176x2048 main_cst_0
  let main_v5 : IVec S2176x2048 1 := cmpf .olt main_v3 main_v4
  let main_v6 : FVec F S2176x128 .f32 := Host.absf main_arg2
  let main_cst_1 : FVec F S_ .f32 := constant S_ .f32 0x7F800000#32
  let main_v7 : FVec F S2176x128 .f32 := broadcastInDim S2176x128 ![] bcast_S_S2176x128 main_cst_1
  let main_v8 : IVec S2176x128 1 := cmpf .olt main_v6 main_v7
  let main_v9 : FVec F S2176x128 .f32 := Host.absf main_arg3
  let main_cst_2 : FVec F S_ .f32 := constant S_ .f32 0x7F800000#32
  let main_v10 : FVec F S2176x128 .f32 := broadcastInDim S2176x128 ![] bcast_S_S2176x128 main_cst_2
  let main_v11 : IVec S2176x128 1 := cmpf .olt main_v9 main_v10
  let main_v12 : FVec F S2176x128 .f32 := Host.absf main_arg4
  let main_cst_3 : FVec F S_ .f32 := constant S_ .f32 0x7F800000#32
  let main_v13 : FVec F S2176x128 .f32 := broadcastInDim S2176x128 ![] bcast_S_S2176x128 main_cst_3
  let main_v14 : IVec S2176x128 1 := cmpf .olt main_v12 main_v13
  (main_v2, main_v5, main_v8, main_v11, main_v14)
-- ==== Kernel.lean ====
abbrev S2176x13824 : Shape := ⟨2, ![2176, 13824]⟩
abbrev S2176x128 : Shape := ⟨2, ![2176, 128]⟩
abbrev S2176x1024 : Shape := ⟨2, ![2176, 1024]⟩
abbrev S2176x8 : Shape := ⟨2, ![2176, 8]⟩
abbrev S8x2176 : Shape := ⟨2, ![8, 2176]⟩
abbrev S8x2176x1 : Shape := ⟨3, ![8, 2176, 1]⟩
abbrev S8x1x2176 : Shape := ⟨3, ![8, 1, 2176]⟩
abbrev S272x128 : Shape := ⟨2, ![272, 128]⟩
abbrev S1x272x1 : Shape := ⟨3, ![1, 272, 1]⟩
abbrev S1x1x2176 : Shape := ⟨3, ![1, 1, 2176]⟩
abbrev S272x2176 : Shape := ⟨2, ![272, 2176]⟩
abbrev S272x1 : Shape := ⟨2, ![272, 1]⟩
abbrev S1x2176 : Shape := ⟨2, ![1, 2176]⟩
abbrev S272 : Shape := ⟨1, ![272]⟩
abbrev S2176 : Shape := ⟨1, ![2176]⟩

abbrev nBuf : Space → Nat
  | .hbm => 14
  | .vmem => 22
  | .smem => 0
  | _ => 0

abbrev bufTy : (tb : Table) → Fin (tcTables nBuf tb) → BufTy
  | .hbm, ⟨0, _⟩ => ⟨S2176x13824, .f32⟩
  | .hbm, ⟨1, _⟩ => ⟨S2176x128, .f32⟩
  | .hbm, ⟨2, _⟩ => ⟨S2176x1024, .f32⟩
  | .hbm, ⟨3, _⟩ => ⟨S2176x8, .f32⟩
  | .hbm, ⟨4, _⟩ => ⟨S8x2176, .f32⟩
  | .hbm, ⟨5, _⟩ => ⟨S8x2176x1, .f32⟩
  | .hbm, ⟨6, _⟩ => ⟨S2176x8, .f32⟩
  | .hbm, ⟨7, _⟩ => ⟨S8x2176, .f32⟩
  | .hbm, ⟨8, _⟩ => ⟨S8x1x2176, .f32⟩
  | .hbm, ⟨9, _⟩ => ⟨S2176x1024, .bf16⟩
  | .hbm, ⟨10, _⟩ => ⟨S2176x1024, .f32⟩
  | .hbm, ⟨11, _⟩ => ⟨S2176x1024, .f32⟩
  | .hbm, ⟨12, _⟩ => ⟨S8x2176x1, .f32⟩
  | .hbm, ⟨13, _⟩ => ⟨S8x1x2176, .f32⟩
  | .local _ .vmem, ⟨0, _⟩ => ⟨S272x128, .f32⟩
  | .local _ .vmem, ⟨1, _⟩ => ⟨S272x128, .f32⟩
  | .local _ .vmem, ⟨2, _⟩ => ⟨S2176x128, .f32⟩
  | .local _ .vmem, ⟨3, _⟩ => ⟨S2176x128, .f32⟩
  | .local _ .vmem, ⟨4, _⟩ => ⟨S2176x128, .f32⟩
  | .local _ .vmem, ⟨5, _⟩ => ⟨S2176x128, .f32⟩
  | .local _ .vmem, ⟨6, _⟩ => ⟨S1x272x1, .f32⟩
  | .local _ .vmem, ⟨7, _⟩ => ⟨S1x272x1, .f32⟩
  | .local _ .vmem, ⟨8, _⟩ => ⟨S1x1x2176, .f32⟩
  | .local _ .vmem, ⟨9, _⟩ => ⟨S1x1x2176, .f32⟩
  | .local _ .vmem, ⟨10, _⟩ => ⟨S272x128, .f32⟩
  | .local _ .vmem, ⟨11, _⟩ => ⟨S272x128, .f32⟩
  | .local _ .vmem, ⟨12, _⟩ => ⟨S272x128, .bf16⟩
  | .local _ .vmem, ⟨13, _⟩ => ⟨S272x128, .bf16⟩
  | .local _ .vmem, ⟨14, _⟩ => ⟨S2176x128, .f32⟩
  | .local _ .vmem, ⟨15, _⟩ => ⟨S2176x128, .f32⟩
  | .local _ .vmem, ⟨16, _⟩ => ⟨S2176x128, .f32⟩
  | .local _ .vmem, ⟨17, _⟩ => ⟨S2176x128, .f32⟩
  | .local _ .vmem, ⟨18, _⟩ => ⟨S1x272x1, .f32⟩
  | .local _ .vmem, ⟨19, _⟩ => ⟨S1x272x1, .f32⟩
  | .local _ .vmem, ⟨20, _⟩ => ⟨S1x1x2176, .f32⟩
  | .local _ .vmem, ⟨21, _⟩ => ⟨S1x1x2176, .f32⟩
  | _, _ => ⟨S2176x13824, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev main_v6_2 : Ref sig .tc := ⟨.hbm, 11, rfl⟩
abbrev main_v6_3 : Ref sig .tc := ⟨.hbm, 12, rfl⟩
abbrev main_v6_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c72_i32 : BitVec 32 := 72#32
  let v0 : BitVec 32 := Scalar.addi c72_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c80_i32 : BitVec 32 := 80#32
  let v0 : BitVec 32 := Scalar.addi c80_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c88_i32 : BitVec 32 := 88#32
  let v0 : BitVec 32 := Scalar.addi c88_i32 arg0
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S272x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2176x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2176x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x272x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x2176 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S272x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S272x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2176x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S2176x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x272x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x2176 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== KernelIdeal.lean ====
variable {F : FTy → Type} [FloatOps F] [Named F]
def κ : String → Option EReal := fun
  | "mask" => some ⊥
  | _ => none
-- ==== ReferenceIdeal.lean ====
abbrev S2176x13824 : Shape := ⟨2, ![2176, 13824]⟩
abbrev S2176x128 : Shape := ⟨2, ![2176, 128]⟩
abbrev S2176x1024 : Shape := ⟨2, ![2176, 1024]⟩
abbrev S2176x8 : Shape := ⟨2, ![2176, 8]⟩
abbrev S8x2176 : Shape := ⟨2, ![8, 2176]⟩
abbrev S8x2176x1 : Shape := ⟨3, ![8, 2176, 1]⟩
abbrev S8x1x2176 : Shape := ⟨3, ![8, 1, 2176]⟩
abbrev S2176x8x128 : Shape := ⟨3, ![2176, 8, 128]⟩
abbrev S8x2176x128 : Shape := ⟨3, ![8, 2176, 128]⟩
abbrev S8x2176x2176 : Shape := ⟨3, ![8, 2176, 2176]⟩
abbrev S_ : Shape := ⟨0, ![]⟩
abbrev S2176 : Shape := ⟨1, ![2176]⟩
abbrev S1x2176 : Shape := ⟨2, ![1, 2176]⟩
abbrev S2176x1 : Shape := ⟨2, ![2176, 1]⟩
abbrev S2176x2176 : Shape := ⟨2, ![2176, 2176]⟩
abbrev S8x128x2176 : Shape := ⟨3, ![8, 128, 2176]⟩

abbrev nBuf : Space → Nat
  | .hbm => 119
  | .vmem => 0
  | .smem => 0
  | _ => 0

abbrev bufTy : (tb : Table) → Fin (tcTables nBuf tb) → BufTy
  | .hbm, ⟨0, _⟩ => ⟨S2176x13824, .f32⟩
  | .hbm, ⟨1, _⟩ => ⟨S2176x128, .f32⟩
  | .hbm, ⟨2, _⟩ => ⟨S2176x1024, .f32⟩
  | .hbm, ⟨3, _⟩ => ⟨S2176x1024, .f32⟩
  | .hbm, ⟨4, _⟩ => ⟨S2176x1024, .f32⟩
  | .hbm, ⟨5, _⟩ => ⟨S2176x1024, .f32⟩
  | .hbm, ⟨6, _⟩ => ⟨S2176x8, .f32⟩
  | .hbm, ⟨7, _⟩ => ⟨S8x2176, .f32⟩
  | .hbm, ⟨8, _⟩ => ⟨S8x2176x1, .f32⟩
  | .hbm, ⟨9, _⟩ => ⟨S8x1x2176, .f32⟩
  | .hbm, ⟨10, _⟩ => ⟨S2176x8x128, .f32⟩
  | .hbm, ⟨11, _⟩ => ⟨S8x2176x128, .f32⟩
  | .hbm, ⟨12, _⟩ => ⟨S2176x8x128, .f32⟩
  | .hbm, ⟨13, _⟩ => ⟨S8x2176x128, .f32⟩
  | .hbm, ⟨14, _⟩ => ⟨S2176x8x128, .f32⟩
  | .hbm, ⟨15, _⟩ => ⟨S8x2176x128, .f32⟩
  | .hbm, ⟨16, _⟩ => ⟨S8x2176x2176, .f32⟩
  | .hbm, ⟨17, _⟩ => ⟨S_, .f32⟩
  | .hbm, ⟨18, _⟩ => ⟨S8x2176x2176, .f32⟩
  | .hbm, ⟨19, _⟩ => ⟨S8x2176x2176, .f32⟩
  | .hbm, ⟨20, _⟩ => ⟨S8x2176x2176, .f32⟩
  | .hbm, ⟨21, _⟩ => ⟨S8x2176x2176, .f32⟩
  | .hbm, ⟨22, _⟩ => ⟨S8x2176x2176, .f32⟩
  | .hbm, ⟨23, _⟩ => ⟨S8x2176x2176, .f32⟩
  | .hbm, ⟨24, _⟩ => ⟨S2176, .i32⟩
  | .hbm, ⟨25, _⟩ => ⟨S1x2176, .i32⟩
  | .hbm, ⟨26, _⟩ => ⟨S2176x1, .i32⟩
  | .hbm, ⟨27, _⟩ => ⟨S2176x2176, .i32⟩
  | .hbm, ⟨28, _⟩ => ⟨S2176x2176, .i32⟩
  | .hbm, ⟨29, _⟩ => ⟨S2176x2176, .i1⟩
  | .hbm, ⟨30, _⟩ => ⟨S_, .f32⟩
  | .hbm, ⟨31, _⟩ => ⟨S_, .f32⟩
  | .hbm, ⟨32, _⟩ => ⟨S8x2176x2176, .i1⟩
  | .hbm, ⟨33, _⟩ => ⟨S8x2176x2176, .f32⟩
  | .hbm, ⟨34, _⟩ => ⟨S8x2176x2176, .f32⟩
  | .hbm, ⟨35, _⟩ => ⟨S_, .f32⟩
  | .hbm, ⟨36, _⟩ => ⟨S8x2176x2176, .f32⟩
  | .hbm, ⟨37, _⟩ => ⟨S_, .f32⟩
  | .hbm, ⟨38, _⟩ => ⟨S8x2176, .f32⟩
  | .hbm, ⟨39, _⟩ => ⟨S8x2176x1, .f32⟩
  | .hbm, ⟨40, _⟩ => ⟨S8x2176x2176, .f32⟩
  | .hbm, ⟨41, _⟩ => ⟨S8x2176x2176, .i1⟩
  | .hbm, ⟨42, _⟩ => ⟨S8x2176x2176, .f32⟩
  | .hbm, ⟨43, _⟩ => ⟨S_, .f32⟩
  | .hbm, ⟨44, _⟩ => ⟨S8x2176, .f32⟩
  | .hbm, ⟨45, _⟩ => ⟨S_, .f32⟩
  | .hbm, ⟨46, _⟩ => ⟨S8x2176, .f32⟩
  | .hbm, ⟨47, _⟩ => ⟨S8x2176, .f32⟩
  | .hbm, ⟨48, _⟩ => ⟨S_, .f32⟩
  | .hbm, ⟨49, _⟩ => ⟨S8x2176, .f32⟩
  | .hbm, ⟨50, _⟩ => ⟨S8x2176, .i1⟩
  | .hbm, ⟨51, _⟩ => ⟨S_, .f32⟩
  | .hbm, ⟨52, _⟩ => ⟨S8x2176, .f32⟩
  | .hbm, ⟨53, _⟩ => ⟨S8x2176, .i1⟩
  | .hbm, ⟨54, _⟩ => ⟨S_, .f32⟩
  | .hbm, ⟨55, _⟩ => ⟨S8x2176, .f32⟩
  | .hbm, ⟨56, _⟩ => ⟨S_, .f32⟩
  | .hbm, ⟨57, _⟩ => ⟨S8x2176, .f32⟩
  | .hbm, ⟨58, _⟩ => ⟨S_, .f32⟩
  | .hbm, ⟨59, _⟩ => ⟨S8x2176, .f32⟩
  | .hbm, ⟨60, _⟩ => ⟨S8x2176, .f32⟩
  | .hbm, ⟨61, _⟩ => ⟨S8x2176, .f32⟩
  | .hbm, ⟨62, _⟩ => ⟨S8x2176x1, .f32⟩
  | .hbm, ⟨63, _⟩ => ⟨S8x2176x2176, .f32⟩
  | .hbm, ⟨64, _⟩ => ⟨S8x2176x2176, .f32⟩
  | .hbm, ⟨65, _⟩ => ⟨S8x2176x2176, .f32⟩
  | .hbm, ⟨66, _⟩ => ⟨S_, .f32⟩
  | .hbm, ⟨67, _⟩ => ⟨S8x2176, .f32⟩
  | .hbm, ⟨68, _⟩ => ⟨S8x2176x1, .f32⟩
  | .hbm, ⟨69, _⟩ => ⟨S8x2176x2176, .f32⟩
  | .hbm, ⟨70, _⟩ => ⟨S8x2176x2176, .f32⟩
  | .hbm, ⟨71, _⟩ => ⟨S8x2176x1, .f32⟩
  | .hbm, ⟨72, _⟩ => ⟨S_, .f32⟩
  | .hbm, ⟨73, _⟩ => ⟨S8x2176x1, .f32⟩
  | .hbm, ⟨74, _⟩ => ⟨S8x2176x1, .f32⟩
  | .hbm, ⟨75, _⟩ => ⟨S8x2176x128, .f32⟩
  | .hbm, ⟨76, _⟩ => ⟨S2176x8x128, .f32⟩
  | .hbm, ⟨77, _⟩ => ⟨S2176x1024, .f32⟩
  | .hbm, ⟨78, _⟩ => ⟨S2176x8x128, .f32⟩
  | .hbm, ⟨79, _⟩ => ⟨S8x2176x128, .f32⟩
  | .hbm, ⟨80, _⟩ => ⟨S8x128x2176, .f32⟩
  | .hbm, ⟨81, _⟩ => ⟨S8x2176x128, .f32⟩
  | .hbm, ⟨82, _⟩ => ⟨S8x2176x2176, .f32⟩
  | .hbm, ⟨83, _⟩ => ⟨S8x2176x2176, .f32⟩
  | .hbm, ⟨84, _⟩ => ⟨S8x2176x2176, .f32⟩
  | .hbm, ⟨85, _⟩ => ⟨S8x2176x2176, .f32⟩
  | .hbm, ⟨86, _⟩ => ⟨S_, .f32⟩
  | .hbm, ⟨87, _⟩ => ⟨S8x2176, .f32⟩
  | .hbm, ⟨88, _⟩ => ⟨S8x2176x1, .f32⟩
  | .hbm, ⟨89, _⟩ => ⟨S8x2176x1, .f32⟩
  | .hbm, ⟨90, _⟩ => ⟨S8x2176x2176, .f32⟩
  | .hbm, ⟨91, _⟩ => ⟨S8x2176x2176, .f32⟩
  | .hbm, ⟨92, _⟩ => ⟨S_, .f32⟩
  | .hbm, ⟨93, _⟩ => ⟨S8x2176, .f32⟩
  | .hbm, ⟨94, _⟩ => ⟨S8x2176x2176, .f32⟩
  | .hbm, ⟨95, _⟩ => ⟨S8x2176x2176, .f32⟩
  | .hbm, ⟨96, _⟩ => ⟨S8x2176x2176, .f32⟩
  | .hbm, ⟨97, _⟩ => ⟨S_, .f32⟩
  | .hbm, ⟨98, _⟩ => ⟨S8x2176x2176, .f32⟩
  | .hbm, ⟨99, _⟩ => ⟨S8x2176x2176, .f32⟩
  | .hbm, ⟨100, _⟩ => ⟨S_, .f32⟩
  | .hbm, ⟨101, _⟩ => ⟨S8x2176, .f32⟩
  | .hbm, ⟨102, _⟩ => ⟨S8x2176x1, .f32⟩
  | .hbm, ⟨103, _⟩ => ⟨S8x2176x2176, .f32⟩
  | .hbm, ⟨104, _⟩ => ⟨S_, .f32⟩
  | .hbm, ⟨105, _⟩ => ⟨S8x2176, .f32⟩
  | .hbm, ⟨106, _⟩ => ⟨S8x1x2176, .f32⟩
  | .hbm, ⟨107, _⟩ => ⟨S_, .f32⟩
  | .hbm, ⟨108, _⟩ => ⟨S8x2176x2176, .f32⟩
  | .hbm, ⟨109, _⟩ => ⟨S8x2176x2176, .f32⟩
  | .hbm, ⟨110, _⟩ => ⟨S8x2176x128, .f32⟩
  | .hbm, ⟨111, _⟩ => ⟨S8x2176x128, .f32⟩
  | .hbm, ⟨112, _⟩ => ⟨S2176x8x128, .f32⟩
  | .hbm, ⟨113, _⟩ => ⟨S2176x1024, .f32⟩
  | .hbm, ⟨114, _⟩ => ⟨S2176x8x128, .f32⟩
  | .hbm, ⟨115, _⟩ => ⟨S2176x1024, .f32⟩
  | .hbm, ⟨116, _⟩ => ⟨S2176x8x128, .f32⟩
  | .hbm, ⟨117, _⟩ => ⟨S2176x1024, .f32⟩
  | .hbm, ⟨118, _⟩ => ⟨S2176x1024, .bf16⟩
  | _, _ => ⟨S2176x13824, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_cst_0 : Ref sig .tc := ⟨.hbm, 30, rfl⟩
abbrev main_call0_v0 : Ref sig .tc := ⟨.hbm, 31, rfl⟩
abbrev main_v26_1 : Ref sig .tc := ⟨.hbm, 32, rfl⟩
abbrev main_call0_v2 : Ref sig .tc := ⟨.hbm, 33, rfl⟩
abbrev main_v26_0 : Ref sig .tc := ⟨.hbm, 34, rfl⟩
abbrev main_call0_cst : Ref sig .tc := ⟨.hbm, 35, rfl⟩
abbrev main_v26_2 : Ref sig .tc := ⟨.hbm, 36, rfl⟩
abbrev main_cst_1 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_2 : Ref sig .tc := ⟨.hbm, 43, rfl⟩
abbrev main_v32 : Ref sig .tc := ⟨.hbm, 44, rfl⟩
abbrev main_cst_3 : Ref sig .tc := ⟨.hbm, 45, rfl⟩
abbrev main_v33 : Ref sig .tc := ⟨.hbm, 46, rfl⟩
abbrev main_v34 : Ref sig .tc := ⟨.hbm, 47, rfl⟩
abbrev main_cst_4 : Ref sig .tc := ⟨.hbm, 48, rfl⟩
abbrev main_v35 : Ref sig .tc := ⟨.hbm, 49, rfl⟩
abbrev main_v36 : Ref sig .tc := ⟨.hbm, 50, rfl⟩
abbrev main_cst_5 : Ref sig .tc := ⟨.hbm, 51, rfl⟩
abbrev main_v37 : Ref sig .tc := ⟨.hbm, 52, rfl⟩
abbrev main_v38 : Ref sig .tc := ⟨.hbm, 53, rfl⟩
abbrev main_cst_6 : Ref sig .tc := ⟨.hbm, 54, rfl⟩
abbrev main_v39 : Ref sig .tc := ⟨.hbm, 55, rfl⟩
abbrev main_cst_7 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_9 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_10 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_cst_11 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_cst_12 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_call1_cst : Ref sig .tc := ⟨.hbm, 97, rfl⟩
abbrev main_call1_v0 : Ref sig .tc := ⟨.hbm, 98, rfl⟩
abbrev main_v75 : Ref sig .tc := ⟨.hbm, 99, rfl⟩
abbrev main_cst_13 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_cst_14 : Ref sig .tc := ⟨.hbm, 104, rfl⟩
abbrev main_v79 : Ref sig .tc := ⟨.hbm, 105, rfl⟩
abbrev main_v80 : Ref sig .tc := ⟨.hbm, 106, rfl⟩
abbrev main_cst_15 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩

abbrev nD : Nat := 1
abbrev τ : Topo := Topo.v7x

variable {F : FTy → Type} [FloatOps F]
-- ==== Kernel2.lean ====
abbrev S2176x2048 : Shape := ⟨2, ![2176, 2048]⟩
abbrev S2048x11264 : Shape := ⟨2, ![2048, 11264]⟩
abbrev S5632x2048 : Shape := ⟨2, ![5632, 2048]⟩
abbrev S2176x11264 : Shape := ⟨2, ![2176, 11264]⟩
abbrev S2048x512 : Shape := ⟨2, ![2048, 512]⟩
abbrev S2176x512 : Shape := ⟨2, ![2176, 512]⟩
abbrev S8x128 : Shape := ⟨2, ![8, 128]⟩
abbrev S2176x5632 : Shape := ⟨2, ![2176, 5632]⟩
abbrev S64x11264 : Shape := ⟨2, ![64, 11264]⟩
abbrev S64x5632 : Shape := ⟨2, ![64, 5632]⟩
abbrev S512x2048 : Shape := ⟨2, ![512, 2048]⟩

abbrev nBuf : Space → Nat
  | .hbm => 10
  | .vmem => 34
  | .smem => 0
  | _ => 0

abbrev bufTy : (tb : Table) → Fin (tcTables nBuf tb) → BufTy
  | .hbm, ⟨0, _⟩ => ⟨S2176x2048, .bf16⟩
  | .hbm, ⟨1, _⟩ => ⟨S2048x11264, .bf16⟩
  | .hbm, ⟨2, _⟩ => ⟨S5632x2048, .bf16⟩
  | .hbm, ⟨3, _⟩ => ⟨S2176x2048, .bf16⟩
  | .hbm, ⟨4, _⟩ => ⟨S2176x11264, .f32⟩
  | .hbm, ⟨5, _⟩ => ⟨S2176x5632, .bf16⟩
  | .hbm, ⟨6, _⟩ => ⟨S2176x5632, .f32⟩
  | .hbm, ⟨7, _⟩ => ⟨S5632x2048, .bf16⟩
  | .hbm, ⟨8, _⟩ => ⟨S2176x11264, .bf16⟩
  | .hbm, ⟨9, _⟩ => ⟨S2048x11264, .bf16⟩
  | .local _ .vmem, ⟨0, _⟩ => ⟨S2176x2048, .bf16⟩
  | .local _ .vmem, ⟨1, _⟩ => ⟨S2048x512, .bf16⟩
  | .local _ .vmem, ⟨2, _⟩ => ⟨S2048x512, .bf16⟩
  | .local _ .vmem, ⟨3, _⟩ => ⟨S2176x512, .f32⟩
  | .local _ .vmem, ⟨4, _⟩ => ⟨S2176x512, .f32⟩
  | .local _ .vmem, ⟨5, _⟩ => ⟨S8x128, .f32⟩
  | .local _ .vmem, ⟨6, _⟩ => ⟨S64x11264, .f32⟩
  | .local _ .vmem, ⟨7, _⟩ => ⟨S64x11264, .f32⟩
  | .local _ .vmem, ⟨8, _⟩ => ⟨S64x5632, .bf16⟩
  | .local _ .vmem, ⟨9, _⟩ => ⟨S64x5632, .bf16⟩
  | .local _ .vmem, ⟨10, _⟩ => ⟨S2176x2048, .bf16⟩
  | .local _ .vmem, ⟨11, _⟩ => ⟨S512x2048, .bf16⟩
  | .local _ .vmem, ⟨12, _⟩ => ⟨S512x2048, .bf16⟩
  | .local _ .vmem, ⟨13, _⟩ => ⟨S2176x512, .f32⟩
  | .local _ .vmem, ⟨14, _⟩ => ⟨S2176x512, .f32⟩
  | .local _ .vmem, ⟨15, _⟩ => ⟨S8x128, .f32⟩
  | .local _ .vmem, ⟨16, _⟩ => ⟨S2176x512, .bf16⟩
  | .local _ .vmem, ⟨17, _⟩ => ⟨S2176x512, .bf16⟩
  | .local _ .vmem, ⟨18, _⟩ => ⟨S2176x2048, .bf16⟩
  | .local _ .vmem, ⟨19, _⟩ => ⟨S512x2048, .bf16⟩
  | .local _ .vmem, ⟨20, _⟩ => ⟨S512x2048, .bf16⟩
  | .local _ .vmem, ⟨21, _⟩ => ⟨S8x128, .f32⟩
  | .local _ .vmem, ⟨22, _⟩ => ⟨S64x11264, .f32⟩
  | .local _ .vmem, ⟨23, _⟩ => ⟨S64x11264, .f32⟩
  | .local _ .vmem, ⟨24, _⟩ => ⟨S64x5632, .f32⟩
  | .local _ .vmem, ⟨25, _⟩ => ⟨S64x5632, .f32⟩
  | .local _ .vmem, ⟨26, _⟩ => ⟨S64x11264, .bf16⟩
  | .local _ .vmem, ⟨27, _⟩ => ⟨S64x11264, .bf16⟩
  | .local _ .vmem, ⟨28, _⟩ => ⟨S2176x2048, .bf16⟩
  | .local _ .vmem, ⟨29, _⟩ => ⟨S2176x512, .bf16⟩
  | .local _ .vmem, ⟨30, _⟩ => ⟨S2176x512, .bf16⟩
  | .local _ .vmem, ⟨31, _⟩ => ⟨S2048x512, .bf16⟩
  | .local _ .vmem, ⟨32, _⟩ => ⟨S2048x512, .bf16⟩
  | .local _ .vmem, ⟨33, _⟩ => ⟨S8x128, .f32⟩
  | _, _ => ⟨S2176x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg1_1 : Ref sig .tc := ⟨.vmem, 12, rfl⟩
abbrev cc2_stg2_0 : Ref sig .tc := ⟨.vmem, 13, rfl⟩
abbrev cc2_stg2_1 : Ref sig .tc := ⟨.vmem, 14, rfl⟩
abbrev cc2_scratch0 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc3_scratch0 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg1_1 : Ref sig .tc := ⟨.vmem, 25, rfl⟩
abbrev cc4_stg2_0 : Ref sig .tc := ⟨.vmem, 26, rfl⟩
abbrev cc4_stg2_1 : Ref sig .tc := ⟨.vmem, 27, rfl⟩
abbrev cc5_stg0_0 : Ref sig .tc := ⟨.vmem, 28, rfl⟩
abbrev cc5_stg1_0 : Ref sig .tc := ⟨.vmem, 29, rfl⟩
abbrev cc5_stg1_1 : Ref sig .tc := ⟨.vmem, 30, rfl⟩
abbrev cc5_stg2_0 : Ref sig .tc := ⟨.vmem, 31, rfl⟩
abbrev cc5_stg2_1 : Ref sig .tc := ⟨.vmem, 32, rfl⟩
abbrev cc5_scratch0 : Ref sig .tc := ⟨.vmem, 33, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc2_sem0_0 : DmaSem sig := 9
abbrev cc2_sem1_0 : DmaSem sig := 10
abbrev cc2_sem1_1 : DmaSem sig := 11
abbrev cc2_sem2_0 : DmaSem sig := 12
abbrev cc2_sem2_1 : DmaSem sig := 13
abbrev cc3_sem0_0 : DmaSem sig := 14
abbrev cc3_sem0_1 : DmaSem sig := 15
abbrev cc3_sem1_0 : DmaSem sig := 16
abbrev cc3_sem2_0 : DmaSem sig := 17
abbrev cc3_sem2_1 : DmaSem sig := 18
abbrev cc4_sem0_0 : DmaSem sig := 19
abbrev cc4_sem0_1 : DmaSem sig := 20
abbrev cc4_sem1_0 : DmaSem sig := 21
abbrev cc4_sem1_1 : DmaSem sig := 22
abbrev cc4_sem2_0 : DmaSem sig := 23
abbrev cc4_sem2_1 : DmaSem sig := 24
abbrev cc5_sem0_0 : DmaSem sig := 25
abbrev cc5_sem1_0 : DmaSem sig := 26
abbrev cc5_sem1_1 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨3, ![1, 22, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2176x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2176x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨2, ![1, 34], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage1_0 : Fin 2 → Memref sig .tc .vmem S64x11264 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S64x5632 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev grid2 : Pipeline.Grid := ⟨3, ![1, 11, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 1 → Memref sig .tc .vmem S2176x2048 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false, true]

abbrev stage2_1 : Fin 2 → Memref sig .tc .vmem S512x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S2176x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![11, 1, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S2176x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 1 → Memref sig .tc .vmem S2176x2048 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true, true]

abbrev stage3_2 : Fin 2 → Memref sig .tc .vmem S512x2048 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨2, ![1, 34], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage4_0 : Fin 2 → Memref sig .tc .vmem S64x11264 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true]

abbrev stage4_1 : Fin 2 → Memref sig .tc .vmem S64x5632 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S64x11264 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![false, true]

abbrev grid5 : Pipeline.Grid := ⟨3, ![1, 22, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 1 → Memref sig .tc .vmem S2176x2048 .bf16 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true, false, true]

abbrev stage5_1 : Fin 2 → Memref sig .tc .vmem S2176x512 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 2 → Memref sig .tc .vmem S2048x512 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]
-- ==== Reference2Ideal.lean ====
abbrev S2176x2048 : Shape := ⟨2, ![2176, 2048]⟩
abbrev S2048x11264 : Shape := ⟨2, ![2048, 11264]⟩
abbrev S5632x2048 : Shape := ⟨2, ![5632, 2048]⟩
abbrev S2176x11264 : Shape := ⟨2, ![2176, 11264]⟩
abbrev S2176x5632 : Shape := ⟨2, ![2176, 5632]⟩
abbrev S_ : Shape := ⟨0, ![]⟩
abbrev S2048x5632 : Shape := ⟨2, ![2048, 5632]⟩
abbrev S11264x2048 : Shape := ⟨2, ![11264, 2048]⟩

abbrev nBuf : Space → Nat
  | .hbm => 41
  | .vmem => 0
  | .smem => 0
  | _ => 0

abbrev bufTy : (tb : Table) → Fin (tcTables nBuf tb) → BufTy
  | .hbm, ⟨0, _⟩ => ⟨S2176x2048, .bf16⟩
  | .hbm, ⟨1, _⟩ => ⟨S2048x11264, .bf16⟩
  | .hbm, ⟨2, _⟩ => ⟨S5632x2048, .bf16⟩
  | .hbm, ⟨3, _⟩ => ⟨S2176x2048, .bf16⟩
  | .hbm, ⟨4, _⟩ => ⟨S2048x11264, .f32⟩
  | .hbm, ⟨5, _⟩ => ⟨S2176x2048, .f32⟩
  | .hbm, ⟨6, _⟩ => ⟨S2176x11264, .f32⟩
  | .hbm, ⟨7, _⟩ => ⟨S5632x2048, .f32⟩
  | .hbm, ⟨8, _⟩ => ⟨S2176x5632, .f32⟩
  | .hbm, ⟨9, _⟩ => ⟨S2176x5632, .f32⟩
  | .hbm, ⟨10, _⟩ => ⟨S2176x5632, .f32⟩
  | .hbm, ⟨11, _⟩ => ⟨S2176x5632, .f32⟩
  | .hbm, ⟨12, _⟩ => ⟨S_, .f32⟩
  | .hbm, ⟨13, _⟩ => ⟨S2176x5632, .f32⟩
  | .hbm, ⟨14, _⟩ => ⟨S2176x5632, .f32⟩
  | .hbm, ⟨15, _⟩ => ⟨S_, .f32⟩
  | .hbm, ⟨16, _⟩ => ⟨S2176x5632, .f32⟩
  | .hbm, ⟨17, _⟩ => ⟨S2176x5632, .f32⟩
  | .hbm, ⟨18, _⟩ => ⟨S_, .f32⟩
  | .hbm, ⟨19, _⟩ => ⟨S2176x5632, .f32⟩
  | .hbm, ⟨20, _⟩ => ⟨S2176x5632, .f32⟩
  | .hbm, ⟨21, _⟩ => ⟨S2176x5632, .f32⟩
  | .hbm, ⟨22, _⟩ => ⟨S2176x5632, .f32⟩
  | .hbm, ⟨23, _⟩ => ⟨S2176x5632, .f32⟩
  | .hbm, ⟨24, _⟩ => ⟨S2176x2048, .f32⟩
  | .hbm, ⟨25, _⟩ => ⟨S2176x2048, .f32⟩
  | .hbm, ⟨26, _⟩ => ⟨S2048x5632, .f32⟩
  | .hbm, ⟨27, _⟩ => ⟨S5632x2048, .f32⟩
  | .hbm, ⟨28, _⟩ => ⟨S2176x5632, .f32⟩
  | .hbm, ⟨29, _⟩ => ⟨S2176x5632, .f32⟩
  | .hbm, ⟨30, _⟩ => ⟨S2176x5632, .f32⟩
  | .hbm, ⟨31, _⟩ => ⟨S2176x5632, .f32⟩
  | .hbm, ⟨32, _⟩ => ⟨S2176x5632, .f32⟩
  | .hbm, ⟨33, _⟩ => ⟨S2176x5632, .f32⟩
  | .hbm, ⟨34, _⟩ => ⟨S2176x5632, .f32⟩
  | .hbm, ⟨35, _⟩ => ⟨S2176x11264, .f32⟩
  | .hbm, ⟨36, _⟩ => ⟨S11264x2048, .f32⟩
  | .hbm, ⟨37, _⟩ => ⟨S2048x11264, .f32⟩
  | .hbm, ⟨38, _⟩ => ⟨S2176x11264, .bf16⟩
  | .hbm, ⟨39, _⟩ => ⟨S2048x11264, .bf16⟩
  | .hbm, ⟨40, _⟩ => ⟨S5632x2048, .bf16⟩
  | _, _ => ⟨S2176x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_v6_2 : Ref sig .tc := ⟨.hbm, 17, rfl⟩
abbrev main_call0_cst_1 : Ref sig .tc := ⟨.hbm, 18, rfl⟩
abbrev main_call0_v6 : Ref sig .tc := ⟨.hbm, 19, rfl⟩
abbrev main_call0_v7 : Ref sig .tc := ⟨.hbm, 20, rfl⟩
abbrev main_v6_1 : Ref sig .tc := ⟨.hbm, 21, rfl⟩
abbrev main_v6_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩

abbrev nD : Nat := 1
abbrev τ : Topo := Topo.v7x

variable {F : FTy → Type} [FloatOps F]
-- ==== Kernel3.lean ====
abbrev S2176x2048 : Shape := ⟨2, ![2176, 2048]⟩
abbrev S2048x13824 : Shape := ⟨2, ![2048, 13824]⟩
abbrev S2176x13824 : Shape := ⟨2, ![2176, 13824]⟩
abbrev S2048x512 : Shape := ⟨2, ![2048, 512]⟩
abbrev S2176x512 : Shape := ⟨2, ![2176, 512]⟩
abbrev S8x128 : Shape := ⟨2, ![8, 128]⟩

abbrev nBuf : Space → Nat
  | .hbm => 5
  | .vmem => 12
  | .smem => 0
  | _ => 0

abbrev bufTy : (tb : Table) → Fin (tcTables nBuf tb) → BufTy
  | .hbm, ⟨0, _⟩ => ⟨S2176x2048, .bf16⟩
  | .hbm, ⟨1, _⟩ => ⟨S2048x13824, .bf16⟩
  | .hbm, ⟨2, _⟩ => ⟨S2176x13824, .bf16⟩
  | .hbm, ⟨3, _⟩ => ⟨S2176x13824, .f32⟩
  | .hbm, ⟨4, _⟩ => ⟨S2048x13824, .bf16⟩
  | .local _ .vmem, ⟨0, _⟩ => ⟨S2176x2048, .bf16⟩
  | .local _ .vmem, ⟨1, _⟩ => ⟨S2048x512, .bf16⟩
  | .local _ .vmem, ⟨2, _⟩ => ⟨S2048x512, .bf16⟩
  | .local _ .vmem, ⟨3, _⟩ => ⟨S2176x512, .f32⟩
  | .local _ .vmem, ⟨4, _⟩ => ⟨S2176x512, .f32⟩
  | .local _ .vmem, ⟨5, _⟩ => ⟨S8x128, .f32⟩
  | .local _ .vmem, ⟨6, _⟩ => ⟨S2176x2048, .bf16⟩
  | .local _ .vmem, ⟨7, _⟩ => ⟨S2176x512, .bf16⟩
  | .local _ .vmem, ⟨8, _⟩ => ⟨S2176x512, .bf16⟩
  | .local _ .vmem, ⟨9, _⟩ => ⟨S2048x512, .bf16⟩
  | .local _ .vmem, ⟨10, _⟩ => ⟨S2048x512, .bf16⟩
  | .local _ .vmem, ⟨11, _⟩ => ⟨S8x128, .f32⟩
  | _, _ => ⟨S2176x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_scratch0 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨3, ![1, 27, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2176x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2176x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![1, 27, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 1 → Memref sig .tc .vmem S2176x2048 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false, true]

abbrev stage1_1 : Fin 2 → Memref sig .tc .vmem S2176x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S2048x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]
-- ==== Reference3Ideal.lean ====
abbrev S2176x2048 : Shape := ⟨2, ![2176, 2048]⟩
abbrev S2048x13824 : Shape := ⟨2, ![2048, 13824]⟩
abbrev S2176x13824 : Shape := ⟨2, ![2176, 13824]⟩
abbrev S13824x2048 : Shape := ⟨2, ![13824, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2176x2048, .bf16⟩
  | .hbm, ⟨1, _⟩ => ⟨S2048x13824, .bf16⟩
  | .hbm, ⟨2, _⟩ => ⟨S2176x13824, .bf16⟩
  | .hbm, ⟨3, _⟩ => ⟨S2176x2048, .f32⟩
  | .hbm, ⟨4, _⟩ => ⟨S2048x13824, .f32⟩
  | .hbm, ⟨5, _⟩ => ⟨S2176x13824, .f32⟩
  | .hbm, ⟨6, _⟩ => ⟨S2176x13824, .f32⟩
  | .hbm, ⟨7, _⟩ => ⟨S13824x2048, .f32⟩
  | .hbm, ⟨8, _⟩ => ⟨S2048x13824, .f32⟩
  | .hbm, ⟨9, _⟩ => ⟨S2048x13824, .bf16⟩
  | _, _ => ⟨S2176x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S2176x13824 : Shape := ⟨2, ![2176, 13824]⟩
abbrev S2048x13824 : Shape := ⟨2, ![2048, 13824]⟩
abbrev S2176x2048 : Shape := ⟨2, ![2176, 2048]⟩
abbrev S1088x2304 : Shape := ⟨2, ![1088, 2304]⟩
abbrev S1024x2304 : Shape := ⟨2, ![1024, 2304]⟩
abbrev S1088x1024 : Shape := ⟨2, ![1088, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2176x13824, .bf16⟩
  | .hbm, ⟨1, _⟩ => ⟨S2048x13824, .bf16⟩
  | .hbm, ⟨2, _⟩ => ⟨S2176x2048, .f32⟩
  | .local _ .vmem, ⟨0, _⟩ => ⟨S1088x2304, .bf16⟩
  | .local _ .vmem, ⟨1, _⟩ => ⟨S1088x2304, .bf16⟩
  | .local _ .vmem, ⟨2, _⟩ => ⟨S1024x2304, .bf16⟩
  | .local _ .vmem, ⟨3, _⟩ => ⟨S1024x2304, .bf16⟩
  | .local _ .vmem, ⟨4, _⟩ => ⟨S1088x1024, .f32⟩
  | .local _ .vmem, ⟨5, _⟩ => ⟨S1088x1024, .f32⟩
  | .local _ .vmem, ⟨6, _⟩ => ⟨S1088x1024, .f32⟩
  | _, _ => ⟨S2176x13824, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 6], ![false, false, false]⟩

def k0_cond2 (i : grid0.Coords) : BitVec 1 :=
  let arg2 : BitVec 32 := BitVec.ofNat 32 (i 2).val
  let c5_i32 : BitVec 32 := 5#32
  let v11 : BitVec 1 := Scalar.cmpi .eq arg2 c5_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x2304 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2304 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S2176x13824 : Shape := ⟨2, ![2176, 13824]⟩
abbrev S2048x13824 : Shape := ⟨2, ![2048, 13824]⟩
abbrev S_ : Shape := ⟨0, ![]⟩
abbrev S2176x2048 : Shape := ⟨2, ![2176, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2176x13824, .bf16⟩
  | .hbm, ⟨1, _⟩ => ⟨S2048x13824, .bf16⟩
  | .hbm, ⟨2, _⟩ => ⟨S_, .f32⟩
  | .hbm, ⟨3, _⟩ => ⟨S2176x2048, .f32⟩
  | .hbm, ⟨4, _⟩ => ⟨S2048x13824, .f32⟩
  | .hbm, ⟨5, _⟩ => ⟨S2176x13824, .f32⟩
  | .hbm, ⟨6, _⟩ => ⟨S2176x13824, .f32⟩
  | .hbm, ⟨7, _⟩ => ⟨S2176x2048, .f32⟩
  | _, _ => ⟨S2176x13824, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel5.lean ====
abbrev S2176x11264 : Shape := ⟨2, ![2176, 11264]⟩
abbrev S2048x11264 : Shape := ⟨2, ![2048, 11264]⟩
abbrev S2176x2048 : Shape := ⟨2, ![2176, 2048]⟩
abbrev S1088x1408 : Shape := ⟨2, ![1088, 1408]⟩
abbrev S1024x1408 : Shape := ⟨2, ![1024, 1408]⟩
abbrev S1088x1024 : Shape := ⟨2, ![1088, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2176x11264, .bf16⟩
  | .hbm, ⟨1, _⟩ => ⟨S2048x11264, .bf16⟩
  | .hbm, ⟨2, _⟩ => ⟨S2176x2048, .f32⟩
  | .local _ .vmem, ⟨0, _⟩ => ⟨S1088x1408, .bf16⟩
  | .local _ .vmem, ⟨1, _⟩ => ⟨S1088x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1088x1024, .f32⟩
  | .local _ .vmem, ⟨5, _⟩ => ⟨S1088x1024, .f32⟩
  | .local _ .vmem, ⟨6, _⟩ => ⟨S1088x1024, .f32⟩
  | _, _ => ⟨S2176x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S2176x11264 : Shape := ⟨2, ![2176, 11264]⟩
abbrev S2048x11264 : Shape := ⟨2, ![2048, 11264]⟩
abbrev S_ : Shape := ⟨0, ![]⟩
abbrev S2176x2048 : Shape := ⟨2, ![2176, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2176x11264, .bf16⟩
  | .hbm, ⟨1, _⟩ => ⟨S2048x11264, .bf16⟩
  | .hbm, ⟨2, _⟩ => ⟨S_, .f32⟩
  | .hbm, ⟨3, _⟩ => ⟨S2176x2048, .f32⟩
  | .hbm, ⟨4, _⟩ => ⟨S2048x11264, .f32⟩
  | .hbm, ⟨5, _⟩ => ⟨S2176x11264, .f32⟩
  | .hbm, ⟨6, _⟩ => ⟨S2176x11264, .f32⟩
  | .hbm, ⟨7, _⟩ => ⟨S2176x2048, .f32⟩
  | _, _ => ⟨S2176x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel6.lean ====
abbrev S2176x5632 : Shape := ⟨2, ![2176, 5632]⟩
abbrev S5632x2048 : Shape := ⟨2, ![5632, 2048]⟩
abbrev S2176x2048 : Shape := ⟨2, ![2176, 2048]⟩
abbrev S1088x1408 : Shape := ⟨2, ![1088, 1408]⟩
abbrev S1408x1024 : Shape := ⟨2, ![1408, 1024]⟩
abbrev S1088x1024 : Shape := ⟨2, ![1088, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2176x5632, .bf16⟩
  | .hbm, ⟨1, _⟩ => ⟨S5632x2048, .bf16⟩
  | .hbm, ⟨2, _⟩ => ⟨S2176x2048, .f32⟩
  | .local _ .vmem, ⟨0, _⟩ => ⟨S1088x1408, .bf16⟩
  | .local _ .vmem, ⟨1, _⟩ => ⟨S1088x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1088x1024, .f32⟩
  | .local _ .vmem, ⟨5, _⟩ => ⟨S1088x1024, .f32⟩
  | .local _ .vmem, ⟨6, _⟩ => ⟨S1088x1024, .f32⟩
  | _, _ => ⟨S2176x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S2176x5632 : Shape := ⟨2, ![2176, 5632]⟩
abbrev S5632x2048 : Shape := ⟨2, ![5632, 2048]⟩
abbrev S2176x2048 : Shape := ⟨2, ![2176, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2176x5632, .bf16⟩
  | .hbm, ⟨1, _⟩ => ⟨S5632x2048, .bf16⟩
  | .hbm, ⟨2, _⟩ => ⟨S2176x5632, .f32⟩
  | .hbm, ⟨3, _⟩ => ⟨S5632x2048, .f32⟩
  | .hbm, ⟨4, _⟩ => ⟨S2176x2048, .f32⟩
  | _, _ => ⟨S2176x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel7.lean ====
abbrev S2176x512 : Shape := ⟨2, ![2176, 512]⟩
abbrev S512x3072 : Shape := ⟨2, ![512, 3072]⟩
abbrev S512x2048 : Shape := ⟨2, ![512, 2048]⟩
abbrev S2176x3072 : Shape := ⟨2, ![2176, 3072]⟩
abbrev S2176x2048 : Shape := ⟨2, ![2176, 2048]⟩
abbrev S512x768 : Shape := ⟨2, ![512, 768]⟩
abbrev S2176x768 : Shape := ⟨2, ![2176, 768]⟩
abbrev S8x128 : Shape := ⟨2, ![8, 128]⟩
abbrev S512x512 : Shape := ⟨2, ![512, 512]⟩
abbrev S2176x1536 : Shape := ⟨2, ![2176, 1536]⟩
abbrev S512x1536 : Shape := ⟨2, ![512, 1536]⟩
abbrev S2176x1024 : Shape := ⟨2, ![2176, 1024]⟩
abbrev S512x1024 : Shape := ⟨2, ![512, 1024]⟩

abbrev nBuf : Space → Nat
  | .hbm => 10
  | .vmem => 24
  | .smem => 0
  | _ => 0

abbrev bufTy : (tb : Table) → Fin (tcTables nBuf tb) → BufTy
  | .hbm, ⟨0, _⟩ => ⟨S2176x512, .bf16⟩
  | .hbm, ⟨1, _⟩ => ⟨S2176x512, .bf16⟩
  | .hbm, ⟨2, _⟩ => ⟨S512x3072, .bf16⟩
  | .hbm, ⟨3, _⟩ => ⟨S512x2048, .bf16⟩
  | .hbm, ⟨4, _⟩ => ⟨S2176x3072, .bf16⟩
  | .hbm, ⟨5, _⟩ => ⟨S2176x2048, .f32⟩
  | .hbm, ⟨6, _⟩ => ⟨S2176x3072, .f32⟩
  | .hbm, ⟨7, _⟩ => ⟨S2176x2048, .f32⟩
  | .hbm, ⟨8, _⟩ => ⟨S512x3072, .bf16⟩
  | .hbm, ⟨9, _⟩ => ⟨S512x2048, .bf16⟩
  | .local _ .vmem, ⟨0, _⟩ => ⟨S2176x512, .bf16⟩
  | .local _ .vmem, ⟨1, _⟩ => ⟨S512x768, .bf16⟩
  | .local _ .vmem, ⟨2, _⟩ => ⟨S512x768, .bf16⟩
  | .local _ .vmem, ⟨3, _⟩ => ⟨S2176x768, .f32⟩
  | .local _ .vmem, ⟨4, _⟩ => ⟨S2176x768, .f32⟩
  | .local _ .vmem, ⟨5, _⟩ => ⟨S8x128, .f32⟩
  | .local _ .vmem, ⟨6, _⟩ => ⟨S2176x512, .bf16⟩
  | .local _ .vmem, ⟨7, _⟩ => ⟨S512x512, .bf16⟩
  | .local _ .vmem, ⟨8, _⟩ => ⟨S512x512, .bf16⟩
  | .local _ .vmem, ⟨9, _⟩ => ⟨S2176x512, .f32⟩
  | .local _ .vmem, ⟨10, _⟩ => ⟨S2176x512, .f32⟩
  | .local _ .vmem, ⟨11, _⟩ => ⟨S8x128, .f32⟩
  | .local _ .vmem, ⟨12, _⟩ => ⟨S2176x512, .bf16⟩
  | .local _ .vmem, ⟨13, _⟩ => ⟨S2176x1536, .bf16⟩
  | .local _ .vmem, ⟨14, _⟩ => ⟨S2176x1536, .bf16⟩
  | .local _ .vmem, ⟨15, _⟩ => ⟨S512x1536, .bf16⟩
  | .local _ .vmem, ⟨16, _⟩ => ⟨S512x1536, .bf16⟩
  | .local _ .vmem, ⟨17, _⟩ => ⟨S8x128, .f32⟩
  | .local _ .vmem, ⟨18, _⟩ => ⟨S2176x512, .bf16⟩
  | .local _ .vmem, ⟨19, _⟩ => ⟨S2176x1024, .f32⟩
  | .local _ .vmem, ⟨20, _⟩ => ⟨S2176x1024, .f32⟩
  | .local _ .vmem, ⟨21, _⟩ => ⟨S512x1024, .bf16⟩
  | .local _ .vmem, ⟨22, _⟩ => ⟨S512x1024, .bf16⟩
  | .local _ .vmem, ⟨23, _⟩ => ⟨S8x128, .f32⟩
  | _, _ => ⟨S2176x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_scratch0 : Ref sig .tc := ⟨.vmem, 11, rfl⟩
abbrev cc2_stg0_0 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc2_scratch0 : Ref sig .tc := ⟨.vmem, 17, rfl⟩
abbrev cc3_stg0_0 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg2_1 : Ref sig .tc := ⟨.vmem, 22, rfl⟩
abbrev cc3_scratch0 : Ref sig .tc := ⟨.vmem, 23, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc2_sem0_0 : DmaSem sig := 10
abbrev cc2_sem1_0 : DmaSem sig := 11
abbrev cc2_sem1_1 : DmaSem sig := 12
abbrev cc2_sem2_0 : DmaSem sig := 13
abbrev cc2_sem2_1 : DmaSem sig := 14
abbrev cc3_sem0_0 : DmaSem sig := 15
abbrev cc3_sem1_0 : DmaSem sig := 16
abbrev cc3_sem1_1 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2176x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2176x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![1, 4, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 1 → Memref sig .tc .vmem S2176x512 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false, true]

abbrev stage1_1 : Fin 2 → Memref sig .tc .vmem S512x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S2176x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![1, 2, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 1 → Memref sig .tc .vmem S2176x512 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false, true]

abbrev stage2_1 : Fin 2 → Memref sig .tc .vmem S2176x1536 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S512x1536 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![1, 2, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 1 → Memref sig .tc .vmem S2176x512 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false, true]

abbrev stage3_1 : Fin 2 → Memref sig .tc .vmem S2176x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S512x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]
-- ==== Reference7Ideal.lean ====
abbrev S2176x512 : Shape := ⟨2, ![2176, 512]⟩
abbrev S512x3072 : Shape := ⟨2, ![512, 3072]⟩
abbrev S512x2048 : Shape := ⟨2, ![512, 2048]⟩
abbrev S2176x3072 : Shape := ⟨2, ![2176, 3072]⟩
abbrev S2176x2048 : Shape := ⟨2, ![2176, 2048]⟩
abbrev S3072x512 : Shape := ⟨2, ![3072, 512]⟩
abbrev S2048x512 : Shape := ⟨2, ![2048, 512]⟩

abbrev nBuf : Space → Nat
  | .hbm => 19
  | .vmem => 0
  | .smem => 0
  | _ => 0

abbrev bufTy : (tb : Table) → Fin (tcTables nBuf tb) → BufTy
  | .hbm, ⟨0, _⟩ => ⟨S2176x512, .bf16⟩
  | .hbm, ⟨1, _⟩ => ⟨S2176x512, .bf16⟩
  | .hbm, ⟨2, _⟩ => ⟨S512x3072, .bf16⟩
  | .hbm, ⟨3, _⟩ => ⟨S512x2048, .bf16⟩
  | .hbm, ⟨4, _⟩ => ⟨S2176x3072, .bf16⟩
  | .hbm, ⟨5, _⟩ => ⟨S2176x2048, .f32⟩
  | .hbm, ⟨6, _⟩ => ⟨S2176x512, .f32⟩
  | .hbm, ⟨7, _⟩ => ⟨S512x3072, .f32⟩
  | .hbm, ⟨8, _⟩ => ⟨S2176x3072, .f32⟩
  | .hbm, ⟨9, _⟩ => ⟨S2176x512, .f32⟩
  | .hbm, ⟨10, _⟩ => ⟨S512x2048, .f32⟩
  | .hbm, ⟨11, _⟩ => ⟨S2176x2048, .f32⟩
  | .hbm, ⟨12, _⟩ => ⟨S2176x3072, .f32⟩
  | .hbm, ⟨13, _⟩ => ⟨S3072x512, .f32⟩
  | .hbm, ⟨14, _⟩ => ⟨S512x3072, .f32⟩
  | .hbm, ⟨15, _⟩ => ⟨S512x3072, .bf16⟩
  | .hbm, ⟨16, _⟩ => ⟨S2048x512, .f32⟩
  | .hbm, ⟨17, _⟩ => ⟨S512x2048, .f32⟩
  | .hbm, ⟨18, _⟩ => ⟨S512x2048, .bf16⟩
  | _, _ => ⟨S2176x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== Kernel8.lean ====
abbrev S2176x3072 : Shape := ⟨2, ![2176, 3072]⟩
abbrev S512x3072 : Shape := ⟨2, ![512, 3072]⟩
abbrev S2176x512 : Shape := ⟨2, ![2176, 512]⟩
abbrev S2176x1536 : Shape := ⟨2, ![2176, 1536]⟩
abbrev S512x1536 : Shape := ⟨2, ![512, 1536]⟩

abbrev nBuf : Space → Nat
  | .hbm => 3
  | .vmem => 6
  | .smem => 0
  | _ => 0

abbrev bufTy : (tb : Table) → Fin (tcTables nBuf tb) → BufTy
  | .hbm, ⟨0, _⟩ => ⟨S2176x3072, .bf16⟩
  | .hbm, ⟨1, _⟩ => ⟨S512x3072, .bf16⟩
  | .hbm, ⟨2, _⟩ => ⟨S2176x512, .f32⟩
  | .local _ .vmem, ⟨0, _⟩ => ⟨S2176x1536, .bf16⟩
  | .local _ .vmem, ⟨1, _⟩ => ⟨S2176x1536, .bf16⟩
  | .local _ .vmem, ⟨2, _⟩ => ⟨S512x1536, .bf16⟩
  | .local _ .vmem, ⟨3, _⟩ => ⟨S512x1536, .bf16⟩
  | .local _ .vmem, ⟨4, _⟩ => ⟨S2176x512, .f32⟩
  | .local _ .vmem, ⟨5, _⟩ => ⟨S2176x512, .f32⟩
  | _, _ => ⟨S2176x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S2176x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference8Ideal.lean ====
abbrev S2176x3072 : Shape := ⟨2, ![2176, 3072]⟩
abbrev S512x3072 : Shape := ⟨2, ![512, 3072]⟩
abbrev S_ : Shape := ⟨0, ![]⟩
abbrev S2176x512 : Shape := ⟨2, ![2176, 512]⟩

abbrev nBuf : Space → Nat
  | .hbm => 8
  | .vmem => 0
  | .smem => 0
  | _ => 0

abbrev bufTy : (tb : Table) → Fin (tcTables nBuf tb) → BufTy
  | .hbm, ⟨0, _⟩ => ⟨S2176x3072, .bf16⟩
  | .hbm, ⟨1, _⟩ => ⟨S512x3072, .bf16⟩
  | .hbm, ⟨2, _⟩ => ⟨S_, .f32⟩
  | .hbm, ⟨3, _⟩ => ⟨S2176x512, .f32⟩
  | .hbm, ⟨4, _⟩ => ⟨S512x3072, .f32⟩
  | .hbm, ⟨5, _⟩ => ⟨S2176x3072, .f32⟩
  | .hbm, ⟨6, _⟩ => ⟨S2176x3072, .f32⟩
  | .hbm, ⟨7, _⟩ => ⟨S2176x512, .f32⟩
  | _, _ => ⟨S2176x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel9.lean ====
abbrev S2176x2048 : Shape := ⟨2, ![2176, 2048]⟩
abbrev S512x2048 : Shape := ⟨2, ![512, 2048]⟩
abbrev S2176x512 : Shape := ⟨2, ![2176, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S2176x2048, .f32⟩
  | .hbm, ⟨1, _⟩ => ⟨S512x2048, .bf16⟩
  | .hbm, ⟨2, _⟩ => ⟨S2176x512, .f32⟩
  | .local _ .vmem, ⟨0, _⟩ => ⟨S2176x512, .f32⟩
  | .local _ .vmem, ⟨1, _⟩ => ⟨S2176x512, .f32⟩
  | .local _ .vmem, ⟨2, _⟩ => ⟨S512x512, .bf16⟩
  | .local _ .vmem, ⟨3, _⟩ => ⟨S512x512, .bf16⟩
  | .local _ .vmem, ⟨4, _⟩ => ⟨S2176x512, .f32⟩
  | .local _ .vmem, ⟨5, _⟩ => ⟨S2176x512, .f32⟩
  | _, _ => ⟨S2176x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S2176x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference9Ideal.lean ====
abbrev S2176x2048 : Shape := ⟨2, ![2176, 2048]⟩
abbrev S512x2048 : Shape := ⟨2, ![512, 2048]⟩
abbrev S_ : Shape := ⟨0, ![]⟩
abbrev S2176x512 : Shape := ⟨2, ![2176, 512]⟩

abbrev nBuf : Space → Nat
  | .hbm => 7
  | .vmem => 0
  | .smem => 0
  | _ => 0

abbrev bufTy : (tb : Table) → Fin (tcTables nBuf tb) → BufTy
  | .hbm, ⟨0, _⟩ => ⟨S2176x2048, .f32⟩
  | .hbm, ⟨1, _⟩ => ⟨S512x2048, .bf16⟩
  | .hbm, ⟨2, _⟩ => ⟨S_, .f32⟩
  | .hbm, ⟨3, _⟩ => ⟨S2176x512, .f32⟩
  | .hbm, ⟨4, _⟩ => ⟨S512x2048, .f32⟩
  | .hbm, ⟨5, _⟩ => ⟨S2176x2048, .f32⟩
  | .hbm, ⟨6, _⟩ => ⟨S2176x512, .f32⟩
  | _, _ => ⟨S2176x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel10.lean ====
abbrev S2176x13824 : Shape := ⟨2, ![2176, 13824]⟩
abbrev S2176x1024 : Shape := ⟨2, ![2176, 1024]⟩
abbrev S3x1024x2048 : Shape := ⟨3, ![3, 1024, 2048]⟩
abbrev S2048x2048 : Shape := ⟨2, ![2048, 2048]⟩
abbrev S2176x2048 : Shape := ⟨2, ![2176, 2048]⟩
abbrev S1x1024x512 : Shape := ⟨3, ![1, 1024, 512]⟩
abbrev S2176x512 : Shape := ⟨2, ![2176, 512]⟩
abbrev S8x128 : Shape := ⟨2, ![8, 128]⟩
abbrev S1024x512 : Shape := ⟨2, ![1024, 512]⟩
abbrev S128x512 : Shape := ⟨2, ![128, 512]⟩
abbrev S2048x512 : Shape := ⟨2, ![2048, 512]⟩
abbrev S512x2048 : Shape := ⟨2, ![512, 2048]⟩
abbrev S1x512x2048 : Shape := ⟨3, ![1, 512, 2048]⟩

abbrev nBuf : Space → Nat
  | .hbm => 23
  | .vmem => 94
  | .smem => 0
  | _ => 0

abbrev bufTy : (tb : Table) → Fin (tcTables nBuf tb) → BufTy
  | .hbm, ⟨0, _⟩ => ⟨S2176x13824, .f32⟩
  | .hbm, ⟨1, _⟩ => ⟨S2176x1024, .bf16⟩
  | .hbm, ⟨2, _⟩ => ⟨S2176x1024, .bf16⟩
  | .hbm, ⟨3, _⟩ => ⟨S2176x1024, .bf16⟩
  | .hbm, ⟨4, _⟩ => ⟨S3x1024x2048, .bf16⟩
  | .hbm, ⟨5, _⟩ => ⟨S2048x2048, .bf16⟩
  | .hbm, ⟨6, _⟩ => ⟨S2176x2048, .bf16⟩
  | .hbm, ⟨7, _⟩ => ⟨S2176x2048, .f32⟩
  | .hbm, ⟨8, _⟩ => ⟨S2176x2048, .f32⟩
  | .hbm, ⟨9, _⟩ => ⟨S2176x2048, .f32⟩
  | .hbm, ⟨10, _⟩ => ⟨S2176x2048, .bf16⟩
  | .hbm, ⟨11, _⟩ => ⟨S2176x2048, .f32⟩
  | .hbm, ⟨12, _⟩ => ⟨S2176x2048, .f32⟩
  | .hbm, ⟨13, _⟩ => ⟨S2048x2048, .bf16⟩
  | .hbm, ⟨14, _⟩ => ⟨S2176x2048, .bf16⟩
  | .hbm, ⟨15, _⟩ => ⟨S2176x2048, .bf16⟩
  | .hbm, ⟨16, _⟩ => ⟨S2176x2048, .bf16⟩
  | .hbm, ⟨17, _⟩ => ⟨S2176x2048, .bf16⟩
  | .hbm, ⟨18, _⟩ => ⟨S2176x2048, .bf16⟩
  | .hbm, ⟨19, _⟩ => ⟨S2176x2048, .bf16⟩
  | .hbm, ⟨20, _⟩ => ⟨S2176x1024, .f32⟩
  | .hbm, ⟨21, _⟩ => ⟨S2176x1024, .f32⟩
  | .hbm, ⟨22, _⟩ => ⟨S2176x1024, .f32⟩
  | .local _ .vmem, ⟨0, _⟩ => ⟨S2176x1024, .bf16⟩
  | .local _ .vmem, ⟨1, _⟩ => ⟨S1x1024x512, .bf16⟩
  | .local _ .vmem, ⟨2, _⟩ => ⟨S1x1024x512, .bf16⟩
  | .local _ .vmem, ⟨3, _⟩ => ⟨S2176x512, .f32⟩
  | .local _ .vmem, ⟨4, _⟩ => ⟨S2176x512, .f32⟩
  | .local _ .vmem, ⟨5, _⟩ => ⟨S8x128, .f32⟩
  | .local _ .vmem, ⟨6, _⟩ => ⟨S2176x1024, .bf16⟩
  | .local _ .vmem, ⟨7, _⟩ => ⟨S1x1024x512, .bf16⟩
  | .local _ .vmem, ⟨8, _⟩ => ⟨S1x1024x512, .bf16⟩
  | .local _ .vmem, ⟨9, _⟩ => ⟨S2176x512, .f32⟩
  | .local _ .vmem, ⟨10, _⟩ => ⟨S2176x512, .f32⟩
  | .local _ .vmem, ⟨11, _⟩ => ⟨S8x128, .f32⟩
  | .local _ .vmem, ⟨12, _⟩ => ⟨S2176x1024, .bf16⟩
  | .local _ .vmem, ⟨13, _⟩ => ⟨S1x1024x512, .bf16⟩
  | .local _ .vmem, ⟨14, _⟩ => ⟨S1x1024x512, .bf16⟩
  | .local _ .vmem, ⟨15, _⟩ => ⟨S2176x512, .f32⟩
  | .local _ .vmem, ⟨16, _⟩ => ⟨S2176x512, .f32⟩
  | .local _ .vmem, ⟨17, _⟩ => ⟨S8x128, .f32⟩
  | .local _ .vmem, ⟨18, _⟩ => ⟨S128x512, .f32⟩
  | .local _ .vmem, ⟨19, _⟩ => ⟨S128x512, .f32⟩
  | .local _ .vmem, ⟨20, _⟩ => ⟨S128x512, .f32⟩
  | .local _ .vmem, ⟨21, _⟩ => ⟨S128x512, .f32⟩
  | .local _ .vmem, ⟨22, _⟩ => ⟨S128x512, .f32⟩
  | .local _ .vmem, ⟨23, _⟩ => ⟨S128x512, .f32⟩
  | .local _ .vmem, ⟨24, _⟩ => ⟨S128x512, .f32⟩
  | .local _ .vmem, ⟨25, _⟩ => ⟨S128x512, .f32⟩
  | .local _ .vmem, ⟨26, _⟩ => ⟨S128x512, .f32⟩
  | .local _ .vmem, ⟨27, _⟩ => ⟨S128x512, .f32⟩
  | .local _ .vmem, ⟨28, _⟩ => ⟨S128x512, .f32⟩
  | .local _ .vmem, ⟨29, _⟩ => ⟨S128x512, .f32⟩
  | .local _ .vmem, ⟨30, _⟩ => ⟨S128x512, .bf16⟩
  | .local _ .vmem, ⟨31, _⟩ => ⟨S128x512, .bf16⟩
  | .local _ .vmem, ⟨32, _⟩ => ⟨S2176x2048, .bf16⟩
  | .local _ .vmem, ⟨33, _⟩ => ⟨S2048x512, .bf16⟩
  | .local _ .vmem, ⟨34, _⟩ => ⟨S2048x512, .bf16⟩
  | .local _ .vmem, ⟨35, _⟩ => ⟨S2176x512, .f32⟩
  | .local _ .vmem, ⟨36, _⟩ => ⟨S2176x512, .f32⟩
  | .local _ .vmem, ⟨37, _⟩ => ⟨S8x128, .f32⟩
  | .local _ .vmem, ⟨38, _⟩ => ⟨S2176x2048, .bf16⟩
  | .local _ .vmem, ⟨39, _⟩ => ⟨S512x2048, .bf16⟩
  | .local _ .vmem, ⟨40, _⟩ => ⟨S512x2048, .bf16⟩
  | .local _ .vmem, ⟨41, _⟩ => ⟨S2176x512, .f32⟩
  | .local _ .vmem, ⟨42, _⟩ => ⟨S2176x512, .f32⟩
  | .local _ .vmem, ⟨43, _⟩ => ⟨S8x128, .f32⟩
  | .local _ .vmem, ⟨44, _⟩ => ⟨S2176x2048, .bf16⟩
  | .local _ .vmem, ⟨45, _⟩ => ⟨S2176x512, .bf16⟩
  | .local _ .vmem, ⟨46, _⟩ => ⟨S2176x512, .bf16⟩
  | .local _ .vmem, ⟨47, _⟩ => ⟨S2048x512, .bf16⟩
  | .local _ .vmem, ⟨48, _⟩ => ⟨S2048x512, .bf16⟩
  | .local _ .vmem, ⟨49, _⟩ => ⟨S8x128, .f32⟩
  | .local _ .vmem, ⟨50, _⟩ => ⟨S128x512, .f32⟩
  | .local _ .vmem, ⟨51, _⟩ => ⟨S128x512, .f32⟩
  | .local _ .vmem, ⟨52, _⟩ => ⟨S128x512, .f32⟩
  | .local _ .vmem, ⟨53, _⟩ => ⟨S128x512, .f32⟩
  | .local _ .vmem, ⟨54, _⟩ => ⟨S128x512, .f32⟩
  | .local _ .vmem, ⟨55, _⟩ => ⟨S128x512, .f32⟩
  | .local _ .vmem, ⟨56, _⟩ => ⟨S128x512, .f32⟩
  | .local _ .vmem, ⟨57, _⟩ => ⟨S128x512, .f32⟩
  | .local _ .vmem, ⟨58, _⟩ => ⟨S128x512, .f32⟩
  | .local _ .vmem, ⟨59, _⟩ => ⟨S128x512, .f32⟩
  | .local _ .vmem, ⟨60, _⟩ => ⟨S128x512, .f32⟩
  | .local _ .vmem, ⟨61, _⟩ => ⟨S128x512, .f32⟩
  | .local _ .vmem, ⟨62, _⟩ => ⟨S128x512, .f32⟩
  | .local _ .vmem, ⟨63, _⟩ => ⟨S128x512, .f32⟩
  | .local _ .vmem, ⟨64, _⟩ => ⟨S128x512, .bf16⟩
  | .local _ .vmem, ⟨65, _⟩ => ⟨S128x512, .bf16⟩
  | .local _ .vmem, ⟨66, _⟩ => ⟨S128x512, .bf16⟩
  | .local _ .vmem, ⟨67, _⟩ => ⟨S128x512, .bf16⟩
  | .local _ .vmem, ⟨68, _⟩ => ⟨S128x512, .bf16⟩
  | .local _ .vmem, ⟨69, _⟩ => ⟨S128x512, .bf16⟩
  | .local _ .vmem, ⟨70, _⟩ => ⟨S128x512, .bf16⟩
  | .local _ .vmem, ⟨71, _⟩ => ⟨S128x512, .bf16⟩
  | .local _ .vmem, ⟨72, _⟩ => ⟨S128x512, .bf16⟩
  | .local _ .vmem, ⟨73, _⟩ => ⟨S128x512, .bf16⟩
  | .local _ .vmem, ⟨74, _⟩ => ⟨S128x512, .bf16⟩
  | .local _ .vmem, ⟨75, _⟩ => ⟨S128x512, .bf16⟩
  | .local _ .vmem, ⟨76, _⟩ => ⟨S2176x2048, .bf16⟩
  | .local _ .vmem, ⟨77, _⟩ => ⟨S1x512x2048, .bf16⟩
  | .local _ .vmem, ⟨78, _⟩ => ⟨S1x512x2048, .bf16⟩
  | .local _ .vmem, ⟨79, _⟩ => ⟨S2176x512, .f32⟩
  | .local _ .vmem, ⟨80, _⟩ => ⟨S2176x512, .f32⟩
  | .local _ .vmem, ⟨81, _⟩ => ⟨S8x128, .f32⟩
  | .local _ .vmem, ⟨82, _⟩ => ⟨S2176x2048, .bf16⟩
  | .local _ .vmem, ⟨83, _⟩ => ⟨S1x512x2048, .bf16⟩
  | .local _ .vmem, ⟨84, _⟩ => ⟨S1x512x2048, .bf16⟩
  | .local _ .vmem, ⟨85, _⟩ => ⟨S2176x512, .f32⟩
  | .local _ .vmem, ⟨86, _⟩ => ⟨S2176x512, .f32⟩
  | .local _ .vmem, ⟨87, _⟩ => ⟨S8x128, .f32⟩
  | .local _ .vmem, ⟨88, _⟩ => ⟨S2176x2048, .bf16⟩
  | .local _ .vmem, ⟨89, _⟩ => ⟨S1x512x2048, .bf16⟩
  | .local _ .vmem, ⟨90, _⟩ => ⟨S1x512x2048, .bf16⟩
  | .local _ .vmem, ⟨91, _⟩ => ⟨S2176x512, .f32⟩
  | .local _ .vmem, ⟨92, _⟩ => ⟨S2176x512, .f32⟩
  | .local _ .vmem, ⟨93, _⟩ => ⟨S8x128, .f32⟩
  | _, _ => ⟨S2176x13824, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | _, _ => false

abbrev semScoped : Fin 0 → Bool
  | ⟨_, h⟩ => absurd h (Nat.not_lt_zero _)

abbrev dmaSemScoped : Fin 85 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | _ => false

abbrev sig : RefSig :=
  ofTc nBuf bufTy 0 85 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v7_3 : Ref sig .tc := ⟨.hbm, 17, rfl⟩
abbrev main_v7_4 : Ref sig .tc := ⟨.hbm, 18, rfl⟩
abbrev main_v7_5 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_scratch0 : Ref sig .tc := ⟨.vmem, 11, rfl⟩
abbrev cc2_stg0_0 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc2_scratch0 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg3_1 : Ref sig .tc := ⟨.vmem, 25, rfl⟩
abbrev cc3_stg4_0 : Ref sig .tc := ⟨.vmem, 26, rfl⟩
abbrev cc3_stg4_1 : Ref sig .tc := ⟨.vmem, 27, rfl⟩
abbrev cc3_stg5_0 : Ref sig .tc := ⟨.vmem, 28, rfl⟩
abbrev cc3_stg5_1 : Ref sig .tc := ⟨.vmem, 29, rfl⟩
abbrev cc3_stg6_0 : Ref sig .tc := ⟨.vmem, 30, rfl⟩
abbrev cc3_stg6_1 : Ref sig .tc := ⟨.vmem, 31, rfl⟩
abbrev cc4_stg0_0 : Ref sig .tc := ⟨.vmem, 32, rfl⟩
abbrev cc4_stg1_0 : Ref sig .tc := ⟨.vmem, 33, rfl⟩
abbrev cc4_stg1_1 : Ref sig .tc := ⟨.vmem, 34, rfl⟩
abbrev cc4_stg2_0 : Ref sig .tc := ⟨.vmem, 35, rfl⟩
abbrev cc4_stg2_1 : Ref sig .tc := ⟨.vmem, 36, rfl⟩
abbrev cc4_scratch0 : Ref sig .tc := ⟨.vmem, 37, rfl⟩
abbrev cc5_stg0_0 : Ref sig .tc := ⟨.vmem, 38, rfl⟩
abbrev cc5_stg1_0 : Ref sig .tc := ⟨.vmem, 39, rfl⟩
abbrev cc5_stg1_1 : Ref sig .tc := ⟨.vmem, 40, rfl⟩
abbrev cc5_stg2_0 : Ref sig .tc := ⟨.vmem, 41, rfl⟩
abbrev cc5_stg2_1 : Ref sig .tc := ⟨.vmem, 42, rfl⟩
abbrev cc5_scratch0 : Ref sig .tc := ⟨.vmem, 43, rfl⟩
abbrev cc6_stg0_0 : Ref sig .tc := ⟨.vmem, 44, rfl⟩
abbrev cc6_stg1_0 : Ref sig .tc := ⟨.vmem, 45, rfl⟩
abbrev cc6_stg1_1 : Ref sig .tc := ⟨.vmem, 46, rfl⟩
abbrev cc6_stg2_0 : Ref sig .tc := ⟨.vmem, 47, rfl⟩
abbrev cc6_stg2_1 : Ref sig .tc := ⟨.vmem, 48, rfl⟩
abbrev cc6_scratch0 : Ref sig .tc := ⟨.vmem, 49, rfl⟩
abbrev cc7_stg0_0 : Ref sig .tc := ⟨.vmem, 50, rfl⟩
abbrev cc7_stg0_1 : Ref sig .tc := ⟨.vmem, 51, rfl⟩
abbrev cc7_stg1_0 : Ref sig .tc := ⟨.vmem, 52, rfl⟩
abbrev cc7_stg1_1 : Ref sig .tc := ⟨.vmem, 53, rfl⟩
abbrev cc7_stg2_0 : Ref sig .tc := ⟨.vmem, 54, rfl⟩
abbrev cc7_stg2_1 : Ref sig .tc := ⟨.vmem, 55, rfl⟩
abbrev cc7_stg3_0 : Ref sig .tc := ⟨.vmem, 56, rfl⟩
abbrev cc7_stg3_1 : Ref sig .tc := ⟨.vmem, 57, rfl⟩
abbrev cc7_stg4_0 : Ref sig .tc := ⟨.vmem, 58, rfl⟩
abbrev cc7_stg4_1 : Ref sig .tc := ⟨.vmem, 59, rfl⟩
abbrev cc7_stg5_0 : Ref sig .tc := ⟨.vmem, 60, rfl⟩
abbrev cc7_stg5_1 : Ref sig .tc := ⟨.vmem, 61, rfl⟩
abbrev cc7_stg6_0 : Ref sig .tc := ⟨.vmem, 62, rfl⟩
abbrev cc7_stg6_1 : Ref sig .tc := ⟨.vmem, 63, rfl⟩
abbrev cc7_stg7_0 : Ref sig .tc := ⟨.vmem, 64, rfl⟩
abbrev cc7_stg7_1 : Ref sig .tc := ⟨.vmem, 65, rfl⟩
abbrev cc7_stg8_0 : Ref sig .tc := ⟨.vmem, 66, rfl⟩
abbrev cc7_stg8_1 : Ref sig .tc := ⟨.vmem, 67, rfl⟩
abbrev cc7_stg9_0 : Ref sig .tc := ⟨.vmem, 68, rfl⟩
abbrev cc7_stg9_1 : Ref sig .tc := ⟨.vmem, 69, rfl⟩
abbrev cc7_stg10_0 : Ref sig .tc := ⟨.vmem, 70, rfl⟩
abbrev cc7_stg10_1 : Ref sig .tc := ⟨.vmem, 71, rfl⟩
abbrev cc7_stg11_0 : Ref sig .tc := ⟨.vmem, 72, rfl⟩
abbrev cc7_stg11_1 : Ref sig .tc := ⟨.vmem, 73, rfl⟩
abbrev cc7_stg12_0 : Ref sig .tc := ⟨.vmem, 74, rfl⟩
abbrev cc7_stg12_1 : Ref sig .tc := ⟨.vmem, 75, rfl⟩
abbrev cc8_stg0_0 : Ref sig .tc := ⟨.vmem, 76, rfl⟩
abbrev cc8_stg1_0 : Ref sig .tc := ⟨.vmem, 77, rfl⟩
abbrev cc8_stg1_1 : Ref sig .tc := ⟨.vmem, 78, rfl⟩
abbrev cc8_stg2_0 : Ref sig .tc := ⟨.vmem, 79, rfl⟩
abbrev cc8_stg2_1 : Ref sig .tc := ⟨.vmem, 80, rfl⟩
abbrev cc8_scratch0 : Ref sig .tc := ⟨.vmem, 81, rfl⟩
abbrev cc9_stg0_0 : Ref sig .tc := ⟨.vmem, 82, rfl⟩
abbrev cc9_stg1_0 : Ref sig .tc := ⟨.vmem, 83, rfl⟩
abbrev cc9_stg1_1 : Ref sig .tc := ⟨.vmem, 84, rfl⟩
abbrev cc9_stg2_0 : Ref sig .tc := ⟨.vmem, 85, rfl⟩
abbrev cc9_stg2_1 : Ref sig .tc := ⟨.vmem, 86, rfl⟩
abbrev cc9_scratch0 : Ref sig .tc := ⟨.vmem, 87, rfl⟩
abbrev cc10_stg0_0 : Ref sig .tc := ⟨.vmem, 88, rfl⟩
abbrev cc10_stg1_0 : Ref sig .tc := ⟨.vmem, 89, rfl⟩
abbrev cc10_stg1_1 : Ref sig .tc := ⟨.vmem, 90, rfl⟩
abbrev cc10_stg2_0 : Ref sig .tc := ⟨.vmem, 91, rfl⟩
abbrev cc10_stg2_1 : Ref sig .tc := ⟨.vmem, 92, rfl⟩
abbrev cc10_scratch0 : Ref sig .tc := ⟨.vmem, 93, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc2_sem0_0 : DmaSem sig := 10
abbrev cc2_sem1_0 : DmaSem sig := 11
abbrev cc2_sem1_1 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem1_1 : DmaSem sig := 18
abbrev cc3_sem2_0 : DmaSem sig := 19
abbrev cc3_sem2_1 : DmaSem sig := 20
abbrev cc3_sem3_0 : DmaSem sig := 21
abbrev cc3_sem3_1 : DmaSem sig := 22
abbrev cc3_sem4_0 : DmaSem sig := 23
abbrev cc3_sem4_1 : DmaSem sig := 24
abbrev cc3_sem5_0 : DmaSem sig := 25
abbrev cc3_sem5_1 : DmaSem sig := 26
abbrev cc3_sem6_0 : DmaSem sig := 27
abbrev cc3_sem6_1 : DmaSem sig := 28
abbrev cc4_sem0_0 : DmaSem sig := 29
abbrev cc4_sem1_0 : DmaSem sig := 30
abbrev cc4_sem1_1 : DmaSem sig := 31
abbrev cc4_sem2_0 : DmaSem sig := 32
abbrev cc4_sem2_1 : DmaSem sig := 33
abbrev cc5_sem0_0 : DmaSem sig := 34
abbrev cc5_sem1_0 : DmaSem sig := 35
abbrev cc5_sem1_1 : DmaSem sig := 36
abbrev cc5_sem2_0 : DmaSem sig := 37
abbrev cc5_sem2_1 : DmaSem sig := 38
abbrev cc6_sem0_0 : DmaSem sig := 39
abbrev cc6_sem1_0 : DmaSem sig := 40
abbrev cc6_sem1_1 : DmaSem sig := 41
abbrev cc6_sem2_0 : DmaSem sig := 42
abbrev cc6_sem2_1 : DmaSem sig := 43
abbrev cc7_sem0_0 : DmaSem sig := 44
abbrev cc7_sem0_1 : DmaSem sig := 45
abbrev cc7_sem1_0 : DmaSem sig := 46
abbrev cc7_sem1_1 : DmaSem sig := 47
abbrev cc7_sem2_0 : DmaSem sig := 48
abbrev cc7_sem2_1 : DmaSem sig := 49
abbrev cc7_sem3_0 : DmaSem sig := 50
abbrev cc7_sem3_1 : DmaSem sig := 51
abbrev cc7_sem4_0 : DmaSem sig := 52
abbrev cc7_sem4_1 : DmaSem sig := 53
abbrev cc7_sem5_0 : DmaSem sig := 54
abbrev cc7_sem5_1 : DmaSem sig := 55
abbrev cc7_sem6_0 : DmaSem sig := 56
abbrev cc7_sem6_1 : DmaSem sig := 57
abbrev cc7_sem7_0 : DmaSem sig := 58
abbrev cc7_sem7_1 : DmaSem sig := 59
abbrev cc7_sem8_0 : DmaSem sig := 60
abbrev cc7_sem8_1 : DmaSem sig := 61
abbrev cc7_sem9_0 : DmaSem sig := 62
abbrev cc7_sem9_1 : DmaSem sig := 63
abbrev cc7_sem10_0 : DmaSem sig := 64
abbrev cc7_sem10_1 : DmaSem sig := 65
abbrev cc7_sem11_0 : DmaSem sig := 66
abbrev cc7_sem11_1 : DmaSem sig := 67
abbrev cc7_sem12_0 : DmaSem sig := 68
abbrev cc7_sem12_1 : DmaSem sig := 69
abbrev cc8_sem0_0 : DmaSem sig := 70
abbrev cc8_sem1_0 : DmaSem sig := 71
abbrev cc8_sem1_1 : DmaSem sig := 72
abbrev cc8_sem2_0 : DmaSem sig := 73
abbrev cc8_sem2_1 : DmaSem sig := 74
abbrev cc9_sem0_0 : DmaSem sig := 75
abbrev cc9_sem1_0 : DmaSem sig := 76
abbrev cc9_sem1_1 : DmaSem sig := 77
abbrev cc9_sem2_0 : DmaSem sig := 78
abbrev cc9_sem2_1 : DmaSem sig := 79
abbrev cc10_sem0_0 : DmaSem sig := 80
abbrev cc10_sem1_0 : DmaSem sig := 81
abbrev cc10_sem1_1 : DmaSem sig := 82
abbrev cc10_sem2_0 : DmaSem sig := 83
abbrev cc10_sem2_1 : DmaSem sig := 84

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2176x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2176x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![1, 4, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 1 → Memref sig .tc .vmem S2176x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false, true]

abbrev stage1_1 : Fin 2 → Memref sig .tc .vmem S1x1024x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S2176x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![1, 4, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![c2_i32.toNat, arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 1 → Memref sig .tc .vmem S2176x1024 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false, true]

abbrev stage2_1 : Fin 2 → Memref sig .tc .vmem S1x1024x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S2176x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨2, ![4, 17], ![false, false]⟩

def cc3_transform_0 (i : grid3.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi c0_i32 v0
  let c0_i32_0 : BitVec 32 := 0#32
  ![arg1.toNat, v1.toNat]

def cc3_transform_1 (i : grid3.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c4_i32 : BitVec 32 := 4#32
  let v1 : BitVec 32 := Scalar.addi c4_i32 v0
  let c0_i32 : BitVec 32 := 0#32
  ![arg1.toNat, v1.toNat]

def cc3_transform_2 (i : grid3.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c8_i32 : BitVec 32 := 8#32
  let v1 : BitVec 32 := Scalar.addi c8_i32 v0
  let c0_i32 : BitVec 32 := 0#32
  ![arg1.toNat, v1.toNat]

def cc3_transform_3 (i : grid3.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi c0_i32 v0
  let c0_i32_0 : BitVec 32 := 0#32
  ![arg1.toNat, v1.toNat]

def cc3_transform_4 (i : grid3.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi c0_i32 v0
  let c0_i32_0 : BitVec 32 := 0#32
  ![arg1.toNat, v1.toNat]

def cc3_transform_5 (i : grid3.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi c0_i32 v0
  let c0_i32_0 : BitVec 32 := 0#32
  ![arg1.toNat, v1.toNat]

def cc3_transform_6 (i : grid3.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  ![arg1.toNat, v0.toNat]

abbrev stage3_0 : Fin 2 → Memref sig .tc .vmem S128x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S128x512 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S128x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S128x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev stage3_4 : Fin 2 → Memref sig .tc .vmem S128x512 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev stage3_5 : Fin 2 → Memref sig .tc .vmem S128x512 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true]

abbrev stage3_6 : Fin 2 → Memref sig .tc .vmem S128x512 .bf16 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, true]

abbrev grid4 : Pipeline.Grid := ⟨3, ![1, 4, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 1 → Memref sig .tc .vmem S2176x2048 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true, false, true]

abbrev stage4_1 : Fin 2 → Memref sig .tc .vmem S2048x512 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S2176x512 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![1, 4, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 1 → Memref sig .tc .vmem S2176x2048 .bf16 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true, false, true]

abbrev stage5_1 : Fin 2 → Memref sig .tc .vmem S512x2048 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 2 → Memref sig .tc .vmem S2176x512 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev grid6 : Pipeline.Grid := ⟨3, ![1, 4, 1], ![false, false, false]⟩

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage6_0 : Fin 1 → Memref sig .tc .vmem S2176x2048 .bf16 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![true, false, true]

abbrev stage6_1 : Fin 2 → Memref sig .tc .vmem S2176x512 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true, true]

abbrev stage6_2 : Fin 2 → Memref sig .tc .vmem S2048x512 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true, false]

abbrev grid7 : Pipeline.Grid := ⟨2, ![4, 17], ![false, false]⟩

def cc7_transform_0 (i : grid7.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi c0_i32 v0
  let c0_i32_0 : BitVec 32 := 0#32
  ![arg1.toNat, v1.toNat]

def cc7_transform_1 (i : grid7.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c4_i32 : BitVec 32 := 4#32
  let v1 : BitVec 32 := Scalar.addi c4_i32 v0
  let c0_i32 : BitVec 32 := 0#32
  ![arg1.toNat, v1.toNat]

def cc7_transform_2 (i : grid7.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c8_i32 : BitVec 32 := 8#32
  let v1 : BitVec 32 := Scalar.addi c8_i32 v0
  let c0_i32 : BitVec 32 := 0#32
  ![arg1.toNat, v1.toNat]

def cc7_transform_3 (i : grid7.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi c0_i32 v0
  let c0_i32_0 : BitVec 32 := 0#32
  ![arg1.toNat, v1.toNat]

def cc7_transform_4 (i : grid7.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi c0_i32 v0
  let c0_i32_0 : BitVec 32 := 0#32
  ![arg1.toNat, v1.toNat]

def cc7_transform_5 (i : grid7.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi c0_i32 v0
  let c0_i32_0 : BitVec 32 := 0#32
  ![arg1.toNat, v1.toNat]

def cc7_transform_6 (i : grid7.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi c0_i32 v0
  let c0_i32_0 : BitVec 32 := 0#32
  ![arg1.toNat, v1.toNat]

def cc7_transform_7 (i : grid7.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  ![arg1.toNat, v0.toNat]

def cc7_transform_8 (i : grid7.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  ![arg1.toNat, v0.toNat]

def cc7_transform_9 (i : grid7.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  ![arg1.toNat, v0.toNat]

def cc7_transform_10 (i : grid7.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  ![arg1.toNat, v0.toNat]

def cc7_transform_11 (i : grid7.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  ![arg1.toNat, v0.toNat]

def cc7_transform_12 (i : grid7.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  ![arg1.toNat, v0.toNat]

abbrev stage7_0 : Fin 2 → Memref sig .tc .vmem S128x512 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, true]

abbrev stage7_1 : Fin 2 → Memref sig .tc .vmem S128x512 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true, true]

abbrev stage7_2 : Fin 2 → Memref sig .tc .vmem S128x512 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true]

abbrev stage7_3 : Fin 2 → Memref sig .tc .vmem S128x512 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true, true]

abbrev stage7_4 : Fin 2 → Memref sig .tc .vmem S128x512 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true, true]

abbrev stage7_5 : Fin 2 → Memref sig .tc .vmem S128x512 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true, true]

abbrev stage7_6 : Fin 2 → Memref sig .tc .vmem S128x512 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true, true]

abbrev stage7_7 : Fin 2 → Memref sig .tc .vmem S128x512 .bf16 := fun | 0 => Memref.whole cc7_stg7_0 | 1 => Memref.whole cc7_stg7_1 | ⟨_ + 2, h⟩ => absurd h (Nat.not_lt.2 (Nat.le_add_left _ _))
abbrev sem7_7 : Fin 2 → DmaSem sig := fun | 0 => cc7_sem7_0 | 1 => cc7_sem7_1 | ⟨_ + 2, h⟩ => absurd h (Nat.not_lt.2 (Nat.le_add_left _ _))
abbrev reads7_7 : Fin grid7.rank → Bool := ![true, true]

abbrev stage7_8 : Fin 2 → Memref sig .tc .vmem S128x512 .bf16 := fun | 0 => Memref.whole cc7_stg8_0 | 1 => Memref.whole cc7_stg8_1 | ⟨_ + 2, h⟩ => absurd h (Nat.not_lt.2 (Nat.le_add_left _ _))
abbrev sem7_8 : Fin 2 → DmaSem sig := fun | 0 => cc7_sem8_0 | 1 => cc7_sem8_1 | ⟨_ + 2, h⟩ => absurd h (Nat.not_lt.2 (Nat.le_add_left _ _))
abbrev reads7_8 : Fin grid7.rank → Bool := ![true, true]

abbrev stage7_9 : Fin 2 → Memref sig .tc .vmem S128x512 .bf16 := fun | 0 => Memref.whole cc7_stg9_0 | 1 => Memref.whole cc7_stg9_1 | ⟨_ + 2, h⟩ => absurd h (Nat.not_lt.2 (Nat.le_add_left _ _))
abbrev sem7_9 : Fin 2 → DmaSem sig := fun | 0 => cc7_sem9_0 | 1 => cc7_sem9_1 | ⟨_ + 2, h⟩ => absurd h (Nat.not_lt.2 (Nat.le_add_left _ _))
abbrev reads7_9 : Fin grid7.rank → Bool := ![true, true]

abbrev stage7_10 : Fin 2 → Memref sig .tc .vmem S128x512 .bf16 := fun | 0 => Memref.whole cc7_stg10_0 | 1 => Memref.whole cc7_stg10_1 | ⟨_ + 2, h⟩ => absurd h (Nat.not_lt.2 (Nat.le_add_left _ _))
abbrev sem7_10 : Fin 2 → DmaSem sig := fun | 0 => cc7_sem10_0 | 1 => cc7_sem10_1 | ⟨_ + 2, h⟩ => absurd h (Nat.not_lt.2 (Nat.le_add_left _ _))
abbrev reads7_10 : Fin grid7.rank → Bool := ![true, true]

abbrev stage7_11 : Fin 2 → Memref sig .tc .vmem S128x512 .bf16 := fun | 0 => Memref.whole cc7_stg11_0 | 1 => Memref.whole cc7_stg11_1 | ⟨_ + 2, h⟩ => absurd h (Nat.not_lt.2 (Nat.le_add_left _ _))
abbrev sem7_11 : Fin 2 → DmaSem sig := fun | 0 => cc7_sem11_0 | 1 => cc7_sem11_1 | ⟨_ + 2, h⟩ => absurd h (Nat.not_lt.2 (Nat.le_add_left _ _))
abbrev reads7_11 : Fin grid7.rank → Bool := ![true, true]

abbrev stage7_12 : Fin 2 → Memref sig .tc .vmem S128x512 .bf16 := fun | 0 => Memref.whole cc7_stg12_0 | 1 => Memref.whole cc7_stg12_1 | ⟨_ + 2, h⟩ => absurd h (Nat.not_lt.2 (Nat.le_add_left _ _))
abbrev sem7_12 : Fin 2 → DmaSem sig := fun | 0 => cc7_sem12_0 | 1 => cc7_sem12_1 | ⟨_ + 2, h⟩ => absurd h (Nat.not_lt.2 (Nat.le_add_left _ _))
abbrev reads7_12 : Fin grid7.rank → Bool := ![true, true]

abbrev grid8 : Pipeline.Grid := ⟨3, ![1, 2, 1], ![false, false, false]⟩

def cc8_transform_0 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc8_transform_1 (i : grid8.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc8_transform_2 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage8_0 : Fin 1 → Memref sig .tc .vmem S2176x2048 .bf16 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![true, false, true]

abbrev stage8_1 : Fin 2 → Memref sig .tc .vmem S1x512x2048 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true, true]

abbrev stage8_2 : Fin 2 → Memref sig .tc .vmem S2176x512 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true, false]

abbrev grid9 : Pipeline.Grid := ⟨3, ![1, 2, 1], ![false, false, false]⟩

def cc9_transform_0 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc9_transform_1 (i : grid9.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg1.toNat, arg2.toNat]

def cc9_transform_2 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage9_0 : Fin 1 → Memref sig .tc .vmem S2176x2048 .bf16 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))
abbrev reads9_0 : Fin grid9.rank → Bool := ![true, false, true]

abbrev stage9_1 : Fin 2 → Memref sig .tc .vmem S1x512x2048 .bf16 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![false, true, true]

abbrev stage9_2 : Fin 2 → Memref sig .tc .vmem S2176x512 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true, true, false]

abbrev grid10 : Pipeline.Grid := ⟨3, ![1, 2, 1], ![false, false, false]⟩

def cc10_transform_0 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc10_transform_1 (i : grid10.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![c2_i32.toNat, arg1.toNat, arg2.toNat]

def cc10_transform_2 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage10_0 : Fin 1 → Memref sig .tc .vmem S2176x2048 .bf16 := fun | 0 => Memref.whole cc10_stg0_0 | ⟨_ + 1, h⟩ => absurd h (Nat.not_lt.2 (Nat.le_add_left _ _))
abbrev sem10_0 : Fin 1 → DmaSem sig := fun | 0 => cc10_sem0_0 | ⟨_ + 1, h⟩ => absurd h (Nat.not_lt.2 (Nat.le_add_left _ _))
abbrev reads10_0 : Fin grid10.rank → Bool := ![true, false, true]

abbrev stage10_1 : Fin 2 → Memref sig .tc .vmem S1x512x2048 .bf16 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![false, true, true]

abbrev stage10_2 : Fin 2 → Memref sig .tc .vmem S2176x512 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true, true, false]
-- ==== Reference10Ideal.lean ====
abbrev S2176x13824 : Shape := ⟨2, ![2176, 13824]⟩
abbrev S2176x1024 : Shape := ⟨2, ![2176, 1024]⟩
abbrev S3x1024x2048 : Shape := ⟨3, ![3, 1024, 2048]⟩
abbrev S2048x2048 : Shape := ⟨2, ![2048, 2048]⟩
abbrev S2176x2048 : Shape := ⟨2, ![2176, 2048]⟩
abbrev S2176x1x1024 : Shape := ⟨3, ![2176, 1, 1024]⟩
abbrev S2176x3x1024 : Shape := ⟨3, ![2176, 3, 1024]⟩
abbrev S3x2048x2176 : Shape := ⟨3, ![3, 2048, 2176]⟩
abbrev S2176x3x2048 : Shape := ⟨3, ![2176, 3, 2048]⟩
abbrev S2176x6144 : Shape := ⟨2, ![2176, 6144]⟩
abbrev S_ : Shape := ⟨0, ![]⟩
abbrev S2176x1x2048 : Shape := ⟨3, ![2176, 1, 2048]⟩
abbrev S3x2176x1024 : Shape := ⟨3, ![3, 2176, 1024]⟩

abbrev nBuf : Space → Nat
  | .hbm => 70
  | .vmem => 0
  | .smem => 0
  | _ => 0

abbrev bufTy : (tb : Table) → Fin (tcTables nBuf tb) → BufTy
  | .hbm, ⟨0, _⟩ => ⟨S2176x13824, .f32⟩
  | .hbm, ⟨1, _⟩ => ⟨S2176x1024, .bf16⟩
  | .hbm, ⟨2, _⟩ => ⟨S2176x1024, .bf16⟩
  | .hbm, ⟨3, _⟩ => ⟨S2176x1024, .bf16⟩
  | .hbm, ⟨4, _⟩ => ⟨S3x1024x2048, .bf16⟩
  | .hbm, ⟨5, _⟩ => ⟨S2048x2048, .bf16⟩
  | .hbm, ⟨6, _⟩ => ⟨S2176x2048, .bf16⟩
  | .hbm, ⟨7, _⟩ => ⟨S3x1024x2048, .f32⟩
  | .hbm, ⟨8, _⟩ => ⟨S2176x1024, .f32⟩
  | .hbm, ⟨9, _⟩ => ⟨S2176x1024, .f32⟩
  | .hbm, ⟨10, _⟩ => ⟨S2176x1024, .f32⟩
  | .hbm, ⟨11, _⟩ => ⟨S2176x1x1024, .f32⟩
  | .hbm, ⟨12, _⟩ => ⟨S2176x1x1024, .f32⟩
  | .hbm, ⟨13, _⟩ => ⟨S2176x1x1024, .f32⟩
  | .hbm, ⟨14, _⟩ => ⟨S2176x3x1024, .f32⟩
  | .hbm, ⟨15, _⟩ => ⟨S3x2048x2176, .f32⟩
  | .hbm, ⟨16, _⟩ => ⟨S2176x3x2048, .f32⟩
  | .hbm, ⟨17, _⟩ => ⟨S2176x6144, .f32⟩
  | .hbm, ⟨18, _⟩ => ⟨S2048x2048, .f32⟩
  | .hbm, ⟨19, _⟩ => ⟨S2176x6144, .f32⟩
  | .hbm, ⟨20, _⟩ => ⟨S2176x6144, .f32⟩
  | .hbm, ⟨21, _⟩ => ⟨S_, .f32⟩
  | .hbm, ⟨22, _⟩ => ⟨S2176x6144, .f32⟩
  | .hbm, ⟨23, _⟩ => ⟨S2176x6144, .f32⟩
  | .hbm, ⟨24, _⟩ => ⟨S_, .f32⟩
  | .hbm, ⟨25, _⟩ => ⟨S2176x6144, .f32⟩
  | .hbm, ⟨26, _⟩ => ⟨S2176x6144, .f32⟩
  | .hbm, ⟨27, _⟩ => ⟨S_, .f32⟩
  | .hbm, ⟨28, _⟩ => ⟨S2176x6144, .f32⟩
  | .hbm, ⟨29, _⟩ => ⟨S2176x6144, .f32⟩
  | .hbm, ⟨30, _⟩ => ⟨S2176x6144, .f32⟩
  | .hbm, ⟨31, _⟩ => ⟨S2176x3x2048, .f32⟩
  | .hbm, ⟨32, _⟩ => ⟨S2176x3x2048, .f32⟩
  | .hbm, ⟨33, _⟩ => ⟨S_, .f32⟩
  | .hbm, ⟨34, _⟩ => ⟨S2176x2048, .f32⟩
  | .hbm, ⟨35, _⟩ => ⟨S2176x2048, .f32⟩
  | .hbm, ⟨36, _⟩ => ⟨S2176x2048, .f32⟩
  | .hbm, ⟨37, _⟩ => ⟨S2048x2048, .f32⟩
  | .hbm, ⟨38, _⟩ => ⟨S2048x2048, .f32⟩
  | .hbm, ⟨39, _⟩ => ⟨S2176x2048, .f32⟩
  | .hbm, ⟨40, _⟩ => ⟨S2176x3x2048, .f32⟩
  | .hbm, ⟨41, _⟩ => ⟨S2176x3x2048, .f32⟩
  | .hbm, ⟨42, _⟩ => ⟨S2176x3x2048, .f32⟩
  | .hbm, ⟨43, _⟩ => ⟨S2176x6144, .f32⟩
  | .hbm, ⟨44, _⟩ => ⟨S2176x6144, .f32⟩
  | .hbm, ⟨45, _⟩ => ⟨S2176x2048, .f32⟩
  | .hbm, ⟨46, _⟩ => ⟨S2176x2048, .bf16⟩
  | .hbm, ⟨47, _⟩ => ⟨S2176x2048, .f32⟩
  | .hbm, ⟨48, _⟩ => ⟨S2176x2048, .bf16⟩
  | .hbm, ⟨49, _⟩ => ⟨S2176x2048, .f32⟩
  | .hbm, ⟨50, _⟩ => ⟨S2176x2048, .bf16⟩
  | .hbm, ⟨51, _⟩ => ⟨S2048x2048, .bf16⟩
  | .hbm, ⟨52, _⟩ => ⟨S2176x1x2048, .f32⟩
  | .hbm, ⟨53, _⟩ => ⟨S2176x2048, .f32⟩
  | .hbm, ⟨54, _⟩ => ⟨S2176x2048, .bf16⟩
  | .hbm, ⟨55, _⟩ => ⟨S2176x1x2048, .f32⟩
  | .hbm, ⟨56, _⟩ => ⟨S2176x2048, .f32⟩
  | .hbm, ⟨57, _⟩ => ⟨S2176x2048, .bf16⟩
  | .hbm, ⟨58, _⟩ => ⟨S2176x1x2048, .f32⟩
  | .hbm, ⟨59, _⟩ => ⟨S2176x2048, .f32⟩
  | .hbm, ⟨60, _⟩ => ⟨S2176x2048, .bf16⟩
  | .hbm, ⟨61, _⟩ => ⟨S3x2048x2176, .f32⟩
  | .hbm, ⟨62, _⟩ => ⟨S3x2176x1024, .f32⟩
  | .hbm, ⟨63, _⟩ => ⟨S2176x3x1024, .f32⟩
  | .hbm, ⟨64, _⟩ => ⟨S2176x1x1024, .f32⟩
  | .hbm, ⟨65, _⟩ => ⟨S2176x1024, .f32⟩
  | .hbm, ⟨66, _⟩ => ⟨S2176x1x1024, .f32⟩
  | .hbm, ⟨67, _⟩ => ⟨S2176x1024, .f32⟩
  | .hbm, ⟨68, _⟩ => ⟨S2176x1x1024, .f32⟩
  | .hbm, ⟨69, _⟩ => ⟨S2176x1024, .f32⟩
  | _, _ => ⟨S2176x13824, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩

abbrev nD : Nat := 1
abbrev τ : Topo := Topo.v7x

variable {F : FTy → Type} [FloatOps F]
-- ==== Kernel11.lean ====
abbrev S2176x1024 : Shape := ⟨2, ![2176, 1024]⟩
abbrev S2176x2048 : Shape := ⟨2, ![2176, 2048]⟩
abbrev S_ : Shape := ⟨0, ![]⟩
abbrev S3x1024x2048 : Shape := ⟨3, ![3, 1024, 2048]⟩
abbrev S1x1024x1024 : Shape := ⟨3, ![1, 1024, 1024]⟩
abbrev S8x128 : Shape := ⟨2, ![8, 128]⟩
abbrev S1024x1024 : Shape := ⟨2, ![1024, 1024]⟩

abbrev nBuf : Space → Nat
  | .hbm => 11
  | .vmem => 18
  | .smem => 0
  | _ => 0

abbrev bufTy : (tb : Table) → Fin (tcTables nBuf tb) → BufTy
  | .hbm, ⟨0, _⟩ => ⟨S2176x1024, .bf16⟩
  | .hbm, ⟨1, _⟩ => ⟨S2176x1024, .bf16⟩
  | .hbm, ⟨2, _⟩ => ⟨S2176x1024, .bf16⟩
  | .hbm, ⟨3, _⟩ => ⟨S2176x2048, .bf16⟩
  | .hbm, ⟨4, _⟩ => ⟨S2176x2048, .bf16⟩
  | .hbm, ⟨5, _⟩ => ⟨S2176x2048, .bf16⟩
  | .hbm, ⟨6, _⟩ => ⟨S_, .bf16⟩
  | .hbm, ⟨7, _⟩ => ⟨S3x1024x2048, .bf16⟩
  | .hbm, ⟨8, _⟩ => ⟨S3x1024x2048, .bf16⟩
  | .hbm, ⟨9, _⟩ => ⟨S3x1024x2048, .bf16⟩
  | .hbm, ⟨10, _⟩ => ⟨S3x1024x2048, .bf16⟩
  | .local _ .vmem, ⟨0, _⟩ => ⟨S2176x1024, .bf16⟩
  | .local _ .vmem, ⟨1, _⟩ => ⟨S2176x1024, .bf16⟩
  | .local _ .vmem, ⟨2, _⟩ => ⟨S2176x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S8x128, .f32⟩
  | .local _ .vmem, ⟨6, _⟩ => ⟨S2176x1024, .bf16⟩
  | .local _ .vmem, ⟨7, _⟩ => ⟨S2176x1024, .bf16⟩
  | .local _ .vmem, ⟨8, _⟩ => ⟨S2176x1024, .bf16⟩
  | .local _ .vmem, ⟨9, _⟩ => ⟨S1x1024x1024, .bf16⟩
  | .local _ .vmem, ⟨10, _⟩ => ⟨S1x1024x1024, .bf16⟩
  | .local _ .vmem, ⟨11, _⟩ => ⟨S8x128, .f32⟩
  | .local _ .vmem, ⟨12, _⟩ => ⟨S2176x1024, .bf16⟩
  | .local _ .vmem, ⟨13, _⟩ => ⟨S2176x1024, .bf16⟩
  | .local _ .vmem, ⟨14, _⟩ => ⟨S2176x1024, .bf16⟩
  | .local _ .vmem, ⟨15, _⟩ => ⟨S1x1024x1024, .bf16⟩
  | .local _ .vmem, ⟨16, _⟩ => ⟨S1x1024x1024, .bf16⟩
  | .local _ .vmem, ⟨17, _⟩ => ⟨S8x128, .f32⟩
  | _, _ => ⟨S2176x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_scratch0 : Ref sig .tc := ⟨.vmem, 11, rfl⟩
abbrev cc2_stg0_0 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc2_scratch0 : Ref sig .tc := ⟨.vmem, 17, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc2_sem0_0 : DmaSem sig := 10
abbrev cc2_sem1_0 : DmaSem sig := 11
abbrev cc2_sem1_1 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 1 → Memref sig .tc .vmem S2176x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![1, 2, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg0.toNat, arg1.toNat]

abbrev stage1_0 : Fin 1 → Memref sig .tc .vmem S2176x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false, true]

abbrev stage1_1 : Fin 2 → Memref sig .tc .vmem S2176x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![1, 2, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_3 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![c2_i32.toNat, arg0.toNat, arg1.toNat]

abbrev stage2_0 : Fin 1 → Memref sig .tc .vmem S2176x1024 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false, true]

abbrev stage2_1 : Fin 2 → Memref sig .tc .vmem S2176x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1x1024x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]
-- ==== Reference11Ideal.lean ====
abbrev S2176x1024 : Shape := ⟨2, ![2176, 1024]⟩
abbrev S2176x2048 : Shape := ⟨2, ![2176, 2048]⟩
abbrev S_ : Shape := ⟨0, ![]⟩
abbrev S3x1024x2048 : Shape := ⟨3, ![3, 1024, 2048]⟩
abbrev S2176x1x1024 : Shape := ⟨3, ![2176, 1, 1024]⟩
abbrev S2176x3x1024 : Shape := ⟨3, ![2176, 3, 1024]⟩
abbrev S3x2048x2176 : Shape := ⟨3, ![3, 2048, 2176]⟩
abbrev S2176x3x2048 : Shape := ⟨3, ![2176, 3, 2048]⟩
abbrev S2176x1x2048 : Shape := ⟨3, ![2176, 1, 2048]⟩
abbrev S3x2048x1024 : Shape := ⟨3, ![3, 2048, 1024]⟩

abbrev nBuf : Space → Nat
  | .hbm => 28
  | .vmem => 0
  | .smem => 0
  | _ => 0

abbrev bufTy : (tb : Table) → Fin (tcTables nBuf tb) → BufTy
  | .hbm, ⟨0, _⟩ => ⟨S2176x1024, .bf16⟩
  | .hbm, ⟨1, _⟩ => ⟨S2176x1024, .bf16⟩
  | .hbm, ⟨2, _⟩ => ⟨S2176x1024, .bf16⟩
  | .hbm, ⟨3, _⟩ => ⟨S2176x2048, .bf16⟩
  | .hbm, ⟨4, _⟩ => ⟨S2176x2048, .bf16⟩
  | .hbm, ⟨5, _⟩ => ⟨S2176x2048, .bf16⟩
  | .hbm, ⟨6, _⟩ => ⟨S2176x1024, .f32⟩
  | .hbm, ⟨7, _⟩ => ⟨S2176x1024, .f32⟩
  | .hbm, ⟨8, _⟩ => ⟨S2176x1024, .f32⟩
  | .hbm, ⟨9, _⟩ => ⟨S2176x2048, .f32⟩
  | .hbm, ⟨10, _⟩ => ⟨S2176x2048, .f32⟩
  | .hbm, ⟨11, _⟩ => ⟨S2176x2048, .f32⟩
  | .hbm, ⟨12, _⟩ => ⟨S_, .f32⟩
  | .hbm, ⟨13, _⟩ => ⟨S3x1024x2048, .f32⟩
  | .hbm, ⟨14, _⟩ => ⟨S2176x1x1024, .f32⟩
  | .hbm, ⟨15, _⟩ => ⟨S2176x1x1024, .f32⟩
  | .hbm, ⟨16, _⟩ => ⟨S2176x1x1024, .f32⟩
  | .hbm, ⟨17, _⟩ => ⟨S2176x3x1024, .f32⟩
  | .hbm, ⟨18, _⟩ => ⟨S3x2048x2176, .f32⟩
  | .hbm, ⟨19, _⟩ => ⟨S2176x3x2048, .f32⟩
  | .hbm, ⟨20, _⟩ => ⟨S2176x1x2048, .f32⟩
  | .hbm, ⟨21, _⟩ => ⟨S2176x1x2048, .f32⟩
  | .hbm, ⟨22, _⟩ => ⟨S2176x1x2048, .f32⟩
  | .hbm, ⟨23, _⟩ => ⟨S2176x3x2048, .f32⟩
  | .hbm, ⟨24, _⟩ => ⟨S3x2048x2176, .f32⟩
  | .hbm, ⟨25, _⟩ => ⟨S3x2048x1024, .f32⟩
  | .hbm, ⟨26, _⟩ => ⟨S3x1024x2048, .f32⟩
  | .hbm, ⟨27, _⟩ => ⟨S3x1024x2048, .bf16⟩
  | _, _ => ⟨S2176x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Kernel13.lean ====
abbrev S2176x13824 : Shape := ⟨2, ![2176, 13824]⟩
abbrev S2176x128 : Shape := ⟨2, ![2176, 128]⟩
abbrev S2176x8 : Shape := ⟨2, ![2176, 8]⟩
abbrev S8x2176 : Shape := ⟨2, ![8, 2176]⟩
abbrev S8x2176x1 : Shape := ⟨3, ![8, 2176, 1]⟩
abbrev S8x1x2176 : Shape := ⟨3, ![8, 1, 2176]⟩
abbrev S2176x1024 : Shape := ⟨2, ![2176, 1024]⟩
abbrev S272x128 : Shape := ⟨2, ![272, 128]⟩
abbrev S1x272x1 : Shape := ⟨3, ![1, 272, 1]⟩
abbrev S1x1x2176 : Shape := ⟨3, ![1, 1, 2176]⟩
abbrev S272x2176 : Shape := ⟨2, ![272, 2176]⟩
abbrev S272x1 : Shape := ⟨2, ![272, 1]⟩
abbrev S1x2176 : Shape := ⟨2, ![1, 2176]⟩
abbrev S272 : Shape := ⟨1, ![272]⟩

abbrev nBuf : Space → Nat
  | .hbm => 9
  | .vmem => 12
  | .smem => 0
  | _ => 0

abbrev bufTy : (tb : Table) → Fin (tcTables nBuf tb) → BufTy
  | .hbm, ⟨0, _⟩ => ⟨S2176x13824, .f32⟩
  | .hbm, ⟨1, _⟩ => ⟨S2176x128, .f32⟩
  | .hbm, ⟨2, _⟩ => ⟨S2176x8, .f32⟩
  | .hbm, ⟨3, _⟩ => ⟨S8x2176, .f32⟩
  | .hbm, ⟨4, _⟩ => ⟨S8x2176x1, .f32⟩
  | .hbm, ⟨5, _⟩ => ⟨S2176x8, .f32⟩
  | .hbm, ⟨6, _⟩ => ⟨S8x2176, .f32⟩
  | .hbm, ⟨7, _⟩ => ⟨S8x1x2176, .f32⟩
  | .hbm, ⟨8, _⟩ => ⟨S2176x1024, .bf16⟩
  | .local _ .vmem, ⟨0, _⟩ => ⟨S272x128, .f32⟩
  | .local _ .vmem, ⟨1, _⟩ => ⟨S272x128, .f32⟩
  | .local _ .vmem, ⟨2, _⟩ => ⟨S2176x128, .f32⟩
  | .local _ .vmem, ⟨3, _⟩ => ⟨S2176x128, .f32⟩
  | .local _ .vmem, ⟨4, _⟩ => ⟨S2176x128, .f32⟩
  | .local _ .vmem, ⟨5, _⟩ => ⟨S2176x128, .f32⟩
  | .local _ .vmem, ⟨6, _⟩ => ⟨S1x272x1, .f32⟩
  | .local _ .vmem, ⟨7, _⟩ => ⟨S1x272x1, .f32⟩
  | .local _ .vmem, ⟨8, _⟩ => ⟨S1x1x2176, .f32⟩
  | .local _ .vmem, ⟨9, _⟩ => ⟨S1x1x2176, .f32⟩
  | .local _ .vmem, ⟨10, _⟩ => ⟨S272x128, .bf16⟩
  | .local _ .vmem, ⟨11, _⟩ => ⟨S272x128, .bf16⟩
  | _, _ => ⟨S2176x13824, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c72_i32 : BitVec 32 := 72#32
  let v0 : BitVec 32 := Scalar.addi c72_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c80_i32 : BitVec 32 := 80#32
  let v0 : BitVec 32 := Scalar.addi c80_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c88_i32 : BitVec 32 := 88#32
  let v0 : BitVec 32 := Scalar.addi c88_i32 arg0
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S272x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2176x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2176x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x272x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x2176 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S272x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Kernel13Ideal.lean ====
variable {F : FTy → Type} [FloatOps F] [Named F]
def κ : String → Option EReal := fun
  | "mask" => some ⊥
  | _ => none
-- ==== Reference13Ideal.lean ====
abbrev S2176x13824 : Shape := ⟨2, ![2176, 13824]⟩
abbrev S2176x128 : Shape := ⟨2, ![2176, 128]⟩
abbrev S2176x8 : Shape := ⟨2, ![2176, 8]⟩
abbrev S8x2176 : Shape := ⟨2, ![8, 2176]⟩
abbrev S2176x1024 : Shape := ⟨2, ![2176, 1024]⟩
abbrev S8x2176x1 : Shape := ⟨3, ![8, 2176, 1]⟩
abbrev S8x1x2176 : Shape := ⟨3, ![8, 1, 2176]⟩
abbrev S2176x8x128 : Shape := ⟨3, ![2176, 8, 128]⟩
abbrev S8x2176x128 : Shape := ⟨3, ![8, 2176, 128]⟩
abbrev S8x2176x2176 : Shape := ⟨3, ![8, 2176, 2176]⟩
abbrev S_ : Shape := ⟨0, ![]⟩
abbrev S2176 : Shape := ⟨1, ![2176]⟩
abbrev S1x2176 : Shape := ⟨2, ![1, 2176]⟩
abbrev S2176x1 : Shape := ⟨2, ![2176, 1]⟩
abbrev S2176x2176 : Shape := ⟨2, ![2176, 2176]⟩

abbrev nBuf : Space → Nat
  | .hbm => 52
  | .vmem => 0
  | .smem => 0
  | _ => 0

abbrev bufTy : (tb : Table) → Fin (tcTables nBuf tb) → BufTy
  | .hbm, ⟨0, _⟩ => ⟨S2176x13824, .f32⟩
  | .hbm, ⟨1, _⟩ => ⟨S2176x128, .f32⟩
  | .hbm, ⟨2, _⟩ => ⟨S2176x8, .f32⟩
  | .hbm, ⟨3, _⟩ => ⟨S8x2176, .f32⟩
  | .hbm, ⟨4, _⟩ => ⟨S2176x1024, .f32⟩
  | .hbm, ⟨5, _⟩ => ⟨S2176x1024, .f32⟩
  | .hbm, ⟨6, _⟩ => ⟨S2176x1024, .f32⟩
  | .hbm, ⟨7, _⟩ => ⟨S8x2176x1, .f32⟩
  | .hbm, ⟨8, _⟩ => ⟨S8x1x2176, .f32⟩
  | .hbm, ⟨9, _⟩ => ⟨S2176x8x128, .f32⟩
  | .hbm, ⟨10, _⟩ => ⟨S8x2176x128, .f32⟩
  | .hbm, ⟨11, _⟩ => ⟨S2176x8x128, .f32⟩
  | .hbm, ⟨12, _⟩ => ⟨S8x2176x128, .f32⟩
  | .hbm, ⟨13, _⟩ => ⟨S2176x8x128, .f32⟩
  | .hbm, ⟨14, _⟩ => ⟨S8x2176x128, .f32⟩
  | .hbm, ⟨15, _⟩ => ⟨S8x2176x2176, .f32⟩
  | .hbm, ⟨16, _⟩ => ⟨S_, .f32⟩
  | .hbm, ⟨17, _⟩ => ⟨S8x2176x2176, .f32⟩
  | .hbm, ⟨18, _⟩ => ⟨S8x2176x2176, .f32⟩
  | .hbm, ⟨19, _⟩ => ⟨S8x2176x2176, .f32⟩
  | .hbm, ⟨20, _⟩ => ⟨S8x2176x2176, .f32⟩
  | .hbm, ⟨21, _⟩ => ⟨S8x2176x2176, .f32⟩
  | .hbm, ⟨22, _⟩ => ⟨S8x2176x2176, .f32⟩
  | .hbm, ⟨23, _⟩ => ⟨S2176, .i32⟩
  | .hbm, ⟨24, _⟩ => ⟨S1x2176, .i32⟩
  | .hbm, ⟨25, _⟩ => ⟨S2176x1, .i32⟩
  | .hbm, ⟨26, _⟩ => ⟨S2176x2176, .i32⟩
  | .hbm, ⟨27, _⟩ => ⟨S2176x2176, .i32⟩
  | .hbm, ⟨28, _⟩ => ⟨S2176x2176, .i1⟩
  | .hbm, ⟨29, _⟩ => ⟨S_, .f32⟩
  | .hbm, ⟨30, _⟩ => ⟨S_, .f32⟩
  | .hbm, ⟨31, _⟩ => ⟨S8x2176x2176, .i1⟩
  | .hbm, ⟨32, _⟩ => ⟨S8x2176x2176, .f32⟩
  | .hbm, ⟨33, _⟩ => ⟨S8x2176x2176, .f32⟩
  | .hbm, ⟨34, _⟩ => ⟨S_, .f32⟩
  | .hbm, ⟨35, _⟩ => ⟨S8x2176, .f32⟩
  | .hbm, ⟨36, _⟩ => ⟨S_, .f32⟩
  | .hbm, ⟨37, _⟩ => ⟨S8x2176, .f32⟩
  | .hbm, ⟨38, _⟩ => ⟨S8x2176, .f32⟩
  | .hbm, ⟨39, _⟩ => ⟨S8x2176x1, .f32⟩
  | .hbm, ⟨40, _⟩ => ⟨S8x2176x2176, .f32⟩
  | .hbm, ⟨41, _⟩ => ⟨S8x2176x2176, .f32⟩
  | .hbm, ⟨42, _⟩ => ⟨S8x2176x2176, .f32⟩
  | .hbm, ⟨43, _⟩ => ⟨S_, .f32⟩
  | .hbm, ⟨44, _⟩ => ⟨S8x2176, .f32⟩
  | .hbm, ⟨45, _⟩ => ⟨S8x2176x1, .f32⟩
  | .hbm, ⟨46, _⟩ => ⟨S8x2176x2176, .f32⟩
  | .hbm, ⟨47, _⟩ => ⟨S8x2176x2176, .f32⟩
  | .hbm, ⟨48, _⟩ => ⟨S8x2176x128, .f32⟩
  | .hbm, ⟨49, _⟩ => ⟨S2176x8x128, .f32⟩
  | .hbm, ⟨50, _⟩ => ⟨S2176x1024, .f32⟩
  | .hbm, ⟨51, _⟩ => ⟨S2176x1024, .bf16⟩
  | _, _ => ⟨S2176x13824, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_cst : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_cst_0 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v26 : Ref sig .tc := ⟨.hbm, 33, rfl⟩
abbrev main_cst_1 : Ref sig .tc := ⟨.hbm, 34, rfl⟩
abbrev main_v27 : Ref sig .tc := ⟨.hbm, 35, rfl⟩
abbrev main_cst_2 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_3 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩

abbrev nD : Nat := 1
abbrev τ : Topo := Topo.v7x

variable {F : FTy → Type} [FloatOps F]
-- ==== Kernel12.lean ====
abbrev S2176x3072 : Shape := ⟨2, ![2176, 3072]⟩
abbrev S2176x2048 : Shape := ⟨2, ![2176, 2048]⟩
abbrev S2176x128 : Shape := ⟨2, ![2176, 128]⟩
abbrev S2176x1024 : Shape := ⟨2, ![2176, 1024]⟩
abbrev S272x384 : Shape := ⟨2, ![272, 384]⟩
abbrev S2176x256 : Shape := ⟨2, ![2176, 256]⟩
abbrev S272x128 : Shape := ⟨2, ![272, 128]⟩
abbrev S272x2176 : Shape := ⟨2, ![272, 2176]⟩
abbrev S272 : Shape := ⟨1, ![272]⟩
abbrev S272x1 : Shape := ⟨2, ![272, 1]⟩

abbrev nBuf : Space → Nat
  | .hbm => 9
  | .vmem => 16
  | .smem => 0
  | _ => 0

abbrev bufTy : (tb : Table) → Fin (tcTables nBuf tb) → BufTy
  | .hbm, ⟨0, _⟩ => ⟨S2176x3072, .f32⟩
  | .hbm, ⟨1, _⟩ => ⟨S2176x2048, .f32⟩
  | .hbm, ⟨2, _⟩ => ⟨S2176x128, .f32⟩
  | .hbm, ⟨3, _⟩ => ⟨S2176x128, .f32⟩
  | .hbm, ⟨4, _⟩ => ⟨S2176x128, .f32⟩
  | .hbm, ⟨5, _⟩ => ⟨S2176x1024, .f32⟩
  | .hbm, ⟨6, _⟩ => ⟨S2176x3072, .bf16⟩
  | .hbm, ⟨7, _⟩ => ⟨S2176x2048, .f32⟩
  | .hbm, ⟨8, _⟩ => ⟨S2176x128, .f32⟩
  | .local _ .vmem, ⟨0, _⟩ => ⟨S272x384, .f32⟩
  | .local _ .vmem, ⟨1, _⟩ => ⟨S272x384, .f32⟩
  | .local _ .vmem, ⟨2, _⟩ => ⟨S2176x256, .f32⟩
  | .local _ .vmem, ⟨3, _⟩ => ⟨S2176x256, .f32⟩
  | .local _ .vmem, ⟨4, _⟩ => ⟨S2176x128, .f32⟩
  | .local _ .vmem, ⟨5, _⟩ => ⟨S272x128, .f32⟩
  | .local _ .vmem, ⟨6, _⟩ => ⟨S272x128, .f32⟩
  | .local _ .vmem, ⟨7, _⟩ => ⟨S272x128, .f32⟩
  | .local _ .vmem, ⟨8, _⟩ => ⟨S272x128, .f32⟩
  | .local _ .vmem, ⟨9, _⟩ => ⟨S272x128, .f32⟩
  | .local _ .vmem, ⟨10, _⟩ => ⟨S272x128, .f32⟩
  | .local _ .vmem, ⟨11, _⟩ => ⟨S272x384, .bf16⟩
  | .local _ .vmem, ⟨12, _⟩ => ⟨S272x384, .bf16⟩
  | .local _ .vmem, ⟨13, _⟩ => ⟨S2176x256, .f32⟩
  | .local _ .vmem, ⟨14, _⟩ => ⟨S2176x256, .f32⟩
  | .local _ .vmem, ⟨15, _⟩ => ⟨S2176x128, .f32⟩
  | _, _ => ⟨S2176x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S272x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2176x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S2176x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S272x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S272x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S272x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S272x384 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2176x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S2176x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== Kernel12Ideal.lean ====
variable {F : FTy → Type} [FloatOps F] [Named F]
def κ : String → Option EReal := fun
  | "mask" => some ⊥
  | _ => none
-- ==== Reference12Ideal.lean ====
abbrev S2176x3072 : Shape := ⟨2, ![2176, 3072]⟩
abbrev S2176x2048 : Shape := ⟨2, ![2176, 2048]⟩
abbrev S2176x128 : Shape := ⟨2, ![2176, 128]⟩
abbrev S2176x1024 : Shape := ⟨2, ![2176, 1024]⟩
abbrev S2176x8x3x128 : Shape := ⟨4, ![2176, 8, 3, 128]⟩
abbrev S2176x8x2x128 : Shape := ⟨4, ![2176, 8, 2, 128]⟩
abbrev S2176x8x1x128 : Shape := ⟨4, ![2176, 8, 1, 128]⟩
abbrev S2176x8x128 : Shape := ⟨3, ![2176, 8, 128]⟩
abbrev S2176x1x128 : Shape := ⟨3, ![2176, 1, 128]⟩
abbrev S2176x8x256 : Shape := ⟨3, ![2176, 8, 256]⟩
abbrev S8x2176x256 : Shape := ⟨3, ![8, 2176, 256]⟩
abbrev S8x2176x2176 : Shape := ⟨3, ![8, 2176, 2176]⟩
abbrev S_ : Shape := ⟨0, ![]⟩
abbrev S2176 : Shape := ⟨1, ![2176]⟩
abbrev S1x2176 : Shape := ⟨2, ![1, 2176]⟩
abbrev S2176x1 : Shape := ⟨2, ![2176, 1]⟩
abbrev S2176x2176 : Shape := ⟨2, ![2176, 2176]⟩
abbrev S8x2176 : Shape := ⟨2, ![8, 2176]⟩
abbrev S8x2176x1 : Shape := ⟨3, ![8, 2176, 1]⟩
abbrev S8x2176x128 : Shape := ⟨3, ![8, 2176, 128]⟩
abbrev S8x128x2176 : Shape := ⟨3, ![8, 128, 2176]⟩

abbrev nBuf : Space → Nat
  | .hbm => 154
  | .vmem => 0
  | .smem => 0
  | _ => 0

abbrev hbmTy0_0 (i : Nat) : BufTy := match i % 128 with
  | 0 => ⟨S2176x3072, .f32⟩
  | 1 => ⟨S2176x2048, .f32⟩
  | 2 => ⟨S2176x128, .f32⟩
  | 3 => ⟨S2176x128, .f32⟩
  | 4 => ⟨S2176x128, .f32⟩
  | 5 => ⟨S2176x1024, .f32⟩
  | 6 => ⟨S2176x8x3x128, .f32⟩
  | 7 => ⟨S2176x8x2x128, .f32⟩
  | 8 => ⟨S2176x8x1x128, .f32⟩
  | 9 => ⟨S2176x8x128, .f32⟩
  | 10 => ⟨S2176x8x1x128, .f32⟩
  | 11 => ⟨S2176x8x128, .f32⟩
  | 12 => ⟨S2176x1x128, .f32⟩
  | 13 => ⟨S2176x8x128, .f32⟩
  | 14 => ⟨S2176x8x128, .f32⟩
  | 15 => ⟨S2176x8x1x128, .f32⟩
  | 16 => ⟨S2176x8x128, .f32⟩
  | 17 => ⟨S2176x1x128, .f32⟩
  | 18 => ⟨S2176x8x128, .f32⟩
  | 19 => ⟨S2176x8x128, .f32⟩
  | 20 => ⟨S2176x8x128, .f32⟩
  | 21 => ⟨S2176x8x1x128, .f32⟩
  | 22 => ⟨S2176x8x128, .f32⟩
  | 23 => ⟨S2176x8x1x128, .f32⟩
  | 24 => ⟨S2176x8x128, .f32⟩
  | 25 => ⟨S2176x8x256, .f32⟩
  | 26 => ⟨S8x2176x256, .f32⟩
  | 27 => ⟨S2176x1x128, .f32⟩
  | 28 => ⟨S2176x8x128, .f32⟩
  | 29 => ⟨S2176x8x256, .f32⟩
  | 30 => ⟨S8x2176x256, .f32⟩
  | 31 => ⟨S8x2176x2176, .f32⟩
  | 32 => ⟨S_, .f32⟩
  | 33 => ⟨S8x2176x2176, .f32⟩
  | 34 => ⟨S8x2176x2176, .f32⟩
  | 35 => ⟨S2176, .i32⟩
  | 36 => ⟨S1x2176, .i32⟩
  | 37 => ⟨S2176x1, .i32⟩
  | 38 => ⟨S2176x2176, .i32⟩
  | 39 => ⟨S2176x2176, .i32⟩
  | 40 => ⟨S2176x2176, .i1⟩
  | 41 => ⟨S_, .f32⟩
  | 42 => ⟨S_, .f32⟩
  | 43 => ⟨S8x2176x2176, .i1⟩
  | 44 => ⟨S8x2176x2176, .f32⟩
  | 45 => ⟨S8x2176x2176, .f32⟩
  | 46 => ⟨S_, .f32⟩
  | 47 => ⟨S8x2176x2176, .f32⟩
  | 48 => ⟨S_, .f32⟩
  | 49 => ⟨S8x2176, .f32⟩
  | 50 => ⟨S8x2176x1, .f32⟩
  | 51 => ⟨S8x2176x2176, .f32⟩
  | 52 => ⟨S8x2176x2176, .i1⟩
  | 53 => ⟨S8x2176x2176, .f32⟩
  | 54 => ⟨S_, .f32⟩
  | 55 => ⟨S8x2176, .f32⟩
  | 56 => ⟨S_, .f32⟩
  | 57 => ⟨S8x2176, .f32⟩
  | 58 => ⟨S8x2176, .f32⟩
  | 59 => ⟨S_, .f32⟩
  | 60 => ⟨S8x2176, .f32⟩
  | 61 => ⟨S8x2176, .i1⟩
  | 62 => ⟨S_, .f32⟩
  | 63 => ⟨S8x2176, .f32⟩
  | 64 => ⟨S8x2176, .i1⟩
  | 65 => ⟨S_, .f32⟩
  | 66 => ⟨S8x2176, .f32⟩
  | 67 => ⟨S_, .f32⟩
  | 68 => ⟨S8x2176, .f32⟩
  | 69 => ⟨S_, .f32⟩
  | 70 => ⟨S8x2176, .f32⟩
  | 71 => ⟨S8x2176, .f32⟩
  | 72 => ⟨S8x2176, .f32⟩
  | 73 => ⟨S8x2176x1, .f32⟩
  | 74 => ⟨S8x2176x2176, .f32⟩
  | 75 => ⟨S8x2176x2176, .f32⟩
  | 76 => ⟨S8x2176x2176, .f32⟩
  | 77 => ⟨S_, .f32⟩
  | 78 => ⟨S8x2176, .f32⟩
  | 79 => ⟨S8x2176x1, .f32⟩
  | 80 => ⟨S8x2176x2176, .f32⟩
  | 81 => ⟨S8x2176x2176, .f32⟩
  | 82 => ⟨S8x2176x1, .f32⟩
  | 83 => ⟨S_, .f32⟩
  | 84 => ⟨S8x2176x1, .f32⟩
  | 85 => ⟨S8x2176x1, .f32⟩
  | 86 => ⟨S8x2176x128, .f32⟩
  | 87 => ⟨S8x2176x128, .f32⟩
  | 88 => ⟨S2176x8x128, .f32⟩
  | 89 => ⟨S2176x1024, .f32⟩
  | 90 => ⟨S2176x8x128, .f32⟩
  | 91 => ⟨S8x2176x128, .f32⟩
  | 92 => ⟨S8x128x2176, .f32⟩
  | 93 => ⟨S8x2176x128, .f32⟩
  | 94 => ⟨S8x2176x2176, .f32⟩
  | 95 => ⟨S2176x8x128, .f32⟩
  | 96 => ⟨S8x2176x2176, .f32⟩
  | 97 => ⟨S8x2176x2176, .f32⟩
  | 98 => ⟨S8x2176x2176, .f32⟩
  | 99 => ⟨S_, .f32⟩
  | 100 => ⟨S8x2176, .f32⟩
  | 101 => ⟨S8x2176x1, .f32⟩
  | 102 => ⟨S8x2176x1, .f32⟩
  | 103 => ⟨S8x2176x2176, .f32⟩
  | 104 => ⟨S8x2176x2176, .f32⟩
  | 105 => ⟨S_, .f32⟩
  | 106 => ⟨S8x2176, .f32⟩
  | 107 => ⟨S8x2176x2176, .f32⟩
  | 108 => ⟨S8x2176x2176, .f32⟩
  | 109 => ⟨S8x2176x2176, .f32⟩
  | 110 => ⟨S_, .f32⟩
  | 111 => ⟨S8x2176x2176, .f32⟩
  | 112 => ⟨S8x2176x2176, .f32⟩
  | 113 => ⟨S_, .f32⟩
  | 114 => ⟨S8x2176x2176, .f32⟩
  | 115 => ⟨S8x2176x2176, .f32⟩
  | 116 => ⟨S8x2176x256, .f32⟩
  | 117 => ⟨S8x2176x256, .f32⟩
  | 118 => ⟨S2176x8x256, .f32⟩
  | 119 => ⟨S2176x8x128, .f32⟩
  | 120 => ⟨S2176x8x128, .f32⟩
  | 121 => ⟨S_, .f32⟩
  | 122 => ⟨S2176x128, .f32⟩
  | 123 => ⟨S2176x1x128, .f32⟩
  | 124 => ⟨S_, .f32⟩
  | 125 => ⟨S2176x128, .f32⟩
  | 126 => ⟨S2176x8x256, .f32⟩
  | 127 => ⟨S2176x8x128, .f32⟩
  | _ => ⟨S2176x3072, .f32⟩

abbrev hbmTy0_1 (i : Nat) : BufTy := match i % 128 with
  | 0 => ⟨S2176x8x128, .f32⟩
  | 1 => ⟨S2176x8x1x128, .f32⟩
  | 2 => ⟨S_, .f32⟩
  | 3 => ⟨S2176x8x2x128, .f32⟩
  | 4 => ⟨S2176x8x1x128, .f32⟩
  | 5 => ⟨S_, .f32⟩
  | 6 => ⟨S2176x8x2x128, .f32⟩
  | 7 => ⟨S2176x8x2x128, .f32⟩
  | 8 => ⟨S2176x8x128, .f32⟩
  | 9 => ⟨S2176x8x128, .f32⟩
  | 10 => ⟨S2176x8x1x128, .f32⟩
  | 11 => ⟨S_, .f32⟩
  | 12 => ⟨S2176x8x3x128, .f32⟩
  | 13 => ⟨S2176x8x128, .f32⟩
  | 14 => ⟨S2176x8x128, .f32⟩
  | 15 => ⟨S2176x8x1x128, .f32⟩
  | 16 => ⟨S_, .f32⟩
  | 17 => ⟨S2176x8x3x128, .f32⟩
  | 18 => ⟨S2176x8x3x128, .f32⟩
  | 19 => ⟨S2176x8x1x128, .f32⟩
  | 20 => ⟨S_, .f32⟩
  | 21 => ⟨S2176x8x3x128, .f32⟩
  | 22 => ⟨S2176x8x3x128, .f32⟩
  | 23 => ⟨S2176x2048, .f32⟩
  | 24 => ⟨S2176x3072, .f32⟩
  | 25 => ⟨S2176x3072, .bf16⟩
  | _ => ⟨S2176x3072, .f32⟩

abbrev hbmTy (i : Nat) : BufTy := match i / 128 with
  | 0 => hbmTy0_0 i
  | 1 => hbmTy0_1 i
  | _ => ⟨S2176x3072, .f32⟩

abbrev bufTy : (tb : Table) → Fin (tcTables nBuf tb) → BufTy
  | .hbm, ⟨i, _⟩ => hbmTy i
  | _, _ => ⟨S2176x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_cst_0 : Ref sig .tc := ⟨.hbm, 41, rfl⟩
abbrev main_call0_v0 : Ref sig .tc := ⟨.hbm, 42, rfl⟩
abbrev main_v34_1 : Ref sig .tc := ⟨.hbm, 43, rfl⟩
abbrev main_call0_v2 : Ref sig .tc := ⟨.hbm, 44, rfl⟩
abbrev main_v34_0 : Ref sig .tc := ⟨.hbm, 45, rfl⟩
abbrev main_call0_cst : Ref sig .tc := ⟨.hbm, 46, rfl⟩
abbrev main_v34_2 : Ref sig .tc := ⟨.hbm, 47, rfl⟩
abbrev main_cst_1 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_2 : Ref sig .tc := ⟨.hbm, 54, rfl⟩
abbrev main_v40 : Ref sig .tc := ⟨.hbm, 55, rfl⟩
abbrev main_cst_3 : Ref sig .tc := ⟨.hbm, 56, rfl⟩
abbrev main_v41 : Ref sig .tc := ⟨.hbm, 57, rfl⟩
abbrev main_v42 : Ref sig .tc := ⟨.hbm, 58, rfl⟩
abbrev main_cst_4 : Ref sig .tc := ⟨.hbm, 59, rfl⟩
abbrev main_v43 : Ref sig .tc := ⟨.hbm, 60, rfl⟩
abbrev main_v44 : Ref sig .tc := ⟨.hbm, 61, rfl⟩
abbrev main_cst_5 : Ref sig .tc := ⟨.hbm, 62, rfl⟩
abbrev main_v45 : Ref sig .tc := ⟨.hbm, 63, rfl⟩
abbrev main_v46 : Ref sig .tc := ⟨.hbm, 64, rfl⟩
abbrev main_cst_6 : Ref sig .tc := ⟨.hbm, 65, rfl⟩
abbrev main_v47 : Ref sig .tc := ⟨.hbm, 66, rfl⟩
abbrev main_cst_7 : Ref sig .tc := ⟨.hbm, 67, rfl⟩
abbrev main_v48 : Ref sig .tc := ⟨.hbm, 68, rfl⟩
abbrev main_cst_8 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_10 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_cst_11 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_cst_12 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_call1_cst : Ref sig .tc := ⟨.hbm, 110, rfl⟩
abbrev main_call1_v0 : Ref sig .tc := ⟨.hbm, 111, rfl⟩
abbrev main_v85 : Ref sig .tc := ⟨.hbm, 112, rfl⟩
abbrev main_cst_13 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_cst_14 : Ref sig .tc := ⟨.hbm, 121, rfl⟩
abbrev main_v93 : Ref sig .tc := ⟨.hbm, 122, rfl⟩
abbrev main_v94 : Ref sig .tc := ⟨.hbm, 123, rfl⟩
abbrev main_cst_15 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_cst_16 : Ref sig .tc := ⟨.hbm, 130, rfl⟩
abbrev main_v100 : Ref sig .tc := ⟨.hbm, 131, rfl⟩
abbrev main_v101 : Ref sig .tc := ⟨.hbm, 132, rfl⟩
abbrev main_cst_17 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_cst_18 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_cst_19 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_cst_20 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩

abbrev nD : Nat := 1
abbrev τ : Topo := Topo.v7x

variable {F : FTy → Type} [FloatOps F]
-- ==== Kernel14.lean ====
abbrev S2176x3072 : Shape := ⟨2, ![2176, 3072]⟩
abbrev S2176x2048 : Shape := ⟨2, ![2176, 2048]⟩
abbrev S2176x128 : Shape := ⟨2, ![2176, 128]⟩
abbrev S2176x1024 : Shape := ⟨2, ![2176, 1024]⟩
abbrev S272x384 : Shape := ⟨2, ![272, 384]⟩
abbrev S2176x256 : Shape := ⟨2, ![2176, 256]⟩
abbrev S272x128 : Shape := ⟨2, ![272, 128]⟩
abbrev S272x272 : Shape := ⟨2, ![272, 272]⟩
abbrev S272x1 : Shape := ⟨2, ![272, 1]⟩
abbrev S272x256 : Shape := ⟨2, ![272, 256]⟩
abbrev S272 : Shape := ⟨1, ![272]⟩

abbrev nBuf : Space → Nat
  | .hbm => 6
  | .vmem => 11
  | .smem => 0
  | _ => 0

abbrev bufTy : (tb : Table) → Fin (tcTables nBuf tb) → BufTy
  | .hbm, ⟨0, _⟩ => ⟨S2176x3072, .f32⟩
  | .hbm, ⟨1, _⟩ => ⟨S2176x2048, .f32⟩
  | .hbm, ⟨2, _⟩ => ⟨S2176x128, .f32⟩
  | .hbm, ⟨3, _⟩ => ⟨S2176x128, .f32⟩
  | .hbm, ⟨4, _⟩ => ⟨S2176x128, .f32⟩
  | .hbm, ⟨5, _⟩ => ⟨S2176x1024, .bf16⟩
  | .local _ .vmem, ⟨0, _⟩ => ⟨S272x384, .f32⟩
  | .local _ .vmem, ⟨1, _⟩ => ⟨S272x384, .f32⟩
  | .local _ .vmem, ⟨2, _⟩ => ⟨S2176x256, .f32⟩
  | .local _ .vmem, ⟨3, _⟩ => ⟨S2176x256, .f32⟩
  | .local _ .vmem, ⟨4, _⟩ => ⟨S2176x128, .f32⟩
  | .local _ .vmem, ⟨5, _⟩ => ⟨S272x128, .f32⟩
  | .local _ .vmem, ⟨6, _⟩ => ⟨S272x128, .f32⟩
  | .local _ .vmem, ⟨7, _⟩ => ⟨S272x128, .f32⟩
  | .local _ .vmem, ⟨8, _⟩ => ⟨S272x128, .f32⟩
  | .local _ .vmem, ⟨9, _⟩ => ⟨S272x128, .bf16⟩
  | .local _ .vmem, ⟨10, _⟩ => ⟨S272x128, .bf16⟩
  | _, _ => ⟨S2176x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 8], ![false, false]⟩

@[reducible] def k0_t1_loop (i : grid0.Coords) : Scf.Loop 32 :=
  let c0_i32 : BitVec 32 := 0#32
  let arg1 : BitVec 32 := BitVec.ofNat 32 (i 1).val
  let c1_i32 : BitVec 32 := 1#32
  let v16 : BitVec 32 := Scalar.addi arg1 c1_i32
  let v17 : BitVec 32 := Scalar.subi v16 c0_i32
  let c1_i32_7 : BitVec 32 := 1#32
  let v19 : BitVec 32 := Scalar.divsi v17 c1_i32_7
  let v20 : BitVec 32 := Scalar.muli v19 c1_i32_7
  let v21 : BitVec 32 := Scalar.addi c0_i32 v20
  let c1_i32_8 : BitVec 32 := 1#32
  ⟨c0_i32, v21, c1_i32_8⟩
def k0_mult1 (i : grid0.Coords) (k0_t1 : Fin (k0_t1_loop i).trips) : BitVec 32 :=
  let c0_i32 : BitVec 32 := 0#32
  let c1_i32_8 : BitVec 32 := 1#32
  let arg8 : BitVec 32 := Scf.iv c0_i32 c1_i32_8 k0_t1
  let c272_i32_12 : BitVec 32 := 272#32
  let v28 : BitVec 32 := Scalar.muli arg8 c272_i32_12
  v28
def k0_off1 (i : grid0.Coords) (k0_t1 : Fin (k0_t1_loop i).trips) : Fin 2 → Nat :=
  let c0_i32 : BitVec 32 := 0#32
  let c1_i32_8 : BitVec 32 := 1#32
  let arg8 : BitVec 32 := Scf.iv c0_i32 c1_i32_8 k0_t1
  let c272_i32_12 : BitVec 32 := 272#32
  let v28 : BitVec 32 := Scalar.muli arg8 c272_i32_12
  let v29 : BitVec 32 := v28
  let v30 : Index := Scalar.indexCast v29
  let c0_13 : Index := 0#32
  ![v30.toNat, 0]
def k0_off2 (i : grid0.Coords) (k0_t1 : Fin (k0_t1_loop i).trips) : Fin 2 → Nat :=
  let c0_i32 : BitVec 32 := 0#32
  let c1_i32_8 : BitVec 32 := 1#32
  let arg8 : BitVec 32 := Scf.iv c0_i32 c1_i32_8 k0_t1
  let c272_i32_12 : BitVec 32 := 272#32
  let v28 : BitVec 32 := Scalar.muli arg8 c272_i32_12
  let v29 : BitVec 32 := v28
  let v36 : Index := Scalar.indexCast v29
  let c0_15 : Index := 0#32
  ![v36.toNat, 0]
@[reducible] def k0_t2_loop (i : grid0.Coords) : Scf.Loop 32 :=
  let c0_i32 : BitVec 32 := 0#32
  let arg1 : BitVec 32 := BitVec.ofNat 32 (i 1).val
  let c1_i32 : BitVec 32 := 1#32
  let v16 : BitVec 32 := Scalar.addi arg1 c1_i32
  let v17 : BitVec 32 := Scalar.subi v16 c0_i32
  let c1_i32_7 : BitVec 32 := 1#32
  let v19 : BitVec 32 := Scalar.divsi v17 c1_i32_7
  let v20 : BitVec 32 := Scalar.muli v19 c1_i32_7
  let v21 : BitVec 32 := Scalar.addi c0_i32 v20
  let v18 : BitVec 32 := Scalar.addi c0_i32 v17
  let c1_i32_9 : BitVec 32 := 1#32
  ⟨v21, v18, c1_i32_9⟩
def k0_mult2 (i : grid0.Coords) (k0_t2 : Fin (k0_t2_loop i).trips) : BitVec 32 :=
  let c0_i32 : BitVec 32 := 0#32
  let arg1 : BitVec 32 := BitVec.ofNat 32 (i 1).val
  let c1_i32 : BitVec 32 := 1#32
  let v16 : BitVec 32 := Scalar.addi arg1 c1_i32
  let v17 : BitVec 32 := Scalar.subi v16 c0_i32
  let c1_i32_7 : BitVec 32 := 1#32
  let v19 : BitVec 32 := Scalar.divsi v17 c1_i32_7
  let v20 : BitVec 32 := Scalar.muli v19 c1_i32_7
  let v21 : BitVec 32 := Scalar.addi c0_i32 v20
  let c1_i32_9 : BitVec 32 := 1#32
  let arg8 : BitVec 32 := Scf.iv v21 c1_i32_9 k0_t2
  let c272_i32_12 : BitVec 32 := 272#32
  let v28 : BitVec 32 := Scalar.muli arg8 c272_i32_12
  v28
def k0_off3 (i : grid0.Coords) (k0_t2 : Fin (k0_t2_loop i).trips) : Fin 2 → Nat :=
  let c0_i32 : BitVec 32 := 0#32
  let arg1 : BitVec 32 := BitVec.ofNat 32 (i 1).val
  let c1_i32 : BitVec 32 := 1#32
  let v16 : BitVec 32 := Scalar.addi arg1 c1_i32
  let v17 : BitVec 32 := Scalar.subi v16 c0_i32
  let c1_i32_7 : BitVec 32 := 1#32
  let v19 : BitVec 32 := Scalar.divsi v17 c1_i32_7
  let v20 : BitVec 32 := Scalar.muli v19 c1_i32_7
  let v21 : BitVec 32 := Scalar.addi c0_i32 v20
  let c1_i32_9 : BitVec 32 := 1#32
  let arg8 : BitVec 32 := Scf.iv v21 c1_i32_9 k0_t2
  let c272_i32_12 : BitVec 32 := 272#32
  let v28 : BitVec 32 := Scalar.muli arg8 c272_i32_12
  let v29 : BitVec 32 := v28
  let v30 : Index := Scalar.indexCast v29
  let c0_13 : Index := 0#32
  ![v30.toNat, 0]
def k0_off4 (i : grid0.Coords) (k0_t2 : Fin (k0_t2_loop i).trips) : Fin 2 → Nat :=
  let c0_i32 : BitVec 32 := 0#32
  let arg1 : BitVec 32 := BitVec.ofNat 32 (i 1).val
  let c1_i32 : BitVec 32 := 1#32
  let v16 : BitVec 32 := Scalar.addi arg1 c1_i32
  let v17 : BitVec 32 := Scalar.subi v16 c0_i32
  let c1_i32_7 : BitVec 32 := 1#32
  let v19 : BitVec 32 := Scalar.divsi v17 c1_i32_7
  let v20 : BitVec 32 := Scalar.muli v19 c1_i32_7
  let v21 : BitVec 32 := Scalar.addi c0_i32 v20
  let c1_i32_9 : BitVec 32 := 1#32
  let arg8 : BitVec 32 := Scf.iv v21 c1_i32_9 k0_t2
  let c272_i32_12 : BitVec 32 := 272#32
  let v28 : BitVec 32 := Scalar.muli arg8 c272_i32_12
  let v29 : BitVec 32 := v28
  let v36 : Index := Scalar.indexCast v29
  let c0_15 : Index := 0#32
  ![v36.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S272x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2176x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S2176x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S272x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S272x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S272x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Kernel14Ideal.lean ====
variable {F : FTy → Type} [FloatOps F] [Named F]
def κ : String → Option EReal := fun
  | "mask" => some ⊥
  | _ => none
-- ==== Reference14Ideal.lean ====
abbrev S2176x3072 : Shape := ⟨2, ![2176, 3072]⟩
abbrev S2176x2048 : Shape := ⟨2, ![2176, 2048]⟩
abbrev S2176x128 : Shape := ⟨2, ![2176, 128]⟩
abbrev S2176x8x3x128 : Shape := ⟨4, ![2176, 8, 3, 128]⟩
abbrev S2176x8x2x128 : Shape := ⟨4, ![2176, 8, 2, 128]⟩
abbrev S2176x8x1x128 : Shape := ⟨4, ![2176, 8, 1, 128]⟩
abbrev S2176x8x128 : Shape := ⟨3, ![2176, 8, 128]⟩
abbrev S2176x1x128 : Shape := ⟨3, ![2176, 1, 128]⟩
abbrev S2176x8x256 : Shape := ⟨3, ![2176, 8, 256]⟩
abbrev S8x2176x256 : Shape := ⟨3, ![8, 2176, 256]⟩
abbrev S8x2176x2176 : Shape := ⟨3, ![8, 2176, 2176]⟩
abbrev S_ : Shape := ⟨0, ![]⟩
abbrev S2176 : Shape := ⟨1, ![2176]⟩
abbrev S1x2176 : Shape := ⟨2, ![1, 2176]⟩
abbrev S2176x1 : Shape := ⟨2, ![2176, 1]⟩
abbrev S2176x2176 : Shape := ⟨2, ![2176, 2176]⟩
abbrev S8x2176 : Shape := ⟨2, ![8, 2176]⟩
abbrev S8x2176x1 : Shape := ⟨3, ![8, 2176, 1]⟩
abbrev S8x2176x128 : Shape := ⟨3, ![8, 2176, 128]⟩
abbrev S2176x1024 : Shape := ⟨2, ![2176, 1024]⟩

abbrev nBuf : Space → Nat
  | .hbm => 64
  | .vmem => 0
  | .smem => 0
  | _ => 0

abbrev bufTy : (tb : Table) → Fin (tcTables nBuf tb) → BufTy
  | .hbm, ⟨0, _⟩ => ⟨S2176x3072, .f32⟩
  | .hbm, ⟨1, _⟩ => ⟨S2176x2048, .f32⟩
  | .hbm, ⟨2, _⟩ => ⟨S2176x128, .f32⟩
  | .hbm, ⟨3, _⟩ => ⟨S2176x128, .f32⟩
  | .hbm, ⟨4, _⟩ => ⟨S2176x128, .f32⟩
  | .hbm, ⟨5, _⟩ => ⟨S2176x8x3x128, .f32⟩
  | .hbm, ⟨6, _⟩ => ⟨S2176x8x2x128, .f32⟩
  | .hbm, ⟨7, _⟩ => ⟨S2176x8x1x128, .f32⟩
  | .hbm, ⟨8, _⟩ => ⟨S2176x8x128, .f32⟩
  | .hbm, ⟨9, _⟩ => ⟨S2176x8x1x128, .f32⟩
  | .hbm, ⟨10, _⟩ => ⟨S2176x8x128, .f32⟩
  | .hbm, ⟨11, _⟩ => ⟨S2176x1x128, .f32⟩
  | .hbm, ⟨12, _⟩ => ⟨S2176x8x128, .f32⟩
  | .hbm, ⟨13, _⟩ => ⟨S2176x8x128, .f32⟩
  | .hbm, ⟨14, _⟩ => ⟨S2176x8x1x128, .f32⟩
  | .hbm, ⟨15, _⟩ => ⟨S2176x8x128, .f32⟩
  | .hbm, ⟨16, _⟩ => ⟨S2176x1x128, .f32⟩
  | .hbm, ⟨17, _⟩ => ⟨S2176x8x128, .f32⟩
  | .hbm, ⟨18, _⟩ => ⟨S2176x8x128, .f32⟩
  | .hbm, ⟨19, _⟩ => ⟨S2176x8x128, .f32⟩
  | .hbm, ⟨20, _⟩ => ⟨S2176x8x1x128, .f32⟩
  | .hbm, ⟨21, _⟩ => ⟨S2176x8x128, .f32⟩
  | .hbm, ⟨22, _⟩ => ⟨S2176x8x1x128, .f32⟩
  | .hbm, ⟨23, _⟩ => ⟨S2176x8x128, .f32⟩
  | .hbm, ⟨24, _⟩ => ⟨S2176x8x256, .f32⟩
  | .hbm, ⟨25, _⟩ => ⟨S8x2176x256, .f32⟩
  | .hbm, ⟨26, _⟩ => ⟨S2176x1x128, .f32⟩
  | .hbm, ⟨27, _⟩ => ⟨S2176x8x128, .f32⟩
  | .hbm, ⟨28, _⟩ => ⟨S2176x8x256, .f32⟩
  | .hbm, ⟨29, _⟩ => ⟨S8x2176x256, .f32⟩
  | .hbm, ⟨30, _⟩ => ⟨S8x2176x2176, .f32⟩
  | .hbm, ⟨31, _⟩ => ⟨S_, .f32⟩
  | .hbm, ⟨32, _⟩ => ⟨S8x2176x2176, .f32⟩
  | .hbm, ⟨33, _⟩ => ⟨S8x2176x2176, .f32⟩
  | .hbm, ⟨34, _⟩ => ⟨S2176, .i32⟩
  | .hbm, ⟨35, _⟩ => ⟨S1x2176, .i32⟩
  | .hbm, ⟨36, _⟩ => ⟨S2176x1, .i32⟩
  | .hbm, ⟨37, _⟩ => ⟨S2176x2176, .i32⟩
  | .hbm, ⟨38, _⟩ => ⟨S2176x2176, .i32⟩
  | .hbm, ⟨39, _⟩ => ⟨S2176x2176, .i1⟩
  | .hbm, ⟨40, _⟩ => ⟨S_, .f32⟩
  | .hbm, ⟨41, _⟩ => ⟨S_, .f32⟩
  | .hbm, ⟨42, _⟩ => ⟨S8x2176x2176, .i1⟩
  | .hbm, ⟨43, _⟩ => ⟨S8x2176x2176, .f32⟩
  | .hbm, ⟨44, _⟩ => ⟨S8x2176x2176, .f32⟩
  | .hbm, ⟨45, _⟩ => ⟨S_, .f32⟩
  | .hbm, ⟨46, _⟩ => ⟨S8x2176, .f32⟩
  | .hbm, ⟨47, _⟩ => ⟨S_, .f32⟩
  | .hbm, ⟨48, _⟩ => ⟨S8x2176, .f32⟩
  | .hbm, ⟨49, _⟩ => ⟨S8x2176, .f32⟩
  | .hbm, ⟨50, _⟩ => ⟨S8x2176x1, .f32⟩
  | .hbm, ⟨51, _⟩ => ⟨S8x2176x2176, .f32⟩
  | .hbm, ⟨52, _⟩ => ⟨S8x2176x2176, .f32⟩
  | .hbm, ⟨53, _⟩ => ⟨S8x2176x2176, .f32⟩
  | .hbm, ⟨54, _⟩ => ⟨S_, .f32⟩
  | .hbm, ⟨55, _⟩ => ⟨S8x2176, .f32⟩
  | .hbm, ⟨56, _⟩ => ⟨S8x2176x1, .f32⟩
  | .hbm, ⟨57, _⟩ => ⟨S8x2176x2176, .f32⟩
  | .hbm, ⟨58, _⟩ => ⟨S8x2176x2176, .f32⟩
  | .hbm, ⟨59, _⟩ => ⟨S8x2176x128, .f32⟩
  | .hbm, ⟨60, _⟩ => ⟨S8x2176x128, .f32⟩
  | .hbm, ⟨61, _⟩ => ⟨S2176x8x128, .f32⟩
  | .hbm, ⟨62, _⟩ => ⟨S2176x1024, .f32⟩
  | .hbm, ⟨63, _⟩ => ⟨S2176x1024, .bf16⟩
  | _, _ => ⟨S2176x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_cst : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_cst_0 : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_v34 : Ref sig .tc := ⟨.hbm, 44, rfl⟩
abbrev main_cst_1 : Ref sig .tc := ⟨.hbm, 45, rfl⟩
abbrev main_v35 : Ref sig .tc := ⟨.hbm, 46, rfl⟩
abbrev main_cst_2 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_3 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩

abbrev nD : Nat := 1
abbrev τ : Topo := Topo.v7x

variable {F : FTy → Type} [FloatOps F]
-- ==== Kernel17.lean ====
abbrev S2176x2048 : Shape := ⟨2, ![2176, 2048]⟩
abbrev S2048 : Shape := ⟨1, ![2048]⟩
abbrev S1x2048 : Shape := ⟨2, ![1, 2048]⟩
abbrev S128x2048 : Shape := ⟨2, ![128, 2048]⟩
abbrev S128 : Shape := ⟨1, ![128]⟩
abbrev S128x1 : Shape := ⟨2, ![128, 1]⟩

abbrev nBuf : Space → Nat
  | .hbm => 7
  | .vmem => 10
  | .smem => 0
  | _ => 0

abbrev bufTy : (tb : Table) → Fin (tcTables nBuf tb) → BufTy
  | .hbm, ⟨0, _⟩ => ⟨S2176x2048, .f32⟩
  | .hbm, ⟨1, _⟩ => ⟨S2048, .f32⟩
  | .hbm, ⟨2, _⟩ => ⟨S2176x2048, .f32⟩
  | .hbm, ⟨3, _⟩ => ⟨S2176x2048, .f32⟩
  | .hbm, ⟨4, _⟩ => ⟨S1x2048, .f32⟩
  | .hbm, ⟨5, _⟩ => ⟨S2176x2048, .f32⟩
  | .hbm, ⟨6, _⟩ => ⟨S1x2048, .f32⟩
  | .local _ .vmem, ⟨0, _⟩ => ⟨S128x2048, .f32⟩
  | .local _ .vmem, ⟨1, _⟩ => ⟨S128x2048, .f32⟩
  | .local _ .vmem, ⟨2, _⟩ => ⟨S1x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S1x2048, .f32⟩
  | _, _ => ⟨S2176x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨2, ![1, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]
-- ==== Reference17Ideal.lean ====
abbrev S2176x2048 : Shape := ⟨2, ![2176, 2048]⟩
abbrev S2048 : Shape := ⟨1, ![2048]⟩
abbrev S_ : Shape := ⟨0, ![]⟩
abbrev S2176 : Shape := ⟨1, ![2176]⟩
abbrev S2176x1 : Shape := ⟨2, ![2176, 1]⟩
abbrev S1x2048 : Shape := ⟨2, ![1, 2048]⟩

abbrev nBuf : Space → Nat
  | .hbm => 51
  | .vmem => 0
  | .smem => 0
  | _ => 0

abbrev bufTy : (tb : Table) → Fin (tcTables nBuf tb) → BufTy
  | .hbm, ⟨0, _⟩ => ⟨S2176x2048, .f32⟩
  | .hbm, ⟨1, _⟩ => ⟨S2048, .f32⟩
  | .hbm, ⟨2, _⟩ => ⟨S2176x2048, .f32⟩
  | .hbm, ⟨3, _⟩ => ⟨S2176x2048, .f32⟩
  | .hbm, ⟨4, _⟩ => ⟨S2176x2048, .f32⟩
  | .hbm, ⟨5, _⟩ => ⟨S_, .f32⟩
  | .hbm, ⟨6, _⟩ => ⟨S2176, .f32⟩
  | .hbm, ⟨7, _⟩ => ⟨S2176x1, .f32⟩
  | .hbm, ⟨8, _⟩ => ⟨S_, .f32⟩
  | .hbm, ⟨9, _⟩ => ⟨S2176x1, .f32⟩
  | .hbm, ⟨10, _⟩ => ⟨S2176x1, .f32⟩
  | .hbm, ⟨11, _⟩ => ⟨S_, .f32⟩
  | .hbm, ⟨12, _⟩ => ⟨S2176x1, .f32⟩
  | .hbm, ⟨13, _⟩ => ⟨S2176x1, .f32⟩
  | .hbm, ⟨14, _⟩ => ⟨S2176x1, .f32⟩
  | .hbm, ⟨15, _⟩ => ⟨S2176x1, .f32⟩
  | .hbm, ⟨16, _⟩ => ⟨S_, .f32⟩
  | .hbm, ⟨17, _⟩ => ⟨S2176x1, .f32⟩
  | .hbm, ⟨18, _⟩ => ⟨S2176x1, .f32⟩
  | .hbm, ⟨19, _⟩ => ⟨S2176x2048, .f32⟩
  | .hbm, ⟨20, _⟩ => ⟨S2176x2048, .f32⟩
  | .hbm, ⟨21, _⟩ => ⟨S1x2048, .f32⟩
  | .hbm, ⟨22, _⟩ => ⟨S2176x2048, .f32⟩
  | .hbm, ⟨23, _⟩ => ⟨S2176x2048, .f32⟩
  | .hbm, ⟨24, _⟩ => ⟨S2176x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S2176x2048, .f32⟩
  | .hbm, ⟨29, _⟩ => ⟨S2176x2048, .f32⟩
  | .hbm, ⟨30, _⟩ => ⟨S_, .f32⟩
  | .hbm, ⟨31, _⟩ => ⟨S2048, .f32⟩
  | .hbm, ⟨32, _⟩ => ⟨S2176x2048, .f32⟩
  | .hbm, ⟨33, _⟩ => ⟨S_, .f32⟩
  | .hbm, ⟨34, _⟩ => ⟨S2176, .f32⟩
  | .hbm, ⟨35, _⟩ => ⟨S2176x1, .f32⟩
  | .hbm, ⟨36, _⟩ => ⟨S2176x2048, .f32⟩
  | .hbm, ⟨37, _⟩ => ⟨S2176x2048, .f32⟩
  | .hbm, ⟨38, _⟩ => ⟨S2176x2048, .f32⟩
  | .hbm, ⟨39, _⟩ => ⟨S2176x1, .f32⟩
  | .hbm, ⟨40, _⟩ => ⟨S_, .f32⟩
  | .hbm, ⟨41, _⟩ => ⟨S2176x1, .f32⟩
  | .hbm, ⟨42, _⟩ => ⟨S2176x1, .f32⟩
  | .hbm, ⟨43, _⟩ => ⟨S_, .f32⟩
  | .hbm, ⟨44, _⟩ => ⟨S2176, .f32⟩
  | .hbm, ⟨45, _⟩ => ⟨S2176x2048, .f32⟩
  | .hbm, ⟨46, _⟩ => ⟨S2176x2048, .f32⟩
  | .hbm, ⟨47, _⟩ => ⟨S2176x2048, .f32⟩
  | .hbm, ⟨48, _⟩ => ⟨S2176x2048, .f32⟩
  | .hbm, ⟨49, _⟩ => ⟨S2176x2048, .f32⟩
  | .hbm, ⟨50, _⟩ => ⟨S1x2048, .f32⟩
  | _, _ => ⟨S2176x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Kernel16.lean ====
abbrev S2176x2048 : Shape := ⟨2, ![2176, 2048]⟩
abbrev S2048 : Shape := ⟨1, ![2048]⟩
abbrev S1x2048 : Shape := ⟨2, ![1, 2048]⟩
abbrev S128x2048 : Shape := ⟨2, ![128, 2048]⟩
abbrev S128 : Shape := ⟨1, ![128]⟩
abbrev S128x1 : Shape := ⟨2, ![128, 1]⟩

abbrev nBuf : Space → Nat
  | .hbm => 12
  | .vmem => 16
  | .smem => 0
  | _ => 0

abbrev bufTy : (tb : Table) → Fin (tcTables nBuf tb) → BufTy
  | .hbm, ⟨0, _⟩ => ⟨S2176x2048, .f32⟩
  | .hbm, ⟨1, _⟩ => ⟨S2176x2048, .f32⟩
  | .hbm, ⟨2, _⟩ => ⟨S2048, .f32⟩
  | .hbm, ⟨3, _⟩ => ⟨S2048, .f32⟩
  | .hbm, ⟨4, _⟩ => ⟨S2176x2048, .f32⟩
  | .hbm, ⟨5, _⟩ => ⟨S2176x2048, .f32⟩
  | .hbm, ⟨6, _⟩ => ⟨S1x2048, .f32⟩
  | .hbm, ⟨7, _⟩ => ⟨S1x2048, .f32⟩
  | .hbm, ⟨8, _⟩ => ⟨S2176x2048, .f32⟩
  | .hbm, ⟨9, _⟩ => ⟨S2176x2048, .bf16⟩
  | .hbm, ⟨10, _⟩ => ⟨S1x2048, .f32⟩
  | .hbm, ⟨11, _⟩ => ⟨S1x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S1x2048, .f32⟩
  | .local _ .vmem, ⟨5, _⟩ => ⟨S1x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .bf16⟩
  | .local _ .vmem, ⟨13, _⟩ => ⟨S128x2048, .bf16⟩
  | .local _ .vmem, ⟨14, _⟩ => ⟨S1x2048, .f32⟩
  | .local _ .vmem, ⟨15, _⟩ => ⟨S1x2048, .f32⟩
  | _, _ => ⟨S2176x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨2, ![1, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S128x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== Reference16Ideal.lean ====
abbrev S2176x2048 : Shape := ⟨2, ![2176, 2048]⟩
abbrev S2048 : Shape := ⟨1, ![2048]⟩
abbrev S_ : Shape := ⟨0, ![]⟩
abbrev S2176 : Shape := ⟨1, ![2176]⟩
abbrev S2176x1 : Shape := ⟨2, ![2176, 1]⟩
abbrev S1x2048 : Shape := ⟨2, ![1, 2048]⟩

abbrev nBuf : Space → Nat
  | .hbm => 102
  | .vmem => 0
  | .smem => 0
  | _ => 0

abbrev bufTy : (tb : Table) → Fin (tcTables nBuf tb) → BufTy
  | .hbm, ⟨0, _⟩ => ⟨S2176x2048, .f32⟩
  | .hbm, ⟨1, _⟩ => ⟨S2176x2048, .f32⟩
  | .hbm, ⟨2, _⟩ => ⟨S2048, .f32⟩
  | .hbm, ⟨3, _⟩ => ⟨S2048, .f32⟩
  | .hbm, ⟨4, _⟩ => ⟨S2176x2048, .f32⟩
  | .hbm, ⟨5, _⟩ => ⟨S2176x2048, .f32⟩
  | .hbm, ⟨6, _⟩ => ⟨S2176x2048, .f32⟩
  | .hbm, ⟨7, _⟩ => ⟨S_, .f32⟩
  | .hbm, ⟨8, _⟩ => ⟨S2176, .f32⟩
  | .hbm, ⟨9, _⟩ => ⟨S2176x1, .f32⟩
  | .hbm, ⟨10, _⟩ => ⟨S_, .f32⟩
  | .hbm, ⟨11, _⟩ => ⟨S2176x1, .f32⟩
  | .hbm, ⟨12, _⟩ => ⟨S2176x1, .f32⟩
  | .hbm, ⟨13, _⟩ => ⟨S_, .f32⟩
  | .hbm, ⟨14, _⟩ => ⟨S2176x1, .f32⟩
  | .hbm, ⟨15, _⟩ => ⟨S2176x1, .f32⟩
  | .hbm, ⟨16, _⟩ => ⟨S2176x1, .f32⟩
  | .hbm, ⟨17, _⟩ => ⟨S2176x1, .f32⟩
  | .hbm, ⟨18, _⟩ => ⟨S_, .f32⟩
  | .hbm, ⟨19, _⟩ => ⟨S2176x1, .f32⟩
  | .hbm, ⟨20, _⟩ => ⟨S2176x1, .f32⟩
  | .hbm, ⟨21, _⟩ => ⟨S2176x2048, .f32⟩
  | .hbm, ⟨22, _⟩ => ⟨S2176x2048, .f32⟩
  | .hbm, ⟨23, _⟩ => ⟨S1x2048, .f32⟩
  | .hbm, ⟨24, _⟩ => ⟨S2176x2048, .f32⟩
  | .hbm, ⟨25, _⟩ => ⟨S2176x2048, .f32⟩
  | .hbm, ⟨26, _⟩ => ⟨S2176x2048, .f32⟩
  | .hbm, ⟨27, _⟩ => ⟨S2176x2048, .f32⟩
  | .hbm, ⟨28, _⟩ => ⟨S_, .f32⟩
  | .hbm, ⟨29, _⟩ => ⟨S2176, .f32⟩
  | .hbm, ⟨30, _⟩ => ⟨S2176x1, .f32⟩
  | .hbm, ⟨31, _⟩ => ⟨S_, .f32⟩
  | .hbm, ⟨32, _⟩ => ⟨S2176x1, .f32⟩
  | .hbm, ⟨33, _⟩ => ⟨S2176x1, .f32⟩
  | .hbm, ⟨34, _⟩ => ⟨S_, .f32⟩
  | .hbm, ⟨35, _⟩ => ⟨S2176x1, .f32⟩
  | .hbm, ⟨36, _⟩ => ⟨S2176x1, .f32⟩
  | .hbm, ⟨37, _⟩ => ⟨S2176x1, .f32⟩
  | .hbm, ⟨38, _⟩ => ⟨S2176x1, .f32⟩
  | .hbm, ⟨39, _⟩ => ⟨S_, .f32⟩
  | .hbm, ⟨40, _⟩ => ⟨S2176x1, .f32⟩
  | .hbm, ⟨41, _⟩ => ⟨S2176x1, .f32⟩
  | .hbm, ⟨42, _⟩ => ⟨S2176x2048, .f32⟩
  | .hbm, ⟨43, _⟩ => ⟨S2176x2048, .f32⟩
  | .hbm, ⟨44, _⟩ => ⟨S1x2048, .f32⟩
  | .hbm, ⟨45, _⟩ => ⟨S2176x2048, .f32⟩
  | .hbm, ⟨46, _⟩ => ⟨S2176x2048, .f32⟩
  | .hbm, ⟨47, _⟩ => ⟨S2176x2048, .f32⟩
  | .hbm, ⟨48, _⟩ => ⟨S_, .f32⟩
  | .hbm, ⟨49, _⟩ => ⟨S2048, .f32⟩
  | .hbm, ⟨50, _⟩ => ⟨S1x2048, .f32⟩
  | .hbm, ⟨51, _⟩ => ⟨S2176x2048, .f32⟩
  | .hbm, ⟨52, _⟩ => ⟨S2176x2048, .f32⟩
  | .hbm, ⟨53, _⟩ => ⟨S_, .f32⟩
  | .hbm, ⟨54, _⟩ => ⟨S2048, .f32⟩
  | .hbm, ⟨55, _⟩ => ⟨S2176x2048, .f32⟩
  | .hbm, ⟨56, _⟩ => ⟨S_, .f32⟩
  | .hbm, ⟨57, _⟩ => ⟨S2176, .f32⟩
  | .hbm, ⟨58, _⟩ => ⟨S2176x1, .f32⟩
  | .hbm, ⟨59, _⟩ => ⟨S2176x2048, .f32⟩
  | .hbm, ⟨60, _⟩ => ⟨S2176x2048, .f32⟩
  | .hbm, ⟨61, _⟩ => ⟨S2176x2048, .f32⟩
  | .hbm, ⟨62, _⟩ => ⟨S2176x1, .f32⟩
  | .hbm, ⟨63, _⟩ => ⟨S_, .f32⟩
  | .hbm, ⟨64, _⟩ => ⟨S2176x1, .f32⟩
  | .hbm, ⟨65, _⟩ => ⟨S2176x1, .f32⟩
  | .hbm, ⟨66, _⟩ => ⟨S_, .f32⟩
  | .hbm, ⟨67, _⟩ => ⟨S2176, .f32⟩
  | .hbm, ⟨68, _⟩ => ⟨S2176x2048, .f32⟩
  | .hbm, ⟨69, _⟩ => ⟨S2176x2048, .f32⟩
  | .hbm, ⟨70, _⟩ => ⟨S2176x2048, .f32⟩
  | .hbm, ⟨71, _⟩ => ⟨S2176x2048, .f32⟩
  | .hbm, ⟨72, _⟩ => ⟨S2176x2048, .f32⟩
  | .hbm, ⟨73, _⟩ => ⟨S2176x2048, .f32⟩
  | .hbm, ⟨74, _⟩ => ⟨S2176x2048, .f32⟩
  | .hbm, ⟨75, _⟩ => ⟨S_, .f32⟩
  | .hbm, ⟨76, _⟩ => ⟨S2048, .f32⟩
  | .hbm, ⟨77, _⟩ => ⟨S1x2048, .f32⟩
  | .hbm, ⟨78, _⟩ => ⟨S2176x2048, .f32⟩
  | .hbm, ⟨79, _⟩ => ⟨S2176x2048, .f32⟩
  | .hbm, ⟨80, _⟩ => ⟨S_, .f32⟩
  | .hbm, ⟨81, _⟩ => ⟨S2048, .f32⟩
  | .hbm, ⟨82, _⟩ => ⟨S2176x2048, .f32⟩
  | .hbm, ⟨83, _⟩ => ⟨S_, .f32⟩
  | .hbm, ⟨84, _⟩ => ⟨S2176, .f32⟩
  | .hbm, ⟨85, _⟩ => ⟨S2176x1, .f32⟩
  | .hbm, ⟨86, _⟩ => ⟨S2176x2048, .f32⟩
  | .hbm, ⟨87, _⟩ => ⟨S2176x2048, .f32⟩
  | .hbm, ⟨88, _⟩ => ⟨S2176x1, .f32⟩
  | .hbm, ⟨89, _⟩ => ⟨S_, .f32⟩
  | .hbm, ⟨90, _⟩ => ⟨S2176x1, .f32⟩
  | .hbm, ⟨91, _⟩ => ⟨S2176x1, .f32⟩
  | .hbm, ⟨92, _⟩ => ⟨S_, .f32⟩
  | .hbm, ⟨93, _⟩ => ⟨S2176, .f32⟩
  | .hbm, ⟨94, _⟩ => ⟨S2176x2048, .f32⟩
  | .hbm, ⟨95, _⟩ => ⟨S2176x2048, .f32⟩
  | .hbm, ⟨96, _⟩ => ⟨S2176x2048, .f32⟩
  | .hbm, ⟨97, _⟩ => ⟨S2176x2048, .f32⟩
  | .hbm, ⟨98, _⟩ => ⟨S2176x2048, .f32⟩
  | .hbm, ⟨99, _⟩ => ⟨S2176x2048, .bf16⟩
  | .hbm, ⟨100, _⟩ => ⟨S1x2048, .f32⟩
  | .hbm, ⟨101, _⟩ => ⟨S1x2048, .f32⟩
  | _, _ => ⟨S2176x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_6 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_8 : Ref sig .tc := ⟨.hbm, 53, rfl⟩
abbrev main_v38 : Ref sig .tc := ⟨.hbm, 54, rfl⟩
abbrev main_v39 : Ref sig .tc := ⟨.hbm, 55, rfl⟩
abbrev main_cst_9 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_10 : Ref sig .tc := ⟨.hbm, 63, rfl⟩
abbrev main_v46 : Ref sig .tc := ⟨.hbm, 64, rfl⟩
abbrev main_v47 : Ref sig .tc := ⟨.hbm, 65, rfl⟩
abbrev main_cst_11 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_12 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_13 : Ref sig .tc := ⟨.hbm, 80, rfl⟩
abbrev main_v60 : Ref sig .tc := ⟨.hbm, 81, rfl⟩
abbrev main_v61 : Ref sig .tc := ⟨.hbm, 82, rfl⟩
abbrev main_cst_14 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_15 : Ref sig .tc := ⟨.hbm, 89, rfl⟩
abbrev main_v67 : Ref sig .tc := ⟨.hbm, 90, rfl⟩
abbrev main_v68 : Ref sig .tc := ⟨.hbm, 91, rfl⟩
abbrev main_cst_16 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩

abbrev nD : Nat := 1
abbrev τ : Topo := Topo.v7x

variable {F : FTy → Type} [FloatOps F]
-- ==== Kernel18.lean ====
abbrev S2176x13824 : Shape := ⟨2, ![2176, 13824]⟩
abbrev S512 : Shape := ⟨1, ![512]⟩
abbrev S2176x128 : Shape := ⟨2, ![2176, 128]⟩
abbrev S2176x512 : Shape := ⟨2, ![2176, 512]⟩
abbrev S1x512 : Shape := ⟨2, ![1, 512]⟩
abbrev S128x512 : Shape := ⟨2, ![128, 512]⟩
abbrev S128x128 : Shape := ⟨2, ![128, 128]⟩
abbrev S128 : Shape := ⟨1, ![128]⟩
abbrev S128x1 : Shape := ⟨2, ![128, 1]⟩

abbrev nBuf : Space → Nat
  | .hbm => 16
  | .vmem => 30
  | .smem => 0
  | _ => 0

abbrev bufTy : (tb : Table) → Fin (tcTables nBuf tb) → BufTy
  | .hbm, ⟨0, _⟩ => ⟨S2176x13824, .f32⟩
  | .hbm, ⟨1, _⟩ => ⟨S512, .f32⟩
  | .hbm, ⟨2, _⟩ => ⟨S512, .f32⟩
  | .hbm, ⟨3, _⟩ => ⟨S2176x128, .f32⟩
  | .hbm, ⟨4, _⟩ => ⟨S2176x128, .f32⟩
  | .hbm, ⟨5, _⟩ => ⟨S2176x512, .f32⟩
  | .hbm, ⟨6, _⟩ => ⟨S2176x512, .f32⟩
  | .hbm, ⟨7, _⟩ => ⟨S2176x128, .f32⟩
  | .hbm, ⟨8, _⟩ => ⟨S1x512, .f32⟩
  | .hbm, ⟨9, _⟩ => ⟨S1x512, .f32⟩
  | .hbm, ⟨10, _⟩ => ⟨S2176x512, .bf16⟩
  | .hbm, ⟨11, _⟩ => ⟨S2176x512, .bf16⟩
  | .hbm, ⟨12, _⟩ => ⟨S2176x128, .bf16⟩
  | .hbm, ⟨13, _⟩ => ⟨S2176x128, .bf16⟩
  | .hbm, ⟨14, _⟩ => ⟨S1x512, .f32⟩
  | .hbm, ⟨15, _⟩ => ⟨S1x512, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S1x512, .f32⟩
  | .local _ .vmem, ⟨9, _⟩ => ⟨S1x512, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | .local _ .vmem, ⟨14, _⟩ => ⟨S128x512, .f32⟩
  | .local _ .vmem, ⟨15, _⟩ => ⟨S128x512, .f32⟩
  | .local _ .vmem, ⟨16, _⟩ => ⟨S128x512, .f32⟩
  | .local _ .vmem, ⟨17, _⟩ => ⟨S128x512, .f32⟩
  | .local _ .vmem, ⟨18, _⟩ => ⟨S128x128, .f32⟩
  | .local _ .vmem, ⟨19, _⟩ => ⟨S128x128, .f32⟩
  | .local _ .vmem, ⟨20, _⟩ => ⟨S128x512, .bf16⟩
  | .local _ .vmem, ⟨21, _⟩ => ⟨S128x512, .bf16⟩
  | .local _ .vmem, ⟨22, _⟩ => ⟨S128x512, .bf16⟩
  | .local _ .vmem, ⟨23, _⟩ => ⟨S128x512, .bf16⟩
  | .local _ .vmem, ⟨24, _⟩ => ⟨S128x128, .bf16⟩
  | .local _ .vmem, ⟨25, _⟩ => ⟨S128x128, .bf16⟩
  | .local _ .vmem, ⟨26, _⟩ => ⟨S128x128, .bf16⟩
  | .local _ .vmem, ⟨27, _⟩ => ⟨S128x128, .bf16⟩
  | .local _ .vmem, ⟨28, _⟩ => ⟨S1x512, .f32⟩
  | .local _ .vmem, ⟨29, _⟩ => ⟨S1x512, .f32⟩
  | _, _ => ⟨S2176x13824, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev main_v2_3 : Ref sig .tc := ⟨.hbm, 13, rfl⟩
abbrev main_v2_4 : Ref sig .tc := ⟨.hbm, 14, rfl⟩
abbrev main_v2_5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg16_0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem16_0 : DmaSem sig := 29

abbrev nD : Nat := 1
abbrev τ : Topo := Topo.v7x

variable {F : FTy → Type} [FloatOps F]

abbrev grid0 : Pipeline.Grid := ⟨2, ![1, 17], ![false, false]⟩

def cc0_transform_0 (i : grid0.Coords) : Fin 2 → Nat :=
  let arg0 : BitVec 32 := BitVec.ofNat 32 (i 0).val
  let arg1 : BitVec 32 := BitVec.ofNat 32 (i 1).val
  let c24_i32 : BitVec 32 := 24#32
  let c0_i32 : BitVec 32 := 0#32
  ![arg1.toNat, c24_i32.toNat]

def cc0_transform_1 (i : grid0.Coords) : Fin 2 → Nat :=
  let arg0 : BitVec 32 := BitVec.ofNat 32 (i 0).val
  let arg1 : BitVec 32 := BitVec.ofNat 32 (i 1).val
  let c25_i32 : BitVec 32 := 25#32
  let c0_i32 : BitVec 32 := 0#32
  ![arg1.toNat, c25_i32.toNat]

def cc0_transform_2 (i : grid0.Coords) : Fin 2 → Nat :=
  let arg0 : BitVec 32 := BitVec.ofNat 32 (i 0).val
  let arg1 : BitVec 32 := BitVec.ofNat 32 (i 1).val
  let c104_i32 : BitVec 32 := 104#32
  let c0_i32 : BitVec 32 := 0#32
  ![arg1.toNat, c104_i32.toNat]

def cc0_transform_3 (i : grid0.Coords) : Fin 2 → Nat :=
  let arg0 : BitVec 32 := BitVec.ofNat 32 (i 0).val
  let arg1 : BitVec 32 := BitVec.ofNat 32 (i 1).val
  let c105_i32 : BitVec 32 := 105#32
  let c0_i32 : BitVec 32 := 0#32
  ![arg1.toNat, c105_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S128x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S128x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S128x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S128x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S128x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]
-- ==== Reference18Ideal.lean ====
abbrev S2176x13824 : Shape := ⟨2, ![2176, 13824]⟩
abbrev S512 : Shape := ⟨1, ![512]⟩
abbrev S2176x128 : Shape := ⟨2, ![2176, 128]⟩
abbrev S2176x512 : Shape := ⟨2, ![2176, 512]⟩
abbrev S_ : Shape := ⟨0, ![]⟩
abbrev S2176 : Shape := ⟨1, ![2176]⟩
abbrev S2176x1 : Shape := ⟨2, ![2176, 1]⟩
abbrev S1x512 : Shape := ⟨2, ![1, 512]⟩

abbrev nBuf : Space → Nat
  | .hbm => 115
  | .vmem => 0
  | .smem => 0
  | _ => 0

abbrev bufTy : (tb : Table) → Fin (tcTables nBuf tb) → BufTy
  | .hbm, ⟨0, _⟩ => ⟨S2176x13824, .f32⟩
  | .hbm, ⟨1, _⟩ => ⟨S512, .f32⟩
  | .hbm, ⟨2, _⟩ => ⟨S512, .f32⟩
  | .hbm, ⟨3, _⟩ => ⟨S2176x128, .f32⟩
  | .hbm, ⟨4, _⟩ => ⟨S2176x128, .f32⟩
  | .hbm, ⟨5, _⟩ => ⟨S2176x512, .f32⟩
  | .hbm, ⟨6, _⟩ => ⟨S2176x512, .f32⟩
  | .hbm, ⟨7, _⟩ => ⟨S2176x128, .f32⟩
  | .hbm, ⟨8, _⟩ => ⟨S2176x512, .f32⟩
  | .hbm, ⟨9, _⟩ => ⟨S2176x512, .f32⟩
  | .hbm, ⟨10, _⟩ => ⟨S2176x128, .f32⟩
  | .hbm, ⟨11, _⟩ => ⟨S2176x128, .f32⟩
  | .hbm, ⟨12, _⟩ => ⟨S2176x512, .f32⟩
  | .hbm, ⟨13, _⟩ => ⟨S_, .f32⟩
  | .hbm, ⟨14, _⟩ => ⟨S2176, .f32⟩
  | .hbm, ⟨15, _⟩ => ⟨S2176x1, .f32⟩
  | .hbm, ⟨16, _⟩ => ⟨S_, .f32⟩
  | .hbm, ⟨17, _⟩ => ⟨S2176x1, .f32⟩
  | .hbm, ⟨18, _⟩ => ⟨S2176x1, .f32⟩
  | .hbm, ⟨19, _⟩ => ⟨S_, .f32⟩
  | .hbm, ⟨20, _⟩ => ⟨S2176x1, .f32⟩
  | .hbm, ⟨21, _⟩ => ⟨S2176x1, .f32⟩
  | .hbm, ⟨22, _⟩ => ⟨S2176x1, .f32⟩
  | .hbm, ⟨23, _⟩ => ⟨S2176x1, .f32⟩
  | .hbm, ⟨24, _⟩ => ⟨S_, .f32⟩
  | .hbm, ⟨25, _⟩ => ⟨S2176x1, .f32⟩
  | .hbm, ⟨26, _⟩ => ⟨S2176x1, .f32⟩
  | .hbm, ⟨27, _⟩ => ⟨S2176x512, .f32⟩
  | .hbm, ⟨28, _⟩ => ⟨S2176x512, .f32⟩
  | .hbm, ⟨29, _⟩ => ⟨S1x512, .f32⟩
  | .hbm, ⟨30, _⟩ => ⟨S2176x512, .f32⟩
  | .hbm, ⟨31, _⟩ => ⟨S2176x512, .f32⟩
  | .hbm, ⟨32, _⟩ => ⟨S2176x512, .f32⟩
  | .hbm, ⟨33, _⟩ => ⟨S_, .f32⟩
  | .hbm, ⟨34, _⟩ => ⟨S2176, .f32⟩
  | .hbm, ⟨35, _⟩ => ⟨S2176x1, .f32⟩
  | .hbm, ⟨36, _⟩ => ⟨S_, .f32⟩
  | .hbm, ⟨37, _⟩ => ⟨S2176x1, .f32⟩
  | .hbm, ⟨38, _⟩ => ⟨S2176x1, .f32⟩
  | .hbm, ⟨39, _⟩ => ⟨S_, .f32⟩
  | .hbm, ⟨40, _⟩ => ⟨S2176x1, .f32⟩
  | .hbm, ⟨41, _⟩ => ⟨S2176x1, .f32⟩
  | .hbm, ⟨42, _⟩ => ⟨S2176x1, .f32⟩
  | .hbm, ⟨43, _⟩ => ⟨S2176x1, .f32⟩
  | .hbm, ⟨44, _⟩ => ⟨S_, .f32⟩
  | .hbm, ⟨45, _⟩ => ⟨S2176x1, .f32⟩
  | .hbm, ⟨46, _⟩ => ⟨S2176x1, .f32⟩
  | .hbm, ⟨47, _⟩ => ⟨S2176x512, .f32⟩
  | .hbm, ⟨48, _⟩ => ⟨S2176x512, .f32⟩
  | .hbm, ⟨49, _⟩ => ⟨S1x512, .f32⟩
  | .hbm, ⟨50, _⟩ => ⟨S2176x512, .f32⟩
  | .hbm, ⟨51, _⟩ => ⟨S2176x512, .f32⟩
  | .hbm, ⟨52, _⟩ => ⟨S2176x128, .f32⟩
  | .hbm, ⟨53, _⟩ => ⟨S2176x128, .f32⟩
  | .hbm, ⟨54, _⟩ => ⟨S2176x128, .f32⟩
  | .hbm, ⟨55, _⟩ => ⟨S2176x128, .f32⟩
  | .hbm, ⟨56, _⟩ => ⟨S2176x128, .f32⟩
  | .hbm, ⟨57, _⟩ => ⟨S2176x128, .f32⟩
  | .hbm, ⟨58, _⟩ => ⟨S2176x128, .f32⟩
  | .hbm, ⟨59, _⟩ => ⟨S2176x512, .f32⟩
  | .hbm, ⟨60, _⟩ => ⟨S_, .f32⟩
  | .hbm, ⟨61, _⟩ => ⟨S512, .f32⟩
  | .hbm, ⟨62, _⟩ => ⟨S1x512, .f32⟩
  | .hbm, ⟨63, _⟩ => ⟨S2176x512, .f32⟩
  | .hbm, ⟨64, _⟩ => ⟨S2176x512, .f32⟩
  | .hbm, ⟨65, _⟩ => ⟨S_, .f32⟩
  | .hbm, ⟨66, _⟩ => ⟨S512, .f32⟩
  | .hbm, ⟨67, _⟩ => ⟨S2176x512, .f32⟩
  | .hbm, ⟨68, _⟩ => ⟨S_, .f32⟩
  | .hbm, ⟨69, _⟩ => ⟨S2176, .f32⟩
  | .hbm, ⟨70, _⟩ => ⟨S2176x1, .f32⟩
  | .hbm, ⟨71, _⟩ => ⟨S2176x512, .f32⟩
  | .hbm, ⟨72, _⟩ => ⟨S2176x512, .f32⟩
  | .hbm, ⟨73, _⟩ => ⟨S2176x1, .f32⟩
  | .hbm, ⟨74, _⟩ => ⟨S_, .f32⟩
  | .hbm, ⟨75, _⟩ => ⟨S2176x1, .f32⟩
  | .hbm, ⟨76, _⟩ => ⟨S2176x1, .f32⟩
  | .hbm, ⟨77, _⟩ => ⟨S_, .f32⟩
  | .hbm, ⟨78, _⟩ => ⟨S2176, .f32⟩
  | .hbm, ⟨79, _⟩ => ⟨S2176x512, .f32⟩
  | .hbm, ⟨80, _⟩ => ⟨S2176x512, .f32⟩
  | .hbm, ⟨81, _⟩ => ⟨S2176x512, .f32⟩
  | .hbm, ⟨82, _⟩ => ⟨S2176x512, .f32⟩
  | .hbm, ⟨83, _⟩ => ⟨S2176x512, .f32⟩
  | .hbm, ⟨84, _⟩ => ⟨S2176x512, .f32⟩
  | .hbm, ⟨85, _⟩ => ⟨S_, .f32⟩
  | .hbm, ⟨86, _⟩ => ⟨S512, .f32⟩
  | .hbm, ⟨87, _⟩ => ⟨S1x512, .f32⟩
  | .hbm, ⟨88, _⟩ => ⟨S2176x512, .f32⟩
  | .hbm, ⟨89, _⟩ => ⟨S2176x512, .f32⟩
  | .hbm, ⟨90, _⟩ => ⟨S_, .f32⟩
  | .hbm, ⟨91, _⟩ => ⟨S512, .f32⟩
  | .hbm, ⟨92, _⟩ => ⟨S2176x512, .f32⟩
  | .hbm, ⟨93, _⟩ => ⟨S_, .f32⟩
  | .hbm, ⟨94, _⟩ => ⟨S2176, .f32⟩
  | .hbm, ⟨95, _⟩ => ⟨S2176x1, .f32⟩
  | .hbm, ⟨96, _⟩ => ⟨S2176x512, .f32⟩
  | .hbm, ⟨97, _⟩ => ⟨S2176x512, .f32⟩
  | .hbm, ⟨98, _⟩ => ⟨S2176x1, .f32⟩
  | .hbm, ⟨99, _⟩ => ⟨S_, .f32⟩
  | .hbm, ⟨100, _⟩ => ⟨S2176x1, .f32⟩
  | .hbm, ⟨101, _⟩ => ⟨S2176x1, .f32⟩
  | .hbm, ⟨102, _⟩ => ⟨S_, .f32⟩
  | .hbm, ⟨103, _⟩ => ⟨S2176, .f32⟩
  | .hbm, ⟨104, _⟩ => ⟨S2176x512, .f32⟩
  | .hbm, ⟨105, _⟩ => ⟨S2176x512, .f32⟩
  | .hbm, ⟨106, _⟩ => ⟨S2176x512, .f32⟩
  | .hbm, ⟨107, _⟩ => ⟨S2176x512, .f32⟩
  | .hbm, ⟨108, _⟩ => ⟨S2176x512, .f32⟩
  | .hbm, ⟨109, _⟩ => ⟨S2176x512, .bf16⟩
  | .hbm, ⟨110, _⟩ => ⟨S2176x512, .bf16⟩
  | .hbm, ⟨111, _⟩ => ⟨S2176x128, .bf16⟩
  | .hbm, ⟨112, _⟩ => ⟨S2176x128, .bf16⟩
  | .hbm, ⟨113, _⟩ => ⟨S1x512, .f32⟩
  | .hbm, ⟨114, _⟩ => ⟨S1x512, .f32⟩
  | _, _ => ⟨S2176x13824, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_6 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_7 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_8 : Ref sig .tc := ⟨.hbm, 65, rfl⟩
abbrev main_v48 : Ref sig .tc := ⟨.hbm, 66, rfl⟩
abbrev main_v49 : Ref sig .tc := ⟨.hbm, 67, rfl⟩
abbrev main_cst_9 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_10 : Ref sig .tc := ⟨.hbm, 74, rfl⟩
abbrev main_v55 : Ref sig .tc := ⟨.hbm, 75, rfl⟩
abbrev main_v56 : Ref sig .tc := ⟨.hbm, 76, rfl⟩
abbrev main_cst_11 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_12 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_cst_13 : Ref sig .tc := ⟨.hbm, 90, rfl⟩
abbrev main_v68 : Ref sig .tc := ⟨.hbm, 91, rfl⟩
abbrev main_v69 : Ref sig .tc := ⟨.hbm, 92, rfl⟩
abbrev main_cst_14 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_cst_15 : Ref sig .tc := ⟨.hbm, 99, rfl⟩
abbrev main_v75 : Ref sig .tc := ⟨.hbm, 100, rfl⟩
abbrev main_v76 : Ref sig .tc := ⟨.hbm, 101, rfl⟩
abbrev main_cst_16 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩

abbrev nD : Nat := 1
abbrev τ : Topo := Topo.v7x

variable {F : FTy → Type} [FloatOps F]
-- ==== Kernel22.lean ====
abbrev S2176x2048 : Shape := ⟨2, ![2176, 2048]⟩
abbrev S2048 : Shape := ⟨1, ![2048]⟩
abbrev S1x2048 : Shape := ⟨2, ![1, 2048]⟩
abbrev S128x2048 : Shape := ⟨2, ![128, 2048]⟩
abbrev S128 : Shape := ⟨1, ![128]⟩
abbrev S128x1 : Shape := ⟨2, ![128, 1]⟩

abbrev nBuf : Space → Nat
  | .hbm => 8
  | .vmem => 10
  | .smem => 0
  | _ => 0

abbrev bufTy : (tb : Table) → Fin (tcTables nBuf tb) → BufTy
  | .hbm, ⟨0, _⟩ => ⟨S2176x2048, .f32⟩
  | .hbm, ⟨1, _⟩ => ⟨S2176x2048, .f32⟩
  | .hbm, ⟨2, _⟩ => ⟨S2048, .f32⟩
  | .hbm, ⟨3, _⟩ => ⟨S2048, .f32⟩
  | .hbm, ⟨4, _⟩ => ⟨S1x2048, .f32⟩
  | .hbm, ⟨5, _⟩ => ⟨S1x2048, .f32⟩
  | .hbm, ⟨6, _⟩ => ⟨S2176x2048, .f32⟩
  | .hbm, ⟨7, _⟩ => ⟨S2176x2048, .bf16⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S1x2048, .f32⟩
  | .local _ .vmem, ⟨5, _⟩ => ⟨S1x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .bf16⟩
  | .local _ .vmem, ⟨9, _⟩ => ⟨S128x2048, .bf16⟩
  | _, _ => ⟨S2176x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![1, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]
-- ==== Reference22Ideal.lean ====
abbrev S2176x2048 : Shape := ⟨2, ![2176, 2048]⟩
abbrev S2048 : Shape := ⟨1, ![2048]⟩
abbrev S_ : Shape := ⟨0, ![]⟩
abbrev S2176 : Shape := ⟨1, ![2176]⟩
abbrev S2176x1 : Shape := ⟨2, ![2176, 1]⟩
abbrev S1x2048 : Shape := ⟨2, ![1, 2048]⟩

abbrev nBuf : Space → Nat
  | .hbm => 38
  | .vmem => 0
  | .smem => 0
  | _ => 0

abbrev bufTy : (tb : Table) → Fin (tcTables nBuf tb) → BufTy
  | .hbm, ⟨0, _⟩ => ⟨S2176x2048, .f32⟩
  | .hbm, ⟨1, _⟩ => ⟨S2176x2048, .f32⟩
  | .hbm, ⟨2, _⟩ => ⟨S2048, .f32⟩
  | .hbm, ⟨3, _⟩ => ⟨S2048, .f32⟩
  | .hbm, ⟨4, _⟩ => ⟨S2176x2048, .f32⟩
  | .hbm, ⟨5, _⟩ => ⟨S_, .f32⟩
  | .hbm, ⟨6, _⟩ => ⟨S2176, .f32⟩
  | .hbm, ⟨7, _⟩ => ⟨S2176x1, .f32⟩
  | .hbm, ⟨8, _⟩ => ⟨S_, .f32⟩
  | .hbm, ⟨9, _⟩ => ⟨S2176x1, .f32⟩
  | .hbm, ⟨10, _⟩ => ⟨S2176x1, .f32⟩
  | .hbm, ⟨11, _⟩ => ⟨S_, .f32⟩
  | .hbm, ⟨12, _⟩ => ⟨S2176x1, .f32⟩
  | .hbm, ⟨13, _⟩ => ⟨S2176x1, .f32⟩
  | .hbm, ⟨14, _⟩ => ⟨S2176x1, .f32⟩
  | .hbm, ⟨15, _⟩ => ⟨S2176x2048, .f32⟩
  | .hbm, ⟨16, _⟩ => ⟨S2176x2048, .f32⟩
  | .hbm, ⟨17, _⟩ => ⟨S1x2048, .f32⟩
  | .hbm, ⟨18, _⟩ => ⟨S2176x2048, .f32⟩
  | .hbm, ⟨19, _⟩ => ⟨S2176x2048, .f32⟩
  | .hbm, ⟨20, _⟩ => ⟨S2176x2048, .f32⟩
  | .hbm, ⟨21, _⟩ => ⟨S2176x2048, .f32⟩
  | .hbm, ⟨22, _⟩ => ⟨S_, .f32⟩
  | .hbm, ⟨23, _⟩ => ⟨S2176, .f32⟩
  | .hbm, ⟨24, _⟩ => ⟨S2176x1, .f32⟩
  | .hbm, ⟨25, _⟩ => ⟨S_, .f32⟩
  | .hbm, ⟨26, _⟩ => ⟨S2176x1, .f32⟩
  | .hbm, ⟨27, _⟩ => ⟨S2176x1, .f32⟩
  | .hbm, ⟨28, _⟩ => ⟨S_, .f32⟩
  | .hbm, ⟨29, _⟩ => ⟨S2176x1, .f32⟩
  | .hbm, ⟨30, _⟩ => ⟨S2176x1, .f32⟩
  | .hbm, ⟨31, _⟩ => ⟨S2176x1, .f32⟩
  | .hbm, ⟨32, _⟩ => ⟨S2176x2048, .f32⟩
  | .hbm, ⟨33, _⟩ => ⟨S2176x2048, .f32⟩
  | .hbm, ⟨34, _⟩ => ⟨S1x2048, .f32⟩
  | .hbm, ⟨35, _⟩ => ⟨S2176x2048, .f32⟩
  | .hbm, ⟨36, _⟩ => ⟨S2176x2048, .f32⟩
  | .hbm, ⟨37, _⟩ => ⟨S2176x2048, .bf16⟩
  | _, _ => ⟨S2176x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== Kernel23.lean ====
abbrev S2176x2048 : Shape := ⟨2, ![2176, 2048]⟩
abbrev S2048 : Shape := ⟨1, ![2048]⟩
abbrev S1x2048 : Shape := ⟨2, ![1, 2048]⟩
abbrev S128x2048 : Shape := ⟨2, ![128, 2048]⟩
abbrev S128 : Shape := ⟨1, ![128]⟩
abbrev S128x1 : Shape := ⟨2, ![128, 1]⟩

abbrev nBuf : Space → Nat
  | .hbm => 4
  | .vmem => 5
  | .smem => 0
  | _ => 0

abbrev bufTy : (tb : Table) → Fin (tcTables nBuf tb) → BufTy
  | .hbm, ⟨0, _⟩ => ⟨S2176x2048, .f32⟩
  | .hbm, ⟨1, _⟩ => ⟨S2048, .f32⟩
  | .hbm, ⟨2, _⟩ => ⟨S1x2048, .f32⟩
  | .hbm, ⟨3, _⟩ => ⟨S2176x2048, .bf16⟩
  | .local _ .vmem, ⟨0, _⟩ => ⟨S128x2048, .f32⟩
  | .local _ .vmem, ⟨1, _⟩ => ⟨S128x2048, .f32⟩
  | .local _ .vmem, ⟨2, _⟩ => ⟨S1x2048, .f32⟩
  | .local _ .vmem, ⟨3, _⟩ => ⟨S128x2048, .bf16⟩
  | .local _ .vmem, ⟨4, _⟩ => ⟨S128x2048, .bf16⟩
  | _, _ => ⟨S2176x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]
-- ==== Reference23Ideal.lean ====
abbrev S2176x2048 : Shape := ⟨2, ![2176, 2048]⟩
abbrev S2048 : Shape := ⟨1, ![2048]⟩
abbrev S_ : Shape := ⟨0, ![]⟩
abbrev S2176 : Shape := ⟨1, ![2176]⟩
abbrev S2176x1 : Shape := ⟨2, ![2176, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S2176x2048, .f32⟩
  | .hbm, ⟨1, _⟩ => ⟨S2048, .f32⟩
  | .hbm, ⟨2, _⟩ => ⟨S2176x2048, .f32⟩
  | .hbm, ⟨3, _⟩ => ⟨S_, .f32⟩
  | .hbm, ⟨4, _⟩ => ⟨S2176, .f32⟩
  | .hbm, ⟨5, _⟩ => ⟨S2176x1, .f32⟩
  | .hbm, ⟨6, _⟩ => ⟨S_, .f32⟩
  | .hbm, ⟨7, _⟩ => ⟨S2176x1, .f32⟩
  | .hbm, ⟨8, _⟩ => ⟨S2176x1, .f32⟩
  | .hbm, ⟨9, _⟩ => ⟨S_, .f32⟩
  | .hbm, ⟨10, _⟩ => ⟨S2176x1, .f32⟩
  | .hbm, ⟨11, _⟩ => ⟨S2176x1, .f32⟩
  | .hbm, ⟨12, _⟩ => ⟨S2176x1, .f32⟩
  | .hbm, ⟨13, _⟩ => ⟨S2176x2048, .f32⟩
  | .hbm, ⟨14, _⟩ => ⟨S2176x2048, .f32⟩
  | .hbm, ⟨15, _⟩ => ⟨S1x2048, .f32⟩
  | .hbm, ⟨16, _⟩ => ⟨S2176x2048, .f32⟩
  | .hbm, ⟨17, _⟩ => ⟨S2176x2048, .f32⟩
  | .hbm, ⟨18, _⟩ => ⟨S2176x2048, .bf16⟩
  | _, _ => ⟨S2176x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel24.lean ====
abbrev S2176x13824 : Shape := ⟨2, ![2176, 13824]⟩
abbrev S512 : Shape := ⟨1, ![512]⟩
abbrev S2176x128 : Shape := ⟨2, ![2176, 128]⟩
abbrev S1x512 : Shape := ⟨2, ![1, 512]⟩
abbrev S2176x512 : Shape := ⟨2, ![2176, 512]⟩
abbrev S128x512 : Shape := ⟨2, ![128, 512]⟩
abbrev S128x128 : Shape := ⟨2, ![128, 128]⟩
abbrev S128 : Shape := ⟨1, ![128]⟩
abbrev S128x1 : Shape := ⟨2, ![128, 1]⟩

abbrev nBuf : Space → Nat
  | .hbm => 10
  | .vmem => 20
  | .smem => 0
  | _ => 0

abbrev bufTy : (tb : Table) → Fin (tcTables nBuf tb) → BufTy
  | .hbm, ⟨0, _⟩ => ⟨S2176x13824, .f32⟩
  | .hbm, ⟨1, _⟩ => ⟨S512, .f32⟩
  | .hbm, ⟨2, _⟩ => ⟨S512, .f32⟩
  | .hbm, ⟨3, _⟩ => ⟨S2176x128, .f32⟩
  | .hbm, ⟨4, _⟩ => ⟨S2176x128, .f32⟩
  | .hbm, ⟨5, _⟩ => ⟨S1x512, .f32⟩
  | .hbm, ⟨6, _⟩ => ⟨S1x512, .f32⟩
  | .hbm, ⟨7, _⟩ => ⟨S2176x512, .bf16⟩
  | .hbm, ⟨8, _⟩ => ⟨S2176x512, .bf16⟩
  | .hbm, ⟨9, _⟩ => ⟨S2176x128, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S1x512, .f32⟩
  | .local _ .vmem, ⟨9, _⟩ => ⟨S1x512, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | .local _ .vmem, ⟨14, _⟩ => ⟨S128x512, .bf16⟩
  | .local _ .vmem, ⟨15, _⟩ => ⟨S128x512, .bf16⟩
  | .local _ .vmem, ⟨16, _⟩ => ⟨S128x512, .bf16⟩
  | .local _ .vmem, ⟨17, _⟩ => ⟨S128x512, .bf16⟩
  | .local _ .vmem, ⟨18, _⟩ => ⟨S128x128, .f32⟩
  | .local _ .vmem, ⟨19, _⟩ => ⟨S128x128, .f32⟩
  | _, _ => ⟨S2176x13824, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![1, 17], ![false, false]⟩

def cc0_transform_0 (i : grid0.Coords) : Fin 2 → Nat :=
  let arg0 : BitVec 32 := BitVec.ofNat 32 (i 0).val
  let arg1 : BitVec 32 := BitVec.ofNat 32 (i 1).val
  let c24_i32 : BitVec 32 := 24#32
  let c0_i32 : BitVec 32 := 0#32
  ![arg1.toNat, c24_i32.toNat]

def cc0_transform_1 (i : grid0.Coords) : Fin 2 → Nat :=
  let arg0 : BitVec 32 := BitVec.ofNat 32 (i 0).val
  let arg1 : BitVec 32 := BitVec.ofNat 32 (i 1).val
  let c25_i32 : BitVec 32 := 25#32
  let c0_i32 : BitVec 32 := 0#32
  ![arg1.toNat, c25_i32.toNat]

def cc0_transform_2 (i : grid0.Coords) : Fin 2 → Nat :=
  let arg0 : BitVec 32 := BitVec.ofNat 32 (i 0).val
  let arg1 : BitVec 32 := BitVec.ofNat 32 (i 1).val
  let c104_i32 : BitVec 32 := 104#32
  let c0_i32 : BitVec 32 := 0#32
  ![arg1.toNat, c104_i32.toNat]

def cc0_transform_3 (i : grid0.Coords) : Fin 2 → Nat :=
  let arg0 : BitVec 32 := BitVec.ofNat 32 (i 0).val
  let arg1 : BitVec 32 := BitVec.ofNat 32 (i 1).val
  let c105_i32 : BitVec 32 := 105#32
  let c0_i32 : BitVec 32 := 0#32
  ![arg1.toNat, c105_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S128x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S128x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]
-- ==== Reference24Ideal.lean ====
abbrev S2176x13824 : Shape := ⟨2, ![2176, 13824]⟩
abbrev S512 : Shape := ⟨1, ![512]⟩
abbrev S2176x128 : Shape := ⟨2, ![2176, 128]⟩
abbrev S2176x512 : Shape := ⟨2, ![2176, 512]⟩
abbrev S_ : Shape := ⟨0, ![]⟩
abbrev S2176 : Shape := ⟨1, ![2176]⟩
abbrev S2176x1 : Shape := ⟨2, ![2176, 1]⟩
abbrev S1x512 : Shape := ⟨2, ![1, 512]⟩

abbrev nBuf : Space → Nat
  | .hbm => 46
  | .vmem => 0
  | .smem => 0
  | _ => 0

abbrev bufTy : (tb : Table) → Fin (tcTables nBuf tb) → BufTy
  | .hbm, ⟨0, _⟩ => ⟨S2176x13824, .f32⟩
  | .hbm, ⟨1, _⟩ => ⟨S512, .f32⟩
  | .hbm, ⟨2, _⟩ => ⟨S512, .f32⟩
  | .hbm, ⟨3, _⟩ => ⟨S2176x128, .f32⟩
  | .hbm, ⟨4, _⟩ => ⟨S2176x128, .f32⟩
  | .hbm, ⟨5, _⟩ => ⟨S2176x512, .f32⟩
  | .hbm, ⟨6, _⟩ => ⟨S2176x512, .f32⟩
  | .hbm, ⟨7, _⟩ => ⟨S2176x128, .f32⟩
  | .hbm, ⟨8, _⟩ => ⟨S2176x128, .f32⟩
  | .hbm, ⟨9, _⟩ => ⟨S2176x512, .f32⟩
  | .hbm, ⟨10, _⟩ => ⟨S_, .f32⟩
  | .hbm, ⟨11, _⟩ => ⟨S2176, .f32⟩
  | .hbm, ⟨12, _⟩ => ⟨S2176x1, .f32⟩
  | .hbm, ⟨13, _⟩ => ⟨S_, .f32⟩
  | .hbm, ⟨14, _⟩ => ⟨S2176x1, .f32⟩
  | .hbm, ⟨15, _⟩ => ⟨S2176x1, .f32⟩
  | .hbm, ⟨16, _⟩ => ⟨S_, .f32⟩
  | .hbm, ⟨17, _⟩ => ⟨S2176x1, .f32⟩
  | .hbm, ⟨18, _⟩ => ⟨S2176x1, .f32⟩
  | .hbm, ⟨19, _⟩ => ⟨S2176x1, .f32⟩
  | .hbm, ⟨20, _⟩ => ⟨S2176x512, .f32⟩
  | .hbm, ⟨21, _⟩ => ⟨S2176x512, .f32⟩
  | .hbm, ⟨22, _⟩ => ⟨S1x512, .f32⟩
  | .hbm, ⟨23, _⟩ => ⟨S2176x512, .f32⟩
  | .hbm, ⟨24, _⟩ => ⟨S2176x512, .f32⟩
  | .hbm, ⟨25, _⟩ => ⟨S2176x512, .f32⟩
  | .hbm, ⟨26, _⟩ => ⟨S_, .f32⟩
  | .hbm, ⟨27, _⟩ => ⟨S2176, .f32⟩
  | .hbm, ⟨28, _⟩ => ⟨S2176x1, .f32⟩
  | .hbm, ⟨29, _⟩ => ⟨S_, .f32⟩
  | .hbm, ⟨30, _⟩ => ⟨S2176x1, .f32⟩
  | .hbm, ⟨31, _⟩ => ⟨S2176x1, .f32⟩
  | .hbm, ⟨32, _⟩ => ⟨S_, .f32⟩
  | .hbm, ⟨33, _⟩ => ⟨S2176x1, .f32⟩
  | .hbm, ⟨34, _⟩ => ⟨S2176x1, .f32⟩
  | .hbm, ⟨35, _⟩ => ⟨S2176x1, .f32⟩
  | .hbm, ⟨36, _⟩ => ⟨S2176x512, .f32⟩
  | .hbm, ⟨37, _⟩ => ⟨S2176x512, .f32⟩
  | .hbm, ⟨38, _⟩ => ⟨S1x512, .f32⟩
  | .hbm, ⟨39, _⟩ => ⟨S2176x512, .f32⟩
  | .hbm, ⟨40, _⟩ => ⟨S2176x512, .f32⟩
  | .hbm, ⟨41, _⟩ => ⟨S2176x128, .f32⟩
  | .hbm, ⟨42, _⟩ => ⟨S2176x128, .f32⟩
  | .hbm, ⟨43, _⟩ => ⟨S2176x128, .f32⟩
  | .hbm, ⟨44, _⟩ => ⟨S2176x512, .bf16⟩
  | .hbm, ⟨45, _⟩ => ⟨S2176x512, .bf16⟩
  | _, _ => ⟨S2176x13824, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== Kernel21.lean ====
abbrev S2176x13824 : Shape := ⟨2, ![2176, 13824]⟩
abbrev S3x1024 : Shape := ⟨2, ![3, 1024]⟩
abbrev S2176x1024 : Shape := ⟨2, ![2176, 1024]⟩
abbrev S2176x128 : Shape := ⟨2, ![2176, 128]⟩
abbrev S3x128 : Shape := ⟨2, ![3, 128]⟩
abbrev S1x128 : Shape := ⟨2, ![1, 128]⟩

abbrev nBuf : Space → Nat
  | .hbm => 3
  | .vmem => 10
  | .smem => 0
  | _ => 0

abbrev bufTy : (tb : Table) → Fin (tcTables nBuf tb) → BufTy
  | .hbm, ⟨0, _⟩ => ⟨S2176x13824, .f32⟩
  | .hbm, ⟨1, _⟩ => ⟨S3x1024, .f32⟩
  | .hbm, ⟨2, _⟩ => ⟨S2176x1024, .bf16⟩
  | .local _ .vmem, ⟨0, _⟩ => ⟨S2176x128, .f32⟩
  | .local _ .vmem, ⟨1, _⟩ => ⟨S2176x128, .f32⟩
  | .local _ .vmem, ⟨2, _⟩ => ⟨S2176x128, .f32⟩
  | .local _ .vmem, ⟨3, _⟩ => ⟨S2176x128, .f32⟩
  | .local _ .vmem, ⟨4, _⟩ => ⟨S2176x128, .f32⟩
  | .local _ .vmem, ⟨5, _⟩ => ⟨S2176x128, .f32⟩
  | .local _ .vmem, ⟨6, _⟩ => ⟨S3x128, .f32⟩
  | .local _ .vmem, ⟨7, _⟩ => ⟨S3x128, .f32⟩
  | .local _ .vmem, ⟨8, _⟩ => ⟨S2176x128, .bf16⟩
  | .local _ .vmem, ⟨9, _⟩ => ⟨S2176x128, .bf16⟩
  | _, _ => ⟨S2176x13824, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c48_i32 : BitVec 32 := 48#32
  let v0 : BitVec 32 := Scalar.addi c48_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c56_i32 : BitVec 32 := 56#32
  let v0 : BitVec 32 := Scalar.addi c56_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c64_i32 : BitVec 32 := 64#32
  let v0 : BitVec 32 := Scalar.addi c64_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2176x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2176x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2176x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2176x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference21Ideal.lean ====
abbrev S2176x13824 : Shape := ⟨2, ![2176, 13824]⟩
abbrev S3x1024 : Shape := ⟨2, ![3, 1024]⟩
abbrev S2176x1024 : Shape := ⟨2, ![2176, 1024]⟩
abbrev S_ : Shape := ⟨0, ![]⟩
abbrev S2x1024 : Shape := ⟨2, ![2, 1024]⟩
abbrev S2178x1024 : Shape := ⟨2, ![2178, 1024]⟩
abbrev S1x1024 : Shape := ⟨2, ![1, 1024]⟩
abbrev S1024 : Shape := ⟨1, ![1024]⟩

abbrev nBuf : Space → Nat
  | .hbm => 31
  | .vmem => 0
  | .smem => 0
  | _ => 0

abbrev bufTy : (tb : Table) → Fin (tcTables nBuf tb) → BufTy
  | .hbm, ⟨0, _⟩ => ⟨S2176x13824, .f32⟩
  | .hbm, ⟨1, _⟩ => ⟨S3x1024, .f32⟩
  | .hbm, ⟨2, _⟩ => ⟨S2176x1024, .f32⟩
  | .hbm, ⟨3, _⟩ => ⟨S2176x1024, .f32⟩
  | .hbm, ⟨4, _⟩ => ⟨S2176x1024, .f32⟩
  | .hbm, ⟨5, _⟩ => ⟨S_, .f32⟩
  | .hbm, ⟨6, _⟩ => ⟨S2x1024, .f32⟩
  | .hbm, ⟨7, _⟩ => ⟨S2176x1024, .f32⟩
  | .hbm, ⟨8, _⟩ => ⟨S2178x1024, .f32⟩
  | .hbm, ⟨9, _⟩ => ⟨S2176x1024, .f32⟩
  | .hbm, ⟨10, _⟩ => ⟨S1x1024, .f32⟩
  | .hbm, ⟨11, _⟩ => ⟨S1024, .f32⟩
  | .hbm, ⟨12, _⟩ => ⟨S1x1024, .f32⟩
  | .hbm, ⟨13, _⟩ => ⟨S2176x1024, .f32⟩
  | .hbm, ⟨14, _⟩ => ⟨S2176x1024, .f32⟩
  | .hbm, ⟨15, _⟩ => ⟨S2176x1024, .f32⟩
  | .hbm, ⟨16, _⟩ => ⟨S1x1024, .f32⟩
  | .hbm, ⟨17, _⟩ => ⟨S1024, .f32⟩
  | .hbm, ⟨18, _⟩ => ⟨S1x1024, .f32⟩
  | .hbm, ⟨19, _⟩ => ⟨S2176x1024, .f32⟩
  | .hbm, ⟨20, _⟩ => ⟨S2176x1024, .f32⟩
  | .hbm, ⟨21, _⟩ => ⟨S2176x1024, .f32⟩
  | .hbm, ⟨22, _⟩ => ⟨S2176x1024, .f32⟩
  | .hbm, ⟨23, _⟩ => ⟨S1x1024, .f32⟩
  | .hbm, ⟨24, _⟩ => ⟨S1024, .f32⟩
  | .hbm, ⟨25, _⟩ => ⟨S1x1024, .f32⟩
  | .hbm, ⟨26, _⟩ => ⟨S2176x1024, .f32⟩
  | .hbm, ⟨27, _⟩ => ⟨S2176x1024, .f32⟩
  | .hbm, ⟨28, _⟩ => ⟨S2176x1024, .f32⟩
  | .hbm, ⟨29, _⟩ => ⟨S2176x1024, .f32⟩
  | .hbm, ⟨30, _⟩ => ⟨S2176x1024, .bf16⟩
  | _, _ => ⟨S2176x13824, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩

abbrev nD : Nat := 1
abbrev τ : Topo := Topo.v7x

variable {F : FTy → Type} [FloatOps F]
-- ==== Proof.Common.Idx.lean ====
/- Entries of arrays with two and three axes. -/
module

public import Idealize.ShloMosaic.Lib.Pointwise
public import Idealize.ShloMosaic.Lib.Pipeline.Value

@[expose] public section

namespace Cert.Idx

open Idealize.ShloMosaic

theorem two {P : Fin 2 → Prop} (h0 : P 0) (h1 : P 1) : ∀ x, P x := fun x => match x with
  | ⟨0, _⟩ => h0
  | ⟨1, _⟩ => h1

theorem three {P : Fin 3 → Prop} (h0 : P 0) (h1 : P 1) (h2 : P 2) : ∀ x, P x := fun x => match x with
  | ⟨0, _⟩ => h0
  | ⟨1, _⟩ => h1
  | ⟨2, _⟩ => h2

theorem four {P : Fin 4 → Prop} (h0 : P 0) (h1 : P 1) (h2 : P 2) (h3 : P 3) : ∀ x, P x := fun x => match x with
  | ⟨0, _⟩ => h0
  | ⟨1, _⟩ => h1
  | ⟨2, _⟩ => h2
  | ⟨3, _⟩ => h3

theorem ext2 {a b : ℕ} {p q : (⟨2, ![a, b]⟩ : Shape).Idx} (h0 : (p 0).val = (q 0).val) (h1 : (p 1).val = (q 1).val) :
    p = q :=
  funext (two (Fin.ext h0) (Fin.ext h1))

theorem ext3 {a b c : ℕ} {p q : (⟨3, ![a, b, c]⟩ : Shape).Idx} (h0 : (p 0).val = (q 0).val) (h1 : (p 1).val = (q 1).val)
    (h2 : (p 2).val = (q 2).val) : p = q :=
  funext (three (Fin.ext h0) (Fin.ext h1) (Fin.ext h2))

theorem ext4 {a b c d : ℕ} {p q : (⟨4, ![a, b, c, d]⟩ : Shape).Idx} (h0 : (p 0).val = (q 0).val)
    (h1 : (p 1).val = (q 1).val) (h2 : (p 2).val = (q 2).val) (h3 : (p 3).val = (q 3).val) : p = q :=
  funext (four (Fin.ext h0) (Fin.ext h1) (Fin.ext h2) (Fin.ext h3))

theorem of2 {a b : ℕ} (y : (⟨2, ![a, b]⟩ : Shape).Idx) : ∃ (r : Fin a) (s : Fin b), y = ix2 r s := ⟨y 0, y 1, eq_ix2 y⟩

theorem below2 {a b : ℕ} (i : (⟨2, ![a, b]⟩ : Shape).Idx) : (i 0).val < a ∧ (i 1).val < b := ⟨(i 0).isLt, (i 1).isLt⟩

/-- An entry is in a block when each coordinate is within the block's bounds. -/
theorem cover2 {a b : ℕ} (f : Fin 2 → ℕ) (p q : ℕ) (i : (⟨2, ![a, b]⟩ : Shape).Idx)
    (h : (f 0 * p ≤ (i 0).val ∧ (i 0).val < f 0 * p + p) ∧ f 1 * q ≤ (i 1).val ∧ (i 1).val < f 1 * q + q) :
    ∀ x, f x * (![p, q] : Fin 2 → ℕ) x ≤ (i x).val ∧ (i x).val < f x * (![p, q] : Fin 2 → ℕ) x + (![p, q] : Fin 2 → ℕ) x :=
  two h.1 h.2

theorem all2 {a b : ℕ} {α : Type} {f g : (⟨2, ![a, b]⟩ : Shape).Idx → α} (h : ∀ r s, f (ix2 r s) = g (ix2 r s)) : f = g :=
  funext fun y => by obtain ⟨r, s, rfl⟩ := of2 y; exact h r s

theorem zero2 : (![0, 0] : Fin 2 → Nat) = fun _ => 0 := funext (two rfl rfl)

theorem zero3 : (![0, 0, 0] : Fin 3 → Nat) = fun _ => 0 := funext (three rfl rfl rfl)

theorem zero4 : (![0, 0, 0, 0] : Fin 4 → Nat) = fun _ => 0 := funext (four rfl rfl rfl rfl)

/-- A load of a whole buffer reads what it holds. -/
theorem ld2 {V : EltTy → Type} {e : EltTy} {a b : ℕ}
    (h : ∀ x : Fin 2, (![0, 0] : Fin 2 → Nat) x + (![a, b] : Fin 2 → Nat) x ≤ (⟨2, ![a, b]⟩ : Shape).size x)
    (X : (⟨2, ![a, b]⟩ : Shape).Idx → V e) :
    View.ld X (Rect.unit (s := ⟨2, ![a, b]⟩) ![0, 0] (![a, b] : Fin 2 → Nat) h) = X :=
  View.ld_unit_zero (S := ⟨2, ![a, b]⟩) zero2 h X

theorem ld3 {V : EltTy → Type} {e : EltTy} {a b c : ℕ}
    (h : ∀ x : Fin 3, (![0, 0, 0] : Fin 3 → Nat) x + (![a, b, c] : Fin 3 → Nat) x ≤ (⟨3, ![a, b, c]⟩ : Shape).size x)
    (X : (⟨3, ![a, b, c]⟩ : Shape).Idx → V e) :
    View.ld X (Rect.unit (s := ⟨3, ![a, b, c]⟩) ![0, 0, 0] (![a, b, c] : Fin 3 → Nat) h) = X :=
  View.ld_unit_zero (S := ⟨3, ![a, b, c]⟩) zero3 h X

end Cert.Idx
-- ==== Proof.Fox.Point.lean ====
/- What one grid point of the kernel leaves in the five output blocks: the probabilities and their gradient, of
   the point's 272 query rows against all 2176 keys of its head, and what is computed from them. -/
module

public import proofs.«01_k».proof.Proof.Common.Idx
public import proofs.«01_k».proof.Proof.Gen.KernelIdeal.Value
public import Idealize.ShloMosaic.Lib.Tactic

@[expose] public noncomputable section

set_option maxRecDepth 16384

namespace Cert.KernelIdeal.Fox

open Cert.KernelIdeal Cert.KernelIdeal.Gen Idealize.ShloMosaic Idealize.ShloMosaic.TcCoe Idealize.SL.Sem Cert.Idx

variable {F : FTy → Type} [FloatOps F] [Named F] (m : (ℓ : Loc nD τ sig) → Buf (Elt F) ℓ) (c : Dev nD)

/-- The probabilities of the point's query rows. -/
abbrev P (t : Fin cfg0.N) : FVec F S272x2176 .f32 :=
  k0_pay3 (grid0.coords t) (iblk m c 0 t) (iblk m c 1 t) (iblk m c 3 t) (iblk m c 4 t)

/-- The gradient with respect to the probabilities. -/
abbrev D (t : Fin cfg0.N) : FVec F S272x2176 .f32 := k0_pay4 (iblk m c 5 t) (iblk m c 2 t)

/-- What a point leaves in the output blocks, from what it finds in the three that are summed over the points of a
    head. -/
def leaves (t : Fin cfg0.N) (k v : Vec F S2176x128 .f32) (s : Vec F S1x1x2176 .f32) :
    Vec F S272x128 .bf16 × Vec F S2176x128 .f32 × Vec F S2176x128 .f32 × Vec F S1x272x1 .f32 × Vec F S1x1x2176 .f32 :=
  (k0_pay7 (P m c t) (D m c t) (iblk m c 1 t), k0_pay12 (P m c t) (D m c t) k (iblk m c 0 t),
    k0_pay1 (k0_pay13 v) (k0_pay14 (P m c t)) (k0_pay15 (iblk m c 5 t)), k0_pay8 (P m c t) (D m c t),
    k0_pay2 (k0_pay5 (P m c t) (D m c t)) s)

/-- The first point of a head starts the three sums at zero. -/
theorem first (t : Fin cfg0.N) (h0 : t.val % 8 = 0) :
    outsAt0 m c t.val t.isLt = leaves m c t k0_pay9 k0_pay10 k0_pay11 := by
  rw [outsAt0_A m c t h0]
  unfold leaves P D
  refine Prod.ext ?_ (Prod.ext ?_ (Prod.ext ?_ (Prod.ext ?_ ?_))) <;> dsimp only
  · unfold out0_A_6
    rw [View.read_writes_eq_canon]; swap
    · intro y; apply cover0_A_6
    unfold kernelRun0_A; dsimp only; sl_unfold_words
    rw [View.canon_unit_zero zero2]
    simp only [View.readAt_eq_ld, (hs0_0 t).read_unread, (hs0_1 t).read_unread, (hs0_2 t).read_unread,
      (hs0_3 t).read_unread, (hs0_4 t).read_unread, (hs0_5 t).read_unread, ld2, ld3]
  · unfold out0_A_7
    rw [View.read_writes_eq_canon]; swap
    · intro y; apply cover0_A_7
    unfold kernelRun0_A; dsimp only; sl_unfold_words
    rw [View.canon_cons_unit_zero (S := S2176x128) zero2, View.readCov_unit_zero (S := S2176x128) _ zero2]
    simp only [View.readAt_eq_ld, (hs0_0 t).read_unread, (hs0_1 t).read_unread, (hs0_2 t).read_unread,
      (hs0_3 t).read_unread, (hs0_4 t).read_unread, (hs0_5 t).read_unread, ld2, ld3]
  · unfold out0_A_8
    rw [View.read_writes_eq_canon]; swap
    · intro y; apply cover0_A_8
    unfold kernelRun0_A; dsimp only; sl_unfold_words
    rw [View.canon_cons_unit_zero (S := S2176x128) zero2, View.readCov_unit_zero (S := S2176x128) _ zero2]
    simp only [View.readAt_eq_ld, (hs0_0 t).read_unread, (hs0_1 t).read_unread, (hs0_2 t).read_unread,
      (hs0_3 t).read_unread, (hs0_4 t).read_unread, (hs0_5 t).read_unread, ld2, ld3]
  · unfold out0_A_9
    rw [View.read_writes_eq_canon]; swap
    · intro y; apply cover0_A_9
    unfold kernelRun0_A; dsimp only; sl_unfold_words
    rw [View.canon_unit_zero zero3]
    simp only [View.readAt_eq_ld, (hs0_0 t).read_unread, (hs0_1 t).read_unread, (hs0_2 t).read_unread,
      (hs0_3 t).read_unread, (hs0_4 t).read_unread, (hs0_5 t).read_unread, ld2, ld3]
  · unfold out0_A_10
    rw [View.read_writes_eq_canon]; swap
    · intro y; apply cover0_A_10
    unfold kernelRun0_A; dsimp only; sl_unfold_words
    rw [View.canon_cons_unit_zero (S := S1x1x2176) zero3, View.readCov_unit_zero (S := S1x1x2176) _ zero3]
    simp only [View.readAt_eq_ld, (hs0_0 t).read_unread, (hs0_1 t).read_unread, (hs0_2 t).read_unread,
      (hs0_3 t).read_unread, (hs0_4 t).read_unread, (hs0_5 t).read_unread, ld2, ld3]

/-- A later point adds to what the point before it left. -/
theorem later (t : Fin cfg0.N) (h0 : ¬t.val % 8 = 0) (h : t.val - 1 < cfg0.N) :
    outsAt0 m c t.val t.isLt = leaves m c t (outsAt0 m c (t.val - 1) h).2.1 (outsAt0 m c (t.val - 1) h).2.2.1
      (outsAt0 m c (t.val - 1) h).2.2.2.2 := by
  rw [outsAt0_B m c t h0]
  unfold leaves P D
  refine Prod.ext ?_ (Prod.ext ?_ (Prod.ext ?_ (Prod.ext ?_ ?_))) <;> dsimp only
  · unfold out0_B_6
    rw [View.read_writes_eq_canon]; swap
    · intro y; apply cover0_B_6
    unfold kernelRun0_B; dsimp only; sl_unfold_words
    rw [View.canon_unit_zero zero2]
    simp only [View.readAt_eq_ld, (hs0_0 t).read_unread, (hs0_1 t).read_unread, (hs0_2 t).read_unread,
      (hs0_3 t).read_unread, (hs0_4 t).read_unread, (hs0_5 t).read_unread, ld2, ld3]
  · unfold out0_B_7
    rw [View.read_writes_eq_canon]; swap
    · intro y; apply cover0_B_7
    unfold kernelRun0_B; dsimp only; sl_unfold_words
    rw [View.canon_unit_zero zero2]
    simp only [View.readAt_eq_ld, (hs0_0 t).read_unread, (hs0_1 t).read_unread, (hs0_2 t).read_unread,
      (hs0_3 t).read_unread, (hs0_4 t).read_unread, (hs0_5 t).read_unread, (hs0_7 t).read_unread,
      ld2, ld3]
  · unfold out0_B_8
    rw [View.read_writes_eq_canon]; swap
    · intro y; apply cover0_B_8
    unfold kernelRun0_B; dsimp only; sl_unfold_words
    rw [View.canon_unit_zero zero2]
    simp only [View.readAt_eq_ld, (hs0_0 t).read_unread, (hs0_1 t).read_unread, (hs0_2 t).read_unread,
      (hs0_3 t).read_unread, (hs0_4 t).read_unread, (hs0_5 t).read_unread, (hs0_8 t).read_unread,
      ld2, ld3]
  · unfold out0_B_9
    rw [View.read_writes_eq_canon]; swap
    · intro y; apply cover0_B_9
    unfold kernelRun0_B; dsimp only; sl_unfold_words
    rw [View.canon_unit_zero zero3]
    simp only [View.readAt_eq_ld, (hs0_0 t).read_unread, (hs0_1 t).read_unread, (hs0_2 t).read_unread,
      (hs0_3 t).read_unread, (hs0_4 t).read_unread, (hs0_5 t).read_unread, ld2, ld3]
  · unfold out0_B_10
    rw [View.read_writes_eq_canon]; swap
    · intro y; apply cover0_B_10
    unfold kernelRun0_B; dsimp only; sl_unfold_words
    rw [View.canon_unit_zero zero3]
    simp only [View.readAt_eq_ld, (hs0_0 t).read_unread, (hs0_1 t).read_unread, (hs0_2 t).read_unread,
      (hs0_3 t).read_unread, (hs0_4 t).read_unread, (hs0_5 t).read_unread, (hs0_10 t).read_unread,
      ld2, ld3]

end Cert.KernelIdeal.Fox
-- ==== Proof.Common.Softmax.lean ====
/- One row of a softmax and of its gradient, over the extended reals: the gradient in the form a kernel computes it,
   from the probabilities, and in the form of the derivative of a quotient of an exponential by a sum. -/
module

public import Idealize.ShloMosaic.PureOps.Ideal

@[expose] public noncomputable section

namespace Cert.Softmax

open Idealize.ShloMosaic

variable {n : ℕ}

/-- The largest score of the row. -/
def top (s : Fin n → EReal) : EReal := Finset.univ.fold max ⊥ s
/-- The exponential of a score less the largest one. -/
def ex (s : Fin n → EReal) (k : Fin n) : EReal := Ideal.exp (s k - top s)
/-- The sum of the exponentials. -/
def den (s : Fin n → EReal) : EReal := ∑ k, ex s k
/-- The probabilities. -/
def prob (s : Fin n → EReal) (k : Fin n) : EReal := Ideal.div (ex s k) (den s)
/-- The gradient with respect to the scores, `g` the one with respect to the probabilities. -/
def grad (s g : Fin n → EReal) (k : Fin n) : EReal := prob s k * (g k - ∑ x, prob s x * g x)
/-- The same as the derivative of the quotient. -/
def gradQuot (s g : Fin n → EReal) (k : Fin n) : EReal :=
  (Ideal.div (g k) (den s) + -(∑ x, g x * Ideal.div 1 (den s * den s) * ex s x)) * ex s k

theorem coe_sum {ι : Type} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- A row with a score that is a number, and none `⊤`: its exponentials are numbers, their sum is positive, and a
    score `⊥` has the exponential zero. -/
theorem real_row (s : Fin n → EReal) (h1 : ∀ k, s k ≠ ⊤) (h2 : ∃ k, s k ≠ ⊥) :
    ∃ e : Fin n → ℝ, 0 < ∑ k, e k ∧ (∀ k, ex s k = e k) ∧ (∀ k, s k = ⊥ → e k = 0) ∧ den s = ((∑ k, e k : ℝ) : EReal) := by
  have ht : top s ≠ ⊤ := ne_of_lt (by
    unfold top
    rw [Finset.fold_max_lt]
    exact ⟨bot_lt_top, fun k _ => lt_of_le_of_ne le_top (h1 k)⟩)
  obtain ⟨k₁, hk₁⟩ := h2
  have hb : top s ≠ ⊥ := ne_of_gt (by
    unfold top
    rw [Finset.lt_fold_max]
    exact Or.inr ⟨k₁, Finset.mem_univ _, lt_of_le_of_ne bot_le (Ne.symm hk₁)⟩)
  obtain ⟨k₀, hk₀⟩ : ∃ k₀, top s ≤ s k₀ := by
    have := (Finset.le_fold_max (b := (⊥ : EReal)) (f := s) (s := Finset.univ) (top s)).mp le_rfl
    rcases this with h | ⟨k, -, h⟩
    · exact absurd (le_bot_iff.mp h) hb
    · exact ⟨k, h⟩
  obtain ⟨μ, hμ⟩ : ∃ μ : ℝ, top s = μ := ⟨(top s).toReal, (EReal.coe_toReal ht hb).symm⟩
  have hex : ∀ k, ex s k = (((ex s k).toReal : ℝ) : EReal) ∧ 0 ≤ (ex s k).toReal ∧ (s k = ⊥ → (ex s k).toReal = 0)
      ∧ (s k ≠ ⊥ → 0 < (ex s k).toReal) := by
    intro k
    unfold ex
    rw [hμ]
    by_cases hk : s k = ⊥
    · rw [hk]
      have : Ideal.exp ((⊥ : EReal) - (μ : EReal)) = 0 := rfl
      rw [this]
      simp
    · obtain ⟨x, hx⟩ : ∃ x : ℝ, s k = x := ⟨(s k).toReal, (EReal.coe_toReal (h1 k) hk).symm⟩
      rw [hx, ← EReal.coe_sub]
      have : Ideal.exp ((x - μ : ℝ) : EReal) = (Real.exp (x - μ) : EReal) := rfl
      rw [this, EReal.toReal_coe]
      exact ⟨rfl, (Real.exp_pos _).le, fun h => absurd h (EReal.coe_ne_bot x), fun _ => Real.exp_pos _⟩
  refine ⟨fun k => (ex s k).toReal, ?_, fun k => (hex k).1, fun k h => (hex k).2.2.1 h, ?_⟩
  · refine Finset.sum_pos' (fun k _ => (hex k).2.1) ⟨k₀, Finset.mem_univ _, (hex k₀).2.2.2 ?_⟩
    intro h
    rw [h] at hk₀
    exact hb (le_bot_iff.mp hk₀)
  · unfold den
    rw [coe_sum]
    exact Finset.sum_congr rfl fun k _ => (hex k).1

variable (s : Fin n → EReal) (h1 : ∀ k, s k ≠ ⊤) (h2 : ∃ k, s k ≠ ⊥) (γ : Fin n → ℝ)
include h1 h2

/-- Both forms of the gradient are the same number. -/
theorem grad_num (k : Fin n) : ∃ r : ℝ, grad s (fun x => γ x) k = r ∧ gradQuot s (fun x => γ x) k = r
    ∧ (s k = ⊥ → r = 0) := by
  obtain ⟨e, hS, he, hbot, hden⟩ := real_row s h1 h2
  obtain ⟨S, hSdef⟩ : ∃ S, S = ∑ k, e k := ⟨_, rfl⟩
  rw [← hSdef] at hS hden
  have hp : ∀ x, prob s x = ((e x * (1 / S) : ℝ) : EReal) := fun x => by
    unfold prob
    rw [hden, Ideal.div_coe hS.ne', he, ← EReal.coe_mul]
  refine ⟨e k * (1 / S) * (γ k - ∑ x : Fin n, e x * (1 / S) * γ x), ?_, ?_, fun h => by rw [hbot k h]; ring⟩
  · unfold grad
    simp only [hp, ← EReal.coe_mul, ← coe_sum, ← EReal.coe_sub]
  · unfold gradQuot
    have hSS : S * S ≠ 0 := mul_ne_zero hS.ne' hS.ne'
    simp only [he, hden, ← EReal.coe_mul, Ideal.div_coe hS.ne', Ideal.div_coe hSS, one_mul, ← coe_sum, ← EReal.coe_neg,
      ← EReal.coe_add]
    congr 1
    have h : ∑ x : Fin n, γ x * (1 / (S * S)) * e x = (1 / S) * ∑ x : Fin n, e x * (1 / S) * γ x := by
      rw [Finset.mul_sum]
      apply Finset.sum_congr rfl
      intro x _
      field_simp
    rw [h]
    ring

theorem grad_eq_gradQuot (k : Fin n) : grad s (fun x => γ x) k = gradQuot s (fun x => γ x) k := by
  obtain ⟨r, h, h', -⟩ := grad_num s h1 h2 γ k
  rw [h, h']

theorem grad_bot (k : Fin n) (hk : s k = ⊥) : grad s (fun x => γ x) k = 0 := by
  obtain ⟨r, h, -, h'⟩ := grad_num s h1 h2 γ k
  rw [h, h' hk, EReal.coe_zero]

/-- The probabilities are numbers. -/
theorem prob_num (k : Fin n) : ∃ r : ℝ, prob s k = r := by
  obtain ⟨e, hS, he, -, hden⟩ := real_row s h1 h2
  exact ⟨e k * (1 / ∑ k, e k), by unfold prob; rw [hden, Ideal.div_coe hS.ne', he, ← EReal.coe_mul]⟩

end Cert.Softmax
-- ==== Proof.Fox.Math.lean ====
/- The gradient of the forgetting attention, entry by entry, over the extended reals. `X` holds the projections (the
   queries of head `h` in the columns from `9216 + 128 h` on, the keys from `10240 + 128 h`, the values from
   `11264 + 128 h`), `C` the cumulative decays, `G` the gradient with respect to the attention's result. -/
module

public import proofs.«01_k».proof.Proof.Common.Softmax
public import Idealize.ShloMosaic.Lib.Pointwise

@[expose] public noncomputable section

namespace Cert.Fox

open Idealize.ShloMosaic Cert.Softmax

variable (X : (⟨2, ![2176, 13824]⟩ : Shape).Idx → EReal) (C : (⟨2, ![2176, 128]⟩ : Shape).Idx → EReal)
  (G : (⟨2, ![2176, 1024]⟩ : Shape).Idx → EReal)

/-- Column `d` of head `h` in the part of `X` from column `o` on. -/
abbrev col (o : ℕ) (ho : o ≤ 12800) (h : Fin 8) (d : Fin 128) : Fin 13824 :=
  ⟨o + 128 * h.val + d.val, by have := h.isLt; have := d.isLt; omega⟩
/-- Column `d` of head `h` in an array with the heads side by side. -/
abbrev hcol (h : Fin 8) (d : Fin 128) : Fin 1024 := ⟨128 * h.val + d.val, by have := h.isLt; have := d.isLt; omega⟩
/-- The column of head `h`'s decays. -/
abbrev dcol (h : Fin 8) : Fin 128 := ⟨h.val, by have := h.isLt; omega⟩

/-- The head and the column in a head of a column of an array with the heads side by side. -/
abbrev hd (e : Fin 1024) : Fin 8 := ⟨e.val / 128, by have := e.isLt; omega⟩
abbrev cd (e : Fin 1024) : Fin 128 := ⟨e.val % 128, by omega⟩

theorem hd_hcol (h : Fin 8) (d : Fin 128) : hd (hcol h d) = h :=
  Fin.ext (by show (128 * h.val + d.val) / 128 = h.val; have := d.isLt; omega)
theorem cd_hcol (h : Fin 8) (d : Fin 128) : cd (hcol h d) = d :=
  Fin.ext (by show (128 * h.val + d.val) % 128 = d.val; have := d.isLt; omega)

/-- `128 ^ -0.5`. -/
def scale : EReal := Ideal.ofBits .f32 1035273459#32

/-- The score of query `q` against key `k`. -/
def score (h : Fin 8) (q k : Fin 2176) : EReal :=
  (∑ d : Fin 128, X (ix2 q (col 9216 (by omega) h d)) * X (ix2 k (col 10240 (by omega) h d))) * scale
    + (C (ix2 q (dcol h)) - C (ix2 k (dcol h)))
/-- The scores of a query, `⊥` past its own position. -/
def scores (h : Fin 8) (q k : Fin 2176) : EReal := if k.val ≤ q.val then score X C h q k else ⊥
/-- The gradient with respect to a probability. -/
def dp (h : Fin 8) (q k : Fin 2176) : EReal :=
  ∑ d : Fin 128, G (ix2 q (hcol h d)) * X (ix2 k (col 11264 (by omega) h d))
/-- The gradient with respect to a score. -/
def ds (h : Fin 8) (q k : Fin 2176) : EReal := grad (scores X C h q) (dp X G h q) k

def dq (h : Fin 8) (q : Fin 2176) (d : Fin 128) : EReal :=
  ∑ k : Fin 2176, ds X C G h q k * scale * X (ix2 k (col 10240 (by omega) h d))
def dk (h : Fin 8) (k : Fin 2176) (d : Fin 128) : EReal :=
  ∑ q : Fin 2176, ds X C G h q k * scale * X (ix2 q (col 9216 (by omega) h d))
def dv (h : Fin 8) (k : Fin 2176) (d : Fin 128) : EReal :=
  ∑ q : Fin 2176, prob (scores X C h q) k * G (ix2 q (hcol h d))
def dct (h : Fin 8) (q : Fin 2176) : EReal := ∑ k : Fin 2176, ds X C G h q k
def dcs (h : Fin 8) (k : Fin 2176) : EReal := ∑ q : Fin 2176, -ds X C G h q k

theorem scale_num : ∃ r : ℝ, scale = r := ⟨_, by unfold scale; simp [Ideal.ofBits, Ideal.ieee]; rfl⟩

variable (hX : ∀ i, ∃ r : ℝ, X i = r) (hC : ∀ i, ∃ r : ℝ, C i = r) (hG : ∀ i, ∃ r : ℝ, G i = r)

include hX hC in
theorem score_num (h : Fin 8) (q k : Fin 2176) : ∃ r : ℝ, score X C h q k = r := by
  choose x hx using hX
  choose y hy using hC
  obtain ⟨σ, hσ⟩ := scale_num
  exact ⟨_, by simp only [score, hx, hy, hσ, ← EReal.coe_mul, ← coe_sum, ← EReal.coe_sub, ← EReal.coe_add]; rfl⟩

include hX hC in
theorem scores_ne_top (h : Fin 8) (q k : Fin 2176) : scores X C h q k ≠ ⊤ := by
  obtain ⟨r, hr⟩ := score_num X C hX hC h q k
  unfold scores
  split
  · rw [hr]; exact EReal.coe_ne_top r
  · exact bot_ne_top

include hX hC in
theorem scores_ne_bot (h : Fin 8) (q : Fin 2176) : ∃ k, scores X C h q k ≠ ⊥ := by
  obtain ⟨r, hr⟩ := score_num X C hX hC h q q
  refine ⟨q, ?_⟩
  unfold scores
  rw [if_pos le_rfl, hr]
  exact EReal.coe_ne_bot r

include hX hG in
theorem dp_num (h : Fin 8) (q : Fin 2176) : ∃ γ : Fin 2176 → ℝ, dp X G h q = fun k => (γ k : EReal) := by
  choose x hx using hX
  choose y hy using hG
  exact ⟨_, by funext k; simp only [dp, hx, hy, ← EReal.coe_mul, ← coe_sum]; rfl⟩

include hX hC hG

/-- The gradient with respect to a score is a number, has the form of the derivative of a quotient, and is zero past
    the query's own position. -/
theorem ds_num (h : Fin 8) (q k : Fin 2176) : ∃ r : ℝ, ds X C G h q k = r := by
  obtain ⟨γ, hγ⟩ := dp_num X G hX hG h q
  obtain ⟨r, hr, -, -⟩ := grad_num _ (scores_ne_top X C hX hC h q) (scores_ne_bot X C hX hC h q) γ k
  exact ⟨r, by unfold ds; rw [hγ, hr]⟩

theorem ds_eq_quot (h : Fin 8) (q k : Fin 2176) :
    ds X C G h q k = if k.val ≤ q.val then gradQuot (scores X C h q) (dp X G h q) k else 0 := by
  obtain ⟨γ, hγ⟩ := dp_num X G hX hG h q
  unfold ds
  rw [hγ]
  split
  · exact grad_eq_gradQuot _ (scores_ne_top X C hX hC h q) (scores_ne_bot X C hX hC h q) γ k
  · rename_i hk
    exact grad_bot _ (scores_ne_top X C hX hC h q) (scores_ne_bot X C hX hC h q) γ k (by unfold scores; rw [if_neg hk])

end Cert.Fox
-- ==== Proof.Fox.Blocks.lean ====
/- The blocks the kernel's windows read, at an index of the argument arrays: grid point `t` works on the head `t / 8`
   and the 272 query rows from `272 * (t % 8)` on. -/
module

public import proofs.«01_k».proof.Proof.Common.Idx
public import proofs.«01_k».proof.Proof.Gen.KernelIdeal.Value
public import proofs.«01_k».proof.Proof.Fox.Math
public import Idealize.ShloMosaic.Lib.Tactic
public import Idealize.ShloMosaic.Lib.Pointwise.Tactic

@[expose] public noncomputable section

set_option maxRecDepth 16384

namespace Cert.KernelIdeal.Fox

open Cert.KernelIdeal Cert.KernelIdeal.Gen Idealize.ShloMosaic Idealize.ShloMosaic.TcCoe Idealize.SL.Sem Cert.Fox Cert.Idx

variable {F : FTy → Type} [FloatOps F] [Named F] (m : (ℓ : Loc nD τ sig) → Buf (Elt F) ℓ) (c : Dev nD)

/-- A grid point is one of 64. -/
theorem lt64 (t : Fin cfg0.N) : t.val < 64 := lt_of_lt_of_eq t.isLt N_0

/-- Where the windows' blocks start, in blocks. -/
theorem idx_in : ∀ t : Fin grid0.N,
    win0_0.index t 0 = t.val % 8 ∧ win0_0.index t 1 = 72 + t.val / 8 ∧
    win0_1.index t 0 = 0 ∧ win0_1.index t 1 = 80 + t.val / 8 ∧
    win0_2.index t 0 = 0 ∧ win0_2.index t 1 = 88 + t.val / 8 ∧
    win0_3.index t 0 = t.val / 8 ∧ win0_3.index t 1 = t.val % 8 ∧ win0_3.index t 2 = 0 ∧
    win0_4.index t 0 = t.val / 8 ∧ win0_4.index t 1 = 0 ∧ win0_4.index t 2 = 0 ∧
    win0_5.index t 0 = t.val % 8 ∧ win0_5.index t 1 = t.val / 8 := by decide +kernel

/-- The query row `r` of grid point `t`. -/
abbrev row (t : Fin cfg0.N) (r : Fin 272) : Fin 2176 :=
  ⟨272 * (t.val % 8) + r.val, by have := lt64 t; have := r.isLt; omega⟩

/-- The head of grid point `t`. -/
abbrev head (t : Fin cfg0.N) : Fin 8 := ⟨t.val / 8, by have := lt64 t; omega⟩

theorem blk0 (t : Fin cfg0.N) (r : Fin 272) (d : Fin 128) :
    (iblk m c 0 t : Vec F S272x128 .f32) (ix2 r d)
      = m ((c : Thread nD τ).loc main_arg0) (ix2 (row t r) (col 9216 (by decide) (head t) d)) := by
  obtain ⟨e0, e1, -⟩ := idx_in t
  unfold iblk
  rw [View.read_apply]
  show V m c main_arg0 _ = _
  rw [V_main_arg0]
  exact congrArg _ (ext2 (by show win0_0.index t 0 * 272 + 1 * r.val = 272 * (t.val % 8) + r.val; rw [e0]; omega) (by show win0_0.index t 1 * 128 + 1 * d.val = 9216 + 128 * (t.val / 8) + d.val; rw [e1]; omega))

theorem blk1 (t : Fin cfg0.N) (k : Fin 2176) (d : Fin 128) :
    (iblk m c 1 t : Vec F S2176x128 .f32) (ix2 k d)
      = m ((c : Thread nD τ).loc main_arg0) (ix2 k (col 10240 (by decide) (head t) d)) := by
  obtain ⟨-, -, e0, e1, -⟩ := idx_in t
  unfold iblk
  rw [View.read_apply]
  show V m c main_arg0 _ = _
  rw [V_main_arg0]
  exact congrArg _ (ext2 (by show win0_1.index t 0 * 2176 + 1 * k.val = k.val; rw [e0]; omega) (by show win0_1.index t 1 * 128 + 1 * d.val = 10240 + 128 * (t.val / 8) + d.val; rw [e1]; omega))

theorem blk2 (t : Fin cfg0.N) (k : Fin 2176) (d : Fin 128) :
    (iblk m c 2 t : Vec F S2176x128 .f32) (ix2 k d)
      = m ((c : Thread nD τ).loc main_arg0) (ix2 k (col 11264 (by decide) (head t) d)) := by
  obtain ⟨-, -, -, -, e0, e1, -⟩ := idx_in t
  unfold iblk
  rw [View.read_apply]
  show V m c main_arg0 _ = _
  rw [V_main_arg0]
  exact congrArg _ (ext2 (by show win0_2.index t 0 * 2176 + 1 * k.val = k.val; rw [e0]; omega) (by show win0_2.index t 1 * 128 + 1 * d.val = 11264 + 128 * (t.val / 8) + d.val; rw [e1]; omega))

theorem blk5 (t : Fin cfg0.N) (r : Fin 272) (d : Fin 128) :
    (iblk m c 5 t : Vec F S272x128 .f32) (ix2 r d)
      = m ((c : Thread nD τ).loc main_arg2) (ix2 (row t r) (hcol (head t) d)) := by
  obtain ⟨-, -, -, -, -, -, -, -, -, -, -, -, e0, e1⟩ := idx_in t
  unfold iblk
  rw [View.read_apply]
  show V m c main_arg2 _ = _
  rw [V_main_arg2]
  exact congrArg _ (ext2 (by show win0_5.index t 0 * 272 + 1 * r.val = 272 * (t.val % 8) + r.val; rw [e0]; omega) (by show win0_5.index t 1 * 128 + 1 * d.val = 128 * (t.val / 8) + d.val; rw [e1]; omega))

/-- The decays of a head: column `h` of the table. -/
theorem blk3 (t : Fin cfg0.N) (r : Fin 272) :
    (iblk m c 3 t : Vec F S1x272x1 .f32) (ix3 0 r 0)
      = m ((c : Thread nD τ).loc main_arg1) (ix2 (row t r) (dcol (head t))) := by
  obtain ⟨-, -, -, -, -, -, e0, e1, e2, -⟩ := idx_in t
  unfold iblk
  rw [View.read_apply]
  have hV : V m c main_v2 = broadcastInDim S8x2176x1 ![0, 1] bcast_S8x2176_S8x2176x1_0_1 (transpose S8x2176 [1, 0]
      (extractStridedSlice S2176x8 ![0, 0] (m ((c : Thread nD τ).loc main_arg1)) slices_S2176x128_S2176x8_0_0)
      transposes_S2176x8_S8x2176_1_0) := by
    show StableHlo.after hostOps0 _ _ = _
    after_results
  show V m c main_v2 _ = _
  rw [hV]
  pointwise
  exact congrArg _ (ext2 (by show win0_3.index t 1 * 272 + 1 * r.val = 272 * (t.val % 8) + r.val; rw [e1]; omega) (by show win0_3.index t 0 * 1 + 1 * 0 = t.val / 8; rw [e0]; omega))

theorem blk4 (t : Fin cfg0.N) (k : Fin 2176) :
    (iblk m c 4 t : Vec F S1x1x2176 .f32) (ix3 0 0 k)
      = m ((c : Thread nD τ).loc main_arg1) (ix2 k (dcol (head t))) := by
  obtain ⟨-, -, -, -, -, -, -, -, -, e0, e1, e2, -⟩ := idx_in t
  unfold iblk
  rw [View.read_apply]
  have hV : V m c main_v5 = broadcastInDim S8x1x2176 ![0, 2] bcast_S8x2176_S8x1x2176_0_2 (transpose S8x2176 [1, 0]
      (extractStridedSlice S2176x8 ![0, 0] (m ((c : Thread nD τ).loc main_arg1)) slices_S2176x128_S2176x8_0_0)
      transposes_S2176x8_S8x2176_1_0) := by
    show StableHlo.after hostOps0 _ _ = _
    after_results
  show V m c main_v5 _ = _
  rw [hV]
  pointwise
  exact congrArg _ (ext2 (by show win0_4.index t 2 * 2176 + 1 * k.val = k.val; rw [e2]; omega) (by show win0_4.index t 0 * 1 + 1 * 0 = t.val / 8; rw [e0]; omega))

end Cert.KernelIdeal.Fox
-- ==== Proof.Common.Mask.lean ====
/- A comparison of two positions, as 32-bit words, and the choice it makes. -/
module

public import Idealize.ShloMosaic.PureOps.Ideal

@[expose] public noncomputable section

namespace Cert.Mask

open Idealize.ShloMosaic

/-- The choice by a signed comparison of two words below `2 ^ 31`. -/
theorem select_sle {α : Type} (x y : BitVec 32) (a b : ℕ) (ha : a < 2 ^ 31) (hb : b < 2 ^ 31) (hx : x = BitVec.ofNat 32 a)
    (hy : y = BitVec.ofNat 32 b) (u v : α) : Scalar.select (IntOp.cmpi .sle x y) u v = if a ≤ b then u else v := by
  subst hx hy
  have e : (BitVec.ofNat 32 a).sle (BitVec.ofNat 32 b) = decide (a ≤ b) := by
    have h : ∀ n : ℕ, n < 2 ^ 31 → (BitVec.ofNat 32 n).toInt = (n : ℤ) := fun n hn => by
      rw [BitVec.toInt_eq_toNat_of_lt (by rw [BitVec.toNat_ofNat, Nat.mod_eq_of_lt (by omega)]; omega), BitVec.toNat_ofNat,
        Nat.mod_eq_of_lt (by omega)]
    simp only [BitVec.sle, h a ha, h b hb, Nat.cast_le]
  simp only [IntOp.cmpi, e, Scalar.select]
  by_cases h : a ≤ b <;> simp [h]

/-- A row of a block of `n` rows, as a word. -/
theorem row_word (i n r : ℕ) :
    IntOp.addi (Scalar.muli (BitVec.ofNat 32 i) (BitVec.ofNat 32 n)) (BitVec.ofNat 32 r) = BitVec.ofNat 32 (n * i + r) := by
  show BitVec.ofNat 32 i * BitVec.ofNat 32 n + BitVec.ofNat 32 r = _
  rw [← BitVec.ofNat_mul, ← BitVec.ofNat_add, Nat.mul_comm]

end Cert.Mask
-- ==== Proof.Fox.Payload.lean ====
/- What one grid point computes, at an index: the probabilities of its query rows, the gradients with respect to the
   scores, and the blocks it leaves, in the terms of the arrays the kernel is given. -/
module

public import proofs.«01_k».proof.Proof.Fox.Point
public import proofs.«01_k».proof.Proof.Fox.Blocks
public import proofs.«01_k».proof.Proof.Common.Mask
public import Idealize.ShloMosaic.Lib.Pointwise

@[expose] public noncomputable section

set_option maxRecDepth 16384

namespace Cert.KernelIdeal.Fox

open Cert.KernelIdeal Cert.KernelIdeal.Gen Idealize.ShloMosaic Idealize.ShloMosaic.TcCoe Idealize.SL.Sem Cert.Fox
  Cert.Softmax

variable (m : (ℓ : Loc nD τ sig) → Buf (Elt Ideal) ℓ) (c : Dev nD)

/-- The projections, the decays and the gradient the kernel is given. -/
abbrev X : Buf (Elt Ideal) ((c : Thread nD τ).loc main_arg0) := m ((c : Thread nD τ).loc main_arg0)
abbrev C : Buf (Elt Ideal) ((c : Thread nD τ).loc main_arg1) := m ((c : Thread nD τ).loc main_arg1)
abbrev G : Buf (Elt Ideal) ((c : Thread nD τ).loc main_arg2) := m ((c : Thread nD τ).loc main_arg2)

theorem neg_inf : Ideal.ofBits FTy.f32 4286578688#32 = (⊥ : EReal) := by simp [Ideal.ofBits, Ideal.ieee]

theorem mask_bot : Named.named (F := Ideal) κ "mask" (φ := .f32) 4048155338#32 = (⊥ : EReal) :=
  IdealRules.named_const.ideal_named_scalar _ _ _ _ rfl

theorem coords1 : ∀ t : Fin grid0.N, ((grid0.coords t) 1).val = t.val % 8 := by decide +kernel

/-- The probabilities a point computes from its blocks, whose masked scores are `s`. -/
theorem probs_apply (i : grid0.Coords) (a : Vec Ideal S272x128 .f32) (b : Vec Ideal S2176x128 .f32)
    (x : Vec Ideal S1x272x1 .f32) (y : Vec Ideal S1x1x2176 .f32) (r : Fin 272) (k : Fin 2176) (n : ℕ) (hn : (i 1).val = n)
    (hn8 : n < 8) (s : Fin 2176 → EReal)
    (hs : ∀ k : Fin 2176, s k = if k.val ≤ 272 * n + r.val then
      (∑ d : Fin 128, a (ix2 r d) * b (ix2 k d)) * scale + (x (ix3 0 r 0) - y (ix3 0 0 k)) else ⊥) :
    k0_pay3 i a b x y (ix2 r k) = prob s k := by
  have key : ∀ k : Fin 2176, Scalar.select (IntOp.cmpi .sle (BitVec.ofNat 32 k.val)
        (IntOp.addi (Scalar.muli (BitVec.ofNat 32 (i 1).val) 272#32) (BitVec.ofNat 32 r.val)))
      ((∑ d : Fin 128, a (ix2 r d) * b (ix2 k d)) * Ideal.ofBits FTy.f32 1035273459#32 + (x (ix3 0 r 0) - y (ix3 0 0 k)))
      (Named.named (F := Ideal) κ "mask" (φ := .f32) 4048155338#32) = s k := by
    intro k
    rw [Mask.select_sle _ _ k.val (272 * n + r.val) (by omega) (by omega) rfl
      ((Mask.row_word _ 272 _).trans (by rw [hn])), mask_bot, hs]
    rfl
  unfold k0_pay3
  pointwise [dot_S272x128_S2176x128_S272x2176_1_1_0_0_n_n]
  rw [neg_inf]
  exact congrArg (fun f => prob f k) (funext key)

/-- The probabilities. -/
theorem P_apply (t : Fin cfg0.N) (r : Fin 272) (k : Fin 2176) :
    P m c t (ix2 r k) = prob (scores (X m c) (C m c) (head t) (row t r)) k := by
  have ht := lt64 t
  refine probs_apply _ _ _ _ _ r k (t.val % 8) (coords1 t) (by omega) _ fun k => ?_
  simp only [blk0, blk1, blk3, blk4]
  rfl

/-- The gradient with respect to the probabilities. -/
theorem D_apply (t : Fin cfg0.N) (r : Fin 272) (k : Fin 2176) :
    D m c t (ix2 r k) = dp (X m c) (G m c) (head t) (row t r) k := by
  unfold D k0_pay4
  pointwise [dot_S272x128_S2176x128_S272x2176_1_1_0_0_n_n]
  unfold dp
  simp only [blk2, blk5]

/-- The gradient with respect to the scores. -/
theorem ds_apply (t : Fin cfg0.N) (r : Fin 272) (k : Fin 2176) :
    k0_pay5 (P m c t) (D m c t) (ix2 r k) = ds (X m c) (C m c) (G m c) (head t) (row t r) k := by
  unfold k0_pay5
  pointwise
  simp only [P_apply, D_apply]
  rfl

/-- The block of query gradients. -/
theorem dq_apply (t : Fin cfg0.N) (r : Fin 272) (d : Fin 128) :
    k0_pay7 (P m c t) (D m c t) (iblk m c 1 t) (ix2 r d) = dq (X m c) (C m c) (G m c) (head t) (row t r) d := by
  unfold k0_pay7 k0_pay6
  pointwise [dot_S272x2176_S2176x128_S272x128_1_0_0_1_n_n]
  simp only [ds_apply, blk1]
  rfl

/-- The block of the query decays' gradients. -/
theorem dct_apply (t : Fin cfg0.N) (r : Fin 272) :
    k0_pay8 (P m c t) (D m c t) (ix3 0 r 0) = dct (X m c) (C m c) (G m c) (head t) (row t r) := by
  unfold k0_pay8
  pointwise
  simp only [ds_apply]
  rfl

/-- What the point adds to the key gradients. -/
theorem dk_apply (t : Fin cfg0.N) (b : Vec Ideal S2176x128 .f32) (k : Fin 2176) (d : Fin 128) :
    k0_pay12 (P m c t) (D m c t) b (iblk m c 0 t) (ix2 k d) = b (ix2 k d)
      + ∑ r : Fin 272, ds (X m c) (C m c) (G m c) (head t) (row t r) k * scale
          * X m c (ix2 (row t r) (Cert.Fox.col 9216 (by omega) (head t) d)) := by
  unfold k0_pay12 k0_pay6
  pointwise [dot_S272x2176_S272x128_S2176x128_0_0_1_1_n_n]
  simp only [ds_apply, blk0]
  rfl

/-- What the point adds to the value gradients. -/
theorem dv_apply (t : Fin cfg0.N) (b : Vec Ideal S2176x128 .f32) (k : Fin 2176) (d : Fin 128) :
    k0_pay1 (k0_pay13 b) (k0_pay14 (P m c t)) (k0_pay15 (iblk m c 5 t)) (ix2 k d) = b (ix2 k d)
      + ∑ r : Fin 272, prob (scores (X m c) (C m c) (head t) (row t r)) k * G m c (ix2 (row t r) (hcol (head t) d)) := by
  unfold k0_pay1 k0_pay13 k0_pay14 k0_pay15
  pointwise [dot_S272x2176_S272x128_S2176x128_0_0_1_1_n_n]
  simp only [P_apply, blk5]

/-- What the point takes from the key decays' gradients. -/
theorem dcs_apply (t : Fin cfg0.N) (b : Vec Ideal S1x1x2176 .f32) (k : Fin 2176) :
    k0_pay2 (k0_pay5 (P m c t) (D m c t)) b (ix3 0 0 k) = b (ix3 0 0 k)
      - ∑ r : Fin 272, ds (X m c) (C m c) (G m c) (head t) (row t r) k := by
  unfold k0_pay2
  pointwise
  simp only [ds_apply]

theorem zero_k (k : Fin 2176) (d : Fin 128) : k0_pay9 (F := Ideal) (ix2 k d) = 0 := by
  unfold k0_pay9
  pointwise
theorem zero_v (k : Fin 2176) (d : Fin 128) : k0_pay10 (F := Ideal) (ix2 k d) = 0 := by
  unfold k0_pay10
  pointwise
theorem zero_s (k : Fin 2176) : k0_pay11 (F := Ideal) (ix3 0 0 k) = 0 := by
  unfold k0_pay11
  pointwise

end Cert.KernelIdeal.Fox
-- ==== Proof.Common.Sum.lean ====
/- A sum kept from point to point of a grid, and a sum over an array's rows block by block. -/
module

public import Mathlib.Algebra.BigOperators.Fin
public import Mathlib.Data.Fintype.BigOperators
public import Mathlib.Logic.Equiv.Fin.Basic

@[expose] public section

namespace Cert.Sum

open Finset

/-- A value restarted at every `p`-th point and added to at the others. -/
theorem running {α : Type} [AddCommMonoid α] {N : ℕ} (p : ℕ) (f : ∀ n, n < N → α) (B : ℕ → α)
    (first : ∀ n h, n % p = 0 → f n h = B n)
    (later : ∀ n h, ¬n % p = 0 → ∀ h', f n h = f (n - 1) h' + B n) :
    ∀ n h, f n h = ∑ i ∈ range (n % p + 1), B (n - n % p + i) := by
  intro n
  induction n with
  | zero => intro h; rw [first 0 h (Nat.zero_mod p)]; simp
  | succ n ih =>
    intro h
    by_cases hn : (n + 1) % p = 0
    · rw [first _ h hn, hn]; simp
    · rw [later _ h hn (by omega)]
      show f n _ + _ = _
      have hp : p ≠ 1 := fun e => hn (by rw [e]; exact Nat.mod_one _)
      have hmod : (n + 1) % p = n % p + 1 := by
        rcases Nat.eq_zero_or_pos p with rfl | h0
        · simp
        · have hlt := Nat.mod_lt n h0
          rw [Nat.add_mod, Nat.mod_eq_of_lt (show 1 < p by omega)]
          by_cases hlast : n % p + 1 = p
          · exact absurd (by rw [Nat.add_mod, Nat.mod_eq_of_lt (show 1 < p by omega), hlast, Nat.mod_self]) hn
          · exact Nat.mod_eq_of_lt (by omega)
      have hle := Nat.mod_le n p
      rw [ih, hmod, sum_range_succ _ (n % p + 1)]
      congr 1
      · refine sum_congr rfl fun i _ => ?_
        congr 1
        omega
      · congr 1
        omega

/-- The rows of `p` blocks of `b` rows. -/
theorem blocks {α : Type} [AddCommMonoid α] (p b n : ℕ) (hn : n = p * b) (g : Fin n → α) (B : ℕ → α)
    (hB : ∀ i : Fin p, B i.val = ∑ r : Fin b, g ⟨b * i.val + r.val, by
      have := Nat.mul_le_mul_left b (Nat.succ_le_of_lt i.isLt)
      rw [hn, Nat.mul_comm p b]; rw [Nat.mul_succ] at this; have := r.isLt; omega⟩) :
    ∑ i ∈ range p, B i = ∑ q, g q := by
  subst hn
  rw [sum_range, ← Fintype.sum_equiv finProdFinEquiv (fun x => g (finProdFinEquiv x)) g (fun _ => rfl), Fintype.sum_prod_type]
  refine sum_congr rfl fun i _ => ?_
  rw [hB i]
  refine sum_congr rfl fun r _ => ?_
  congr 1
  apply Fin.ext
  show b * i.val + r.val = r.val + b * i.val
  exact Nat.add_comm _ _

/-- A sum restarted at every `p`-th point, to which each point adds its block of the terms `g`: the last of `p` points
    holds the sum of all terms. -/
theorem swept {α : Type} [AddCommMonoid α] {N : ℕ} (p b n : ℕ) (hn : n = p * b) (hp : 0 < p) (f : ∀ k, k < N → α)
    (g : Fin N → Fin n → α) (inn : Fin N → Fin b → Fin n) (hinn : ∀ t x, (inn t x).val = b * (t.val % p) + x.val)
    (hg : ∀ t u : Fin N, t.val / p = u.val / p → g t = g u)
    (first : ∀ k (h : k < N), k % p = 0 → f k h = ∑ x, g ⟨k, h⟩ (inn ⟨k, h⟩ x))
    (later : ∀ k (h : k < N), ¬k % p = 0 → ∀ h', f k h = f (k - 1) h' + ∑ x, g ⟨k, h⟩ (inn ⟨k, h⟩ x))
    (t : Fin N) (h : t.val % p = p - 1) : f t.val t.isLt = ∑ x, g t x := by
  obtain ⟨B, hB⟩ : ∃ B : ℕ → α, ∀ t : Fin N, B t.val = ∑ x, g t (inn t x) :=
    ⟨fun k => if h : k < N then ∑ x, g ⟨k, h⟩ (inn ⟨k, h⟩ x) else 0, fun t => dif_pos t.isLt⟩
  rw [running p f B (fun k h h0 => (first k h h0).trans (hB ⟨k, h⟩).symm)
    (fun k h h0 h' => (later k h h0 h').trans (congrArg (f (k - 1) h' + ·) (hB ⟨k, h⟩).symm)) t.val t.isLt, h,
    Nat.sub_add_cancel hp]
  refine blocks p b n hn (g t) (fun i => B (t.val - (p - 1) + i)) fun i => ?_
  have hi := i.isLt
  have hd := Nat.div_add_mod t.val p
  have hk : t.val - (p - 1) + i.val = p * (t.val / p) + i.val := by omega
  have hN : p * (t.val / p) + i.val < N := by have := t.isLt; omega
  show B (t.val - (p - 1) + i.val) = _
  rw [hk, hB ⟨_, hN⟩, hg ⟨_, hN⟩ t (by
    show (p * (t.val / p) + i.val) / p = t.val / p
    rw [Nat.mul_add_div hp, Nat.div_eq_of_lt hi, add_zero])]
  refine sum_congr rfl fun x _ => ?_
  congr 1
  apply Fin.ext
  rw [hinn]
  show b * ((p * (t.val / p) + i.val) % p) + x.val = b * i.val + x.val
  rw [Nat.mul_add_mod, Nat.mod_eq_of_lt hi]

end Cert.Sum
-- ==== Proof.Common.Index.lean ====
/- An index of an array of two or three axes, from its coordinates. -/
module

public import Idealize.ShloMosaic.Lib.ValueIdxCore
public import Idealize.ShloMosaic.Lib.Pointwise

@[expose] public noncomputable section

namespace Cert.Index

open Idealize.ShloMosaic

theorem ext2 {n0 n1 : ℕ} (i : (⟨2, ![n0, n1]⟩ : Shape).Idx) (a : Fin n0) (b : Fin n1) (h0 : (i 0).val = a.val)
    (h1 : (i 1).val = b.val) : i = ix2 a b := by
  funext x
  apply Fin.ext
  match x with
  | ⟨0, _⟩ => exact h0
  | ⟨1, _⟩ => exact h1

theorem ext3 {n0 n1 n2 : ℕ} (i : (⟨3, ![n0, n1, n2]⟩ : Shape).Idx) (a : Fin n0) (b : Fin n1) (c : Fin n2)
    (h0 : (i 0).val = a.val) (h1 : (i 1).val = b.val) (h2 : (i 2).val = c.val) : i = ix3 a b c := by
  funext x
  apply Fin.ext
  match x with
  | ⟨0, _⟩ => exact h0
  | ⟨1, _⟩ => exact h1
  | ⟨2, _⟩ => exact h2

theorem mid {n : ℕ} (i : (⟨3, ![1, n, 1]⟩ : Shape).Idx) : i = ix3 0 (i 1) 0 :=
  ext3 i _ _ _ (congrArg Fin.val (Subsingleton.elim (α := Fin 1) _ _)) rfl
    (congrArg Fin.val (Subsingleton.elim (α := Fin 1) _ _))

theorem last {n : ℕ} (i : (⟨3, ![1, 1, n]⟩ : Shape).Idx) : i = ix3 0 0 (i 2) :=
  ext3 i _ _ _ (congrArg Fin.val (Subsingleton.elim (α := Fin 1) _ _))
    (congrArg Fin.val (Subsingleton.elim (α := Fin 1) _ _)) rfl

end Cert.Index
-- ==== Proof.Fox.Array.lean ====
/- The five arrays the kernel leaves, entry by entry: a block of query rows is written by its own point, the key and
   value gradients are summed over the eight blocks of query rows. -/
module

public import proofs.«01_k».proof.Proof.Common.Idx
public import proofs.«01_k».proof.Proof.Fox.Payload
public import proofs.«01_k».proof.Proof.Common.Sum
public import proofs.«01_k».proof.Proof.Common.Index

@[expose] public noncomputable section

set_option maxRecDepth 16384

namespace Cert.KernelIdeal.Fox

open Cert.KernelIdeal Cert.KernelIdeal.Gen Idealize.ShloMosaic Idealize.ShloMosaic.TcCoe Idealize.SL.Sem Cert.Fox Cert.Idx
  Cert.Softmax

variable (m : (ℓ : Loc nD τ sig) → Buf (Elt Ideal) ℓ) (c : Dev nD)

def dqArr : Buf (Elt Ideal) ((c : Thread nD τ).loc main_v6_0) := fun i : S2176x1024.Idx =>
  dq (X m c) (C m c) (G m c) (hd (i 1)) (i 0) (cd (i 1))
def dkArr : Buf (Elt Ideal) ((c : Thread nD τ).loc main_v6_1) := fun i : S2176x1024.Idx =>
  dk (X m c) (C m c) (G m c) (hd (i 1)) (i 0) (cd (i 1))
def dvArr : Buf (Elt Ideal) ((c : Thread nD τ).loc main_v6_2) := fun i : S2176x1024.Idx =>
  dv (X m c) (C m c) (G m c) (hd (i 1)) (i 0) (cd (i 1))
def dctArr : Buf (Elt Ideal) ((c : Thread nD τ).loc main_v6_3) := fun i : S8x2176x1.Idx =>
  dct (X m c) (C m c) (G m c) (i 0) (i 1)
def dcsArr : Buf (Elt Ideal) ((c : Thread nD τ).loc main_v6_4) := fun i : S8x1x2176.Idx =>
  dcs (X m c) (C m c) (G m c) (i 0) (i 2)

/-- Where the output windows' blocks start, in blocks. -/
theorem idx_out : ∀ t : Fin grid0.N,
    win0_6.index t 0 = t.val % 8 ∧ win0_6.index t 1 = t.val / 8 ∧
    win0_7.index t 0 = 0 ∧ win0_7.index t 1 = t.val / 8 ∧
    win0_8.index t 0 = 0 ∧ win0_8.index t 1 = t.val / 8 ∧
    win0_9.index t 0 = t.val / 8 ∧ win0_9.index t 1 = t.val % 8 ∧ win0_9.index t 2 = 0 ∧
    win0_10.index t 0 = t.val / 8 ∧ win0_10.index t 1 = 0 ∧ win0_10.index t 2 = 0 := by decide +kernel

/-- A point's contents, whichever of a head's points it is. -/
theorem leaves_any (t : Fin cfg0.N) : ∃ k v s, outsAt0 m c t.val t.isLt = leaves m c t k v s := by
  by_cases h0 : t.val % 8 = 0
  · exact ⟨_, _, _, first m c t h0⟩
  · exact ⟨_, _, _, later m c t h0 (lt_of_le_of_lt (Nat.sub_le _ _) t.isLt)⟩

/-- A quantity a head's first point sets and its later points add to, of one term a query row: after the head's last
    point it is the sum over all rows. -/
theorem summed {α : Type} (proj : α → EReal) (f : (n : ℕ) → n < cfg0.N → α) (g : Fin 8 → Fin 2176 → EReal)
    (first : ∀ t : Fin cfg0.N, t.val % 8 = 0 → proj (f t.val t.isLt) = ∑ r : Fin 272, g (head t) (row t r))
    (later : ∀ (t : Fin cfg0.N) (h : t.val - 1 < cfg0.N), ¬t.val % 8 = 0 →
      proj (f t.val t.isLt) = proj (f (t.val - 1) h) + ∑ r : Fin 272, g (head t) (row t r))
    (t : Fin cfg0.N) (h7 : t.val % 8 = 7) : proj (f t.val t.isLt) = ∑ q : Fin 2176, g (head t) q := by
  have ht := lt64 t
  have B : ∃ B : ℕ → EReal, ∀ t : Fin cfg0.N, B t.val = ∑ r : Fin 272, g (head t) (row t r) :=
    ⟨fun n => if h : n < cfg0.N then ∑ r : Fin 272, g (head ⟨n, h⟩) (row ⟨n, h⟩ r) else 0, fun t => dif_pos t.isLt⟩
  obtain ⟨B, hB⟩ := B
  rw [Sum.running 8 (fun n h => proj (f n h)) B (fun n h h0 => (first ⟨n, h⟩ h0).trans (hB ⟨n, h⟩).symm)
    (fun n h h0 h' => by rw [hB ⟨n, h⟩]; exact later ⟨n, h⟩ h' h0) t.val t.isLt, h7]
  refine Sum.blocks 8 272 2176 rfl (g (head t)) (fun i => B (t.val - 7 + i)) fun i => ?_
  have hi := i.isLt
  have hN : t.val - 7 + i.val < cfg0.N := lt_of_lt_of_eq (by omega : t.val - 7 + i.val < 64) N_0.symm
  show B (t.val - 7 + i.val) = _
  rw [hB ⟨_, hN⟩]
  refine Finset.sum_congr rfl fun r _ => ?_
  congr 1
  · exact Fin.ext (by show (t.val - 7 + i.val) / 8 = t.val / 8; omega)
  · exact Fin.ext (by show 272 * ((t.val - 7 + i.val) % 8) + r.val = 272 * i.val + r.val; omega)

theorem flushed_dq (t : Fin cfg0.N) (hf : (cfg0.win 6).flush t = true) :
    (dats m 0 c).flushed 6 t = ((cfg0.win 6).blk t).view.read (Elt Ideal) (dqArr m c) := by
  obtain ⟨e0, e1, -⟩ := idx_out t
  obtain ⟨k, v, s, h⟩ := leaves_any m c t
  rw [Value.flushed6, h]
  funext y
  obtain ⟨r, d, rfl⟩ := of2 y
  rw [View.read_apply]
  show k0_pay7 (P m c t) (D m c t) (iblk m c 1 t) (ix2 r d) = dqArr m c _
  rw [dq_apply, show ((cfg0.win 6).blk t).view.emb (ix2 r d) = ix2 (row t r) (hcol (head t) d) from
    ext2 (by show win0_6.index t 0 * 272 + 1 * r.val = 272 * (t.val % 8) + r.val; omega)
      (by show win0_6.index t 1 * 128 + 1 * d.val = 128 * (t.val / 8) + d.val; omega)]
  show _ = dq (X m c) (C m c) (G m c) (hd (hcol (head t) d)) (row t r) (cd (hcol (head t) d))
  rw [hd_hcol, cd_hcol]

theorem final_dq : (dats m 0 c).arrAt 6 cfg0.N = dqArr m c :=
  (dats m 0 c).arrAt_eq_of_cover 6 (dqArr m c) (flushed_dq m c) fun i : S2176x1024.Idx => by
    obtain ⟨h0, h1⟩ := below2 i
    obtain ⟨t, ht⟩ : ∃ t : Fin cfg0.N, t.val = 8 * ((i 1).val / 128) + (i 0).val / 272 := ⟨⟨_, by rw [show cfg0.N = 64 from N_0]; omega⟩, rfl⟩
    have e := idx_out t
    refine ⟨t, flush0_6 t, ?_⟩
    show i ∈ ((View.whole main_v6_0).slice (win0_6.rect t)).set
    rw [View.set_slice_whole, Rect.mem_set_unit]
    intro a
    match a with
    | ⟨0, _⟩ =>
      show win0_6.index t 0 * 272 ≤ (i 0).val ∧ (i 0).val < win0_6.index t 0 * 272 + 272
      omega
    | ⟨1, _⟩ =>
      show win0_6.index t 1 * 128 ≤ (i 1).val ∧ (i 1).val < win0_6.index t 1 * 128 + 128
      omega

theorem flushed_dk (t : Fin cfg0.N) (hf : (cfg0.win 7).flush t = true) :
    (dats m 0 c).flushed 7 t = ((cfg0.win 7).blk t).view.read (Elt Ideal) (dkArr m c) := by
  have e := idx_out t
  have h7 := (flush0_7 t).mp hf
  rw [Value.flushed7]
  funext y
  obtain ⟨k, d, rfl⟩ := of2 y
  rw [View.read_apply]
  show (outsAt0 m c t.val t.isLt).2.1 (ix2 k d) = dkArr m c _
  rw [summed (fun x => x.2.1 (ix2 k d)) (outsAt0 m c) (fun h q => ds (X m c) (C m c) (G m c) h q k * scale * X m c (ix2 q (col 9216 (by omega) h d)))
    (fun t h0 => by rw [first m c t h0]; unfold leaves; dsimp only; rw [dk_apply, zero_k, zero_add])
    (fun t h h0 => by rw [later m c t h0 h]; unfold leaves; dsimp only; rw [dk_apply]) t h7,
    show ((cfg0.win 7).blk t).view.emb (ix2 k d) = ix2 k (hcol (head t) d) from
      ext2 (by show win0_7.index t 0 * 2176 + 1 * k.val = k.val; omega)
        (by show win0_7.index t 1 * 128 + 1 * d.val = 128 * (t.val / 8) + d.val; omega)]
  show _ = dk (X m c) (C m c) (G m c) (hd (hcol (head t) d)) k (cd (hcol (head t) d))
  rw [hd_hcol, cd_hcol]
  rfl

theorem final_dk : (dats m 0 c).arrAt 7 cfg0.N = dkArr m c :=
  (dats m 0 c).arrAt_eq_of_cover 7 (dkArr m c) (flushed_dk m c) fun i : S2176x1024.Idx => by
    obtain ⟨h0, h1⟩ := below2 i
    obtain ⟨t, ht⟩ : ∃ t : Fin cfg0.N, t.val = 8 * ((i 1).val / 128) + 7 := ⟨⟨_, by rw [show cfg0.N = 64 from N_0]; omega⟩, rfl⟩
    have e := idx_out t
    refine ⟨t, (flush0_7 t).mpr (by omega), ?_⟩
    show i ∈ ((View.whole main_v6_1).slice (win0_7.rect t)).set
    rw [View.set_slice_whole, Rect.mem_set_unit]
    intro a
    match a with
    | ⟨0, _⟩ =>
      show win0_7.index t 0 * 2176 ≤ (i 0).val ∧ (i 0).val < win0_7.index t 0 * 2176 + 2176
      omega
    | ⟨1, _⟩ =>
      show win0_7.index t 1 * 128 ≤ (i 1).val ∧ (i 1).val < win0_7.index t 1 * 128 + 128
      omega

theorem flushed_dv (t : Fin cfg0.N) (hf : (cfg0.win 8).flush t = true) :
    (dats m 0 c).flushed 8 t = ((cfg0.win 8).blk t).view.read (Elt Ideal) (dvArr m c) := by
  have e := idx_out t
  have h7 := (flush0_8 t).mp hf
  rw [Value.flushed8]
  funext y
  obtain ⟨k, d, rfl⟩ := of2 y
  rw [View.read_apply]
  show (outsAt0 m c t.val t.isLt).2.2.1 (ix2 k d) = dvArr m c _
  rw [summed (fun x => x.2.2.1 (ix2 k d)) (outsAt0 m c) (fun h q => prob (scores (X m c) (C m c) h q) k * G m c (ix2 q (hcol h d)))
    (fun t h0 => by rw [first m c t h0]; unfold leaves; dsimp only; rw [dv_apply, zero_v, zero_add])
    (fun t h h0 => by rw [later m c t h0 h]; unfold leaves; dsimp only; rw [dv_apply]) t h7,
    show ((cfg0.win 8).blk t).view.emb (ix2 k d) = ix2 k (hcol (head t) d) from
      ext2 (by show win0_8.index t 0 * 2176 + 1 * k.val = k.val; omega)
        (by show win0_8.index t 1 * 128 + 1 * d.val = 128 * (t.val / 8) + d.val; omega)]
  show _ = dv (X m c) (C m c) (G m c) (hd (hcol (head t) d)) k (cd (hcol (head t) d))
  rw [hd_hcol, cd_hcol]
  rfl

theorem final_dv : (dats m 0 c).arrAt 8 cfg0.N = dvArr m c :=
  (dats m 0 c).arrAt_eq_of_cover 8 (dvArr m c) (flushed_dv m c) fun i : S2176x1024.Idx => by
    obtain ⟨h0, h1⟩ := below2 i
    obtain ⟨t, ht⟩ : ∃ t : Fin cfg0.N, t.val = 8 * ((i 1).val / 128) + 7 := ⟨⟨_, by rw [show cfg0.N = 64 from N_0]; omega⟩, rfl⟩
    have e := idx_out t
    refine ⟨t, (flush0_8 t).mpr (by omega), ?_⟩
    show i ∈ ((View.whole main_v6_2).slice (win0_8.rect t)).set
    rw [View.set_slice_whole, Rect.mem_set_unit]
    intro a
    match a with
    | ⟨0, _⟩ =>
      show win0_8.index t 0 * 2176 ≤ (i 0).val ∧ (i 0).val < win0_8.index t 0 * 2176 + 2176
      omega
    | ⟨1, _⟩ =>
      show win0_8.index t 1 * 128 ≤ (i 1).val ∧ (i 1).val < win0_8.index t 1 * 128 + 128
      omega

theorem flushed_dct (t : Fin cfg0.N) (hf : (cfg0.win 9).flush t = true) :
    (dats m 0 c).flushed 9 t = ((cfg0.win 9).blk t).view.read (Elt Ideal) (dctArr m c) := by
  have e := idx_out t
  obtain ⟨k, v, s, h⟩ := leaves_any m c t
  rw [Value.flushed9, h]
  funext y
  obtain ⟨r, rfl⟩ : ∃ r : Fin 272, y = ix3 0 r 0 := ⟨y 1, Index.mid y⟩
  rw [View.read_apply]
  show k0_pay8 (P m c t) (D m c t) (ix3 0 r 0) = dctArr m c _
  rw [dct_apply, show ((cfg0.win 9).blk t).view.emb (ix3 0 r 0) = ix3 (head t) (row t r) 0 from by
    funext a
    apply Fin.ext
    match a with
    | ⟨0, _⟩ => show win0_9.index t 0 * 1 + 1 * 0 = t.val / 8; omega
    | ⟨1, _⟩ => show win0_9.index t 1 * 272 + 1 * r.val = 272 * (t.val % 8) + r.val; omega
    | ⟨2, _⟩ => show win0_9.index t 2 * 1 + 1 * 0 = 0; omega]
  rfl

theorem final_dct : (dats m 0 c).arrAt 9 cfg0.N = dctArr m c :=
  (dats m 0 c).arrAt_eq_of_cover 9 (dctArr m c) (flushed_dct m c) fun i : S8x2176x1.Idx => by
    have h0 : (i 0).val < 8 := (i 0).isLt
    have h1 : (i 1).val < 2176 := (i 1).isLt
    have h2 : (i 2).val < 1 := (i 2).isLt
    obtain ⟨t, ht⟩ : ∃ t : Fin cfg0.N, t.val = 8 * (i 0).val + (i 1).val / 272 := ⟨⟨_, by rw [show cfg0.N = 64 from N_0]; omega⟩, rfl⟩
    have e := idx_out t
    refine ⟨t, flush0_9 t, ?_⟩
    show i ∈ ((View.whole main_v6_3).slice (win0_9.rect t)).set
    rw [View.set_slice_whole, Rect.mem_set_unit]
    intro a
    match a with
    | ⟨0, _⟩ =>
      show win0_9.index t 0 * 1 ≤ (i 0).val ∧ (i 0).val < win0_9.index t 0 * 1 + 1
      omega
    | ⟨1, _⟩ =>
      show win0_9.index t 1 * 272 ≤ (i 1).val ∧ (i 1).val < win0_9.index t 1 * 272 + 272
      omega
    | ⟨2, _⟩ =>
      show win0_9.index t 2 * 1 ≤ (i 2).val ∧ (i 2).val < win0_9.index t 2 * 1 + 1
      omega

variable (hds : ∀ h q k, ∃ r : ℝ, ds (X m c) (C m c) (G m c) h q k = r)
include hds

/-- The negative of a sum of numbers. -/
theorem neg_rows (h : Fin 8) (k : Fin 2176) (q : Fin 272 → Fin 2176) :
    -∑ r : Fin 272, ds (X m c) (C m c) (G m c) h (q r) k = ∑ r : Fin 272, -ds (X m c) (C m c) (G m c) h (q r) k := by
  choose f hf using hds
  simp only [hf, ← EReal.coe_neg, ← coe_sum, Finset.sum_neg_distrib]

theorem flushed_dcs (t : Fin cfg0.N) (hf : (cfg0.win 10).flush t = true) :
    (dats m 0 c).flushed 10 t = ((cfg0.win 10).blk t).view.read (Elt Ideal) (dcsArr m c) := by
  have e := idx_out t
  have h7 := (flush0_10 t).mp hf
  rw [Value.flushed10]
  funext y
  obtain ⟨k, rfl⟩ : ∃ k : Fin 2176, y = ix3 0 0 k := ⟨y 2, Index.last y⟩
  rw [View.read_apply]
  show (outsAt0 m c t.val t.isLt).2.2.2.2 (ix3 0 0 k) = dcsArr m c _
  rw [summed (fun x => x.2.2.2.2 (ix3 0 0 k)) (outsAt0 m c) (fun h q => -ds (X m c) (C m c) (G m c) h q k)
    (fun t h0 => by
      rw [first m c t h0]; unfold leaves; dsimp only; rw [dcs_apply, zero_s, zero_sub, neg_rows m c hds])
    (fun t h h0 => by
      rw [later m c t h0 h]; unfold leaves; dsimp only; rw [dcs_apply, sub_eq_add_neg, neg_rows m c hds]) t h7,
    show ((cfg0.win 10).blk t).view.emb (ix3 0 0 k) = ix3 (head t) 0 k from by
      funext a
      apply Fin.ext
      match a with
      | ⟨0, _⟩ => show win0_10.index t 0 * 1 + 1 * 0 = t.val / 8; omega
      | ⟨1, _⟩ => show win0_10.index t 1 * 1 + 1 * 0 = 0; omega
      | ⟨2, _⟩ => show win0_10.index t 2 * 2176 + 1 * k.val = k.val; omega]
  rfl

theorem final_dcs : (dats m 0 c).arrAt 10 cfg0.N = dcsArr m c :=
  (dats m 0 c).arrAt_eq_of_cover 10 (dcsArr m c) (flushed_dcs m c hds) fun i : S8x1x2176.Idx => by
    have h0 : (i 0).val < 8 := (i 0).isLt
    have h1 : (i 1).val < 1 := (i 1).isLt
    have h2 : (i 2).val < 2176 := (i 2).isLt
    obtain ⟨t, ht⟩ : ∃ t : Fin cfg0.N, t.val = 8 * (i 0).val + 7 := ⟨⟨_, by rw [show cfg0.N = 64 from N_0]; omega⟩, rfl⟩
    have e := idx_out t
    refine ⟨t, (flush0_10 t).mpr (by omega), ?_⟩
    show i ∈ ((View.whole main_v6_4).slice (win0_10.rect t)).set
    rw [View.set_slice_whole, Rect.mem_set_unit]
    intro a
    match a with
    | ⟨0, _⟩ =>
      show win0_10.index t 0 * 1 ≤ (i 0).val ∧ (i 0).val < win0_10.index t 0 * 1 + 1
      omega
    | ⟨1, _⟩ =>
      show win0_10.index t 1 * 1 ≤ (i 1).val ∧ (i 1).val < win0_10.index t 1 * 1 + 1
      omega
    | ⟨2, _⟩ =>
      show win0_10.index t 2 * 2176 ≤ (i 2).val ∧ (i 2).val < win0_10.index t 2 * 2176 + 2176
      omega

end Cert.KernelIdeal.Fox
-- ==== Proof.Fox.Reference.lean ====
/- The reference's five results, entry by entry. -/
module

public import proofs.«01_k».proof.Proof.Gen.ReferenceIdeal.Read
public import proofs.«01_k».proof.Proof.Fox.Math
public import proofs.«01_k».proof.Proof.Common.Index
public import proofs.«01_k».proof.Proof.Common.Mask
public import Idealize.ShloMosaic.Lib.Pointwise

@[expose] public noncomputable section

set_option maxRecDepth 16384

namespace Cert.ReferenceIdeal.Fox

open Cert.ReferenceIdeal Cert.ReferenceIdeal.Gen Cert.ReferenceIdeal.Read Idealize.ShloMosaic Cert.Fox Cert.Softmax
open Cert.Index (ext2 ext3)

variable (X : (⟨S2176x13824, .f32⟩ : BufTy).Contents (Elt Ideal)) (C : (⟨S2176x128, .f32⟩ : BufTy).Contents (Elt Ideal))
  (G : (⟨S2176x1024, .f32⟩ : BufTy).Contents (Elt Ideal))

theorem neg_inf : Ideal.ofBits FTy.f32 4286578688#32 = (⊥ : EReal) := by simp [Ideal.ofBits, Ideal.ieee]
theorem one : Ideal.ofBits FTy.f32 0x3F800000#32 = (1 : EReal) := by
  simp [Ideal.ofBits, Ideal.ieee, ← EReal.coe_mul]
  norm_num
theorem zero : Ideal.ofBits FTy.f32 0x00000000#32 = (0 : EReal) := by simp [Ideal.ofBits, Ideal.ieee]

/-- The queries, keys, values and the gradient, head by head. -/
theorem q_at (h : Fin 8) (q : Fin 2176) (d : Fin 128) :
    val_main_v8 (F := Ideal) X (ix3 h q d) = X (ix2 q (col 9216 (by omega) h d)) := by
  have := h.isLt; have := d.isLt
  rw [val_main_v8_apply, val_main_v7_apply, val_main_v0_apply]
  refine congrArg X (ext2 _ _ _ ?_ ?_)
  · show ((q.val * 8 + h.val) * 128 + d.val) / 1024 = q.val; omega
  · show 9216 + ((q.val * 8 + h.val) * 128 + d.val) % 1024 = 9216 + 128 * h.val + d.val; omega
theorem k_at (h : Fin 8) (k : Fin 2176) (d : Fin 128) :
    val_main_v10 (F := Ideal) X (ix3 h k d) = X (ix2 k (col 10240 (by omega) h d)) := by
  have := h.isLt; have := d.isLt
  rw [val_main_v10_apply, val_main_v9_apply, val_main_v1_apply]
  refine congrArg X (ext2 _ _ _ ?_ ?_)
  · show ((k.val * 8 + h.val) * 128 + d.val) / 1024 = k.val; omega
  · show 10240 + ((k.val * 8 + h.val) * 128 + d.val) % 1024 = 10240 + 128 * h.val + d.val; omega
theorem v_at (h : Fin 8) (k : Fin 2176) (d : Fin 128) :
    val_main_v12 (F := Ideal) X (ix3 h k d) = X (ix2 k (col 11264 (by omega) h d)) := by
  have := h.isLt; have := d.isLt
  rw [val_main_v12_apply, val_main_v11_apply, val_main_v2_apply]
  refine congrArg X (ext2 _ _ _ ?_ ?_)
  · show ((k.val * 8 + h.val) * 128 + d.val) / 1024 = k.val; omega
  · show 11264 + ((k.val * 8 + h.val) * 128 + d.val) % 1024 = 11264 + 128 * h.val + d.val; omega
theorem g_at (h : Fin 8) (q : Fin 2176) (d : Fin 128) :
    val_main_v59 (F := Ideal) G (ix3 h q d) = G (ix2 q (hcol h d)) := by
  have := h.isLt; have := d.isLt
  rw [val_main_v59_apply, val_main_v58_apply]
  refine congrArg G (ext2 _ _ _ ?_ ?_)
  · show ((q.val * 8 + h.val) * 128 + d.val) / 1024 = q.val; omega
  · show ((q.val * 8 + h.val) * 128 + d.val) % 1024 = 128 * h.val + d.val; omega

/-- The comparison of positions chooses by them. -/
theorem select_mask (h : Fin 8) (q k : Fin 2176) (u v : EReal) :
    Scalar.select (val_main_v26_1 (F := Ideal) (ix3 h q k)) u v = if k.val ≤ q.val then u else v := by
  rw [val_main_v26_1_apply, val_main_v25_apply, val_main_v23_apply, val_main_v21_apply, val_main_v20_apply,
    val_main_v24_apply, val_main_v22_apply, val_main_v20_apply]
  exact Mask.select_sle _ _ k.val q.val (by omega) (by omega) rfl rfl u v

/-- The masked scores. -/
theorem scores_at (h : Fin 8) (q k : Fin 2176) :
    val_main_v26_0 (F := Ideal) X C (ix3 h q k) = scores X C h q k := by
  rw [val_main_v26_0_apply, select_mask, val_main_v19_apply, val_main_v15_apply, val_main_v13_apply, val_main_v18_apply,
    val_main_v16_apply, val_main_v17_apply, val_main_v5_apply, val_main_v6_apply, val_main_v4_apply, val_main_v4_apply,
    val_main_v3_apply, val_main_v3_apply, val_main_v14_apply, val_main_cst_apply, val_main_call0_v2_apply,
    val_main_call0_v0_apply, val_main_cst_0_apply]
  unfold scores score scale
  have e : ∀ d : Fin 128, (val_main_v8 (F := Ideal) X) (lidx_main_v13 (ix3 h q k) d)
      * (val_main_v10 (F := Ideal) X) (ridx_main_v13 (ix3 h q k) d)
      = X (ix2 q (col 9216 (by omega) h d)) * X (ix2 k (col 10240 (by omega) h d)) := fun d => by
    rw [show lidx_main_v13 (ix3 h q k) d = ix3 h q d from ext3 _ _ _ _ rfl rfl rfl,
      show ridx_main_v13 (ix3 h q k) d = ix3 h k d from ext3 _ _ _ _ rfl rfl rfl, q_at, k_at]
  rw [Finset.sum_congr rfl fun d _ => e d]
  refine congrArg₂ (fun u v : EReal => if k.val ≤ q.val then u else v) (congrArg₂ (· + ·) rfl ?_) neg_inf
  exact congrArg₂ (fun u v : EReal => u - v) (congrArg C (ext2 _ _ _ rfl rfl)) (congrArg C (ext2 _ _ _ rfl rfl))

/-- The largest score of a row. -/
theorem top_at (h : Fin 8) (q : Fin 2176) : val_main_v34 (F := Ideal) X C (ix2 h q) = top (scores X C h q) := by
  rw [val_main_v34_apply, val_main_v33_apply, val_main_cst_3_apply]
  have e : val_main_v27 (F := Ideal) X C (ix2 h q) = top (scores X C h q) := by
    unfold val_main_v27
    pointwise
    simp only [scores_at]
    rw [show val_main_cst_1 (F := Ideal) (Shape.Idx.first h_S_) = (⊥ : EReal) from neg_inf]
    rfl
  rw [e]
  show max (Ideal.ofBits FTy.f32 4286578688#32) _ = _
  rw [neg_inf, max_eq_right bot_le]

theorem ex_at (h : Fin 8) (q k : Fin 2176) : val_main_v47 (F := Ideal) X C (ix3 h q k) = ex (scores X C h q) k := by
  rw [val_main_v47_apply, val_main_v46_apply, scores_at, val_main_v45_apply, val_main_v44_apply,
    show idx_main_v44 (idx_main_v45 (ix3 h q k)) = ix2 h q from ext2 _ _ _ rfl rfl, top_at]
  rfl

theorem den_at (h : Fin 8) (q : Fin 2176) : val_main_v48 (F := Ideal) X C (ix2 h q) = den (scores X C h q) := by
  rw [val_main_v48_apply]
  unfold den
  refine (congrArg₂ (· + ·) zero (Finset.sum_congr rfl fun k _ => ?_)).trans (zero_add _)
  rw [show idx_main_v48 (ix2 h q) k = ix3 h q k from ext3 _ _ _ _ rfl rfl rfl, ex_at]

theorem prob_at (h : Fin 8) (q k : Fin 2176) :
    val_main_v51 (F := Ideal) X C (ix3 h q k) = prob (scores X C h q) k := by
  rw [val_main_v51_apply, ex_at, val_main_v50_apply, val_main_v49_apply,
    show idx_main_v49 (idx_main_v50 (ix3 h q k)) = ix2 h q from ext2 _ _ _ rfl rfl, den_at]
  rfl

theorem dp_at (h : Fin 8) (q k : Fin 2176) : val_main_v62 (F := Ideal) X G (ix3 h q k) = dp X G h q k := by
  rw [val_main_v62_apply]
  refine Finset.sum_congr rfl fun d _ => ?_
  rw [show lidx_main_v62 (ix3 h q k) d = ix3 h q d from ext3 _ _ _ _ rfl rfl rfl,
    show ridx_main_v62 (ix3 h q k) d = ix3 h k d from ext3 _ _ _ _ rfl rfl rfl, g_at, v_at]

/-- The part of the gradient that comes through the sum of the exponentials. -/
theorem inner_at (h : Fin 8) (q : Fin 2176) : val_main_v71 (F := Ideal) X C G (ix2 h q)
    = -(∑ x, dp X G h q x * Ideal.div 1 (den (scores X C h q) * den (scores X C h q)) * ex (scores X C h q) x) := by
  rw [val_main_v71_apply, Fin.sum_univ_one, val_main_v68_apply, val_main_v67_apply,
    show idx_main_v67 (idx_main_v71 (ix2 h q) 0) = ix2 h q from ext2 _ _ _
      (by show ((h.val * 2176 + q.val) * 1 + 0) / 2176 = h.val; omega)
      (by show ((h.val * 2176 + q.val) * 1 + 0) % 2176 = q.val; omega), val_main_v66_apply]
  refine (congrArg₂ (· + ·) zero (congrArg (fun z : EReal => -z) ?_)).trans (zero_add _)
  refine (congrArg₂ (· + ·) zero (Finset.sum_congr rfl fun k _ => ?_)).trans (zero_add _)
  rw [show idx_main_v66 (ix2 h q) k = ix3 h q k from ext3 _ _ _ _ rfl rfl rfl, val_main_v65_apply, val_main_v64_apply,
    ex_at, dp_at, val_main_v63_apply, val_main_v54_apply, val_main_v53_apply, val_main_cst_10_apply, val_main_v52_apply,
    val_main_v49_apply, show idx_main_v49 (idx_main_v63 (ix3 h q k)) = ix2 h q from ext2 _ _ _ rfl rfl, den_at]
  show _ * Ideal.div (Ideal.ofBits FTy.f32 0x3F800000#32) _ * _ = _
  rw [one]
  rfl

variable (hX : ∀ i, ∃ r : ℝ, (X i : EReal) = r) (hC : ∀ i, ∃ r : ℝ, (C i : EReal) = r) (hG : ∀ i, ∃ r : ℝ, (G i : EReal) = r)
include hX hC hG

theorem ds_at (h : Fin 8) (q k : Fin 2176) : val_main_v75 (F := Ideal) X C G (ix3 h q k) = ds X C G h q k := by
  rw [val_main_v75_apply, select_mask, ds_eq_quot X C G hX hC hG]
  congr 1
  · rw [val_main_v74_apply, val_main_v73_apply, val_main_v70_apply, dp_at, ex_at, val_main_v72_apply,
      show idx_main_v72 (ix3 h q k) = ix2 h q from ext2 _ _ _ rfl rfl, inner_at, val_main_v69_apply, val_main_v49_apply,
      show idx_main_v49 (idx_main_v69 (ix3 h q k)) = ix2 h q from ext2 _ _ _ rfl rfl, den_at]
    rfl
  · rw [val_main_call1_v0_apply, val_main_call1_cst_apply]
    exact zero

/-- The gradient with respect to a query. -/
theorem dq_at (q : Fin 2176) (e : Fin 1024) :
    val_main_v91 (F := Ideal) X C G (ix2 q e) = dq X C G (hd e) q (cd e) := by
  have := e.isLt
  rw [val_main_v91_apply, val_main_v90_apply, val_main_v89_apply,
    show idx_main_v89 (idx_main_v90 (ix2 q e)) = ix3 (hd e) q (cd e) from ext3 _ _ _ _
      (by show (q.val * 1024 + e.val) / 128 % 8 = e.val / 128; omega)
      (by show (q.val * 1024 + e.val) / 1024 = q.val; omega)
      (by show (q.val * 1024 + e.val) % 128 = e.val % 128; omega), val_main_v84_apply]
  refine Finset.sum_congr rfl fun k _ => ?_
  rw [show lidx_main_v84 (ix3 (hd e) q (cd e)) k = ix3 (hd e) q k from ext3 _ _ _ _ rfl rfl rfl,
    show ridx_main_v84 (ix3 (hd e) q (cd e)) k = ix3 (hd e) k (cd e) from ext3 _ _ _ _ rfl rfl rfl, val_main_v82_apply,
    ds_at X C G hX hC hG, val_main_v81_apply, val_main_cst_15_apply, k_at]
  rfl

/-- The gradient with respect to a key. -/
theorem dk_at (k : Fin 2176) (e : Fin 1024) :
    val_main_v88 (F := Ideal) X C G (ix2 k e) = dk X C G (hd e) k (cd e) := by
  have := e.isLt
  rw [val_main_v88_apply, val_main_v87_apply,
    show idx_main_v87 (idx_main_v88 (ix2 k e)) = ix3 (hd e) k (cd e) from ext3 _ _ _ _
      (by show (k.val * 1024 + e.val) / 128 % 8 = e.val / 128; omega)
      (by show (k.val * 1024 + e.val) / 1024 = k.val; omega)
      (by show (k.val * 1024 + e.val) % 128 = e.val % 128; omega), val_main_v83_apply]
  refine Finset.sum_congr rfl fun q _ => ?_
  rw [show lidx_main_v83 (ix3 (hd e) k (cd e)) q = ix3 (hd e) q k from ext3 _ _ _ _ rfl rfl rfl,
    show ridx_main_v83 (ix3 (hd e) k (cd e)) q = ix3 (hd e) q (cd e) from ext3 _ _ _ _ rfl rfl rfl, val_main_v82_apply,
    ds_at X C G hX hC hG, val_main_v81_apply, val_main_cst_15_apply, q_at]
  rfl

/-- The gradient with respect to a query's decay. -/
theorem dct_at (h : Fin 8) (q : Fin 2176) : val_main_v77 (F := Ideal) X C G (ix3 h q 0) = dct X C G h q := by
  rw [val_main_v77_apply, show idx_main_v77 (ix3 h q 0) = ix2 h q from ext2 _ _ _
      (by show ((h.val * 2176 + q.val) * 1 + 0) / 2176 = h.val; omega)
      (by show ((h.val * 2176 + q.val) * 1 + 0) % 2176 = q.val; omega), val_main_v76_apply]
  refine (congrArg₂ (· + ·) zero (Finset.sum_congr rfl fun k _ => ?_)).trans (zero_add _)
  rw [show idx_main_v76 (ix2 h q) k = ix3 h q k from ext3 _ _ _ _ rfl rfl rfl, ds_at X C G hX hC hG]

/-- The gradient with respect to a key's decay. -/
theorem dcs_at (h : Fin 8) (k : Fin 2176) : val_main_v80 (F := Ideal) X C G (ix3 h 0 k) = dcs X C G h k := by
  rw [val_main_v80_apply, show idx_main_v80 (ix3 h 0 k) = ix2 h k from ext2 _ _ _
      (by show ((h.val * 1 + 0) * 2176 + k.val) / 2176 = h.val; omega)
      (by show ((h.val * 1 + 0) * 2176 + k.val) % 2176 = k.val; omega), val_main_v79_apply]
  refine (congrArg₂ (· + ·) zero (Finset.sum_congr rfl fun q _ => ?_)).trans (zero_add _)
  rw [show idx_main_v79 (ix2 h k) q = ix3 h q k from ext3 _ _ _ _ rfl rfl rfl, val_main_v78_apply, ds_at X C G hX hC hG]
  rfl

omit hX hC hG in
/-- The gradient with respect to a value. -/
theorem dv_at (k : Fin 2176) (e : Fin 1024) :
    val_main_v86 (F := Ideal) X C G (ix2 k e) = dv X C G (hd e) k (cd e) := by
  have := e.isLt
  rw [val_main_v86_apply, val_main_v85_apply, val_main_v61_apply,
    show idx_main_v61 (idx_main_v85 (idx_main_v86 (ix2 k e))) = ix3 (hd e) (cd e) k from ext3 _ _ _ _
      (by show (k.val * 1024 + e.val) / 128 % 8 = e.val / 128; omega)
      (by show (k.val * 1024 + e.val) % 128 = e.val % 128; omega)
      (by show (k.val * 1024 + e.val) / 1024 = k.val; omega), val_main_v60_apply]
  refine Finset.sum_congr rfl fun q _ => ?_
  rw [show lidx_main_v60 (ix3 (hd e) (cd e) k) q = ix3 (hd e) q (cd e) from ext3 _ _ _ _ rfl rfl rfl,
    show ridx_main_v60 (ix3 (hd e) (cd e) k) q = ix3 (hd e) q k from ext3 _ _ _ _ rfl rfl rfl, g_at, prob_at]
  exact mul_comm _ _

end Cert.ReferenceIdeal.Fox
-- ==== Proof.Common.Finite.lean ====
/- What it says of an array that its entries' absolute values are below infinity: they are numbers. -/
module

public import Idealize.ShloMosaic.Lib.Pointwise
public import Idealize.ShloMosaic.Lib.StableHlo

@[expose] public noncomputable section

namespace Cert.Finite

open Idealize.ShloMosaic

theorem num {S S0 : Shape} (x : FVec Ideal S .f32) (dims : Fin S0.rank → Fin S.rank) (hb : S0.BroadcastsInDim S dims)
    (h : cmpf .olt (Host.absf x) (broadcastInDim S dims hb (constant (F := Ideal) S0 .f32 0x7F800000#32)) = fun _ => 1#1)
    (i : S.Idx) : ∃ r : ℝ, (x i : EReal) = r := by
  have e := congrFun h i
  have e' : BitVec.ofBool (decide ((max (x i) (-(x i)) : EReal) < Ideal.ofBits .f32 0x7F800000#32)) = 1#1 := e
  have ht : Ideal.ofBits .f32 0x7F800000#32 = (⊤ : EReal) := by simp [Ideal.ofBits, Ideal.ieee]
  rw [ht] at e'
  have hlt : (max (x i) (-(x i)) : EReal) < ⊤ := by
    by_contra hn
    rw [decide_eq_false hn] at e'
    exact absurd e' (by decide)
  obtain ⟨h1, h2⟩ := max_lt_iff.mp hlt
  refine ⟨(x i : EReal).toReal, (EReal.coe_toReal h1.ne ?_).symm⟩
  intro hb
  rw [hb] at h2
  exact absurd h2 (by simp)

end Cert.Finite
-- ==== Proof.Fox.Claims.lean ====
/- The claims about the gradient of the forgetting attention. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Fox.Array
public import proofs.«01_k».proof.Proof.Fox.Reference
public import proofs.«01_k».proof.Proof.Common.Finite

@[expose] public noncomputable section

set_option maxRecDepth 16384

namespace Cert.Proof.Fox

open Idealize.ShloMosaic Idealize.ShloMosaic.TcCoe Idealize.SL.Sem Cert.Idx

theorem frame_p : Cert.quiescent_Kernel := fun m ρ _ => Cert.Kernel.Gen.frame m ρ
theorem frame_pi : Cert.quiescent_KernelIdeal := fun m ρ _ => Cert.KernelIdeal.Gen.frame m ρ
theorem frame_ri : Cert.quiescent_ReferenceIdeal := fun m ρ _ =>
  (θ_run Cert.ReferenceIdeal.defs _ _).mono (fun r h => ⟨fun c => (h c).2.2.2.2.2, sem_eq_zero_of_no_sems (by decide) r.2⟩)
    (Cert.ReferenceIdeal.Value.run (F := Ideal) m ρ)

/-- The program's table gives the mask the value `⊥`. -/
theorem preserves : Cert.preserves_Kernel_KernelIdeal :=
  IdealRules.named_const.statement Cert.KernelIdeal.κ "mask" .f32 0xF149F2CA#32 ⊥ rfl

instance pre_facts : Cert.Pre_finite.Facts := ⟨by decide, by decide, by decide⟩

theorem frame_pi_pre : Cert.quiescent_KernelIdeal_pre_finite := fun m ρ _ => Cert.KernelIdeal.Gen.frame m ρ
theorem frame_ri_pre : Cert.quiescent_ReferenceIdeal_pre_finite := fun m ρ _ => frame_ri m ρ trivial

/-- The precondition says that the arguments' entries are numbers. -/
theorem nums (m : (ℓ : Loc Cert.KernelIdeal.nD Cert.KernelIdeal.τ Cert.KernelIdeal.sig) → Buf (Elt Ideal) ℓ)
    (h : Cert.Pre_KernelIdeal_finite m) (c : Dev Cert.KernelIdeal.nD) :
    (∀ i, ∃ r : ℝ, @Eq EReal (Cert.KernelIdeal.Fox.X m c i) r) ∧ (∀ i, ∃ r : ℝ, @Eq EReal (Cert.KernelIdeal.Fox.C m c i) r)
      ∧ (∀ i, ∃ r : ℝ, @Eq EReal (Cert.KernelIdeal.Fox.G m c i) r) :=
  ⟨Finite.num _ _ _ (h c).1, Finite.num _ _ _ (h c).2.1, Finite.num _ _ _ (h c).2.2⟩

/-- The kernel and the reference compute the same five gradients. -/
theorem algebraic : Cert.algebraic_KernelIdeal_ReferenceIdeal_pre_finite := by
  intro m ρ m' ρ' hpre hagree
  refine ⟨fun c => Cert.KernelIdeal.Fox.dqArr m c, fun c => Cert.KernelIdeal.Fox.dkArr m c,
    fun c => Cert.KernelIdeal.Fox.dvArr m c, fun c => Cert.KernelIdeal.Fox.dctArr m c,
    fun c => Cert.KernelIdeal.Fox.dcsArr m c, ?_, ?_⟩
  · refine (θ_run Cert.KernelIdeal.defs _ _).mono (fun r h c => ?_) (Cert.KernelIdeal.Value.run_blocks (F := Ideal) m ρ)
    obtain ⟨hX, hC, hG⟩ := nums m hpre c
    obtain ⟨h0, h1, h2, h3, h4, hk⟩ := h c
    exact ⟨h0.trans (Cert.KernelIdeal.Fox.final_dq m c), h1.trans (Cert.KernelIdeal.Fox.final_dk m c),
      h2.trans (Cert.KernelIdeal.Fox.final_dv m c), h3.trans (Cert.KernelIdeal.Fox.final_dct m c),
      h4.trans (Cert.KernelIdeal.Fox.final_dcs m c (Cert.Fox.ds_num _ _ _ hX hC hG)), hk⟩
  · refine (θ_run Cert.ReferenceIdeal.defs _ _).mono (fun r h c => ?_) (Cert.ReferenceIdeal.Value.run (F := Ideal) m' ρ')
    obtain ⟨hX, hC, hG⟩ := nums m hpre c
    obtain ⟨h0, h1, h2, h3, h4, hk⟩ := h c
    obtain ⟨a0, a1, a2⟩ := hagree c
    rw [Cert.ReferenceIdeal.Read.val_main_v91_eq, a0, a1, a2] at h0
    rw [Cert.ReferenceIdeal.Read.val_main_v88_eq, a0, a1, a2] at h1
    rw [Cert.ReferenceIdeal.Read.val_main_v86_eq, a0, a1, a2] at h2
    rw [Cert.ReferenceIdeal.Read.val_main_v77_eq, a0, a1, a2] at h3
    rw [Cert.ReferenceIdeal.Read.val_main_v80_eq, a0, a1, a2] at h4
    refine ⟨h0.trans ?_, h1.trans ?_, h2.trans ?_, h3.trans ?_, h4.trans ?_, hk⟩
    · funext i
      obtain ⟨q, e, rfl⟩ := of2 (a := 2176) (b := 1024) i
      exact Cert.ReferenceIdeal.Fox.dq_at _ _ _ hX hC hG q e
    · funext i
      obtain ⟨q, e, rfl⟩ := of2 (a := 2176) (b := 1024) i
      exact Cert.ReferenceIdeal.Fox.dk_at _ _ _ hX hC hG q e
    · funext i
      obtain ⟨q, e, rfl⟩ := of2 (a := 2176) (b := 1024) i
      exact Cert.ReferenceIdeal.Fox.dv_at _ _ _ q e
    · funext i
      obtain ⟨a, q, rfl⟩ : ∃ (a : Fin 8) (q : Fin 2176), i = ix3 a q 0 :=
        ⟨i 0, i 1, Index.ext3 _ _ _ _ rfl rfl (congrArg Fin.val (Subsingleton.elim (α := Fin 1) _ _))⟩
      exact Cert.ReferenceIdeal.Fox.dct_at _ _ _ hX hC hG a q
    · funext i
      obtain ⟨a, q, rfl⟩ : ∃ (a : Fin 8) (q : Fin 2176), i = ix3 a 0 q :=
        ⟨i 0, i 2, Index.ext3 _ _ _ _ rfl (congrArg Fin.val (Subsingleton.elim (α := Fin 1) _ _)) rfl⟩
      exact Cert.ReferenceIdeal.Fox.dcs_at _ _ _ hX hC hG a q

end Cert.Proof.Fox
-- ==== Proof.Common.Product.lean ====
/- The three ways two matrices are multiplied in a layer and its gradient: rows by columns, rows by rows, columns by
   columns. -/
module

public import Idealize.ShloMosaic.Lib.ValueIdxCore
public import Idealize.ShloMosaic.Lib.Pointwise
public import Mathlib.Algebra.BigOperators.Fin

@[expose] public noncomputable section

namespace Cert.Product

open Idealize.ShloMosaic

variable {m k n : ℕ}

/-- `a b` -/
def nn (a : (⟨2, ![m, k]⟩ : Shape).Idx → EReal) (b : (⟨2, ![k, n]⟩ : Shape).Idx → EReal) :
    (⟨2, ![m, n]⟩ : Shape).Idx → EReal := fun i => ∑ x : Fin k, a (ix2 (i 0) x) * b (ix2 x (i 1))

/-- `a bᵀ` -/
def nt (a : (⟨2, ![m, k]⟩ : Shape).Idx → EReal) (b : (⟨2, ![n, k]⟩ : Shape).Idx → EReal) :
    (⟨2, ![m, n]⟩ : Shape).Idx → EReal := fun i => ∑ x : Fin k, a (ix2 (i 0) x) * b (ix2 (i 1) x)

/-- `aᵀ b` -/
def tn (a : (⟨2, ![k, m]⟩ : Shape).Idx → EReal) (b : (⟨2, ![k, n]⟩ : Shape).Idx → EReal) :
    (⟨2, ![m, n]⟩ : Shape).Idx → EReal := fun i => ∑ x : Fin k, a (ix2 x (i 0)) * b (ix2 x (i 1))

end Cert.Product
-- ==== Proof.Ffn.Products.lean ====
/- The four products of the channel mixer's gradients: what each leaves, as a sum over the contracted axis. -/
module

public import proofs.«01_k».proof.Proof.Common.Idx
public import proofs.«01_k».proof.Proof.Gen.Kernel2Ideal.Frame
public import proofs.«01_k».proof.Proof.Common.Product

@[expose] public noncomputable section

set_option maxRecDepth 16384

namespace Cert.Kernel2Ideal.Ffn

open Cert.Kernel2Ideal Cert.Kernel2Ideal.Gen Idealize.ShloMosaic Idealize.ShloMosaic.TcCoe Idealize.SL.Sem Cert.Idx

variable (V : (c : Dev nD) → (b : Ref sig .tc) → Buf (Elt Ideal) ((c : Thread nD τ).loc b)) (c : Dev nD)

/-! ## The product of the normalised rows with the weights in -/

theorem lt0 (t : Fin cfg0.N) : t.val < 22 := lt_of_lt_of_eq t.isLt N_0

theorem idx0 : ∀ t : Fin grid0.N,
    win0_0.index t 0 = 0 ∧ win0_0.index t 1 = 0 ∧ win0_1.index t 0 = 0 ∧
    win0_1.index t 1 = t.val ∧ win0_2.index t 0 = 0 ∧ win0_2.index t 1 = t.val := by decide +kernel

/-- The row and the column of the product at row `r`, column `s` of a point's block. -/
abbrev row0 (t : Fin cfg0.N) (r : Fin 2176) : Fin 2176 := r
abbrev col0 (t : Fin cfg0.N) (s : Fin 512) : Fin 11264 := ⟨512 * (t.val) + s.val, by have := lt0 t; omega⟩

theorem blk0_0 (t : Fin cfg0.N) (r : Fin 2176) (x : Fin 2048) :
    (iblk0 V c 0 t : Vec Ideal S2176x2048 .bf16) (ix2 r x) = V c main_arg0 (ix2 (row0 t r) x) := by
  have e := idx0 t
  exact congrArg (V c main_arg0) (ext2 (by show win0_0.index t 0 * 2176 + 1 * r.val = (row0 t r).val; dsimp only [row0, col0]; omega) (by show win0_0.index t 1 * 2048 + 1 * x.val = x.val; omega))

theorem blk0_1 (t : Fin cfg0.N) (x : Fin 2048) (s : Fin 512) :
    (iblk0 V c 1 t : Vec Ideal S2048x512 .bf16) (ix2 x s) = V c main_arg1 (ix2 x (col0 t s)) := by
  have e := idx0 t
  exact congrArg (V c main_arg1) (ext2 (by show win0_1.index t 0 * 2048 + 1 * x.val = x.val; omega) (by show win0_1.index t 1 * 512 + 1 * s.val = (col0 t s).val; dsimp only [row0, col0]; omega))

theorem pay0 (a : Vec Ideal S2176x2048 .bf16) (b : Vec Ideal S2048x512 .bf16) (r : Fin 2176) (s : Fin 512) :
    k0_pay1 a b (ix2 r s) = ∑ x : Fin 2048, (a (ix2 r x) : EReal) * b (ix2 x s) := by
  unfold k0_pay1
  pointwise [dot_S2176x2048_S2048x512_S2176x512_1_0_0_1_n_n]

theorem out0 (t : Fin cfg0.N) : outsAt0 V c t = k0_pay1 (iblk0 V c 0 t) (iblk0 V c 1 t) := by
  unfold outsAt0 out0_A_2
  rw [View.read_writes_eq_canon]; swap
  · intro y; apply cover0_A_2
  unfold kernelRun0_A; dsimp only; sl_unfold_words
  rw [View.canon_unit_zero zero2]
  simp only [View.readAt_eq_ld, (hs0_0 t).read_unread, (hs0_1 t).read_unread, ld2]

/-- The product the region leaves. -/
def arr0 : Buf (Elt Ideal) ((c : Thread nD τ).loc main_v0) := Product.nn (m := 2176) (k := 2048) (n := 11264) (V c main_arg0) (V c main_arg1)

theorem flushed0 (t : Fin cfg0.N) (hf : (cfg0.win 2).flush t = true) :
    (dat0 V c).flushed 2 t = ((cfg0.win 2).blk t).view.read (Elt Ideal) (arr0 V c) := by
  have e := idx0 t
  show (cfg0.win 2).cut (grid0.coords t) ((dat0 V c).after 2 t) = _
  rw [after0_2, out0]
  funext y
  obtain ⟨r, s, rfl⟩ := of2 y
  rw [View.read_apply]
  show k0_pay1 (iblk0 V c 0 t) (iblk0 V c 1 t) (ix2 r s) = arr0 V c _
  rw [pay0, show ((cfg0.win 2).blk t).view.emb (ix2 r s) = ix2 (row0 t r) (col0 t s) from
    ext2 (by show win0_2.index t 0 * 2176 + 1 * r.val = (row0 t r).val; dsimp only [row0]; omega)
      (by show win0_2.index t 1 * 512 + 1 * s.val = (col0 t s).val; dsimp only [col0]; omega)]
  exact Finset.sum_congr rfl fun x _ => congrArg₂ (fun p q : EReal => p * q) (blk0_0 V c t r x) (blk0_1 V c t x s)

theorem final0 : (dat0 V c).arrAt 2 cfg0.N = arr0 V c :=
  (dat0 V c).arrAt_eq_of_cover 2 (arr0 V c) (flushed0 V c) fun i : S2176x11264.Idx => by
    obtain ⟨h0, h1⟩ := below2 i
    obtain ⟨t, ht⟩ : ∃ t : Fin cfg0.N, t.val = (i 1).val / 512 := ⟨⟨_, by rw [show cfg0.N = 22 from N_0]; omega⟩, rfl⟩
    have e := idx0 t
    refine ⟨t, flush0_2 t, ?_⟩
    show i ∈ ((View.whole main_v0).slice (win0_2.rect t)).set
    rw [View.set_slice_whole, Rect.mem_set_unit]
    exact cover2 (win0_2.index t) 2176 512 i (by omega)

/-! ## The gradient of the activations -/

theorem lt2 (t : Fin cfg2.N) : t.val < 11 := lt_of_lt_of_eq t.isLt N_2

theorem idx2 : ∀ t : Fin grid2.N,
    win2_0.index t 0 = 0 ∧ win2_0.index t 1 = 0 ∧ win2_1.index t 0 = t.val ∧
    win2_1.index t 1 = 0 ∧ win2_2.index t 0 = 0 ∧ win2_2.index t 1 = t.val := by decide +kernel

/-- The row and the column of the product at row `r`, column `s` of a point's block. -/
abbrev row2 (t : Fin cfg2.N) (r : Fin 2176) : Fin 2176 := r
abbrev col2 (t : Fin cfg2.N) (s : Fin 512) : Fin 5632 := ⟨512 * (t.val) + s.val, by have := lt2 t; omega⟩

theorem blk2_0 (t : Fin cfg2.N) (r : Fin 2176) (x : Fin 2048) :
    (iblk2 V c 0 t : Vec Ideal S2176x2048 .bf16) (ix2 r x) = V c main_arg3 (ix2 (row2 t r) x) := by
  have e := idx2 t
  exact congrArg (V c main_arg3) (ext2 (by show win2_0.index t 0 * 2176 + 1 * r.val = (row2 t r).val; dsimp only [row2, col2]; omega) (by show win2_0.index t 1 * 2048 + 1 * x.val = x.val; omega))

theorem blk2_1 (t : Fin cfg2.N) (s : Fin 512) (x : Fin 2048) :
    (iblk2 V c 1 t : Vec Ideal S512x2048 .bf16) (ix2 s x) = V c main_arg2 (ix2 (col2 t s) x) := by
  have e := idx2 t
  exact congrArg (V c main_arg2) (ext2 (by show win2_1.index t 0 * 512 + 1 * s.val = (col2 t s).val; dsimp only [row2, col2]; omega) (by show win2_1.index t 1 * 2048 + 1 * x.val = x.val; omega))

theorem pay2 (a : Vec Ideal S2176x2048 .bf16) (b : Vec Ideal S512x2048 .bf16) (r : Fin 2176) (s : Fin 512) :
    k2_pay1 a b (ix2 r s) = ∑ x : Fin 2048, (a (ix2 r x) : EReal) * b (ix2 s x) := by
  unfold k2_pay1
  pointwise [dot_S2176x2048_S512x2048_S2176x512_1_1_0_0_n_n]

theorem out2 (t : Fin cfg2.N) : outsAt2 V c t = k2_pay1 (iblk2 V c 0 t) (iblk2 V c 1 t) := by
  unfold outsAt2 out2_A_2
  rw [View.read_writes_eq_canon]; swap
  · intro y; apply cover2_A_2
  unfold kernelRun2_A; dsimp only; sl_unfold_words
  rw [View.canon_unit_zero zero2]
  simp only [View.readAt_eq_ld, (hs2_0 t).read_unread, (hs2_1 t).read_unread, ld2]

/-- The product the region leaves. -/
def arr2 : Buf (Elt Ideal) ((c : Thread nD τ).loc main_v2) := Product.nt (m := 2176) (k := 2048) (n := 5632) (V c main_arg3) (V c main_arg2)

theorem flushed2 (t : Fin cfg2.N) (hf : (cfg2.win 2).flush t = true) :
    (dat2 V c).flushed 2 t = ((cfg2.win 2).blk t).view.read (Elt Ideal) (arr2 V c) := by
  have e := idx2 t
  show (cfg2.win 2).cut (grid2.coords t) ((dat2 V c).after 2 t) = _
  rw [after2_2, out2]
  funext y
  obtain ⟨r, s, rfl⟩ := of2 y
  rw [View.read_apply]
  show k2_pay1 (iblk2 V c 0 t) (iblk2 V c 1 t) (ix2 r s) = arr2 V c _
  rw [pay2, show ((cfg2.win 2).blk t).view.emb (ix2 r s) = ix2 (row2 t r) (col2 t s) from
    ext2 (by show win2_2.index t 0 * 2176 + 1 * r.val = (row2 t r).val; dsimp only [row2]; omega)
      (by show win2_2.index t 1 * 512 + 1 * s.val = (col2 t s).val; dsimp only [col2]; omega)]
  exact Finset.sum_congr rfl fun x _ => congrArg₂ (fun p q : EReal => p * q) (blk2_0 V c t r x) (blk2_1 V c t s x)

theorem final2 : (dat2 V c).arrAt 2 cfg2.N = arr2 V c :=
  (dat2 V c).arrAt_eq_of_cover 2 (arr2 V c) (flushed2 V c) fun i : S2176x5632.Idx => by
    obtain ⟨h0, h1⟩ := below2 i
    obtain ⟨t, ht⟩ : ∃ t : Fin cfg2.N, t.val = (i 1).val / 512 := ⟨⟨_, by rw [show cfg2.N = 11 from N_2]; omega⟩, rfl⟩
    have e := idx2 t
    refine ⟨t, flush2_2 t, ?_⟩
    show i ∈ ((View.whole main_v2).slice (win2_2.rect t)).set
    rw [View.set_slice_whole, Rect.mem_set_unit]
    exact cover2 (win2_2.index t) 2176 512 i (by omega)

/-! ## The gradient of the weights out -/

theorem lt3 (t : Fin cfg3.N) : t.val < 11 := lt_of_lt_of_eq t.isLt N_3

theorem idx3 : ∀ t : Fin grid3.N,
    win3_0.index t 0 = 0 ∧ win3_0.index t 1 = t.val ∧ win3_1.index t 0 = 0 ∧
    win3_1.index t 1 = 0 ∧ win3_2.index t 0 = t.val ∧ win3_2.index t 1 = 0 := by decide +kernel

/-- The row and the column of the product at row `r`, column `s` of a point's block. -/
abbrev row3 (t : Fin cfg3.N) (r : Fin 512) : Fin 5632 := ⟨512 * (t.val) + r.val, by have := lt3 t; omega⟩
abbrev col3 (t : Fin cfg3.N) (s : Fin 2048) : Fin 2048 := s

theorem blk3_0 (t : Fin cfg3.N) (x : Fin 2176) (r : Fin 512) :
    (iblk3 V c 0 t : Vec Ideal S2176x512 .bf16) (ix2 x r) = V c main_v1 (ix2 x (row3 t r)) := by
  have e := idx3 t
  exact congrArg (V c main_v1) (ext2 (by show win3_0.index t 0 * 2176 + 1 * x.val = x.val; omega) (by show win3_0.index t 1 * 512 + 1 * r.val = (row3 t r).val; dsimp only [row3, col3]; omega))

theorem blk3_1 (t : Fin cfg3.N) (x : Fin 2176) (s : Fin 2048) :
    (iblk3 V c 1 t : Vec Ideal S2176x2048 .bf16) (ix2 x s) = V c main_arg3 (ix2 x (col3 t s)) := by
  have e := idx3 t
  exact congrArg (V c main_arg3) (ext2 (by show win3_1.index t 0 * 2176 + 1 * x.val = x.val; omega) (by show win3_1.index t 1 * 2048 + 1 * s.val = (col3 t s).val; dsimp only [row3, col3]; omega))

theorem pay3 (a : Vec Ideal S2176x512 .bf16) (b : Vec Ideal S2176x2048 .bf16) (r : Fin 512) (s : Fin 2048) :
    k3_pay1 a b (ix2 r s) = ∑ x : Fin 2176, (a (ix2 x r) : EReal) * b (ix2 x s) := by
  unfold k3_pay1
  pointwise [dot_S2176x512_S2176x2048_S512x2048_0_0_1_1_n_n]

theorem out3 (t : Fin cfg3.N) : outsAt3 V c t = k3_pay1 (iblk3 V c 0 t) (iblk3 V c 1 t) := by
  unfold outsAt3 out3_A_2
  rw [View.read_writes_eq_canon]; swap
  · intro y; apply cover3_A_2
  unfold kernelRun3_A; dsimp only; sl_unfold_words
  rw [View.canon_unit_zero zero2]
  simp only [View.readAt_eq_ld, (hs3_0 t).read_unread, (hs3_1 t).read_unread, ld2]

/-- The product the region leaves. -/
def arr3 : Buf (Elt Ideal) ((c : Thread nD τ).loc main_v3) := Product.tn (m := 5632) (k := 2176) (n := 2048) (V c main_v1) (V c main_arg3)

theorem flushed3 (t : Fin cfg3.N) (hf : (cfg3.win 2).flush t = true) :
    (dat3 V c).flushed 2 t = ((cfg3.win 2).blk t).view.read (Elt Ideal) (arr3 V c) := by
  have e := idx3 t
  show (cfg3.win 2).cut (grid3.coords t) ((dat3 V c).after 2 t) = _
  rw [after3_2, out3]
  funext y
  obtain ⟨r, s, rfl⟩ := of2 y
  rw [View.read_apply]
  show k3_pay1 (iblk3 V c 0 t) (iblk3 V c 1 t) (ix2 r s) = arr3 V c _
  rw [pay3, show ((cfg3.win 2).blk t).view.emb (ix2 r s) = ix2 (row3 t r) (col3 t s) from
    ext2 (by show win3_2.index t 0 * 512 + 1 * r.val = (row3 t r).val; dsimp only [row3]; omega)
      (by show win3_2.index t 1 * 2048 + 1 * s.val = (col3 t s).val; dsimp only [col3]; omega)]
  exact Finset.sum_congr rfl fun x _ => congrArg₂ (fun p q : EReal => p * q) (blk3_0 V c t x r) (blk3_1 V c t x s)

theorem final3 : (dat3 V c).arrAt 2 cfg3.N = arr3 V c :=
  (dat3 V c).arrAt_eq_of_cover 2 (arr3 V c) (flushed3 V c) fun i : S5632x2048.Idx => by
    obtain ⟨h0, h1⟩ := below2 i
    obtain ⟨t, ht⟩ : ∃ t : Fin cfg3.N, t.val = (i 0).val / 512 := ⟨⟨_, by rw [show cfg3.N = 11 from N_3]; omega⟩, rfl⟩
    have e := idx3 t
    refine ⟨t, flush3_2 t, ?_⟩
    show i ∈ ((View.whole main_v3).slice (win3_2.rect t)).set
    rw [View.set_slice_whole, Rect.mem_set_unit]
    exact cover2 (win3_2.index t) 512 2048 i (by omega)

/-! ## The gradient of the weights in -/

theorem lt5 (t : Fin cfg5.N) : t.val < 22 := lt_of_lt_of_eq t.isLt N_5

theorem idx5 : ∀ t : Fin grid5.N,
    win5_0.index t 0 = 0 ∧ win5_0.index t 1 = 0 ∧ win5_1.index t 0 = 0 ∧
    win5_1.index t 1 = t.val ∧ win5_2.index t 0 = 0 ∧ win5_2.index t 1 = t.val := by decide +kernel

/-- The row and the column of the product at row `r`, column `s` of a point's block. -/
abbrev row5 (t : Fin cfg5.N) (r : Fin 2048) : Fin 2048 := r
abbrev col5 (t : Fin cfg5.N) (s : Fin 512) : Fin 11264 := ⟨512 * (t.val) + s.val, by have := lt5 t; omega⟩

theorem blk5_0 (t : Fin cfg5.N) (x : Fin 2176) (r : Fin 2048) :
    (iblk5 V c 0 t : Vec Ideal S2176x2048 .bf16) (ix2 x r) = V c main_arg0 (ix2 x (row5 t r)) := by
  have e := idx5 t
  exact congrArg (V c main_arg0) (ext2 (by show win5_0.index t 0 * 2176 + 1 * x.val = x.val; omega) (by show win5_0.index t 1 * 2048 + 1 * r.val = (row5 t r).val; dsimp only [row5, col5]; omega))

theorem blk5_1 (t : Fin cfg5.N) (x : Fin 2176) (s : Fin 512) :
    (iblk5 V c 1 t : Vec Ideal S2176x512 .bf16) (ix2 x s) = V c main_v4 (ix2 x (col5 t s)) := by
  have e := idx5 t
  exact congrArg (V c main_v4) (ext2 (by show win5_1.index t 0 * 2176 + 1 * x.val = x.val; omega) (by show win5_1.index t 1 * 512 + 1 * s.val = (col5 t s).val; dsimp only [row5, col5]; omega))

theorem pay5 (a : Vec Ideal S2176x2048 .bf16) (b : Vec Ideal S2176x512 .bf16) (r : Fin 2048) (s : Fin 512) :
    k5_pay1 a b (ix2 r s) = ∑ x : Fin 2176, (a (ix2 x r) : EReal) * b (ix2 x s) := by
  unfold k5_pay1
  pointwise [dot_S2176x2048_S2176x512_S2048x512_0_0_1_1_n_n]

theorem out5 (t : Fin cfg5.N) : outsAt5 V c t = k5_pay1 (iblk5 V c 0 t) (iblk5 V c 1 t) := by
  unfold outsAt5 out5_A_2
  rw [View.read_writes_eq_canon]; swap
  · intro y; apply cover5_A_2
  unfold kernelRun5_A; dsimp only; sl_unfold_words
  rw [View.canon_unit_zero zero2]
  simp only [View.readAt_eq_ld, (hs5_0 t).read_unread, (hs5_1 t).read_unread, ld2]

/-- The product the region leaves. -/
def arr5 : Buf (Elt Ideal) ((c : Thread nD τ).loc main_v5) := Product.tn (m := 2048) (k := 2176) (n := 11264) (V c main_arg0) (V c main_v4)

theorem flushed5 (t : Fin cfg5.N) (hf : (cfg5.win 2).flush t = true) :
    (dat5 V c).flushed 2 t = ((cfg5.win 2).blk t).view.read (Elt Ideal) (arr5 V c) := by
  have e := idx5 t
  show (cfg5.win 2).cut (grid5.coords t) ((dat5 V c).after 2 t) = _
  rw [after5_2, out5]
  funext y
  obtain ⟨r, s, rfl⟩ := of2 y
  rw [View.read_apply]
  show k5_pay1 (iblk5 V c 0 t) (iblk5 V c 1 t) (ix2 r s) = arr5 V c _
  rw [pay5, show ((cfg5.win 2).blk t).view.emb (ix2 r s) = ix2 (row5 t r) (col5 t s) from
    ext2 (by show win5_2.index t 0 * 2048 + 1 * r.val = (row5 t r).val; dsimp only [row5]; omega)
      (by show win5_2.index t 1 * 512 + 1 * s.val = (col5 t s).val; dsimp only [col5]; omega)]
  exact Finset.sum_congr rfl fun x _ => congrArg₂ (fun p q : EReal => p * q) (blk5_0 V c t x r) (blk5_1 V c t x s)

theorem final5 : (dat5 V c).arrAt 2 cfg5.N = arr5 V c :=
  (dat5 V c).arrAt_eq_of_cover 2 (arr5 V c) (flushed5 V c) fun i : S2048x11264.Idx => by
    obtain ⟨h0, h1⟩ := below2 i
    obtain ⟨t, ht⟩ : ∃ t : Fin cfg5.N, t.val = (i 1).val / 512 := ⟨⟨_, by rw [show cfg5.N = 22 from N_5]; omega⟩, rfl⟩
    have e := idx5 t
    refine ⟨t, flush5_2 t, ?_⟩
    show i ∈ ((View.whole main_v5).slice (win5_2.rect t)).set
    rw [View.set_slice_whole, Rect.mem_set_unit]
    exact cover2 (win5_2.index t) 2048 512 i (by omega)

end Cert.Kernel2Ideal.Ffn
-- ==== Proof.Common.Swiglu.lean ====
/- The gate of the channel mixer, `g · σ(g) · u` for the two halves `g`, `u` of a row, and its gradient. -/
module

public import Idealize.ShloMosaic.Lib.ValueIdxCore
public import Idealize.ShloMosaic.Lib.Pointwise

@[expose] public noncomputable section

namespace Cert.Swiglu

open Idealize.ShloMosaic

variable {m : ℕ}

/-- A column of the first and of the second half. -/
abbrev lo (s : Fin 5632) : Fin 11264 := ⟨s.val, by omega⟩
abbrev hi (s : Fin 5632) : Fin 11264 := ⟨5632 + s.val, by omega⟩

/-- The gradients of `g · σ(g) · u` with respect to `g` and to `u`, at the gradient `d` of the gate. -/
def dg (g u d : EReal) : EReal := d * u * Ideal.logistic g + g * (d * u) * (Ideal.logistic g * (1 - Ideal.logistic g))
def du (g d : EReal) : EReal := g * Ideal.logistic g * d

def gate (gu : (⟨2, ![m, 11264]⟩ : Shape).Idx → EReal) : (⟨2, ![m, 5632]⟩ : Shape).Idx → EReal := fun i =>
  gu (ix2 (i 0) (lo (i 1))) * Ideal.logistic (gu (ix2 (i 0) (lo (i 1)))) * gu (ix2 (i 0) (hi (i 1)))

def grad (gu : (⟨2, ![m, 11264]⟩ : Shape).Idx → EReal) (d : (⟨2, ![m, 5632]⟩ : Shape).Idx → EReal) :
    (⟨2, ![m, 11264]⟩ : Shape).Idx → EReal := fun i =>
  if h : (i 1).val < 5632 then dg (gu (ix2 (i 0) (i 1))) (gu (ix2 (i 0) (hi ⟨(i 1).val, h⟩))) (d (ix2 (i 0) ⟨(i 1).val, h⟩))
  else du (gu (ix2 (i 0) ⟨(i 1).val - 5632, by have : (i 1).val < 11264 := (i 1).isLt; omega⟩))
    (d (ix2 (i 0) ⟨(i 1).val - 5632, by have : (i 1).val < 11264 := (i 1).isLt; omega⟩))

end Cert.Swiglu
-- ==== Proof.Ffn.Gate.lean ====
/- The gate of the channel mixer and its gradient: what the two calls that go row by row leave. -/
module

public import proofs.«01_k».proof.Proof.Common.Idx
public import proofs.«01_k».proof.Proof.Ffn.Products
public import proofs.«01_k».proof.Proof.Common.Swiglu

@[expose] public noncomputable section

set_option maxRecDepth 16384

namespace Cert.Kernel2Ideal.Ffn

open Cert.Kernel2Ideal Cert.Kernel2Ideal.Gen Idealize.ShloMosaic Idealize.ShloMosaic.TcCoe Idealize.SL.Sem Cert.Idx

variable (V : (c : Dev nD) → (b : Ref sig .tc) → Buf (Elt Ideal) ((c : Thread nD τ).loc b)) (c : Dev nD)

/-! ## The gate -/

theorem lt1 (t : Fin cfg1.N) : t.val < 34 := lt_of_lt_of_eq t.isLt N_1

theorem idx1 : ∀ t : Fin grid1.N,
    win1_0.index t 0 = t.val ∧ win1_0.index t 1 = 0 ∧ win1_1.index t 0 = t.val ∧ win1_1.index t 1 = 0 := by decide +kernel

abbrev row1 (t : Fin cfg1.N) (r : Fin 64) : Fin 2176 := ⟨64 * t.val + r.val, by have := lt1 t; omega⟩

theorem blk1_0 (t : Fin cfg1.N) (r : Fin 64) (s : Fin 11264) :
    (iblk1 V c 0 t : Vec Ideal S64x11264 .f32) (ix2 r s) = V c main_v0 (ix2 (row1 t r) s) := by
  have e := idx1 t
  exact congrArg (V c main_v0) (ext2 (by show win1_0.index t 0 * 64 + 1 * r.val = 64 * t.val + r.val; omega) (by show win1_0.index t 1 * 11264 + 1 * s.val = s.val; omega))

theorem pay1 (a : Vec Ideal S64x11264 .f32) (r : Fin 64) (s : Fin 5632) :
    k1_pay1 a (ix2 r s) = Swiglu.gate (m := 64) a (ix2 r s) := by
  unfold k1_pay1
  pointwise
  rfl

theorem commutes1 (t : Fin cfg1.N) (r : Fin 64) (s : Fin 5632) :
    Swiglu.gate (m := 64) (iblk1 V c 0 t) (ix2 r s) = Swiglu.gate (m := 2176) (V c main_v0) (ix2 (row1 t r) s) := by
  show (_ * Ideal.logistic _ * _ : EReal) = _ * Ideal.logistic _ * _
  exact congrArg₂ (fun g u : EReal => g * Ideal.logistic g * u) (blk1_0 V c t r (Swiglu.lo s)) (blk1_0 V c t r (Swiglu.hi s))

theorem out1 (x0 : Vec Ideal S64x11264 .f32) : out1_1 x0 = k1_pay1 x0 := by
  unfold out1_1
  rw [View.canon_unit_zero zero2]
  simp only [View.ld_unit_zero (S := S64x11264) zero2]

def arr1 : Buf (Elt Ideal) ((c : Thread nD τ).loc main_v1) := Swiglu.gate (m := 2176) (V c main_v0)

theorem flushed1 (t : Fin cfg1.N) (hf : (cfg1.win 1).flush t = true) :
    (dat1 V c).flushed 1 t = ((cfg1.win 1).blk t).view.read (Elt Ideal) (arr1 V c) := by
  have e := idx1 t
  show (cfg1.win 1).cut (grid1.coords t) ((dat1 V c).after 1 t) = _
  rw [after1_1, out1]
  funext y
  obtain ⟨r, s, rfl⟩ := of2 y
  rw [View.read_apply]
  show k1_pay1 (iblk1 V c 0 t) (ix2 r s) = arr1 V c _
  rw [pay1, show ((cfg1.win 1).blk t).view.emb (ix2 r s) = ix2 (row1 t r) s from
    ext2 (by show win1_1.index t 0 * 64 + 1 * r.val = 64 * t.val + r.val; omega)
      (by show win1_1.index t 1 * 5632 + 1 * s.val = s.val; omega)]
  exact commutes1 V c t r s

theorem final1 : (dat1 V c).arrAt 1 cfg1.N = arr1 V c :=
  (dat1 V c).arrAt_eq_of_cover 1 (arr1 V c) (flushed1 V c) fun i : S2176x5632.Idx => by
    obtain ⟨h0, h1⟩ := below2 i
    obtain ⟨t, ht⟩ : ∃ t : Fin cfg1.N, t.val = (i 0).val / 64 := ⟨⟨_, by rw [show cfg1.N = 34 from N_1]; omega⟩, rfl⟩
    have e := idx1 t
    refine ⟨t, flush1_1 t, ?_⟩
    show i ∈ ((View.whole main_v1).slice (win1_1.rect t)).set
    rw [View.set_slice_whole, Rect.mem_set_unit]
    exact cover2 (win1_1.index t) 64 5632 i (by omega)

/-! ## The gradient of the gate -/

theorem lt4 (t : Fin cfg4.N) : t.val < 34 := lt_of_lt_of_eq t.isLt N_4

theorem idx4 : ∀ t : Fin grid4.N,
    win4_0.index t 0 = t.val ∧ win4_0.index t 1 = 0 ∧ win4_1.index t 0 = t.val ∧ win4_1.index t 1 = 0 ∧ win4_2.index t 0 = t.val ∧ win4_2.index t 1 = 0 := by decide +kernel

abbrev row4 (t : Fin cfg4.N) (r : Fin 64) : Fin 2176 := ⟨64 * t.val + r.val, by have := lt4 t; omega⟩

theorem blk4_0 (t : Fin cfg4.N) (r : Fin 64) (s : Fin 11264) :
    (iblk4 V c 0 t : Vec Ideal S64x11264 .f32) (ix2 r s) = V c main_v0 (ix2 (row4 t r) s) := by
  have e := idx4 t
  exact congrArg (V c main_v0) (ext2 (by show win4_0.index t 0 * 64 + 1 * r.val = 64 * t.val + r.val; omega) (by show win4_0.index t 1 * 11264 + 1 * s.val = s.val; omega))

theorem blk4_1 (t : Fin cfg4.N) (r : Fin 64) (s : Fin 5632) :
    (iblk4 V c 1 t : Vec Ideal S64x5632 .f32) (ix2 r s) = V c main_v2 (ix2 (row4 t r) s) := by
  have e := idx4 t
  exact congrArg (V c main_v2) (ext2 (by show win4_1.index t 0 * 64 + 1 * r.val = 64 * t.val + r.val; omega) (by show win4_1.index t 1 * 5632 + 1 * s.val = s.val; omega))

theorem pay4 (a : Vec Ideal S64x11264 .f32) (d : Vec Ideal S64x5632 .f32) (r : Fin 64) (s : Fin 11264) :
    k4_pay1 a d (ix2 r s) = Swiglu.grad (m := 64) a d (ix2 r s) := by
  unfold k4_pay1 Swiglu.grad
  pointwise
  split
  · exact zero_add _
  · exact add_zero _

theorem commutes4 (t : Fin cfg4.N) (r : Fin 64) (s : Fin 11264) :
    Swiglu.grad (m := 64) (iblk4 V c 0 t) (iblk4 V c 1 t) (ix2 r s)
      = Swiglu.grad (m := 2176) (V c main_v0) (V c main_v2) (ix2 (row4 t r) s) := by
  unfold Swiglu.grad
  by_cases h : s.val < 5632
  · rw [dif_pos (show ((ix2 r s : S64x11264.Idx) 1).val < 5632 from h),
      dif_pos (show ((ix2 (row4 t r) s : S2176x11264.Idx) 1).val < 5632 from h)]
    refine (congrFun (congrArg₂ Swiglu.dg (blk4_0 V c t r s) (blk4_0 V c t r (Swiglu.hi ⟨s.val, h⟩))) _).trans ?_
    exact congrArg (Swiglu.dg _ _) (blk4_1 V c t r ⟨s.val, h⟩)
  · rw [dif_neg (show ¬((ix2 r s : S64x11264.Idx) 1).val < 5632 from h),
      dif_neg (show ¬((ix2 (row4 t r) s : S2176x11264.Idx) 1).val < 5632 from h)]
    exact congrArg₂ Swiglu.du (blk4_0 V c t r _) (blk4_1 V c t r _)

theorem out4 (x0 : Vec Ideal S64x11264 .f32) (x1 : Vec Ideal S64x5632 .f32) : out4_2 x0 x1 = k4_pay1 x0 x1 := by
  unfold out4_2
  rw [View.canon_unit_zero zero2]
  simp only [View.ld_unit_zero (S := S64x11264) zero2, View.ld_unit_zero (S := S64x5632) zero2]

def arr4 : Buf (Elt Ideal) ((c : Thread nD τ).loc main_v4) := Swiglu.grad (m := 2176) (V c main_v0) (V c main_v2)

theorem flushed4 (t : Fin cfg4.N) (hf : (cfg4.win 2).flush t = true) :
    (dat4 V c).flushed 2 t = ((cfg4.win 2).blk t).view.read (Elt Ideal) (arr4 V c) := by
  have e := idx4 t
  show (cfg4.win 2).cut (grid4.coords t) ((dat4 V c).after 2 t) = _
  rw [after4_2, out4]
  funext y
  obtain ⟨r, s, rfl⟩ := of2 y
  rw [View.read_apply]
  show k4_pay1 (iblk4 V c 0 t) (iblk4 V c 1 t) (ix2 r s) = arr4 V c _
  rw [pay4, show ((cfg4.win 2).blk t).view.emb (ix2 r s) = ix2 (row4 t r) s from
    ext2 (by show win4_2.index t 0 * 64 + 1 * r.val = 64 * t.val + r.val; omega)
      (by show win4_2.index t 1 * 11264 + 1 * s.val = s.val; omega)]
  exact commutes4 V c t r s

theorem final4 : (dat4 V c).arrAt 2 cfg4.N = arr4 V c :=
  (dat4 V c).arrAt_eq_of_cover 2 (arr4 V c) (flushed4 V c) fun i : S2176x11264.Idx => by
    obtain ⟨h0, h1⟩ := below2 i
    obtain ⟨t, ht⟩ : ∃ t : Fin cfg4.N, t.val = (i 0).val / 64 := ⟨⟨_, by rw [show cfg4.N = 34 from N_4]; omega⟩, rfl⟩
    have e := idx4 t
    refine ⟨t, flush4_2 t, ?_⟩
    show i ∈ ((View.whole main_v4).slice (win4_2.rect t)).set
    rw [View.set_slice_whole, Rect.mem_set_unit]
    exact cover2 (win4_2.index t) 64 11264 i (by omega)

end Cert.Kernel2Ideal.Ffn
-- ==== Proof.Ffn.Math.lean ====
/- The channel mixer's gradients, in terms of the normalised rows `x`, the weights `wi` in and `wo` out and the gradient
   `d` of the mixer's result. -/
module

public import proofs.«01_k».proof.Proof.Common.Product
public import proofs.«01_k».proof.Proof.Common.Swiglu

@[expose] public noncomputable section

namespace Cert.Mixer

open Idealize.ShloMosaic

abbrev Rows : Type := (⟨2, ![2176, 2048]⟩ : Shape).Idx → EReal
abbrev WIn : Type := (⟨2, ![2048, 11264]⟩ : Shape).Idx → EReal
abbrev WOut : Type := (⟨2, ![5632, 2048]⟩ : Shape).Idx → EReal

variable (x : Rows) (wi : WIn) (wo : WOut) (d : Rows)

/-- The two halves of the gate, and the gate. -/
def gu : (⟨2, ![2176, 11264]⟩ : Shape).Idx → EReal := Product.nn (m := 2176) (k := 2048) (n := 11264) x wi
def act : (⟨2, ![2176, 5632]⟩ : Shape).Idx → EReal := Swiglu.gate (m := 2176) (gu x wi)

/-- The gradients of the gate and of its halves, and of the two weights. -/
def dact : (⟨2, ![2176, 5632]⟩ : Shape).Idx → EReal := Product.nt (m := 2176) (k := 2048) (n := 5632) d wo
def dgu : (⟨2, ![2176, 11264]⟩ : Shape).Idx → EReal := Swiglu.grad (m := 2176) (gu x wi) (dact wo d)
def dwOut : WOut := Product.tn (m := 5632) (k := 2176) (n := 2048) (act x wi) d
def dwIn : WIn := Product.tn (m := 2048) (k := 2176) (n := 11264) x (dgu x wi wo d)

end Cert.Mixer
-- ==== Proof.Ffn.Run.lean ====
/- The channel mixer's calls in turn: what each finds, and what the last one leaves. -/
module

public import proofs.«01_k».proof.Proof.Ffn.Gate
public import proofs.«01_k».proof.Proof.Ffn.Math

@[expose] public noncomputable section

set_option maxRecDepth 16384

namespace Cert.Kernel2Ideal.Ffn

open Cert.Kernel2Ideal Cert.Kernel2Ideal.Gen Idealize.ShloMosaic Idealize.ShloMosaic.TcCoe Idealize.SL.Sem

open Idealize.SL Idealize.SL.RA Idealize.SL.BI
open scoped Idealize.SL.BI
open Idealize.SL.BI.BIBase Idealize.SL.BI.Laws Idealize.SL.ProofMode
open Idealize.ShloMosaic.Rounds

variable {F : FTy → Type} [FloatOps F]

/-- What is said of the machine's state while the calls run. -/
local notation "Pred" => sProp (MT nD τ sig Unit (Elt F) ℕ (UR sig nD τ) ℕ)

/-- From any memory every execution ends with each buffer at the contents that follow from the calls in turn. -/
theorem reach (m : (ℓ : Loc nD τ sig) → Buf (Elt F) ℓ) (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = W6 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu
      imodintro
      isplitl [Hu]
      · iapply (show (ownU (initOf (Pipeline.cells cfgs cellOf_inj) (Pipeline.launchToks cfgs cellOf_inj)) : Pred)
          ⊢ BI.own (emb₁ (initOf (Pipeline.cells cfgs cellOf_inj) (Pipeline.launchToks cfgs cellOf_inj))) from .rfl)
        iexact Hu
      · iapply (show (BI.emp : Pred) ⊢ bigSep Finset.univ (fun _ : Dev nD => (BI.emp : Pred)) from by
          rw [BI.bigSep_emp_const])
        iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b))
        = StableHlo.held (c : Thread nD τ) (Pipeline.ucRefs τ sig) (W0 m ρ c) from Pipeline.unscopedBufs_held c (W0 m ρ c)]
      iintro ⟨⟨Hb, -, HO, -, Hr, -⟩, -⟩
      imodintro
      isplitl [Hb]
      · iexact Hb
      isplitl [Hr]
      · iexists _; iexact Hr
      · iexists ∅; iexact HO)
    (QY := fun c s => ∀ b ∈ Pipeline.ucRefs τ sig, s.mem (((c : Thread nD τ)).1, b) = W6 m ρ c b)
    (hfin := fun c s' => by
      iintro ⟨⟨Hb, -⟩, HS⟩
      unfold StableHlo.held
      imodintro
      iapply (pointsTo_read_all (Pipeline.ucRefs τ sig) (fun b => (((c : Thread nD τ)).1, b)) (W6 m ρ c) s')
      isplitl [Hb] <;> iassumption)
    (hQ := fun s h _ => h)

section Values

variable (m : (ℓ : Loc nD τ sig) → Buf (Elt Ideal) ℓ) (ρ : Dev nD → PrngReg) (c : Dev nD)

/-- The normalised rows, the two weights and the gradient of the mixer's result. -/
abbrev hn : S2176x2048.Idx → EReal := m ((c : Thread nD τ).loc main_arg0)
abbrev wIn : S2048x11264.Idx → EReal := m ((c : Thread nD τ).loc main_arg1)
abbrev wOut : S5632x2048.Idx → EReal := m ((c : Thread nD τ).loc main_arg2)
abbrev df : S2176x2048.Idx → EReal := m ((c : Thread nD τ).loc main_arg3)

theorem at_gu : W1 m ρ c main_v0 = Mixer.gu (hn m c) (wIn m c) :=
  (W1_arr m ρ c 2).trans (final0 (V0 m ρ) c)

theorem at_act : W2 m ρ c main_v1 = Mixer.act (hn m c) (wIn m c) :=
  ((W2_arr m ρ c 1).trans (final1 (V1 m ρ) c)).trans (congrArg (Swiglu.gate (m := 2176)) (at_gu m ρ c))

theorem at_dact : W3 m ρ c main_v2 = Mixer.dact (wOut m c) (df m c) :=
  ((W3_arr m ρ c 2).trans (final2 (V2 m ρ) c)).trans
    (congrArg₂ (Product.nt (m := 2176) (k := 2048) (n := 5632)) (W2_args m ρ c main_arg3 (by decide)) (W2_args m ρ c main_arg2 (by decide)))

theorem at_dwOut : W4 m ρ c main_v3 = Mixer.dwOut (hn m c) (wIn m c) (df m c) :=
  ((W4_arr m ρ c 2).trans (final3 (V3 m ρ) c)).trans
    (congrArg₂ (Product.tn (m := 5632) (k := 2176) (n := 2048))
      ((W3_of m ρ c main_v1 (by decide +kernel)).trans (at_act m ρ c)) (W3_args m ρ c main_arg3 (by decide)))

theorem at_dgu : W5 m ρ c main_v4 = Mixer.dgu (hn m c) (wIn m c) (wOut m c) (df m c) :=
  ((W5_arr m ρ c 2).trans (final4 (V4 m ρ) c)).trans
    (congrArg₂ (Swiglu.grad (m := 2176))
      (((W4_of m ρ c main_v0 (by decide +kernel)).trans ((W3_of m ρ c main_v0 (by decide +kernel)).trans (W2_of m ρ c main_v0 (by decide +kernel)))).trans (at_gu m ρ c))
      ((W4_of m ρ c main_v2 (by decide +kernel)).trans (at_dact m ρ c)))

theorem at_dwIn : W6 m ρ c main_v5 = Mixer.dwIn (hn m c) (wIn m c) (wOut m c) (df m c) :=
  ((W6_arr m ρ c 2).trans (final5 (V5 m ρ) c)).trans
    (congrArg₂ (Product.tn (m := 2048) (k := 2176) (n := 11264)) (W5_args m ρ c main_arg0 (by decide)) (at_dgu m ρ c))

/-- The three gradients the calls leave. -/
theorem run : θ_run defs (onTc (τ := τ) (main (F := Ideal))) ⟨m, fun _ => 0, ρ⟩ (fun r => ∀ c : Dev nD,
      @Eq (S2176x11264.Idx → EReal) (r.2.mem ((c.tc : Thread nD τ).loc main_v4)) (Mixer.dgu (hn m c) (wIn m c) (wOut m c) (df m c))
      ∧ @Eq (S2048x11264.Idx → EReal) (r.2.mem ((c.tc : Thread nD τ).loc main_v5)) (Mixer.dwIn (hn m c) (wIn m c) (wOut m c) (df m c))
      ∧ @Eq (S5632x2048.Idx → EReal) (r.2.mem ((c.tc : Thread nD τ).loc main_v3)) (Mixer.dwOut (hn m c) (wIn m c) (df m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨((h c _ (mem_uc main_v4 (by decide))).trans (W6_of m ρ c main_v4 (by decide +kernel))).trans (at_dgu m ρ c),
     (h c _ (mem_uc main_v5 (by decide))).trans (at_dwIn m ρ c),
     ((h c _ (mem_uc main_v3 (by decide))).trans ((W6_of m ρ c main_v3 (by decide +kernel)).trans (W5_of m ρ c main_v3 (by decide +kernel)))).trans (at_dwOut m ρ c),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c)⟩) (reach m ρ)

end Values

end Cert.Kernel2Ideal.Ffn
-- ==== Proof.Ffn.Reference.lean ====
/- The reference's three gradients are the channel mixer's. -/
module

public import proofs.«01_k».proof.Proof.Gen.Reference2Ideal.Read
public import proofs.«01_k».proof.Proof.Ffn.Math
public import Idealize.ShloMosaic.Lib.Pointwise

@[expose] public noncomputable section

set_option maxRecDepth 16384

namespace Cert.Reference2Ideal.Ffn

open Cert.Reference2Ideal Cert.Reference2Ideal.Gen Cert.Reference2Ideal.Read Idealize.ShloMosaic Cert.Mixer

variable (x : Rows) (wi : WIn) (wo : WOut) (d : Rows)

theorem gu_eq : val_main_v2 (F := Ideal) x wi = gu x wi := by
  funext i
  unfold val_main_v2 val_main_v1 val_main_v0 gu Product.nn
  pointwise [dot_S2176x2048_S2048x11264_S2176x11264_1_0_0_1_n_n]

theorem g_at (i : S2176x5632.Idx) : val_main_v4 (F := Ideal) x wi i = gu x wi (ix2 (i 0) (Swiglu.lo (i 1))) := by
  rw [← gu_eq]
  unfold val_main_v4
  generalize val_main_v2 (F := Ideal) x wi = y
  pointwise

theorem u_at (i : S2176x5632.Idx) : val_main_v5 (F := Ideal) x wi i = gu x wi (ix2 (i 0) (Swiglu.hi (i 1))) := by
  rw [← gu_eq]
  unfold val_main_v5
  generalize val_main_v2 (F := Ideal) x wi = y
  pointwise

theorem sigma_at (i : S2176x5632.Idx) :
    val_main_v6_2 (F := Ideal) x wi i = Ideal.logistic (gu x wi (ix2 (i 0) (Swiglu.lo (i 1)))) := by
  rw [← g_at]
  unfold val_main_v6_2 val_main_call0_v4 val_main_call0_v3 val_main_call0_v2 val_main_call0_v1 val_main_call0_cst
    val_main_call0_cst_0 val_main_call0_v0
  generalize val_main_v4 (F := Ideal) x wi = y
  pointwise
  rfl

theorem slope_at (i : S2176x5632.Idx) : val_main_v6_1 (F := Ideal) x wi i =
    Ideal.logistic (gu x wi (ix2 (i 0) (Swiglu.lo (i 1)))) * (1 - Ideal.logistic (gu x wi (ix2 (i 0) (Swiglu.lo (i 1))))) := by
  rw [← sigma_at]
  unfold val_main_v6_1 val_main_call0_v7 val_main_call0_v6 val_main_call0_cst_1
  generalize val_main_v6_2 (F := Ideal) x wi = y
  pointwise

theorem act_eq : val_main_v7 (F := Ideal) x wi = act x wi := by
  funext i
  rw [val_main_v7_apply, val_main_v6_0_apply, g_at, u_at, sigma_at]
  rfl

theorem dact_eq : val_main_v12 (F := Ideal) wo d = dact wo d := by
  funext i
  unfold val_main_v12 val_main_v9 val_main_v3 dact Product.nt
  pointwise [dot_S2176x2048_S5632x2048_S2176x5632_1_1_0_0_n_n]

theorem dwOut_eq : val_main_v21 (F := Ideal) x wi d = dwOut x wi d := by
  funext i
  unfold val_main_v21 val_main_v11 val_main_v10 val_main_v9 dwOut Product.tn
  rw [act_eq]
  generalize act x wi = y
  pointwise [dot_S2176x2048_S2176x5632_S2048x5632_0_0_1_1_n_n]
  exact Finset.sum_congr rfl fun k _ => mul_comm (G := EReal) _ _

theorem dg_at (i : S2176x5632.Idx) : val_main_v15 (F := Ideal) x wi wo d i =
    Swiglu.dg (gu x wi (ix2 (i 0) (Swiglu.lo (i 1)))) (gu x wi (ix2 (i 0) (Swiglu.hi (i 1)))) (dact wo d i) := by
  rw [val_main_v15_apply, val_main_call1_v1_apply, val_main_call1_v2_apply, val_main_call1_v0_apply, val_main_v14_apply,
    g_at, u_at, sigma_at, slope_at, dact_eq]
  rfl

theorem du_at (i : S2176x5632.Idx) : val_main_v13 (F := Ideal) x wi wo d i =
    Swiglu.du (gu x wi (ix2 (i 0) (Swiglu.lo (i 1)))) (dact wo d i) := by
  rw [val_main_v13_apply, val_main_v6_0_apply, g_at, sigma_at, dact_eq]
  rfl

theorem dgu_eq : val_main_v16 (F := Ideal) x wi wo d = dgu x wi wo d := by
  funext i
  obtain ⟨r, s, rfl⟩ : ∃ (r : Fin 2176) (s : Fin 11264), i = ix2 r s := ⟨i 0, i 1, eq_ix2 i⟩
  have hg := fun s => dg_at x wi wo d (ix2 r s)
  have hu := fun s => du_at x wi wo d (ix2 r s)
  unfold val_main_v16 dgu Swiglu.grad
  generalize val_main_v15 (F := Ideal) x wi wo d = yg at hg ⊢
  generalize val_main_v13 (F := Ideal) x wi wo d = yu at hu ⊢
  pointwise
  split
  · exact hg _
  · exact hu _

theorem dgu_at : val_main_v19 (F := Ideal) x wi wo d = dgu x wi wo d := by
  rw [← dgu_eq]
  rfl

theorem dwIn_eq : val_main_v20 (F := Ideal) x wi wo d = dwIn x wi wo d := by
  funext i
  unfold val_main_v20 val_main_v18 val_main_v17 val_main_v1 dwIn Product.tn
  rw [dgu_eq]
  generalize dgu x wi wo d = y
  pointwise [dot_S2176x11264_S2176x2048_S11264x2048_0_0_1_1_n_n]
  exact Finset.sum_congr rfl fun k _ => mul_comm (G := EReal) _ _

end Cert.Reference2Ideal.Ffn
-- ==== Proof.Ffn.Claims.lean ====
/- The claims about the channel mixer's gradients. -/
module

public import proofs.«01_k».proof.Defs
public import proofs.«01_k».proof.Proof.Gen.Kernel2.Frame
public import proofs.«01_k».proof.Proof.Gen.Reference2Ideal.Run
public import proofs.«01_k».proof.Proof.Ffn.Run
public import proofs.«01_k».proof.Proof.Ffn.Reference

@[expose] public noncomputable section

set_option maxRecDepth 16384

namespace Cert.Proof.Ffn

open Idealize.ShloMosaic Idealize.ShloMosaic.TcCoe Idealize.SL.Sem

theorem frame_p : Cert.quiescent_Kernel2 := fun m ρ _ => Cert.Kernel2.Gen.frame m ρ
theorem frame_pi : Cert.quiescent_Kernel2Ideal := fun m ρ _ => Cert.Kernel2Ideal.Gen.frame m ρ
theorem frame_ri : Cert.quiescent_Reference2Ideal := fun m ρ _ =>
  (θ_run Cert.Reference2Ideal.defs _ _).mono (fun r h => ⟨fun c => (h c).2.2.2, sem_eq_zero_of_no_sems (by decide) r.2⟩)
    (Cert.Reference2Ideal.Value.run (F := Ideal) m ρ)

/-- Nothing is rewritten: the two programs have one text. -/
theorem preserves : Cert.preserves_Kernel2_Kernel2Ideal := trivial

/-- The kernel and the reference compute the same three gradients. -/
theorem algebraic : Cert.algebraic_Kernel2Ideal_Reference2Ideal := by
  intro m ρ m' ρ' _ hagree
  refine ⟨_, _, _, Cert.Kernel2Ideal.Ffn.run m ρ, ?_⟩
  refine (θ_run Cert.Reference2Ideal.defs _ _).mono (fun r h c => ?_) (Cert.Reference2Ideal.Value.run (F := Ideal) m' ρ')
  obtain ⟨h0, h1, h2, hk⟩ := h c
  obtain ⟨a0, a1, a2, a3⟩ := hagree c
  rw [Cert.Reference2Ideal.Read.val_main_v19_eq, a0, a1, a2, a3] at h0
  rw [Cert.Reference2Ideal.Read.val_main_v20_eq, a0, a1, a2, a3] at h1
  rw [Cert.Reference2Ideal.Read.val_main_v21_eq, a0, a1, a3] at h2
  exact ⟨h0.trans (Cert.Reference2Ideal.Ffn.dgu_at _ _ _ _), h1.trans (Cert.Reference2Ideal.Ffn.dwIn_eq _ _ _ _),
    h2.trans (Cert.Reference2Ideal.Ffn.dwOut_eq _ _ _), hk⟩

end Cert.Proof.Ffn
-- ==== Proof.Proj.Products.lean ====
/- The projection in and the gradient of its weights: what each of the two calls leaves. -/
module

public import proofs.«01_k».proof.Proof.Common.Idx
public import proofs.«01_k».proof.Proof.Gen.Kernel3Ideal.Frame
public import proofs.«01_k».proof.Proof.Common.Product

@[expose] public noncomputable section

set_option maxRecDepth 16384

namespace Cert.Kernel3Ideal.Proj

open Cert.Kernel3Ideal Cert.Kernel3Ideal.Gen Idealize.ShloMosaic Idealize.ShloMosaic.TcCoe Idealize.SL.Sem Cert.Idx

variable (V : (c : Dev nD) → (b : Ref sig .tc) → Buf (Elt Ideal) ((c : Thread nD τ).loc b)) (c : Dev nD)

/-! ## The projection in -/

theorem lt0 (t : Fin cfg0.N) : t.val < 27 := lt_of_lt_of_eq t.isLt N_0

theorem idx0 : ∀ t : Fin grid0.N,
    win0_0.index t 0 = 0 ∧ win0_0.index t 1 = 0 ∧ win0_1.index t 0 = 0 ∧
    win0_1.index t 1 = t.val ∧ win0_2.index t 0 = 0 ∧ win0_2.index t 1 = t.val := by decide +kernel

/-- The row and the column of the product at row `r`, column `s` of a point's block. -/
abbrev row0 (t : Fin cfg0.N) (r : Fin 2176) : Fin 2176 := r
abbrev col0 (t : Fin cfg0.N) (s : Fin 512) : Fin 13824 := ⟨512 * (t.val) + s.val, by have := lt0 t; omega⟩

theorem blk0_0 (t : Fin cfg0.N) (r : Fin 2176) (x : Fin 2048) :
    (iblk0 V c 0 t : Vec Ideal S2176x2048 .bf16) (ix2 r x) = V c main_arg0 (ix2 (row0 t r) x) := by
  have e := idx0 t
  exact congrArg (V c main_arg0) (ext2 (by show win0_0.index t 0 * 2176 + 1 * r.val = (row0 t r).val; dsimp only [row0, col0]; omega) (by show win0_0.index t 1 * 2048 + 1 * x.val = x.val; omega))

theorem blk0_1 (t : Fin cfg0.N) (x : Fin 2048) (s : Fin 512) :
    (iblk0 V c 1 t : Vec Ideal S2048x512 .bf16) (ix2 x s) = V c main_arg1 (ix2 x (col0 t s)) := by
  have e := idx0 t
  exact congrArg (V c main_arg1) (ext2 (by show win0_1.index t 0 * 2048 + 1 * x.val = x.val; omega) (by show win0_1.index t 1 * 512 + 1 * s.val = (col0 t s).val; dsimp only [row0, col0]; omega))

theorem pay0 (a : Vec Ideal S2176x2048 .bf16) (b : Vec Ideal S2048x512 .bf16) (r : Fin 2176) (s : Fin 512) :
    k0_pay1 a b (ix2 r s) = ∑ x : Fin 2048, (a (ix2 r x) : EReal) * b (ix2 x s) := by
  unfold k0_pay1
  pointwise [dot_S2176x2048_S2048x512_S2176x512_1_0_0_1_n_n]

theorem out0 (t : Fin cfg0.N) : outsAt0 V c t = k0_pay1 (iblk0 V c 0 t) (iblk0 V c 1 t) := by
  unfold outsAt0 out0_A_2
  rw [View.read_writes_eq_canon]; swap
  · intro y; apply cover0_A_2
  unfold kernelRun0_A; dsimp only; sl_unfold_words
  rw [View.canon_unit_zero zero2]
  simp only [View.readAt_eq_ld, (hs0_0 t).read_unread, (hs0_1 t).read_unread, ld2]

/-- The product the region leaves. -/
def arr0 : Buf (Elt Ideal) ((c : Thread nD τ).loc main_v0) := Product.nn (m := 2176) (k := 2048) (n := 13824) (V c main_arg0) (V c main_arg1)

theorem flushed0 (t : Fin cfg0.N) (hf : (cfg0.win 2).flush t = true) :
    (dat0 V c).flushed 2 t = ((cfg0.win 2).blk t).view.read (Elt Ideal) (arr0 V c) := by
  have e := idx0 t
  show (cfg0.win 2).cut (grid0.coords t) ((dat0 V c).after 2 t) = _
  rw [after0_2, out0]
  funext y
  obtain ⟨r, s, rfl⟩ := of2 y
  rw [View.read_apply]
  show k0_pay1 (iblk0 V c 0 t) (iblk0 V c 1 t) (ix2 r s) = arr0 V c _
  rw [pay0, show ((cfg0.win 2).blk t).view.emb (ix2 r s) = ix2 (row0 t r) (col0 t s) from
    ext2 (by show win0_2.index t 0 * 2176 + 1 * r.val = (row0 t r).val; dsimp only [row0]; omega)
      (by show win0_2.index t 1 * 512 + 1 * s.val = (col0 t s).val; dsimp only [col0]; omega)]
  exact Finset.sum_congr rfl fun x _ => congrArg₂ (fun p q : EReal => p * q) (blk0_0 V c t r x) (blk0_1 V c t x s)

theorem final0 : (dat0 V c).arrAt 2 cfg0.N = arr0 V c :=
  (dat0 V c).arrAt_eq_of_cover 2 (arr0 V c) (flushed0 V c) fun i : S2176x13824.Idx => by
    obtain ⟨h0, h1⟩ := below2 i
    obtain ⟨t, ht⟩ : ∃ t : Fin cfg0.N, t.val = (i 1).val / 512 := ⟨⟨_, by rw [show cfg0.N = 27 from N_0]; omega⟩, rfl⟩
    have e := idx0 t
    refine ⟨t, flush0_2 t, ?_⟩
    show i ∈ ((View.whole main_v0).slice (win0_2.rect t)).set
    rw [View.set_slice_whole, Rect.mem_set_unit]
    exact cover2 (win0_2.index t) 2176 512 i (by omega)

/-! ## The gradient of its weights -/

theorem lt1 (t : Fin cfg1.N) : t.val < 27 := lt_of_lt_of_eq t.isLt N_1

theorem idx1 : ∀ t : Fin grid1.N,
    win1_0.index t 0 = 0 ∧ win1_0.index t 1 = 0 ∧ win1_1.index t 0 = 0 ∧
    win1_1.index t 1 = t.val ∧ win1_2.index t 0 = 0 ∧ win1_2.index t 1 = t.val := by decide +kernel

/-- The row and the column of the product at row `r`, column `s` of a point's block. -/
abbrev row1 (t : Fin cfg1.N) (r : Fin 2048) : Fin 2048 := r
abbrev col1 (t : Fin cfg1.N) (s : Fin 512) : Fin 13824 := ⟨512 * (t.val) + s.val, by have := lt1 t; omega⟩

theorem blk1_0 (t : Fin cfg1.N) (x : Fin 2176) (r : Fin 2048) :
    (iblk1 V c 0 t : Vec Ideal S2176x2048 .bf16) (ix2 x r) = V c main_arg0 (ix2 x (row1 t r)) := by
  have e := idx1 t
  exact congrArg (V c main_arg0) (ext2 (by show win1_0.index t 0 * 2176 + 1 * x.val = x.val; omega) (by show win1_0.index t 1 * 2048 + 1 * r.val = (row1 t r).val; dsimp only [row1, col1]; omega))

theorem blk1_1 (t : Fin cfg1.N) (x : Fin 2176) (s : Fin 512) :
    (iblk1 V c 1 t : Vec Ideal S2176x512 .bf16) (ix2 x s) = V c main_arg2 (ix2 x (col1 t s)) := by
  have e := idx1 t
  exact congrArg (V c main_arg2) (ext2 (by show win1_1.index t 0 * 2176 + 1 * x.val = x.val; omega) (by show win1_1.index t 1 * 512 + 1 * s.val = (col1 t s).val; dsimp only [row1, col1]; omega))

theorem pay1 (a : Vec Ideal S2176x2048 .bf16) (b : Vec Ideal S2176x512 .bf16) (r : Fin 2048) (s : Fin 512) :
    k1_pay1 a b (ix2 r s) = ∑ x : Fin 2176, (a (ix2 x r) : EReal) * b (ix2 x s) := by
  unfold k1_pay1
  pointwise [dot_S2176x2048_S2176x512_S2048x512_0_0_1_1_n_n]

theorem out1 (t : Fin cfg1.N) : outsAt1 V c t = k1_pay1 (iblk1 V c 0 t) (iblk1 V c 1 t) := by
  unfold outsAt1 out1_A_2
  rw [View.read_writes_eq_canon]; swap
  · intro y; apply cover1_A_2
  unfold kernelRun1_A; dsimp only; sl_unfold_words
  rw [View.canon_unit_zero zero2]
  simp only [View.readAt_eq_ld, (hs1_0 t).read_unread, (hs1_1 t).read_unread, ld2]

/-- The product the region leaves. -/
def arr1 : Buf (Elt Ideal) ((c : Thread nD τ).loc main_v1) := Product.tn (m := 2048) (k := 2176) (n := 13824) (V c main_arg0) (V c main_arg2)

theorem flushed1 (t : Fin cfg1.N) (hf : (cfg1.win 2).flush t = true) :
    (dat1 V c).flushed 2 t = ((cfg1.win 2).blk t).view.read (Elt Ideal) (arr1 V c) := by
  have e := idx1 t
  show (cfg1.win 2).cut (grid1.coords t) ((dat1 V c).after 2 t) = _
  rw [after1_2, out1]
  funext y
  obtain ⟨r, s, rfl⟩ := of2 y
  rw [View.read_apply]
  show k1_pay1 (iblk1 V c 0 t) (iblk1 V c 1 t) (ix2 r s) = arr1 V c _
  rw [pay1, show ((cfg1.win 2).blk t).view.emb (ix2 r s) = ix2 (row1 t r) (col1 t s) from
    ext2 (by show win1_2.index t 0 * 2048 + 1 * r.val = (row1 t r).val; dsimp only [row1]; omega)
      (by show win1_2.index t 1 * 512 + 1 * s.val = (col1 t s).val; dsimp only [col1]; omega)]
  exact Finset.sum_congr rfl fun x _ => congrArg₂ (fun p q : EReal => p * q) (blk1_0 V c t x r) (blk1_1 V c t x s)

theorem final1 : (dat1 V c).arrAt 2 cfg1.N = arr1 V c :=
  (dat1 V c).arrAt_eq_of_cover 2 (arr1 V c) (flushed1 V c) fun i : S2048x13824.Idx => by
    obtain ⟨h0, h1⟩ := below2 i
    obtain ⟨t, ht⟩ : ∃ t : Fin cfg1.N, t.val = (i 1).val / 512 := ⟨⟨_, by rw [show cfg1.N = 27 from N_1]; omega⟩, rfl⟩
    have e := idx1 t
    refine ⟨t, flush1_2 t, ?_⟩
    show i ∈ ((View.whole main_v1).slice (win1_2.rect t)).set
    rw [View.set_slice_whole, Rect.mem_set_unit]
    exact cover2 (win1_2.index t) 2048 512 i (by omega)

end Cert.Kernel3Ideal.Proj
-- ==== Proof.Proj.Run.lean ====
/- The two calls in turn. -/
module

public import proofs.«01_k».proof.Proof.Proj.Products

@[expose] public noncomputable section

set_option maxRecDepth 16384

namespace Cert.Kernel3Ideal.Proj

open Cert.Kernel3Ideal Cert.Kernel3Ideal.Gen Idealize.ShloMosaic Idealize.ShloMosaic.TcCoe Idealize.SL.Sem

open Idealize.SL Idealize.SL.RA Idealize.SL.BI
open scoped Idealize.SL.BI
open Idealize.SL.BI.BIBase Idealize.SL.BI.Laws Idealize.SL.ProofMode
open Idealize.ShloMosaic.Rounds

variable {F : FTy → Type} [FloatOps F]

/-- What is said of the machine's state while the calls run. -/
local notation "Pred" => sProp (MT nD τ sig Unit (Elt F) ℕ (UR sig nD τ) ℕ)

/-- From any memory every execution ends with each buffer at the contents that follow from the calls in turn. -/
theorem reach (m : (ℓ : Loc nD τ sig) → Buf (Elt F) ℓ) (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = W2 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu
      imodintro
      isplitl [Hu]
      · iapply (show (ownU (initOf (Pipeline.cells cfgs cellOf_inj) (Pipeline.launchToks cfgs cellOf_inj)) : Pred)
          ⊢ BI.own (emb₁ (initOf (Pipeline.cells cfgs cellOf_inj) (Pipeline.launchToks cfgs cellOf_inj))) from .rfl)
        iexact Hu
      · iapply (show (BI.emp : Pred) ⊢ bigSep Finset.univ (fun _ : Dev nD => (BI.emp : Pred)) from by
          rw [BI.bigSep_emp_const])
        iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b))
        = StableHlo.held (c : Thread nD τ) (Pipeline.ucRefs τ sig) (W0 m ρ c) from Pipeline.unscopedBufs_held c (W0 m ρ c)]
      iintro ⟨⟨Hb, -, HO, -, Hr, -⟩, -⟩
      imodintro
      isplitl [Hb]
      · iexact Hb
      isplitl [Hr]
      · iexists _; iexact Hr
      · iexists ∅; iexact HO)
    (QY := fun c s => ∀ b ∈ Pipeline.ucRefs τ sig, s.mem (((c : Thread nD τ)).1, b) = W2 m ρ c b)
    (hfin := fun c s' => by
      iintro ⟨⟨Hb, -⟩, HS⟩
      unfold StableHlo.held
      imodintro
      iapply (pointsTo_read_all (Pipeline.ucRefs τ sig) (fun b => (((c : Thread nD τ)).1, b)) (W2 m ρ c) s')
      isplitl [Hb] <;> iassumption)
    (hQ := fun s h _ => h)

section Values

variable (m : (ℓ : Loc nD τ sig) → Buf (Elt Ideal) ℓ) (ρ : Dev nD → PrngReg) (c : Dev nD)

/-- The arrays. -/
abbrev hn : S2176x2048.Idx → EReal := m ((c : Thread nD τ).loc main_arg0)
abbrev wIn : S2048x13824.Idx → EReal := m ((c : Thread nD τ).loc main_arg1)
abbrev dp : S2176x13824.Idx → EReal := m ((c : Thread nD τ).loc main_arg2)

def proj : S2176x13824.Idx → EReal := Product.nn (m := 2176) (k := 2048) (n := 13824) (hn m c) (wIn m c)

theorem at_proj : W1 m ρ c main_v0 = proj m c :=
  ((W1_arr m ρ c 2).trans (final0 (V0 m ρ) c))

def dwIn : S2048x13824.Idx → EReal := Product.tn (m := 2048) (k := 2176) (n := 13824) (hn m c) (dp m c)

theorem at_dwIn : W2 m ρ c main_v1 = dwIn m c :=
  ((W2_arr m ρ c 2).trans (final1 (V1 m ρ) c)).trans
    (congrArg₂ (Product.tn (m := 2048) (k := 2176) (n := 13824)) (W1_args m ρ c main_arg0 (by decide)) (W1_args m ρ c main_arg2 (by decide)))

/-- What the calls leave. -/
theorem run : θ_run defs (onTc (τ := τ) (main (F := Ideal))) ⟨m, fun _ => 0, ρ⟩ (fun r => ∀ c : Dev nD,
      @Eq (S2176x13824.Idx → EReal) (r.2.mem ((c.tc : Thread nD τ).loc main_v0)) (proj m c)
      ∧ @Eq (S2048x13824.Idx → EReal) (r.2.mem ((c.tc : Thread nD τ).loc main_v1)) (dwIn m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨((h c _ (mem_uc main_v0 (by decide))).trans (W2_of m ρ c main_v0 (by decide +kernel))).trans (at_proj m ρ c),
     ((h c _ (mem_uc main_v1 (by decide)))).trans (at_dwIn m ρ c),
     (h c _ (mem_uc main_arg0 (by decide))).trans (W2_main_arg0 m ρ c),
     (h c _ (mem_uc main_arg1 (by decide))).trans (W2_main_arg1 m ρ c),
     (h c _ (mem_uc main_arg2 (by decide))).trans (W2_main_arg2 m ρ c)⟩) (reach m ρ)

end Values

end Cert.Kernel3Ideal.Proj
-- ==== Proof.Proj.Claims.lean ====
/- The claims about the projection in. -/
module

public import proofs.«01_k».proof.Defs
public import proofs.«01_k».proof.Proof.Gen.Kernel3.Frame
public import proofs.«01_k».proof.Proof.Gen.Reference3Ideal.Run
public import proofs.«01_k».proof.Proof.Gen.Reference3Ideal.Read
public import proofs.«01_k».proof.Proof.Proj.Run
public import Idealize.ShloMosaic.Lib.Pointwise

@[expose] public noncomputable section

set_option maxRecDepth 16384

namespace Cert.Proof.Proj

open Idealize.ShloMosaic Idealize.ShloMosaic.TcCoe Idealize.SL.Sem

theorem frame_p : Cert.quiescent_Kernel3 := fun m ρ _ => Cert.Kernel3.Gen.frame m ρ
theorem frame_pi : Cert.quiescent_Kernel3Ideal := fun m ρ _ => Cert.Kernel3Ideal.Gen.frame m ρ
theorem frame_ri : Cert.quiescent_Reference3Ideal := fun m ρ _ =>
  (θ_run Cert.Reference3Ideal.defs _ _).mono (fun r h => ⟨fun c => (h c).2.2, sem_eq_zero_of_no_sems (by decide) r.2⟩)
    (Cert.Reference3Ideal.Value.run (F := Ideal) m ρ)

/-- Nothing is rewritten: the two programs have one text. -/
theorem preserves : Cert.preserves_Kernel3_Kernel3Ideal := trivial

open Cert.Reference3Ideal Cert.Reference3Ideal.Gen Cert.Reference3Ideal.Read in
theorem proj_eq (a : S2176x2048.Idx → EReal) (b : S2048x13824.Idx → EReal) :
    val_main_v2 (F := Ideal) a b = Product.nn (m := 2176) (k := 2048) (n := 13824) a b := by
  funext i
  unfold val_main_v2 val_main_v1 val_main_v0 Product.nn
  pointwise [dot_S2176x2048_S2048x13824_S2176x13824_1_0_0_1_n_n]

open Cert.Reference3Ideal Cert.Reference3Ideal.Gen Cert.Reference3Ideal.Read in
theorem dwIn_eq (a : S2176x2048.Idx → EReal) (b : S2176x13824.Idx → EReal) :
    val_main_v6 (F := Ideal) a b = Product.tn (m := 2048) (k := 2176) (n := 13824) a b := by
  funext i
  unfold val_main_v6 val_main_v5 val_main_v4 val_main_v3 val_main_v0 Product.tn
  pointwise [dot_S2176x13824_S2176x2048_S13824x2048_0_0_1_1_n_n]
  exact Finset.sum_congr rfl fun k _ => mul_comm (G := EReal) _ _

/-- The kernel and the reference compute the same products. -/
theorem algebraic : Cert.algebraic_Kernel3Ideal_Reference3Ideal := by
  intro m ρ m' ρ' _ hagree
  refine ⟨_, _, Cert.Kernel3Ideal.Proj.run m ρ, ?_⟩
  refine (θ_run Cert.Reference3Ideal.defs _ _).mono (fun r h c => ?_) (Cert.Reference3Ideal.Value.run (F := Ideal) m' ρ')
  obtain ⟨h0, h1, hk⟩ := h c
  obtain ⟨a0, a1, a2⟩ := hagree c
  rw [Cert.Reference3Ideal.Read.val_main_v2_eq, a0, a1] at h0
  rw [Cert.Reference3Ideal.Read.val_main_v6_eq, a0, a2] at h1
  exact ⟨h0.trans (proj_eq _ _), h1.trans (dwIn_eq _ _), hk⟩

end Cert.Proof.Proj
-- ==== Proof.DHn.Sum.lean ====
/- The gradient towards the rows of the projection in: the product of the projection's gradient with the weights, summed over six blocks of its columns. -/
module

public import proofs.«01_k».proof.Proof.Common.Idx
public import proofs.«01_k».proof.Proof.Gen.Kernel4Ideal.Value
public import proofs.«01_k».proof.Proof.Common.Product
public import proofs.«01_k».proof.Proof.Common.Sum
public import Idealize.ShloMosaic.Lib.Tactic

@[expose] public noncomputable section

set_option maxRecDepth 16384

namespace Cert.Kernel4Ideal.DHn

open Cert.Kernel4Ideal Cert.Kernel4Ideal.Gen Idealize.ShloMosaic Idealize.ShloMosaic.TcCoe Idealize.SL.Sem Cert.Idx

variable (m : (ℓ : Loc nD τ sig) → Buf (Elt Ideal) ℓ) (c : Dev nD)

theorem ltN (t : Fin cfg0.N) : t.val < 24 := lt_of_lt_of_eq t.isLt N_0

theorem idx : ∀ t : Fin grid0.N,
    win0_0.index t 0 = t.val / 12 ∧ win0_0.index t 1 = t.val % 6 ∧ win0_1.index t 0 = t.val / 6 % 2 ∧
    win0_1.index t 1 = t.val % 6 ∧ win0_2.index t 0 = t.val / 12 ∧ win0_2.index t 1 = t.val / 6 % 2 := by decide +kernel

/-- The row and the column of the product at row `r`, column `s` of a point's block, and the contracted index `x` of
    the point's. -/
abbrev row (t : Fin cfg0.N) (r : Fin 1088) : Fin 2176 := ⟨1088 * (t.val / 12) + r.val, by have := ltN t; omega⟩
abbrev col (t : Fin cfg0.N) (s : Fin 1024) : Fin 2048 := ⟨1024 * (t.val / 6 % 2) + s.val, by have := ltN t; omega⟩
abbrev inn (t : Fin cfg0.N) (x : Fin 2304) : Fin 13824 := ⟨2304 * (t.val % 6) + x.val, by have := ltN t; omega⟩

theorem blk_0 (t : Fin cfg0.N) (r : Fin 1088) (x : Fin 2304) :
    (iblk m c 0 t : Vec Ideal S1088x2304 .bf16) (ix2 r x) = m ((c : Thread nD τ).loc main_arg0) (ix2 (row t r) (inn t x)) := by
  have e := idx t
  exact congrArg (m ((c : Thread nD τ).loc main_arg0)) (ext2 (by show win0_0.index t 0 * 1088 + 1 * r.val = (row t r).val; dsimp only [row]; omega) (by show win0_0.index t 1 * 2304 + 1 * x.val = (inn t x).val; dsimp only [inn]; omega))

theorem blk_1 (t : Fin cfg0.N) (s : Fin 1024) (x : Fin 2304) :
    (iblk m c 1 t : Vec Ideal S1024x2304 .bf16) (ix2 s x) = m ((c : Thread nD τ).loc main_arg1) (ix2 (col t s) (inn t x)) := by
  have e := idx t
  exact congrArg (m ((c : Thread nD τ).loc main_arg1)) (ext2 (by show win0_1.index t 0 * 1024 + 1 * s.val = (col t s).val; dsimp only [col]; omega) (by show win0_1.index t 1 * 2304 + 1 * x.val = (inn t x).val; dsimp only [inn]; omega))

/-- A point adds its block's product to what the sum holds. -/
theorem pay (acc : Vec Ideal S1088x1024 .f32) (a : Vec Ideal S1088x2304 .bf16) (b : Vec Ideal S1024x2304 .bf16) (r : Fin 1088) (s : Fin 1024) :
    k0_pay2 acc a b (ix2 r s) = acc (ix2 r s) + ∑ x : Fin 2304, (a (ix2 r x) : EReal) * b (ix2 s x) := by
  unfold k0_pay2
  pointwise [dot_S1088x2304_S1024x2304_S1088x1024_1_1_0_0_n_n]

theorem pay_zero (r : Fin 1088) (s : Fin 1024) : (k0_pay1 (F := Ideal)) (ix2 r s) = 0 := by
  unfold k0_pay1
  pointwise

/-- The first block of the contracted axis starts the sum at zero. -/
theorem first (t : Fin cfg0.N) (h0 : t.val % 6 = 0) :
    (outsAt0 m c t.val t.isLt).2 = k0_pay2 k0_pay1 (iblk m c 0 t) (iblk m c 1 t) := by
  rw [outsAt0_A m c t h0 (by omega)]
  dsimp only
  unfold sout0_A_0
  rw [View.read_writes_eq_canon]; swap
  · intro y; apply scover0_A_0
  unfold kernelRun0_A; dsimp only; sl_unfold_words
  rw [View.canon_cons_unit_zero (S := S1088x1024) zero2, View.readCov_unit_zero (S := S1088x1024) _ zero2]
  simp only [View.readAt_eq_ld, (hs0_0 t).read_unread, (hs0_1 t).read_unread,
    (Memref.isWhole_whole (cc0_scratch0 : Ref sig .tc)).read_unread, ld2]

/-- The others add to it. -/
theorem later (t : Fin cfg0.N) (h0 : ¬t.val % 6 = 0) (h : t.val - 1 < cfg0.N) :
    (outsAt0 m c t.val t.isLt).2 = k0_pay2 (outsAt0 m c (t.val - 1) h).2 (iblk m c 0 t) (iblk m c 1 t) := by
  by_cases h1 : t.val % 6 = 5
  · rw [outsAt0_C m c t h0 h1]
    dsimp only
    unfold sout0_C_0
    rw [View.read_writes_eq_canon]; swap
    · intro y; apply scover0_C_0
    unfold kernelRun0_C; dsimp only; sl_unfold_words
    rw [View.canon_unit_zero zero2]
    simp only [View.readAt_eq_ld, (hs0_0 t).read_unread, (hs0_1 t).read_unread,
    (Memref.isWhole_whole (cc0_scratch0 : Ref sig .tc)).read_unread, ld2]
  · rw [outsAt0_B m c t h0 h1]
    dsimp only
    unfold sout0_B_0
    rw [View.read_writes_eq_canon]; swap
    · intro y; apply scover0_B_0
    unfold kernelRun0_B; dsimp only; sl_unfold_words
    rw [View.canon_unit_zero zero2]
    simp only [View.readAt_eq_ld, (hs0_0 t).read_unread, (hs0_1 t).read_unread,
    (Memref.isWhole_whole (cc0_scratch0 : Ref sig .tc)).read_unread, ld2]

/-- The last one writes it out. -/
theorem last (t : Fin cfg0.N) (h1 : t.val % 6 = 5) :
    (outsAt0 m c t.val t.isLt).1 = (outsAt0 m c t.val t.isLt).2 := by
  rw [later m c t (by omega) (lt_of_le_of_lt (Nat.sub_le _ _) t.isLt), outsAt0_C m c t (by omega) h1]
  dsimp only
  unfold out0_C_2
  rw [View.read_writes_eq_canon]; swap
  · intro y; apply cover0_C_2
  unfold kernelRun0_C; dsimp only; sl_unfold_words
  rw [View.canon_unit_zero zero2, View.readCov_unit_zero (S := S1088x1024) _ zero2]
  simp only [View.readAt_eq_ld, (hs0_0 t).read_unread, (hs0_1 t).read_unread,
    (Memref.isWhole_whole (cc0_scratch0 : Ref sig .tc)).read_unread, ld2]

/-- The two arrays, and their product. -/
abbrev A : S2176x13824.Idx → EReal := m ((c : Thread nD τ).loc main_arg0)
abbrev B : S2048x13824.Idx → EReal := m ((c : Thread nD τ).loc main_arg1)
def prod : S2176x2048.Idx → EReal := Product.nt (m := 2176) (k := 13824) (n := 2048) (A m c) (B m c)

/-- One term of the product's sum. -/
abbrev term (p : Fin 2176) (q : Fin 2048) (x : Fin 13824) : EReal := A m c (ix2 p x) * B m c (ix2 q x)

theorem block (t : Fin cfg0.N) (r : Fin 1088) (s : Fin 1024) (acc : Vec Ideal S1088x1024 .f32) :
    k0_pay2 acc (iblk m c 0 t) (iblk m c 1 t) (ix2 r s)
      = acc (ix2 r s) + ∑ x : Fin 2304, term m c (row t r) (col t s) (inn t x) := by
  rw [pay]
  exact congrArg (acc (ix2 r s) + ·) (Finset.sum_congr rfl fun x _ =>
    congrArg₂ (fun p q : EReal => p * q) (blk_0 m c t r x) (blk_1 m c t s x))

/-- After the last block of the contracted axis the sum is the product's. -/
theorem whole (t : Fin cfg0.N) (h : t.val % 6 = 5) (r : Fin 1088) (s : Fin 1024) :
    (outsAt0 m c t.val t.isLt).2 (ix2 r s) = ∑ x : Fin 13824, term m c (row t r) (col t s) x :=
  Sum.swept 6 2304 13824 rfl (by decide) (fun n h => ((outsAt0 m c n h).2 (ix2 r s) : EReal))
    (fun t => term m c (row t r) (col t s)) inn (fun _ _ => rfl)
    (fun t u e => congrArg₂ (term m c) (show row t r = row u r from Fin.ext (by dsimp only [row]; omega))
      (show col t s = col u s from Fin.ext (by dsimp only [col]; omega)))
    (fun n h h0 => by rw [first m c ⟨n, h⟩ h0, block, pay_zero, zero_add])
    (fun n h h0 h' => by rw [later m c ⟨n, h⟩ h0 h', block]) t h

theorem flushed (t : Fin cfg0.N) (hf : (cfg0.win 2).flush t = true) :
    (dats m 0 c).flushed 2 t = ((cfg0.win 2).blk t).view.read (Elt Ideal) (prod m c) := by
  have e := idx t
  have h := (flush0_2 t).mp hf
  rw [Value.flushed2, last m c t h]
  funext y
  obtain ⟨r, s, rfl⟩ := of2 y
  rw [View.read_apply]
  show (outsAt0 m c t.val t.isLt).2 (ix2 r s) = prod m c _
  rw [whole m c t h, show ((cfg0.win 2).blk t).view.emb (ix2 r s) = ix2 (row t r) (col t s) from
    ext2 (by show win0_2.index t 0 * 1088 + 1 * r.val = (row t r).val; dsimp only [row]; omega)
      (by show win0_2.index t 1 * 1024 + 1 * s.val = (col t s).val; dsimp only [col]; omega)]
  rfl

theorem final : (dats m 0 c).arrAt 2 cfg0.N = prod m c :=
  (dats m 0 c).arrAt_eq_of_cover 2 (prod m c) (flushed m c) fun i : S2176x2048.Idx => by
    obtain ⟨h0, h1⟩ := below2 i
    obtain ⟨t, ht⟩ : ∃ t : Fin cfg0.N, t.val = 6 * (2 * ((i 0).val / 1088) + (i 1).val / 1024) + 5 := ⟨⟨_, by rw [show cfg0.N = 24 from N_0]; omega⟩, rfl⟩
    have e := idx t
    refine ⟨t, (flush0_2 t).mpr (by omega), ?_⟩
    show i ∈ ((View.whole main_v0).slice (win0_2.rect t)).set
    rw [View.set_slice_whole, Rect.mem_set_unit]
    exact cover2 (win0_2.index t) 1088 1024 i (by omega)

end Cert.Kernel4Ideal.DHn
-- ==== Proof.DHn.Claims.lean ====
/- The claims about this product: the gradient towards the rows of the projection in: the product of the projection's gradient with the weights, summed over six blocks of its columns. -/
module

public import proofs.«01_k».proof.Defs
public import proofs.«01_k».proof.Proof.Gen.Kernel4.Frame
public import proofs.«01_k».proof.Proof.Gen.Reference4Ideal.Run
public import proofs.«01_k».proof.Proof.Gen.Reference4Ideal.Read
public import proofs.«01_k».proof.Proof.DHn.Sum
public import Idealize.ShloMosaic.Lib.Pointwise

@[expose] public noncomputable section

set_option maxRecDepth 16384

namespace Cert.Proof.DHn

open Idealize.ShloMosaic Idealize.ShloMosaic.TcCoe Idealize.SL.Sem

theorem frame_p : Cert.quiescent_Kernel4 := fun m ρ _ => Cert.Kernel4.Gen.frame m ρ
theorem frame_pi : Cert.quiescent_Kernel4Ideal := fun m ρ _ => Cert.Kernel4Ideal.Gen.frame m ρ
theorem frame_ri : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- Nothing is rewritten: the two programs have one text. -/
theorem preserves : Cert.preserves_Kernel4_Kernel4Ideal := trivial

open Cert.Reference4Ideal Cert.Reference4Ideal.Gen Cert.Reference4Ideal.Read in
/-- The reference's result is the product. -/
theorem reference_eq (a : S2176x13824.Idx → EReal) (b : S2048x13824.Idx → EReal) :
    val_main_v4 (F := Ideal) a b = Product.nt (m := 2176) (k := 13824) (n := 2048) a b := by
  funext i
  unfold val_main_v4 val_main_v3 val_main_v1 Product.nt
  pointwise [dot_S2176x13824_S2048x13824_S2176x2048_1_1_0_0_n_n]

/-- The kernel and the reference compute the same product. -/
theorem algebraic : Cert.algebraic_Kernel4Ideal_Reference4Ideal := by
  intro m ρ m' ρ' _ hagree
  refine ⟨fun c => Cert.Kernel4Ideal.DHn.prod m c, ?_, ?_⟩
  · exact (θ_run Cert.Kernel4Ideal.defs _ _).mono (fun r h c => ⟨(h c).1.trans (Cert.Kernel4Ideal.DHn.final m c), (h c).2⟩)
      (Cert.Kernel4Ideal.Value.run_blocks (F := Ideal) m ρ)
  · refine (θ_run Cert.Reference4Ideal.defs _ _).mono (fun r h c => ?_) (Cert.Reference4Ideal.Value.run (F := Ideal) m' ρ')
    obtain ⟨h0, hk⟩ := h c
    obtain ⟨a0, a1⟩ := hagree c
    rw [Cert.Reference4Ideal.Read.val_main_v4_eq, a0, a1] at h0
    exact ⟨h0.trans (reference_eq _ _), hk⟩

end Cert.Proof.DHn
-- ==== Proof.DHn2.Sum.lean ====
/- The gradient towards the rows of the channel mixer: the product of the gate's gradient with the weights, summed over eight blocks of its columns. -/
module

public import proofs.«01_k».proof.Proof.Common.Idx
public import proofs.«01_k».proof.Proof.Gen.Kernel5Ideal.Value
public import proofs.«01_k».proof.Proof.Common.Product
public import proofs.«01_k».proof.Proof.Common.Sum
public import Idealize.ShloMosaic.Lib.Tactic

@[expose] public noncomputable section

set_option maxRecDepth 16384

namespace Cert.Kernel5Ideal.DHn2

open Cert.Kernel5Ideal Cert.Kernel5Ideal.Gen Idealize.ShloMosaic Idealize.ShloMosaic.TcCoe Idealize.SL.Sem Cert.Idx

variable (m : (ℓ : Loc nD τ sig) → Buf (Elt Ideal) ℓ) (c : Dev nD)

theorem ltN (t : Fin cfg0.N) : t.val < 32 := lt_of_lt_of_eq t.isLt N_0

theorem idx : ∀ t : Fin grid0.N,
    win0_0.index t 0 = t.val / 16 ∧ win0_0.index t 1 = t.val % 8 ∧ win0_1.index t 0 = t.val / 8 % 2 ∧
    win0_1.index t 1 = t.val % 8 ∧ win0_2.index t 0 = t.val / 16 ∧ win0_2.index t 1 = t.val / 8 % 2 := by decide +kernel

/-- The row and the column of the product at row `r`, column `s` of a point's block, and the contracted index `x` of
    the point's. -/
abbrev row (t : Fin cfg0.N) (r : Fin 1088) : Fin 2176 := ⟨1088 * (t.val / 16) + r.val, by have := ltN t; omega⟩
abbrev col (t : Fin cfg0.N) (s : Fin 1024) : Fin 2048 := ⟨1024 * (t.val / 8 % 2) + s.val, by have := ltN t; omega⟩
abbrev inn (t : Fin cfg0.N) (x : Fin 1408) : Fin 11264 := ⟨1408 * (t.val % 8) + x.val, by have := ltN t; omega⟩

theorem blk_0 (t : Fin cfg0.N) (r : Fin 1088) (x : Fin 1408) :
    (iblk m c 0 t : Vec Ideal S1088x1408 .bf16) (ix2 r x) = m ((c : Thread nD τ).loc main_arg0) (ix2 (row t r) (inn t x)) := by
  have e := idx t
  exact congrArg (m ((c : Thread nD τ).loc main_arg0)) (ext2 (by show win0_0.index t 0 * 1088 + 1 * r.val = (row t r).val; dsimp only [row]; omega) (by show win0_0.index t 1 * 1408 + 1 * x.val = (inn t x).val; dsimp only [inn]; omega))

theorem blk_1 (t : Fin cfg0.N) (s : Fin 1024) (x : Fin 1408) :
    (iblk m c 1 t : Vec Ideal S1024x1408 .bf16) (ix2 s x) = m ((c : Thread nD τ).loc main_arg1) (ix2 (col t s) (inn t x)) := by
  have e := idx t
  exact congrArg (m ((c : Thread nD τ).loc main_arg1)) (ext2 (by show win0_1.index t 0 * 1024 + 1 * s.val = (col t s).val; dsimp only [col]; omega) (by show win0_1.index t 1 * 1408 + 1 * x.val = (inn t x).val; dsimp only [inn]; omega))

/-- A point adds its block's product to what the sum holds. -/
theorem pay (acc : Vec Ideal S1088x1024 .f32) (a : Vec Ideal S1088x1408 .bf16) (b : Vec Ideal S1024x1408 .bf16) (r : Fin 1088) (s : Fin 1024) :
    k0_pay2 acc a b (ix2 r s) = acc (ix2 r s) + ∑ x : Fin 1408, (a (ix2 r x) : EReal) * b (ix2 s x) := by
  unfold k0_pay2
  pointwise [dot_S1088x1408_S1024x1408_S1088x1024_1_1_0_0_n_n]

theorem pay_zero (r : Fin 1088) (s : Fin 1024) : (k0_pay1 (F := Ideal)) (ix2 r s) = 0 := by
  unfold k0_pay1
  pointwise

/-- The first block of the contracted axis starts the sum at zero. -/
theorem first (t : Fin cfg0.N) (h0 : t.val % 8 = 0) :
    (outsAt0 m c t.val t.isLt).2 = k0_pay2 k0_pay1 (iblk m c 0 t) (iblk m c 1 t) := by
  rw [outsAt0_A m c t h0 (by omega)]
  dsimp only
  unfold sout0_A_0
  rw [View.read_writes_eq_canon]; swap
  · intro y; apply scover0_A_0
  unfold kernelRun0_A; dsimp only; sl_unfold_words
  rw [View.canon_cons_unit_zero (S := S1088x1024) zero2, View.readCov_unit_zero (S := S1088x1024) _ zero2]
  simp only [View.readAt_eq_ld, (hs0_0 t).read_unread, (hs0_1 t).read_unread,
    (Memref.isWhole_whole (cc0_scratch0 : Ref sig .tc)).read_unread, ld2]

/-- The others add to it. -/
theorem later (t : Fin cfg0.N) (h0 : ¬t.val % 8 = 0) (h : t.val - 1 < cfg0.N) :
    (outsAt0 m c t.val t.isLt).2 = k0_pay2 (outsAt0 m c (t.val - 1) h).2 (iblk m c 0 t) (iblk m c 1 t) := by
  by_cases h1 : t.val % 8 = 7
  · rw [outsAt0_C m c t h0 h1]
    dsimp only
    unfold sout0_C_0
    rw [View.read_writes_eq_canon]; swap
    · intro y; apply scover0_C_0
    unfold kernelRun0_C; dsimp only; sl_unfold_words
    rw [View.canon_unit_zero zero2]
    simp only [View.readAt_eq_ld, (hs0_0 t).read_unread, (hs0_1 t).read_unread,
    (Memref.isWhole_whole (cc0_scratch0 : Ref sig .tc)).read_unread, ld2]
  · rw [outsAt0_B m c t h0 h1]
    dsimp only
    unfold sout0_B_0
    rw [View.read_writes_eq_canon]; swap
    · intro y; apply scover0_B_0
    unfold kernelRun0_B; dsimp only; sl_unfold_words
    rw [View.canon_unit_zero zero2]
    simp only [View.readAt_eq_ld, (hs0_0 t).read_unread, (hs0_1 t).read_unread,
    (Memref.isWhole_whole (cc0_scratch0 : Ref sig .tc)).read_unread, ld2]

/-- The last one writes it out. -/
theorem last (t : Fin cfg0.N) (h1 : t.val % 8 = 7) :
    (outsAt0 m c t.val t.isLt).1 = (outsAt0 m c t.val t.isLt).2 := by
  rw [later m c t (by omega) (lt_of_le_of_lt (Nat.sub_le _ _) t.isLt), outsAt0_C m c t (by omega) h1]
  dsimp only
  unfold out0_C_2
  rw [View.read_writes_eq_canon]; swap
  · intro y; apply cover0_C_2
  unfold kernelRun0_C; dsimp only; sl_unfold_words
  rw [View.canon_unit_zero zero2, View.readCov_unit_zero (S := S1088x1024) _ zero2]
  simp only [View.readAt_eq_ld, (hs0_0 t).read_unread, (hs0_1 t).read_unread,
    (Memref.isWhole_whole (cc0_scratch0 : Ref sig .tc)).read_unread, ld2]

/-- The two arrays, and their product. -/
abbrev A : S2176x11264.Idx → EReal := m ((c : Thread nD τ).loc main_arg0)
abbrev B : S2048x11264.Idx → EReal := m ((c : Thread nD τ).loc main_arg1)
def prod : S2176x2048.Idx → EReal := Product.nt (m := 2176) (k := 11264) (n := 2048) (A m c) (B m c)

/-- One term of the product's sum. -/
abbrev term (p : Fin 2176) (q : Fin 2048) (x : Fin 11264) : EReal := A m c (ix2 p x) * B m c (ix2 q x)

theorem block (t : Fin cfg0.N) (r : Fin 1088) (s : Fin 1024) (acc : Vec Ideal S1088x1024 .f32) :
    k0_pay2 acc (iblk m c 0 t) (iblk m c 1 t) (ix2 r s)
      = acc (ix2 r s) + ∑ x : Fin 1408, term m c (row t r) (col t s) (inn t x) := by
  rw [pay]
  exact congrArg (acc (ix2 r s) + ·) (Finset.sum_congr rfl fun x _ =>
    congrArg₂ (fun p q : EReal => p * q) (blk_0 m c t r x) (blk_1 m c t s x))

/-- After the last block of the contracted axis the sum is the product's. -/
theorem whole (t : Fin cfg0.N) (h : t.val % 8 = 7) (r : Fin 1088) (s : Fin 1024) :
    (outsAt0 m c t.val t.isLt).2 (ix2 r s) = ∑ x : Fin 11264, term m c (row t r) (col t s) x :=
  Sum.swept 8 1408 11264 rfl (by decide) (fun n h => ((outsAt0 m c n h).2 (ix2 r s) : EReal))
    (fun t => term m c (row t r) (col t s)) inn (fun _ _ => rfl)
    (fun t u e => congrArg₂ (term m c) (show row t r = row u r from Fin.ext (by dsimp only [row]; omega))
      (show col t s = col u s from Fin.ext (by dsimp only [col]; omega)))
    (fun n h h0 => by rw [first m c ⟨n, h⟩ h0, block, pay_zero, zero_add])
    (fun n h h0 h' => by rw [later m c ⟨n, h⟩ h0 h', block]) t h

theorem flushed (t : Fin cfg0.N) (hf : (cfg0.win 2).flush t = true) :
    (dats m 0 c).flushed 2 t = ((cfg0.win 2).blk t).view.read (Elt Ideal) (prod m c) := by
  have e := idx t
  have h := (flush0_2 t).mp hf
  rw [Value.flushed2, last m c t h]
  funext y
  obtain ⟨r, s, rfl⟩ := of2 y
  rw [View.read_apply]
  show (outsAt0 m c t.val t.isLt).2 (ix2 r s) = prod m c _
  rw [whole m c t h, show ((cfg0.win 2).blk t).view.emb (ix2 r s) = ix2 (row t r) (col t s) from
    ext2 (by show win0_2.index t 0 * 1088 + 1 * r.val = (row t r).val; dsimp only [row]; omega)
      (by show win0_2.index t 1 * 1024 + 1 * s.val = (col t s).val; dsimp only [col]; omega)]
  rfl

theorem final : (dats m 0 c).arrAt 2 cfg0.N = prod m c :=
  (dats m 0 c).arrAt_eq_of_cover 2 (prod m c) (flushed m c) fun i : S2176x2048.Idx => by
    obtain ⟨h0, h1⟩ := below2 i
    obtain ⟨t, ht⟩ : ∃ t : Fin cfg0.N, t.val = 8 * (2 * ((i 0).val / 1088) + (i 1).val / 1024) + 7 := ⟨⟨_, by rw [show cfg0.N = 32 from N_0]; omega⟩, rfl⟩
    have e := idx t
    refine ⟨t, (flush0_2 t).mpr (by omega), ?_⟩
    show i ∈ ((View.whole main_v0).slice (win0_2.rect t)).set
    rw [View.set_slice_whole, Rect.mem_set_unit]
    exact cover2 (win0_2.index t) 1088 1024 i (by omega)

end Cert.Kernel5Ideal.DHn2
-- ==== Proof.DHn2.Claims.lean ====
/- The claims about this product: the gradient towards the rows of the channel mixer: the product of the gate's gradient with the weights, summed over eight blocks of its columns. -/
module

public import proofs.«01_k».proof.Defs
public import proofs.«01_k».proof.Proof.Gen.Kernel5.Frame
public import proofs.«01_k».proof.Proof.Gen.Reference5Ideal.Run
public import proofs.«01_k».proof.Proof.Gen.Reference5Ideal.Read
public import proofs.«01_k».proof.Proof.DHn2.Sum
public import Idealize.ShloMosaic.Lib.Pointwise

@[expose] public noncomputable section

set_option maxRecDepth 16384

namespace Cert.Proof.DHn2

open Idealize.ShloMosaic Idealize.ShloMosaic.TcCoe Idealize.SL.Sem

theorem frame_p : Cert.quiescent_Kernel5 := fun m ρ _ => Cert.Kernel5.Gen.frame m ρ
theorem frame_pi : Cert.quiescent_Kernel5Ideal := fun m ρ _ => Cert.Kernel5Ideal.Gen.frame m ρ
theorem frame_ri : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- Nothing is rewritten: the two programs have one text. -/
theorem preserves : Cert.preserves_Kernel5_Kernel5Ideal := trivial

open Cert.Reference5Ideal Cert.Reference5Ideal.Gen Cert.Reference5Ideal.Read in
/-- The reference's result is the product. -/
theorem reference_eq (a : S2176x11264.Idx → EReal) (b : S2048x11264.Idx → EReal) :
    val_main_v4 (F := Ideal) a b = Product.nt (m := 2176) (k := 11264) (n := 2048) a b := by
  funext i
  unfold val_main_v4 val_main_v3 val_main_v1 Product.nt
  pointwise [dot_S2176x11264_S2048x11264_S2176x2048_1_1_0_0_n_n]

/-- The kernel and the reference compute the same product. -/
theorem algebraic : Cert.algebraic_Kernel5Ideal_Reference5Ideal := by
  intro m ρ m' ρ' _ hagree
  refine ⟨fun c => Cert.Kernel5Ideal.DHn2.prod m c, ?_, ?_⟩
  · exact (θ_run Cert.Kernel5Ideal.defs _ _).mono (fun r h c => ⟨(h c).1.trans (Cert.Kernel5Ideal.DHn2.final m c), (h c).2⟩)
      (Cert.Kernel5Ideal.Value.run_blocks (F := Ideal) m ρ)
  · refine (θ_run Cert.Reference5Ideal.defs _ _).mono (fun r h c => ?_) (Cert.Reference5Ideal.Value.run (F := Ideal) m' ρ')
    obtain ⟨h0, hk⟩ := h c
    obtain ⟨a0, a1⟩ := hagree c
    rw [Cert.Reference5Ideal.Read.val_main_v4_eq, a0, a1] at h0
    exact ⟨h0.trans (reference_eq _ _), hk⟩

end Cert.Proof.DHn2
-- ==== Proof.FfnOut.Sum.lean ====
/- The channel mixer's result: the product of the activations with the weights out, summed over four blocks of the activations. -/
module

public import proofs.«01_k».proof.Proof.Common.Idx
public import proofs.«01_k».proof.Proof.Gen.Kernel6Ideal.Value
public import proofs.«01_k».proof.Proof.Common.Product
public import proofs.«01_k».proof.Proof.Common.Sum
public import Idealize.ShloMosaic.Lib.Tactic

@[expose] public noncomputable section

set_option maxRecDepth 16384

namespace Cert.Kernel6Ideal.FfnOut

open Cert.Kernel6Ideal Cert.Kernel6Ideal.Gen Idealize.ShloMosaic Idealize.ShloMosaic.TcCoe Idealize.SL.Sem Cert.Idx

variable (m : (ℓ : Loc nD τ sig) → Buf (Elt Ideal) ℓ) (c : Dev nD)

theorem ltN (t : Fin cfg0.N) : t.val < 16 := lt_of_lt_of_eq t.isLt N_0

theorem idx : ∀ t : Fin grid0.N,
    win0_0.index t 0 = t.val / 8 ∧ win0_0.index t 1 = t.val % 4 ∧ win0_1.index t 0 = t.val % 4 ∧
    win0_1.index t 1 = t.val / 4 % 2 ∧ win0_2.index t 0 = t.val / 8 ∧ win0_2.index t 1 = t.val / 4 % 2 := by decide +kernel

/-- The row and the column of the product at row `r`, column `s` of a point's block, and the contracted index `x` of
    the point's. -/
abbrev row (t : Fin cfg0.N) (r : Fin 1088) : Fin 2176 := ⟨1088 * (t.val / 8) + r.val, by have := ltN t; omega⟩
abbrev col (t : Fin cfg0.N) (s : Fin 1024) : Fin 2048 := ⟨1024 * (t.val / 4 % 2) + s.val, by have := ltN t; omega⟩
abbrev inn (t : Fin cfg0.N) (x : Fin 1408) : Fin 5632 := ⟨1408 * (t.val % 4) + x.val, by have := ltN t; omega⟩

theorem blk_0 (t : Fin cfg0.N) (r : Fin 1088) (x : Fin 1408) :
    (iblk m c 0 t : Vec Ideal S1088x1408 .bf16) (ix2 r x) = m ((c : Thread nD τ).loc main_arg0) (ix2 (row t r) (inn t x)) := by
  have e := idx t
  exact congrArg (m ((c : Thread nD τ).loc main_arg0)) (ext2 (by show win0_0.index t 0 * 1088 + 1 * r.val = (row t r).val; dsimp only [row]; omega) (by show win0_0.index t 1 * 1408 + 1 * x.val = (inn t x).val; dsimp only [inn]; omega))

theorem blk_1 (t : Fin cfg0.N) (x : Fin 1408) (s : Fin 1024) :
    (iblk m c 1 t : Vec Ideal S1408x1024 .bf16) (ix2 x s) = m ((c : Thread nD τ).loc main_arg1) (ix2 (inn t x) (col t s)) := by
  have e := idx t
  exact congrArg (m ((c : Thread nD τ).loc main_arg1)) (ext2 (by show win0_1.index t 0 * 1408 + 1 * x.val = (inn t x).val; dsimp only [inn]; omega) (by show win0_1.index t 1 * 1024 + 1 * s.val = (col t s).val; dsimp only [col]; omega))

/-- A point adds its block's product to what the sum holds. -/
theorem pay (acc : Vec Ideal S1088x1024 .f32) (a : Vec Ideal S1088x1408 .bf16) (b : Vec Ideal S1408x1024 .bf16) (r : Fin 1088) (s : Fin 1024) :
    k0_pay2 acc a b (ix2 r s) = acc (ix2 r s) + ∑ x : Fin 1408, (a (ix2 r x) : EReal) * b (ix2 x s) := by
  unfold k0_pay2
  pointwise [dot_S1088x1408_S1408x1024_S1088x1024_1_0_0_1_n_n]

theorem pay_zero (r : Fin 1088) (s : Fin 1024) : (k0_pay1 (F := Ideal)) (ix2 r s) = 0 := by
  unfold k0_pay1
  pointwise

/-- The first block of the contracted axis starts the sum at zero. -/
theorem first (t : Fin cfg0.N) (h0 : t.val % 4 = 0) :
    (outsAt0 m c t.val t.isLt).2 = k0_pay2 k0_pay1 (iblk m c 0 t) (iblk m c 1 t) := by
  rw [outsAt0_A m c t h0 (by omega)]
  dsimp only
  unfold sout0_A_0
  rw [View.read_writes_eq_canon]; swap
  · intro y; apply scover0_A_0
  unfold kernelRun0_A; dsimp only; sl_unfold_words
  rw [View.canon_cons_unit_zero (S := S1088x1024) zero2, View.readCov_unit_zero (S := S1088x1024) _ zero2]
  simp only [View.readAt_eq_ld, (hs0_0 t).read_unread, (hs0_1 t).read_unread,
    (Memref.isWhole_whole (cc0_scratch0 : Ref sig .tc)).read_unread, ld2]

/-- The others add to it. -/
theorem later (t : Fin cfg0.N) (h0 : ¬t.val % 4 = 0) (h : t.val - 1 < cfg0.N) :
    (outsAt0 m c t.val t.isLt).2 = k0_pay2 (outsAt0 m c (t.val - 1) h).2 (iblk m c 0 t) (iblk m c 1 t) := by
  by_cases h1 : t.val % 4 = 3
  · rw [outsAt0_C m c t h0 h1]
    dsimp only
    unfold sout0_C_0
    rw [View.read_writes_eq_canon]; swap
    · intro y; apply scover0_C_0
    unfold kernelRun0_C; dsimp only; sl_unfold_words
    rw [View.canon_unit_zero zero2]
    simp only [View.readAt_eq_ld, (hs0_0 t).read_unread, (hs0_1 t).read_unread,
    (Memref.isWhole_whole (cc0_scratch0 : Ref sig .tc)).read_unread, ld2]
  · rw [outsAt0_B m c t h0 h1]
    dsimp only
    unfold sout0_B_0
    rw [View.read_writes_eq_canon]; swap
    · intro y; apply scover0_B_0
    unfold kernelRun0_B; dsimp only; sl_unfold_words
    rw [View.canon_unit_zero zero2]
    simp only [View.readAt_eq_ld, (hs0_0 t).read_unread, (hs0_1 t).read_unread,
    (Memref.isWhole_whole (cc0_scratch0 : Ref sig .tc)).read_unread, ld2]

/-- The last one writes it out. -/
theorem last (t : Fin cfg0.N) (h1 : t.val % 4 = 3) :
    (outsAt0 m c t.val t.isLt).1 = (outsAt0 m c t.val t.isLt).2 := by
  rw [later m c t (by omega) (lt_of_le_of_lt (Nat.sub_le _ _) t.isLt), outsAt0_C m c t (by omega) h1]
  dsimp only
  unfold out0_C_2
  rw [View.read_writes_eq_canon]; swap
  · intro y; apply cover0_C_2
  unfold kernelRun0_C; dsimp only; sl_unfold_words
  rw [View.canon_unit_zero zero2, View.readCov_unit_zero (S := S1088x1024) _ zero2]
  simp only [View.readAt_eq_ld, (hs0_0 t).read_unread, (hs0_1 t).read_unread,
    (Memref.isWhole_whole (cc0_scratch0 : Ref sig .tc)).read_unread, ld2]

/-- The two arrays, and their product. -/
abbrev A : S2176x5632.Idx → EReal := m ((c : Thread nD τ).loc main_arg0)
abbrev B : S5632x2048.Idx → EReal := m ((c : Thread nD τ).loc main_arg1)
def prod : S2176x2048.Idx → EReal := Product.nn (m := 2176) (k := 5632) (n := 2048) (A m c) (B m c)

/-- One term of the product's sum. -/
abbrev term (p : Fin 2176) (q : Fin 2048) (x : Fin 5632) : EReal := A m c (ix2 p x) * B m c (ix2 x q)

theorem block (t : Fin cfg0.N) (r : Fin 1088) (s : Fin 1024) (acc : Vec Ideal S1088x1024 .f32) :
    k0_pay2 acc (iblk m c 0 t) (iblk m c 1 t) (ix2 r s)
      = acc (ix2 r s) + ∑ x : Fin 1408, term m c (row t r) (col t s) (inn t x) := by
  rw [pay]
  exact congrArg (acc (ix2 r s) + ·) (Finset.sum_congr rfl fun x _ =>
    congrArg₂ (fun p q : EReal => p * q) (blk_0 m c t r x) (blk_1 m c t x s))

/-- After the last block of the contracted axis the sum is the product's. -/
theorem whole (t : Fin cfg0.N) (h : t.val % 4 = 3) (r : Fin 1088) (s : Fin 1024) :
    (outsAt0 m c t.val t.isLt).2 (ix2 r s) = ∑ x : Fin 5632, term m c (row t r) (col t s) x :=
  Sum.swept 4 1408 5632 rfl (by decide) (fun n h => ((outsAt0 m c n h).2 (ix2 r s) : EReal))
    (fun t => term m c (row t r) (col t s)) inn (fun _ _ => rfl)
    (fun t u e => congrArg₂ (term m c) (show row t r = row u r from Fin.ext (by dsimp only [row]; omega))
      (show col t s = col u s from Fin.ext (by dsimp only [col]; omega)))
    (fun n h h0 => by rw [first m c ⟨n, h⟩ h0, block, pay_zero, zero_add])
    (fun n h h0 h' => by rw [later m c ⟨n, h⟩ h0 h', block]) t h

theorem flushed (t : Fin cfg0.N) (hf : (cfg0.win 2).flush t = true) :
    (dats m 0 c).flushed 2 t = ((cfg0.win 2).blk t).view.read (Elt Ideal) (prod m c) := by
  have e := idx t
  have h := (flush0_2 t).mp hf
  rw [Value.flushed2, last m c t h]
  funext y
  obtain ⟨r, s, rfl⟩ := of2 y
  rw [View.read_apply]
  show (outsAt0 m c t.val t.isLt).2 (ix2 r s) = prod m c _
  rw [whole m c t h, show ((cfg0.win 2).blk t).view.emb (ix2 r s) = ix2 (row t r) (col t s) from
    ext2 (by show win0_2.index t 0 * 1088 + 1 * r.val = (row t r).val; dsimp only [row]; omega)
      (by show win0_2.index t 1 * 1024 + 1 * s.val = (col t s).val; dsimp only [col]; omega)]
  rfl

theorem final : (dats m 0 c).arrAt 2 cfg0.N = prod m c :=
  (dats m 0 c).arrAt_eq_of_cover 2 (prod m c) (flushed m c) fun i : S2176x2048.Idx => by
    obtain ⟨h0, h1⟩ := below2 i
    obtain ⟨t, ht⟩ : ∃ t : Fin cfg0.N, t.val = 4 * (2 * ((i 0).val / 1088) + (i 1).val / 1024) + 3 := ⟨⟨_, by rw [show cfg0.N = 16 from N_0]; omega⟩, rfl⟩
    have e := idx t
    refine ⟨t, (flush0_2 t).mpr (by omega), ?_⟩
    show i ∈ ((View.whole main_v0).slice (win0_2.rect t)).set
    rw [View.set_slice_whole, Rect.mem_set_unit]
    exact cover2 (win0_2.index t) 1088 1024 i (by omega)

end Cert.Kernel6Ideal.FfnOut
-- ==== Proof.FfnOut.Claims.lean ====
/- The claims about this product: the channel mixer's result: the product of the activations with the weights out, summed over four blocks of the activations. -/
module

public import proofs.«01_k».proof.Defs
public import proofs.«01_k».proof.Proof.Gen.Kernel6.Frame
public import proofs.«01_k».proof.Proof.Gen.Reference6Ideal.Run
public import proofs.«01_k».proof.Proof.Gen.Reference6Ideal.Read
public import proofs.«01_k».proof.Proof.FfnOut.Sum
public import Idealize.ShloMosaic.Lib.Pointwise

@[expose] public noncomputable section

set_option maxRecDepth 16384

namespace Cert.Proof.FfnOut

open Idealize.ShloMosaic Idealize.ShloMosaic.TcCoe Idealize.SL.Sem

theorem frame_p : Cert.quiescent_Kernel6 := fun m ρ _ => Cert.Kernel6.Gen.frame m ρ
theorem frame_pi : Cert.quiescent_Kernel6Ideal := fun m ρ _ => Cert.Kernel6Ideal.Gen.frame m ρ
theorem frame_ri : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- Nothing is rewritten: the two programs have one text. -/
theorem preserves : Cert.preserves_Kernel6_Kernel6Ideal := trivial

open Cert.Reference6Ideal Cert.Reference6Ideal.Gen Cert.Reference6Ideal.Read in
/-- The reference's result is the product. -/
theorem reference_eq (a : S2176x5632.Idx → EReal) (b : S5632x2048.Idx → EReal) :
    val_main_v2 (F := Ideal) a b = Product.nn (m := 2176) (k := 5632) (n := 2048) a b := by
  funext i
  unfold val_main_v2 val_main_v1 val_main_v0 Product.nn
  pointwise [dot_S2176x5632_S5632x2048_S2176x2048_1_0_0_1_n_n]

/-- The kernel and the reference compute the same product. -/
theorem algebraic : Cert.algebraic_Kernel6Ideal_Reference6Ideal := by
  intro m ρ m' ρ' _ hagree
  refine ⟨fun c => Cert.Kernel6Ideal.FfnOut.prod m c, ?_, ?_⟩
  · exact (θ_run Cert.Kernel6Ideal.defs _ _).mono (fun r h c => ⟨(h c).1.trans (Cert.Kernel6Ideal.FfnOut.final m c), (h c).2⟩)
      (Cert.Kernel6Ideal.Value.run_blocks (F := Ideal) m ρ)
  · refine (θ_run Cert.Reference6Ideal.defs _ _).mono (fun r h c => ?_) (Cert.Reference6Ideal.Value.run (F := Ideal) m' ρ')
    obtain ⟨h0, hk⟩ := h c
    obtain ⟨a0, a1⟩ := hagree c
    rw [Cert.Reference6Ideal.Read.val_main_v2_eq, a0, a1] at h0
    exact ⟨h0.trans (reference_eq _ _), hk⟩

end Cert.Proof.FfnOut
-- ==== Proof.Latent.Products.lean ====
/- The projections up from the two latents and the gradients of their weights: what each of the four calls leaves. -/
module

public import proofs.«01_k».proof.Proof.Common.Idx
public import proofs.«01_k».proof.Proof.Gen.Kernel7Ideal.Frame
public import proofs.«01_k».proof.Proof.Common.Product

@[expose] public noncomputable section

set_option maxRecDepth 16384

namespace Cert.Kernel7Ideal.Latent

open Cert.Kernel7Ideal Cert.Kernel7Ideal.Gen Idealize.ShloMosaic Idealize.ShloMosaic.TcCoe Idealize.SL.Sem Cert.Idx

variable (V : (c : Dev nD) → (b : Ref sig .tc) → Buf (Elt Ideal) ((c : Thread nD τ).loc b)) (c : Dev nD)

/-! ## The queries -/

theorem lt0 (t : Fin cfg0.N) : t.val < 4 := lt_of_lt_of_eq t.isLt N_0

theorem idx0 : ∀ t : Fin grid0.N,
    win0_0.index t 0 = 0 ∧ win0_0.index t 1 = 0 ∧ win0_1.index t 0 = 0 ∧
    win0_1.index t 1 = t.val ∧ win0_2.index t 0 = 0 ∧ win0_2.index t 1 = t.val := by decide +kernel

/-- The row and the column of the product at row `r`, column `s` of a point's block. -/
abbrev row0 (t : Fin cfg0.N) (r : Fin 2176) : Fin 2176 := r
abbrev col0 (t : Fin cfg0.N) (s : Fin 768) : Fin 3072 := ⟨768 * (t.val) + s.val, by have := lt0 t; omega⟩

theorem blk0_0 (t : Fin cfg0.N) (r : Fin 2176) (x : Fin 512) :
    (iblk0 V c 0 t : Vec Ideal S2176x512 .bf16) (ix2 r x) = V c main_arg0 (ix2 (row0 t r) x) := by
  have e := idx0 t
  exact congrArg (V c main_arg0) (ext2 (by show win0_0.index t 0 * 2176 + 1 * r.val = (row0 t r).val; dsimp only [row0, col0]; omega) (by show win0_0.index t 1 * 512 + 1 * x.val = x.val; omega))

theorem blk0_1 (t : Fin cfg0.N) (x : Fin 512) (s : Fin 768) :
    (iblk0 V c 1 t : Vec Ideal S512x768 .bf16) (ix2 x s) = V c main_arg2 (ix2 x (col0 t s)) := by
  have e := idx0 t
  exact congrArg (V c main_arg2) (ext2 (by show win0_1.index t 0 * 512 + 1 * x.val = x.val; omega) (by show win0_1.index t 1 * 768 + 1 * s.val = (col0 t s).val; dsimp only [row0, col0]; omega))

theorem pay0 (a : Vec Ideal S2176x512 .bf16) (b : Vec Ideal S512x768 .bf16) (r : Fin 2176) (s : Fin 768) :
    k0_pay1 a b (ix2 r s) = ∑ x : Fin 512, (a (ix2 r x) : EReal) * b (ix2 x s) := by
  unfold k0_pay1
  pointwise [dot_S2176x512_S512x768_S2176x768_1_0_0_1_n_n]

theorem out0 (t : Fin cfg0.N) : outsAt0 V c t = k0_pay1 (iblk0 V c 0 t) (iblk0 V c 1 t) := by
  unfold outsAt0 out0_A_2
  rw [View.read_writes_eq_canon]; swap
  · intro y; apply cover0_A_2
  unfold kernelRun0_A; dsimp only; sl_unfold_words
  rw [View.canon_unit_zero zero2]
  simp only [View.readAt_eq_ld, (hs0_0 t).read_unread, (hs0_1 t).read_unread, ld2]

/-- The product the region leaves. -/
def arr0 : Buf (Elt Ideal) ((c : Thread nD τ).loc main_v0) := Product.nn (m := 2176) (k := 512) (n := 3072) (V c main_arg0) (V c main_arg2)

theorem flushed0 (t : Fin cfg0.N) (hf : (cfg0.win 2).flush t = true) :
    (dat0 V c).flushed 2 t = ((cfg0.win 2).blk t).view.read (Elt Ideal) (arr0 V c) := by
  have e := idx0 t
  show (cfg0.win 2).cut (grid0.coords t) ((dat0 V c).after 2 t) = _
  rw [after0_2, out0]
  funext y
  obtain ⟨r, s, rfl⟩ := of2 y
  rw [View.read_apply]
  show k0_pay1 (iblk0 V c 0 t) (iblk0 V c 1 t) (ix2 r s) = arr0 V c _
  rw [pay0, show ((cfg0.win 2).blk t).view.emb (ix2 r s) = ix2 (row0 t r) (col0 t s) from
    ext2 (by show win0_2.index t 0 * 2176 + 1 * r.val = (row0 t r).val; dsimp only [row0]; omega)
      (by show win0_2.index t 1 * 768 + 1 * s.val = (col0 t s).val; dsimp only [col0]; omega)]
  exact Finset.sum_congr rfl fun x _ => congrArg₂ (fun p q : EReal => p * q) (blk0_0 V c t r x) (blk0_1 V c t x s)

theorem final0 : (dat0 V c).arrAt 2 cfg0.N = arr0 V c :=
  (dat0 V c).arrAt_eq_of_cover 2 (arr0 V c) (flushed0 V c) fun i : S2176x3072.Idx => by
    obtain ⟨h0, h1⟩ := below2 i
    obtain ⟨t, ht⟩ : ∃ t : Fin cfg0.N, t.val = (i 1).val / 768 := ⟨⟨_, by rw [show cfg0.N = 4 from N_0]; omega⟩, rfl⟩
    have e := idx0 t
    refine ⟨t, flush0_2 t, ?_⟩
    show i ∈ ((View.whole main_v0).slice (win0_2.rect t)).set
    rw [View.set_slice_whole, Rect.mem_set_unit]
    exact cover2 (win0_2.index t) 2176 768 i (by omega)

/-! ## The keys and values -/

theorem lt1 (t : Fin cfg1.N) : t.val < 4 := lt_of_lt_of_eq t.isLt N_1

theorem idx1 : ∀ t : Fin grid1.N,
    win1_0.index t 0 = 0 ∧ win1_0.index t 1 = 0 ∧ win1_1.index t 0 = 0 ∧
    win1_1.index t 1 = t.val ∧ win1_2.index t 0 = 0 ∧ win1_2.index t 1 = t.val := by decide +kernel

/-- The row and the column of the product at row `r`, column `s` of a point's block. -/
abbrev row1 (t : Fin cfg1.N) (r : Fin 2176) : Fin 2176 := r
abbrev col1 (t : Fin cfg1.N) (s : Fin 512) : Fin 2048 := ⟨512 * (t.val) + s.val, by have := lt1 t; omega⟩

theorem blk1_0 (t : Fin cfg1.N) (r : Fin 2176) (x : Fin 512) :
    (iblk1 V c 0 t : Vec Ideal S2176x512 .bf16) (ix2 r x) = V c main_arg1 (ix2 (row1 t r) x) := by
  have e := idx1 t
  exact congrArg (V c main_arg1) (ext2 (by show win1_0.index t 0 * 2176 + 1 * r.val = (row1 t r).val; dsimp only [row1, col1]; omega) (by show win1_0.index t 1 * 512 + 1 * x.val = x.val; omega))

theorem blk1_1 (t : Fin cfg1.N) (x s : Fin 512) :
    (iblk1 V c 1 t : Vec Ideal S512x512 .bf16) (ix2 x s) = V c main_arg3 (ix2 x (col1 t s)) := by
  have e := idx1 t
  exact congrArg (V c main_arg3) (ext2 (by show win1_1.index t 0 * 512 + 1 * x.val = x.val; omega) (by show win1_1.index t 1 * 512 + 1 * s.val = (col1 t s).val; dsimp only [row1, col1]; omega))

theorem pay1 (a : Vec Ideal S2176x512 .bf16) (b : Vec Ideal S512x512 .bf16) (r : Fin 2176) (s : Fin 512) :
    k1_pay1 a b (ix2 r s) = ∑ x : Fin 512, (a (ix2 r x) : EReal) * b (ix2 x s) := by
  unfold k1_pay1
  pointwise [dot_S2176x512_S512x512_S2176x512_1_0_0_1_n_n]

theorem out1 (t : Fin cfg1.N) : outsAt1 V c t = k1_pay1 (iblk1 V c 0 t) (iblk1 V c 1 t) := by
  unfold outsAt1 out1_A_2
  rw [View.read_writes_eq_canon]; swap
  · intro y; apply cover1_A_2
  unfold kernelRun1_A; dsimp only; sl_unfold_words
  rw [View.canon_unit_zero zero2]
  simp only [View.readAt_eq_ld, (hs1_0 t).read_unread, (hs1_1 t).read_unread, ld2]

/-- The product the region leaves. -/
def arr1 : Buf (Elt Ideal) ((c : Thread nD τ).loc main_v1) := Product.nn (m := 2176) (k := 512) (n := 2048) (V c main_arg1) (V c main_arg3)

theorem flushed1 (t : Fin cfg1.N) (hf : (cfg1.win 2).flush t = true) :
    (dat1 V c).flushed 2 t = ((cfg1.win 2).blk t).view.read (Elt Ideal) (arr1 V c) := by
  have e := idx1 t
  show (cfg1.win 2).cut (grid1.coords t) ((dat1 V c).after 2 t) = _
  rw [after1_2, out1]
  funext y
  obtain ⟨r, s, rfl⟩ := of2 y
  rw [View.read_apply]
  show k1_pay1 (iblk1 V c 0 t) (iblk1 V c 1 t) (ix2 r s) = arr1 V c _
  rw [pay1, show ((cfg1.win 2).blk t).view.emb (ix2 r s) = ix2 (row1 t r) (col1 t s) from
    ext2 (by show win1_2.index t 0 * 2176 + 1 * r.val = (row1 t r).val; dsimp only [row1]; omega)
      (by show win1_2.index t 1 * 512 + 1 * s.val = (col1 t s).val; dsimp only [col1]; omega)]
  exact Finset.sum_congr rfl fun x _ => congrArg₂ (fun p q : EReal => p * q) (blk1_0 V c t r x) (blk1_1 V c t x s)

theorem final1 : (dat1 V c).arrAt 2 cfg1.N = arr1 V c :=
  (dat1 V c).arrAt_eq_of_cover 2 (arr1 V c) (flushed1 V c) fun i : S2176x2048.Idx => by
    obtain ⟨h0, h1⟩ := below2 i
    obtain ⟨t, ht⟩ : ∃ t : Fin cfg1.N, t.val = (i 1).val / 512 := ⟨⟨_, by rw [show cfg1.N = 4 from N_1]; omega⟩, rfl⟩
    have e := idx1 t
    refine ⟨t, flush1_2 t, ?_⟩
    show i ∈ ((View.whole main_v1).slice (win1_2.rect t)).set
    rw [View.set_slice_whole, Rect.mem_set_unit]
    exact cover2 (win1_2.index t) 2176 512 i (by omega)

/-! ## The gradient of the queries' weights -/

theorem lt2 (t : Fin cfg2.N) : t.val < 2 := lt_of_lt_of_eq t.isLt N_2

theorem idx2 : ∀ t : Fin grid2.N,
    win2_0.index t 0 = 0 ∧ win2_0.index t 1 = 0 ∧ win2_1.index t 0 = 0 ∧
    win2_1.index t 1 = t.val ∧ win2_2.index t 0 = 0 ∧ win2_2.index t 1 = t.val := by decide +kernel

/-- The row and the column of the product at row `r`, column `s` of a point's block. -/
abbrev row2 (t : Fin cfg2.N) (r : Fin 512) : Fin 512 := r
abbrev col2 (t : Fin cfg2.N) (s : Fin 1536) : Fin 3072 := ⟨1536 * (t.val) + s.val, by have := lt2 t; omega⟩

theorem blk2_0 (t : Fin cfg2.N) (x : Fin 2176) (r : Fin 512) :
    (iblk2 V c 0 t : Vec Ideal S2176x512 .bf16) (ix2 x r) = V c main_arg0 (ix2 x (row2 t r)) := by
  have e := idx2 t
  exact congrArg (V c main_arg0) (ext2 (by show win2_0.index t 0 * 2176 + 1 * x.val = x.val; omega) (by show win2_0.index t 1 * 512 + 1 * r.val = (row2 t r).val; dsimp only [row2, col2]; omega))

theorem blk2_1 (t : Fin cfg2.N) (x : Fin 2176) (s : Fin 1536) :
    (iblk2 V c 1 t : Vec Ideal S2176x1536 .bf16) (ix2 x s) = V c main_arg4 (ix2 x (col2 t s)) := by
  have e := idx2 t
  exact congrArg (V c main_arg4) (ext2 (by show win2_1.index t 0 * 2176 + 1 * x.val = x.val; omega) (by show win2_1.index t 1 * 1536 + 1 * s.val = (col2 t s).val; dsimp only [row2, col2]; omega))

theorem pay2 (a : Vec Ideal S2176x512 .bf16) (b : Vec Ideal S2176x1536 .bf16) (r : Fin 512) (s : Fin 1536) :
    k2_pay1 a b (ix2 r s) = ∑ x : Fin 2176, (a (ix2 x r) : EReal) * b (ix2 x s) := by
  unfold k2_pay1
  pointwise [dot_S2176x512_S2176x1536_S512x1536_0_0_1_1_n_n]

theorem out2 (t : Fin cfg2.N) : outsAt2 V c t = k2_pay1 (iblk2 V c 0 t) (iblk2 V c 1 t) := by
  unfold outsAt2 out2_A_2
  rw [View.read_writes_eq_canon]; swap
  · intro y; apply cover2_A_2
  unfold kernelRun2_A; dsimp only; sl_unfold_words
  rw [View.canon_unit_zero zero2]
  simp only [View.readAt_eq_ld, (hs2_0 t).read_unread, (hs2_1 t).read_unread, ld2]

/-- The product the region leaves. -/
def arr2 : Buf (Elt Ideal) ((c : Thread nD τ).loc main_v2) := Product.tn (m := 512) (k := 2176) (n := 3072) (V c main_arg0) (V c main_arg4)

theorem flushed2 (t : Fin cfg2.N) (hf : (cfg2.win 2).flush t = true) :
    (dat2 V c).flushed 2 t = ((cfg2.win 2).blk t).view.read (Elt Ideal) (arr2 V c) := by
  have e := idx2 t
  show (cfg2.win 2).cut (grid2.coords t) ((dat2 V c).after 2 t) = _
  rw [after2_2, out2]
  funext y
  obtain ⟨r, s, rfl⟩ := of2 y
  rw [View.read_apply]
  show k2_pay1 (iblk2 V c 0 t) (iblk2 V c 1 t) (ix2 r s) = arr2 V c _
  rw [pay2, show ((cfg2.win 2).blk t).view.emb (ix2 r s) = ix2 (row2 t r) (col2 t s) from
    ext2 (by show win2_2.index t 0 * 512 + 1 * r.val = (row2 t r).val; dsimp only [row2]; omega)
      (by show win2_2.index t 1 * 1536 + 1 * s.val = (col2 t s).val; dsimp only [col2]; omega)]
  exact Finset.sum_congr rfl fun x _ => congrArg₂ (fun p q : EReal => p * q) (blk2_0 V c t x r) (blk2_1 V c t x s)

theorem final2 : (dat2 V c).arrAt 2 cfg2.N = arr2 V c :=
  (dat2 V c).arrAt_eq_of_cover 2 (arr2 V c) (flushed2 V c) fun i : S512x3072.Idx => by
    obtain ⟨h0, h1⟩ := below2 i
    obtain ⟨t, ht⟩ : ∃ t : Fin cfg2.N, t.val = (i 1).val / 1536 := ⟨⟨_, by rw [show cfg2.N = 2 from N_2]; omega⟩, rfl⟩
    have e := idx2 t
    refine ⟨t, flush2_2 t, ?_⟩
    show i ∈ ((View.whole main_v2).slice (win2_2.rect t)).set
    rw [View.set_slice_whole, Rect.mem_set_unit]
    exact cover2 (win2_2.index t) 512 1536 i (by omega)

/-! ## The gradient of the keys' and values' weights -/

theorem lt3 (t : Fin cfg3.N) : t.val < 2 := lt_of_lt_of_eq t.isLt N_3

theorem idx3 : ∀ t : Fin grid3.N,
    win3_0.index t 0 = 0 ∧ win3_0.index t 1 = 0 ∧ win3_1.index t 0 = 0 ∧
    win3_1.index t 1 = t.val ∧ win3_2.index t 0 = 0 ∧ win3_2.index t 1 = t.val := by decide +kernel

/-- The row and the column of the product at row `r`, column `s` of a point's block. -/
abbrev row3 (t : Fin cfg3.N) (r : Fin 512) : Fin 512 := r
abbrev col3 (t : Fin cfg3.N) (s : Fin 1024) : Fin 2048 := ⟨1024 * (t.val) + s.val, by have := lt3 t; omega⟩

theorem blk3_0 (t : Fin cfg3.N) (x : Fin 2176) (r : Fin 512) :
    (iblk3 V c 0 t : Vec Ideal S2176x512 .bf16) (ix2 x r) = V c main_arg1 (ix2 x (row3 t r)) := by
  have e := idx3 t
  exact congrArg (V c main_arg1) (ext2 (by show win3_0.index t 0 * 2176 + 1 * x.val = x.val; omega) (by show win3_0.index t 1 * 512 + 1 * r.val = (row3 t r).val; dsimp only [row3, col3]; omega))

theorem blk3_1 (t : Fin cfg3.N) (x : Fin 2176) (s : Fin 1024) :
    (iblk3 V c 1 t : Vec Ideal S2176x1024 .f32) (ix2 x s) = V c main_arg5 (ix2 x (col3 t s)) := by
  have e := idx3 t
  exact congrArg (V c main_arg5) (ext2 (by show win3_1.index t 0 * 2176 + 1 * x.val = x.val; omega) (by show win3_1.index t 1 * 1024 + 1 * s.val = (col3 t s).val; dsimp only [row3, col3]; omega))

theorem pay3 (a : Vec Ideal S2176x512 .bf16) (b : Vec Ideal S2176x1024 .f32) (r : Fin 512) (s : Fin 1024) :
    k3_pay1 a b (ix2 r s) = ∑ x : Fin 2176, (a (ix2 x r) : EReal) * b (ix2 x s) := by
  unfold k3_pay1
  pointwise [dot_S2176x512_S2176x1024_S512x1024_0_0_1_1_n_n]

theorem out3 (t : Fin cfg3.N) : outsAt3 V c t = k3_pay1 (iblk3 V c 0 t) (iblk3 V c 1 t) := by
  unfold outsAt3 out3_A_2
  rw [View.read_writes_eq_canon]; swap
  · intro y; apply cover3_A_2
  unfold kernelRun3_A; dsimp only; sl_unfold_words
  rw [View.canon_unit_zero zero2]
  simp only [View.readAt_eq_ld, (hs3_0 t).read_unread, (hs3_1 t).read_unread, ld2]

/-- The product the region leaves. -/
def arr3 : Buf (Elt Ideal) ((c : Thread nD τ).loc main_v3) := Product.tn (m := 512) (k := 2176) (n := 2048) (V c main_arg1) (V c main_arg5)

theorem flushed3 (t : Fin cfg3.N) (hf : (cfg3.win 2).flush t = true) :
    (dat3 V c).flushed 2 t = ((cfg3.win 2).blk t).view.read (Elt Ideal) (arr3 V c) := by
  have e := idx3 t
  show (cfg3.win 2).cut (grid3.coords t) ((dat3 V c).after 2 t) = _
  rw [after3_2, out3]
  funext y
  obtain ⟨r, s, rfl⟩ := of2 y
  rw [View.read_apply]
  show k3_pay1 (iblk3 V c 0 t) (iblk3 V c 1 t) (ix2 r s) = arr3 V c _
  rw [pay3, show ((cfg3.win 2).blk t).view.emb (ix2 r s) = ix2 (row3 t r) (col3 t s) from
    ext2 (by show win3_2.index t 0 * 512 + 1 * r.val = (row3 t r).val; dsimp only [row3]; omega)
      (by show win3_2.index t 1 * 1024 + 1 * s.val = (col3 t s).val; dsimp only [col3]; omega)]
  exact Finset.sum_congr rfl fun x _ => congrArg₂ (fun p q : EReal => p * q) (blk3_0 V c t x r) (blk3_1 V c t x s)

theorem final3 : (dat3 V c).arrAt 2 cfg3.N = arr3 V c :=
  (dat3 V c).arrAt_eq_of_cover 2 (arr3 V c) (flushed3 V c) fun i : S512x2048.Idx => by
    obtain ⟨h0, h1⟩ := below2 i
    obtain ⟨t, ht⟩ : ∃ t : Fin cfg3.N, t.val = (i 1).val / 1024 := ⟨⟨_, by rw [show cfg3.N = 2 from N_3]; omega⟩, rfl⟩
    have e := idx3 t
    refine ⟨t, flush3_2 t, ?_⟩
    show i ∈ ((View.whole main_v3).slice (win3_2.rect t)).set
    rw [View.set_slice_whole, Rect.mem_set_unit]
    exact cover2 (win3_2.index t) 512 1024 i (by omega)

end Cert.Kernel7Ideal.Latent
-- ==== Proof.Latent.Run.lean ====
/- The four calls in turn. -/
module

public import proofs.«01_k».proof.Proof.Latent.Products

@[expose] public noncomputable section

set_option maxRecDepth 16384

namespace Cert.Kernel7Ideal.Latent

open Cert.Kernel7Ideal Cert.Kernel7Ideal.Gen Idealize.ShloMosaic Idealize.ShloMosaic.TcCoe Idealize.SL.Sem

open Idealize.SL Idealize.SL.RA Idealize.SL.BI
open scoped Idealize.SL.BI
open Idealize.SL.BI.BIBase Idealize.SL.BI.Laws Idealize.SL.ProofMode
open Idealize.ShloMosaic.Rounds

variable {F : FTy → Type} [FloatOps F]

/-- What is said of the machine's state while the calls run. -/
local notation "Pred" => sProp (MT nD τ sig Unit (Elt F) ℕ (UR sig nD τ) ℕ)

/-- From any memory every execution ends with each buffer at the contents that follow from the calls in turn. -/
theorem reach (m : (ℓ : Loc nD τ sig) → Buf (Elt F) ℓ) (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu
      imodintro
      isplitl [Hu]
      · iapply (show (ownU (initOf (Pipeline.cells cfgs cellOf_inj) (Pipeline.launchToks cfgs cellOf_inj)) : Pred)
          ⊢ BI.own (emb₁ (initOf (Pipeline.cells cfgs cellOf_inj) (Pipeline.launchToks cfgs cellOf_inj))) from .rfl)
        iexact Hu
      · iapply (show (BI.emp : Pred) ⊢ bigSep Finset.univ (fun _ : Dev nD => (BI.emp : Pred)) from by
          rw [BI.bigSep_emp_const])
        iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b))
        = StableHlo.held (c : Thread nD τ) (Pipeline.ucRefs τ sig) (W0 m ρ c) from Pipeline.unscopedBufs_held c (W0 m ρ c)]
      iintro ⟨⟨Hb, -, HO, -, Hr, -⟩, -⟩
      imodintro
      isplitl [Hb]
      · iexact Hb
      isplitl [Hr]
      · iexists _; iexact Hr
      · iexists ∅; iexact HO)
    (QY := fun c s => ∀ b ∈ Pipeline.ucRefs τ sig, s.mem (((c : Thread nD τ)).1, b) = W4 m ρ c b)
    (hfin := fun c s' => by
      iintro ⟨⟨Hb, -⟩, HS⟩
      unfold StableHlo.held
      imodintro
      iapply (pointsTo_read_all (Pipeline.ucRefs τ sig) (fun b => (((c : Thread nD τ)).1, b)) (W4 m ρ c) s')
      isplitl [Hb] <;> iassumption)
    (hQ := fun s h _ => h)

section Values

variable (m : (ℓ : Loc nD τ sig) → Buf (Elt Ideal) ℓ) (ρ : Dev nD → PrngReg) (c : Dev nD)

/-- The arrays. -/
abbrev cqn : S2176x512.Idx → EReal := m ((c : Thread nD τ).loc main_arg0)
abbrev ckvn : S2176x512.Idx → EReal := m ((c : Thread nD τ).loc main_arg1)
abbrev wUq : S512x3072.Idx → EReal := m ((c : Thread nD τ).loc main_arg2)
abbrev wUkv : S512x2048.Idx → EReal := m ((c : Thread nD τ).loc main_arg3)
abbrev dq : S2176x3072.Idx → EReal := m ((c : Thread nD τ).loc main_arg4)
abbrev dkv : S2176x2048.Idx → EReal := m ((c : Thread nD τ).loc main_arg5)

def q : S2176x3072.Idx → EReal := Product.nn (m := 2176) (k := 512) (n := 3072) (cqn m c) (wUq m c)

theorem at_q : W1 m ρ c main_v0 = q m c :=
  ((W1_arr m ρ c 2).trans (final0 (V0 m ρ) c))

def kv : S2176x2048.Idx → EReal := Product.nn (m := 2176) (k := 512) (n := 2048) (ckvn m c) (wUkv m c)

theorem at_kv : W2 m ρ c main_v1 = kv m c :=
  ((W2_arr m ρ c 2).trans (final1 (V1 m ρ) c)).trans
    (congrArg₂ (Product.nn (m := 2176) (k := 512) (n := 2048)) (W1_args m ρ c main_arg1 (by decide)) (W1_args m ρ c main_arg3 (by decide)))

def dwUq : S512x3072.Idx → EReal := Product.tn (m := 512) (k := 2176) (n := 3072) (cqn m c) (dq m c)

theorem at_dwUq : W3 m ρ c main_v2 = dwUq m c :=
  ((W3_arr m ρ c 2).trans (final2 (V2 m ρ) c)).trans
    (congrArg₂ (Product.tn (m := 512) (k := 2176) (n := 3072)) (W2_args m ρ c main_arg0 (by decide)) (W2_args m ρ c main_arg4 (by decide)))

def dwUkv : S512x2048.Idx → EReal := Product.tn (m := 512) (k := 2176) (n := 2048) (ckvn m c) (dkv m c)

theorem at_dwUkv : W4 m ρ c main_v3 = dwUkv m c :=
  ((W4_arr m ρ c 2).trans (final3 (V3 m ρ) c)).trans
    (congrArg₂ (Product.tn (m := 512) (k := 2176) (n := 2048)) (W3_args m ρ c main_arg1 (by decide)) (W3_args m ρ c main_arg5 (by decide)))

/-- What the calls leave. -/
theorem run : θ_run defs (onTc (τ := τ) (main (F := Ideal))) ⟨m, fun _ => 0, ρ⟩ (fun r => ∀ c : Dev nD,
      @Eq (S2176x3072.Idx → EReal) (r.2.mem ((c.tc : Thread nD τ).loc main_v0)) (q m c)
      ∧ @Eq (S2176x2048.Idx → EReal) (r.2.mem ((c.tc : Thread nD τ).loc main_v1)) (kv m c)
      ∧ @Eq (S512x3072.Idx → EReal) (r.2.mem ((c.tc : Thread nD τ).loc main_v2)) (dwUq m c)
      ∧ @Eq (S512x2048.Idx → EReal) (r.2.mem ((c.tc : Thread nD τ).loc main_v3)) (dwUkv m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨((h c _ (mem_uc main_v0 (by decide))).trans ((W4_of m ρ c main_v0 (by decide +kernel)).trans ((W3_of m ρ c main_v0 (by decide +kernel)).trans (W2_of m ρ c main_v0 (by decide +kernel))))).trans (at_q m ρ c),
     ((h c _ (mem_uc main_v1 (by decide))).trans ((W4_of m ρ c main_v1 (by decide +kernel)).trans (W3_of m ρ c main_v1 (by decide +kernel)))).trans (at_kv m ρ c),
     ((h c _ (mem_uc main_v2 (by decide))).trans (W4_of m ρ c main_v2 (by decide +kernel))).trans (at_dwUq m ρ c),
     ((h c _ (mem_uc main_v3 (by decide)))).trans (at_dwUkv m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c)⟩) (reach m ρ)

end Values

end Cert.Kernel7Ideal.Latent
-- ==== Proof.Latent.Claims.lean ====
/- The claims about the projections up from the latents. -/
module

public import proofs.«01_k».proof.Defs
public import proofs.«01_k».proof.Proof.Gen.Kernel7.Frame
public import proofs.«01_k».proof.Proof.Gen.Reference7Ideal.Run
public import proofs.«01_k».proof.Proof.Gen.Reference7Ideal.Read
public import proofs.«01_k».proof.Proof.Latent.Run
public import Idealize.ShloMosaic.Lib.Pointwise

@[expose] public noncomputable section

set_option maxRecDepth 16384

namespace Cert.Proof.Latent

open Idealize.ShloMosaic Idealize.ShloMosaic.TcCoe Idealize.SL.Sem

theorem frame_p : Cert.quiescent_Kernel7 := fun m ρ _ => Cert.Kernel7.Gen.frame m ρ
theorem frame_pi : Cert.quiescent_Kernel7Ideal := fun m ρ _ => Cert.Kernel7Ideal.Gen.frame m ρ
theorem frame_ri : Cert.quiescent_Reference7Ideal := fun m ρ _ =>
  (θ_run Cert.Reference7Ideal.defs _ _).mono (fun r h => ⟨fun c => (h c).2.2.2.2, sem_eq_zero_of_no_sems (by decide) r.2⟩)
    (Cert.Reference7Ideal.Value.run (F := Ideal) m ρ)

/-- Nothing is rewritten: the two programs have one text. -/
theorem preserves : Cert.preserves_Kernel7_Kernel7Ideal := trivial

open Cert.Reference7Ideal Cert.Reference7Ideal.Gen Cert.Reference7Ideal.Read in
theorem q_eq (a : S2176x512.Idx → EReal) (b : S512x3072.Idx → EReal) :
    val_main_v2 (F := Ideal) a b = Product.nn (m := 2176) (k := 512) (n := 3072) a b := by
  funext i
  unfold val_main_v2 val_main_v1 val_main_v0 Product.nn
  pointwise [dot_S2176x512_S512x3072_S2176x3072_1_0_0_1_n_n]

open Cert.Reference7Ideal Cert.Reference7Ideal.Gen Cert.Reference7Ideal.Read in
theorem kv_eq (a : S2176x512.Idx → EReal) (b : S512x2048.Idx → EReal) :
    val_main_v5 (F := Ideal) a b = Product.nn (m := 2176) (k := 512) (n := 2048) a b := by
  funext i
  unfold val_main_v5 val_main_v4 val_main_v3 Product.nn
  pointwise [dot_S2176x512_S512x2048_S2176x2048_1_0_0_1_n_n]

open Cert.Reference7Ideal Cert.Reference7Ideal.Gen Cert.Reference7Ideal.Read in
theorem dwUq_eq (a : S2176x512.Idx → EReal) (b : S2176x3072.Idx → EReal) :
    val_main_v9 (F := Ideal) a b = Product.tn (m := 512) (k := 2176) (n := 3072) a b := by
  funext i
  unfold val_main_v9 val_main_v8 val_main_v7 val_main_v6 val_main_v0 Product.tn
  pointwise [dot_S2176x3072_S2176x512_S3072x512_0_0_1_1_n_n]
  exact Finset.sum_congr rfl fun k _ => mul_comm (G := EReal) _ _

open Cert.Reference7Ideal Cert.Reference7Ideal.Gen Cert.Reference7Ideal.Read in
theorem dwUkv_eq (a : S2176x512.Idx → EReal) (b : S2176x2048.Idx → EReal) :
    val_main_v12 (F := Ideal) a b = Product.tn (m := 512) (k := 2176) (n := 2048) a b := by
  funext i
  unfold val_main_v12 val_main_v11 val_main_v10 val_main_v3 Product.tn
  pointwise [dot_S2176x2048_S2176x512_S2048x512_0_0_1_1_n_n]
  exact Finset.sum_congr rfl fun k _ => mul_comm (G := EReal) _ _

/-- The kernel and the reference compute the same products. -/
theorem algebraic : Cert.algebraic_Kernel7Ideal_Reference7Ideal := by
  intro m ρ m' ρ' _ hagree
  refine ⟨_, _, _, _, Cert.Kernel7Ideal.Latent.run m ρ, ?_⟩
  refine (θ_run Cert.Reference7Ideal.defs _ _).mono (fun r h c => ?_) (Cert.Reference7Ideal.Value.run (F := Ideal) m' ρ')
  obtain ⟨h0, h1, h2, h3, hk⟩ := h c
  obtain ⟨a0, a1, a2, a3, a4, a5⟩ := hagree c
  rw [Cert.Reference7Ideal.Read.val_main_v2_eq, a0, a2] at h0
  rw [Cert.Reference7Ideal.Read.val_main_v5_eq, a1, a3] at h1
  rw [Cert.Reference7Ideal.Read.val_main_v9_eq, a0, a4] at h2
  rw [Cert.Reference7Ideal.Read.val_main_v12_eq, a1, a5] at h3
  exact ⟨h0.trans (q_eq _ _), h1.trans (kv_eq _ _), h2.trans (dwUq_eq _ _), h3.trans (dwUkv_eq _ _), hk⟩

end Cert.Proof.Latent
-- ==== Proof.DCqn.Sum.lean ====
/- The gradient towards the query latents: the product of the queries' gradient with the weights, summed over two blocks of its columns. -/
module

public import proofs.«01_k».proof.Proof.Common.Idx
public import proofs.«01_k».proof.Proof.Gen.Kernel8Ideal.Value
public import proofs.«01_k».proof.Proof.Common.Product
public import proofs.«01_k».proof.Proof.Common.Sum
public import Idealize.ShloMosaic.Lib.Tactic

@[expose] public noncomputable section

set_option maxRecDepth 16384

namespace Cert.Kernel8Ideal.DCqn

open Cert.Kernel8Ideal Cert.Kernel8Ideal.Gen Idealize.ShloMosaic Idealize.ShloMosaic.TcCoe Idealize.SL.Sem Cert.Idx

variable (m : (ℓ : Loc nD τ sig) → Buf (Elt Ideal) ℓ) (c : Dev nD)

theorem ltN (t : Fin cfg0.N) : t.val < 2 := lt_of_lt_of_eq t.isLt N_0

theorem idx : ∀ t : Fin grid0.N,
    win0_0.index t 0 = 0 ∧ win0_0.index t 1 = t.val % 2 ∧ win0_1.index t 0 = 0 ∧
    win0_1.index t 1 = t.val % 2 ∧ win0_2.index t 0 = 0 ∧ win0_2.index t 1 = 0 := by decide +kernel

/-- The row and the column of the product at row `r`, column `s` of a point's block, and the contracted index `x` of
    the point's. -/
abbrev row (t : Fin cfg0.N) (r : Fin 2176) : Fin 2176 := r
abbrev col (t : Fin cfg0.N) (s : Fin 512) : Fin 512 := s
abbrev inn (t : Fin cfg0.N) (x : Fin 1536) : Fin 3072 := ⟨1536 * (t.val % 2) + x.val, by have := ltN t; omega⟩

theorem blk_0 (t : Fin cfg0.N) (r : Fin 2176) (x : Fin 1536) :
    (iblk m c 0 t : Vec Ideal S2176x1536 .bf16) (ix2 r x) = m ((c : Thread nD τ).loc main_arg0) (ix2 (row t r) (inn t x)) := by
  have e := idx t
  exact congrArg (m ((c : Thread nD τ).loc main_arg0)) (ext2 (by show win0_0.index t 0 * 2176 + 1 * r.val = (row t r).val; dsimp only [row]; omega) (by show win0_0.index t 1 * 1536 + 1 * x.val = (inn t x).val; dsimp only [inn]; omega))

theorem blk_1 (t : Fin cfg0.N) (s : Fin 512) (x : Fin 1536) :
    (iblk m c 1 t : Vec Ideal S512x1536 .bf16) (ix2 s x) = m ((c : Thread nD τ).loc main_arg1) (ix2 (col t s) (inn t x)) := by
  have e := idx t
  exact congrArg (m ((c : Thread nD τ).loc main_arg1)) (ext2 (by show win0_1.index t 0 * 512 + 1 * s.val = (col t s).val; dsimp only [col]; omega) (by show win0_1.index t 1 * 1536 + 1 * x.val = (inn t x).val; dsimp only [inn]; omega))

/-- A point adds its block's product to what the sum holds. -/
theorem pay (acc : Vec Ideal S2176x512 .f32) (a : Vec Ideal S2176x1536 .bf16) (b : Vec Ideal S512x1536 .bf16) (r : Fin 2176) (s : Fin 512) :
    k0_pay2 acc a b (ix2 r s) = acc (ix2 r s) + ∑ x : Fin 1536, (a (ix2 r x) : EReal) * b (ix2 s x) := by
  unfold k0_pay2
  pointwise [dot_S2176x1536_S512x1536_S2176x512_1_1_0_0_n_n]

theorem pay_zero (r : Fin 2176) (s : Fin 512) : (k0_pay1 (F := Ideal)) (ix2 r s) = 0 := by
  unfold k0_pay1
  pointwise

/-- The first block of the contracted axis starts the sum at zero. -/
theorem first (t : Fin cfg0.N) (h0 : t.val % 2 = 0) :
    (outsAt0 m c t.val t.isLt).2 = k0_pay2 k0_pay1 (iblk m c 0 t) (iblk m c 1 t) := by
  rw [outsAt0_A m c t h0 (by omega)]
  dsimp only
  unfold sout0_A_0
  rw [View.read_writes_eq_canon]; swap
  · intro y; apply scover0_A_0
  unfold kernelRun0_A; dsimp only; sl_unfold_words
  rw [View.canon_cons_unit_zero (S := S2176x512) zero2, View.readCov_unit_zero (S := S2176x512) _ zero2]
  simp only [View.readAt_eq_ld, (hs0_0 t).read_unread, (hs0_1 t).read_unread,
    (Memref.isWhole_whole (cc0_scratch0 : Ref sig .tc)).read_unread, ld2]

/-- The others add to it. -/
theorem later (t : Fin cfg0.N) (h0 : ¬t.val % 2 = 0) (h : t.val - 1 < cfg0.N) :
    (outsAt0 m c t.val t.isLt).2 = k0_pay2 (outsAt0 m c (t.val - 1) h).2 (iblk m c 0 t) (iblk m c 1 t) := by
  by_cases h1 : t.val % 2 = 1
  · rw [outsAt0_B m c t h0 h1]
    dsimp only
    unfold sout0_B_0
    rw [View.read_writes_eq_canon]; swap
    · intro y; apply scover0_B_0
    unfold kernelRun0_B; dsimp only; sl_unfold_words
    rw [View.canon_unit_zero zero2]
    simp only [View.readAt_eq_ld, (hs0_0 t).read_unread, (hs0_1 t).read_unread,
    (Memref.isWhole_whole (cc0_scratch0 : Ref sig .tc)).read_unread, ld2]
  · exact absurd (by omega) h1

/-- The last one writes it out. -/
theorem last (t : Fin cfg0.N) (h1 : t.val % 2 = 1) :
    (outsAt0 m c t.val t.isLt).1 = (outsAt0 m c t.val t.isLt).2 := by
  rw [later m c t (by omega) (lt_of_le_of_lt (Nat.sub_le _ _) t.isLt), outsAt0_B m c t (by omega) h1]
  dsimp only
  unfold out0_B_2
  rw [View.read_writes_eq_canon]; swap
  · intro y; apply cover0_B_2
  unfold kernelRun0_B; dsimp only; sl_unfold_words
  rw [View.canon_unit_zero zero2, View.readCov_unit_zero (S := S2176x512) _ zero2]
  simp only [View.readAt_eq_ld, (hs0_0 t).read_unread, (hs0_1 t).read_unread,
    (Memref.isWhole_whole (cc0_scratch0 : Ref sig .tc)).read_unread, ld2]

/-- The two arrays, and their product. -/
abbrev A : S2176x3072.Idx → EReal := m ((c : Thread nD τ).loc main_arg0)
abbrev B : S512x3072.Idx → EReal := m ((c : Thread nD τ).loc main_arg1)
def prod : S2176x512.Idx → EReal := Product.nt (m := 2176) (k := 3072) (n := 512) (A m c) (B m c)

/-- One term of the product's sum. -/
abbrev term (p : Fin 2176) (q : Fin 512) (x : Fin 3072) : EReal := A m c (ix2 p x) * B m c (ix2 q x)

theorem block (t : Fin cfg0.N) (r : Fin 2176) (s : Fin 512) (acc : Vec Ideal S2176x512 .f32) :
    k0_pay2 acc (iblk m c 0 t) (iblk m c 1 t) (ix2 r s)
      = acc (ix2 r s) + ∑ x : Fin 1536, term m c (row t r) (col t s) (inn t x) := by
  rw [pay]
  exact congrArg (acc (ix2 r s) + ·) (Finset.sum_congr rfl fun x _ =>
    congrArg₂ (fun p q : EReal => p * q) (blk_0 m c t r x) (blk_1 m c t s x))

/-- After the last block of the contracted axis the sum is the product's. -/
theorem whole (t : Fin cfg0.N) (h : t.val % 2 = 1) (r : Fin 2176) (s : Fin 512) :
    (outsAt0 m c t.val t.isLt).2 (ix2 r s) = ∑ x : Fin 3072, term m c (row t r) (col t s) x :=
  Sum.swept 2 1536 3072 rfl (by decide) (fun n h => ((outsAt0 m c n h).2 (ix2 r s) : EReal))
    (fun t => term m c (row t r) (col t s)) inn (fun _ _ => rfl)
    (fun t u e => congrArg₂ (term m c) (show row t r = row u r from rfl)
      (show col t s = col u s from rfl))
    (fun n h h0 => by rw [first m c ⟨n, h⟩ h0, block, pay_zero, zero_add])
    (fun n h h0 h' => by rw [later m c ⟨n, h⟩ h0 h', block]) t h

theorem flushed (t : Fin cfg0.N) (hf : (cfg0.win 2).flush t = true) :
    (dats m 0 c).flushed 2 t = ((cfg0.win 2).blk t).view.read (Elt Ideal) (prod m c) := by
  have e := idx t
  have h := (flush0_2 t).mp hf
  rw [Value.flushed2, last m c t h]
  funext y
  obtain ⟨r, s, rfl⟩ := of2 y
  rw [View.read_apply]
  show (outsAt0 m c t.val t.isLt).2 (ix2 r s) = prod m c _
  rw [whole m c t h, show ((cfg0.win 2).blk t).view.emb (ix2 r s) = ix2 (row t r) (col t s) from
    ext2 (by show win0_2.index t 0 * 2176 + 1 * r.val = (row t r).val; dsimp only [row]; omega)
      (by show win0_2.index t 1 * 512 + 1 * s.val = (col t s).val; dsimp only [col]; omega)]
  rfl

theorem final : (dats m 0 c).arrAt 2 cfg0.N = prod m c :=
  (dats m 0 c).arrAt_eq_of_cover 2 (prod m c) (flushed m c) fun i : S2176x512.Idx => by
    obtain ⟨h0, h1⟩ := below2 i
    obtain ⟨t, ht⟩ : ∃ t : Fin cfg0.N, t.val = 1 := ⟨⟨_, by rw [show cfg0.N = 2 from N_0]; omega⟩, rfl⟩
    have e := idx t
    refine ⟨t, (flush0_2 t).mpr (by omega), ?_⟩
    show i ∈ ((View.whole main_v0).slice (win0_2.rect t)).set
    rw [View.set_slice_whole, Rect.mem_set_unit]
    exact cover2 (win0_2.index t) 2176 512 i (by omega)

end Cert.Kernel8Ideal.DCqn
-- ==== Proof.DCqn.Claims.lean ====
/- The claims about this product: the gradient towards the query latents: the product of the queries' gradient with the weights, summed over two blocks of its columns. -/
module

public import proofs.«01_k».proof.Defs
public import proofs.«01_k».proof.Proof.Gen.Kernel8.Frame
public import proofs.«01_k».proof.Proof.Gen.Reference8Ideal.Run
public import proofs.«01_k».proof.Proof.Gen.Reference8Ideal.Read
public import proofs.«01_k».proof.Proof.DCqn.Sum
public import Idealize.ShloMosaic.Lib.Pointwise

@[expose] public noncomputable section

set_option maxRecDepth 16384

namespace Cert.Proof.DCqn

open Idealize.ShloMosaic Idealize.ShloMosaic.TcCoe Idealize.SL.Sem

theorem frame_p : Cert.quiescent_Kernel8 := fun m ρ _ => Cert.Kernel8.Gen.frame m ρ
theorem frame_pi : Cert.quiescent_Kernel8Ideal := fun m ρ _ => Cert.Kernel8Ideal.Gen.frame m ρ
theorem frame_ri : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

/-- Nothing is rewritten: the two programs have one text. -/
theorem preserves : Cert.preserves_Kernel8_Kernel8Ideal := trivial

open Cert.Reference8Ideal Cert.Reference8Ideal.Gen Cert.Reference8Ideal.Read in
/-- The reference's result is the product. -/
theorem reference_eq (a : S2176x3072.Idx → EReal) (b : S512x3072.Idx → EReal) :
    val_main_v4 (F := Ideal) a b = Product.nt (m := 2176) (k := 3072) (n := 512) a b := by
  funext i
  unfold val_main_v4 val_main_v3 val_main_v1 Product.nt
  pointwise [dot_S2176x3072_S512x3072_S2176x512_1_1_0_0_n_n]

/-- The kernel and the reference compute the same product. -/
theorem algebraic : Cert.algebraic_Kernel8Ideal_Reference8Ideal := by
  intro m ρ m' ρ' _ hagree
  refine ⟨fun c => Cert.Kernel8Ideal.DCqn.prod m c, ?_, ?_⟩
  · exact (θ_run Cert.Kernel8Ideal.defs _ _).mono (fun r h c => ⟨(h c).1.trans (Cert.Kernel8Ideal.DCqn.final m c), (h c).2⟩)
      (Cert.Kernel8Ideal.Value.run_blocks (F := Ideal) m ρ)
  · refine (θ_run Cert.Reference8Ideal.defs _ _).mono (fun r h c => ?_) (Cert.Reference8Ideal.Value.run (F := Ideal) m' ρ')
    obtain ⟨h0, hk⟩ := h c
    obtain ⟨a0, a1⟩ := hagree c
    rw [Cert.Reference8Ideal.Read.val_main_v4_eq, a0, a1] at h0
    exact ⟨h0.trans (reference_eq _ _), hk⟩

end Cert.Proof.DCqn
-- ==== Proof.DCkvn.Sum.lean ====
/- The gradient towards the key and value latents: the product of their gradient with the weights, summed over four blocks of its columns. -/
module

public import proofs.«01_k».proof.Proof.Common.Idx
public import proofs.«01_k».proof.Proof.Gen.Kernel9Ideal.Value
public import proofs.«01_k».proof.Proof.Common.Product
public import proofs.«01_k».proof.Proof.Common.Sum
public import Idealize.ShloMosaic.Lib.Tactic

@[expose] public noncomputable section

set_option maxRecDepth 16384

namespace Cert.Kernel9Ideal.DCkvn

open Cert.Kernel9Ideal Cert.Kernel9Ideal.Gen Idealize.ShloMosaic Idealize.ShloMosaic.TcCoe Idealize.SL.Sem Cert.Idx

variable (m : (ℓ : Loc nD τ sig) → Buf (Elt Ideal) ℓ) (c : Dev nD)

theorem ltN (t : Fin cfg0.N) : t.val < 4 := lt_of_lt_of_eq t.isLt N_0

theorem idx : ∀ t : Fin grid0.N,
    win0_0.index t 0 = 0 ∧ win0_0.index t 1 = t.val % 4 ∧ win0_1.index t 0 = 0 ∧
    win0_1.index t 1 = t.val % 4 ∧ win0_2.index t 0 = 0 ∧ win0_2.index t 1 = 0 := by decide +kernel

/-- The row and the column of the product at row `r`, column `s` of a point's block, and the contracted index `x` of
    the point's. -/
abbrev row (t : Fin cfg0.N) (r : Fin 2176) : Fin 2176 := r
abbrev col (t : Fin cfg0.N) (s : Fin 512) : Fin 512 := s
abbrev inn (t : Fin cfg0.N) (x : Fin 512) : Fin 2048 := ⟨512 * (t.val % 4) + x.val, by have := ltN t; omega⟩

theorem blk_0 (t : Fin cfg0.N) (r : Fin 2176) (x : Fin 512) :
    (iblk m c 0 t : Vec Ideal S2176x512 .f32) (ix2 r x) = m ((c : Thread nD τ).loc main_arg0) (ix2 (row t r) (inn t x)) := by
  have e := idx t
  exact congrArg (m ((c : Thread nD τ).loc main_arg0)) (ext2 (by show win0_0.index t 0 * 2176 + 1 * r.val = (row t r).val; dsimp only [row]; omega) (by show win0_0.index t 1 * 512 + 1 * x.val = (inn t x).val; dsimp only [inn]; omega))

theorem blk_1 (t : Fin cfg0.N) (s x : Fin 512) :
    (iblk m c 1 t : Vec Ideal S512x512 .bf16) (ix2 s x) = m ((c : Thread nD τ).loc main_arg1) (ix2 (col t s) (inn t x)) := by
  have e := idx t
  exact congrArg (m ((c : Thread nD τ).loc main_arg1)) (ext2 (by show win0_1.index t 0 * 512 + 1 * s.val = (col t s).val; dsimp only [col]; omega) (by show win0_1.index t 1 * 512 + 1 * x.val = (inn t x).val; dsimp only [inn]; omega))

/-- A point adds its block's product to what the sum holds. -/
theorem pay (acc a : Vec Ideal S2176x512 .f32) (b : Vec Ideal S512x512 .bf16) (r : Fin 2176) (s : Fin 512) :
    k0_pay2 acc a b (ix2 r s) = acc (ix2 r s) + ∑ x : Fin 512, (a (ix2 r x) : EReal) * b (ix2 s x) := by
  unfold k0_pay2
  pointwise [dot_S2176x512_S512x512_S2176x512_1_1_0_0_n_n]

theorem pay_zero (r : Fin 2176) (s : Fin 512) : (k0_pay1 (F := Ideal)) (ix2 r s) = 0 := by
  unfold k0_pay1
  pointwise

/-- The first block of the contracted axis starts the sum at zero. -/
theorem first (t : Fin cfg0.N) (h0 : t.val % 4 = 0) :
    (outsAt0 m c t.val t.isLt).2 = k0_pay2 k0_pay1 (iblk m c 0 t) (iblk m c 1 t) := by
  rw [outsAt0_A m c t h0 (by omega)]
  dsimp only
  unfold sout0_A_0
  rw [View.read_writes_eq_canon]; swap
  · intro y; apply scover0_A_0
  unfold kernelRun0_A; dsimp only; sl_unfold_words
  rw [View.canon_cons_unit_zero (S := S2176x512) zero2, View.readCov_unit_zero (S := S2176x512) _ zero2]
  simp only [View.readAt_eq_ld, (hs0_0 t).read_unread, (hs0_1 t).read_unread,
    (Memref.isWhole_whole (cc0_scratch0 : Ref sig .tc)).read_unread, ld2]

/-- The others add to it. -/
theorem later (t : Fin cfg0.N) (h0 : ¬t.val % 4 = 0) (h : t.val - 1 < cfg0.N) :
    (outsAt0 m c t.val t.isLt).2 = k0_pay2 (outsAt0 m c (t.val - 1) h).2 (iblk m c 0 t) (iblk m c 1 t) := by
  by_cases h1 : t.val % 4 = 3
  · rw [outsAt0_C m c t h0 h1]
    dsimp only
    unfold sout0_C_0
    rw [View.read_writes_eq_canon]; swap
    · intro y; apply scover0_C_0
    unfold kernelRun0_C; dsimp only; sl_unfold_words
    rw [View.canon_unit_zero zero2]
    simp only [View.readAt_eq_ld, (hs0_0 t).read_unread, (hs0_1 t).read_unread,
    (Memref.isWhole_whole (cc0_scratch0 : Ref sig .tc)).read_unread, ld2]
  · rw [outsAt0_B m c t h0 h1]
    dsimp only
    unfold sout0_B_0
    rw [View.read_writes_eq_canon]; swap
    · intro y; apply scover0_B_0
    unfold kernelRun0_B; dsimp only; sl_unfold_words
    rw [View.canon_unit_zero zero2]
    simp only [View.readAt_eq_ld, (hs0_0 t).read_unread, (hs0_1 t).read_unread,
    (Memref.isWhole_whole (cc0_scratch0 : Ref sig .tc)).read_unread, ld2]

/-- The last one writes it out. -/
theorem last (t : Fin cfg0.N) (h1 : t.val % 4 = 3) :
    (outsAt0 m c t.val t.isLt).1 = (outsAt0 m c t.val t.isLt).2 := by
  rw [later m c t (by omega) (lt_of_le_of_lt (Nat.sub_le _ _) t.isLt), outsAt0_C m c t (by omega) h1]
  dsimp only
  unfold out0_C_2
  rw [View.read_writes_eq_canon]; swap
  · intro y; apply cover0_C_2
  unfold kernelRun0_C; dsimp only; sl_unfold_words
  rw [View.canon_unit_zero zero2, View.readCov_unit_zero (S := S2176x512) _ zero2]
  simp only [View.readAt_eq_ld, (hs0_0 t).read_unread, (hs0_1 t).read_unread,
    (Memref.isWhole_whole (cc0_scratch0 : Ref sig .tc)).read_unread, ld2]

/-- The two arrays, and their product. -/
abbrev A : S2176x2048.Idx → EReal := m ((c : Thread nD τ).loc main_arg0)
abbrev B : S512x2048.Idx → EReal := m ((c : Thread nD τ).loc main_arg1)
def prod : S2176x512.Idx → EReal := Product.nt (m := 2176) (k := 2048) (n := 512) (A m c) (B m c)

/-- One term of the product's sum. -/
abbrev term (p : Fin 2176) (q : Fin 512) (x : Fin 2048) : EReal := A m c (ix2 p x) * B m c (ix2 q x)

theorem block (t : Fin cfg0.N) (r : Fin 2176) (s : Fin 512) (acc : Vec Ideal S2176x512 .f32) :
    k0_pay2 acc (iblk m c 0 t) (iblk m c 1 t) (ix2 r s)
      = acc (ix2 r s) + ∑ x : Fin 512, term m c (row t r) (col t s) (inn t x) := by
  rw [pay]
  exact congrArg (acc (ix2 r s) + ·) (Finset.sum_congr rfl fun x _ =>
    congrArg₂ (fun p q : EReal => p * q) (blk_0 m c t r x) (blk_1 m c t s x))

/-- After the last block of the contracted axis the sum is the product's. -/
theorem whole (t : Fin cfg0.N) (h : t.val % 4 = 3) (r : Fin 2176) (s : Fin 512) :
    (outsAt0 m c t.val t.isLt).2 (ix2 r s) = ∑ x : Fin 2048, term m c (row t r) (col t s) x :=
  Sum.swept 4 512 2048 rfl (by decide) (fun n h => ((outsAt0 m c n h).2 (ix2 r s) : EReal))
    (fun t => term m c (row t r) (col t s)) inn (fun _ _ => rfl)
    (fun t u e => congrArg₂ (term m c) (show row t r = row u r from rfl)
      (show col t s = col u s from rfl))
    (fun n h h0 => by rw [first m c ⟨n, h⟩ h0, block, pay_zero, zero_add])
    (fun n h h0 h' => by rw [later m c ⟨n, h⟩ h0 h', block]) t h

theorem flushed (t : Fin cfg0.N) (hf : (cfg0.win 2).flush t = true) :
    (dats m 0 c).flushed 2 t = ((cfg0.win 2).blk t).view.read (Elt Ideal) (prod m c) := by
  have e := idx t
  have h := (flush0_2 t).mp hf
  rw [Value.flushed2, last m c t h]
  funext y
  obtain ⟨r, s, rfl⟩ := of2 y
  rw [View.read_apply]
  show (outsAt0 m c t.val t.isLt).2 (ix2 r s) = prod m c _
  rw [whole m c t h, show ((cfg0.win 2).blk t).view.emb (ix2 r s) = ix2 (row t r) (col t s) from
    ext2 (by show win0_2.index t 0 * 2176 + 1 * r.val = (row t r).val; dsimp only [row]; omega)
      (by show win0_2.index t 1 * 512 + 1 * s.val = (col t s).val; dsimp only [col]; omega)]
  rfl

theorem final : (dats m 0 c).arrAt 2 cfg0.N = prod m c :=
  (dats m 0 c).arrAt_eq_of_cover 2 (prod m c) (flushed m c) fun i : S2176x512.Idx => by
    obtain ⟨h0, h1⟩ := below2 i
    obtain ⟨t, ht⟩ : ∃ t : Fin cfg0.N, t.val = 3 := ⟨⟨_, by rw [show cfg0.N = 4 from N_0]; omega⟩, rfl⟩
    have e := idx t
    refine ⟨t, (flush0_2 t).mpr (by omega), ?_⟩
    show i ∈ ((View.whole main_v0).slice (win0_2.rect t)).set
    rw [View.set_slice_whole, Rect.mem_set_unit]
    exact cover2 (win0_2.index t) 2176 512 i (by omega)

end Cert.Kernel9Ideal.DCkvn
-- ==== Proof.DCkvn.Claims.lean ====
/- The claims about this product: the gradient towards the key and value latents: the product of their gradient with the weights, summed over four blocks of its columns. -/
module

public import proofs.«01_k».proof.Defs
public import proofs.«01_k».proof.Proof.Gen.Kernel9.Frame
public import proofs.«01_k».proof.Proof.Gen.Reference9Ideal.Run
public import proofs.«01_k».proof.Proof.Gen.Reference9Ideal.Read
public import proofs.«01_k».proof.Proof.DCkvn.Sum
public import Idealize.ShloMosaic.Lib.Pointwise

@[expose] public noncomputable section

set_option maxRecDepth 16384

namespace Cert.Proof.DCkvn

open Idealize.ShloMosaic Idealize.ShloMosaic.TcCoe Idealize.SL.Sem

theorem frame_p : Cert.quiescent_Kernel9 := fun m ρ _ => Cert.Kernel9.Gen.frame m ρ
theorem frame_pi : Cert.quiescent_Kernel9Ideal := fun m ρ _ => Cert.Kernel9Ideal.Gen.frame m ρ
theorem frame_ri : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

/-- Nothing is rewritten: the two programs have one text. -/
theorem preserves : Cert.preserves_Kernel9_Kernel9Ideal := trivial

open Cert.Reference9Ideal Cert.Reference9Ideal.Gen Cert.Reference9Ideal.Read in
/-- The reference's result is the product. -/
theorem reference_eq (a : S2176x2048.Idx → EReal) (b : S512x2048.Idx → EReal) :
    val_main_v3 (F := Ideal) a b = Product.nt (m := 2176) (k := 2048) (n := 512) a b := by
  funext i
  unfold val_main_v3 val_main_v1 Product.nt
  pointwise [dot_S2176x2048_S512x2048_S2176x512_1_1_0_0_n_n]

/-- The kernel and the reference compute the same product. -/
theorem algebraic : Cert.algebraic_Kernel9Ideal_Reference9Ideal := by
  intro m ρ m' ρ' _ hagree
  refine ⟨fun c => Cert.Kernel9Ideal.DCkvn.prod m c, ?_, ?_⟩
  · exact (θ_run Cert.Kernel9Ideal.defs _ _).mono (fun r h c => ⟨(h c).1.trans (Cert.Kernel9Ideal.DCkvn.final m c), (h c).2⟩)
      (Cert.Kernel9Ideal.Value.run_blocks (F := Ideal) m ρ)
  · refine (θ_run Cert.Reference9Ideal.defs _ _).mono (fun r h c => ?_) (Cert.Reference9Ideal.Value.run (F := Ideal) m' ρ')
    obtain ⟨h0, hk⟩ := h c
    obtain ⟨a0, a1⟩ := hagree c
    rw [Cert.Reference9Ideal.Read.val_main_v3_eq, a0, a1] at h0
    exact ⟨h0.trans (reference_eq _ _), hk⟩

end Cert.Proof.DCkvn
-- ==== Proof.Merge.Math.lean ====
/- The merge of the three branches and its gradients, in terms of the projection `p` that holds the gates, a branch's rows
   `o`, the weights `w` of the branches and `v` of the projection out, and the gradient `d` of the result. -/
module

public import proofs.«01_k».proof.Proof.Common.Product

@[expose] public noncomputable section

namespace Cert.Merging

open Idealize.ShloMosaic

abbrev Proj : Type := (⟨2, ![2176, 13824]⟩ : Shape).Idx → EReal
abbrev Rows : Type := (⟨2, ![2176, 2048]⟩ : Shape).Idx → EReal
abbrev Branch : Type := (⟨2, ![2176, 1024]⟩ : Shape).Idx → EReal
abbrev Weights : Type := (⟨3, ![3, 1024, 2048]⟩ : Shape).Idx → EReal
abbrev Square : Type := (⟨2, ![2048, 2048]⟩ : Shape).Idx → EReal

/-- The weights of one branch, and its gate. -/
def slab (n : Fin 3) (w : Weights) : (⟨2, ![1024, 2048]⟩ : Shape).Idx → EReal := fun i => w (ix3 n (i 0) (i 1))
def gate (n : Fin 3) (p : Proj) : Rows := fun i =>
  p (ix2 (i 0) ⟨2048 * n.val + (i 1).val, by have h := n.isLt; have h' : (i 1).val < 2048 := (i 1).isLt; omega⟩)

/-- A branch projected, the gated sum of the three, and the projection out. -/
def y (n : Fin 3) (o : Branch) (w : Weights) : Rows := Product.nn (m := 2176) (k := 1024) (n := 2048) o (slab n w)
def sum (p : Proj) (a b c : Rows) : Rows := fun i =>
  Ideal.logistic (gate 0 p i) * a i + Ideal.logistic (gate 1 p i) * b i + Ideal.logistic (gate 2 p i) * c i
def mix (s : Rows) (v : Square) : Rows := Product.nn (m := 2176) (k := 2048) (n := 2048) s v

/-- The gradients of the sum, of the weights out, of a gate, of a projected branch, and of the branch. -/
def ds (v : Square) (d : Rows) : Rows := Product.nt (m := 2176) (k := 2048) (n := 2048) d v
def dwOut (s d : Rows) : Square := Product.tn (m := 2048) (k := 2176) (n := 2048) s d
def dgate (n : Fin 3) (p : Proj) (a e : Rows) : Rows := fun i =>
  e i * a i * (Ideal.logistic (gate n p i) * (1 - Ideal.logistic (gate n p i)))
def dy (n : Fin 3) (p : Proj) (e : Rows) : Rows := fun i => Ideal.logistic (gate n p i) * e i
def dbranch (n : Fin 3) (a : Rows) (w : Weights) : Branch := Product.nt (m := 2176) (k := 2048) (n := 1024) a (slab n w)

theorem sum_of {p p' : Proj} {a a' b b' c c' : Rows} (hp : p = p') (ha : a = a') (hb : b = b') (hc : c = c') :
    sum p a b c = sum p' a' b' c' := by subst hp ha hb hc; rfl

theorem dgate_of (n : Fin 3) {p p' : Proj} {a a' e e' : Rows} (hp : p = p') (ha : a = a') (he : e = e') :
    dgate n p a e = dgate n p' a' e' := by subst hp ha he; rfl

end Cert.Merging
-- ==== Proof.Merge.Branches.lean ====
/- The projections of the three branches and the gradients towards them: what each of the six calls leaves. -/
module

public import proofs.«01_k».proof.Proof.Common.Idx
public import proofs.«01_k».proof.Proof.Gen.Kernel10Ideal.Frame
public import proofs.«01_k».proof.Proof.Merge.Math

@[expose] public noncomputable section

set_option maxRecDepth 16384

namespace Cert.Kernel10Ideal.Merge

open Cert.Kernel10Ideal Cert.Kernel10Ideal.Gen Idealize.ShloMosaic Idealize.ShloMosaic.TcCoe Idealize.SL.Sem Cert.Idx

variable (V : (c : Dev nD) → (b : Ref sig .tc) → Buf (Elt Ideal) ((c : Thread nD τ).loc b)) (c : Dev nD)

/-! ## The first branch projected -/

theorem lt0 (t : Fin cfg0.N) : t.val < 4 := lt_of_lt_of_eq t.isLt N_0

theorem idx0 : ∀ t : Fin grid0.N,
    win0_0.index t 0 = 0 ∧ win0_0.index t 1 = 0 ∧ win0_1.index t 0 = 0 ∧ win0_1.index t 1 = 0 ∧
    win0_1.index t 2 = t.val ∧ win0_2.index t 0 = 0 ∧ win0_2.index t 1 = t.val := by decide +kernel

/-- The row and the column of the product at row `r`, column `s` of a point's block. -/
abbrev row0 (t : Fin cfg0.N) (r : Fin 2176) : Fin 2176 := r
abbrev col0 (t : Fin cfg0.N) (s : Fin 512) : Fin 2048 := ⟨512 * (t.val) + s.val, by have := lt0 t; omega⟩

theorem blk0_0 (t : Fin cfg0.N) (r : Fin 2176) (x : Fin 1024) :
    (iblk0 V c 0 t : Vec Ideal S2176x1024 .bf16) (ix2 r x) = V c main_arg1 (ix2 (row0 t r) x) := by
  have e := idx0 t
  exact congrArg (V c main_arg1) (ext2 (by show win0_0.index t 0 * 2176 + 1 * r.val = (row0 t r).val; dsimp only [row0, col0]; omega) (by show win0_0.index t 1 * 1024 + 1 * x.val = x.val; omega))

theorem blk0_1 (t : Fin cfg0.N) (x : Fin 1024) (s : Fin 512) :
    (iblk0 V c 1 t : Vec Ideal S1x1024x512 .bf16) (ix3 0 x s) = V c main_arg4 (ix3 0 x (col0 t s)) := by
  have e := idx0 t
  exact congrArg (V c main_arg4) (ext3 (by show win0_1.index t 0 * 1 + 1 * 0 = 0; omega) (by show win0_1.index t 1 * 1024 + 1 * x.val = x.val; omega) (by show win0_1.index t 2 * 512 + 1 * s.val = (col0 t s).val; dsimp only [row0, col0]; omega))

theorem pay0 (a : Vec Ideal S2176x1024 .bf16) (b : Vec Ideal S1x1024x512 .bf16) (r : Fin 2176) (s : Fin 512) :
    k0_pay1 a b (ix2 r s) = ∑ x : Fin 1024, (a (ix2 r x) : EReal) * b (ix3 0 x s) := by
  unfold k0_pay1
  pointwise [dot_S2176x1024_S1024x512_S2176x512_1_0_0_1_n_n]

theorem out0 (t : Fin cfg0.N) : outsAt0 V c t = k0_pay1 (iblk0 V c 0 t) (iblk0 V c 1 t) := by
  unfold outsAt0 out0_A_2
  rw [View.read_writes_eq_canon]; swap
  · intro y; apply cover0_A_2
  unfold kernelRun0_A; dsimp only; sl_unfold_words
  rw [View.canon_unit_zero zero2]
  simp only [View.readAt_eq_ld, (hs0_0 t).read_unread, (hs0_1 t).read_unread, ld2, ld3]

/-- The product the region leaves. -/
def arr0 : Buf (Elt Ideal) ((c : Thread nD τ).loc main_v0) := Product.nn (m := 2176) (k := 1024) (n := 2048) (V c main_arg1) (Merging.slab 0 (V c main_arg4))

theorem flushed0 (t : Fin cfg0.N) (hf : (cfg0.win 2).flush t = true) :
    (dat0 V c).flushed 2 t = ((cfg0.win 2).blk t).view.read (Elt Ideal) (arr0 V c) := by
  have e := idx0 t
  show (cfg0.win 2).cut (grid0.coords t) ((dat0 V c).after 2 t) = _
  rw [after0_2, out0]
  funext y
  obtain ⟨r, s, rfl⟩ := of2 y
  rw [View.read_apply]
  show k0_pay1 (iblk0 V c 0 t) (iblk0 V c 1 t) (ix2 r s) = arr0 V c _
  rw [pay0, show ((cfg0.win 2).blk t).view.emb (ix2 r s) = ix2 (row0 t r) (col0 t s) from
    ext2 (by show win0_2.index t 0 * 2176 + 1 * r.val = (row0 t r).val; dsimp only [row0]; omega)
      (by show win0_2.index t 1 * 512 + 1 * s.val = (col0 t s).val; dsimp only [col0]; omega)]
  exact Finset.sum_congr rfl fun x _ => congrArg₂ (fun p q : EReal => p * q) (blk0_0 V c t r x) (blk0_1 V c t x s)

theorem final0 : (dat0 V c).arrAt 2 cfg0.N = arr0 V c :=
  (dat0 V c).arrAt_eq_of_cover 2 (arr0 V c) (flushed0 V c) fun i : S2176x2048.Idx => by
    obtain ⟨h0, h1⟩ := below2 i
    obtain ⟨t, ht⟩ : ∃ t : Fin cfg0.N, t.val = (i 1).val / 512 := ⟨⟨_, by rw [show cfg0.N = 4 from N_0]; omega⟩, rfl⟩
    have e := idx0 t
    refine ⟨t, flush0_2 t, ?_⟩
    show i ∈ ((View.whole main_v0).slice (win0_2.rect t)).set
    rw [View.set_slice_whole, Rect.mem_set_unit]
    exact cover2 (win0_2.index t) 2176 512 i (by omega)

/-! ## The second -/

theorem lt1 (t : Fin cfg1.N) : t.val < 4 := lt_of_lt_of_eq t.isLt N_1

theorem idx1 : ∀ t : Fin grid1.N,
    win1_0.index t 0 = 0 ∧ win1_0.index t 1 = 0 ∧ win1_1.index t 0 = 1 ∧ win1_1.index t 1 = 0 ∧
    win1_1.index t 2 = t.val ∧ win1_2.index t 0 = 0 ∧ win1_2.index t 1 = t.val := by decide +kernel

/-- The row and the column of the product at row `r`, column `s` of a point's block. -/
abbrev row1 (t : Fin cfg1.N) (r : Fin 2176) : Fin 2176 := r
abbrev col1 (t : Fin cfg1.N) (s : Fin 512) : Fin 2048 := ⟨512 * (t.val) + s.val, by have := lt1 t; omega⟩

theorem blk1_0 (t : Fin cfg1.N) (r : Fin 2176) (x : Fin 1024) :
    (iblk1 V c 0 t : Vec Ideal S2176x1024 .bf16) (ix2 r x) = V c main_arg2 (ix2 (row1 t r) x) := by
  have e := idx1 t
  exact congrArg (V c main_arg2) (ext2 (by show win1_0.index t 0 * 2176 + 1 * r.val = (row1 t r).val; dsimp only [row1, col1]; omega) (by show win1_0.index t 1 * 1024 + 1 * x.val = x.val; omega))

theorem blk1_1 (t : Fin cfg1.N) (x : Fin 1024) (s : Fin 512) :
    (iblk1 V c 1 t : Vec Ideal S1x1024x512 .bf16) (ix3 0 x s) = V c main_arg4 (ix3 1 x (col1 t s)) := by
  have e := idx1 t
  exact congrArg (V c main_arg4) (ext3 (by show win1_1.index t 0 * 1 + 1 * 0 = 1; omega) (by show win1_1.index t 1 * 1024 + 1 * x.val = x.val; omega) (by show win1_1.index t 2 * 512 + 1 * s.val = (col1 t s).val; dsimp only [row1, col1]; omega))

theorem pay1 (a : Vec Ideal S2176x1024 .bf16) (b : Vec Ideal S1x1024x512 .bf16) (r : Fin 2176) (s : Fin 512) :
    k1_pay1 a b (ix2 r s) = ∑ x : Fin 1024, (a (ix2 r x) : EReal) * b (ix3 0 x s) := by
  unfold k1_pay1
  pointwise [dot_S2176x1024_S1024x512_S2176x512_1_0_0_1_n_n]

theorem out1 (t : Fin cfg1.N) : outsAt1 V c t = k1_pay1 (iblk1 V c 0 t) (iblk1 V c 1 t) := by
  unfold outsAt1 out1_A_2
  rw [View.read_writes_eq_canon]; swap
  · intro y; apply cover1_A_2
  unfold kernelRun1_A; dsimp only; sl_unfold_words
  rw [View.canon_unit_zero zero2]
  simp only [View.readAt_eq_ld, (hs1_0 t).read_unread, (hs1_1 t).read_unread, ld2, ld3]

/-- The product the region leaves. -/
def arr1 : Buf (Elt Ideal) ((c : Thread nD τ).loc main_v1) := Product.nn (m := 2176) (k := 1024) (n := 2048) (V c main_arg2) (Merging.slab 1 (V c main_arg4))

theorem flushed1 (t : Fin cfg1.N) (hf : (cfg1.win 2).flush t = true) :
    (dat1 V c).flushed 2 t = ((cfg1.win 2).blk t).view.read (Elt Ideal) (arr1 V c) := by
  have e := idx1 t
  show (cfg1.win 2).cut (grid1.coords t) ((dat1 V c).after 2 t) = _
  rw [after1_2, out1]
  funext y
  obtain ⟨r, s, rfl⟩ := of2 y
  rw [View.read_apply]
  show k1_pay1 (iblk1 V c 0 t) (iblk1 V c 1 t) (ix2 r s) = arr1 V c _
  rw [pay1, show ((cfg1.win 2).blk t).view.emb (ix2 r s) = ix2 (row1 t r) (col1 t s) from
    ext2 (by show win1_2.index t 0 * 2176 + 1 * r.val = (row1 t r).val; dsimp only [row1]; omega)
      (by show win1_2.index t 1 * 512 + 1 * s.val = (col1 t s).val; dsimp only [col1]; omega)]
  exact Finset.sum_congr rfl fun x _ => congrArg₂ (fun p q : EReal => p * q) (blk1_0 V c t r x) (blk1_1 V c t x s)

theorem final1 : (dat1 V c).arrAt 2 cfg1.N = arr1 V c :=
  (dat1 V c).arrAt_eq_of_cover 2 (arr1 V c) (flushed1 V c) fun i : S2176x2048.Idx => by
    obtain ⟨h0, h1⟩ := below2 i
    obtain ⟨t, ht⟩ : ∃ t : Fin cfg1.N, t.val = (i 1).val / 512 := ⟨⟨_, by rw [show cfg1.N = 4 from N_1]; omega⟩, rfl⟩
    have e := idx1 t
    refine ⟨t, flush1_2 t, ?_⟩
    show i ∈ ((View.whole main_v1).slice (win1_2.rect t)).set
    rw [View.set_slice_whole, Rect.mem_set_unit]
    exact cover2 (win1_2.index t) 2176 512 i (by omega)

/-! ## The third -/

theorem lt2 (t : Fin cfg2.N) : t.val < 4 := lt_of_lt_of_eq t.isLt N_2

theorem idx2 : ∀ t : Fin grid2.N,
    win2_0.index t 0 = 0 ∧ win2_0.index t 1 = 0 ∧ win2_1.index t 0 = 2 ∧ win2_1.index t 1 = 0 ∧
    win2_1.index t 2 = t.val ∧ win2_2.index t 0 = 0 ∧ win2_2.index t 1 = t.val := by decide +kernel

/-- The row and the column of the product at row `r`, column `s` of a point's block. -/
abbrev row2 (t : Fin cfg2.N) (r : Fin 2176) : Fin 2176 := r
abbrev col2 (t : Fin cfg2.N) (s : Fin 512) : Fin 2048 := ⟨512 * (t.val) + s.val, by have := lt2 t; omega⟩

theorem blk2_0 (t : Fin cfg2.N) (r : Fin 2176) (x : Fin 1024) :
    (iblk2 V c 0 t : Vec Ideal S2176x1024 .bf16) (ix2 r x) = V c main_arg3 (ix2 (row2 t r) x) := by
  have e := idx2 t
  exact congrArg (V c main_arg3) (ext2 (by show win2_0.index t 0 * 2176 + 1 * r.val = (row2 t r).val; dsimp only [row2, col2]; omega) (by show win2_0.index t 1 * 1024 + 1 * x.val = x.val; omega))

theorem blk2_1 (t : Fin cfg2.N) (x : Fin 1024) (s : Fin 512) :
    (iblk2 V c 1 t : Vec Ideal S1x1024x512 .bf16) (ix3 0 x s) = V c main_arg4 (ix3 2 x (col2 t s)) := by
  have e := idx2 t
  exact congrArg (V c main_arg4) (ext3 (by show win2_1.index t 0 * 1 + 1 * 0 = 2; omega) (by show win2_1.index t 1 * 1024 + 1 * x.val = x.val; omega) (by show win2_1.index t 2 * 512 + 1 * s.val = (col2 t s).val; dsimp only [row2, col2]; omega))

theorem pay2 (a : Vec Ideal S2176x1024 .bf16) (b : Vec Ideal S1x1024x512 .bf16) (r : Fin 2176) (s : Fin 512) :
    k2_pay1 a b (ix2 r s) = ∑ x : Fin 1024, (a (ix2 r x) : EReal) * b (ix3 0 x s) := by
  unfold k2_pay1
  pointwise [dot_S2176x1024_S1024x512_S2176x512_1_0_0_1_n_n]

theorem out2 (t : Fin cfg2.N) : outsAt2 V c t = k2_pay1 (iblk2 V c 0 t) (iblk2 V c 1 t) := by
  unfold outsAt2 out2_A_2
  rw [View.read_writes_eq_canon]; swap
  · intro y; apply cover2_A_2
  unfold kernelRun2_A; dsimp only; sl_unfold_words
  rw [View.canon_unit_zero zero2]
  simp only [View.readAt_eq_ld, (hs2_0 t).read_unread, (hs2_1 t).read_unread, ld2, ld3]

/-- The product the region leaves. -/
def arr2 : Buf (Elt Ideal) ((c : Thread nD τ).loc main_v2) := Product.nn (m := 2176) (k := 1024) (n := 2048) (V c main_arg3) (Merging.slab 2 (V c main_arg4))

theorem flushed2 (t : Fin cfg2.N) (hf : (cfg2.win 2).flush t = true) :
    (dat2 V c).flushed 2 t = ((cfg2.win 2).blk t).view.read (Elt Ideal) (arr2 V c) := by
  have e := idx2 t
  show (cfg2.win 2).cut (grid2.coords t) ((dat2 V c).after 2 t) = _
  rw [after2_2, out2]
  funext y
  obtain ⟨r, s, rfl⟩ := of2 y
  rw [View.read_apply]
  show k2_pay1 (iblk2 V c 0 t) (iblk2 V c 1 t) (ix2 r s) = arr2 V c _
  rw [pay2, show ((cfg2.win 2).blk t).view.emb (ix2 r s) = ix2 (row2 t r) (col2 t s) from
    ext2 (by show win2_2.index t 0 * 2176 + 1 * r.val = (row2 t r).val; dsimp only [row2]; omega)
      (by show win2_2.index t 1 * 512 + 1 * s.val = (col2 t s).val; dsimp only [col2]; omega)]
  exact Finset.sum_congr rfl fun x _ => congrArg₂ (fun p q : EReal => p * q) (blk2_0 V c t r x) (blk2_1 V c t x s)

theorem final2 : (dat2 V c).arrAt 2 cfg2.N = arr2 V c :=
  (dat2 V c).arrAt_eq_of_cover 2 (arr2 V c) (flushed2 V c) fun i : S2176x2048.Idx => by
    obtain ⟨h0, h1⟩ := below2 i
    obtain ⟨t, ht⟩ : ∃ t : Fin cfg2.N, t.val = (i 1).val / 512 := ⟨⟨_, by rw [show cfg2.N = 4 from N_2]; omega⟩, rfl⟩
    have e := idx2 t
    refine ⟨t, flush2_2 t, ?_⟩
    show i ∈ ((View.whole main_v2).slice (win2_2.rect t)).set
    rw [View.set_slice_whole, Rect.mem_set_unit]
    exact cover2 (win2_2.index t) 2176 512 i (by omega)

/-! ## The gradient of the first branch -/

theorem lt8 (t : Fin cfg8.N) : t.val < 2 := lt_of_lt_of_eq t.isLt N_8

theorem idx8 : ∀ t : Fin grid8.N,
    win8_0.index t 0 = 0 ∧ win8_0.index t 1 = 0 ∧ win8_1.index t 0 = 0 ∧ win8_1.index t 1 = t.val ∧
    win8_1.index t 2 = 0 ∧ win8_2.index t 0 = 0 ∧ win8_2.index t 1 = t.val := by decide +kernel

/-- The row and the column of the product at row `r`, column `s` of a point's block. -/
abbrev row8 (t : Fin cfg8.N) (r : Fin 2176) : Fin 2176 := r
abbrev col8 (t : Fin cfg8.N) (s : Fin 512) : Fin 1024 := ⟨512 * (t.val) + s.val, by have := lt8 t; omega⟩

theorem blk8_0 (t : Fin cfg8.N) (r : Fin 2176) (x : Fin 2048) :
    (iblk8 V c 0 t : Vec Ideal S2176x2048 .bf16) (ix2 r x) = V c main_v7_3 (ix2 (row8 t r) x) := by
  have e := idx8 t
  exact congrArg (V c main_v7_3) (ext2 (by show win8_0.index t 0 * 2176 + 1 * r.val = (row8 t r).val; dsimp only [row8, col8]; omega) (by show win8_0.index t 1 * 2048 + 1 * x.val = x.val; omega))

theorem blk8_1 (t : Fin cfg8.N) (s : Fin 512) (x : Fin 2048) :
    (iblk8 V c 1 t : Vec Ideal S1x512x2048 .bf16) (ix3 0 s x) = V c main_arg4 (ix3 0 (col8 t s) x) := by
  have e := idx8 t
  exact congrArg (V c main_arg4) (ext3 (by show win8_1.index t 0 * 1 + 1 * 0 = 0; omega) (by show win8_1.index t 1 * 512 + 1 * s.val = (col8 t s).val; dsimp only [row8, col8]; omega) (by show win8_1.index t 2 * 2048 + 1 * x.val = x.val; omega))

theorem pay8 (a : Vec Ideal S2176x2048 .bf16) (b : Vec Ideal S1x512x2048 .bf16) (r : Fin 2176) (s : Fin 512) :
    k8_pay1 a b (ix2 r s) = ∑ x : Fin 2048, (a (ix2 r x) : EReal) * b (ix3 0 s x) := by
  unfold k8_pay1
  pointwise [dot_S2176x2048_S512x2048_S2176x512_1_1_0_0_n_n]

theorem out8 (t : Fin cfg8.N) : outsAt8 V c t = k8_pay1 (iblk8 V c 0 t) (iblk8 V c 1 t) := by
  unfold outsAt8 out8_A_2
  rw [View.read_writes_eq_canon]; swap
  · intro y; apply cover8_A_2
  unfold kernelRun8_A; dsimp only; sl_unfold_words
  rw [View.canon_unit_zero zero2]
  simp only [View.readAt_eq_ld, (hs8_0 t).read_unread, (hs8_1 t).read_unread, ld2, ld3]

/-- The product the region leaves. -/
def arr8 : Buf (Elt Ideal) ((c : Thread nD τ).loc main_v8) := Product.nt (m := 2176) (k := 2048) (n := 1024) (V c main_v7_3) (Merging.slab 0 (V c main_arg4))

theorem flushed8 (t : Fin cfg8.N) (hf : (cfg8.win 2).flush t = true) :
    (dat8 V c).flushed 2 t = ((cfg8.win 2).blk t).view.read (Elt Ideal) (arr8 V c) := by
  have e := idx8 t
  show (cfg8.win 2).cut (grid8.coords t) ((dat8 V c).after 2 t) = _
  rw [after8_2, out8]
  funext y
  obtain ⟨r, s, rfl⟩ := of2 y
  rw [View.read_apply]
  show k8_pay1 (iblk8 V c 0 t) (iblk8 V c 1 t) (ix2 r s) = arr8 V c _
  rw [pay8, show ((cfg8.win 2).blk t).view.emb (ix2 r s) = ix2 (row8 t r) (col8 t s) from
    ext2 (by show win8_2.index t 0 * 2176 + 1 * r.val = (row8 t r).val; dsimp only [row8]; omega)
      (by show win8_2.index t 1 * 512 + 1 * s.val = (col8 t s).val; dsimp only [col8]; omega)]
  exact Finset.sum_congr rfl fun x _ => congrArg₂ (fun p q : EReal => p * q) (blk8_0 V c t r x) (blk8_1 V c t s x)

theorem final8 : (dat8 V c).arrAt 2 cfg8.N = arr8 V c :=
  (dat8 V c).arrAt_eq_of_cover 2 (arr8 V c) (flushed8 V c) fun i : S2176x1024.Idx => by
    obtain ⟨h0, h1⟩ := below2 i
    obtain ⟨t, ht⟩ : ∃ t : Fin cfg8.N, t.val = (i 1).val / 512 := ⟨⟨_, by rw [show cfg8.N = 2 from N_8]; omega⟩, rfl⟩
    have e := idx8 t
    refine ⟨t, flush8_2 t, ?_⟩
    show i ∈ ((View.whole main_v8).slice (win8_2.rect t)).set
    rw [View.set_slice_whole, Rect.mem_set_unit]
    exact cover2 (win8_2.index t) 2176 512 i (by omega)

/-! ## Of the second -/

theorem lt9 (t : Fin cfg9.N) : t.val < 2 := lt_of_lt_of_eq t.isLt N_9

theorem idx9 : ∀ t : Fin grid9.N,
    win9_0.index t 0 = 0 ∧ win9_0.index t 1 = 0 ∧ win9_1.index t 0 = 1 ∧ win9_1.index t 1 = t.val ∧
    win9_1.index t 2 = 0 ∧ win9_2.index t 0 = 0 ∧ win9_2.index t 1 = t.val := by decide +kernel

/-- The row and the column of the product at row `r`, column `s` of a point's block. -/
abbrev row9 (t : Fin cfg9.N) (r : Fin 2176) : Fin 2176 := r
abbrev col9 (t : Fin cfg9.N) (s : Fin 512) : Fin 1024 := ⟨512 * (t.val) + s.val, by have := lt9 t; omega⟩

theorem blk9_0 (t : Fin cfg9.N) (r : Fin 2176) (x : Fin 2048) :
    (iblk9 V c 0 t : Vec Ideal S2176x2048 .bf16) (ix2 r x) = V c main_v7_4 (ix2 (row9 t r) x) := by
  have e := idx9 t
  exact congrArg (V c main_v7_4) (ext2 (by show win9_0.index t 0 * 2176 + 1 * r.val = (row9 t r).val; dsimp only [row9, col9]; omega) (by show win9_0.index t 1 * 2048 + 1 * x.val = x.val; omega))

theorem blk9_1 (t : Fin cfg9.N) (s : Fin 512) (x : Fin 2048) :
    (iblk9 V c 1 t : Vec Ideal S1x512x2048 .bf16) (ix3 0 s x) = V c main_arg4 (ix3 1 (col9 t s) x) := by
  have e := idx9 t
  exact congrArg (V c main_arg4) (ext3 (by show win9_1.index t 0 * 1 + 1 * 0 = 1; omega) (by show win9_1.index t 1 * 512 + 1 * s.val = (col9 t s).val; dsimp only [row9, col9]; omega) (by show win9_1.index t 2 * 2048 + 1 * x.val = x.val; omega))

theorem pay9 (a : Vec Ideal S2176x2048 .bf16) (b : Vec Ideal S1x512x2048 .bf16) (r : Fin 2176) (s : Fin 512) :
    k9_pay1 a b (ix2 r s) = ∑ x : Fin 2048, (a (ix2 r x) : EReal) * b (ix3 0 s x) := by
  unfold k9_pay1
  pointwise [dot_S2176x2048_S512x2048_S2176x512_1_1_0_0_n_n]

theorem out9 (t : Fin cfg9.N) : outsAt9 V c t = k9_pay1 (iblk9 V c 0 t) (iblk9 V c 1 t) := by
  unfold outsAt9 out9_A_2
  rw [View.read_writes_eq_canon]; swap
  · intro y; apply cover9_A_2
  unfold kernelRun9_A; dsimp only; sl_unfold_words
  rw [View.canon_unit_zero zero2]
  simp only [View.readAt_eq_ld, (hs9_0 t).read_unread, (hs9_1 t).read_unread, ld2, ld3]

/-- The product the region leaves. -/
def arr9 : Buf (Elt Ideal) ((c : Thread nD τ).loc main_v9) := Product.nt (m := 2176) (k := 2048) (n := 1024) (V c main_v7_4) (Merging.slab 1 (V c main_arg4))

theorem flushed9 (t : Fin cfg9.N) (hf : (cfg9.win 2).flush t = true) :
    (dat9 V c).flushed 2 t = ((cfg9.win 2).blk t).view.read (Elt Ideal) (arr9 V c) := by
  have e := idx9 t
  show (cfg9.win 2).cut (grid9.coords t) ((dat9 V c).after 2 t) = _
  rw [after9_2, out9]
  funext y
  obtain ⟨r, s, rfl⟩ := of2 y
  rw [View.read_apply]
  show k9_pay1 (iblk9 V c 0 t) (iblk9 V c 1 t) (ix2 r s) = arr9 V c _
  rw [pay9, show ((cfg9.win 2).blk t).view.emb (ix2 r s) = ix2 (row9 t r) (col9 t s) from
    ext2 (by show win9_2.index t 0 * 2176 + 1 * r.val = (row9 t r).val; dsimp only [row9]; omega)
      (by show win9_2.index t 1 * 512 + 1 * s.val = (col9 t s).val; dsimp only [col9]; omega)]
  exact Finset.sum_congr rfl fun x _ => congrArg₂ (fun p q : EReal => p * q) (blk9_0 V c t r x) (blk9_1 V c t s x)

theorem final9 : (dat9 V c).arrAt 2 cfg9.N = arr9 V c :=
  (dat9 V c).arrAt_eq_of_cover 2 (arr9 V c) (flushed9 V c) fun i : S2176x1024.Idx => by
    obtain ⟨h0, h1⟩ := below2 i
    obtain ⟨t, ht⟩ : ∃ t : Fin cfg9.N, t.val = (i 1).val / 512 := ⟨⟨_, by rw [show cfg9.N = 2 from N_9]; omega⟩, rfl⟩
    have e := idx9 t
    refine ⟨t, flush9_2 t, ?_⟩
    show i ∈ ((View.whole main_v9).slice (win9_2.rect t)).set
    rw [View.set_slice_whole, Rect.mem_set_unit]
    exact cover2 (win9_2.index t) 2176 512 i (by omega)

/-! ## Of the third -/

theorem lt10 (t : Fin cfg10.N) : t.val < 2 := lt_of_lt_of_eq t.isLt N_10

theorem idx10 : ∀ t : Fin grid10.N,
    win10_0.index t 0 = 0 ∧ win10_0.index t 1 = 0 ∧ win10_1.index t 0 = 2 ∧ win10_1.index t 1 = t.val ∧
    win10_1.index t 2 = 0 ∧ win10_2.index t 0 = 0 ∧ win10_2.index t 1 = t.val := by decide +kernel

/-- The row and the column of the product at row `r`, column `s` of a point's block. -/
abbrev row10 (t : Fin cfg10.N) (r : Fin 2176) : Fin 2176 := r
abbrev col10 (t : Fin cfg10.N) (s : Fin 512) : Fin 1024 := ⟨512 * (t.val) + s.val, by have := lt10 t; omega⟩

theorem blk10_0 (t : Fin cfg10.N) (r : Fin 2176) (x : Fin 2048) :
    (iblk10 V c 0 t : Vec Ideal S2176x2048 .bf16) (ix2 r x) = V c main_v7_5 (ix2 (row10 t r) x) := by
  have e := idx10 t
  exact congrArg (V c main_v7_5) (ext2 (by show win10_0.index t 0 * 2176 + 1 * r.val = (row10 t r).val; dsimp only [row10, col10]; omega) (by show win10_0.index t 1 * 2048 + 1 * x.val = x.val; omega))

theorem blk10_1 (t : Fin cfg10.N) (s : Fin 512) (x : Fin 2048) :
    (iblk10 V c 1 t : Vec Ideal S1x512x2048 .bf16) (ix3 0 s x) = V c main_arg4 (ix3 2 (col10 t s) x) := by
  have e := idx10 t
  exact congrArg (V c main_arg4) (ext3 (by show win10_1.index t 0 * 1 + 1 * 0 = 2; omega) (by show win10_1.index t 1 * 512 + 1 * s.val = (col10 t s).val; dsimp only [row10, col10]; omega) (by show win10_1.index t 2 * 2048 + 1 * x.val = x.val; omega))

theorem pay10 (a : Vec Ideal S2176x2048 .bf16) (b : Vec Ideal S1x512x2048 .bf16) (r : Fin 2176) (s : Fin 512) :
    k10_pay1 a b (ix2 r s) = ∑ x : Fin 2048, (a (ix2 r x) : EReal) * b (ix3 0 s x) := by
  unfold k10_pay1
  pointwise [dot_S2176x2048_S512x2048_S2176x512_1_1_0_0_n_n]

theorem out10 (t : Fin cfg10.N) : outsAt10 V c t = k10_pay1 (iblk10 V c 0 t) (iblk10 V c 1 t) := by
  unfold outsAt10 out10_A_2
  rw [View.read_writes_eq_canon]; swap
  · intro y; apply cover10_A_2
  unfold kernelRun10_A; dsimp only; sl_unfold_words
  rw [View.canon_unit_zero zero2]
  simp only [View.readAt_eq_ld, (hs10_0 t).read_unread, (hs10_1 t).read_unread, ld2, ld3]

/-- The product the region leaves. -/
def arr10 : Buf (Elt Ideal) ((c : Thread nD τ).loc main_v10) := Product.nt (m := 2176) (k := 2048) (n := 1024) (V c main_v7_5) (Merging.slab 2 (V c main_arg4))

theorem flushed10 (t : Fin cfg10.N) (hf : (cfg10.win 2).flush t = true) :
    (dat10 V c).flushed 2 t = ((cfg10.win 2).blk t).view.read (Elt Ideal) (arr10 V c) := by
  have e := idx10 t
  show (cfg10.win 2).cut (grid10.coords t) ((dat10 V c).after 2 t) = _
  rw [after10_2, out10]
  funext y
  obtain ⟨r, s, rfl⟩ := of2 y
  rw [View.read_apply]
  show k10_pay1 (iblk10 V c 0 t) (iblk10 V c 1 t) (ix2 r s) = arr10 V c _
  rw [pay10, show ((cfg10.win 2).blk t).view.emb (ix2 r s) = ix2 (row10 t r) (col10 t s) from
    ext2 (by show win10_2.index t 0 * 2176 + 1 * r.val = (row10 t r).val; dsimp only [row10]; omega)
      (by show win10_2.index t 1 * 512 + 1 * s.val = (col10 t s).val; dsimp only [col10]; omega)]
  exact Finset.sum_congr rfl fun x _ => congrArg₂ (fun p q : EReal => p * q) (blk10_0 V c t r x) (blk10_1 V c t s x)

theorem final10 : (dat10 V c).arrAt 2 cfg10.N = arr10 V c :=
  (dat10 V c).arrAt_eq_of_cover 2 (arr10 V c) (flushed10 V c) fun i : S2176x1024.Idx => by
    obtain ⟨h0, h1⟩ := below2 i
    obtain ⟨t, ht⟩ : ∃ t : Fin cfg10.N, t.val = (i 1).val / 512 := ⟨⟨_, by rw [show cfg10.N = 2 from N_10]; omega⟩, rfl⟩
    have e := idx10 t
    refine ⟨t, flush10_2 t, ?_⟩
    show i ∈ ((View.whole main_v10).slice (win10_2.rect t)).set
    rw [View.set_slice_whole, Rect.mem_set_unit]
    exact cover2 (win10_2.index t) 2176 512 i (by omega)

end Cert.Kernel10Ideal.Merge
-- ==== Proof.Merge.Products.lean ====
/- The projection out and its gradients: what each of the three calls leaves. -/
module

public import proofs.«01_k».proof.Proof.Common.Idx
public import proofs.«01_k».proof.Proof.Gen.Kernel10Ideal.Frame
public import proofs.«01_k».proof.Proof.Merge.Math

@[expose] public noncomputable section

set_option maxRecDepth 16384

namespace Cert.Kernel10Ideal.Merge

open Cert.Kernel10Ideal Cert.Kernel10Ideal.Gen Idealize.ShloMosaic Idealize.ShloMosaic.TcCoe Idealize.SL.Sem Cert.Idx

variable (V : (c : Dev nD) → (b : Ref sig .tc) → Buf (Elt Ideal) ((c : Thread nD τ).loc b)) (c : Dev nD)

/-! ## The projection out -/

theorem lt4 (t : Fin cfg4.N) : t.val < 4 := lt_of_lt_of_eq t.isLt N_4

theorem idx4 : ∀ t : Fin grid4.N,
    win4_0.index t 0 = 0 ∧ win4_0.index t 1 = 0 ∧ win4_1.index t 0 = 0 ∧
    win4_1.index t 1 = t.val ∧ win4_2.index t 0 = 0 ∧ win4_2.index t 1 = t.val := by decide +kernel

/-- The row and the column of the product at row `r`, column `s` of a point's block. -/
abbrev row4 (t : Fin cfg4.N) (r : Fin 2176) : Fin 2176 := r
abbrev col4 (t : Fin cfg4.N) (s : Fin 512) : Fin 2048 := ⟨512 * (t.val) + s.val, by have := lt4 t; omega⟩

theorem blk4_0 (t : Fin cfg4.N) (r : Fin 2176) (x : Fin 2048) :
    (iblk4 V c 0 t : Vec Ideal S2176x2048 .bf16) (ix2 r x) = V c main_v3 (ix2 (row4 t r) x) := by
  have e := idx4 t
  exact congrArg (V c main_v3) (ext2 (by show win4_0.index t 0 * 2176 + 1 * r.val = (row4 t r).val; dsimp only [row4, col4]; omega) (by show win4_0.index t 1 * 2048 + 1 * x.val = x.val; omega))

theorem blk4_1 (t : Fin cfg4.N) (x : Fin 2048) (s : Fin 512) :
    (iblk4 V c 1 t : Vec Ideal S2048x512 .bf16) (ix2 x s) = V c main_arg5 (ix2 x (col4 t s)) := by
  have e := idx4 t
  exact congrArg (V c main_arg5) (ext2 (by show win4_1.index t 0 * 2048 + 1 * x.val = x.val; omega) (by show win4_1.index t 1 * 512 + 1 * s.val = (col4 t s).val; dsimp only [row4, col4]; omega))

theorem pay4 (a : Vec Ideal S2176x2048 .bf16) (b : Vec Ideal S2048x512 .bf16) (r : Fin 2176) (s : Fin 512) :
    k4_pay1 a b (ix2 r s) = ∑ x : Fin 2048, (a (ix2 r x) : EReal) * b (ix2 x s) := by
  unfold k4_pay1
  pointwise [dot_S2176x2048_S2048x512_S2176x512_1_0_0_1_n_n]

theorem out4 (t : Fin cfg4.N) : outsAt4 V c t = k4_pay1 (iblk4 V c 0 t) (iblk4 V c 1 t) := by
  unfold outsAt4 out4_A_2
  rw [View.read_writes_eq_canon]; swap
  · intro y; apply cover4_A_2
  unfold kernelRun4_A; dsimp only; sl_unfold_words
  rw [View.canon_unit_zero zero2]
  simp only [View.readAt_eq_ld, (hs4_0 t).read_unread, (hs4_1 t).read_unread, ld2]

/-- The product the region leaves. -/
def arr4 : Buf (Elt Ideal) ((c : Thread nD τ).loc main_v4) := Product.nn (m := 2176) (k := 2048) (n := 2048) (V c main_v3) (V c main_arg5)

theorem flushed4 (t : Fin cfg4.N) (hf : (cfg4.win 2).flush t = true) :
    (dat4 V c).flushed 2 t = ((cfg4.win 2).blk t).view.read (Elt Ideal) (arr4 V c) := by
  have e := idx4 t
  show (cfg4.win 2).cut (grid4.coords t) ((dat4 V c).after 2 t) = _
  rw [after4_2, out4]
  funext y
  obtain ⟨r, s, rfl⟩ := of2 y
  rw [View.read_apply]
  show k4_pay1 (iblk4 V c 0 t) (iblk4 V c 1 t) (ix2 r s) = arr4 V c _
  rw [pay4, show ((cfg4.win 2).blk t).view.emb (ix2 r s) = ix2 (row4 t r) (col4 t s) from
    ext2 (by show win4_2.index t 0 * 2176 + 1 * r.val = (row4 t r).val; dsimp only [row4]; omega)
      (by show win4_2.index t 1 * 512 + 1 * s.val = (col4 t s).val; dsimp only [col4]; omega)]
  exact Finset.sum_congr rfl fun x _ => congrArg₂ (fun p q : EReal => p * q) (blk4_0 V c t r x) (blk4_1 V c t x s)

theorem final4 : (dat4 V c).arrAt 2 cfg4.N = arr4 V c :=
  (dat4 V c).arrAt_eq_of_cover 2 (arr4 V c) (flushed4 V c) fun i : S2176x2048.Idx => by
    obtain ⟨h0, h1⟩ := below2 i
    obtain ⟨t, ht⟩ : ∃ t : Fin cfg4.N, t.val = (i 1).val / 512 := ⟨⟨_, by rw [show cfg4.N = 4 from N_4]; omega⟩, rfl⟩
    have e := idx4 t
    refine ⟨t, flush4_2 t, ?_⟩
    show i ∈ ((View.whole main_v4).slice (win4_2.rect t)).set
    rw [View.set_slice_whole, Rect.mem_set_unit]
    exact cover2 (win4_2.index t) 2176 512 i (by omega)

/-! ## The gradient of the sum -/

theorem lt5 (t : Fin cfg5.N) : t.val < 4 := lt_of_lt_of_eq t.isLt N_5

theorem idx5 : ∀ t : Fin grid5.N,
    win5_0.index t 0 = 0 ∧ win5_0.index t 1 = 0 ∧ win5_1.index t 0 = t.val ∧
    win5_1.index t 1 = 0 ∧ win5_2.index t 0 = 0 ∧ win5_2.index t 1 = t.val := by decide +kernel

/-- The row and the column of the product at row `r`, column `s` of a point's block. -/
abbrev row5 (t : Fin cfg5.N) (r : Fin 2176) : Fin 2176 := r
abbrev col5 (t : Fin cfg5.N) (s : Fin 512) : Fin 2048 := ⟨512 * (t.val) + s.val, by have := lt5 t; omega⟩

theorem blk5_0 (t : Fin cfg5.N) (r : Fin 2176) (x : Fin 2048) :
    (iblk5 V c 0 t : Vec Ideal S2176x2048 .bf16) (ix2 r x) = V c main_arg6 (ix2 (row5 t r) x) := by
  have e := idx5 t
  exact congrArg (V c main_arg6) (ext2 (by show win5_0.index t 0 * 2176 + 1 * r.val = (row5 t r).val; dsimp only [row5, col5]; omega) (by show win5_0.index t 1 * 2048 + 1 * x.val = x.val; omega))

theorem blk5_1 (t : Fin cfg5.N) (s : Fin 512) (x : Fin 2048) :
    (iblk5 V c 1 t : Vec Ideal S512x2048 .bf16) (ix2 s x) = V c main_arg5 (ix2 (col5 t s) x) := by
  have e := idx5 t
  exact congrArg (V c main_arg5) (ext2 (by show win5_1.index t 0 * 512 + 1 * s.val = (col5 t s).val; dsimp only [row5, col5]; omega) (by show win5_1.index t 1 * 2048 + 1 * x.val = x.val; omega))

theorem pay5 (a : Vec Ideal S2176x2048 .bf16) (b : Vec Ideal S512x2048 .bf16) (r : Fin 2176) (s : Fin 512) :
    k5_pay1 a b (ix2 r s) = ∑ x : Fin 2048, (a (ix2 r x) : EReal) * b (ix2 s x) := by
  unfold k5_pay1
  pointwise [dot_S2176x2048_S512x2048_S2176x512_1_1_0_0_n_n]

theorem out5 (t : Fin cfg5.N) : outsAt5 V c t = k5_pay1 (iblk5 V c 0 t) (iblk5 V c 1 t) := by
  unfold outsAt5 out5_A_2
  rw [View.read_writes_eq_canon]; swap
  · intro y; apply cover5_A_2
  unfold kernelRun5_A; dsimp only; sl_unfold_words
  rw [View.canon_unit_zero zero2]
  simp only [View.readAt_eq_ld, (hs5_0 t).read_unread, (hs5_1 t).read_unread, ld2]

/-- The product the region leaves. -/
def arr5 : Buf (Elt Ideal) ((c : Thread nD τ).loc main_v5) := Product.nt (m := 2176) (k := 2048) (n := 2048) (V c main_arg6) (V c main_arg5)

theorem flushed5 (t : Fin cfg5.N) (hf : (cfg5.win 2).flush t = true) :
    (dat5 V c).flushed 2 t = ((cfg5.win 2).blk t).view.read (Elt Ideal) (arr5 V c) := by
  have e := idx5 t
  show (cfg5.win 2).cut (grid5.coords t) ((dat5 V c).after 2 t) = _
  rw [after5_2, out5]
  funext y
  obtain ⟨r, s, rfl⟩ := of2 y
  rw [View.read_apply]
  show k5_pay1 (iblk5 V c 0 t) (iblk5 V c 1 t) (ix2 r s) = arr5 V c _
  rw [pay5, show ((cfg5.win 2).blk t).view.emb (ix2 r s) = ix2 (row5 t r) (col5 t s) from
    ext2 (by show win5_2.index t 0 * 2176 + 1 * r.val = (row5 t r).val; dsimp only [row5]; omega)
      (by show win5_2.index t 1 * 512 + 1 * s.val = (col5 t s).val; dsimp only [col5]; omega)]
  exact Finset.sum_congr rfl fun x _ => congrArg₂ (fun p q : EReal => p * q) (blk5_0 V c t r x) (blk5_1 V c t s x)

theorem final5 : (dat5 V c).arrAt 2 cfg5.N = arr5 V c :=
  (dat5 V c).arrAt_eq_of_cover 2 (arr5 V c) (flushed5 V c) fun i : S2176x2048.Idx => by
    obtain ⟨h0, h1⟩ := below2 i
    obtain ⟨t, ht⟩ : ∃ t : Fin cfg5.N, t.val = (i 1).val / 512 := ⟨⟨_, by rw [show cfg5.N = 4 from N_5]; omega⟩, rfl⟩
    have e := idx5 t
    refine ⟨t, flush5_2 t, ?_⟩
    show i ∈ ((View.whole main_v5).slice (win5_2.rect t)).set
    rw [View.set_slice_whole, Rect.mem_set_unit]
    exact cover2 (win5_2.index t) 2176 512 i (by omega)

/-! ## The gradient of the weights out -/

theorem lt6 (t : Fin cfg6.N) : t.val < 4 := lt_of_lt_of_eq t.isLt N_6

theorem idx6 : ∀ t : Fin grid6.N,
    win6_0.index t 0 = 0 ∧ win6_0.index t 1 = 0 ∧ win6_1.index t 0 = 0 ∧
    win6_1.index t 1 = t.val ∧ win6_2.index t 0 = 0 ∧ win6_2.index t 1 = t.val := by decide +kernel

/-- The row and the column of the product at row `r`, column `s` of a point's block. -/
abbrev row6 (t : Fin cfg6.N) (r : Fin 2048) : Fin 2048 := r
abbrev col6 (t : Fin cfg6.N) (s : Fin 512) : Fin 2048 := ⟨512 * (t.val) + s.val, by have := lt6 t; omega⟩

theorem blk6_0 (t : Fin cfg6.N) (x : Fin 2176) (r : Fin 2048) :
    (iblk6 V c 0 t : Vec Ideal S2176x2048 .bf16) (ix2 x r) = V c main_v3 (ix2 x (row6 t r)) := by
  have e := idx6 t
  exact congrArg (V c main_v3) (ext2 (by show win6_0.index t 0 * 2176 + 1 * x.val = x.val; omega) (by show win6_0.index t 1 * 2048 + 1 * r.val = (row6 t r).val; dsimp only [row6, col6]; omega))

theorem blk6_1 (t : Fin cfg6.N) (x : Fin 2176) (s : Fin 512) :
    (iblk6 V c 1 t : Vec Ideal S2176x512 .bf16) (ix2 x s) = V c main_arg6 (ix2 x (col6 t s)) := by
  have e := idx6 t
  exact congrArg (V c main_arg6) (ext2 (by show win6_1.index t 0 * 2176 + 1 * x.val = x.val; omega) (by show win6_1.index t 1 * 512 + 1 * s.val = (col6 t s).val; dsimp only [row6, col6]; omega))

theorem pay6 (a : Vec Ideal S2176x2048 .bf16) (b : Vec Ideal S2176x512 .bf16) (r : Fin 2048) (s : Fin 512) :
    k6_pay1 a b (ix2 r s) = ∑ x : Fin 2176, (a (ix2 x r) : EReal) * b (ix2 x s) := by
  unfold k6_pay1
  pointwise [dot_S2176x2048_S2176x512_S2048x512_0_0_1_1_n_n]

theorem out6 (t : Fin cfg6.N) : outsAt6 V c t = k6_pay1 (iblk6 V c 0 t) (iblk6 V c 1 t) := by
  unfold outsAt6 out6_A_2
  rw [View.read_writes_eq_canon]; swap
  · intro y; apply cover6_A_2
  unfold kernelRun6_A; dsimp only; sl_unfold_words
  rw [View.canon_unit_zero zero2]
  simp only [View.readAt_eq_ld, (hs6_0 t).read_unread, (hs6_1 t).read_unread, ld2]

/-- The product the region leaves. -/
def arr6 : Buf (Elt Ideal) ((c : Thread nD τ).loc main_v6) := Product.tn (m := 2048) (k := 2176) (n := 2048) (V c main_v3) (V c main_arg6)

theorem flushed6 (t : Fin cfg6.N) (hf : (cfg6.win 2).flush t = true) :
    (dat6 V c).flushed 2 t = ((cfg6.win 2).blk t).view.read (Elt Ideal) (arr6 V c) := by
  have e := idx6 t
  show (cfg6.win 2).cut (grid6.coords t) ((dat6 V c).after 2 t) = _
  rw [after6_2, out6]
  funext y
  obtain ⟨r, s, rfl⟩ := of2 y
  rw [View.read_apply]
  show k6_pay1 (iblk6 V c 0 t) (iblk6 V c 1 t) (ix2 r s) = arr6 V c _
  rw [pay6, show ((cfg6.win 2).blk t).view.emb (ix2 r s) = ix2 (row6 t r) (col6 t s) from
    ext2 (by show win6_2.index t 0 * 2048 + 1 * r.val = (row6 t r).val; dsimp only [row6]; omega)
      (by show win6_2.index t 1 * 512 + 1 * s.val = (col6 t s).val; dsimp only [col6]; omega)]
  exact Finset.sum_congr rfl fun x _ => congrArg₂ (fun p q : EReal => p * q) (blk6_0 V c t x r) (blk6_1 V c t x s)

theorem final6 : (dat6 V c).arrAt 2 cfg6.N = arr6 V c :=
  (dat6 V c).arrAt_eq_of_cover 2 (arr6 V c) (flushed6 V c) fun i : S2048x2048.Idx => by
    obtain ⟨h0, h1⟩ := below2 i
    obtain ⟨t, ht⟩ : ∃ t : Fin cfg6.N, t.val = (i 1).val / 512 := ⟨⟨_, by rw [show cfg6.N = 4 from N_6]; omega⟩, rfl⟩
    have e := idx6 t
    refine ⟨t, flush6_2 t, ?_⟩
    show i ∈ ((View.whole main_v6).slice (win6_2.rect t)).set
    rw [View.set_slice_whole, Rect.mem_set_unit]
    exact cover2 (win6_2.index t) 2048 512 i (by omega)

end Cert.Kernel10Ideal.Merge
-- ==== Proof.Merge.Gate.lean ====
/- The gated sum of the branches and its gradients: what the two calls that go block by block leave. -/
module

public import proofs.«01_k».proof.Proof.Common.Idx
public import proofs.«01_k».proof.Proof.Merge.Products

@[expose] public noncomputable section

set_option maxRecDepth 16384

namespace Cert.Kernel10Ideal.Merge

open Cert.Kernel10Ideal Cert.Kernel10Ideal.Gen Idealize.ShloMosaic Idealize.ShloMosaic.TcCoe Idealize.SL.Sem Cert.Idx

variable (V : (c : Dev nD) → (b : Ref sig .tc) → Buf (Elt Ideal) ((c : Thread nD τ).loc b)) (c : Dev nD)

/-! ## The gated sum -/

theorem lt3 (t : Fin cfg3.N) : t.val < 68 := lt_of_lt_of_eq t.isLt N_3

theorem idx3_0 : ∀ t : Fin grid3.N, win3_0.index t 0 = t.val % 17 ∧ win3_0.index t 1 = t.val / 17 := by decide +kernel

theorem idx3_1 : ∀ t : Fin grid3.N, win3_1.index t 0 = t.val % 17 ∧ win3_1.index t 1 = 4 + t.val / 17 := by decide +kernel

theorem idx3_2 : ∀ t : Fin grid3.N, win3_2.index t 0 = t.val % 17 ∧ win3_2.index t 1 = 8 + t.val / 17 := by decide +kernel

theorem idx3_3 : ∀ t : Fin grid3.N, win3_3.index t 0 = t.val % 17 ∧ win3_3.index t 1 = t.val / 17 := by decide +kernel

theorem idx3_4 : ∀ t : Fin grid3.N, win3_4.index t 0 = t.val % 17 ∧ win3_4.index t 1 = t.val / 17 := by decide +kernel

theorem idx3_5 : ∀ t : Fin grid3.N, win3_5.index t 0 = t.val % 17 ∧ win3_5.index t 1 = t.val / 17 := by decide +kernel

theorem idx3_6 : ∀ t : Fin grid3.N, win3_6.index t 0 = t.val % 17 ∧ win3_6.index t 1 = t.val / 17 := by decide +kernel

abbrev row3 (t : Fin cfg3.N) (r : Fin 128) : Fin 2176 := ⟨128 * (t.val % 17) + r.val, by have := lt3 t; omega⟩
abbrev col3 (t : Fin cfg3.N) (s : Fin 512) : Fin 2048 := ⟨512 * (t.val / 17) + s.val, by have := lt3 t; omega⟩

theorem blk3_0 (t : Fin cfg3.N) (r : Fin 128) (s : Fin 512) :
    (iblk3 V c 0 t : Vec Ideal S128x512 .f32) (ix2 r s) = Merging.gate 0 (V c main_arg0) (ix2 (row3 t r) (col3 t s)) := by
  have e := idx3_0 t
  exact congrArg (V c main_arg0) (ext2 (by show win3_0.index t 0 * 128 + 1 * r.val = 128 * (t.val % 17) + r.val; omega) (by show win3_0.index t 1 * 512 + 1 * s.val = 2048 * 0 + (512 * (t.val / 17) + s.val); omega))

theorem blk3_1 (t : Fin cfg3.N) (r : Fin 128) (s : Fin 512) :
    (iblk3 V c 1 t : Vec Ideal S128x512 .f32) (ix2 r s) = Merging.gate 1 (V c main_arg0) (ix2 (row3 t r) (col3 t s)) := by
  have e := idx3_1 t
  exact congrArg (V c main_arg0) (ext2 (by show win3_1.index t 0 * 128 + 1 * r.val = 128 * (t.val % 17) + r.val; omega) (by show win3_1.index t 1 * 512 + 1 * s.val = 2048 * 1 + (512 * (t.val / 17) + s.val); omega))

theorem blk3_2 (t : Fin cfg3.N) (r : Fin 128) (s : Fin 512) :
    (iblk3 V c 2 t : Vec Ideal S128x512 .f32) (ix2 r s) = Merging.gate 2 (V c main_arg0) (ix2 (row3 t r) (col3 t s)) := by
  have e := idx3_2 t
  exact congrArg (V c main_arg0) (ext2 (by show win3_2.index t 0 * 128 + 1 * r.val = 128 * (t.val % 17) + r.val; omega) (by show win3_2.index t 1 * 512 + 1 * s.val = 2048 * 2 + (512 * (t.val / 17) + s.val); omega))

theorem blk3_3 (t : Fin cfg3.N) (r : Fin 128) (s : Fin 512) :
    (iblk3 V c 3 t : Vec Ideal S128x512 .f32) (ix2 r s) = V c main_v0 (ix2 (row3 t r) (col3 t s)) := by
  have e := idx3_3 t
  exact congrArg (V c main_v0) (ext2 (by show win3_3.index t 0 * 128 + 1 * r.val = 128 * (t.val % 17) + r.val; omega) (by show win3_3.index t 1 * 512 + 1 * s.val = 512 * (t.val / 17) + s.val; omega))

theorem blk3_4 (t : Fin cfg3.N) (r : Fin 128) (s : Fin 512) :
    (iblk3 V c 4 t : Vec Ideal S128x512 .f32) (ix2 r s) = V c main_v1 (ix2 (row3 t r) (col3 t s)) := by
  have e := idx3_4 t
  exact congrArg (V c main_v1) (ext2 (by show win3_4.index t 0 * 128 + 1 * r.val = 128 * (t.val % 17) + r.val; omega) (by show win3_4.index t 1 * 512 + 1 * s.val = 512 * (t.val / 17) + s.val; omega))

theorem blk3_5 (t : Fin cfg3.N) (r : Fin 128) (s : Fin 512) :
    (iblk3 V c 5 t : Vec Ideal S128x512 .f32) (ix2 r s) = V c main_v2 (ix2 (row3 t r) (col3 t s)) := by
  have e := idx3_5 t
  exact congrArg (V c main_v2) (ext2 (by show win3_5.index t 0 * 128 + 1 * r.val = 128 * (t.val % 17) + r.val; omega) (by show win3_5.index t 1 * 512 + 1 * s.val = 512 * (t.val / 17) + s.val; omega))

theorem pay3_6 (x0 x1 x2 x3 x4 x5 : Vec Ideal S128x512 .f32) (r : Fin 128) (s : Fin 512) :
    k3_pay1 x0 x1 x2 x3 x4 x5 (ix2 r s) = Ideal.logistic (x0 (ix2 r s) : EReal) * (x3 (ix2 r s) : EReal) + Ideal.logistic (x1 (ix2 r s) : EReal) * (x4 (ix2 r s) : EReal) + Ideal.logistic (x2 (ix2 r s) : EReal) * (x5 (ix2 r s) : EReal) := by
  unfold k3_pay1
  pointwise

theorem out3_6_eq (x0 x1 x2 x3 x4 x5 : Vec Ideal S128x512 .f32) : out3_6 x0 x1 x2 x3 x4 x5 = k3_pay1 x0 x1 x2 x3 x4 x5 := by
  unfold out3_6
  rw [View.canon_unit_zero zero2]
  simp only [View.ld_unit_zero (S := S128x512) zero2]

def arr3_6 : Merging.Rows := Merging.sum (V c main_arg0) (V c main_v0) (V c main_v1) (V c main_v2)

theorem flushed3_6 (t : Fin cfg3.N) (hf : (cfg3.win 6).flush t = true) :
    (dat3 V c).flushed 6 t = ((cfg3.win 6).blk t).view.read (Elt Ideal) (arr3_6 V c) := by
  have e := idx3_6 t
  show (cfg3.win 6).cut (grid3.coords t) ((dat3 V c).after 6 t) = _
  rw [after3_6, out3_6_eq]
  funext y
  obtain ⟨r, s, rfl⟩ := of2 y
  rw [View.read_apply]
  show k3_pay1 (iblk3 V c 0 t) (iblk3 V c 1 t) (iblk3 V c 2 t) (iblk3 V c 3 t) (iblk3 V c 4 t) (iblk3 V c 5 t) (ix2 r s) = arr3_6 V c _
  rw [pay3_6, show ((cfg3.win 6).blk t).view.emb (ix2 r s) = ix2 (row3 t r) (col3 t s) from
    ext2 (by show win3_6.index t 0 * 128 + 1 * r.val = 128 * (t.val % 17) + r.val; omega)
      (by show win3_6.index t 1 * 512 + 1 * s.val = 512 * (t.val / 17) + s.val; omega)]
  rw [blk3_0 V c t r s, blk3_1 V c t r s, blk3_2 V c t r s, blk3_3 V c t r s, blk3_4 V c t r s, blk3_5 V c t r s]
  rfl

theorem final3_6 : (dat3 V c).arrAt 6 cfg3.N = arr3_6 V c :=
  (dat3 V c).arrAt_eq_of_cover 6 (arr3_6 V c) (flushed3_6 V c) fun i : S2176x2048.Idx => by
    obtain ⟨h0, h1⟩ := below2 i
    obtain ⟨t, ht⟩ : ∃ t : Fin cfg3.N, t.val = 17 * ((i 1).val / 512) + (i 0).val / 128 := ⟨⟨_, by rw [show cfg3.N = 68 from N_3]; omega⟩, rfl⟩
    have e := idx3_6 t
    refine ⟨t, flush3_6 t, ?_⟩
    show i ∈ ((View.whole main_v3).slice (win3_6.rect t)).set
    rw [View.set_slice_whole, Rect.mem_set_unit]
    exact cover2 (win3_6.index t) 128 512 i (by omega)

/-! ## The gradients of the gates and of the projected branches -/

theorem lt7 (t : Fin cfg7.N) : t.val < 68 := lt_of_lt_of_eq t.isLt N_7

theorem idx7_0 : ∀ t : Fin grid7.N, win7_0.index t 0 = t.val % 17 ∧ win7_0.index t 1 = t.val / 17 := by decide +kernel

theorem idx7_1 : ∀ t : Fin grid7.N, win7_1.index t 0 = t.val % 17 ∧ win7_1.index t 1 = 4 + t.val / 17 := by decide +kernel

theorem idx7_2 : ∀ t : Fin grid7.N, win7_2.index t 0 = t.val % 17 ∧ win7_2.index t 1 = 8 + t.val / 17 := by decide +kernel

theorem idx7_3 : ∀ t : Fin grid7.N, win7_3.index t 0 = t.val % 17 ∧ win7_3.index t 1 = t.val / 17 := by decide +kernel

theorem idx7_4 : ∀ t : Fin grid7.N, win7_4.index t 0 = t.val % 17 ∧ win7_4.index t 1 = t.val / 17 := by decide +kernel

theorem idx7_5 : ∀ t : Fin grid7.N, win7_5.index t 0 = t.val % 17 ∧ win7_5.index t 1 = t.val / 17 := by decide +kernel

theorem idx7_6 : ∀ t : Fin grid7.N, win7_6.index t 0 = t.val % 17 ∧ win7_6.index t 1 = t.val / 17 := by decide +kernel

theorem idx7_7 : ∀ t : Fin grid7.N, win7_7.index t 0 = t.val % 17 ∧ win7_7.index t 1 = t.val / 17 := by decide +kernel

theorem idx7_8 : ∀ t : Fin grid7.N, win7_8.index t 0 = t.val % 17 ∧ win7_8.index t 1 = t.val / 17 := by decide +kernel

theorem idx7_9 : ∀ t : Fin grid7.N, win7_9.index t 0 = t.val % 17 ∧ win7_9.index t 1 = t.val / 17 := by decide +kernel

theorem idx7_10 : ∀ t : Fin grid7.N, win7_10.index t 0 = t.val % 17 ∧ win7_10.index t 1 = t.val / 17 := by decide +kernel

theorem idx7_11 : ∀ t : Fin grid7.N, win7_11.index t 0 = t.val % 17 ∧ win7_11.index t 1 = t.val / 17 := by decide +kernel

theorem idx7_12 : ∀ t : Fin grid7.N, win7_12.index t 0 = t.val % 17 ∧ win7_12.index t 1 = t.val / 17 := by decide +kernel

abbrev row7 (t : Fin cfg7.N) (r : Fin 128) : Fin 2176 := ⟨128 * (t.val % 17) + r.val, by have := lt7 t; omega⟩
abbrev col7 (t : Fin cfg7.N) (s : Fin 512) : Fin 2048 := ⟨512 * (t.val / 17) + s.val, by have := lt7 t; omega⟩

theorem blk7_0 (t : Fin cfg7.N) (r : Fin 128) (s : Fin 512) :
    (iblk7 V c 0 t : Vec Ideal S128x512 .f32) (ix2 r s) = Merging.gate 0 (V c main_arg0) (ix2 (row7 t r) (col7 t s)) := by
  have e := idx7_0 t
  exact congrArg (V c main_arg0) (ext2 (by show win7_0.index t 0 * 128 + 1 * r.val = 128 * (t.val % 17) + r.val; omega) (by show win7_0.index t 1 * 512 + 1 * s.val = 2048 * 0 + (512 * (t.val / 17) + s.val); omega))

theorem blk7_1 (t : Fin cfg7.N) (r : Fin 128) (s : Fin 512) :
    (iblk7 V c 1 t : Vec Ideal S128x512 .f32) (ix2 r s) = Merging.gate 1 (V c main_arg0) (ix2 (row7 t r) (col7 t s)) := by
  have e := idx7_1 t
  exact congrArg (V c main_arg0) (ext2 (by show win7_1.index t 0 * 128 + 1 * r.val = 128 * (t.val % 17) + r.val; omega) (by show win7_1.index t 1 * 512 + 1 * s.val = 2048 * 1 + (512 * (t.val / 17) + s.val); omega))

theorem blk7_2 (t : Fin cfg7.N) (r : Fin 128) (s : Fin 512) :
    (iblk7 V c 2 t : Vec Ideal S128x512 .f32) (ix2 r s) = Merging.gate 2 (V c main_arg0) (ix2 (row7 t r) (col7 t s)) := by
  have e := idx7_2 t
  exact congrArg (V c main_arg0) (ext2 (by show win7_2.index t 0 * 128 + 1 * r.val = 128 * (t.val % 17) + r.val; omega) (by show win7_2.index t 1 * 512 + 1 * s.val = 2048 * 2 + (512 * (t.val / 17) + s.val); omega))

theorem blk7_3 (t : Fin cfg7.N) (r : Fin 128) (s : Fin 512) :
    (iblk7 V c 3 t : Vec Ideal S128x512 .f32) (ix2 r s) = V c main_v0 (ix2 (row7 t r) (col7 t s)) := by
  have e := idx7_3 t
  exact congrArg (V c main_v0) (ext2 (by show win7_3.index t 0 * 128 + 1 * r.val = 128 * (t.val % 17) + r.val; omega) (by show win7_3.index t 1 * 512 + 1 * s.val = 512 * (t.val / 17) + s.val; omega))

theorem blk7_4 (t : Fin cfg7.N) (r : Fin 128) (s : Fin 512) :
    (iblk7 V c 4 t : Vec Ideal S128x512 .f32) (ix2 r s) = V c main_v1 (ix2 (row7 t r) (col7 t s)) := by
  have e := idx7_4 t
  exact congrArg (V c main_v1) (ext2 (by show win7_4.index t 0 * 128 + 1 * r.val = 128 * (t.val % 17) + r.val; omega) (by show win7_4.index t 1 * 512 + 1 * s.val = 512 * (t.val / 17) + s.val; omega))

theorem blk7_5 (t : Fin cfg7.N) (r : Fin 128) (s : Fin 512) :
    (iblk7 V c 5 t : Vec Ideal S128x512 .f32) (ix2 r s) = V c main_v2 (ix2 (row7 t r) (col7 t s)) := by
  have e := idx7_5 t
  exact congrArg (V c main_v2) (ext2 (by show win7_5.index t 0 * 128 + 1 * r.val = 128 * (t.val % 17) + r.val; omega) (by show win7_5.index t 1 * 512 + 1 * s.val = 512 * (t.val / 17) + s.val; omega))

theorem blk7_6 (t : Fin cfg7.N) (r : Fin 128) (s : Fin 512) :
    (iblk7 V c 6 t : Vec Ideal S128x512 .f32) (ix2 r s) = V c main_v5 (ix2 (row7 t r) (col7 t s)) := by
  have e := idx7_6 t
  exact congrArg (V c main_v5) (ext2 (by show win7_6.index t 0 * 128 + 1 * r.val = 128 * (t.val % 17) + r.val; omega) (by show win7_6.index t 1 * 512 + 1 * s.val = 512 * (t.val / 17) + s.val; omega))

theorem pay7_7 (x0 x3 x6 : Vec Ideal S128x512 .f32) (r : Fin 128) (s : Fin 512) :
    k7_pay13 x0 x3 x6 (ix2 r s) = (x6 (ix2 r s) : EReal) * (x3 (ix2 r s) : EReal) * (Ideal.logistic (x0 (ix2 r s) : EReal) * (1 - Ideal.logistic (x0 (ix2 r s) : EReal))) := by
  unfold k7_pay13 k7_pay6 k7_pay5
  pointwise

theorem out7_7_eq (x0 x1 x2 x3 x4 x5 x6 : Vec Ideal S128x512 .f32) : out7_7 x0 x1 x2 x3 x4 x5 x6 = k7_pay13 x0 x3 x6 := by
  unfold out7_7
  rw [View.canon_unit_zero zero2]
  simp only [View.ld_unit_zero (S := S128x512) zero2]

def arr7_7 : Merging.Rows := Merging.dgate 0 (V c main_arg0) (V c main_v0) (V c main_v5)

theorem flushed7_7 (t : Fin cfg7.N) (hf : (cfg7.win 7).flush t = true) :
    (dat7 V c).flushed 7 t = ((cfg7.win 7).blk t).view.read (Elt Ideal) (arr7_7 V c) := by
  have e := idx7_7 t
  show (cfg7.win 7).cut (grid7.coords t) ((dat7 V c).after 7 t) = _
  rw [after7_7, out7_7_eq]
  funext y
  obtain ⟨r, s, rfl⟩ := of2 y
  rw [View.read_apply]
  show k7_pay13 (iblk7 V c 0 t) (iblk7 V c 3 t) (iblk7 V c 6 t) (ix2 r s) = arr7_7 V c _
  rw [pay7_7, show ((cfg7.win 7).blk t).view.emb (ix2 r s) = ix2 (row7 t r) (col7 t s) from
    ext2 (by show win7_7.index t 0 * 128 + 1 * r.val = 128 * (t.val % 17) + r.val; omega)
      (by show win7_7.index t 1 * 512 + 1 * s.val = 512 * (t.val / 17) + s.val; omega)]
  rw [blk7_0 V c t r s, blk7_3 V c t r s, blk7_6 V c t r s]
  rfl

theorem final7_7 : (dat7 V c).arrAt 7 cfg7.N = arr7_7 V c :=
  (dat7 V c).arrAt_eq_of_cover 7 (arr7_7 V c) (flushed7_7 V c) fun i : S2176x2048.Idx => by
    obtain ⟨h0, h1⟩ := below2 i
    obtain ⟨t, ht⟩ : ∃ t : Fin cfg7.N, t.val = 17 * ((i 1).val / 512) + (i 0).val / 128 := ⟨⟨_, by rw [show cfg7.N = 68 from N_7]; omega⟩, rfl⟩
    have e := idx7_7 t
    refine ⟨t, flush7_7 t, ?_⟩
    show i ∈ ((View.whole main_v7_0).slice (win7_7.rect t)).set
    rw [View.set_slice_whole, Rect.mem_set_unit]
    exact cover2 (win7_7.index t) 128 512 i (by omega)

theorem pay7_8 (x1 x4 x6 : Vec Ideal S128x512 .f32) (r : Fin 128) (s : Fin 512) :
    k7_pay14 x1 x4 x6 (ix2 r s) = (x6 (ix2 r s) : EReal) * (x4 (ix2 r s) : EReal) * (Ideal.logistic (x1 (ix2 r s) : EReal) * (1 - Ideal.logistic (x1 (ix2 r s) : EReal))) := by
  unfold k7_pay14 k7_pay7 k7_pay5
  pointwise

theorem out7_8_eq (x0 x1 x2 x3 x4 x5 x6 : Vec Ideal S128x512 .f32) : out7_8 x0 x1 x2 x3 x4 x5 x6 = k7_pay14 x1 x4 x6 := by
  unfold out7_8
  rw [View.canon_unit_zero zero2]
  simp only [View.ld_unit_zero (S := S128x512) zero2]

def arr7_8 : Merging.Rows := Merging.dgate 1 (V c main_arg0) (V c main_v1) (V c main_v5)

theorem flushed7_8 (t : Fin cfg7.N) (hf : (cfg7.win 8).flush t = true) :
    (dat7 V c).flushed 8 t = ((cfg7.win 8).blk t).view.read (Elt Ideal) (arr7_8 V c) := by
  have e := idx7_8 t
  show (cfg7.win 8).cut (grid7.coords t) ((dat7 V c).after 8 t) = _
  rw [after7_8, out7_8_eq]
  funext y
  obtain ⟨r, s, rfl⟩ := of2 y
  rw [View.read_apply]
  show k7_pay14 (iblk7 V c 1 t) (iblk7 V c 4 t) (iblk7 V c 6 t) (ix2 r s) = arr7_8 V c _
  rw [pay7_8, show ((cfg7.win 8).blk t).view.emb (ix2 r s) = ix2 (row7 t r) (col7 t s) from
    ext2 (by show win7_8.index t 0 * 128 + 1 * r.val = 128 * (t.val % 17) + r.val; omega)
      (by show win7_8.index t 1 * 512 + 1 * s.val = 512 * (t.val / 17) + s.val; omega)]
  rw [blk7_1 V c t r s, blk7_4 V c t r s, blk7_6 V c t r s]
  rfl

theorem final7_8 : (dat7 V c).arrAt 8 cfg7.N = arr7_8 V c :=
  (dat7 V c).arrAt_eq_of_cover 8 (arr7_8 V c) (flushed7_8 V c) fun i : S2176x2048.Idx => by
    obtain ⟨h0, h1⟩ := below2 i
    obtain ⟨t, ht⟩ : ∃ t : Fin cfg7.N, t.val = 17 * ((i 1).val / 512) + (i 0).val / 128 := ⟨⟨_, by rw [show cfg7.N = 68 from N_7]; omega⟩, rfl⟩
    have e := idx7_8 t
    refine ⟨t, flush7_8 t, ?_⟩
    show i ∈ ((View.whole main_v7_1).slice (win7_8.rect t)).set
    rw [View.set_slice_whole, Rect.mem_set_unit]
    exact cover2 (win7_8.index t) 128 512 i (by omega)

theorem pay7_9 (x2 x5 x6 : Vec Ideal S128x512 .f32) (r : Fin 128) (s : Fin 512) :
    k7_pay1 (k7_pay10 x2 x5 x6) (ix2 r s) = (x6 (ix2 r s) : EReal) * (x5 (ix2 r s) : EReal) * (Ideal.logistic (x2 (ix2 r s) : EReal) * (1 - Ideal.logistic (x2 (ix2 r s) : EReal))) := by
  unfold k7_pay1 k7_pay10 k7_pay8 k7_pay5
  pointwise

theorem out7_9_eq (x0 x1 x2 x3 x4 x5 x6 : Vec Ideal S128x512 .f32) : out7_9 x0 x1 x2 x3 x4 x5 x6 = k7_pay1 (k7_pay10 x2 x5 x6) := by
  unfold out7_9
  rw [View.canon_unit_zero zero2]
  simp only [View.ld_unit_zero (S := S128x512) zero2]

def arr7_9 : Merging.Rows := Merging.dgate 2 (V c main_arg0) (V c main_v2) (V c main_v5)

theorem flushed7_9 (t : Fin cfg7.N) (hf : (cfg7.win 9).flush t = true) :
    (dat7 V c).flushed 9 t = ((cfg7.win 9).blk t).view.read (Elt Ideal) (arr7_9 V c) := by
  have e := idx7_9 t
  show (cfg7.win 9).cut (grid7.coords t) ((dat7 V c).after 9 t) = _
  rw [after7_9, out7_9_eq]
  funext y
  obtain ⟨r, s, rfl⟩ := of2 y
  rw [View.read_apply]
  show k7_pay1 (k7_pay10 (iblk7 V c 2 t) (iblk7 V c 5 t) (iblk7 V c 6 t)) (ix2 r s) = arr7_9 V c _
  rw [pay7_9, show ((cfg7.win 9).blk t).view.emb (ix2 r s) = ix2 (row7 t r) (col7 t s) from
    ext2 (by show win7_9.index t 0 * 128 + 1 * r.val = 128 * (t.val % 17) + r.val; omega)
      (by show win7_9.index t 1 * 512 + 1 * s.val = 512 * (t.val / 17) + s.val; omega)]
  rw [blk7_2 V c t r s, blk7_5 V c t r s, blk7_6 V c t r s]
  rfl

theorem final7_9 : (dat7 V c).arrAt 9 cfg7.N = arr7_9 V c :=
  (dat7 V c).arrAt_eq_of_cover 9 (arr7_9 V c) (flushed7_9 V c) fun i : S2176x2048.Idx => by
    obtain ⟨h0, h1⟩ := below2 i
    obtain ⟨t, ht⟩ : ∃ t : Fin cfg7.N, t.val = 17 * ((i 1).val / 512) + (i 0).val / 128 := ⟨⟨_, by rw [show cfg7.N = 68 from N_7]; omega⟩, rfl⟩
    have e := idx7_9 t
    refine ⟨t, flush7_9 t, ?_⟩
    show i ∈ ((View.whole main_v7_2).slice (win7_9.rect t)).set
    rw [View.set_slice_whole, Rect.mem_set_unit]
    exact cover2 (win7_9.index t) 128 512 i (by omega)

theorem pay7_10 (x0 x6 : Vec Ideal S128x512 .f32) (r : Fin 128) (s : Fin 512) :
    k7_pay2 (k7_pay12 x0 x6) (ix2 r s) = Ideal.logistic (x0 (ix2 r s) : EReal) * (x6 (ix2 r s) : EReal) := by
  unfold k7_pay2 k7_pay12 k7_pay6 k7_pay5
  pointwise

theorem out7_10_eq (x0 x1 x2 x3 x4 x5 x6 : Vec Ideal S128x512 .f32) : out7_10 x0 x1 x2 x3 x4 x5 x6 = k7_pay2 (k7_pay12 x0 x6) := by
  unfold out7_10
  rw [View.canon_unit_zero zero2]
  simp only [View.ld_unit_zero (S := S128x512) zero2]

def arr7_10 : Merging.Rows := Merging.dy 0 (V c main_arg0) (V c main_v5)

theorem flushed7_10 (t : Fin cfg7.N) (hf : (cfg7.win 10).flush t = true) :
    (dat7 V c).flushed 10 t = ((cfg7.win 10).blk t).view.read (Elt Ideal) (arr7_10 V c) := by
  have e := idx7_10 t
  show (cfg7.win 10).cut (grid7.coords t) ((dat7 V c).after 10 t) = _
  rw [after7_10, out7_10_eq]
  funext y
  obtain ⟨r, s, rfl⟩ := of2 y
  rw [View.read_apply]
  show k7_pay2 (k7_pay12 (iblk7 V c 0 t) (iblk7 V c 6 t)) (ix2 r s) = arr7_10 V c _
  rw [pay7_10, show ((cfg7.win 10).blk t).view.emb (ix2 r s) = ix2 (row7 t r) (col7 t s) from
    ext2 (by show win7_10.index t 0 * 128 + 1 * r.val = 128 * (t.val % 17) + r.val; omega)
      (by show win7_10.index t 1 * 512 + 1 * s.val = 512 * (t.val / 17) + s.val; omega)]
  rw [blk7_0 V c t r s, blk7_6 V c t r s]
  rfl

theorem final7_10 : (dat7 V c).arrAt 10 cfg7.N = arr7_10 V c :=
  (dat7 V c).arrAt_eq_of_cover 10 (arr7_10 V c) (flushed7_10 V c) fun i : S2176x2048.Idx => by
    obtain ⟨h0, h1⟩ := below2 i
    obtain ⟨t, ht⟩ : ∃ t : Fin cfg7.N, t.val = 17 * ((i 1).val / 512) + (i 0).val / 128 := ⟨⟨_, by rw [show cfg7.N = 68 from N_7]; omega⟩, rfl⟩
    have e := idx7_10 t
    refine ⟨t, flush7_10 t, ?_⟩
    show i ∈ ((View.whole main_v7_3).slice (win7_10.rect t)).set
    rw [View.set_slice_whole, Rect.mem_set_unit]
    exact cover2 (win7_10.index t) 128 512 i (by omega)

theorem pay7_11 (x1 x6 : Vec Ideal S128x512 .f32) (r : Fin 128) (s : Fin 512) :
    k7_pay3 (k7_pay11 x1 x6) (ix2 r s) = Ideal.logistic (x1 (ix2 r s) : EReal) * (x6 (ix2 r s) : EReal) := by
  unfold k7_pay3 k7_pay11 k7_pay7 k7_pay5
  pointwise

theorem out7_11_eq (x0 x1 x2 x3 x4 x5 x6 : Vec Ideal S128x512 .f32) : out7_11 x0 x1 x2 x3 x4 x5 x6 = k7_pay3 (k7_pay11 x1 x6) := by
  unfold out7_11
  rw [View.canon_unit_zero zero2]
  simp only [View.ld_unit_zero (S := S128x512) zero2]

def arr7_11 : Merging.Rows := Merging.dy 1 (V c main_arg0) (V c main_v5)

theorem flushed7_11 (t : Fin cfg7.N) (hf : (cfg7.win 11).flush t = true) :
    (dat7 V c).flushed 11 t = ((cfg7.win 11).blk t).view.read (Elt Ideal) (arr7_11 V c) := by
  have e := idx7_11 t
  show (cfg7.win 11).cut (grid7.coords t) ((dat7 V c).after 11 t) = _
  rw [after7_11, out7_11_eq]
  funext y
  obtain ⟨r, s, rfl⟩ := of2 y
  rw [View.read_apply]
  show k7_pay3 (k7_pay11 (iblk7 V c 1 t) (iblk7 V c 6 t)) (ix2 r s) = arr7_11 V c _
  rw [pay7_11, show ((cfg7.win 11).blk t).view.emb (ix2 r s) = ix2 (row7 t r) (col7 t s) from
    ext2 (by show win7_11.index t 0 * 128 + 1 * r.val = 128 * (t.val % 17) + r.val; omega)
      (by show win7_11.index t 1 * 512 + 1 * s.val = 512 * (t.val / 17) + s.val; omega)]
  rw [blk7_1 V c t r s, blk7_6 V c t r s]
  rfl

theorem final7_11 : (dat7 V c).arrAt 11 cfg7.N = arr7_11 V c :=
  (dat7 V c).arrAt_eq_of_cover 11 (arr7_11 V c) (flushed7_11 V c) fun i : S2176x2048.Idx => by
    obtain ⟨h0, h1⟩ := below2 i
    obtain ⟨t, ht⟩ : ∃ t : Fin cfg7.N, t.val = 17 * ((i 1).val / 512) + (i 0).val / 128 := ⟨⟨_, by rw [show cfg7.N = 68 from N_7]; omega⟩, rfl⟩
    have e := idx7_11 t
    refine ⟨t, flush7_11 t, ?_⟩
    show i ∈ ((View.whole main_v7_4).slice (win7_11.rect t)).set
    rw [View.set_slice_whole, Rect.mem_set_unit]
    exact cover2 (win7_11.index t) 128 512 i (by omega)

theorem pay7_12 (x2 x6 : Vec Ideal S128x512 .f32) (r : Fin 128) (s : Fin 512) :
    k7_pay4 (k7_pay9 x2 x6) (ix2 r s) = Ideal.logistic (x2 (ix2 r s) : EReal) * (x6 (ix2 r s) : EReal) := by
  unfold k7_pay4 k7_pay9 k7_pay8 k7_pay5
  pointwise

theorem out7_12_eq (x0 x1 x2 x3 x4 x5 x6 : Vec Ideal S128x512 .f32) : out7_12 x0 x1 x2 x3 x4 x5 x6 = k7_pay4 (k7_pay9 x2 x6) := by
  unfold out7_12
  rw [View.canon_unit_zero zero2]
  simp only [View.ld_unit_zero (S := S128x512) zero2]

def arr7_12 : Merging.Rows := Merging.dy 2 (V c main_arg0) (V c main_v5)

theorem flushed7_12 (t : Fin cfg7.N) (hf : (cfg7.win 12).flush t = true) :
    (dat7 V c).flushed 12 t = ((cfg7.win 12).blk t).view.read (Elt Ideal) (arr7_12 V c) := by
  have e := idx7_12 t
  show (cfg7.win 12).cut (grid7.coords t) ((dat7 V c).after 12 t) = _
  rw [after7_12, out7_12_eq]
  funext y
  obtain ⟨r, s, rfl⟩ := of2 y
  rw [View.read_apply]
  show k7_pay4 (k7_pay9 (iblk7 V c 2 t) (iblk7 V c 6 t)) (ix2 r s) = arr7_12 V c _
  rw [pay7_12, show ((cfg7.win 12).blk t).view.emb (ix2 r s) = ix2 (row7 t r) (col7 t s) from
    ext2 (by show win7_12.index t 0 * 128 + 1 * r.val = 128 * (t.val % 17) + r.val; omega)
      (by show win7_12.index t 1 * 512 + 1 * s.val = 512 * (t.val / 17) + s.val; omega)]
  rw [blk7_2 V c t r s, blk7_6 V c t r s]
  rfl

theorem final7_12 : (dat7 V c).arrAt 12 cfg7.N = arr7_12 V c :=
  (dat7 V c).arrAt_eq_of_cover 12 (arr7_12 V c) (flushed7_12 V c) fun i : S2176x2048.Idx => by
    obtain ⟨h0, h1⟩ := below2 i
    obtain ⟨t, ht⟩ : ∃ t : Fin cfg7.N, t.val = 17 * ((i 1).val / 512) + (i 0).val / 128 := ⟨⟨_, by rw [show cfg7.N = 68 from N_7]; omega⟩, rfl⟩
    have e := idx7_12 t
    refine ⟨t, flush7_12 t, ?_⟩
    show i ∈ ((View.whole main_v7_5).slice (win7_12.rect t)).set
    rw [View.set_slice_whole, Rect.mem_set_unit]
    exact cover2 (win7_12.index t) 128 512 i (by omega)

end Cert.Kernel10Ideal.Merge
-- ==== Proof.Merge.Run.lean ====
/- The calls of the merge in turn: what each finds, and what the last one leaves. -/
module

public import proofs.«01_k».proof.Proof.Merge.Branches
public import proofs.«01_k».proof.Proof.Merge.Gate

@[expose] public noncomputable section

set_option maxRecDepth 16384

namespace Cert.Kernel10Ideal.Merge

open Cert.Kernel10Ideal Cert.Kernel10Ideal.Gen Idealize.ShloMosaic Idealize.ShloMosaic.TcCoe Idealize.SL.Sem

open Idealize.SL Idealize.SL.RA Idealize.SL.BI
open scoped Idealize.SL.BI
open Idealize.SL.BI.BIBase Idealize.SL.BI.Laws Idealize.SL.ProofMode
open Idealize.ShloMosaic.Rounds

variable {F : FTy → Type} [FloatOps F]

/-- What is said of the machine's state while the calls run. -/
local notation "Pred" => sProp (MT nD τ sig Unit (Elt F) ℕ (UR sig nD τ) ℕ)

/-- From any memory every execution ends with each buffer at the contents that follow from the calls in turn. -/
theorem reach (m : (ℓ : Loc nD τ sig) → Buf (Elt F) ℓ) (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = W11 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu
      imodintro
      isplitl [Hu]
      · iapply (show (ownU (initOf (Pipeline.cells cfgs cellOf_inj) (Pipeline.launchToks cfgs cellOf_inj)) : Pred)
          ⊢ BI.own (emb₁ (initOf (Pipeline.cells cfgs cellOf_inj) (Pipeline.launchToks cfgs cellOf_inj))) from .rfl)
        iexact Hu
      · iapply (show (BI.emp : Pred) ⊢ bigSep Finset.univ (fun _ : Dev nD => (BI.emp : Pred)) from by
          rw [BI.bigSep_emp_const])
        iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b))
        = StableHlo.held (c : Thread nD τ) (Pipeline.ucRefs τ sig) (W0 m ρ c) from Pipeline.unscopedBufs_held c (W0 m ρ c)]
      iintro ⟨⟨Hb, -, HO, -, Hr, -⟩, -⟩
      imodintro
      isplitl [Hb]
      · iexact Hb
      isplitl [Hr]
      · iexists _; iexact Hr
      · iexists ∅; iexact HO)
    (QY := fun c s => ∀ b ∈ Pipeline.ucRefs τ sig, s.mem (((c : Thread nD τ)).1, b) = W11 m ρ c b)
    (hfin := fun c s' => by
      iintro ⟨⟨Hb, -⟩, HS⟩
      unfold StableHlo.held
      imodintro
      iapply (pointsTo_read_all (Pipeline.ucRefs τ sig) (fun b => (((c : Thread nD τ)).1, b)) (W11 m ρ c) s')
      isplitl [Hb] <;> iassumption)
    (hQ := fun s h _ => h)

section Values

variable (m : (ℓ : Loc nD τ sig) → Buf (Elt Ideal) ℓ) (ρ : Dev nD → PrngReg) (c : Dev nD)

/-- The arrays: the projection that holds the gates, the branches' rows, the weights, and the gradient of the result. -/
abbrev p : S2176x13824.Idx → EReal := m ((c : Thread nD τ).loc main_arg0)
abbrev o0 : S2176x1024.Idx → EReal := m ((c : Thread nD τ).loc main_arg1)
abbrev o1 : S2176x1024.Idx → EReal := m ((c : Thread nD τ).loc main_arg2)
abbrev o2 : S2176x1024.Idx → EReal := m ((c : Thread nD τ).loc main_arg3)
abbrev w : S3x1024x2048.Idx → EReal := m ((c : Thread nD τ).loc main_arg4)
abbrev v : S2048x2048.Idx → EReal := m ((c : Thread nD τ).loc main_arg5)
abbrev d : S2176x2048.Idx → EReal := m ((c : Thread nD τ).loc main_arg6)

def y0 : Merging.Rows := Merging.y 0 (o0 m c) (w m c)

theorem at_y0 : W1 m ρ c main_v0 = y0 m c :=
  ((W1_arr m ρ c 2).trans (final0 (V0 m ρ) c))

def y1 : Merging.Rows := Merging.y 1 (o1 m c) (w m c)

theorem at_y1 : W2 m ρ c main_v1 = y1 m c :=
  ((W2_arr m ρ c 2).trans (final1 (V1 m ρ) c)).trans
    (congrArg₂ (Merging.y 1) (W1_args m ρ c main_arg2 (by decide)) (W1_args m ρ c main_arg4 (by decide)))

def y2 : Merging.Rows := Merging.y 2 (o2 m c) (w m c)

theorem at_y2 : W3 m ρ c main_v2 = y2 m c :=
  ((W3_arr m ρ c 2).trans (final2 (V2 m ρ) c)).trans
    (congrArg₂ (Merging.y 2) (W2_args m ρ c main_arg3 (by decide)) (W2_args m ρ c main_arg4 (by decide)))

def s : Merging.Rows := Merging.sum (p m c) (y0 m c) (y1 m c) (y2 m c)

theorem at_s : W4 m ρ c main_v3 = s m c :=
  ((W4_arr m ρ c 6).trans (final3_6 (V3 m ρ) c)).trans
    (Merging.sum_of (W3_args m ρ c main_arg0 (by decide)) (((W3_of m ρ c main_v0 (by decide +kernel)).trans (W2_of m ρ c main_v0 (by decide +kernel))).trans (at_y0 m ρ c)) ((W3_of m ρ c main_v1 (by decide +kernel)).trans (at_y1 m ρ c)) (at_y2 m ρ c))

def mix : Merging.Rows := Merging.mix (s m c) (v m c)

theorem at_mix : W5 m ρ c main_v4 = mix m c :=
  ((W5_arr m ρ c 2).trans (final4 (V4 m ρ) c)).trans
    (congrArg₂ Merging.mix (at_s m ρ c) (W4_args m ρ c main_arg5 (by decide)))

def e : Merging.Rows := Merging.ds (v m c) (d m c)

theorem at_e : W6 m ρ c main_v5 = e m c :=
  ((W6_arr m ρ c 2).trans (final5 (V5 m ρ) c)).trans
    (congrArg₂ (Product.nt (m := 2176) (k := 2048) (n := 2048)) (W5_args m ρ c main_arg6 (by decide)) (W5_args m ρ c main_arg5 (by decide)))

def dwOut : Merging.Square := Merging.dwOut (s m c) (d m c)

theorem at_dwOut : W7 m ρ c main_v6 = dwOut m c :=
  ((W7_arr m ρ c 2).trans (final6 (V6 m ρ) c)).trans
    (congrArg₂ Merging.dwOut (((W6_of m ρ c main_v3 (by decide +kernel)).trans (W5_of m ρ c main_v3 (by decide +kernel))).trans (at_s m ρ c)) (W6_args m ρ c main_arg6 (by decide)))

def dg0 : Merging.Rows := Merging.dgate 0 (p m c) (y0 m c) (e m c)

theorem at_dg0 : W8 m ρ c main_v7_0 = dg0 m c :=
  ((W8_arr m ρ c 7).trans (final7_7 (V7 m ρ) c)).trans
    (Merging.dgate_of 0 (W7_args m ρ c main_arg0 (by decide)) (((W7_of m ρ c main_v0 (by decide +kernel)).trans ((W6_of m ρ c main_v0 (by decide +kernel)).trans ((W5_of m ρ c main_v0 (by decide +kernel)).trans ((W4_of m ρ c main_v0 (by decide +kernel)).trans ((W3_of m ρ c main_v0 (by decide +kernel)).trans (W2_of m ρ c main_v0 (by decide +kernel))))))).trans (at_y0 m ρ c)) ((W7_of m ρ c main_v5 (by decide +kernel)).trans (at_e m ρ c)))

def dg1 : Merging.Rows := Merging.dgate 1 (p m c) (y1 m c) (e m c)

theorem at_dg1 : W8 m ρ c main_v7_1 = dg1 m c :=
  ((W8_arr m ρ c 8).trans (final7_8 (V7 m ρ) c)).trans
    (Merging.dgate_of 1 (W7_args m ρ c main_arg0 (by decide)) (((W7_of m ρ c main_v1 (by decide +kernel)).trans ((W6_of m ρ c main_v1 (by decide +kernel)).trans ((W5_of m ρ c main_v1 (by decide +kernel)).trans ((W4_of m ρ c main_v1 (by decide +kernel)).trans (W3_of m ρ c main_v1 (by decide +kernel)))))).trans (at_y1 m ρ c)) ((W7_of m ρ c main_v5 (by decide +kernel)).trans (at_e m ρ c)))

def dg2 : Merging.Rows := Merging.dgate 2 (p m c) (y2 m c) (e m c)

theorem at_dg2 : W8 m ρ c main_v7_2 = dg2 m c :=
  ((W8_arr m ρ c 9).trans (final7_9 (V7 m ρ) c)).trans
    (Merging.dgate_of 2 (W7_args m ρ c main_arg0 (by decide)) (((W7_of m ρ c main_v2 (by decide +kernel)).trans ((W6_of m ρ c main_v2 (by decide +kernel)).trans ((W5_of m ρ c main_v2 (by decide +kernel)).trans (W4_of m ρ c main_v2 (by decide +kernel))))).trans (at_y2 m ρ c)) ((W7_of m ρ c main_v5 (by decide +kernel)).trans (at_e m ρ c)))

def dy0 : Merging.Rows := Merging.dy 0 (p m c) (e m c)

theorem at_dy0 : W8 m ρ c main_v7_3 = dy0 m c :=
  ((W8_arr m ρ c 10).trans (final7_10 (V7 m ρ) c)).trans
    (congrArg₂ (Merging.dy 0) (W7_args m ρ c main_arg0 (by decide)) ((W7_of m ρ c main_v5 (by decide +kernel)).trans (at_e m ρ c)))

def dy1 : Merging.Rows := Merging.dy 1 (p m c) (e m c)

theorem at_dy1 : W8 m ρ c main_v7_4 = dy1 m c :=
  ((W8_arr m ρ c 11).trans (final7_11 (V7 m ρ) c)).trans
    (congrArg₂ (Merging.dy 1) (W7_args m ρ c main_arg0 (by decide)) ((W7_of m ρ c main_v5 (by decide +kernel)).trans (at_e m ρ c)))

def dy2 : Merging.Rows := Merging.dy 2 (p m c) (e m c)

theorem at_dy2 : W8 m ρ c main_v7_5 = dy2 m c :=
  ((W8_arr m ρ c 12).trans (final7_12 (V7 m ρ) c)).trans
    (congrArg₂ (Merging.dy 2) (W7_args m ρ c main_arg0 (by decide)) ((W7_of m ρ c main_v5 (by decide +kernel)).trans (at_e m ρ c)))

def do0 : Merging.Branch := Merging.dbranch 0 (dy0 m c) (w m c)

theorem at_do0 : W9 m ρ c main_v8 = do0 m c :=
  ((W9_arr m ρ c 2).trans (final8 (V8 m ρ) c)).trans
    (congrArg₂ (Merging.dbranch 0) (at_dy0 m ρ c) (W8_args m ρ c main_arg4 (by decide)))

def do1 : Merging.Branch := Merging.dbranch 1 (dy1 m c) (w m c)

theorem at_do1 : W10 m ρ c main_v9 = do1 m c :=
  ((W10_arr m ρ c 2).trans (final9 (V9 m ρ) c)).trans
    (congrArg₂ (Merging.dbranch 1) ((W9_of m ρ c main_v7_4 (by decide +kernel)).trans (at_dy1 m ρ c)) (W9_args m ρ c main_arg4 (by decide)))

def do2 : Merging.Branch := Merging.dbranch 2 (dy2 m c) (w m c)

theorem at_do2 : W11 m ρ c main_v10 = do2 m c :=
  ((W11_arr m ρ c 2).trans (final10 (V10 m ρ) c)).trans
    (congrArg₂ (Merging.dbranch 2) (((W10_of m ρ c main_v7_5 (by decide +kernel)).trans (W9_of m ρ c main_v7_5 (by decide +kernel))).trans (at_dy2 m ρ c)) (W10_args m ρ c main_arg4 (by decide)))

/-- What the calls leave. -/
theorem run : θ_run defs (onTc (τ := τ) (main (F := Ideal))) ⟨m, fun _ => 0, ρ⟩ (fun r => ∀ c : Dev nD,
      @Eq (S2176x2048.Idx → EReal) (r.2.mem ((c.tc : Thread nD τ).loc main_v4)) (mix m c)
      ∧ @Eq (S2048x2048.Idx → EReal) (r.2.mem ((c.tc : Thread nD τ).loc main_v6)) (dwOut m c)
      ∧ @Eq (S2176x2048.Idx → EReal) (r.2.mem ((c.tc : Thread nD τ).loc main_v7_0)) (dg0 m c)
      ∧ @Eq (S2176x2048.Idx → EReal) (r.2.mem ((c.tc : Thread nD τ).loc main_v7_1)) (dg1 m c)
      ∧ @Eq (S2176x2048.Idx → EReal) (r.2.mem ((c.tc : Thread nD τ).loc main_v7_2)) (dg2 m c)
      ∧ @Eq (S2176x2048.Idx → EReal) (r.2.mem ((c.tc : Thread nD τ).loc main_v7_3)) (dy0 m c)
      ∧ @Eq (S2176x2048.Idx → EReal) (r.2.mem ((c.tc : Thread nD τ).loc main_v7_4)) (dy1 m c)
      ∧ @Eq (S2176x2048.Idx → EReal) (r.2.mem ((c.tc : Thread nD τ).loc main_v7_5)) (dy2 m c)
      ∧ @Eq (S2176x1024.Idx → EReal) (r.2.mem ((c.tc : Thread nD τ).loc main_v8)) (do0 m c)
      ∧ @Eq (S2176x1024.Idx → EReal) (r.2.mem ((c.tc : Thread nD τ).loc main_v9)) (do1 m c)
      ∧ @Eq (S2176x1024.Idx → EReal) (r.2.mem ((c.tc : Thread nD τ).loc main_v10)) (do2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨((h c _ (mem_uc main_v4 (by decide))).trans ((W11_of m ρ c main_v4 (by decide +kernel)).trans ((W10_of m ρ c main_v4 (by decide +kernel)).trans ((W9_of m ρ c main_v4 (by decide +kernel)).trans ((W8_of m ρ c main_v4 (by decide +kernel)).trans ((W7_of m ρ c main_v4 (by decide +kernel)).trans (W6_of m ρ c main_v4 (by decide +kernel)))))))).trans (at_mix m ρ c),
     ((h c _ (mem_uc main_v6 (by decide))).trans ((W11_of m ρ c main_v6 (by decide +kernel)).trans ((W10_of m ρ c main_v6 (by decide +kernel)).trans ((W9_of m ρ c main_v6 (by decide +kernel)).trans (W8_of m ρ c main_v6 (by decide +kernel)))))).trans (at_dwOut m ρ c),
     ((h c _ (mem_uc main_v7_0 (by decide))).trans ((W11_of m ρ c main_v7_0 (by decide +kernel)).trans ((W10_of m ρ c main_v7_0 (by decide +kernel)).trans (W9_of m ρ c main_v7_0 (by decide +kernel))))).trans (at_dg0 m ρ c),
     ((h c _ (mem_uc main_v7_1 (by decide))).trans ((W11_of m ρ c main_v7_1 (by decide +kernel)).trans ((W10_of m ρ c main_v7_1 (by decide +kernel)).trans (W9_of m ρ c main_v7_1 (by decide +kernel))))).trans (at_dg1 m ρ c),
     ((h c _ (mem_uc main_v7_2 (by decide))).trans ((W11_of m ρ c main_v7_2 (by decide +kernel)).trans ((W10_of m ρ c main_v7_2 (by decide +kernel)).trans (W9_of m ρ c main_v7_2 (by decide +kernel))))).trans (at_dg2 m ρ c),
     ((h c _ (mem_uc main_v7_3 (by decide))).trans ((W11_of m ρ c main_v7_3 (by decide +kernel)).trans ((W10_of m ρ c main_v7_3 (by decide +kernel)).trans (W9_of m ρ c main_v7_3 (by decide +kernel))))).trans (at_dy0 m ρ c),
     ((h c _ (mem_uc main_v7_4 (by decide))).trans ((W11_of m ρ c main_v7_4 (by decide +kernel)).trans ((W10_of m ρ c main_v7_4 (by decide +kernel)).trans (W9_of m ρ c main_v7_4 (by decide +kernel))))).trans (at_dy1 m ρ c),
     ((h c _ (mem_uc main_v7_5 (by decide))).trans ((W11_of m ρ c main_v7_5 (by decide +kernel)).trans ((W10_of m ρ c main_v7_5 (by decide +kernel)).trans (W9_of m ρ c main_v7_5 (by decide +kernel))))).trans (at_dy2 m ρ c),
     ((h c _ (mem_uc main_v8 (by decide))).trans ((W11_of m ρ c main_v8 (by decide +kernel)).trans (W10_of m ρ c main_v8 (by decide +kernel)))).trans (at_do0 m ρ c),
     ((h c _ (mem_uc main_v9 (by decide))).trans (W11_of m ρ c main_v9 (by decide +kernel))).trans (at_do1 m ρ c),
     ((h c _ (mem_uc main_v10 (by decide)))).trans (at_do2 m ρ c),
     (h c _ (mem_uc main_arg0 (by decide))).trans (W11_main_arg0 m ρ c),
     (h c _ (mem_uc main_arg1 (by decide))).trans (W11_main_arg1 m ρ c),
     (h c _ (mem_uc main_arg2 (by decide))).trans (W11_main_arg2 m ρ c),
     (h c _ (mem_uc main_arg3 (by decide))).trans (W11_main_arg3 m ρ c),
     (h c _ (mem_uc main_arg4 (by decide))).trans (W11_main_arg4 m ρ c),
     (h c _ (mem_uc main_arg5 (by decide))).trans (W11_main_arg5 m ρ c),
     (h c _ (mem_uc main_arg6 (by decide))).trans (W11_main_arg6 m ρ c)⟩) (reach m ρ)

end Values

end Cert.Kernel10Ideal.Merge
-- ==== Proof.Merge.Reference.lean ====
/- The reference's results are the merge's. -/
module

public import proofs.«01_k».proof.Proof.Gen.Reference10Ideal.Read
public import proofs.«01_k».proof.Proof.Merge.Math
public import proofs.«01_k».proof.Proof.Common.Idx

@[expose] public noncomputable section

set_option maxRecDepth 16384

namespace Cert.Reference10Ideal.Merge

open Cert.Reference10Ideal Cert.Reference10Ideal.Gen Cert.Reference10Ideal.Read Idealize.ShloMosaic Cert.Merging Cert.Idx

variable (p : Proj) (o0 o1 o2 : Branch) (w : Weights) (v : Square) (d : Rows)

/-- The three branches' rows side by side. -/
def branch : Fin 3 → Branch := ![o0, o1, o2]

theorem o_at (r : Fin 2176) (n : Fin 3) (x : Fin 1024) :
    val_main_v7 (F := Ideal) o0 o1 o2 (ix3 r n x) = branch o0 o1 o2 n (ix2 r x) := by
  unfold val_main_v7 val_main_v4 val_main_v5 val_main_v6 val_main_v1 val_main_v2 val_main_v3
  fin_cases n <;> pointwise <;> rfl

theorem y_at (r : Fin 2176) (n : Fin 3) (s : Fin 2048) :
    val_main_v9 (F := Ideal) o0 o1 o2 w (ix3 r n s) = y n (branch o0 o1 o2 n) w (ix2 r s) := by
  rw [val_main_v9_apply, val_main_v8_apply]
  unfold y Product.nn
  apply Finset.sum_congr rfl
  intro k _
  rw [val_main_v0_apply, show ridx_main_v8 (idx_main_v9 (ix3 r n s)) k = ix3 r n k from eq_ix3 _, o_at]
  refine (mul_comm (G := EReal) _ _).trans (congrArg (fun q : EReal => _ * q) ?_)
  exact congrArg w (eq_ix3 _)

/-! ## The gates -/

theorem logistic_at (i : S2176x6144.Idx) : val_main_v17 (F := Ideal) p i = Ideal.logistic (p (idx_main_v10 i)) := by
  have e := val_main_v10_apply (F := Ideal) p i
  rw [← e]
  unfold val_main_v17 val_main_v16 val_main_v15 val_main_v14 val_main_v13 val_main_v12 val_main_cst val_main_cst_0
  generalize val_main_v10 (F := Ideal) p = z
  pointwise
  rfl

theorem slope_at (i : S2176x6144.Idx) : val_main_v20 (F := Ideal) p i =
    Ideal.logistic (p (idx_main_v10 i)) * (1 - Ideal.logistic (p (idx_main_v10 i))) := by
  rw [← logistic_at]
  unfold val_main_v20 val_main_v19 val_main_v18 val_main_cst_1
  generalize val_main_v17 (F := Ideal) p = z
  pointwise

/-- A column of the three gates side by side. -/
abbrev col (n : Fin 3) (s : Fin 2048) : Fin 6144 := ⟨2048 * n.val + s.val, by have := n.isLt; omega⟩

theorem gate_at (r : Fin 2176) (n : Fin 3) (s : Fin 2048) : p (idx_main_v10 (ix2 r (col n s))) = gate n p (ix2 r s) :=
  congrArg p (eq_ix2 _)

theorem col_at (r : Fin 2176) (n : Fin 3) (s : Fin 2048) : idx_main_v21 (ix3 r n s) = ix2 r (col n s) := by
  have hn := n.isLt
  funext a
  apply Fin.ext
  match a with
  | ⟨0, _⟩ => show ((r.val * 3 + n.val) * 2048 + s.val) / 6144 = r.val; omega
  | ⟨1, _⟩ => show ((r.val * 3 + n.val) * 2048 + s.val) % 6144 = 2048 * n.val + s.val; omega

theorem at_col (r : Fin 2176) (n : Fin 3) (s : Fin 2048) : idx_main_v32 (ix2 r (col n s)) = ix3 r n s := by
  have hn := n.isLt
  funext a
  apply Fin.ext
  match a with
  | ⟨0, _⟩ => show (r.val * 6144 + (2048 * n.val + s.val)) / 6144 = r.val; omega
  | ⟨1, _⟩ => show (r.val * 6144 + (2048 * n.val + s.val)) / 2048 % 3 = n.val; omega
  | ⟨2, _⟩ => show (r.val * 6144 + (2048 * n.val + s.val)) % 2048 = s.val; omega

theorem sigma_at (r : Fin 2176) (n : Fin 3) (s : Fin 2048) :
    val_main_v21 (F := Ideal) p (ix3 r n s) = Ideal.logistic (gate n p (ix2 r s)) := by
  rw [val_main_v21_apply, logistic_at, col_at, gate_at p]

/-! ## The sum, the projection out, and its gradients -/

theorem sum_eq : val_main_v23 (F := Ideal) p o0 o1 o2 w = sum p (y 0 o0 w) (y 1 o1 w) (y 2 o2 w) := by
  funext i
  obtain ⟨r, s, rfl⟩ := of2 (a := 2176) (b := 2048) i
  have hz : val_main_cst_2 (F := Ideal) (Shape.Idx.first h_S_) = (0 : EReal) := by
    unfold val_main_cst_2
    pointwise
  have hk (n : Fin 3) : val_main_v22 (F := Ideal) p o0 o1 o2 w (idx_main_v23 (ix2 r s) n)
      = Ideal.logistic (gate n p (ix2 r s)) * y n (branch o0 o1 o2 n) w (ix2 r s) := by
    rw [show idx_main_v23 (ix2 r s) n = ix3 r n s from eq_ix3 _, val_main_v22_apply, sigma_at, y_at]
    rfl
  rw [val_main_v23_apply, hz, Fin.sum_univ_three, hk, hk, hk]
  exact zero_add (M := EReal) _

theorem mix_eq : val_main_v24 (F := Ideal) p o0 o1 o2 w v = mix (sum p (y 0 o0 w) (y 1 o1 w) (y 2 o2 w)) v := by
  funext i
  unfold val_main_v24 val_main_v11 mix Product.nn
  rw [sum_eq]
  generalize sum p (y 0 o0 w) (y 1 o1 w) (y 2 o2 w) = z
  pointwise [dot_S2176x2048_S2048x2048_S2176x2048_1_0_0_1_n_n]

theorem dwOut_eq : val_main_v40 (F := Ideal) p o0 o1 o2 w d = dwOut (sum p (y 0 o0 w) (y 1 o1 w) (y 2 o2 w)) d := by
  funext i
  unfold val_main_v40 val_main_v27 val_main_v26 val_main_v25 dwOut Product.tn
  rw [sum_eq]
  generalize sum p (y 0 o0 w) (y 1 o1 w) (y 2 o2 w) = z
  pointwise [dot_S2176x2048_S2176x2048_S2048x2048_0_0_1_1_n_n]
  exact Finset.sum_congr rfl fun k _ => mul_comm (G := EReal) _ _

theorem ds_eq : val_main_v28 (F := Ideal) v d = ds v d := by
  funext i
  unfold val_main_v28 val_main_v25 val_main_v11 ds Product.nt
  pointwise [dot_S2176x2048_S2048x2048_S2176x2048_1_1_0_0_n_n]

theorem ds_at (r : Fin 2176) (n : Fin 3) (s : Fin 2048) : val_main_v29 (F := Ideal) v d (ix3 r n s) = ds v d (ix2 r s) := by
  rw [val_main_v29_apply, ds_eq, show idx_main_v29 (ix3 r n s) = ix2 r s from eq_ix2 _]

/-! ## The gradients of the gates, of the projected branches and of the branches -/

theorem dy_at (r : Fin 2176) (n : Fin 3) (s : Fin 2048) :
    val_main_v30 (F := Ideal) p v d (ix3 r n s) = dy n p (ds v d) (ix2 r s) := by
  rw [val_main_v30_apply, sigma_at, ds_at]
  rfl

theorem dgate_at (r : Fin 2176) (n : Fin 3) (s : Fin 2048) : val_main_v33 (F := Ideal) p o0 o1 o2 w v d (ix2 r (col n s)) =
    dgate n p (y n (branch o0 o1 o2 n) w) (ds v d) (ix2 r s) := by
  rw [val_main_v33_apply, val_main_v32_apply, at_col, val_main_v31_apply, ds_at, y_at, slope_at, gate_at p]
  rfl

theorem dbranch_at (r : Fin 2176) (n : Fin 3) (s : Fin 1024) :
    val_main_v52 (F := Ideal) p w v d (ix3 r n s) = dbranch n (dy n p (ds v d)) w (ix2 r s) := by
  rw [val_main_v52_apply, val_main_v51_apply]
  unfold dbranch Product.nt
  apply Finset.sum_congr rfl
  intro k _
  rw [val_main_v50_apply, val_main_v0_apply,
    show idx_main_v50 (lidx_main_v51 (idx_main_v52 (ix3 r n s)) k) = ix3 r n k from eq_ix3 _, dy_at]
  exact congrArg (fun q : EReal => _ * q) (congrArg w (eq_ix3 _))

theorem dgate0_eq : val_main_v35 (F := Ideal) p o0 o1 o2 w v d = dgate 0 p (y 0 o0 w) (ds v d) := by
  funext i
  obtain ⟨r, s, rfl⟩ := of2 (a := 2176) (b := 2048) i
  have hi : idx_main_v34 (ix2 r s) = ix2 r (col 0 s) := by
    funext a
    apply Fin.ext
    match a with
    | ⟨0, _⟩ => rfl
    | ⟨1, _⟩ => show s.val = 2048 * 0 + s.val; omega
  rw [val_main_v35_apply, val_main_v34_apply, hi, dgate_at]
  rfl

theorem dgate1_eq : val_main_v37 (F := Ideal) p o0 o1 o2 w v d = dgate 1 p (y 1 o1 w) (ds v d) := by
  funext i
  obtain ⟨r, s, rfl⟩ := of2 (a := 2176) (b := 2048) i
  have hi : idx_main_v36 (ix2 r s) = ix2 r (col 1 s) := by
    funext a
    apply Fin.ext
    match a with
    | ⟨0, _⟩ => rfl
    | ⟨1, _⟩ => show 2048 + s.val = 2048 * 1 + s.val; omega
  rw [val_main_v37_apply, val_main_v36_apply, hi, dgate_at]
  rfl

theorem dgate2_eq : val_main_v39 (F := Ideal) p o0 o1 o2 w v d = dgate 2 p (y 2 o2 w) (ds v d) := by
  funext i
  obtain ⟨r, s, rfl⟩ := of2 (a := 2176) (b := 2048) i
  have hi : idx_main_v38 (ix2 r s) = ix2 r (col 2 s) := by
    funext a
    apply Fin.ext
    match a with
    | ⟨0, _⟩ => rfl
    | ⟨1, _⟩ => show 4096 + s.val = 2048 * 2 + s.val; omega
  rw [val_main_v39_apply, val_main_v38_apply, hi, dgate_at]
  rfl

theorem dy0_eq : val_main_v43 (F := Ideal) p v d = dy 0 p (ds v d) := by
  funext i
  obtain ⟨r, s, rfl⟩ := of2 (a := 2176) (b := 2048) i
  have hi : idx_main_v41 (idx_main_v42 (ix2 r s)) = ix3 r 0 s := by
    funext a
    apply Fin.ext
    match a with
    | ⟨0, _⟩ => show (r.val * 2048 + s.val) / 2048 = r.val; omega
    | ⟨1, _⟩ => rfl
    | ⟨2, _⟩ => show (r.val * 2048 + s.val) % 2048 = s.val; omega
  rw [val_main_v43_apply, val_main_v42_apply, val_main_v41_apply, hi, dy_at]
  rfl

theorem dy1_eq : val_main_v46 (F := Ideal) p v d = dy 1 p (ds v d) := by
  funext i
  obtain ⟨r, s, rfl⟩ := of2 (a := 2176) (b := 2048) i
  have hi : idx_main_v44 (idx_main_v45 (ix2 r s)) = ix3 r 1 s := by
    funext a
    apply Fin.ext
    match a with
    | ⟨0, _⟩ => show (r.val * 2048 + s.val) / 2048 = r.val; omega
    | ⟨1, _⟩ => rfl
    | ⟨2, _⟩ => show (r.val * 2048 + s.val) % 2048 = s.val; omega
  rw [val_main_v46_apply, val_main_v45_apply, val_main_v44_apply, hi, dy_at]
  rfl

theorem dy2_eq : val_main_v49 (F := Ideal) p v d = dy 2 p (ds v d) := by
  funext i
  obtain ⟨r, s, rfl⟩ := of2 (a := 2176) (b := 2048) i
  have hi : idx_main_v47 (idx_main_v48 (ix2 r s)) = ix3 r 2 s := by
    funext a
    apply Fin.ext
    match a with
    | ⟨0, _⟩ => show (r.val * 2048 + s.val) / 2048 = r.val; omega
    | ⟨1, _⟩ => rfl
    | ⟨2, _⟩ => show (r.val * 2048 + s.val) % 2048 = s.val; omega
  rw [val_main_v49_apply, val_main_v48_apply, val_main_v47_apply, hi, dy_at]
  rfl

theorem dbranch0_eq : val_main_v54 (F := Ideal) p w v d = dbranch 0 (dy 0 p (ds v d)) w := by
  funext i
  obtain ⟨r, s, rfl⟩ := of2 (a := 2176) (b := 1024) i
  have hi : idx_main_v53 (idx_main_v54 (ix2 r s)) = ix3 r 0 s := by
    funext a
    apply Fin.ext
    match a with
    | ⟨0, _⟩ => show (r.val * 1024 + s.val) / 1024 = r.val; omega
    | ⟨1, _⟩ => rfl
    | ⟨2, _⟩ => show (r.val * 1024 + s.val) % 1024 = s.val; omega
  rw [val_main_v54_apply, val_main_v53_apply, hi, dbranch_at]

theorem dbranch1_eq : val_main_v56 (F := Ideal) p w v d = dbranch 1 (dy 1 p (ds v d)) w := by
  funext i
  obtain ⟨r, s, rfl⟩ := of2 (a := 2176) (b := 1024) i
  have hi : idx_main_v55 (idx_main_v56 (ix2 r s)) = ix3 r 1 s := by
    funext a
    apply Fin.ext
    match a with
    | ⟨0, _⟩ => show (r.val * 1024 + s.val) / 1024 = r.val; omega
    | ⟨1, _⟩ => rfl
    | ⟨2, _⟩ => show (r.val * 1024 + s.val) % 1024 = s.val; omega
  rw [val_main_v56_apply, val_main_v55_apply, hi, dbranch_at]

theorem dbranch2_eq : val_main_v58 (F := Ideal) p w v d = dbranch 2 (dy 2 p (ds v d)) w := by
  funext i
  obtain ⟨r, s, rfl⟩ := of2 (a := 2176) (b := 1024) i
  have hi : idx_main_v57 (idx_main_v58 (ix2 r s)) = ix3 r 2 s := by
    funext a
    apply Fin.ext
    match a with
    | ⟨0, _⟩ => show (r.val * 1024 + s.val) / 1024 = r.val; omega
    | ⟨1, _⟩ => rfl
    | ⟨2, _⟩ => show (r.val * 1024 + s.val) % 1024 = s.val; omega
  rw [val_main_v58_apply, val_main_v57_apply, hi, dbranch_at]

end Cert.Reference10Ideal.Merge
-- ==== Proof.Merge.Claims.lean ====
/- The claims about the merge of the branches and its gradients. -/
module

public import proofs.«01_k».proof.Defs
public import proofs.«01_k».proof.Proof.Gen.Kernel10.Frame
public import proofs.«01_k».proof.Proof.Gen.Reference10Ideal.Run
public import proofs.«01_k».proof.Proof.Merge.Run
public import proofs.«01_k».proof.Proof.Merge.Reference

@[expose] public noncomputable section

set_option maxRecDepth 16384

namespace Cert.Proof.Merge

open Idealize.ShloMosaic Idealize.ShloMosaic.TcCoe Idealize.SL.Sem

theorem frame_p : Cert.quiescent_Kernel10 := fun m ρ _ => Cert.Kernel10.Gen.frame m ρ
theorem frame_pi : Cert.quiescent_Kernel10Ideal := fun m ρ _ => Cert.Kernel10Ideal.Gen.frame m ρ
theorem frame_ri : Cert.quiescent_Reference10Ideal := fun m ρ _ =>
  (θ_run Cert.Reference10Ideal.defs _ _).mono (fun r h => ⟨fun c => (h c).2.2.2.2.2.2.2.2.2.2.2, sem_eq_zero_of_no_sems (by decide) r.2⟩)
    (Cert.Reference10Ideal.Value.run (F := Ideal) m ρ)

/-- Nothing is rewritten: the two programs have one text. -/
theorem preserves : Cert.preserves_Kernel10_Kernel10Ideal := trivial

/-- The kernel and the reference compute the same results. -/
theorem algebraic : Cert.algebraic_Kernel10Ideal_Reference10Ideal := by
  intro m ρ m' ρ' _ hagree
  refine ⟨_, _, _, _, _, _, _, _, _, _, _, Cert.Kernel10Ideal.Merge.run m ρ, ?_⟩
  refine (θ_run Cert.Reference10Ideal.defs _ _).mono (fun r h c => ?_) (Cert.Reference10Ideal.Value.run (F := Ideal) m' ρ')
  obtain ⟨h0, h1, h2, h3, h4, h5, h6, h7, h8, h9, h10, hk⟩ := h c
  obtain ⟨a0, a1, a2, a3, a4, a5, a6⟩ := hagree c
  rw [Cert.Reference10Ideal.Read.val_main_v24_eq, a0, a1, a2, a3, a4, a5] at h0
  rw [Cert.Reference10Ideal.Read.val_main_v40_eq, a0, a1, a2, a3, a4, a6] at h1
  rw [Cert.Reference10Ideal.Read.val_main_v35_eq, a0, a1, a2, a3, a4, a5, a6] at h2
  rw [Cert.Reference10Ideal.Read.val_main_v37_eq, a0, a1, a2, a3, a4, a5, a6] at h3
  rw [Cert.Reference10Ideal.Read.val_main_v39_eq, a0, a1, a2, a3, a4, a5, a6] at h4
  rw [Cert.Reference10Ideal.Read.val_main_v43_eq, a0, a5, a6] at h5
  rw [Cert.Reference10Ideal.Read.val_main_v46_eq, a0, a5, a6] at h6
  rw [Cert.Reference10Ideal.Read.val_main_v49_eq, a0, a5, a6] at h7
  rw [Cert.Reference10Ideal.Read.val_main_v54_eq, a0, a4, a5, a6] at h8
  rw [Cert.Reference10Ideal.Read.val_main_v56_eq, a0, a4, a5, a6] at h9
  rw [Cert.Reference10Ideal.Read.val_main_v58_eq, a0, a4, a5, a6] at h10
  exact ⟨h0.trans (Cert.Reference10Ideal.Merge.mix_eq _ _ _ _ _ _),
    h1.trans (Cert.Reference10Ideal.Merge.dwOut_eq _ _ _ _ _ _),
    h2.trans (Cert.Reference10Ideal.Merge.dgate0_eq _ _ _ _ _ _ _),
    h3.trans (Cert.Reference10Ideal.Merge.dgate1_eq _ _ _ _ _ _ _),
    h4.trans (Cert.Reference10Ideal.Merge.dgate2_eq _ _ _ _ _ _ _),
    h5.trans (Cert.Reference10Ideal.Merge.dy0_eq _ _ _),
    h6.trans (Cert.Reference10Ideal.Merge.dy1_eq _ _ _),
    h7.trans (Cert.Reference10Ideal.Merge.dy2_eq _ _ _),
    h8.trans (Cert.Reference10Ideal.Merge.dbranch0_eq _ _ _ _),
    h9.trans (Cert.Reference10Ideal.Merge.dbranch1_eq _ _ _ _),
    h10.trans (Cert.Reference10Ideal.Merge.dbranch2_eq _ _ _ _), hk⟩

end Cert.Proof.Merge
-- ==== Proof.DwBranch.Products.lean ====
/- The gradients of the three branches' weights: what each of the three calls leaves in the array of three. -/
module

public import proofs.«01_k».proof.Proof.Common.Idx
public import proofs.«01_k».proof.Proof.Gen.Kernel11Ideal.Frame
public import proofs.«01_k».proof.Proof.Common.Product

@[expose] public noncomputable section

set_option maxRecDepth 16384

namespace Cert.Kernel11Ideal.DwBranch

open Cert.Kernel11Ideal Cert.Kernel11Ideal.Gen Idealize.ShloMosaic Idealize.ShloMosaic.TcCoe Idealize.SL.Sem Cert.Idx

variable (V : (c : Dev nD) → (b : Ref sig .tc) → Buf (Elt Ideal) ((c : Thread nD τ).loc b)) (c : Dev nD)

/-! ## The first branch's weights -/

theorem lt0 (t : Fin cfg0.N) : t.val < 2 := lt_of_lt_of_eq t.isLt N_0

theorem idx0 : ∀ t : Fin grid0.N,
    win0_0.index t 0 = 0 ∧ win0_0.index t 1 = 0 ∧ win0_1.index t 0 = 0 ∧ win0_1.index t 1 = t.val ∧
    win0_2.index t 0 = 0 ∧ win0_2.index t 1 = 0 ∧ win0_2.index t 2 = t.val := by decide +kernel

abbrev col0 (t : Fin cfg0.N) (s : Fin 1024) : Fin 2048 := ⟨1024 * t.val + s.val, by have := lt0 t; omega⟩

theorem blk0_0 (t : Fin cfg0.N) (x : Fin 2176) (r : Fin 1024) :
    (iblk0 V c 0 t : Vec Ideal S2176x1024 .bf16) (ix2 x r) = V c main_arg0 (ix2 x r) := by
  have e := idx0 t
  exact congrArg (V c main_arg0) (ext2 (by show win0_0.index t 0 * 2176 + 1 * x.val = x.val; omega) (by show win0_0.index t 1 * 1024 + 1 * r.val = r.val; omega))

theorem blk0_1 (t : Fin cfg0.N) (x : Fin 2176) (s : Fin 1024) :
    (iblk0 V c 1 t : Vec Ideal S2176x1024 .bf16) (ix2 x s) = V c main_arg3 (ix2 x (col0 t s)) := by
  have e := idx0 t
  exact congrArg (V c main_arg3) (ext2 (by show win0_1.index t 0 * 2176 + 1 * x.val = x.val; omega) (by show win0_1.index t 1 * 1024 + 1 * s.val = 1024 * t.val + s.val; omega))

theorem pay0 (a b : Vec Ideal S2176x1024 .bf16) (r s : Fin 1024) :
    k0_pay1 a b (ix3 0 r s) = ∑ x : Fin 2176, (a (ix2 x r) : EReal) * b (ix2 x s) := by
  unfold k0_pay1
  pointwise [dot_S2176x1024_S2176x1024_S1024x1024_0_0_1_1_n_n]

theorem out0 (t : Fin cfg0.N) : outsAt0 V c t = k0_pay1 (iblk0 V c 0 t) (iblk0 V c 1 t) := by
  unfold outsAt0 out0_A_2
  rw [View.read_writes_eq_canon]; swap
  · intro y; apply cover0_A_2
  unfold kernelRun0_A; dsimp only; sl_unfold_words
  rw [View.canon_unit_zero zero3]
  simp only [View.readAt_eq_ld, (hs0_0 t).read_unread, (hs0_1 t).read_unread, ld2]

/-- The product, at its place in the array of three. -/
def arr0 : S3x1024x2048.Idx → EReal := fun i => Product.tn (m := 1024) (k := 2176) (n := 2048) (V c main_arg0) (V c main_arg3) (ix2 (i 1) (i 2))

theorem flushed0 (t : Fin cfg0.N) (hf : (cfg0.win 2).flush t = true) :
    (dat0 V c).flushed 2 t = ((cfg0.win 2).blk t).view.read (Elt Ideal) (arr0 V c) := by
  have e := idx0 t
  show (cfg0.win 2).cut (grid0.coords t) ((dat0 V c).after 2 t) = _
  rw [after0_2, out0]
  funext y
  obtain ⟨r, s, rfl⟩ : ∃ (r s : Fin 1024), y = ix3 0 r s := ⟨y 1, y 2, by
    funext a
    apply Fin.ext
    have h0 : (y 0).val < 1 := (y 0).isLt
    match a with
    | ⟨0, _⟩ => show (y 0).val = 0; omega
    | ⟨1, _⟩ => rfl
    | ⟨2, _⟩ => rfl⟩
  rw [View.read_apply]
  show k0_pay1 (iblk0 V c 0 t) (iblk0 V c 1 t) (ix3 0 r s) = arr0 V c _
  rw [pay0, show ((cfg0.win 2).blk t).view.emb (ix3 0 r s) = ix3 (0 : Fin 3) r (col0 t s) from by
    funext a
    apply Fin.ext
    match a with
    | ⟨0, _⟩ => show win0_2.index t 0 * 1 + 1 * 0 = 0; omega
    | ⟨1, _⟩ => show win0_2.index t 1 * 1024 + 1 * r.val = r.val; omega
    | ⟨2, _⟩ => show win0_2.index t 2 * 1024 + 1 * s.val = 1024 * t.val + s.val; omega]
  exact Finset.sum_congr rfl fun x _ => congrArg₂ (fun p q : EReal => p * q) (blk0_0 V c t x r) (blk0_1 V c t x s)

/-- The region writes this weights' place and leaves the rest. -/
theorem final0 (n : Fin 3) (r : Fin 1024) (s : Fin 2048) :
    @Eq EReal ((dat0 V c).arrAt 2 cfg0.N (ix3 n r s))
      (if n = 0 then Product.tn (m := 1024) (k := 2176) (n := 2048) (V c main_arg0) (V c main_arg3) (ix2 r s) else V c main_v1 (ix3 n r s)) := by
  rw [(dat0 V c).arrAt_eq_piecewise 2 (arr0 V c) (flushed0 V c), A_eq0]
  have hr := r.isLt
  have hs := s.isLt
  have hm : (∃ t : Fin cfg0.N, (cfg0.win 2).flush t = true ∧
      (ix3 n r s : S3x1024x2048.Idx) ∈ ((View.whole main_v1).slice (win0_2.rect t)).set) ↔ n = 0 := by
    constructor
    · rintro ⟨t, -, h⟩
      have e := idx0 t
      rw [View.set_slice_whole, Rect.mem_set_unit] at h
      have h0 : win0_2.index t 0 * 1 ≤ n.val ∧ n.val < win0_2.index t 0 * 1 + 1 := h 0
      apply Fin.ext
      show n.val = 0
      omega
    · intro hn
      obtain ⟨t, ht⟩ : ∃ t : Fin cfg0.N, t.val = s.val / 1024 := ⟨⟨_, by rw [show cfg0.N = 2 from N_0]; omega⟩, rfl⟩
      have e := idx0 t
      have hn' : n.val = 0 := congrArg Fin.val hn
      refine ⟨t, flush0_2 t, ?_⟩
      rw [View.set_slice_whole, Rect.mem_set_unit]
      intro a
      match a with
      | ⟨0, _⟩ => show win0_2.index t 0 * 1 ≤ n.val ∧ n.val < win0_2.index t 0 * 1 + 1; omega
      | ⟨1, _⟩ => show win0_2.index t 1 * 1024 ≤ r.val ∧ r.val < win0_2.index t 1 * 1024 + 1024; omega
      | ⟨2, _⟩ => show win0_2.index t 2 * 1024 ≤ s.val ∧ s.val < win0_2.index t 2 * 1024 + 1024; omega
  by_cases hn : n = 0
  · rw [if_pos (hm.mpr hn), if_pos hn]
    rfl
  · rw [if_neg (fun h => hn (hm.mp h)), if_neg hn]

/-! ## The second's -/

theorem lt1 (t : Fin cfg1.N) : t.val < 2 := lt_of_lt_of_eq t.isLt N_1

theorem idx1 : ∀ t : Fin grid1.N,
    win1_0.index t 0 = 0 ∧ win1_0.index t 1 = 0 ∧ win1_1.index t 0 = 0 ∧ win1_1.index t 1 = t.val ∧
    win1_2.index t 0 = 1 ∧ win1_2.index t 1 = 0 ∧ win1_2.index t 2 = t.val := by decide +kernel

abbrev col1 (t : Fin cfg1.N) (s : Fin 1024) : Fin 2048 := ⟨1024 * t.val + s.val, by have := lt1 t; omega⟩

theorem blk1_0 (t : Fin cfg1.N) (x : Fin 2176) (r : Fin 1024) :
    (iblk1 V c 0 t : Vec Ideal S2176x1024 .bf16) (ix2 x r) = V c main_arg1 (ix2 x r) := by
  have e := idx1 t
  exact congrArg (V c main_arg1) (ext2 (by show win1_0.index t 0 * 2176 + 1 * x.val = x.val; omega) (by show win1_0.index t 1 * 1024 + 1 * r.val = r.val; omega))

theorem blk1_1 (t : Fin cfg1.N) (x : Fin 2176) (s : Fin 1024) :
    (iblk1 V c 1 t : Vec Ideal S2176x1024 .bf16) (ix2 x s) = V c main_arg4 (ix2 x (col1 t s)) := by
  have e := idx1 t
  exact congrArg (V c main_arg4) (ext2 (by show win1_1.index t 0 * 2176 + 1 * x.val = x.val; omega) (by show win1_1.index t 1 * 1024 + 1 * s.val = 1024 * t.val + s.val; omega))

theorem pay1 (a b : Vec Ideal S2176x1024 .bf16) (r s : Fin 1024) :
    k1_pay1 a b (ix3 0 r s) = ∑ x : Fin 2176, (a (ix2 x r) : EReal) * b (ix2 x s) := by
  unfold k1_pay1
  pointwise [dot_S2176x1024_S2176x1024_S1024x1024_0_0_1_1_n_n]

theorem out1 (t : Fin cfg1.N) : outsAt1 V c t = k1_pay1 (iblk1 V c 0 t) (iblk1 V c 1 t) := by
  unfold outsAt1 out1_A_2
  rw [View.read_writes_eq_canon]; swap
  · intro y; apply cover1_A_2
  unfold kernelRun1_A; dsimp only; sl_unfold_words
  rw [View.canon_unit_zero zero3]
  simp only [View.readAt_eq_ld, (hs1_0 t).read_unread, (hs1_1 t).read_unread, ld2]

/-- The product, at its place in the array of three. -/
def arr1 : S3x1024x2048.Idx → EReal := fun i => Product.tn (m := 1024) (k := 2176) (n := 2048) (V c main_arg1) (V c main_arg4) (ix2 (i 1) (i 2))

theorem flushed1 (t : Fin cfg1.N) (hf : (cfg1.win 2).flush t = true) :
    (dat1 V c).flushed 2 t = ((cfg1.win 2).blk t).view.read (Elt Ideal) (arr1 V c) := by
  have e := idx1 t
  show (cfg1.win 2).cut (grid1.coords t) ((dat1 V c).after 2 t) = _
  rw [after1_2, out1]
  funext y
  obtain ⟨r, s, rfl⟩ : ∃ (r s : Fin 1024), y = ix3 0 r s := ⟨y 1, y 2, by
    funext a
    apply Fin.ext
    have h0 : (y 0).val < 1 := (y 0).isLt
    match a with
    | ⟨0, _⟩ => show (y 0).val = 0; omega
    | ⟨1, _⟩ => rfl
    | ⟨2, _⟩ => rfl⟩
  rw [View.read_apply]
  show k1_pay1 (iblk1 V c 0 t) (iblk1 V c 1 t) (ix3 0 r s) = arr1 V c _
  rw [pay1, show ((cfg1.win 2).blk t).view.emb (ix3 0 r s) = ix3 (1 : Fin 3) r (col1 t s) from by
    funext a
    apply Fin.ext
    match a with
    | ⟨0, _⟩ => show win1_2.index t 0 * 1 + 1 * 0 = 1; omega
    | ⟨1, _⟩ => show win1_2.index t 1 * 1024 + 1 * r.val = r.val; omega
    | ⟨2, _⟩ => show win1_2.index t 2 * 1024 + 1 * s.val = 1024 * t.val + s.val; omega]
  exact Finset.sum_congr rfl fun x _ => congrArg₂ (fun p q : EReal => p * q) (blk1_0 V c t x r) (blk1_1 V c t x s)

/-- The region writes this weights' place and leaves the rest. -/
theorem final1 (n : Fin 3) (r : Fin 1024) (s : Fin 2048) :
    @Eq EReal ((dat1 V c).arrAt 2 cfg1.N (ix3 n r s))
      (if n = 1 then Product.tn (m := 1024) (k := 2176) (n := 2048) (V c main_arg1) (V c main_arg4) (ix2 r s) else V c main_v2 (ix3 n r s)) := by
  rw [(dat1 V c).arrAt_eq_piecewise 2 (arr1 V c) (flushed1 V c), A_eq1]
  have hr := r.isLt
  have hs := s.isLt
  have hm : (∃ t : Fin cfg1.N, (cfg1.win 2).flush t = true ∧
      (ix3 n r s : S3x1024x2048.Idx) ∈ ((View.whole main_v2).slice (win1_2.rect t)).set) ↔ n = 1 := by
    constructor
    · rintro ⟨t, -, h⟩
      have e := idx1 t
      rw [View.set_slice_whole, Rect.mem_set_unit] at h
      have h0 : win1_2.index t 0 * 1 ≤ n.val ∧ n.val < win1_2.index t 0 * 1 + 1 := h 0
      apply Fin.ext
      show n.val = 1
      omega
    · intro hn
      obtain ⟨t, ht⟩ : ∃ t : Fin cfg1.N, t.val = s.val / 1024 := ⟨⟨_, by rw [show cfg1.N = 2 from N_1]; omega⟩, rfl⟩
      have e := idx1 t
      have hn' : n.val = 1 := congrArg Fin.val hn
      refine ⟨t, flush1_2 t, ?_⟩
      rw [View.set_slice_whole, Rect.mem_set_unit]
      intro a
      match a with
      | ⟨0, _⟩ => show win1_2.index t 0 * 1 ≤ n.val ∧ n.val < win1_2.index t 0 * 1 + 1; omega
      | ⟨1, _⟩ => show win1_2.index t 1 * 1024 ≤ r.val ∧ r.val < win1_2.index t 1 * 1024 + 1024; omega
      | ⟨2, _⟩ => show win1_2.index t 2 * 1024 ≤ s.val ∧ s.val < win1_2.index t 2 * 1024 + 1024; omega
  by_cases hn : n = 1
  · rw [if_pos (hm.mpr hn), if_pos hn]
    rfl
  · rw [if_neg (fun h => hn (hm.mp h)), if_neg hn]

/-! ## The third's -/

theorem lt2 (t : Fin cfg2.N) : t.val < 2 := lt_of_lt_of_eq t.isLt N_2

theorem idx2 : ∀ t : Fin grid2.N,
    win2_0.index t 0 = 0 ∧ win2_0.index t 1 = 0 ∧ win2_1.index t 0 = 0 ∧ win2_1.index t 1 = t.val ∧
    win2_2.index t 0 = 2 ∧ win2_2.index t 1 = 0 ∧ win2_2.index t 2 = t.val := by decide +kernel

abbrev col2 (t : Fin cfg2.N) (s : Fin 1024) : Fin 2048 := ⟨1024 * t.val + s.val, by have := lt2 t; omega⟩

theorem blk2_0 (t : Fin cfg2.N) (x : Fin 2176) (r : Fin 1024) :
    (iblk2 V c 0 t : Vec Ideal S2176x1024 .bf16) (ix2 x r) = V c main_arg2 (ix2 x r) := by
  have e := idx2 t
  exact congrArg (V c main_arg2) (ext2 (by show win2_0.index t 0 * 2176 + 1 * x.val = x.val; omega) (by show win2_0.index t 1 * 1024 + 1 * r.val = r.val; omega))

theorem blk2_1 (t : Fin cfg2.N) (x : Fin 2176) (s : Fin 1024) :
    (iblk2 V c 1 t : Vec Ideal S2176x1024 .bf16) (ix2 x s) = V c main_arg5 (ix2 x (col2 t s)) := by
  have e := idx2 t
  exact congrArg (V c main_arg5) (ext2 (by show win2_1.index t 0 * 2176 + 1 * x.val = x.val; omega) (by show win2_1.index t 1 * 1024 + 1 * s.val = 1024 * t.val + s.val; omega))

theorem pay2 (a b : Vec Ideal S2176x1024 .bf16) (r s : Fin 1024) :
    k2_pay1 a b (ix3 0 r s) = ∑ x : Fin 2176, (a (ix2 x r) : EReal) * b (ix2 x s) := by
  unfold k2_pay1
  pointwise [dot_S2176x1024_S2176x1024_S1024x1024_0_0_1_1_n_n]

theorem out2 (t : Fin cfg2.N) : outsAt2 V c t = k2_pay1 (iblk2 V c 0 t) (iblk2 V c 1 t) := by
  unfold outsAt2 out2_A_2
  rw [View.read_writes_eq_canon]; swap
  · intro y; apply cover2_A_2
  unfold kernelRun2_A; dsimp only; sl_unfold_words
  rw [View.canon_unit_zero zero3]
  simp only [View.readAt_eq_ld, (hs2_0 t).read_unread, (hs2_1 t).read_unread, ld2]

/-- The product, at its place in the array of three. -/
def arr2 : S3x1024x2048.Idx → EReal := fun i => Product.tn (m := 1024) (k := 2176) (n := 2048) (V c main_arg2) (V c main_arg5) (ix2 (i 1) (i 2))

theorem flushed2 (t : Fin cfg2.N) (hf : (cfg2.win 2).flush t = true) :
    (dat2 V c).flushed 2 t = ((cfg2.win 2).blk t).view.read (Elt Ideal) (arr2 V c) := by
  have e := idx2 t
  show (cfg2.win 2).cut (grid2.coords t) ((dat2 V c).after 2 t) = _
  rw [after2_2, out2]
  funext y
  obtain ⟨r, s, rfl⟩ : ∃ (r s : Fin 1024), y = ix3 0 r s := ⟨y 1, y 2, by
    funext a
    apply Fin.ext
    have h0 : (y 0).val < 1 := (y 0).isLt
    match a with
    | ⟨0, _⟩ => show (y 0).val = 0; omega
    | ⟨1, _⟩ => rfl
    | ⟨2, _⟩ => rfl⟩
  rw [View.read_apply]
  show k2_pay1 (iblk2 V c 0 t) (iblk2 V c 1 t) (ix3 0 r s) = arr2 V c _
  rw [pay2, show ((cfg2.win 2).blk t).view.emb (ix3 0 r s) = ix3 (2 : Fin 3) r (col2 t s) from by
    funext a
    apply Fin.ext
    match a with
    | ⟨0, _⟩ => show win2_2.index t 0 * 1 + 1 * 0 = 2; omega
    | ⟨1, _⟩ => show win2_2.index t 1 * 1024 + 1 * r.val = r.val; omega
    | ⟨2, _⟩ => show win2_2.index t 2 * 1024 + 1 * s.val = 1024 * t.val + s.val; omega]
  exact Finset.sum_congr rfl fun x _ => congrArg₂ (fun p q : EReal => p * q) (blk2_0 V c t x r) (blk2_1 V c t x s)

/-- The region writes this weights' place and leaves the rest. -/
theorem final2 (n : Fin 3) (r : Fin 1024) (s : Fin 2048) :
    @Eq EReal ((dat2 V c).arrAt 2 cfg2.N (ix3 n r s))
      (if n = 2 then Product.tn (m := 1024) (k := 2176) (n := 2048) (V c main_arg2) (V c main_arg5) (ix2 r s) else V c main_v3 (ix3 n r s)) := by
  rw [(dat2 V c).arrAt_eq_piecewise 2 (arr2 V c) (flushed2 V c), A_eq2]
  have hr := r.isLt
  have hs := s.isLt
  have hm : (∃ t : Fin cfg2.N, (cfg2.win 2).flush t = true ∧
      (ix3 n r s : S3x1024x2048.Idx) ∈ ((View.whole main_v3).slice (win2_2.rect t)).set) ↔ n = 2 := by
    constructor
    · rintro ⟨t, -, h⟩
      have e := idx2 t
      rw [View.set_slice_whole, Rect.mem_set_unit] at h
      have h0 : win2_2.index t 0 * 1 ≤ n.val ∧ n.val < win2_2.index t 0 * 1 + 1 := h 0
      apply Fin.ext
      show n.val = 2
      omega
    · intro hn
      obtain ⟨t, ht⟩ : ∃ t : Fin cfg2.N, t.val = s.val / 1024 := ⟨⟨_, by rw [show cfg2.N = 2 from N_2]; omega⟩, rfl⟩
      have e := idx2 t
      have hn' : n.val = 2 := congrArg Fin.val hn
      refine ⟨t, flush2_2 t, ?_⟩
      rw [View.set_slice_whole, Rect.mem_set_unit]
      intro a
      match a with
      | ⟨0, _⟩ => show win2_2.index t 0 * 1 ≤ n.val ∧ n.val < win2_2.index t 0 * 1 + 1; omega
      | ⟨1, _⟩ => show win2_2.index t 1 * 1024 ≤ r.val ∧ r.val < win2_2.index t 1 * 1024 + 1024; omega
      | ⟨2, _⟩ => show win2_2.index t 2 * 1024 ≤ s.val ∧ s.val < win2_2.index t 2 * 1024 + 1024; omega
  by_cases hn : n = 2
  · rw [if_pos (hm.mpr hn), if_pos hn]
    rfl
  · rw [if_neg (fun h => hn (hm.mp h)), if_neg hn]

end Cert.Kernel11Ideal.DwBranch
-- ==== Proof.DwBranch.Math.lean ====
/- The gradient of the branches' weights, in terms of the three branches' rows and the gradients of their projections. -/
module

public import proofs.«01_k».proof.Proof.Common.Product

@[expose] public noncomputable section

namespace Cert.BranchWeights

open Idealize.ShloMosaic

/-- One branch's product `oᵀ·d` at each of the three places. -/
def grad (o : Fin 3 → (⟨2, ![2176, 1024]⟩ : Shape).Idx → EReal) (d : Fin 3 → (⟨2, ![2176, 2048]⟩ : Shape).Idx → EReal) :
    (⟨3, ![3, 1024, 2048]⟩ : Shape).Idx → EReal := fun i =>
  Product.tn (m := 1024) (k := 2176) (n := 2048) (o (i 0)) (d (i 0)) (ix2 (i 1) (i 2))

end Cert.BranchWeights
-- ==== Proof.DwBranch.Run.lean ====
/- The three calls in turn: what each finds, and what the last one leaves. -/
module

public import proofs.«01_k».proof.Proof.DwBranch.Products
public import proofs.«01_k».proof.Proof.DwBranch.Math

@[expose] public noncomputable section

set_option maxRecDepth 16384

namespace Cert.Kernel11Ideal.DwBranch

open Cert.Kernel11Ideal Cert.Kernel11Ideal.Gen Idealize.ShloMosaic Idealize.ShloMosaic.TcCoe Idealize.SL.Sem

open Idealize.SL Idealize.SL.RA Idealize.SL.BI
open scoped Idealize.SL.BI
open Idealize.SL.BI.BIBase Idealize.SL.BI.Laws Idealize.SL.ProofMode
open Idealize.ShloMosaic.Rounds

variable {F : FTy → Type} [FloatOps F]

/-- What is said of the machine's state while the calls run. -/
local notation "Pred" => sProp (MT nD τ sig Unit (Elt F) ℕ (UR sig nD τ) ℕ)

/-- From any memory every execution ends with each buffer at the contents that follow from the calls in turn. -/
theorem reach (m : (ℓ : Loc nD τ sig) → Buf (Elt F) ℓ) (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = W6 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu
      imodintro
      isplitl [Hu]
      · iapply (show (ownU (initOf (Pipeline.cells cfgs cellOf_inj) (Pipeline.launchToks cfgs cellOf_inj)) : Pred)
          ⊢ BI.own (emb₁ (initOf (Pipeline.cells cfgs cellOf_inj) (Pipeline.launchToks cfgs cellOf_inj))) from .rfl)
        iexact Hu
      · iapply (show (BI.emp : Pred) ⊢ bigSep Finset.univ (fun _ : Dev nD => (BI.emp : Pred)) from by
          rw [BI.bigSep_emp_const])
        iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b))
        = StableHlo.held (c : Thread nD τ) (Pipeline.ucRefs τ sig) (W0 m ρ c) from Pipeline.unscopedBufs_held c (W0 m ρ c)]
      iintro ⟨⟨Hb, -, HO, -, Hr, -⟩, -⟩
      imodintro
      isplitl [Hb]
      · iexact Hb
      isplitl [Hr]
      · iexists _; iexact Hr
      · iexists ∅; iexact HO)
    (QY := fun c s => ∀ b ∈ Pipeline.ucRefs τ sig, s.mem (((c : Thread nD τ)).1, b) = W6 m ρ c b)
    (hfin := fun c s' => by
      iintro ⟨⟨Hb, -⟩, HS⟩
      unfold StableHlo.held
      imodintro
      iapply (pointsTo_read_all (Pipeline.ucRefs τ sig) (fun b => (((c : Thread nD τ)).1, b)) (W6 m ρ c) s')
      isplitl [Hb] <;> iassumption)
    (hQ := fun s h _ => h)

section Values

variable (m : (ℓ : Loc nD τ sig) → Buf (Elt Ideal) ℓ) (ρ : Dev nD → PrngReg) (c : Dev nD)

/-- The three branches' rows, and the gradients of their projections. -/
abbrev o0 : S2176x1024.Idx → EReal := m ((c : Thread nD τ).loc main_arg0)
abbrev o1 : S2176x1024.Idx → EReal := m ((c : Thread nD τ).loc main_arg1)
abbrev o2 : S2176x1024.Idx → EReal := m ((c : Thread nD τ).loc main_arg2)
abbrev d0 : S2176x2048.Idx → EReal := m ((c : Thread nD τ).loc main_arg3)
abbrev d1 : S2176x2048.Idx → EReal := m ((c : Thread nD τ).loc main_arg4)
abbrev d2 : S2176x2048.Idx → EReal := m ((c : Thread nD τ).loc main_arg5)

theorem at0 (j : Fin 3) (r : Fin 1024) (s : Fin 2048) : @Eq EReal (W2 m ρ c main_v1 (ix3 j r s))
    (if j = 0 then Product.tn (m := 1024) (k := 2176) (n := 2048) (o0 m c) (d0 m c) (ix2 r s) else W1 m ρ c main_v1 (ix3 j r s)) := by
  refine (congrFun (W2_arr m ρ c 2) (ix3 j r s)).trans ((final0 (V1 m ρ) c j r s).trans ?_)
  rw [show V1 m ρ c main_arg0 = o0 m c from W1_args m ρ c main_arg0 (by decide),
    show V1 m ρ c main_arg3 = d0 m c from W1_args m ρ c main_arg3 (by decide)]

theorem at1 (j : Fin 3) (r : Fin 1024) (s : Fin 2048) : @Eq EReal (W4 m ρ c main_v2 (ix3 j r s))
    (if j = 1 then Product.tn (m := 1024) (k := 2176) (n := 2048) (o1 m c) (d1 m c) (ix2 r s) else W3 m ρ c main_v2 (ix3 j r s)) := by
  refine (congrFun (W4_arr m ρ c 2) (ix3 j r s)).trans ((final1 (V3 m ρ) c j r s).trans ?_)
  rw [show V3 m ρ c main_arg1 = o1 m c from W3_args m ρ c main_arg1 (by decide),
    show V3 m ρ c main_arg4 = d1 m c from W3_args m ρ c main_arg4 (by decide)]

/-- The array of three as the call before left it. -/
theorem copied1 : W3 m ρ c main_v2 = W2 m ρ c main_v1 := by
  show StableHlo.after hostOps1 (W2 m ρ c) main_v2 = _
  rfl

theorem at2 (j : Fin 3) (r : Fin 1024) (s : Fin 2048) : @Eq EReal (W6 m ρ c main_v3 (ix3 j r s))
    (if j = 2 then Product.tn (m := 1024) (k := 2176) (n := 2048) (o2 m c) (d2 m c) (ix2 r s) else W5 m ρ c main_v3 (ix3 j r s)) := by
  refine (congrFun (W6_arr m ρ c 2) (ix3 j r s)).trans ((final2 (V5 m ρ) c j r s).trans ?_)
  rw [show V5 m ρ c main_arg2 = o2 m c from W5_args m ρ c main_arg2 (by decide),
    show V5 m ρ c main_arg5 = d2 m c from W5_args m ρ c main_arg5 (by decide)]

/-- The array of three as the call before left it. -/
theorem copied2 : W5 m ρ c main_v3 = W4 m ρ c main_v2 := by
  show StableHlo.after hostOps2 (W4 m ρ c) main_v3 = _
  rfl

/-- The three products, each at its place. -/
def dw : S3x1024x2048.Idx → EReal := BranchWeights.grad ![o0 m c, o1 m c, o2 m c] ![d0 m c, d1 m c, d2 m c]

theorem at_dw : @Eq (S3x1024x2048.Idx → EReal) (W6 m ρ c main_v3) (dw m c) := by
  funext i
  obtain ⟨j, r, s, rfl⟩ : ∃ (j : Fin 3) (r : Fin 1024) (s : Fin 2048), i = ix3 j r s := ⟨i 0, i 1, i 2, eq_ix3 i⟩
  rw [at2, copied2, at1, copied1, at0]
  fin_cases j <;> rfl

/-- What the calls leave. -/
theorem run : θ_run defs (onTc (τ := τ) (main (F := Ideal))) ⟨m, fun _ => 0, ρ⟩ (fun r => ∀ c : Dev nD,
      @Eq (S3x1024x2048.Idx → EReal) (r.2.mem ((c.tc : Thread nD τ).loc main_v3)) (dw m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_v3 (by decide))).trans (at_dw m ρ c),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c)⟩) (reach m ρ)

end Values

end Cert.Kernel11Ideal.DwBranch
-- ==== Proof.DwBranch.Claims.lean ====
/- The claims about the gradient of the branches' weights. -/
module

public import proofs.«01_k».proof.Defs
public import proofs.«01_k».proof.Proof.Gen.Kernel11.Frame
public import proofs.«01_k».proof.Proof.Gen.Reference11Ideal.Run
public import proofs.«01_k».proof.Proof.Gen.Reference11Ideal.Read
public import proofs.«01_k».proof.Proof.DwBranch.Run
public import Idealize.ShloMosaic.Lib.Pointwise

@[expose] public noncomputable section

set_option maxRecDepth 16384

namespace Cert.Proof.DwBranch

open Idealize.ShloMosaic Idealize.ShloMosaic.TcCoe Idealize.SL.Sem

theorem frame_p : Cert.quiescent_Kernel11 := fun m ρ _ => Cert.Kernel11.Gen.frame m ρ
theorem frame_pi : Cert.quiescent_Kernel11Ideal := fun m ρ _ => Cert.Kernel11Ideal.Gen.frame m ρ
theorem frame_ri : Cert.quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

/-- Nothing is rewritten: the two programs have one text. -/
theorem preserves : Cert.preserves_Kernel11_Kernel11Ideal := trivial

section Reference

open Cert.Reference11Ideal Cert.Reference11Ideal.Gen Cert.Reference11Ideal.Read

variable (o0 o1 o2 : S2176x1024.Idx → EReal) (d0 d1 d2 : S2176x2048.Idx → EReal)

theorem o_at (r : Fin 2176) (n : Fin 3) (x : Fin 1024) :
    val_main_v10 (F := Ideal) o0 o1 o2 (ix3 r n x) = (![o0, o1, o2] : Fin 3 → S2176x1024.Idx → EReal) n (ix2 r x) := by
  unfold val_main_v10 val_main_v7 val_main_v8 val_main_v9 val_main_v0 val_main_v1 val_main_v2
  fin_cases n <;> pointwise <;> rfl

theorem d_at (r : Fin 2176) (n : Fin 3) (s : Fin 2048) :
    val_main_v16 (F := Ideal) d0 d1 d2 (ix3 r n s) = (![d0, d1, d2] : Fin 3 → S2176x2048.Idx → EReal) n (ix2 r s) := by
  unfold val_main_v16 val_main_v13 val_main_v14 val_main_v15 val_main_v3 val_main_v4 val_main_v5
  fin_cases n <;> pointwise <;> rfl

/-- The reference's result is the three products. -/
theorem dw_eq : val_main_v20 (F := Ideal) o0 o1 o2 d0 d1 d2 = BranchWeights.grad ![o0, o1, o2] ![d0, d1, d2] := by
  funext i
  obtain ⟨n, r, s, rfl⟩ : ∃ (n : Fin 3) (r : Fin 1024) (s : Fin 2048), i = ix3 n r s := ⟨i 0, i 1, i 2, eq_ix3 i⟩
  have e := val_main_v19_apply (F := Ideal) o0 o1 o2 d0 d1 d2 (ix3 n r s)
  refine e.trans ?_
  rw [val_main_v18_apply]
  unfold BranchWeights.grad Product.tn
  apply Finset.sum_congr rfl
  intro k _
  rw [val_main_v17_apply, show idx_main_v17 (lidx_main_v18 (idx_main_v19 (ix3 n r s)) k) = ix3 k n s from eq_ix3 _, d_at,
    show ridx_main_v18 (idx_main_v19 (ix3 n r s)) k = ix3 k n r from eq_ix3 _, o_at]
  exact mul_comm (G := EReal) _ _

end Reference

/-- The kernel and the reference compute the same gradient. -/
theorem algebraic : Cert.algebraic_Kernel11Ideal_Reference11Ideal := by
  intro m ρ m' ρ' _ hagree
  refine ⟨_, Cert.Kernel11Ideal.DwBranch.run m ρ, ?_⟩
  refine (θ_run Cert.Reference11Ideal.defs _ _).mono (fun r h c => ?_) (Cert.Reference11Ideal.Value.run (F := Ideal) m' ρ')
  obtain ⟨h0, hk⟩ := h c
  obtain ⟨a0, a1, a2, a3, a4, a5⟩ := hagree c
  rw [Cert.Reference11Ideal.Read.val_main_v20_eq, a0, a1, a2, a3, a4, a5] at h0
  exact ⟨h0.trans (dw_eq _ _ _ _ _ _), hk⟩

end Cert.Proof.DwBranch
-- ==== Proof.FoxFwd.Array.lean ====
/- The result of the forgetting attention's forward kernel, entry by entry: grid point `t` computes the 272 rows from
   `272 * (t % 8)` on of head `t / 8`, and each block is written once. -/
module

public import proofs.«01_k».proof.Proof.Common.Idx
public import proofs.«01_k».proof.Proof.Gen.Kernel13Ideal.Value
public import proofs.«01_k».proof.Proof.Fox.Math
public import proofs.«01_k».proof.Proof.Common.Mask
public import Idealize.ShloMosaic.Lib.Tactic
public import Idealize.ShloMosaic.Lib.Pointwise.Tactic

@[expose] public noncomputable section

set_option maxRecDepth 16384

namespace Cert.FoxFwd

open Idealize.ShloMosaic Cert.Fox Cert.Softmax Cert.Idx

/-- The attention's result: the values weighted by a query's probabilities. -/
def out (X : (⟨2, ![2176, 13824]⟩ : Shape).Idx → EReal) (C : (⟨2, ![2176, 128]⟩ : Shape).Idx → EReal) (h : Fin 8)
    (q : Fin 2176) (d : Fin 128) : EReal :=
  ∑ k : Fin 2176, prob (scores X C h q) k * X (ix2 k (col 11264 (by omega) h d))

end Cert.FoxFwd

namespace Cert.Kernel13Ideal.FoxFwd

open Cert.Kernel13Ideal Cert.Kernel13Ideal.Gen Idealize.ShloMosaic Idealize.ShloMosaic.TcCoe Idealize.SL.Sem Cert.Fox Cert.Idx
  Cert.Softmax Cert.FoxFwd

variable (m : (ℓ : Loc nD τ sig) → Buf (Elt Ideal) ℓ) (c : Dev nD)

/-- The projections and the decays the kernel is given. -/
abbrev X : Buf (Elt Ideal) ((c : Thread nD τ).loc main_arg0) := m ((c : Thread nD τ).loc main_arg0)
abbrev C : Buf (Elt Ideal) ((c : Thread nD τ).loc main_arg1) := m ((c : Thread nD τ).loc main_arg1)

theorem lt64 (t : Fin cfg0.N) : t.val < 64 := lt_of_lt_of_eq t.isLt N_0

/-- Where the windows' blocks start, in blocks. -/
theorem idx : ∀ t : Fin grid0.N,
    win0_0.index t 0 = t.val % 8 ∧ win0_0.index t 1 = 72 + t.val / 8 ∧
    win0_1.index t 0 = 0 ∧ win0_1.index t 1 = 80 + t.val / 8 ∧
    win0_2.index t 0 = 0 ∧ win0_2.index t 1 = 88 + t.val / 8 ∧
    win0_3.index t 0 = t.val / 8 ∧ win0_3.index t 1 = t.val % 8 ∧ win0_3.index t 2 = 0 ∧
    win0_4.index t 0 = t.val / 8 ∧ win0_4.index t 1 = 0 ∧ win0_4.index t 2 = 0 ∧
    win0_5.index t 0 = t.val % 8 ∧ win0_5.index t 1 = t.val / 8 := by decide +kernel

theorem coords1 : ∀ t : Fin grid0.N, ((grid0.coords t) 1).val = t.val % 8 := by decide +kernel

/-- The query row `r` and the head of a grid point. -/
abbrev row (t : Fin cfg0.N) (r : Fin 272) : Fin 2176 :=
  ⟨272 * (t.val % 8) + r.val, by have := lt64 t; have := r.isLt; omega⟩
abbrev head (t : Fin cfg0.N) : Fin 8 := ⟨t.val / 8, by have := lt64 t; omega⟩

theorem blk0 (t : Fin cfg0.N) (r : Fin 272) (d : Fin 128) :
    (iblk m c 0 t : Vec Ideal S272x128 .f32) (ix2 r d) = X m c (ix2 (row t r) (col 9216 (by decide) (head t) d)) := by
  obtain ⟨e0, e1, -⟩ := idx t
  unfold iblk
  rw [View.read_apply]
  show V m c main_arg0 _ = _
  rw [V_main_arg0]
  exact congrArg _ (ext2 (by show win0_0.index t 0 * 272 + 1 * r.val = 272 * (t.val % 8) + r.val; rw [e0]; omega) (by show win0_0.index t 1 * 128 + 1 * d.val = 9216 + 128 * (t.val / 8) + d.val; rw [e1]; omega))

theorem blk1 (t : Fin cfg0.N) (k : Fin 2176) (d : Fin 128) :
    (iblk m c 1 t : Vec Ideal S2176x128 .f32) (ix2 k d) = X m c (ix2 k (col 10240 (by decide) (head t) d)) := by
  obtain ⟨-, -, e0, e1, -⟩ := idx t
  unfold iblk
  rw [View.read_apply]
  show V m c main_arg0 _ = _
  rw [V_main_arg0]
  exact congrArg _ (ext2 (by show win0_1.index t 0 * 2176 + 1 * k.val = k.val; rw [e0]; omega) (by show win0_1.index t 1 * 128 + 1 * d.val = 10240 + 128 * (t.val / 8) + d.val; rw [e1]; omega))

theorem blk2 (t : Fin cfg0.N) (k : Fin 2176) (d : Fin 128) :
    (iblk m c 2 t : Vec Ideal S2176x128 .f32) (ix2 k d) = X m c (ix2 k (col 11264 (by decide) (head t) d)) := by
  obtain ⟨-, -, -, -, e0, e1, -⟩ := idx t
  unfold iblk
  rw [View.read_apply]
  show V m c main_arg0 _ = _
  rw [V_main_arg0]
  exact congrArg _ (ext2 (by show win0_2.index t 0 * 2176 + 1 * k.val = k.val; rw [e0]; omega) (by show win0_2.index t 1 * 128 + 1 * d.val = 11264 + 128 * (t.val / 8) + d.val; rw [e1]; omega))

/-- The decays of a head: column `h` of the table. -/
theorem blk3 (t : Fin cfg0.N) (r : Fin 272) :
    (iblk m c 3 t : Vec Ideal S1x272x1 .f32) (ix3 0 r 0) = C m c (ix2 (row t r) (dcol (head t))) := by
  obtain ⟨-, -, -, -, -, -, e0, e1, e2, -⟩ := idx t
  unfold iblk
  rw [View.read_apply]
  have hV : V m c main_v2 = broadcastInDim S8x2176x1 ![0, 1] bcast_S8x2176_S8x2176x1_0_1 (transpose S8x2176 [1, 0]
      (extractStridedSlice S2176x8 ![0, 0] (m ((c : Thread nD τ).loc main_arg1)) slices_S2176x128_S2176x8_0_0)
      transposes_S2176x8_S8x2176_1_0) := by
    show StableHlo.after hostOps0 _ _ = _
    after_results
  show V m c main_v2 _ = _
  rw [hV]
  pointwise
  exact congrArg _ (ext2 (by show win0_3.index t 1 * 272 + 1 * r.val = 272 * (t.val % 8) + r.val; rw [e1]; omega) (by show win0_3.index t 0 * 1 + 1 * 0 = t.val / 8; rw [e0]; omega))

theorem blk4 (t : Fin cfg0.N) (k : Fin 2176) :
    (iblk m c 4 t : Vec Ideal S1x1x2176 .f32) (ix3 0 0 k) = C m c (ix2 k (dcol (head t))) := by
  obtain ⟨-, -, -, -, -, -, -, -, -, e0, e1, e2, -⟩ := idx t
  unfold iblk
  rw [View.read_apply]
  have hV : V m c main_v5 = broadcastInDim S8x1x2176 ![0, 2] bcast_S8x2176_S8x1x2176_0_2 (transpose S8x2176 [1, 0]
      (extractStridedSlice S2176x8 ![0, 0] (m ((c : Thread nD τ).loc main_arg1)) slices_S2176x128_S2176x8_0_0)
      transposes_S2176x8_S8x2176_1_0) := by
    show StableHlo.after hostOps0 _ _ = _
    after_results
  show V m c main_v5 _ = _
  rw [hV]
  pointwise
  exact congrArg _ (ext2 (by show win0_4.index t 2 * 2176 + 1 * k.val = k.val; rw [e2]; omega) (by show win0_4.index t 0 * 1 + 1 * 0 = t.val / 8; rw [e0]; omega))

theorem neg_inf : Ideal.ofBits FTy.f32 4286578688#32 = (⊥ : EReal) := by simp [Ideal.ofBits, Ideal.ieee]

theorem mask_bot : Named.named (F := Ideal) κ "mask" (φ := .f32) 4048155338#32 = (⊥ : EReal) :=
  IdealRules.named_const.ideal_named_scalar _ _ _ _ rfl

/-- The block a point computes from its blocks, whose rows' masked scores are `s`. -/
theorem block_apply (i : grid0.Coords) (a : Vec Ideal S272x128 .f32) (b : Vec Ideal S2176x128 .f32)
    (x : Vec Ideal S1x272x1 .f32) (y : Vec Ideal S1x1x2176 .f32) (v : Vec Ideal S2176x128 .f32) (r : Fin 272)
    (d : Fin 128) (n : ℕ) (hn : (i 1).val = n) (hn8 : n < 8) (s : Fin 2176 → EReal)
    (hs : ∀ k : Fin 2176, s k = if k.val ≤ 272 * n + r.val then
      (∑ d : Fin 128, a (ix2 r d) * b (ix2 k d)) * scale + (x (ix3 0 r 0) - y (ix3 0 0 k)) else ⊥) :
    k0_pay1 i a b x y v (ix2 r d) = ∑ k : Fin 2176, prob s k * v (ix2 k d) := by
  have key : ∀ k : Fin 2176, Scalar.select (IntOp.cmpi .sle (BitVec.ofNat 32 k.val)
        (IntOp.addi (Scalar.muli (BitVec.ofNat 32 (i 1).val) 272#32) (BitVec.ofNat 32 r.val)))
      ((∑ d : Fin 128, a (ix2 r d) * b (ix2 k d)) * Ideal.ofBits FTy.f32 1035273459#32 + (x (ix3 0 r 0) - y (ix3 0 0 k)))
      (Named.named (F := Ideal) κ "mask" (φ := .f32) 4048155338#32) = s k := by
    intro k
    rw [Mask.select_sle _ _ k.val (272 * n + r.val) (by omega) (by omega) rfl
      ((Mask.row_word _ 272 _).trans (by rw [hn])), mask_bot, hs]
    rfl
  unfold k0_pay1
  pointwise [dot_S272x128_S2176x128_S272x2176_1_1_0_0_n_n, dot_S272x2176_S2176x128_S272x128_1_0_0_1_n_n]
  rw [neg_inf]
  have hf := funext key
  exact congrArg (fun f : Fin 2176 → EReal => ∑ k : Fin 2176, prob f k * v (ix2 k d)) hf

def arr : Buf (Elt Ideal) ((c : Thread nD τ).loc main_v6) := fun i : S2176x1024.Idx =>
  out (X m c) (C m c) (hd (i 1)) (i 0) (cd (i 1))

theorem flushed (t : Fin cfg0.N) (hf : (cfg0.win 5).flush t = true) :
    (dats m 0 c).flushed 5 t = ((cfg0.win 5).blk t).view.read (Elt Ideal) (arr m c) := by
  have e := idx t
  have ht := lt64 t
  rw [Value.flushed5]
  unfold out0_5
  rw [View.canon_unit_zero zero2]
  simp only [View.ld_unit_zero (S := S272x128) zero2, View.ld_unit_zero (S := S2176x128) zero2,
    View.ld_unit_zero (S := S1x272x1) zero3, View.ld_unit_zero (S := S1x1x2176) zero3]
  funext y
  obtain ⟨r, d, rfl⟩ := of2 y
  rw [View.read_apply]
  show k0_pay1 (grid0.coords t) (iblk m c 0 t) (iblk m c 1 t) (iblk m c 3 t) (iblk m c 4 t) (iblk m c 2 t) (ix2 r d)
    = arr m c _
  rw [block_apply _ _ _ _ _ _ r d (t.val % 8) (coords1 t) (by omega) (scores (X m c) (C m c) (head t) (row t r))
      (fun k => by simp only [blk0, blk1, blk3, blk4]; rfl),
    show ((cfg0.win 5).blk t).view.emb (ix2 r d) = ix2 (row t r) (hcol (head t) d) from
      ext2 (by show win0_5.index t 0 * 272 + 1 * r.val = 272 * (t.val % 8) + r.val; omega)
        (by show win0_5.index t 1 * 128 + 1 * d.val = 128 * (t.val / 8) + d.val; omega)]
  show _ = out (X m c) (C m c) (hd (hcol (head t) d)) (row t r) (cd (hcol (head t) d))
  rw [hd_hcol, cd_hcol]
  unfold out
  simp only [blk2]

theorem final : (dats m 0 c).arrAt 5 cfg0.N = arr m c :=
  (dats m 0 c).arrAt_eq_of_cover 5 (arr m c) (flushed m c) fun i : S2176x1024.Idx => by
    obtain ⟨h0, h1⟩ := below2 i
    obtain ⟨t, ht⟩ : ∃ t : Fin cfg0.N, t.val = 8 * ((i 1).val / 128) + (i 0).val / 272 := ⟨⟨_, by rw [show cfg0.N = 64 from N_0]; omega⟩, rfl⟩
    have e := idx t
    refine ⟨t, flush0_5 t, ?_⟩
    show i ∈ ((View.whole main_v6).slice (win0_5.rect t)).set
    rw [View.set_slice_whole, Rect.mem_set_unit]
    intro a
    match a with
    | ⟨0, _⟩ =>
      show win0_5.index t 0 * 272 ≤ (i 0).val ∧ (i 0).val < win0_5.index t 0 * 272 + 272
      omega
    | ⟨1, _⟩ =>
      show win0_5.index t 1 * 128 ≤ (i 1).val ∧ (i 1).val < win0_5.index t 1 * 128 + 128
      omega

end Cert.Kernel13Ideal.FoxFwd
-- ==== Proof.FoxFwd.Reference.lean ====
/- The forward reference's result, entry by entry. -/
module

public import proofs.«01_k».proof.Proof.Gen.Reference13Ideal.Read
public import proofs.«01_k».proof.Proof.FoxFwd.Array
public import proofs.«01_k».proof.Proof.Common.Index

@[expose] public noncomputable section

set_option maxRecDepth 16384

namespace Cert.Reference13Ideal.FoxFwd

open Cert.Reference13Ideal Cert.Reference13Ideal.Gen Cert.Reference13Ideal.Read Idealize.ShloMosaic Cert.Fox Cert.Softmax
  Cert.FoxFwd
open Cert.Index (ext2 ext3)

variable (X : (⟨S2176x13824, .f32⟩ : BufTy).Contents (Elt Ideal)) (C : (⟨S2176x128, .f32⟩ : BufTy).Contents (Elt Ideal))

theorem neg_inf : Ideal.ofBits FTy.f32 4286578688#32 = (⊥ : EReal) := by simp [Ideal.ofBits, Ideal.ieee]
theorem zero : Ideal.ofBits FTy.f32 0x00000000#32 = (0 : EReal) := by simp [Ideal.ofBits, Ideal.ieee]

/-- The queries, keys and values, head by head. -/
theorem q_at (h : Fin 8) (q : Fin 2176) (d : Fin 128) :
    val_main_v8 (F := Ideal) X (ix3 h q d) = X (ix2 q (col 9216 (by omega) h d)) := by
  have := h.isLt; have := d.isLt
  rw [val_main_v8_apply, val_main_v7_apply, val_main_v2_apply]
  refine congrArg X (ext2 _ _ _ ?_ ?_)
  · show ((q.val * 8 + h.val) * 128 + d.val) / 1024 = q.val; omega
  · show 9216 + ((q.val * 8 + h.val) * 128 + d.val) % 1024 = 9216 + 128 * h.val + d.val; omega
theorem k_at (h : Fin 8) (k : Fin 2176) (d : Fin 128) :
    val_main_v10 (F := Ideal) X (ix3 h k d) = X (ix2 k (col 10240 (by omega) h d)) := by
  have := h.isLt; have := d.isLt
  rw [val_main_v10_apply, val_main_v9_apply, val_main_v3_apply]
  refine congrArg X (ext2 _ _ _ ?_ ?_)
  · show ((k.val * 8 + h.val) * 128 + d.val) / 1024 = k.val; omega
  · show 10240 + ((k.val * 8 + h.val) * 128 + d.val) % 1024 = 10240 + 128 * h.val + d.val; omega
theorem v_at (h : Fin 8) (k : Fin 2176) (d : Fin 128) :
    val_main_v12 (F := Ideal) X (ix3 h k d) = X (ix2 k (col 11264 (by omega) h d)) := by
  have := h.isLt; have := d.isLt
  rw [val_main_v12_apply, val_main_v11_apply, val_main_v4_apply]
  refine congrArg X (ext2 _ _ _ ?_ ?_)
  · show ((k.val * 8 + h.val) * 128 + d.val) / 1024 = k.val; omega
  · show 11264 + ((k.val * 8 + h.val) * 128 + d.val) % 1024 = 11264 + 128 * h.val + d.val; omega

/-- The comparison of positions chooses by them. -/
theorem select_mask (h : Fin 8) (q k : Fin 2176) (u v : EReal) :
    Scalar.select (val_main_call0_v1 (F := Ideal) (ix3 h q k)) u v = if k.val ≤ q.val then u else v := by
  rw [val_main_call0_v1_apply, val_main_v25_apply, val_main_v23_apply, val_main_v21_apply, val_main_v20_apply,
    val_main_v24_apply, val_main_v22_apply, val_main_v20_apply]
  exact Mask.select_sle _ _ k.val q.val (by omega) (by omega) rfl rfl u v

/-- The masked scores. -/
theorem scores_at (h : Fin 8) (q k : Fin 2176) :
    val_main_v26 (F := Ideal) X C (ix3 h q k) = scores X C h q k := by
  rw [val_main_v26_apply, select_mask,
    val_main_v19_apply, val_main_v15_apply, val_main_v13_apply, val_main_v18_apply,
    val_main_v16_apply, val_main_v17_apply, val_main_v5_apply, val_main_v6_apply, val_main_v1_apply, val_main_v1_apply,
    val_main_v0_apply, val_main_v0_apply, val_main_v14_apply, val_main_cst_apply, val_main_call0_v2_apply,
    val_main_call0_v0_apply, val_main_cst_0_apply]
  unfold scores score scale
  have e : ∀ d : Fin 128, (val_main_v8 (F := Ideal) X) (lidx_main_v13 (ix3 h q k) d)
      * (val_main_v10 (F := Ideal) X) (ridx_main_v13 (ix3 h q k) d)
      = X (ix2 q (col 9216 (by omega) h d)) * X (ix2 k (col 10240 (by omega) h d)) := fun d => by
    rw [show lidx_main_v13 (ix3 h q k) d = ix3 h q d from ext3 _ _ _ _ rfl rfl rfl,
      show ridx_main_v13 (ix3 h q k) d = ix3 h k d from ext3 _ _ _ _ rfl rfl rfl, q_at, k_at]
  rw [Finset.sum_congr rfl fun d _ => e d]
  refine congrArg₂ (fun u v : EReal => if k.val ≤ q.val then u else v) (congrArg₂ (· + ·) rfl ?_) neg_inf
  exact congrArg₂ (fun u v : EReal => u - v) (congrArg C (ext2 _ _ _ rfl rfl)) (congrArg C (ext2 _ _ _ rfl rfl))

/-- The largest score of a row. -/
theorem top_at (h : Fin 8) (q : Fin 2176) : val_main_v29 (F := Ideal) X C (ix2 h q) = top (scores X C h q) := by
  rw [val_main_v29_apply, val_main_v28_apply, val_main_cst_2_apply]
  have e : val_main_v27 (F := Ideal) X C (ix2 h q) = top (scores X C h q) := by
    unfold val_main_v27
    pointwise
    simp only [scores_at]
    rw [show val_main_cst_1 (F := Ideal) (Shape.Idx.first h_S_) = (⊥ : EReal) from neg_inf]
    rfl
  rw [e]
  show max (Ideal.ofBits FTy.f32 4286578688#32) _ = _
  rw [neg_inf, max_eq_right bot_le]

theorem ex_at (h : Fin 8) (q k : Fin 2176) : val_main_v33 (F := Ideal) X C (ix3 h q k) = ex (scores X C h q) k := by
  rw [val_main_v33_apply, val_main_v32_apply, scores_at, val_main_v31_apply, val_main_v30_apply,
    show idx_main_v30 (idx_main_v31 (ix3 h q k)) = ix2 h q from ext2 _ _ _ rfl rfl, top_at]
  rfl

theorem prob_at (h : Fin 8) (q k : Fin 2176) :
    val_main_v37 (F := Ideal) X C (ix3 h q k) = prob (scores X C h q) k := by
  rw [val_main_v37_apply, ex_at, val_main_v36_apply, val_main_v35_apply,
    show idx_main_v35 (idx_main_v36 (ix3 h q k)) = ix2 h q from ext2 _ _ _ rfl rfl]
  refine congrArg (Ideal.div _) ?_
  rw [val_main_v34_apply]
  unfold den
  refine (congrArg₂ (· + ·) zero (Finset.sum_congr rfl fun k _ => ?_)).trans (zero_add _)
  rw [show idx_main_v34 (ix2 h q) k = ix3 h q k from ext3 _ _ _ _ rfl rfl rfl, ex_at]

/-- The result. -/
theorem out_at (q : Fin 2176) (e : Fin 1024) :
    val_main_v41 (F := Ideal) X C (ix2 q e) = out X C (hd e) q (cd e) := by
  have := e.isLt
  show val_main_v40 (F := Ideal) X C (ix2 q e) = _
  rw [val_main_v40_apply, val_main_v39_apply,
    show idx_main_v39 (idx_main_v40 (ix2 q e)) = ix3 (hd e) q (cd e) from ext3 _ _ _ _
      (by show (q.val * 1024 + e.val) / 128 % 8 = e.val / 128; omega)
      (by show (q.val * 1024 + e.val) / 1024 = q.val; omega)
      (by show (q.val * 1024 + e.val) % 128 = e.val % 128; omega), val_main_v38_apply]
  refine Finset.sum_congr rfl fun k _ => ?_
  rw [show lidx_main_v38 (ix3 (hd e) q (cd e)) k = ix3 (hd e) q k from ext3 _ _ _ _ rfl rfl rfl,
    show ridx_main_v38 (ix3 (hd e) q (cd e)) k = ix3 (hd e) k (cd e) from ext3 _ _ _ _ rfl rfl rfl, prob_at, v_at]

end Cert.Reference13Ideal.FoxFwd
-- ==== Proof.FoxFwd.Claims.lean ====
/- The claims about the forgetting attention's forward call. -/
module

public import proofs.«01_k».proof.Defs
public import proofs.«01_k».proof.Proof.Gen.Kernel13.Frame
public import proofs.«01_k».proof.Proof.Gen.Kernel13Ideal.Frame
public import proofs.«01_k».proof.Proof.Gen.Reference13Ideal.Run
public import proofs.«01_k».proof.Proof.FoxFwd.Array
public import proofs.«01_k».proof.Proof.FoxFwd.Reference

@[expose] public noncomputable section

set_option maxRecDepth 16384

namespace Cert.Proof.FoxFwd

open Idealize.ShloMosaic Idealize.ShloMosaic.TcCoe Idealize.SL.Sem Cert.Idx

theorem frame_p : Cert.quiescent_Kernel13 := fun m ρ _ => Cert.Kernel13.Gen.frame m ρ
theorem frame_pi : Cert.quiescent_Kernel13Ideal := fun m ρ _ => Cert.Kernel13Ideal.Gen.frame m ρ
theorem frame_ri : Cert.quiescent_Reference13Ideal := fun m ρ _ =>
  (θ_run Cert.Reference13Ideal.defs _ _).mono (fun r h => ⟨fun c => (h c).2, sem_eq_zero_of_no_sems (by decide) r.2⟩)
    (Cert.Reference13Ideal.Value.run (F := Ideal) m ρ)

/-- The program's table gives the mask the value `⊥`. -/
theorem preserves : Cert.preserves_Kernel13_Kernel13Ideal :=
  IdealRules.named_const.statement Cert.Kernel13Ideal.κ "mask" .f32 0xF149F2CA#32 ⊥ rfl

/-- The kernel and the reference compute the same array. -/
theorem algebraic : Cert.algebraic_Kernel13Ideal_Reference13Ideal := by
  intro m ρ m' ρ' _ hagree
  refine ⟨fun c => Cert.Kernel13Ideal.FoxFwd.arr m c, ?_, ?_⟩
  · refine (θ_run Cert.Kernel13Ideal.defs _ _).mono (fun r h c => ?_)
      (Cert.Kernel13Ideal.Value.run_blocks (F := Ideal) m ρ)
    obtain ⟨h0, hk⟩ := h c
    exact ⟨h0.trans (Cert.Kernel13Ideal.FoxFwd.final m c), hk⟩
  · refine (θ_run Cert.Reference13Ideal.defs _ _).mono (fun r h c => ?_)
      (Cert.Reference13Ideal.Value.run (F := Ideal) m' ρ')
    obtain ⟨h0, hk⟩ := h c
    obtain ⟨a0, a1⟩ := hagree c
    rw [Cert.Reference13Ideal.Read.val_main_v41_eq, a0, a1] at h0
    refine ⟨h0.trans ?_, hk⟩
    funext i
    obtain ⟨q, e, rfl⟩ := of2 (a := 2176) (b := 1024) i
    exact Cert.Reference13Ideal.FoxFwd.out_at _ _ q e

end Cert.Proof.FoxFwd
-- ==== Proof.Mla.Point.lean ====
/- What one grid point of the latent attention's gradient leaves in the three output blocks: the exponentials of its
   272 query rows' scores against all keys of its head, and what is computed from them. -/
module

public import proofs.«01_k».proof.Proof.Common.Idx
public import proofs.«01_k».proof.Proof.Gen.Kernel12Ideal.Value
public import Idealize.ShloMosaic.Lib.Tactic

@[expose] public noncomputable section

set_option maxRecDepth 16384

namespace Cert.Kernel12Ideal.Mla

open Cert.Kernel12Ideal Cert.Kernel12Ideal.Gen Idealize.ShloMosaic Idealize.ShloMosaic.TcCoe Idealize.SL.Sem Cert.Idx

variable {F : FTy → Type} [FloatOps F] [Named F] (m : (ℓ : Loc nD τ sig) → Buf (Elt F) ℓ) (c : Dev nD)

/-- The exponentials of the point's scores, and their sums. -/
abbrev E (t : Fin cfg0.N) : FVec F S272x2176 .f32 :=
  k0_pay7 (grid0.coords t) (iblk m c 0 t) (iblk m c 1 t) (iblk m c 3 t) (iblk m c 4 t) (iblk m c 2 t)
abbrev Z (t : Fin cfg0.N) : FVec F S272x2176 .f32 :=
  k0_pay8 (grid0.coords t) (iblk m c 0 t) (iblk m c 1 t) (iblk m c 3 t) (iblk m c 4 t) (iblk m c 2 t)

/-- What a point leaves in the output blocks, from what it finds in the two that are summed. -/
def leaves (t : Fin cfg0.N) (a : Vec F S2176x256 .f32) (b : Vec F S2176x128 .f32) :
    Vec F S272x384 .bf16 × Vec F S2176x256 .f32 × Vec F S2176x128 .f32 :=
  (k0_pay11 (k0_pay5 (iblk m c 1 t)) (k0_pay6 (iblk m c 1 t)) (iblk m c 2 t) (iblk m c 5 t) (E m c t) (Z m c t)
      (iblk m c 3 t) (iblk m c 4 t),
    k0_pay13 (k0_pay3 (iblk m c 0 t)) (k0_pay6 (iblk m c 1 t)) (iblk m c 5 t) (E m c t) (Z m c t) a,
    k0_pay2 (k0_pay4 (iblk m c 0 t) (iblk m c 3 t) (iblk m c 4 t))
      (k0_pay10 (k0_pay6 (iblk m c 1 t)) (iblk m c 5 t) (E m c t) (Z m c t)) b)

/-- The first point of all starts both sums at zero. -/
theorem first (t : Fin cfg0.N) (h0 : t.val % 8 = 0) (h1 : t.val % 64 = 0) :
    outsAt0 m c t.val t.isLt = leaves m c t k0_pay12 k0_pay1 := by
  rw [outsAt0_A m c t h0 h1]
  unfold leaves E Z
  refine Prod.ext ?_ (Prod.ext ?_ ?_) <;> dsimp only
  · unfold out0_A_6
    rw [View.read_writes_eq_canon]; swap
    · intro y; apply cover0_A_6
    unfold kernelRun0_A; dsimp only; sl_unfold_words
    rw [View.canon_unit_zero zero2]
    simp only [View.readAt_eq_ld, (hs0_0 t).read_unread, (hs0_1 t).read_unread, (hs0_2 t).read_unread,
      (hs0_3 t).read_unread, (hs0_4 t).read_unread, (hs0_5 t).read_unread,
      ld2]
  · unfold out0_A_7
    rw [View.read_writes_eq_canon]; swap
    · intro y; apply cover0_A_7
    unfold kernelRun0_A; dsimp only; sl_unfold_words
    rw [View.canon_cons_unit_zero (S := S2176x256) zero2, View.readCov_unit_zero (S := S2176x256) _ zero2]
    simp only [View.readAt_eq_ld, (hs0_0 t).read_unread, (hs0_1 t).read_unread, (hs0_2 t).read_unread,
      (hs0_3 t).read_unread, (hs0_4 t).read_unread, (hs0_5 t).read_unread,
      ld2]
  · unfold out0_A_8
    rw [View.read_writes_eq_canon]; swap
    · intro y; apply cover0_A_8
    unfold kernelRun0_A; dsimp only; sl_unfold_words
    rw [View.canon_cons_unit_zero (S := S2176x128) zero2, View.readCov_unit_zero (S := S2176x128) _ zero2]
    simp only [View.readAt_eq_ld, (hs0_0 t).read_unread, (hs0_1 t).read_unread, (hs0_2 t).read_unread,
      (hs0_3 t).read_unread, (hs0_4 t).read_unread, (hs0_5 t).read_unread,
      ld2]

/-- The first point of a later head starts the head's sum at zero. -/
theorem start (t : Fin cfg0.N) (h0 : t.val % 8 = 0) (h1 : ¬t.val % 64 = 0) (h : t.val - 1 < cfg0.N) :
    outsAt0 m c t.val t.isLt = leaves m c t k0_pay12 (outsAt0 m c (t.val - 1) h).2.2 := by
  rw [outsAt0_C m c t h0 h1]
  unfold leaves E Z
  refine Prod.ext ?_ (Prod.ext ?_ ?_) <;> dsimp only
  · unfold out0_C_6
    rw [View.read_writes_eq_canon]; swap
    · intro y; apply cover0_C_6
    unfold kernelRun0_C; dsimp only; sl_unfold_words
    rw [View.canon_unit_zero zero2]
    simp only [View.readAt_eq_ld, (hs0_0 t).read_unread, (hs0_1 t).read_unread, (hs0_2 t).read_unread,
      (hs0_3 t).read_unread, (hs0_4 t).read_unread, (hs0_5 t).read_unread,
      ld2]
  · unfold out0_C_7
    rw [View.read_writes_eq_canon]; swap
    · intro y; apply cover0_C_7
    unfold kernelRun0_C; dsimp only; sl_unfold_words
    rw [View.canon_cons_unit_zero (S := S2176x256) zero2, View.readCov_unit_zero (S := S2176x256) _ zero2]
    simp only [View.readAt_eq_ld, (hs0_0 t).read_unread, (hs0_1 t).read_unread, (hs0_2 t).read_unread,
      (hs0_3 t).read_unread, (hs0_4 t).read_unread, (hs0_5 t).read_unread,
      ld2]
  · unfold out0_C_8
    rw [View.read_writes_eq_canon]; swap
    · intro y; apply cover0_C_8
    unfold kernelRun0_C; dsimp only; sl_unfold_words
    rw [View.canon_unit_zero zero2]
    simp only [View.readAt_eq_ld, (hs0_0 t).read_unread, (hs0_1 t).read_unread, (hs0_2 t).read_unread,
      (hs0_3 t).read_unread, (hs0_4 t).read_unread, (hs0_5 t).read_unread,
      (hs0_8 t).read_unread,
      ld2]

/-- Another point adds to what the point before it left. -/
theorem later (t : Fin cfg0.N) (h0 : ¬t.val % 8 = 0) (h : t.val - 1 < cfg0.N) :
    outsAt0 m c t.val t.isLt = leaves m c t (outsAt0 m c (t.val - 1) h).2.1 (outsAt0 m c (t.val - 1) h).2.2 := by
  rw [outsAt0_B m c t h0 (by omega)]
  unfold leaves E Z
  refine Prod.ext ?_ (Prod.ext ?_ ?_) <;> dsimp only
  · unfold out0_B_6
    rw [View.read_writes_eq_canon]; swap
    · intro y; apply cover0_B_6
    unfold kernelRun0_B; dsimp only; sl_unfold_words
    rw [View.canon_unit_zero zero2]
    simp only [View.readAt_eq_ld, (hs0_0 t).read_unread, (hs0_1 t).read_unread, (hs0_2 t).read_unread,
      (hs0_3 t).read_unread, (hs0_4 t).read_unread, (hs0_5 t).read_unread,
      ld2]
  · unfold out0_B_7
    rw [View.read_writes_eq_canon]; swap
    · intro y; apply cover0_B_7
    unfold kernelRun0_B; dsimp only; sl_unfold_words
    rw [View.canon_unit_zero zero2]
    simp only [View.readAt_eq_ld, (hs0_0 t).read_unread, (hs0_1 t).read_unread, (hs0_2 t).read_unread,
      (hs0_3 t).read_unread, (hs0_4 t).read_unread, (hs0_5 t).read_unread,
      (hs0_7 t).read_unread,
      ld2]
  · unfold out0_B_8
    rw [View.read_writes_eq_canon]; swap
    · intro y; apply cover0_B_8
    unfold kernelRun0_B; dsimp only; sl_unfold_words
    rw [View.canon_unit_zero zero2]
    simp only [View.readAt_eq_ld, (hs0_0 t).read_unread, (hs0_1 t).read_unread, (hs0_2 t).read_unread,
      (hs0_3 t).read_unread, (hs0_4 t).read_unread, (hs0_5 t).read_unread,
      (hs0_8 t).read_unread,
      ld2]

end Cert.Kernel12Ideal.Mla
-- ==== Proof.Mla.Math.lean ====
/- The gradient of the latent attention, entry by entry, over the extended reals. `Q` holds for each head the queries'
   part without a position, the part with one and the latter with its halves turned, side by side; `K` for each head
   the keys' part without a position and the values; `P` the keys' part with a position, the same for all heads; `S`
   and `T` the cosines and sines of the positions; `G` the gradient with respect to the attention's result. -/
module

public import proofs.«01_k».proof.Proof.Common.Softmax
public import Idealize.ShloMosaic.Lib.Pointwise

@[expose] public noncomputable section

namespace Cert.Mla

open Idealize.ShloMosaic Cert.Softmax

variable (Q : (⟨2, ![2176, 3072]⟩ : Shape).Idx → EReal) (K : (⟨2, ![2176, 2048]⟩ : Shape).Idx → EReal)
  (P S T : (⟨2, ![2176, 128]⟩ : Shape).Idx → EReal) (G : (⟨2, ![2176, 1024]⟩ : Shape).Idx → EReal)

/-- Column `d` of part `p` of head `h` in the queries, and in the keys and values. -/
abbrev qcol (p : Fin 3) (h : Fin 8) (d : Fin 128) : Fin 3072 :=
  ⟨384 * h.val + 128 * p.val + d.val, by have := p.isLt; have := h.isLt; have := d.isLt; omega⟩
abbrev kcol (p : Fin 2) (h : Fin 8) (d : Fin 128) : Fin 2048 :=
  ⟨256 * h.val + 128 * p.val + d.val, by have := p.isLt; have := h.isLt; have := d.isLt; omega⟩
/-- Column `d` of head `h` in an array with the heads side by side. -/
abbrev hcol (h : Fin 8) (d : Fin 128) : Fin 1024 := ⟨128 * h.val + d.val, by have := h.isLt; have := d.isLt; omega⟩

/-- The number of a head's dimensions, `192`, to the power `-0.5`. -/
def scale : EReal := Ideal.ofBits .f32 0x3D93CD3A#32

/-- The queries' part with a position. -/
def qp (h : Fin 8) (q : Fin 2176) (d : Fin 128) : EReal :=
  Q (ix2 q (qcol 1 h d)) * S (ix2 q d) + Q (ix2 q (qcol 2 h d)) * T (ix2 q d)

/-- The score of query `q` against key `k`. -/
def score (h : Fin 8) (q k : Fin 2176) : EReal :=
  ((∑ d : Fin 128, Q (ix2 q (qcol 0 h d)) * K (ix2 k (kcol 0 h d))) + ∑ d : Fin 128, qp Q S T h q d * P (ix2 k d)) * scale
/-- The scores of a query, `⊥` past its own position. -/
def scores (h : Fin 8) (q k : Fin 2176) : EReal := if k.val ≤ q.val then score Q K P S T h q k else ⊥
/-- The gradient with respect to a probability. -/
def dp (h : Fin 8) (q k : Fin 2176) : EReal := ∑ d : Fin 128, G (ix2 q (hcol h d)) * K (ix2 k (kcol 1 h d))
/-- The gradient with respect to a score, times the scale. -/
def ds (h : Fin 8) (q k : Fin 2176) : EReal := grad (scores Q K P S T h q) (dp K G h q) k * scale

/-- The gradients with respect to the queries' two parts. -/
def dqn (h : Fin 8) (q : Fin 2176) (d : Fin 128) : EReal :=
  ∑ k : Fin 2176, ds Q K P S T G h q k * K (ix2 k (kcol 0 h d))
def dqp (h : Fin 8) (q : Fin 2176) (d : Fin 128) : EReal := ∑ k : Fin 2176, ds Q K P S T G h q k * P (ix2 k d)
/-- The gradient with respect to a query's entry, part by part. -/
def dq (h : Fin 8) (q : Fin 2176) (p : Fin 3) (d : Fin 128) : EReal :=
  if p = 0 then dqn Q K P S T G h q d
  else if p = 1 then dqp Q K P S T G h q d * S (ix2 q d)
  else dqp Q K P S T G h q d * T (ix2 q d)
/-- The gradient with respect to an entry of the keys and values: what query `q` adds, and the sum. -/
def dkvTerm (h : Fin 8) (q k : Fin 2176) (p : Fin 2) (d : Fin 128) : EReal :=
  if p = 0 then ds Q K P S T G h q k * Q (ix2 q (qcol 0 h d))
  else prob (scores Q K P S T h q) k * G (ix2 q (hcol h d))
def dkv (h : Fin 8) (k : Fin 2176) (p : Fin 2) (d : Fin 128) : EReal :=
  ∑ q : Fin 2176, dkvTerm Q K P S T G h q k p d
/-- The gradient with respect to the keys' part with a position. -/
def dkp (k : Fin 2176) (d : Fin 128) : EReal :=
  ∑ h : Fin 8, ∑ q : Fin 2176, ds Q K P S T G h q k * qp Q S T h q d

theorem scale_num : ∃ r : ℝ, scale = r := ⟨_, by unfold scale; simp [Ideal.ofBits, Ideal.ieee]; rfl⟩

variable (hQ : ∀ i, ∃ r : ℝ, Q i = r) (hK : ∀ i, ∃ r : ℝ, K i = r) (hP : ∀ i, ∃ r : ℝ, P i = r)
  (hS : ∀ i, ∃ r : ℝ, S i = r) (hT : ∀ i, ∃ r : ℝ, T i = r) (hG : ∀ i, ∃ r : ℝ, G i = r)

include hQ hK hP hS hT in
theorem score_num (h : Fin 8) (q k : Fin 2176) : ∃ r : ℝ, score Q K P S T h q k = r := by
  choose a ha using hQ
  choose b hb using hK
  choose x hx using hP
  choose y hy using hS
  choose z hz using hT
  obtain ⟨σ, hσ⟩ := scale_num
  exact ⟨_, by simp only [score, qp, ha, hb, hx, hy, hz, hσ, ← EReal.coe_mul, ← EReal.coe_add, ← coe_sum]; rfl⟩

include hQ hK hP hS hT in
theorem scores_ne_top (h : Fin 8) (q k : Fin 2176) : scores Q K P S T h q k ≠ ⊤ := by
  obtain ⟨r, hr⟩ := score_num Q K P S T hQ hK hP hS hT h q k
  unfold scores
  split
  · rw [hr]; exact EReal.coe_ne_top r
  · exact bot_ne_top

include hQ hK hP hS hT in
theorem scores_ne_bot (h : Fin 8) (q : Fin 2176) : ∃ k, scores Q K P S T h q k ≠ ⊥ := by
  obtain ⟨r, hr⟩ := score_num Q K P S T hQ hK hP hS hT h q q
  refine ⟨q, ?_⟩
  unfold scores
  rw [if_pos le_rfl, hr]
  exact EReal.coe_ne_bot r

include hK hG in
theorem dp_num (h : Fin 8) (q : Fin 2176) : ∃ γ : Fin 2176 → ℝ, dp K G h q = fun k => (γ k : EReal) := by
  choose x hx using hK
  choose y hy using hG
  exact ⟨_, by funext k; simp only [dp, hx, hy, ← EReal.coe_mul, ← coe_sum]; rfl⟩

include hQ hK hP hS hT hG

/-- The gradient with respect to a score has the form of the derivative of a quotient, and is zero past the query's
    own position. -/
theorem ds_eq_quot (h : Fin 8) (q k : Fin 2176) : ds Q K P S T G h q k
    = (if k.val ≤ q.val then gradQuot (scores Q K P S T h q) (dp K G h q) k else 0) * scale := by
  obtain ⟨γ, hγ⟩ := dp_num K G hK hG h q
  unfold ds
  rw [hγ]
  congr 1
  split
  · exact grad_eq_gradQuot _ (scores_ne_top Q K P S T hQ hK hP hS hT h q) (scores_ne_bot Q K P S T hQ hK hP hS hT h q) γ k
  · rename_i hk
    exact grad_bot _ (scores_ne_top Q K P S T hQ hK hP hS hT h q) (scores_ne_bot Q K P S T hQ hK hP hS hT h q) γ k
      (by unfold scores; rw [if_neg hk])

end Cert.Mla
-- ==== Proof.Mla.Blocks.lean ====
/- The blocks the windows of the latent attention's gradient read, at an index of the argument arrays: grid point `t`
   works on the head `t / 8` and the 272 query rows from `272 * (t % 8)` on. -/
module

public import proofs.«01_k».proof.Proof.Common.Idx
public import proofs.«01_k».proof.Proof.Gen.Kernel12Ideal.Value
public import proofs.«01_k».proof.Proof.Mla.Math
public import Idealize.ShloMosaic.Lib.Tactic

@[expose] public noncomputable section

set_option maxRecDepth 16384

namespace Cert.Kernel12Ideal.Mla

open Cert.Kernel12Ideal Cert.Kernel12Ideal.Gen Idealize.ShloMosaic Idealize.ShloMosaic.TcCoe Idealize.SL.Sem Cert.Mla Cert.Idx

variable {F : FTy → Type} [FloatOps F] [Named F] (m : (ℓ : Loc nD τ sig) → Buf (Elt F) ℓ) (c : Dev nD)

/-- A grid point is one of 64. -/
theorem lt64 (t : Fin cfg0.N) : t.val < 64 := lt_of_lt_of_eq t.isLt N_0

/-- Where the windows' blocks start, in blocks. -/
theorem idx_0 : ∀ t : Fin cfg0.N, win0_0.index t 0 = t.val % 8 ∧ win0_0.index t 1 = t.val / 8 :=
  (by decide +kernel : ∀ t : Fin grid0.N, win0_0.index t 0 = t.val % 8 ∧ win0_0.index t 1 = t.val / 8)
theorem idx_1 : ∀ t : Fin cfg0.N, win0_1.index t 0 = 0 ∧ win0_1.index t 1 = t.val / 8 :=
  (by decide +kernel : ∀ t : Fin grid0.N, win0_1.index t 0 = 0 ∧ win0_1.index t 1 = t.val / 8)
theorem idx_2 : ∀ t : Fin cfg0.N, win0_2.index t 0 = 0 ∧ win0_2.index t 1 = 0 :=
  (by decide +kernel : ∀ t : Fin grid0.N, win0_2.index t 0 = 0 ∧ win0_2.index t 1 = 0)
theorem idx_3 : ∀ t : Fin cfg0.N, win0_3.index t 0 = t.val % 8 ∧ win0_3.index t 1 = 0 :=
  (by decide +kernel : ∀ t : Fin grid0.N, win0_3.index t 0 = t.val % 8 ∧ win0_3.index t 1 = 0)
theorem idx_4 : ∀ t : Fin cfg0.N, win0_4.index t 0 = t.val % 8 ∧ win0_4.index t 1 = 0 :=
  (by decide +kernel : ∀ t : Fin grid0.N, win0_4.index t 0 = t.val % 8 ∧ win0_4.index t 1 = 0)
theorem idx_5 : ∀ t : Fin grid0.N, win0_5.index t 0 = t.val % 8 ∧ win0_5.index t 1 = t.val / 8 := by decide +kernel

/-- The query row `r` of grid point `t`, and its head. -/
abbrev row (t : Fin cfg0.N) (r : Fin 272) : Fin 2176 :=
  ⟨272 * (t.val % 8) + r.val, by have := lt64 t; have := r.isLt; omega⟩
abbrev head (t : Fin cfg0.N) : Fin 8 := ⟨t.val / 8, by have := lt64 t; omega⟩

theorem blk0 (t : Fin cfg0.N) (r : Fin 272) (p : Fin 3) (d : Fin 128) :
    (iblk m c 0 t : Vec F S272x384 .f32) (ix2 r ⟨128 * p.val + d.val, by have := p.isLt; have := d.isLt; omega⟩)
      = m ((c : Thread nD τ).loc main_arg0) (ix2 (row t r) (qcol p (head t) d)) := by
  obtain ⟨e0, e1⟩ := idx_0 t
  unfold iblk
  rw [View.read_apply]
  show V m c main_arg0 _ = _
  rw [V_main_arg0]
  exact congrArg _ (ext2 (by show win0_0.index t 0 * 272 + 1 * r.val = 272 * (t.val % 8) + r.val; rw [e0]; omega) (by show win0_0.index t 1 * 384 + 1 * (128 * p.val + d.val) = 384 * (t.val / 8) + 128 * p.val + d.val; rw [e1]; omega))

theorem blk1 (t : Fin cfg0.N) (k : Fin 2176) (p : Fin 2) (d : Fin 128) :
    (iblk m c 1 t : Vec F S2176x256 .f32) (ix2 k ⟨128 * p.val + d.val, by have := p.isLt; have := d.isLt; omega⟩)
      = m ((c : Thread nD τ).loc main_arg1) (ix2 k (kcol p (head t) d)) := by
  obtain ⟨e0, e1⟩ := idx_1 t
  unfold iblk
  rw [View.read_apply]
  show V m c main_arg1 _ = _
  rw [V_main_arg1]
  exact congrArg _ (ext2 (by show win0_1.index t 0 * 2176 + 1 * k.val = k.val; rw [e0]; omega) (by show win0_1.index t 1 * 256 + 1 * (128 * p.val + d.val) = 256 * (t.val / 8) + 128 * p.val + d.val; rw [e1]; omega))

theorem blk2 (t : Fin cfg0.N) (k : Fin 2176) (d : Fin 128) :
    (iblk m c 2 t : Vec F S2176x128 .f32) (ix2 k d)
      = m ((c : Thread nD τ).loc main_arg2) (ix2 k d) := by
  obtain ⟨e0, e1⟩ := idx_2 t
  unfold iblk
  rw [View.read_apply]
  show V m c main_arg2 _ = _
  rw [V_main_arg2]
  exact congrArg _ (ext2 (by show win0_2.index t 0 * 2176 + 1 * k.val = k.val; rw [e0]; omega) (by show win0_2.index t 1 * 128 + 1 * (d.val) = d.val; rw [e1]; omega))

theorem blk3 (t : Fin cfg0.N) (r : Fin 272) (d : Fin 128) :
    (iblk m c 3 t : Vec F S272x128 .f32) (ix2 r d)
      = m ((c : Thread nD τ).loc main_arg3) (ix2 (row t r) d) := by
  obtain ⟨e0, e1⟩ := idx_3 t
  unfold iblk
  rw [View.read_apply]
  show V m c main_arg3 _ = _
  rw [V_main_arg3]
  exact congrArg _ (ext2 (by show win0_3.index t 0 * 272 + 1 * r.val = 272 * (t.val % 8) + r.val; rw [e0]; omega) (by show win0_3.index t 1 * 128 + 1 * (d.val) = d.val; rw [e1]; omega))

theorem blk4 (t : Fin cfg0.N) (r : Fin 272) (d : Fin 128) :
    (iblk m c 4 t : Vec F S272x128 .f32) (ix2 r d)
      = m ((c : Thread nD τ).loc main_arg4) (ix2 (row t r) d) := by
  obtain ⟨e0, e1⟩ := idx_4 t
  unfold iblk
  rw [View.read_apply]
  show V m c main_arg4 _ = _
  rw [V_main_arg4]
  exact congrArg _ (ext2 (by show win0_4.index t 0 * 272 + 1 * r.val = 272 * (t.val % 8) + r.val; rw [e0]; omega) (by show win0_4.index t 1 * 128 + 1 * (d.val) = d.val; rw [e1]; omega))

theorem blk5 (t : Fin cfg0.N) (r : Fin 272) (d : Fin 128) :
    (iblk m c 5 t : Vec F S272x128 .f32) (ix2 r d)
      = m ((c : Thread nD τ).loc main_arg5) (ix2 (row t r) (hcol (head t) d)) := by
  obtain ⟨e0, e1⟩ := idx_5 t
  unfold iblk
  rw [View.read_apply]
  show V m c main_arg5 _ = _
  rw [V_main_arg5]
  exact congrArg _ (ext2 (by show win0_5.index t 0 * 272 + 1 * r.val = 272 * (t.val % 8) + r.val; rw [e0]; omega) (by show win0_5.index t 1 * 128 + 1 * (d.val) = 128 * (t.val / 8) + d.val; rw [e1]; omega))

end Cert.Kernel12Ideal.Mla
-- ==== Proof.Mla.Payload.lean ====
/- What one grid point of the latent attention's gradient computes, at an index: the exponentials of its scores and
   their sums, the gradients with respect to the scores, and the blocks it leaves, in the terms of the arrays the kernel
   is given. -/
module

public import proofs.«01_k».proof.Proof.Mla.Point
public import proofs.«01_k».proof.Proof.Mla.Blocks
public import proofs.«01_k».proof.Proof.Common.Mask
public import Idealize.ShloMosaic.Lib.Pointwise

@[expose] public noncomputable section

set_option maxRecDepth 16384

namespace Cert.Kernel12Ideal.Mla

open Cert.Kernel12Ideal Cert.Kernel12Ideal.Gen Idealize.ShloMosaic Idealize.ShloMosaic.TcCoe Idealize.SL.Sem Cert.Mla
  Cert.Softmax

variable (m : (ℓ : Loc nD τ sig) → Buf (Elt Ideal) ℓ) (c : Dev nD)

/-- The arrays the kernel is given. -/
abbrev Q : Buf (Elt Ideal) ((c : Thread nD τ).loc main_arg0) := m ((c : Thread nD τ).loc main_arg0)
abbrev K : Buf (Elt Ideal) ((c : Thread nD τ).loc main_arg1) := m ((c : Thread nD τ).loc main_arg1)
abbrev P : Buf (Elt Ideal) ((c : Thread nD τ).loc main_arg2) := m ((c : Thread nD τ).loc main_arg2)
abbrev S : Buf (Elt Ideal) ((c : Thread nD τ).loc main_arg3) := m ((c : Thread nD τ).loc main_arg3)
abbrev T : Buf (Elt Ideal) ((c : Thread nD τ).loc main_arg4) := m ((c : Thread nD τ).loc main_arg4)
abbrev G : Buf (Elt Ideal) ((c : Thread nD τ).loc main_arg5) := m ((c : Thread nD τ).loc main_arg5)

theorem neg_inf : Ideal.ofBits FTy.f32 4286578688#32 = (⊥ : EReal) := by simp [Ideal.ofBits, Ideal.ieee]

theorem mask_bot : Named.named (F := Ideal) κ "mask" (φ := .f32) 4048155338#32 = (⊥ : EReal) :=
  IdealRules.named_const.ideal_named_scalar _ _ _ _ rfl

theorem coords1 : ∀ t : Fin grid0.N, ((grid0.coords t) 1).val = t.val % 8 := by decide +kernel

/-- The parts of the blocks. -/
theorem qn_apply (t : Fin cfg0.N) (r : Fin 272) (d : Fin 128) :
    @Eq EReal (k0_pay3 (iblk m c 0 t : Vec Ideal S272x384 .f32) (ix2 r d)) (Q m c (ix2 (row t r) (qcol 0 (head t) d))) := by
  refine Eq.trans ?_ (blk0 m c t r 0 d)
  unfold k0_pay3
  pointwise
theorem qp_apply (t : Fin cfg0.N) (r : Fin 272) (d : Fin 128) :
    @Eq EReal (k0_pay4 (iblk m c 0 t : Vec Ideal S272x384 .f32) (iblk m c 3 t) (iblk m c 4 t) (ix2 r d))
      (qp (Q m c) (S m c) (T m c) (head t) (row t r) d) := by
  have e1 := blk0 m c t r 1 d
  have e2 := blk0 m c t r 2 d
  have e3 := blk3 m c t r d
  have e4 := blk4 m c t r d
  unfold qp Q S T
  rw [← e1, ← e2, ← e3, ← e4]
  unfold k0_pay4
  pointwise
theorem kn_apply (t : Fin cfg0.N) (k : Fin 2176) (d : Fin 128) :
    @Eq EReal (k0_pay5 (iblk m c 1 t : Vec Ideal S2176x256 .f32) (ix2 k d)) (K m c (ix2 k (kcol 0 (head t) d))) := by
  refine Eq.trans ?_ (blk1 m c t k 0 d)
  unfold k0_pay5
  pointwise
theorem v_apply (t : Fin cfg0.N) (k : Fin 2176) (d : Fin 128) :
    @Eq EReal (k0_pay6 (iblk m c 1 t : Vec Ideal S2176x256 .f32) (ix2 k d)) (K m c (ix2 k (kcol 1 (head t) d))) := by
  refine Eq.trans ?_ (blk1 m c t k 1 d)
  unfold k0_pay6
  pointwise

/-- The exponentials a point computes from its blocks, whose masked scores are `s`. -/
theorem ex_apply (i : grid0.Coords) (a : Vec Ideal S272x384 .f32) (b : Vec Ideal S2176x256 .f32)
    (x y : Vec Ideal S272x128 .f32) (p : Vec Ideal S2176x128 .f32) (r : Fin 272) (k : Fin 2176) (n : ℕ)
    (hn : (i 1).val = n) (hn8 : n < 8) (s : Fin 2176 → EReal)
    (hs : ∀ k : Fin 2176, s k = if k.val ≤ 272 * n + r.val then
      ((∑ d : Fin 128, k0_pay3 a (ix2 r d) * k0_pay5 b (ix2 k d)) + ∑ d : Fin 128, k0_pay4 a x y (ix2 r d) * p (ix2 k d))
        * scale else ⊥) :
    k0_pay7 i a b x y p (ix2 r k) = ex s k := by
  unfold k0_pay7
  generalize k0_pay3 a = a0 at hs ⊢
  generalize k0_pay5 b = b0 at hs ⊢
  generalize k0_pay4 a x y = a1 at hs ⊢
  have key : ∀ k : Fin 2176, Scalar.select (IntOp.cmpi .sle (BitVec.ofNat 32 k.val)
        (IntOp.addi (Scalar.muli (BitVec.ofNat 32 (i 1).val) 272#32) (BitVec.ofNat 32 r.val)))
      (((∑ d : Fin 128, a0 (ix2 r d) * b0 (ix2 k d)) + ∑ d : Fin 128, a1 (ix2 r d) * p (ix2 k d))
        * Ideal.ofBits FTy.f32 0x3D93CD3A#32)
      (Named.named (F := Ideal) κ "mask" (φ := .f32) 4048155338#32) = s k := by
    intro k
    rw [Mask.select_sle _ _ k.val (272 * n + r.val) (by omega) (by omega) rfl
      ((Mask.row_word _ 272 _).trans (by rw [hn])), mask_bot, hs]
    rfl
  pointwise [dot_S272x128_S2176x128_S272x2176_1_1_0_0_n_n]
  rw [neg_inf]
  exact congrArg (fun f => ex f k) (funext key)

/-- The exponentials. -/
theorem E_apply (t : Fin cfg0.N) (r : Fin 272) (k : Fin 2176) :
    E m c t (ix2 r k) = ex (scores (Q m c) (K m c) (P m c) (S m c) (T m c) (head t) (row t r)) k := by
  have ht := lt64 t
  refine ex_apply _ _ _ _ _ _ r k (t.val % 8) (coords1 t) (by omega) _ fun k => ?_
  simp only [qn_apply, qp_apply, kn_apply, blk2]
  rfl

/-- Their sums. -/
theorem Z_apply (t : Fin cfg0.N) (r : Fin 272) (k : Fin 2176) :
    Z m c t (ix2 r k) = den (scores (Q m c) (K m c) (P m c) (S m c) (T m c) (head t) (row t r)) := by
  have e : ∀ k, k0_pay7 (grid0.coords t) (iblk m c 0 t) (iblk m c 1 t) (iblk m c 3 t) (iblk m c 4 t) (iblk m c 2 t) (ix2 r k)
      = ex (scores (Q m c) (K m c) (P m c) (S m c) (T m c) (head t) (row t r)) k := E_apply m c t r
  unfold Z k0_pay8
  generalize k0_pay7 (grid0.coords t) (iblk m c 0 t) (iblk m c 1 t) (iblk m c 3 t) (iblk m c 4 t) (iblk m c 2 t) = y at e ⊢
  pointwise
  simp only [e]
  rfl

/-- The probabilities. -/
theorem prob_apply (t : Fin cfg0.N) (r : Fin 272) (k : Fin 2176) :
    k0_pay9 (E m c t) (Z m c t) (ix2 r k)
      = prob (scores (Q m c) (K m c) (P m c) (S m c) (T m c) (head t) (row t r)) k := by
  show Ideal.div (E m c t (ix2 r k)) (Z m c t (ix2 r k)) = _
  rw [E_apply, Z_apply]
  rfl

/-- The gradient with respect to the scores. -/
theorem ds_apply (t : Fin cfg0.N) (r : Fin 272) (k : Fin 2176) :
    k0_pay10 (k0_pay6 (iblk m c 1 t)) (iblk m c 5 t) (E m c t) (Z m c t) (ix2 r k)
      = ds (Q m c) (K m c) (P m c) (S m c) (T m c) (G m c) (head t) (row t r) k := by
  have e := prob_apply m c t r
  have e' := v_apply m c t
  have e'' := fun d => blk5 m c t r d
  unfold k0_pay10
  generalize k0_pay9 (E m c t) (Z m c t) = y at e ⊢
  generalize k0_pay6 (iblk m c 1 t : Vec Ideal S2176x256 .f32) = v at e' ⊢
  generalize (iblk m c 5 t : Vec Ideal S272x128 .f32) = g at e'' ⊢
  pointwise [dot_S272x128_S2176x128_S272x2176_1_1_0_0_n_n]
  simp only [e, e', e'']
  rfl

/-- The block of query gradients. -/
theorem dq_apply (t : Fin cfg0.N) (r : Fin 272) (p : Fin 3) (d : Fin 128) :
    @Eq EReal (k0_pay11 (k0_pay5 (iblk m c 1 t : Vec Ideal S2176x256 .f32)) (k0_pay6 (iblk m c 1 t)) (iblk m c 2 t)
        (iblk m c 5 t) (E m c t) (Z m c t) (iblk m c 3 t) (iblk m c 4 t)
        (ix2 r ⟨128 * p.val + d.val, by have := p.isLt; have := d.isLt; omega⟩))
      (dq (Q m c) (K m c) (P m c) (S m c) (T m c) (G m c) (head t) (row t r) p d) := by
  have e := ds_apply m c t r
  have e1 := kn_apply m c t
  have e2 := blk2 m c t
  have e3 := blk3 m c t r
  have e4 := blk4 m c t r
  unfold k0_pay11
  generalize k0_pay10 (k0_pay6 (iblk m c 1 t)) (iblk m c 5 t) (E m c t) (Z m c t) = y at e ⊢
  generalize k0_pay5 (iblk m c 1 t : Vec Ideal S2176x256 .f32) = a at e1 ⊢
  generalize (iblk m c 2 t : Vec Ideal S2176x128 .f32) = b at e2 ⊢
  generalize (iblk m c 3 t : Vec Ideal S272x128 .f32) = x at e3 ⊢
  generalize (iblk m c 4 t : Vec Ideal S272x128 .f32) = z at e4 ⊢
  unfold dq dqn dqp K P S T
  simp only [← e, ← e1, ← e2, ← e3, ← e4]
  have h : ∀ h', (⟨256 + d.val - 128 - 128, h'⟩ : Fin 128) = d := fun _ =>
    Fin.ext (by show 256 + d.val - 128 - 128 = d.val; omega)
  fin_cases p
  · pointwise [dot_S272x2176_S2176x128_S272x128_1_0_0_1_n_n] <;> rfl
  · pointwise [dot_S272x2176_S2176x128_S272x128_1_0_0_1_n_n] <;> rfl
  · pointwise [dot_S272x2176_S2176x128_S272x128_1_0_0_1_n_n]
    rw [dif_neg (by omega), dif_neg (by omega)]
    simp only [h]

/-- What the point adds to the gradients of the keys and values. -/
theorem dkv_apply (t : Fin cfg0.N) (b : Vec Ideal S2176x256 .f32) (k : Fin 2176) (p : Fin 2) (d : Fin 128) :
    @Eq EReal (k0_pay13 (k0_pay3 (iblk m c 0 t)) (k0_pay6 (iblk m c 1 t)) (iblk m c 5 t) (E m c t) (Z m c t) b
        (ix2 k ⟨128 * p.val + d.val, by have := p.isLt; have := d.isLt; omega⟩))
      (b (ix2 k ⟨128 * p.val + d.val, by have := p.isLt; have := d.isLt; omega⟩)
        + ∑ r : Fin 272, dkvTerm (Q m c) (K m c) (P m c) (S m c) (T m c) (G m c) (head t) (row t r) k p d) := by
  have e := fun r => ds_apply m c t r k
  have e1 := fun r => qn_apply m c t r d
  have e2 := fun r => prob_apply m c t r k
  have e3 := fun r => blk5 m c t r d
  unfold k0_pay13
  generalize k0_pay10 (k0_pay6 (iblk m c 1 t)) (iblk m c 5 t) (E m c t) (Z m c t) = y at e ⊢
  generalize k0_pay9 (E m c t) (Z m c t) = z at e2 ⊢
  generalize k0_pay3 (iblk m c 0 t : Vec Ideal S272x384 .f32) = a at e1 ⊢
  generalize (iblk m c 5 t : Vec Ideal S272x128 .f32) = g at e3 ⊢
  unfold dkvTerm
  unfold Q at e1
  simp only [← e, ← e1, ← e2, ← e3]
  fin_cases p <;> pointwise [dot_S272x2176_S272x128_S2176x128_0_0_1_1_n_n] <;> rfl

/-- What the point adds to the gradients of the keys' part with a position. -/
theorem dkp_apply (t : Fin cfg0.N) (b : Vec Ideal S2176x128 .f32) (k : Fin 2176) (d : Fin 128) :
    @Eq EReal (k0_pay2 (k0_pay4 (iblk m c 0 t) (iblk m c 3 t) (iblk m c 4 t))
        (k0_pay10 (k0_pay6 (iblk m c 1 t)) (iblk m c 5 t) (E m c t) (Z m c t)) b (ix2 k d))
      (b (ix2 k d) + ∑ r : Fin 272, ds (Q m c) (K m c) (P m c) (S m c) (T m c) (G m c) (head t) (row t r) k
        * qp (Q m c) (S m c) (T m c) (head t) (row t r) d) := by
  have e := fun r => ds_apply m c t r k
  have e1 := fun r => qp_apply m c t r d
  unfold k0_pay2
  generalize k0_pay10 (k0_pay6 (iblk m c 1 t)) (iblk m c 5 t) (E m c t) (Z m c t) = y at e ⊢
  generalize k0_pay4 (iblk m c 0 t : Vec Ideal S272x384 .f32) (iblk m c 3 t) (iblk m c 4 t) = a at e1 ⊢
  pointwise [dot_S272x2176_S272x128_S2176x128_0_0_1_1_n_n]
  simp only [e, e1]

theorem zero_kv (i : S2176x256.Idx) : @Eq EReal (k0_pay12 (F := Ideal) i) 0 := by
  unfold k0_pay12
  pointwise
theorem zero_kp (i : S2176x128.Idx) : @Eq EReal (k0_pay1 (F := Ideal) i) 0 := by
  unfold k0_pay1
  pointwise

end Cert.Kernel12Ideal.Mla
-- ==== Proof.Mla.Array.lean ====
/- The three arrays the kernel of the latent attention's gradient leaves, entry by entry: a block of query rows is
   written by its own point, the gradients of a head's keys and values are summed over its eight blocks of query rows, and
   those of the keys' part with a position over all heads. -/
module

public import proofs.«01_k».proof.Proof.Common.Idx
public import proofs.«01_k».proof.Proof.Mla.Payload
public import proofs.«01_k».proof.Proof.Common.Sum

@[expose] public noncomputable section

set_option maxRecDepth 16384

namespace Cert.Mla

/-- The head, the part and the column in a part of a column of the queries, and of the keys and values. -/
abbrev qh (e : Fin 3072) : Fin 8 := ⟨e.val / 384, by have := e.isLt; omega⟩
abbrev qpart (e : Fin 3072) : Fin 3 := ⟨e.val / 128 % 3, by omega⟩
abbrev qd (e : Fin 3072) : Fin 128 := ⟨e.val % 128, by omega⟩
abbrev kh (e : Fin 2048) : Fin 8 := ⟨e.val / 256, by have := e.isLt; omega⟩
abbrev kpart (e : Fin 2048) : Fin 2 := ⟨e.val / 128 % 2, by omega⟩
abbrev kd (e : Fin 2048) : Fin 128 := ⟨e.val % 128, by omega⟩

theorem qh_qcol (p : Fin 3) (h : Fin 8) (d : Fin 128) : qh (qcol p h d) = h :=
  Fin.ext (by show (384 * h.val + 128 * p.val + d.val) / 384 = h.val; have := p.isLt; have := d.isLt; omega)
theorem qpart_qcol (p : Fin 3) (h : Fin 8) (d : Fin 128) : qpart (qcol p h d) = p :=
  Fin.ext (by show (384 * h.val + 128 * p.val + d.val) / 128 % 3 = p.val; have := p.isLt; have := d.isLt; omega)
theorem qd_qcol (p : Fin 3) (h : Fin 8) (d : Fin 128) : qd (qcol p h d) = d :=
  Fin.ext (by show (384 * h.val + 128 * p.val + d.val) % 128 = d.val; have := p.isLt; have := d.isLt; omega)
theorem kh_kcol (p : Fin 2) (h : Fin 8) (d : Fin 128) : kh (kcol p h d) = h :=
  Fin.ext (by show (256 * h.val + 128 * p.val + d.val) / 256 = h.val; have := p.isLt; have := d.isLt; omega)
theorem kpart_kcol (p : Fin 2) (h : Fin 8) (d : Fin 128) : kpart (kcol p h d) = p :=
  Fin.ext (by show (256 * h.val + 128 * p.val + d.val) / 128 % 2 = p.val; have := p.isLt; have := d.isLt; omega)
theorem kd_kcol (p : Fin 2) (h : Fin 8) (d : Fin 128) : kd (kcol p h d) = d :=
  Fin.ext (by show (256 * h.val + 128 * p.val + d.val) % 128 = d.val; have := p.isLt; have := d.isLt; omega)

end Cert.Mla

namespace Cert.Kernel12Ideal.Mla

open Cert.Kernel12Ideal Cert.Kernel12Ideal.Gen Idealize.ShloMosaic Idealize.ShloMosaic.TcCoe Idealize.SL.Sem Cert.Mla Cert.Idx
  Cert.Softmax

variable (m : (ℓ : Loc nD τ sig) → Buf (Elt Ideal) ℓ) (c : Dev nD)

def dqArr : Buf (Elt Ideal) ((c : Thread nD τ).loc main_v0_0) := fun i : S2176x3072.Idx =>
  dq (Q m c) (K m c) (P m c) (S m c) (T m c) (G m c) (qh (i 1)) (i 0) (qpart (i 1)) (qd (i 1))
def dkvArr : Buf (Elt Ideal) ((c : Thread nD τ).loc main_v0_1) := fun i : S2176x2048.Idx =>
  dkv (Q m c) (K m c) (P m c) (S m c) (T m c) (G m c) (kh (i 1)) (i 0) (kpart (i 1)) (kd (i 1))
def dkpArr : Buf (Elt Ideal) ((c : Thread nD τ).loc main_v0_2) := fun i : S2176x128.Idx =>
  dkp (Q m c) (K m c) (P m c) (S m c) (T m c) (G m c) (i 0) (i 1)

/-- Where the output windows' blocks start, in blocks. -/
theorem idx_6 : ∀ t : Fin cfg0.N, win0_6.index t 0 = t.val % 8 ∧ win0_6.index t 1 = t.val / 8 :=
  (by decide +kernel : ∀ t : Fin grid0.N, win0_6.index t 0 = t.val % 8 ∧ win0_6.index t 1 = t.val / 8)
theorem idx_7 : ∀ t : Fin cfg0.N, win0_7.index t 0 = 0 ∧ win0_7.index t 1 = t.val / 8 :=
  (by decide +kernel : ∀ t : Fin grid0.N, win0_7.index t 0 = 0 ∧ win0_7.index t 1 = t.val / 8)
theorem idx_8 : ∀ t : Fin grid0.N, win0_8.index t 0 = 0 ∧ win0_8.index t 1 = 0 := by decide +kernel

/-- What a point finds in the two summed blocks, whichever point it is. -/
theorem leaves_any (t : Fin cfg0.N) : ∃ a b, outsAt0 m c t.val t.isLt = leaves m c t a b := by
  have h := lt_of_le_of_lt (Nat.sub_le t.val 1) t.isLt
  by_cases h0 : t.val % 8 = 0
  · by_cases h1 : t.val % 64 = 0
    · exact ⟨_, _, first m c t h0 h1⟩
    · exact ⟨_, _, start m c t h0 h1 h⟩
  · exact ⟨_, _, later m c t h0 h⟩
theorem leaves_head (t : Fin cfg0.N) (h0 : t.val % 8 = 0) : ∃ b, outsAt0 m c t.val t.isLt = leaves m c t (k0_pay12 (F := Ideal)) b := by
  by_cases h1 : t.val % 64 = 0
  · exact ⟨_, first m c t h0 h1⟩
  · exact ⟨_, start m c t h0 h1 (lt_of_le_of_lt (Nat.sub_le _ _) t.isLt)⟩
theorem leaves_later (t : Fin cfg0.N) (h1 : ¬t.val % 64 = 0) (h : t.val - 1 < cfg0.N) :
    ∃ a, outsAt0 m c t.val t.isLt = leaves m c t a (outsAt0 m c (t.val - 1) h).2.2 := by
  by_cases h0 : t.val % 8 = 0
  · exact ⟨_, start m c t h0 h1 h⟩
  · exact ⟨_, later m c t h0 h⟩

/-- What point `n` adds, of one term a query row. -/
def added (g : Fin 8 → Fin 2176 → EReal) (n : ℕ) : EReal :=
  if h : n < cfg0.N then ∑ r : Fin 272, g (head ⟨n, h⟩) (row ⟨n, h⟩ r) else 0

theorem added_at (g : Fin 8 → Fin 2176 → EReal) (t : Fin cfg0.N) :
    added g t.val = ∑ r : Fin 272, g (head t) (row t r) := dif_pos t.isLt

/-- The eight points of head `h` add up to the sum over all rows. -/
theorem added_head (g : Fin 8 → Fin 2176 → EReal) (h : Fin 8) :
    ∑ i ∈ Finset.range 8, added g (8 * h.val + i) = ∑ q : Fin 2176, g h q := by
  have hh := h.isLt
  refine Sum.blocks 8 272 2176 rfl (g h) (fun i => added g (8 * h.val + i)) fun i => ?_
  have hi := i.isLt
  have hN : 8 * h.val + i.val < cfg0.N := lt_of_lt_of_eq (by omega : 8 * h.val + i.val < 64) N_0.symm
  show added g (8 * h.val + i.val) = _
  rw [added_at g ⟨_, hN⟩]
  refine Finset.sum_congr rfl fun r _ => ?_
  congr 1
  · exact Fin.ext (by show (8 * h.val + i.val) / 8 = h.val; omega)
  · exact Fin.ext (by show 272 * ((8 * h.val + i.val) % 8) + r.val = 272 * i.val + r.val; omega)

/-- A quantity a head's first point sets and its later points add to. -/
theorem summed_head (f : (n : ℕ) → n < cfg0.N → EReal) (g : Fin 8 → Fin 2176 → EReal)
    (first : ∀ t : Fin cfg0.N, t.val % 8 = 0 → f t.val t.isLt = ∑ r : Fin 272, g (head t) (row t r))
    (later : ∀ (t : Fin cfg0.N) (h : t.val - 1 < cfg0.N), ¬t.val % 8 = 0 →
      f t.val t.isLt = f (t.val - 1) h + ∑ r : Fin 272, g (head t) (row t r))
    (t : Fin cfg0.N) (h7 : t.val % 8 = 7) : f t.val t.isLt = ∑ q : Fin 2176, g (head t) q := by
  rw [Sum.running 8 f (added g) (fun n h h0 => (first ⟨n, h⟩ h0).trans (added_at g ⟨n, h⟩).symm)
    (fun n h h0 h' => by rw [added_at g ⟨n, h⟩]; exact later ⟨n, h⟩ h' h0) t.val t.isLt, h7, ← added_head g (head t)]
  refine Finset.sum_congr rfl fun i _ => ?_
  congr 1
  show t.val - 7 + i = 8 * (t.val / 8) + i
  omega

/-- A quantity the first point of all sets and the others add to. -/
theorem summed_all (f : (n : ℕ) → n < cfg0.N → EReal) (g : Fin 8 → Fin 2176 → EReal)
    (first : ∀ t : Fin cfg0.N, t.val % 64 = 0 → f t.val t.isLt = ∑ r : Fin 272, g (head t) (row t r))
    (later : ∀ (t : Fin cfg0.N) (h : t.val - 1 < cfg0.N), ¬t.val % 64 = 0 →
      f t.val t.isLt = f (t.val - 1) h + ∑ r : Fin 272, g (head t) (row t r))
    (t : Fin cfg0.N) (h63 : t.val % 64 = 63) : f t.val t.isLt = ∑ h : Fin 8, ∑ q : Fin 2176, g h q := by
  have ht := lt64 t
  rw [Sum.running 64 f (added g) (fun n h h0 => (first ⟨n, h⟩ h0).trans (added_at g ⟨n, h⟩).symm)
    (fun n h h0 h' => by rw [added_at g ⟨n, h⟩]; exact later ⟨n, h⟩ h' h0) t.val t.isLt, h63]
  have e : ∑ i ∈ Finset.range 8, (∑ j ∈ Finset.range 8, added g (8 * i + j)) = ∑ i : Fin 64, added g i.val :=
    Sum.blocks 8 8 64 rfl (fun i => added g i.val) (fun i => ∑ j ∈ Finset.range 8, added g (8 * i + j))
      fun i => Finset.sum_range _
  rw [show t.val - 63 = 0 by omega]
  simp only [Nat.zero_add]
  rw [Finset.sum_range, ← e, Finset.sum_range]
  exact Finset.sum_congr rfl fun h _ => added_head g h

theorem flushed_dq (t : Fin cfg0.N) (hf : (cfg0.win 6).flush t = true) :
    (dats m 0 c).flushed 6 t = ((cfg0.win 6).blk t).view.read (Elt Ideal) (dqArr m c) := by
  obtain ⟨e0, e1⟩ := idx_6 t
  obtain ⟨a, b, h⟩ := leaves_any m c t
  rw [Value.flushed6, h]
  funext y
  obtain ⟨r, p, d, rfl⟩ : ∃ (r : Fin 272) (p : Fin 3) (d : Fin 128), y = ix2 r ⟨128 * p.val + d.val, by
      have := p.isLt; have := d.isLt; omega⟩ := by
    have h1 : (y 1).val < 384 := (y 1).isLt
    refine ⟨y 0, ⟨(y 1).val / 128, by omega⟩, ⟨(y 1).val % 128, by omega⟩, (eq_ix2 y).trans (congrArg _ (Fin.ext ?_))⟩
    show (y 1).val = 128 * ((y 1).val / 128) + (y 1).val % 128
    omega
  rw [View.read_apply]
  refine (dq_apply m c t r p d).trans ?_
  rw [show ((cfg0.win 6).blk t).view.emb (ix2 r ⟨128 * p.val + d.val, _⟩) = ix2 (row t r) (qcol p (head t) d) from by
    funext a
    apply Fin.ext
    match a with
    | ⟨0, _⟩ => show win0_6.index t 0 * 272 + 1 * r.val = 272 * (t.val % 8) + r.val; omega
    | ⟨1, _⟩ =>
      show win0_6.index t 1 * 384 + 1 * (128 * p.val + d.val) = 384 * (t.val / 8) + 128 * p.val + d.val; omega]
  show _ = dq (Q m c) (K m c) (P m c) (S m c) (T m c) (G m c) (qh (qcol p (head t) d)) (row t r)
    (qpart (qcol p (head t) d)) (qd (qcol p (head t) d))
  rw [qh_qcol, qpart_qcol, qd_qcol]

theorem final_dq : (dats m 0 c).arrAt 6 cfg0.N = dqArr m c :=
  (dats m 0 c).arrAt_eq_of_cover 6 (dqArr m c) (flushed_dq m c) fun i : S2176x3072.Idx => by
    obtain ⟨h0, h1⟩ := below2 i
    obtain ⟨t, ht⟩ : ∃ t : Fin cfg0.N, t.val = 8 * ((i 1).val / 384) + (i 0).val / 272 := ⟨⟨_, by rw [show cfg0.N = 64 from N_0]; omega⟩, rfl⟩
    have e := idx_6 t
    refine ⟨t, flush0_6 t, ?_⟩
    show i ∈ ((View.whole main_v0_0).slice (win0_6.rect t)).set
    rw [View.set_slice_whole, Rect.mem_set_unit]
    intro a
    match a with
    | ⟨0, _⟩ =>
      show win0_6.index t 0 * 272 ≤ (i 0).val ∧ (i 0).val < win0_6.index t 0 * 272 + 272
      omega
    | ⟨1, _⟩ =>
      show win0_6.index t 1 * 384 ≤ (i 1).val ∧ (i 1).val < win0_6.index t 1 * 384 + 384
      omega

theorem flushed_dkv (t : Fin cfg0.N) (hf : (cfg0.win 7).flush t = true) :
    (dats m 0 c).flushed 7 t = ((cfg0.win 7).blk t).view.read (Elt Ideal) (dkvArr m c) := by
  obtain ⟨e0, e1⟩ := idx_7 t
  rw [Value.flushed7]
  funext y
  obtain ⟨k, p, d, rfl⟩ : ∃ (k : Fin 2176) (p : Fin 2) (d : Fin 128), y = ix2 k ⟨128 * p.val + d.val, by
      have := p.isLt; have := d.isLt; omega⟩ := by
    have h1 : (y 1).val < 256 := (y 1).isLt
    refine ⟨y 0, ⟨(y 1).val / 128, by omega⟩, ⟨(y 1).val % 128, by omega⟩, (eq_ix2 y).trans (congrArg _ (Fin.ext ?_))⟩
    show (y 1).val = 128 * ((y 1).val / 128) + (y 1).val % 128
    omega
  rw [View.read_apply]
  refine (summed_head (fun n h => (outsAt0 m c n h).2.1 (ix2 k ⟨128 * p.val + d.val, _⟩))
    (fun h q => dkvTerm (Q m c) (K m c) (P m c) (S m c) (T m c) (G m c) h q k p d)
    (fun t h0 => ?_) (fun t h h0 => ?_) t ((flush0_7 t).mp hf)).trans ?_
  · obtain ⟨b, h⟩ := leaves_head m c t h0
    rw [h]
    exact (dkv_apply m c t (k0_pay12 (F := Ideal)) k p d).trans (by rw [zero_kv, zero_add])
  · rw [later m c t h0 h]
    exact dkv_apply m c t _ k p d
  rw [show ((cfg0.win 7).blk t).view.emb (ix2 k ⟨128 * p.val + d.val, _⟩) = ix2 k (kcol p (head t) d) from by
    funext a
    apply Fin.ext
    match a with
    | ⟨0, _⟩ => show win0_7.index t 0 * 2176 + 1 * k.val = k.val; omega
    | ⟨1, _⟩ =>
      show win0_7.index t 1 * 256 + 1 * (128 * p.val + d.val) = 256 * (t.val / 8) + 128 * p.val + d.val; omega]
  show _ = dkv (Q m c) (K m c) (P m c) (S m c) (T m c) (G m c) (kh (kcol p (head t) d)) k (kpart (kcol p (head t) d))
    (kd (kcol p (head t) d))
  rw [kh_kcol, kpart_kcol, kd_kcol]
  rfl

theorem final_dkv : (dats m 0 c).arrAt 7 cfg0.N = dkvArr m c :=
  (dats m 0 c).arrAt_eq_of_cover 7 (dkvArr m c) (flushed_dkv m c) fun i : S2176x2048.Idx => by
    obtain ⟨h0, h1⟩ := below2 i
    obtain ⟨t, ht⟩ : ∃ t : Fin cfg0.N, t.val = 8 * ((i 1).val / 256) + 7 := ⟨⟨_, by rw [show cfg0.N = 64 from N_0]; omega⟩, rfl⟩
    have e := idx_7 t
    refine ⟨t, (flush0_7 t).mpr (by omega), ?_⟩
    show i ∈ ((View.whole main_v0_1).slice (win0_7.rect t)).set
    rw [View.set_slice_whole, Rect.mem_set_unit]
    intro a
    match a with
    | ⟨0, _⟩ =>
      show win0_7.index t 0 * 2176 ≤ (i 0).val ∧ (i 0).val < win0_7.index t 0 * 2176 + 2176
      omega
    | ⟨1, _⟩ =>
      show win0_7.index t 1 * 256 ≤ (i 1).val ∧ (i 1).val < win0_7.index t 1 * 256 + 256
      omega

theorem flushed_dkp (t : Fin cfg0.N) (hf : (cfg0.win 8).flush t = true) :
    (dats m 0 c).flushed 8 t = ((cfg0.win 8).blk t).view.read (Elt Ideal) (dkpArr m c) := by
  obtain ⟨e0, e1⟩ := idx_8 t
  rw [Value.flushed8]
  funext y
  obtain ⟨k, d, rfl⟩ := of2 y
  rw [View.read_apply]
  refine (summed_all (fun n h => (outsAt0 m c n h).2.2 (ix2 k d))
    (fun h q => ds (Q m c) (K m c) (P m c) (S m c) (T m c) (G m c) h q k * qp (Q m c) (S m c) (T m c) h q d)
    (fun t h0 => ?_) (fun t h h0 => ?_) t ((flush0_8 t).mp hf)).trans ?_
  · rw [first m c t (by omega) h0]
    exact (dkp_apply m c t (k0_pay1 (F := Ideal)) k d).trans (by rw [zero_kp, zero_add])
  · obtain ⟨a, h'⟩ := leaves_later m c t h0 h
    rw [h']
    exact dkp_apply m c t _ k d
  rw [show ((cfg0.win 8).blk t).view.emb (ix2 k d) = ix2 k d from
    ext2 (by show win0_8.index t 0 * 2176 + 1 * k.val = k.val; omega)
      (by show win0_8.index t 1 * 128 + 1 * d.val = d.val; omega)]
  rfl

theorem final_dkp : (dats m 0 c).arrAt 8 cfg0.N = dkpArr m c :=
  (dats m 0 c).arrAt_eq_of_cover 8 (dkpArr m c) (flushed_dkp m c) fun i : S2176x128.Idx => by
    obtain ⟨h0, h1⟩ := below2 i
    obtain ⟨t, ht⟩ : ∃ t : Fin cfg0.N, t.val = 63 := ⟨⟨_, by rw [show cfg0.N = 64 from N_0]; omega⟩, rfl⟩
    have e := idx_8 t
    refine ⟨t, (flush0_8 t).mpr (by omega), ?_⟩
    show i ∈ ((View.whole main_v0_2).slice (win0_8.rect t)).set
    rw [View.set_slice_whole, Rect.mem_set_unit]
    intro a
    match a with
    | ⟨0, _⟩ =>
      show win0_8.index t 0 * 2176 ≤ (i 0).val ∧ (i 0).val < win0_8.index t 0 * 2176 + 2176
      omega
    | ⟨1, _⟩ =>
      show win0_8.index t 1 * 128 ≤ (i 1).val ∧ (i 1).val < win0_8.index t 1 * 128 + 128
      omega

end Cert.Kernel12Ideal.Mla
-- ==== Proof.Mla.Reference.lean ====
/- The three results of the reference of the latent attention's gradient, entry by entry. -/
module

public import proofs.«01_k».proof.Proof.Gen.Reference12Ideal.Read
public import proofs.«01_k».proof.Proof.Mla.Math
public import proofs.«01_k».proof.Proof.Common.Index
public import proofs.«01_k».proof.Proof.Common.Mask
public import Idealize.ShloMosaic.Lib.Pointwise

@[expose] public noncomputable section

set_option maxRecDepth 16384

namespace Cert.Reference12Ideal.Mla

open Cert.Reference12Ideal Cert.Reference12Ideal.Gen Cert.Reference12Ideal.Read Idealize.ShloMosaic Cert.Mla Cert.Softmax
open Cert.Index (ext2 ext3)

variable (Q : (⟨S2176x3072, .f32⟩ : BufTy).Contents (Elt Ideal)) (K : (⟨S2176x2048, .f32⟩ : BufTy).Contents (Elt Ideal))
  (P S T : (⟨S2176x128, .f32⟩ : BufTy).Contents (Elt Ideal)) (G : (⟨S2176x1024, .f32⟩ : BufTy).Contents (Elt Ideal))

theorem neg_inf : Ideal.ofBits FTy.f32 4286578688#32 = (⊥ : EReal) := by simp [Ideal.ofBits, Ideal.ieee]
theorem one : Ideal.ofBits FTy.f32 0x3F800000#32 = (1 : EReal) := by
  simp [Ideal.ofBits, Ideal.ieee, ← EReal.coe_mul]
  norm_num
theorem zero : Ideal.ofBits FTy.f32 0x00000000#32 = (0 : EReal) := by simp [Ideal.ofBits, Ideal.ieee]

theorem ext4 {n0 n1 n2 n3 : ℕ} (i : (⟨4, ![n0, n1, n2, n3]⟩ : Shape).Idx) (a : Fin n0) (b : Fin n1) (c : Fin n2)
    (d : Fin n3) (h0 : (i 0).val = a.val) (h1 : (i 1).val = b.val) (h2 : (i 2).val = c.val) (h3 : (i 3).val = d.val) :
    i = ix4 a b c d := by
  funext x
  apply Fin.ext
  match x with
  | ⟨0, _⟩ => exact h0
  | ⟨1, _⟩ => exact h1
  | ⟨2, _⟩ => exact h2
  | ⟨3, _⟩ => exact h3

/-- The parts of the queries, and of the keys and values, head by head. -/
theorem q_at (q : Fin 2176) (h : Fin 8) (p : Fin 3) (d : Fin 128) :
    val_main_v0 (F := Ideal) Q (ix4 q h p d) = Q (ix2 q (qcol p h d)) := by
  have := h.isLt; have := p.isLt; have := d.isLt
  rw [val_main_v0_apply]
  refine congrArg Q (ext2 _ _ _ ?_ ?_)
  · show (((q.val * 8 + h.val) * 3 + p.val) * 128 + d.val) / 3072 = q.val; omega
  · show (((q.val * 8 + h.val) * 3 + p.val) * 128 + d.val) % 3072 = 384 * h.val + 128 * p.val + d.val; omega
theorem k_at (k : Fin 2176) (h : Fin 8) (p : Fin 2) (d : Fin 128) :
    val_main_v1 (F := Ideal) K (ix4 k h p d) = K (ix2 k (kcol p h d)) := by
  have := h.isLt; have := p.isLt; have := d.isLt
  rw [val_main_v1_apply]
  refine congrArg K (ext2 _ _ _ ?_ ?_)
  · show (((k.val * 8 + h.val) * 2 + p.val) * 128 + d.val) / 2048 = k.val; omega
  · show (((k.val * 8 + h.val) * 2 + p.val) * 128 + d.val) % 2048 = 256 * h.val + 128 * p.val + d.val; omega
theorem qn_at (q : Fin 2176) (h : Fin 8) (d : Fin 128) :
    val_main_v3 (F := Ideal) Q (ix3 q h d) = Q (ix2 q (qcol 0 h d)) := by
  have := h.isLt; have := d.isLt
  rw [val_main_v3_apply, val_main_v2_apply,
    show idx_main_v2 (idx_main_v3 (ix3 q h d)) = ix4 q h 0 d from ext4 _ _ _ _ _
      (by show ((q.val * 8 + h.val) * 128 + d.val) / 1024 = q.val; omega)
      (by show ((q.val * 8 + h.val) * 128 + d.val) / 128 % 8 = h.val; omega) rfl
      (by show ((q.val * 8 + h.val) * 128 + d.val) % 128 = d.val; omega), q_at]
theorem qa_at (q : Fin 2176) (h : Fin 8) (d : Fin 128) :
    val_main_v5 (F := Ideal) Q (ix3 q h d) = Q (ix2 q (qcol 1 h d)) := by
  have := h.isLt; have := d.isLt
  rw [val_main_v5_apply, val_main_v4_apply,
    show idx_main_v4 (idx_main_v5 (ix3 q h d)) = ix4 q h 1 d from ext4 _ _ _ _ _
      (by show ((q.val * 8 + h.val) * 128 + d.val) / 1024 = q.val; omega)
      (by show ((q.val * 8 + h.val) * 128 + d.val) / 128 % 8 = h.val; omega) rfl
      (by show ((q.val * 8 + h.val) * 128 + d.val) % 128 = d.val; omega), q_at]
theorem qb_at (q : Fin 2176) (h : Fin 8) (d : Fin 128) :
    val_main_v10 (F := Ideal) Q (ix3 q h d) = Q (ix2 q (qcol 2 h d)) := by
  have := h.isLt; have := d.isLt
  rw [val_main_v10_apply, val_main_v9_apply,
    show idx_main_v9 (idx_main_v10 (ix3 q h d)) = ix4 q h 2 d from ext4 _ _ _ _ _
      (by show ((q.val * 8 + h.val) * 128 + d.val) / 1024 = q.val; omega)
      (by show ((q.val * 8 + h.val) * 128 + d.val) / 128 % 8 = h.val; omega) rfl
      (by show ((q.val * 8 + h.val) * 128 + d.val) % 128 = d.val; omega), q_at]
theorem kn_at (q : Fin 2176) (h : Fin 8) (d : Fin 128) :
    val_main_v16 (F := Ideal) K (ix3 q h d) = K (ix2 q (kcol 0 h d)) := by
  have := h.isLt; have := d.isLt
  rw [val_main_v16_apply, val_main_v15_apply,
    show idx_main_v15 (idx_main_v16 (ix3 q h d)) = ix4 q h 0 d from ext4 _ _ _ _ _
      (by show ((q.val * 8 + h.val) * 128 + d.val) / 1024 = q.val; omega)
      (by show ((q.val * 8 + h.val) * 128 + d.val) / 128 % 8 = h.val; omega) rfl
      (by show ((q.val * 8 + h.val) * 128 + d.val) % 128 = d.val; omega), k_at]
theorem v_at (q : Fin 2176) (h : Fin 8) (d : Fin 128) :
    val_main_v18 (F := Ideal) K (ix3 q h d) = K (ix2 q (kcol 1 h d)) := by
  have := h.isLt; have := d.isLt
  rw [val_main_v18_apply, val_main_v17_apply,
    show idx_main_v17 (idx_main_v18 (ix3 q h d)) = ix4 q h 1 d from ext4 _ _ _ _ _
      (by show ((q.val * 8 + h.val) * 128 + d.val) / 1024 = q.val; omega)
      (by show ((q.val * 8 + h.val) * 128 + d.val) / 128 % 8 = h.val; omega) rfl
      (by show ((q.val * 8 + h.val) * 128 + d.val) % 128 = d.val; omega), k_at]
theorem qp_at (q : Fin 2176) (h : Fin 8) (d : Fin 128) :
    @Eq EReal (val_main_v14 (F := Ideal) Q S T (ix3 q h d)) (qp Q S T h q d) := by
  rw [val_main_v14_apply, val_main_v8_apply, val_main_v13_apply, qa_at, qb_at, val_main_v7_apply, val_main_v6_apply,
    val_main_v12_apply, val_main_v11_apply, show idx_main_v6 (idx_main_v7 (ix3 q h d)) = ix2 q d from ext2 _ _ _ rfl rfl,
    show idx_main_v11 (idx_main_v12 (ix3 q h d)) = ix2 q d from ext2 _ _ _ rfl rfl]
  rfl

/-- The two halves of the queries and of the keys. -/
abbrev lo (d : Fin 128) : Fin 256 := ⟨d.val, by have := d.isLt; omega⟩
abbrev hi (d : Fin 128) : Fin 256 := ⟨128 + d.val, by have := d.isLt; omega⟩

theorem qlo_at (h : Fin 8) (q : Fin 2176) (d : Fin 128) :
    val_main_v20 (F := Ideal) Q S T (ix3 h q (lo d)) = Q (ix2 q (qcol 0 h d)) := by
  rw [val_main_v20_apply, show idx_main_v20 (ix3 h q (lo d)) = ix3 q h (lo d) from ext3 _ _ _ _ rfl rfl rfl, ← qn_at Q q h d]
  unfold val_main_v19
  generalize val_main_v3 (F := Ideal) Q = y
  generalize val_main_v14 (F := Ideal) Q S T = z
  pointwise
theorem qhi_at (h : Fin 8) (q : Fin 2176) (d : Fin 128) :
    @Eq EReal (val_main_v20 (F := Ideal) Q S T (ix3 h q (hi d))) (qp Q S T h q d) := by
  rw [val_main_v20_apply, show idx_main_v20 (ix3 h q (hi d)) = ix3 q h (hi d) from ext3 _ _ _ _ rfl rfl rfl, ← qp_at Q S T q h d]
  unfold val_main_v19
  generalize val_main_v3 (F := Ideal) Q = y
  generalize val_main_v14 (F := Ideal) Q S T = z
  pointwise
theorem klo_at (h : Fin 8) (k : Fin 2176) (d : Fin 128) :
    val_main_v24 (F := Ideal) K P (ix3 h k (lo d)) = K (ix2 k (kcol 0 h d)) := by
  rw [val_main_v24_apply, show idx_main_v24 (ix3 h k (lo d)) = ix3 k h (lo d) from ext3 _ _ _ _ rfl rfl rfl, ← kn_at K k h d]
  unfold val_main_v23
  generalize val_main_v16 (F := Ideal) K = y
  generalize val_main_v22 (F := Ideal) P = z
  pointwise
theorem khi_at (h : Fin 8) (k : Fin 2176) (d : Fin 128) :
    val_main_v24 (F := Ideal) K P (ix3 h k (hi d)) = P (ix2 k d) := by
  have e : val_main_v22 (F := Ideal) P (ix3 k h d) = P (ix2 k d) := by
    rw [val_main_v22_apply, val_main_v21_apply]
    exact congrArg P (ext2 _ _ _ rfl rfl)
  rw [val_main_v24_apply, show idx_main_v24 (ix3 h k (hi d)) = ix3 k h (hi d) from ext3 _ _ _ _ rfl rfl rfl, ← e]
  unfold val_main_v23
  generalize val_main_v16 (F := Ideal) K = y
  generalize val_main_v22 (F := Ideal) P = z
  pointwise

/-- The gradient, head by head. -/
theorem g_at (h : Fin 8) (q : Fin 2176) (d : Fin 128) :
    val_main_v68 (F := Ideal) G (ix3 h q d) = G (ix2 q (hcol h d)) := by
  have := h.isLt; have := d.isLt
  rw [val_main_v68_apply, val_main_v67_apply]
  refine congrArg G (ext2 _ _ _ ?_ ?_)
  · show ((q.val * 8 + h.val) * 128 + d.val) / 1024 = q.val; omega
  · show ((q.val * 8 + h.val) * 128 + d.val) % 1024 = 128 * h.val + d.val; omega

/-- The comparison of positions chooses by them. -/
theorem select_mask (h : Fin 8) (q k : Fin 2176) (u v : EReal) :
    Scalar.select (val_main_v34_1 (F := Ideal) (ix3 h q k)) u v = if k.val ≤ q.val then u else v := by
  rw [val_main_v34_1_apply, val_main_v33_apply, val_main_v31_apply, val_main_v29_apply, val_main_v28_apply,
    val_main_v32_apply, val_main_v30_apply, val_main_v28_apply]
  exact Mask.select_sle _ _ k.val q.val (by omega) (by omega) rfl rfl u v

/-- A sum over both halves of a head's columns. -/
theorem halves (f : Fin 256 → EReal) : ∑ e, f e = (∑ d, f (lo d)) + ∑ d, f (hi d) :=
  Fin.sum_univ_add (a := 128) (b := 128) f

/-- The masked scores. -/
theorem scores_at (h : Fin 8) (q k : Fin 2176) :
    val_main_v34_0 (F := Ideal) Q K P S T (ix3 h q k) = scores Q K P S T h q k := by
  rw [val_main_v34_0_apply, select_mask, val_main_v27_apply, val_main_v25_apply, val_main_v26_apply, val_main_cst_apply,
    val_main_call0_v2_apply, val_main_call0_v0_apply, val_main_cst_0_apply, halves]
  unfold scores score scale
  refine congrArg₂ (fun u v : EReal => if k.val ≤ q.val then u else v) ?_ neg_inf
  refine congrArg₂ (fun u v : EReal => u * v) ?_ rfl
  refine congrArg₂ (fun u v : EReal => u + v) (Finset.sum_congr rfl fun d _ => ?_) (Finset.sum_congr rfl fun d _ => ?_)
  · rw [show lidx_main_v25 (ix3 h q k) (lo d) = ix3 h q (lo d) from ext3 _ _ _ _ rfl rfl rfl,
      show ridx_main_v25 (ix3 h q k) (lo d) = ix3 h k (lo d) from ext3 _ _ _ _ rfl rfl rfl, qlo_at, klo_at]
  · rw [show lidx_main_v25 (ix3 h q k) (hi d) = ix3 h q (hi d) from ext3 _ _ _ _ rfl rfl rfl,
      show ridx_main_v25 (ix3 h q k) (hi d) = ix3 h k (hi d) from ext3 _ _ _ _ rfl rfl rfl, qhi_at, khi_at]

/-- The largest score of a row. -/
theorem top_at (h : Fin 8) (q : Fin 2176) : val_main_v42 (F := Ideal) Q K P S T (ix2 h q) = top (scores Q K P S T h q) := by
  rw [val_main_v42_apply, val_main_v41_apply, val_main_cst_3_apply]
  have e : val_main_v35 (F := Ideal) Q K P S T (ix2 h q) = top (scores Q K P S T h q) := by
    unfold val_main_v35
    pointwise
    simp only [scores_at]
    rw [show val_main_cst_1 (F := Ideal) (Shape.Idx.first h_S_) = (⊥ : EReal) from neg_inf]
    rfl
  rw [e]
  show max (Ideal.ofBits FTy.f32 4286578688#32) _ = _
  rw [neg_inf, max_eq_right bot_le]

theorem ex_at (h : Fin 8) (q k : Fin 2176) :
    val_main_v55 (F := Ideal) Q K P S T (ix3 h q k) = ex (scores Q K P S T h q) k := by
  rw [val_main_v55_apply, val_main_v54_apply, scores_at, val_main_v53_apply, val_main_v52_apply,
    show idx_main_v52 (idx_main_v53 (ix3 h q k)) = ix2 h q from ext2 _ _ _ rfl rfl, top_at]
  rfl

theorem den_at (h : Fin 8) (q : Fin 2176) :
    val_main_v57 (F := Ideal) Q K P S T (ix3 h q 0) = den (scores Q K P S T h q) := by
  rw [val_main_v57_apply, show idx_main_v57 (ix3 h q 0) = ix2 h q from ext2 _ _ _ rfl rfl, val_main_v56_apply]
  unfold den
  refine (congrArg₂ (· + ·) zero (Finset.sum_congr rfl fun k _ => ?_)).trans (zero_add _)
  rw [show idx_main_v56 (ix2 h q) k = ix3 h q k from ext3 _ _ _ _ rfl rfl rfl, ex_at]

theorem prob_at (h : Fin 8) (q k : Fin 2176) :
    val_main_v59 (F := Ideal) Q K P S T (ix3 h q k) = prob (scores Q K P S T h q) k := by
  rw [val_main_v59_apply, ex_at, val_main_v58_apply,
    show idx_main_v58 (ix3 h q k) = ix3 h q 0 from ext3 _ _ _ _ rfl rfl rfl, den_at]
  rfl

theorem dp_at (h : Fin 8) (q k : Fin 2176) : val_main_v71 (F := Ideal) K G (ix3 h q k) = dp K G h q k := by
  rw [val_main_v71_apply]
  refine Finset.sum_congr rfl fun d _ => ?_
  rw [show lidx_main_v71 (ix3 h q k) d = ix3 h q d from ext3 _ _ _ _ rfl rfl rfl,
    show ridx_main_v71 (ix3 h q k) d = ix3 h k d from ext3 _ _ _ _ rfl rfl rfl, g_at, val_main_v63_apply,
    show idx_main_v63 (ix3 h k d) = ix3 k h d from ext3 _ _ _ _ rfl rfl rfl, v_at]

/-- The part of the gradient that comes through the sum of the exponentials. -/
theorem inner_at (h : Fin 8) (q : Fin 2176) : val_main_v81 (F := Ideal) Q K P S T G (ix2 h q)
    = -(∑ x, dp K G h q x * Ideal.div 1 (den (scores Q K P S T h q) * den (scores Q K P S T h q))
        * ex (scores Q K P S T h q) x) := by
  rw [val_main_v81_apply, Fin.sum_univ_one, val_main_v78_apply, val_main_v77_apply,
    show idx_main_v77 (idx_main_v81 (ix2 h q) 0) = ix2 h q from ext2 _ _ _
      (by show ((h.val * 2176 + q.val) * 1 + 0) / 2176 = h.val; omega)
      (by show ((h.val * 2176 + q.val) * 1 + 0) % 2176 = q.val; omega), val_main_v76_apply]
  refine (congrArg₂ (· + ·) zero (congrArg (fun z : EReal => -z) ?_)).trans (zero_add _)
  refine (congrArg₂ (· + ·) zero (Finset.sum_congr rfl fun k _ => ?_)).trans (zero_add _)
  rw [show idx_main_v76 (ix2 h q) k = ix3 h q k from ext3 _ _ _ _ rfl rfl rfl, val_main_v75_apply, val_main_v74_apply,
    ex_at, dp_at, val_main_v73_apply, show idx_main_v73 (ix3 h q k) = ix3 h q 0 from ext3 _ _ _ _ rfl rfl rfl,
    val_main_v62_apply, val_main_v61_apply, val_main_cst_10_apply, val_main_v60_apply, den_at]
  show _ * Ideal.div (Ideal.ofBits FTy.f32 0x3F800000#32) _ * _ = _
  rw [one]
  rfl

/-- The gradient with respect to an entry of the values. -/
theorem dv_at (k : Fin 2176) (h : Fin 8) (d : Fin 128) : @Eq EReal (val_main_v72 (F := Ideal) Q K P S T G (ix3 k h d))
    (∑ q : Fin 2176, prob (scores Q K P S T h q) k * G (ix2 q (hcol h d))) := by
  rw [val_main_v72_apply, val_main_v70_apply,
    show idx_main_v70 (idx_main_v72 (ix3 k h d)) = ix3 h d k from ext3 _ _ _ _ rfl rfl rfl, val_main_v69_apply]
  refine Finset.sum_congr rfl fun q _ => ?_
  rw [show lidx_main_v69 (ix3 h d k) q = ix3 h q d from ext3 _ _ _ _ rfl rfl rfl,
    show ridx_main_v69 (ix3 h d k) q = ix3 h q k from ext3 _ _ _ _ rfl rfl rfl, g_at, prob_at]
  exact mul_comm _ _

variable (hQ : ∀ i, ∃ r : ℝ, (Q i : EReal) = r) (hK : ∀ i, ∃ r : ℝ, (K i : EReal) = r)
  (hP : ∀ i, ∃ r : ℝ, (P i : EReal) = r) (hS : ∀ i, ∃ r : ℝ, (S i : EReal) = r) (hT : ∀ i, ∃ r : ℝ, (T i : EReal) = r)
  (hG : ∀ i, ∃ r : ℝ, (G i : EReal) = r)
include hQ hK hP hS hT hG

theorem ds_at (h : Fin 8) (q k : Fin 2176) :
    val_main_v87 (F := Ideal) Q K P S T G (ix3 h q k) = ds Q K P S T G h q k := by
  rw [val_main_v87_apply, val_main_v85_apply, select_mask, ds_eq_quot Q K P S T G hQ hK hP hS hT hG, val_main_v86_apply,
    val_main_cst_13_apply]
  refine congrArg₂ (fun u v : EReal => u * v) ?_ rfl
  congr 1
  · rw [val_main_v84_apply, val_main_v83_apply, val_main_v80_apply, dp_at, ex_at, val_main_v82_apply,
      show idx_main_v82 (ix3 h q k) = ix2 h q from ext2 _ _ _ rfl rfl, inner_at, val_main_v79_apply,
      show idx_main_v79 (ix3 h q k) = ix3 h q 0 from ext3 _ _ _ _ rfl rfl rfl, den_at]
    rfl
  · rw [val_main_call1_v0_apply, val_main_call1_cst_apply]
    exact zero

/-- The gradients with respect to the halves of a query and of a key. -/
theorem dqn_at (q : Fin 2176) (h : Fin 8) (d : Fin 128) :
    @Eq EReal (val_main_v97 (F := Ideal) Q K P S T G (ix3 q h d)) (dqn Q K P S T G h q d) := by
  rw [val_main_v97_apply, val_main_v96_apply,
    show idx_main_v96 (idx_main_v97 (ix3 q h d)) = ix3 h q (lo d) from ext3 _ _ _ _ rfl rfl rfl, val_main_v89_apply]
  refine Finset.sum_congr rfl fun k _ => ?_
  rw [show lidx_main_v89 (ix3 h q (lo d)) k = ix3 h q k from ext3 _ _ _ _ rfl rfl rfl,
    show ridx_main_v89 (ix3 h q (lo d)) k = ix3 h k (lo d) from ext3 _ _ _ _ rfl rfl rfl,
    ds_at Q K P S T G hQ hK hP hS hT hG, klo_at]
theorem dqp_at (q : Fin 2176) (h : Fin 8) (d : Fin 128) :
    @Eq EReal (val_main_v98 (F := Ideal) Q K P S T G (ix3 q h d)) (dqp Q K P S T G h q d) := by
  rw [val_main_v98_apply, val_main_v96_apply,
    show idx_main_v96 (idx_main_v98 (ix3 q h d)) = ix3 h q (hi d) from ext3 _ _ _ _ rfl rfl rfl, val_main_v89_apply]
  refine Finset.sum_congr rfl fun k _ => ?_
  rw [show lidx_main_v89 (ix3 h q (hi d)) k = ix3 h q k from ext3 _ _ _ _ rfl rfl rfl,
    show ridx_main_v89 (ix3 h q (hi d)) k = ix3 h k (hi d) from ext3 _ _ _ _ rfl rfl rfl,
    ds_at Q K P S T G hQ hK hP hS hT hG, khi_at]
theorem dkn_at (k : Fin 2176) (h : Fin 8) (d : Fin 128) : @Eq EReal (val_main_v91 (F := Ideal) Q K P S T G (ix3 k h d))
    (∑ q : Fin 2176, ds Q K P S T G h q k * Q (ix2 q (qcol 0 h d))) := by
  rw [val_main_v91_apply, val_main_v90_apply,
    show idx_main_v90 (idx_main_v91 (ix3 k h d)) = ix3 h k (lo d) from ext3 _ _ _ _ rfl rfl rfl, val_main_v88_apply]
  refine Finset.sum_congr rfl fun q _ => ?_
  rw [show lidx_main_v88 (ix3 h k (lo d)) q = ix3 h q k from ext3 _ _ _ _ rfl rfl rfl,
    show ridx_main_v88 (ix3 h k (lo d)) q = ix3 h q (lo d) from ext3 _ _ _ _ rfl rfl rfl,
    ds_at Q K P S T G hQ hK hP hS hT hG, qlo_at]
theorem dkph_at (k : Fin 2176) (h : Fin 8) (d : Fin 128) : @Eq EReal (val_main_v92 (F := Ideal) Q K P S T G (ix3 k h d))
    (∑ q : Fin 2176, ds Q K P S T G h q k * qp Q S T h q d) := by
  rw [val_main_v92_apply, val_main_v90_apply,
    show idx_main_v90 (idx_main_v92 (ix3 k h d)) = ix3 h k (hi d) from ext3 _ _ _ _ rfl rfl rfl, val_main_v88_apply]
  refine Finset.sum_congr rfl fun q _ => ?_
  rw [show lidx_main_v88 (ix3 h k (hi d)) q = ix3 h q k from ext3 _ _ _ _ rfl rfl rfl,
    show ridx_main_v88 (ix3 h k (hi d)) q = ix3 h q (hi d) from ext3 _ _ _ _ rfl rfl rfl,
    ds_at Q K P S T G hQ hK hP hS hT hG, qhi_at]

/-- The gradient with respect to the keys' part with a position. -/
theorem dkp_at (k : Fin 2176) (d : Fin 128) :
    val_main_v95 (F := Ideal) Q K P S T G (ix2 k d) = dkp Q K P S T G k d := by
  rw [val_main_v95_apply, Fin.sum_univ_one, val_main_v94_apply,
    show idx_main_v94 (idx_main_v95 (ix2 k d) 0) = ix2 k d from ext2 _ _ _ rfl rfl, val_main_v93_apply]
  refine (congrArg₂ (· + ·) zero ?_).trans (zero_add _)
  refine (congrArg₂ (· + ·) zero (Finset.sum_congr rfl fun h _ => ?_)).trans (zero_add _)
  rw [show idx_main_v93 (ix2 k d) h = ix3 k h d from ext3 _ _ _ _ rfl rfl rfl]
  exact dkph_at Q K P S T G hQ hK hP hS hT hG k h d

/-- The gradient with respect to an entry of the keys and values, part by part. -/
theorem dkv4_at (k : Fin 2176) (h : Fin 8) (p : Fin 2) (d : Fin 128) :
    @Eq EReal (val_main_v103 (F := Ideal) Q K P S T G (ix4 k h p d)) (dkv Q K P S T G h k p d) := by
  have e0 : @Eq EReal (val_main_v101 (F := Ideal) Q K P S T G (ix4 k h 0 d))
      (∑ q : Fin 2176, ds Q K P S T G h q k * Q (ix2 q (qcol 0 h d))) := by
    rw [val_main_v101_apply, show idx_main_v101 (ix4 k h 0 d) = ix3 k h d from ext3 _ _ _ _ rfl rfl rfl]
    exact dkn_at Q K P S T G hQ hK hP hS hT hG k h d
  have e1 : @Eq EReal (val_main_v99 (F := Ideal) Q K P S T G (ix4 k h 0 d))
      (∑ q : Fin 2176, prob (scores Q K P S T h q) k * G (ix2 q (hcol h d))) := by
    rw [val_main_v99_apply, show idx_main_v99 (ix4 k h 0 d) = ix3 k h d from ext3 _ _ _ _ rfl rfl rfl]
    exact dv_at Q K P S T G k h d
  have z0 : ∀ i, val_main_cst_16 (F := Ideal) i = (0 : EReal) := fun _ => zero
  have z1 : ∀ i, val_main_cst_17 (F := Ideal) i = (0 : EReal) := fun _ => zero
  rw [val_main_v103_apply]
  unfold val_main_v100 val_main_v102 dkv dkvTerm
  generalize val_main_v99 (F := Ideal) Q K P S T G = y at e1 ⊢
  generalize val_main_v101 (F := Ideal) Q K P S T G = z at e0 ⊢
  fin_cases p
  · pointwise [z0, z1]
    exact e0
  · pointwise [z0, z1]
    exact e1

/-- The gradient with respect to an entry of the queries, part by part. -/
theorem dq4_at (q : Fin 2176) (h : Fin 8) (p : Fin 3) (d : Fin 128) :
    @Eq EReal (val_main_v115 (F := Ideal) Q K P S T G (ix4 q h p d)) (dq Q K P S T G h q p d) := by
  have e0 : @Eq EReal (val_main_v113 (F := Ideal) Q K P S T G (ix4 q h 0 d)) (dqn Q K P S T G h q d) := by
    rw [val_main_v113_apply, show idx_main_v113 (ix4 q h 0 d) = ix3 q h d from ext3 _ _ _ _ rfl rfl rfl]
    exact dqn_at Q K P S T G hQ hK hP hS hT hG q h d
  have e1 : @Eq EReal (val_main_v110 (F := Ideal) Q K P S T G (ix4 q h 0 d)) (dqp Q K P S T G h q d * S (ix2 q d)) := by
    rw [val_main_v110_apply, show idx_main_v110 (ix4 q h 0 d) = ix3 q h d from ext3 _ _ _ _ rfl rfl rfl,
      val_main_v109_apply, val_main_v108_apply, val_main_v6_apply,
      show idx_main_v6 (idx_main_v108 (ix3 q h d)) = ix2 q d from ext2 _ _ _ rfl rfl]
    exact congrArg (fun x : EReal => x * S (ix2 q d)) (dqp_at Q K P S T G hQ hK hP hS hT hG q h d)
  have e2 : @Eq EReal (val_main_v106 (F := Ideal) Q K P S T G (ix4 q h 0 d)) (dqp Q K P S T G h q d * T (ix2 q d)) := by
    rw [val_main_v106_apply, show idx_main_v106 (ix4 q h 0 d) = ix3 q h d from ext3 _ _ _ _ rfl rfl rfl,
      val_main_v105_apply, val_main_v104_apply, val_main_v11_apply,
      show idx_main_v11 (idx_main_v104 (ix3 q h d)) = ix2 q d from ext2 _ _ _ rfl rfl]
    exact congrArg (fun x : EReal => x * T (ix2 q d)) (dqp_at Q K P S T G hQ hK hP hS hT hG q h d)
  have z0 : ∀ i, val_main_cst_18 (F := Ideal) i = (0 : EReal) := fun _ => zero
  have z1 : ∀ i, val_main_cst_19 (F := Ideal) i = (0 : EReal) := fun _ => zero
  have z2 : ∀ i, val_main_cst_20 (F := Ideal) i = (0 : EReal) := fun _ => zero
  rw [val_main_v115_apply, val_main_v112_apply]
  unfold val_main_v107 val_main_v111 val_main_v114 dq
  generalize val_main_v113 (F := Ideal) Q K P S T G = x at e0 ⊢
  generalize val_main_v110 (F := Ideal) Q K P S T G = y at e1 ⊢
  generalize val_main_v106 (F := Ideal) Q K P S T G = z at e2 ⊢
  fin_cases p
  · pointwise [z0, z1, z2]
    exact e0
  · pointwise [z0, z1, z2]
    exact e1
  · pointwise [z0, z1, z2]
    exact e2

theorem dkv_at (k : Fin 2176) (e : Fin 2048) : @Eq EReal (val_main_v116 (F := Ideal) Q K P S T G (ix2 k e))
    (dkv Q K P S T G ⟨e.val / 256, by have := e.isLt; omega⟩ k ⟨e.val / 128 % 2, by omega⟩ ⟨e.val % 128, by omega⟩) := by
  have := e.isLt
  rw [val_main_v116_apply, show idx_main_v116 (ix2 k e) = ix4 k ⟨e.val / 256, by omega⟩ ⟨e.val / 128 % 2, by omega⟩
      ⟨e.val % 128, by omega⟩ from ext4 _ _ _ _ _
      (by show (k.val * 2048 + e.val) / 2048 = k.val; omega)
      (by show (k.val * 2048 + e.val) / 256 % 8 = e.val / 256; omega)
      (by show (k.val * 2048 + e.val) / 128 % 2 = e.val / 128 % 2; omega)
      (by show (k.val * 2048 + e.val) % 128 = e.val % 128; omega)]
  exact dkv4_at Q K P S T G hQ hK hP hS hT hG k _ _ _

theorem dq_at (q : Fin 2176) (e : Fin 3072) : @Eq EReal (val_main_v118 (F := Ideal) Q K P S T G (ix2 q e))
    (dq Q K P S T G ⟨e.val / 384, by have := e.isLt; omega⟩ q ⟨e.val / 128 % 3, by omega⟩ ⟨e.val % 128, by omega⟩) := by
  have := e.isLt
  show val_main_v117 (F := Ideal) Q K P S T G (ix2 q e) = _
  rw [val_main_v117_apply, show idx_main_v117 (ix2 q e) = ix4 q ⟨e.val / 384, by omega⟩ ⟨e.val / 128 % 3, by omega⟩
      ⟨e.val % 128, by omega⟩ from ext4 _ _ _ _ _
      (by show (q.val * 3072 + e.val) / 3072 = q.val; omega)
      (by show (q.val * 3072 + e.val) / 384 % 8 = e.val / 384; omega)
      (by show (q.val * 3072 + e.val) / 128 % 3 = e.val / 128 % 3; omega)
      (by show (q.val * 3072 + e.val) % 128 = e.val % 128; omega)]
  exact dq4_at Q K P S T G hQ hK hP hS hT hG q _ _ _

end Cert.Reference12Ideal.Mla
-- ==== Proof.Mla.Claims.lean ====
/- The claims about the gradient of the latent attention. -/
module

public import proofs.«01_k».proof.Defs
public import proofs.«01_k».proof.Proof.Gen.Kernel12.Frame
public import proofs.«01_k».proof.Proof.Gen.Kernel12Ideal.Frame
public import proofs.«01_k».proof.Proof.Gen.Reference12Ideal.Run
public import proofs.«01_k».proof.Proof.Mla.Array
public import proofs.«01_k».proof.Proof.Mla.Reference
public import proofs.«01_k».proof.Proof.Common.Finite

@[expose] public noncomputable section

set_option maxRecDepth 16384

namespace Cert.Proof.Mla

open Idealize.ShloMosaic Idealize.ShloMosaic.TcCoe Idealize.SL.Sem Cert.Kernel12Ideal.Mla Cert.Idx

theorem frame_p : Cert.quiescent_Kernel12 := fun m ρ _ => Cert.Kernel12.Gen.frame m ρ
theorem frame_pi : Cert.quiescent_Kernel12Ideal := fun m ρ _ => Cert.Kernel12Ideal.Gen.frame m ρ
theorem frame_ri : Cert.quiescent_Reference12Ideal := fun m ρ _ =>
  (θ_run Cert.Reference12Ideal.defs _ _).mono (fun r h => ⟨fun c => (h c).2.2.2, sem_eq_zero_of_no_sems (by decide) r.2⟩)
    (Cert.Reference12Ideal.Value.run (F := Ideal) m ρ)

/-- The program's table gives the mask the value `⊥`. -/
theorem preserves : Cert.preserves_Kernel12_Kernel12Ideal :=
  IdealRules.named_const.statement Cert.Kernel12Ideal.κ "mask" .f32 0xF149F2CA#32 ⊥ rfl

instance pre_facts : Cert.Pre_finite_latent.Facts := ⟨by decide, by decide, by decide, by decide⟩

theorem frame_pi_pre : Cert.quiescent_Kernel12Ideal_pre_finite_latent := fun m ρ _ => Cert.Kernel12Ideal.Gen.frame m ρ
theorem frame_ri_pre : Cert.quiescent_Reference12Ideal_pre_finite_latent := fun m ρ _ => frame_ri m ρ trivial

/-- The precondition says that the arguments' entries are numbers. -/
theorem nums (m : (ℓ : Loc Cert.Kernel12Ideal.nD Cert.Kernel12Ideal.τ Cert.Kernel12Ideal.sig) → Buf (Elt Ideal) ℓ)
    (h : Cert.Pre_Kernel12Ideal_finite_latent m) (c : Dev Cert.Kernel12Ideal.nD) :
    (∀ i, ∃ r : ℝ, @Eq EReal (Q m c i) r) ∧ (∀ i, ∃ r : ℝ, @Eq EReal (K m c i) r) ∧ (∀ i, ∃ r : ℝ, @Eq EReal (P m c i) r)
      ∧ (∀ i, ∃ r : ℝ, @Eq EReal (S m c i) r) ∧ (∀ i, ∃ r : ℝ, @Eq EReal (T m c i) r)
      ∧ (∀ i, ∃ r : ℝ, @Eq EReal (G m c i) r) :=
  ⟨Finite.num _ _ _ (h c).1, Finite.num _ _ _ (h c).2.1, Finite.num _ _ _ (h c).2.2.1, Finite.num _ _ _ (h c).2.2.2.1,
    Finite.num _ _ _ (h c).2.2.2.2.1, Finite.num _ _ _ (h c).2.2.2.2.2⟩

/-- The kernel and the reference compute the same three gradients. -/
theorem algebraic : Cert.algebraic_Kernel12Ideal_Reference12Ideal_pre_finite_latent := by
  intro m ρ m' ρ' hpre hagree
  refine ⟨fun c => dqArr m c, fun c => dkvArr m c, fun c => dkpArr m c, ?_, ?_⟩
  · refine (θ_run Cert.Kernel12Ideal.defs _ _).mono (fun r h c => ?_) (Cert.Kernel12Ideal.Value.run_blocks (F := Ideal) m ρ)
    obtain ⟨h0, h1, h2, hk⟩ := h c
    exact ⟨h0.trans (final_dq m c), h1.trans (final_dkv m c), h2.trans (final_dkp m c), hk⟩
  · refine (θ_run Cert.Reference12Ideal.defs _ _).mono (fun r h c => ?_) (Cert.Reference12Ideal.Value.run (F := Ideal) m' ρ')
    obtain ⟨hQ, hK, hP, hS, hT, hG⟩ := nums m hpre c
    obtain ⟨h0, h1, h2, hk⟩ := h c
    obtain ⟨a0, a1, a2, a3, a4, a5⟩ := hagree c
    rw [Cert.Reference12Ideal.Read.val_main_v118_eq, a0, a1, a2, a3, a4, a5] at h0
    rw [Cert.Reference12Ideal.Read.val_main_v116_eq, a0, a1, a2, a3, a4, a5] at h1
    rw [Cert.Reference12Ideal.Read.val_main_v95_eq, a0, a1, a2, a3, a4, a5] at h2
    refine ⟨h0.trans ?_, h1.trans ?_, h2.trans ?_, hk⟩
    · funext i
      obtain ⟨q, e, rfl⟩ := of2 (a := 2176) (b := 3072) i
      exact Cert.Reference12Ideal.Mla.dq_at _ _ _ _ _ _ hQ hK hP hS hT hG q e
    · funext i
      obtain ⟨k, e, rfl⟩ := of2 (a := 2176) (b := 2048) i
      exact Cert.Reference12Ideal.Mla.dkv_at _ _ _ _ _ _ hQ hK hP hS hT hG k e
    · funext i
      obtain ⟨k, d, rfl⟩ := of2 (a := 2176) (b := 128) i
      exact Cert.Reference12Ideal.Mla.dkp_at _ _ _ _ _ _ hQ hK hP hS hT hG k d

end Cert.Proof.Mla
-- ==== Proof.MlaFwd.Point.lean ====
/- What one grid point of the latent attention's forward call leaves in the output block: its loop goes through the
   blocks of 272 keys up to the one its own query rows start at, and carries the largest score so far, the sum of the
   exponentials and the values they weight. -/
module

public import proofs.«01_k».proof.Proof.Common.Idx
public import proofs.«01_k».proof.Proof.Gen.Kernel14Ideal.Value
public import proofs.«01_k».proof.Proof.Gen.Kernel14Ideal.Loops
public import Idealize.ShloMosaic.Lib.Tactic

@[expose] public noncomputable section

set_option maxRecDepth 16384

namespace Cert.Kernel14Ideal.MlaFwd

open Cert.Kernel14Ideal Cert.Kernel14Ideal.Gen Idealize.ShloMosaic Idealize.ShloMosaic.TcCoe Idealize.SL.Sem Cert.Idx

variable {F : FTy → Type} [FloatOps F] [Named F] (m : (ℓ : Loc nD τ sig) → Buf (Elt F) ℓ) (c : Dev nD)

/-- What the loop carries: the largest scores, the sums of the exponentials, and the weighted values. -/
abbrev Carry (F : FTy → Type) : Type := FVec F S272x1 .f32 × FVec F S272x1 .f32 × FVec F S272x128 .f32

/-- What the loop of point `t` carries before trip `k`. -/
def carry (t : Fin cfg0.N) : ℕ → Carry F :=
  st_k0_t1 (F := F) Variants.none c none (grid0.coords t) (ms0_0 t) (hs0_0 t) (ms0_1 t) (hs0_1 t) (ms0_2 t) (hs0_2 t)
    (ms0_3 t) (hs0_3 t) (ms0_4 t) (hs0_4 t) (ms0_5 t) (hs0_5 t) (iblk m c 0 t) (iblk m c 3 t) (iblk m c 4 t)
    ((hs0_1 t).unread (iblk m c 1 t)) ((hs0_2 t).unread (iblk m c 2 t)) (k0_pay4, k0_pay5, k0_pay6)

/-- The keys and values, and the keys' part with a position, that trip `k` reads. -/
abbrev kvBlock (t : Fin cfg0.N) (k : Fin (k0_t1_loop (grid0.coords t)).trips) : Vec F S272x256 .f32 :=
  View.ld (S := S2176x256) (iblk m c 1 t)
    (Rect.unit (s := S2176x256) (k0_off1 (grid0.coords t) k) S272x256.size (k0_off1_inb (grid0.coords t) k))
abbrev kpBlock (t : Fin cfg0.N) (k : Fin (k0_t1_loop (grid0.coords t)).trips) : Vec F S272x128 .f32 :=
  View.ld (S := S2176x128) (iblk m c 2 t)
    (Rect.unit (s := S2176x128) (k0_off2 (grid0.coords t) k) S272x128.size (k0_off2_inb (grid0.coords t) k))

theorem carry_zero (t : Fin cfg0.N) : carry m c t 0 = (k0_pay4, k0_pay5, k0_pay6) := rfl

/-- One trip. -/
theorem carry_succ (t : Fin cfg0.N) (k : Fin (k0_t1_loop (grid0.coords t)).trips) : carry m c t (k.val + 1)
    = (k0_pay8 (grid0.coords t) (iblk m c 0 t) (iblk m c 3 t) (iblk m c 4 t) k (carry m c t k.val).1
        (kvBlock m c t k) (kpBlock m c t k),
      k0_pay11 (grid0.coords t) (iblk m c 0 t) (iblk m c 3 t) (iblk m c 4 t) k (carry m c t k.val).1
        (carry m c t k.val).2.1 (kvBlock m c t k) (kpBlock m c t k),
      k0_pay12 (grid0.coords t) (iblk m c 0 t) (iblk m c 3 t) (iblk m c 4 t) k (carry m c t k.val).1
        (carry m c t k.val).2.2 (kvBlock m c t k) (kpBlock m c t k)) := by
  refine (st_k0_t1_succ ..).trans ?_
  unfold tripR_k0_t1 trip_k0_t1
  dsimp only
  simp only [View.readAt_eq_ld, (hs0_1 t).read_unread, (hs0_2 t).read_unread]
  rfl

/-- Point `t` works on block `t % 8` of the query rows and goes through the key blocks up to it; the second loop,
    for what the first leaves of its range, makes no trip. -/
theorem trips1 : ∀ t : Fin cfg0.N, (k0_t1_loop (grid0.coords t)).trips = t.val % 8 + 1 :=
  (by decide +kernel : ∀ t : Fin grid0.N, (k0_t1_loop (grid0.coords t)).trips = t.val % 8 + 1)
theorem trips2 (t : Fin cfg0.N) : (k0_t2_loop (grid0.coords t)).trips = 0 :=
  Nat.le_zero.mp (k0_t2_abs (grid0.coords t)).2.1
theorem trips1_word (t : Fin cfg0.N) : Scf.trips 0#32 (Scalar.addi 0#32 (Scalar.muli (Scalar.divsi
    (Scalar.subi (Scalar.addi (BitVec.ofNat 32 ((grid0.coords t) 1).val) 1#32) 0#32) 1#32) 1#32)) 1#32 = t.val % 8 + 1 :=
  trips1 t
theorem trips2_word (t : Fin cfg0.N) : Scf.trips (Scalar.addi 0#32 (Scalar.muli (Scalar.divsi
    (Scalar.subi (Scalar.addi (BitVec.ofNat 32 ((grid0.coords t) 1).val) 1#32) 0#32) 1#32) 1#32))
    (Scalar.addi 0#32 (Scalar.subi (Scalar.addi (BitVec.ofNat 32 ((grid0.coords t) 1).val) 1#32) 0#32)) 1#32 = 0 :=
  trips2 t

/-- What the point leaves. -/
theorem left (t : Fin cfg0.N) : out0_A_5 c (grid0.coords t) (ms0_0 t) (hs0_0 t) (ms0_1 t) (hs0_1 t) (ms0_2 t) (hs0_2 t)
      (ms0_3 t) (hs0_3 t) (ms0_4 t) (hs0_4 t) (ms0_5 t) (hs0_5 t) (iblk m c 0 t) (iblk m c 1 t) (iblk m c 2 t)
      (iblk m c 3 t) (iblk m c 4 t)
    = k0_pay19 (carry m c t (t.val % 8 + 1)).2.1 (carry m c t (t.val % 8 + 1)).2.2 := by
  unfold out0_A_5
  rw [View.read_writes_eq_canon]; swap
  · intro y; apply cover0_A_5
  unfold kernelRun0_A; dsimp only; sl_unfold_words
  rw [View.canon_unit_zero zero2, trips1_word, trips2_word, st_k0_t2_zero]
  simp only [View.readAt_eq_ld, (hs0_0 t).read_unread, (hs0_3 t).read_unread, (hs0_4 t).read_unread,
    ld2]
  rfl

end Cert.Kernel14Ideal.MlaFwd
-- ==== Proof.MlaFwd.Blocks.lean ====
/- The blocks the windows of the latent attention's forward call read, at an index of the argument arrays: grid point `t`
   works on the head `t / 8` and the 272 query rows from `272 * (t % 8)` on. -/
module

public import proofs.«01_k».proof.Proof.Common.Idx
public import proofs.«01_k».proof.Proof.Gen.Kernel14Ideal.Value
public import proofs.«01_k».proof.Proof.Mla.Math
public import Idealize.ShloMosaic.Lib.Tactic

@[expose] public noncomputable section

set_option maxRecDepth 16384

namespace Cert.Kernel14Ideal.MlaFwd

open Cert.Kernel14Ideal Cert.Kernel14Ideal.Gen Idealize.ShloMosaic Idealize.ShloMosaic.TcCoe Idealize.SL.Sem Cert.Mla Cert.Idx

variable {F : FTy → Type} [FloatOps F] [Named F] (m : (ℓ : Loc nD τ sig) → Buf (Elt F) ℓ) (c : Dev nD)

/-- A grid point is one of 64. -/
theorem lt64 (t : Fin cfg0.N) : t.val < 64 := lt_of_lt_of_eq t.isLt N_0

/-- Where the windows' blocks start, in blocks. -/
theorem idx_0 : ∀ t : Fin cfg0.N, win0_0.index t 0 = t.val % 8 ∧ win0_0.index t 1 = t.val / 8 :=
  (by decide +kernel : ∀ t : Fin grid0.N, win0_0.index t 0 = t.val % 8 ∧ win0_0.index t 1 = t.val / 8)
theorem idx_1 : ∀ t : Fin cfg0.N, win0_1.index t 0 = 0 ∧ win0_1.index t 1 = t.val / 8 :=
  (by decide +kernel : ∀ t : Fin grid0.N, win0_1.index t 0 = 0 ∧ win0_1.index t 1 = t.val / 8)
theorem idx_2 : ∀ t : Fin cfg0.N, win0_2.index t 0 = 0 ∧ win0_2.index t 1 = 0 :=
  (by decide +kernel : ∀ t : Fin grid0.N, win0_2.index t 0 = 0 ∧ win0_2.index t 1 = 0)
theorem idx_3 : ∀ t : Fin cfg0.N, win0_3.index t 0 = t.val % 8 ∧ win0_3.index t 1 = 0 :=
  (by decide +kernel : ∀ t : Fin grid0.N, win0_3.index t 0 = t.val % 8 ∧ win0_3.index t 1 = 0)
theorem idx_4 : ∀ t : Fin cfg0.N, win0_4.index t 0 = t.val % 8 ∧ win0_4.index t 1 = 0 :=
  (by decide +kernel : ∀ t : Fin grid0.N, win0_4.index t 0 = t.val % 8 ∧ win0_4.index t 1 = 0)
theorem idx_5 : ∀ t : Fin grid0.N, win0_5.index t 0 = t.val % 8 ∧ win0_5.index t 1 = t.val / 8 := by decide +kernel

/-- The query row `r` of grid point `t`, and its head. -/
abbrev row (t : Fin cfg0.N) (r : Fin 272) : Fin 2176 :=
  ⟨272 * (t.val % 8) + r.val, by have := lt64 t; have := r.isLt; omega⟩
abbrev head (t : Fin cfg0.N) : Fin 8 := ⟨t.val / 8, by have := lt64 t; omega⟩

theorem blk0 (t : Fin cfg0.N) (r : Fin 272) (p : Fin 3) (d : Fin 128) :
    (iblk m c 0 t : Vec F S272x384 .f32) (ix2 r ⟨128 * p.val + d.val, by have := p.isLt; have := d.isLt; omega⟩)
      = m ((c : Thread nD τ).loc main_arg0) (ix2 (row t r) (qcol p (head t) d)) := by
  obtain ⟨e0, e1⟩ := idx_0 t
  unfold iblk
  rw [View.read_apply]
  show V m c main_arg0 _ = _
  rw [V_main_arg0]
  exact congrArg _ (ext2 (by show win0_0.index t 0 * 272 + 1 * r.val = 272 * (t.val % 8) + r.val; rw [e0]; omega) (by show win0_0.index t 1 * 384 + 1 * (128 * p.val + d.val) = 384 * (t.val / 8) + 128 * p.val + d.val; rw [e1]; omega))

theorem blk1 (t : Fin cfg0.N) (k : Fin 2176) (p : Fin 2) (d : Fin 128) :
    (iblk m c 1 t : Vec F S2176x256 .f32) (ix2 k ⟨128 * p.val + d.val, by have := p.isLt; have := d.isLt; omega⟩)
      = m ((c : Thread nD τ).loc main_arg1) (ix2 k (kcol p (head t) d)) := by
  obtain ⟨e0, e1⟩ := idx_1 t
  unfold iblk
  rw [View.read_apply]
  show V m c main_arg1 _ = _
  rw [V_main_arg1]
  exact congrArg _ (ext2 (by show win0_1.index t 0 * 2176 + 1 * k.val = k.val; rw [e0]; omega) (by show win0_1.index t 1 * 256 + 1 * (128 * p.val + d.val) = 256 * (t.val / 8) + 128 * p.val + d.val; rw [e1]; omega))

theorem blk2 (t : Fin cfg0.N) (k : Fin 2176) (d : Fin 128) :
    (iblk m c 2 t : Vec F S2176x128 .f32) (ix2 k d)
      = m ((c : Thread nD τ).loc main_arg2) (ix2 k d) := by
  obtain ⟨e0, e1⟩ := idx_2 t
  unfold iblk
  rw [View.read_apply]
  show V m c main_arg2 _ = _
  rw [V_main_arg2]
  exact congrArg _ (ext2 (by show win0_2.index t 0 * 2176 + 1 * k.val = k.val; rw [e0]; omega) (by show win0_2.index t 1 * 128 + 1 * (d.val) = d.val; rw [e1]; omega))

theorem blk3 (t : Fin cfg0.N) (r : Fin 272) (d : Fin 128) :
    (iblk m c 3 t : Vec F S272x128 .f32) (ix2 r d)
      = m ((c : Thread nD τ).loc main_arg3) (ix2 (row t r) d) := by
  obtain ⟨e0, e1⟩ := idx_3 t
  unfold iblk
  rw [View.read_apply]
  show V m c main_arg3 _ = _
  rw [V_main_arg3]
  exact congrArg _ (ext2 (by show win0_3.index t 0 * 272 + 1 * r.val = 272 * (t.val % 8) + r.val; rw [e0]; omega) (by show win0_3.index t 1 * 128 + 1 * (d.val) = d.val; rw [e1]; omega))

theorem blk4 (t : Fin cfg0.N) (r : Fin 272) (d : Fin 128) :
    (iblk m c 4 t : Vec F S272x128 .f32) (ix2 r d)
      = m ((c : Thread nD τ).loc main_arg4) (ix2 (row t r) d) := by
  obtain ⟨e0, e1⟩ := idx_4 t
  unfold iblk
  rw [View.read_apply]
  show V m c main_arg4 _ = _
  rw [V_main_arg4]
  exact congrArg _ (ext2 (by show win0_4.index t 0 * 272 + 1 * r.val = 272 * (t.val % 8) + r.val; rw [e0]; omega) (by show win0_4.index t 1 * 128 + 1 * (d.val) = d.val; rw [e1]; omega))

end Cert.Kernel14Ideal.MlaFwd
-- ==== Proof.Common.Online.lean ====
/- A row of a softmax-weighted sum computed block by block: the largest score so far, the sum of the exponentials less
   it, and the weighted sum, both scaled anew whenever a larger score comes. After the last block with a score above `⊥`
   the quotient of the two sums is the sum weighted by the probabilities. -/
module

public import proofs.«01_k».proof.Proof.Common.Softmax
public import Mathlib.Algebra.BigOperators.Fin

@[expose] public noncomputable section

namespace Cert.Online

open Idealize.ShloMosaic Finset Cert.Softmax

/-- The largest of the first `n` scores, and the sums over them. -/
def best (s : ℕ → EReal) (n : ℕ) : EReal := (range n).fold max ⊥ s
def mass (s : ℕ → EReal) (μ : EReal) (n : ℕ) : EReal := ∑ j ∈ range n, Ideal.exp (s j - μ)
def weighted (s : ℕ → EReal) (v : ℕ → ℝ) (μ : EReal) (n : ℕ) : EReal := ∑ j ∈ range n, Ideal.exp (s j - μ) * (v j : EReal)

theorem best_add (s : ℕ → EReal) (n b : ℕ) :
    best s (n + b) = max (best s n) ((univ : Finset (Fin b)).fold max ⊥ fun r => s (n + r.val)) := by
  refine eq_of_forall_ge_iff fun c => ?_
  unfold best
  rw [max_le_iff, fold_max_le, fold_max_le, fold_max_le]
  constructor
  · rintro ⟨h, h'⟩
    exact ⟨⟨h, fun x hx => h' x (by rw [mem_range] at hx ⊢; omega)⟩,
      h, fun r _ => h' _ (by rw [mem_range]; have := r.isLt; omega)⟩
  · rintro ⟨⟨h, h1⟩, -, h2⟩
    refine ⟨h, fun x hx => ?_⟩
    rw [mem_range] at hx
    by_cases hn : x < n
    · exact h1 x (mem_range.mpr hn)
    · have := h2 ⟨x - n, by omega⟩ (mem_univ _)
      rwa [show n + (x - n) = x by omega] at this

/-- The largest score is a number once the first score is. -/
theorem best_num (s : ℕ → EReal) (hs : ∀ j, s j ≠ ⊤) (h0 : s 0 ≠ ⊥) (n : ℕ) (hn : 0 < n) : ∃ μ : ℝ, best s n = μ := by
  have ht : best s n ≠ ⊤ := ne_of_lt (by
    unfold best
    rw [fold_max_lt]
    exact ⟨bot_lt_top, fun k _ => lt_of_le_of_ne le_top (hs k)⟩)
  have hb : best s n ≠ ⊥ := ne_of_gt (by
    unfold best
    rw [lt_fold_max]
    exact Or.inr ⟨0, mem_range.mpr hn, lt_of_le_of_ne bot_le (Ne.symm h0)⟩)
  exact ⟨(best s n).toReal, (EReal.coe_toReal ht hb).symm⟩

/-- An exponential less a number is a number, and is scaled to another number by the exponential of their difference. -/
theorem exp_num (s : EReal) (hs : s ≠ ⊤) (μ ν : ℝ) : ∃ e : ℝ, Ideal.exp (s - (μ : EReal)) = e
    ∧ Ideal.exp (s - (ν : EReal)) = ((Real.exp (μ - ν) * e : ℝ) : EReal) := by
  by_cases hb : s = ⊥
  · exact ⟨0, by rw [hb]; rfl, by rw [hb, mul_zero]; rfl⟩
  · obtain ⟨x, hx⟩ : ∃ x : ℝ, s = x := ⟨s.toReal, (EReal.coe_toReal hs hb).symm⟩
    refine ⟨Real.exp (x - μ), by rw [hx, ← EReal.coe_sub]; rfl, ?_⟩
    rw [hx, ← EReal.coe_sub, ← Real.exp_add, show μ - ν + (x - μ) = x - ν by ring]
    rfl

/-- The sums are scaled from one largest score to the next. -/
theorem rescale (s : ℕ → EReal) (hs : ∀ j, s j ≠ ⊤) (v : ℕ → ℝ) (μ ν : ℝ) (n : ℕ) :
    Ideal.exp ((μ : EReal) - (ν : EReal)) * mass s μ n = mass s ν n
    ∧ Ideal.exp ((μ : EReal) - (ν : EReal)) * weighted s v μ n = weighted s v ν n := by
  choose e h1 h2 using fun j => exp_num (s j) (hs j) μ ν
  have hx : Ideal.exp ((μ : EReal) - (ν : EReal)) = ((Real.exp (μ - ν) : ℝ) : EReal) := by rw [← EReal.coe_sub]; rfl
  unfold mass weighted
  rw [hx]
  simp only [h1, h2, ← EReal.coe_mul, ← coe_sum, mul_sum, mul_assoc, and_self]

variable (s : ℕ → EReal) (hs : ∀ j, s j ≠ ⊤) (h0 : s 0 ≠ ⊥) (v : ℕ → ℝ) (b n : ℕ) (hb : 0 < b)
  (M L A : ℕ → EReal) (m0 : M 0 = ⊥) (l0 : L 0 = 0) (a0 : A 0 = 0)
  (mS : ∀ k < n, M (k + 1) = max (M k) ((univ : Finset (Fin b)).fold max ⊥ fun r => s (b * k + r.val)))
  (lS : ∀ k < n, L (k + 1) = Ideal.exp (M k - M (k + 1)) * L k + ∑ r : Fin b, Ideal.exp (s (b * k + r.val) - M (k + 1)))
  (aS : ∀ k < n, A (k + 1) = Ideal.exp (M k - M (k + 1)) * A k
    + ∑ r : Fin b, Ideal.exp (s (b * k + r.val) - M (k + 1)) * (v (b * k + r.val) : EReal))

include hs h0 hb m0 l0 a0 mS lS aS

/-- What is carried after `k` blocks. -/
theorem carried (k : ℕ) (hk : k ≤ n) :
    M k = best s (b * k) ∧ L k = mass s (M k) (b * k) ∧ A k = weighted s v (M k) (b * k) := by
  induction k with
  | zero => rw [m0, l0, a0]; exact ⟨rfl, rfl, rfl⟩
  | succ k ih =>
    obtain ⟨hm, hl, ha⟩ := ih (by omega)
    have hm' : M (k + 1) = best s (b * (k + 1)) := by rw [mS k (by omega), hm, mul_add, mul_one, best_add]
    have scale : Ideal.exp (M k - M (k + 1)) * L k = mass s (M (k + 1)) (b * k)
        ∧ Ideal.exp (M k - M (k + 1)) * A k = weighted s v (M (k + 1)) (b * k) := by
      rcases Nat.eq_zero_or_pos k with rfl | hpos
      · rw [l0, a0, mul_zero, mul_zero]; exact ⟨rfl, rfl⟩
      · obtain ⟨μ, hμ⟩ := best_num s hs h0 (b * k) (Nat.mul_pos hb hpos)
        obtain ⟨ν, hν⟩ := best_num s hs h0 (b * (k + 1)) (Nat.mul_pos hb (by omega))
        have := rescale s hs v μ ν (b * k)
        rw [hl, ha, hm, hm', hμ, hν]
        exact this
    refine ⟨hm', ?_, ?_⟩
    · rw [lS k (by omega), scale.1]
      unfold mass
      rw [mul_add, mul_one, sum_range_add, sum_range (fun x => Ideal.exp (s (b * k + x) - M (k + 1)))]
    · rw [aS k (by omega), scale.2]
      unfold weighted
      rw [mul_add, mul_one, sum_range_add,
        sum_range (fun x => Ideal.exp (s (b * k + x) - M (k + 1)) * (v (b * k + x) : EReal))]

/-- The quotient after the last block that has a score above `⊥`. -/
theorem quotient (N : ℕ) (hn : 0 < n) (hN : b * n ≤ N) (hbot : ∀ j, b * n ≤ j → s j = ⊥) :
    Ideal.div (A n) (L n) = ∑ j : Fin N, prob (fun k : Fin N => s k.val) j * (v j.val : EReal) := by
  obtain ⟨hm, hl, ha⟩ := carried s hs h0 v b n hb M L A m0 l0 a0 mS lS aS n le_rfl
  obtain ⟨μ, hμ⟩ := best_num s hs h0 (b * n) (Nat.mul_pos hb hn)
  obtain ⟨d, rfl⟩ : ∃ d, N = b * n + d := ⟨N - b * n, by omega⟩
  have htop : top (fun k : Fin (b * n + d) => s k.val) = best s (b * n) := by
    have e : best s (b * n + d) = best s (b * n) := by
      rw [best_add]
      refine max_eq_left ?_
      rw [fold_max_le]
      exact ⟨bot_le, fun r _ => by rw [hbot _ (by omega)]; exact bot_le⟩
    rw [← e]
    refine eq_of_forall_ge_iff fun c => ?_
    unfold top best
    rw [fold_max_le, fold_max_le]
    exact ⟨fun h => ⟨h.1, fun x hx => h.2 ⟨x, mem_range.mp hx⟩ (mem_univ _)⟩,
      fun h => ⟨h.1, fun x _ => h.2 x.val (mem_range.mpr x.isLt)⟩⟩
  have hzero : ∀ j, b * n ≤ j → Ideal.exp (s j - (μ : EReal)) = 0 := fun j hj => by rw [hbot j hj]; rfl
  have hden : den (fun k : Fin (b * n + d) => s k.val) = L n := by
    unfold den ex
    rw [htop, hl, hm, hμ]
    unfold mass
    rw [← sum_range (fun j => Ideal.exp (s j - (μ : EReal))), sum_range_add,
      sum_eq_zero (s := range d) fun x _ => hzero _ (by omega), add_zero]
  obtain ⟨e, hS, he, -, hden'⟩ := real_row (fun k : Fin (b * n + d) => s k.val) (fun k => hs _)
    ⟨⟨0, by have := Nat.mul_pos hb hn; omega⟩, h0⟩
  have hA : A n = ((∑ k, e k * v k.val : ℝ) : EReal) := by
    have h1 : A n = ∑ k : Fin (b * n + d), ex (fun k : Fin (b * n + d) => s k.val) k * (v k.val : EReal) := by
      unfold ex
      rw [htop, ha, hm, hμ]
      unfold weighted
      rw [← sum_range (fun j => Ideal.exp (s j - (μ : EReal)) * (v j : EReal)), sum_range_add,
        sum_eq_zero (s := range d) fun x _ => by rw [hzero _ (by omega), zero_mul], add_zero]
    rw [h1, coe_sum]
    exact sum_congr rfl fun k _ => by rw [he, EReal.coe_mul]
  rw [← hden, hden', hA, Ideal.div_coe hS.ne', ← EReal.coe_mul]
  have hp : ∀ k, prob (fun k : Fin (b * n + d) => s k.val) k * (v k.val : EReal)
      = ((e k * (1 / ∑ k, e k) * v k.val : ℝ) : EReal) := fun k => by
    unfold prob
    rw [hden', Ideal.div_coe hS.ne', he, ← EReal.coe_mul, ← EReal.coe_mul]
  simp only [hp, ← coe_sum]
  congr 1
  rw [sum_mul]
  exact sum_congr rfl fun k _ => by ring

end Cert.Online
-- ==== Proof.MlaFwd.Math.lean ====
/- The latent attention, entry by entry, over the extended reals: the values weighted by the probabilities. -/
module

public import proofs.«01_k».proof.Proof.Mla.Math
public import proofs.«01_k».proof.Proof.Common.Online

@[expose] public noncomputable section

namespace Cert.Mla

open Idealize.ShloMosaic Cert.Softmax

variable (Q : (⟨2, ![2176, 3072]⟩ : Shape).Idx → EReal) (K : (⟨2, ![2176, 2048]⟩ : Shape).Idx → EReal)
  (P S T : (⟨2, ![2176, 128]⟩ : Shape).Idx → EReal)

/-- Column `d` of head `h` of the result for query `q`. -/
def out (h : Fin 8) (q : Fin 2176) (d : Fin 128) : EReal :=
  ∑ k : Fin 2176, prob (scores Q K P S T h q) k * K (ix2 k (kcol 1 h d))

end Cert.Mla
-- ==== Proof.MlaFwd.Payload.lean ====
/- What one trip of the loop of the latent attention's forward call computes, at an index, in the terms of the arrays
   the kernel is given. -/
module

public import proofs.«01_k».proof.Proof.MlaFwd.Point
public import proofs.«01_k».proof.Proof.MlaFwd.Blocks
public import proofs.«01_k».proof.Proof.MlaFwd.Math
public import proofs.«01_k».proof.Proof.Common.Mask
public import Idealize.ShloMosaic.Lib.Pointwise

@[expose] public noncomputable section

set_option maxRecDepth 16384

namespace Cert.Kernel14Ideal.MlaFwd

open Cert.Kernel14Ideal Cert.Kernel14Ideal.Gen Idealize.ShloMosaic Idealize.ShloMosaic.TcCoe Idealize.SL.Sem Cert.Mla
  Cert.Softmax

variable (m : (ℓ : Loc nD τ sig) → Buf (Elt Ideal) ℓ) (c : Dev nD)

/-- The arrays the kernel is given. -/
abbrev Q : Buf (Elt Ideal) ((c : Thread nD τ).loc main_arg0) := m ((c : Thread nD τ).loc main_arg0)
abbrev K : Buf (Elt Ideal) ((c : Thread nD τ).loc main_arg1) := m ((c : Thread nD τ).loc main_arg1)
abbrev P : Buf (Elt Ideal) ((c : Thread nD τ).loc main_arg2) := m ((c : Thread nD τ).loc main_arg2)
abbrev S : Buf (Elt Ideal) ((c : Thread nD τ).loc main_arg3) := m ((c : Thread nD τ).loc main_arg3)
abbrev T : Buf (Elt Ideal) ((c : Thread nD τ).loc main_arg4) := m ((c : Thread nD τ).loc main_arg4)

theorem neg_inf : Ideal.ofBits FTy.f32 4286578688#32 = (⊥ : EReal) := by simp [Ideal.ofBits, Ideal.ieee]

theorem mask_bot : Named.named (F := Ideal) κ "mask" (φ := .f32) 4048155338#32 = (⊥ : EReal) :=
  IdealRules.named_const.ideal_named_scalar _ _ _ _ rfl

theorem coords1 : ∀ t : Fin grid0.N, ((grid0.coords t) 1).val = t.val % 8 := by decide +kernel

/-- The parts of the block of queries. -/
theorem qn_apply (t : Fin cfg0.N) (r : Fin 272) (d : Fin 128) :
    @Eq EReal (k0_pay1 (iblk m c 0 t : Vec Ideal S272x384 .f32) (ix2 r d)) (Q m c (ix2 (row t r) (qcol 0 (head t) d))) := by
  refine Eq.trans ?_ (blk0 m c t r 0 d)
  unfold k0_pay1
  pointwise
theorem qp_apply (t : Fin cfg0.N) (r : Fin 272) (d : Fin 128) :
    @Eq EReal (k0_pay2 (iblk m c 0 t : Vec Ideal S272x384 .f32) (iblk m c 3 t) (iblk m c 4 t) (ix2 r d))
      (qp (Q m c) (S m c) (T m c) (head t) (row t r) d) := by
  have e1 := blk0 m c t r 1 d
  have e2 := blk0 m c t r 2 d
  have e3 := blk3 m c t r d
  have e4 := blk4 m c t r d
  unfold qp Q S T
  rw [← e1, ← e2, ← e3, ← e4]
  unfold k0_pay2
  pointwise

/-- Row `j` of key block `k`. -/
abbrev key (t : Fin cfg0.N) (k : Fin (k0_t1_loop (grid0.coords t)).trips) (j : Fin 272) : Fin 2176 :=
  ⟨272 * k.val + j.val, by have := k.isLt; have := j.isLt; have := trips1 t; omega⟩

/-- The blocks a trip reads. -/
theorem kv_apply (t : Fin cfg0.N) (k : Fin (k0_t1_loop (grid0.coords t)).trips) (j : Fin 272) (p : Fin 2) (d : Fin 128) :
    @Eq EReal (kvBlock (F := Ideal) m c t k (ix2 j ⟨128 * p.val + d.val, by have := p.isLt; have := d.isLt; omega⟩))
      (K m c (ix2 (key t k j) (kcol p (head t) d))) := by
  refine Eq.trans ?_ (blk1 m c t (key t k j) p d)
  refine congrArg (iblk m c 1 t : Vec Ideal S2176x256 .f32) ?_
  have e := k0_off1_eq (grid0.coords t) k
  funext a
  apply Fin.ext
  match a with
  | ⟨0, _⟩ =>
    show k0_off1 (grid0.coords t) k 0 + 1 * j.val = 272 * k.val + j.val
    rw [e]; show 272 * k.val + 1 * j.val = _; omega
  | ⟨1, _⟩ =>
    show k0_off1 (grid0.coords t) k 1 + 1 * (128 * p.val + d.val) = 128 * p.val + d.val
    rw [e]; show 0 + 1 * (128 * p.val + d.val) = _; omega
theorem kp_apply (t : Fin cfg0.N) (k : Fin (k0_t1_loop (grid0.coords t)).trips) (j : Fin 272) (d : Fin 128) :
    @Eq EReal (kpBlock (F := Ideal) m c t k (ix2 j d)) (P m c (ix2 (key t k j) d)) := by
  refine Eq.trans ?_ (blk2 m c t (key t k j) d)
  refine congrArg (iblk m c 2 t : Vec Ideal S2176x128 .f32) ?_
  have e := k0_off2_eq (grid0.coords t) k
  funext a
  apply Fin.ext
  match a with
  | ⟨0, _⟩ =>
    show k0_off2 (grid0.coords t) k 0 + 1 * j.val = 272 * k.val + j.val
    rw [e]; show 272 * k.val + 1 * j.val = _; omega
  | ⟨1, _⟩ =>
    show k0_off2 (grid0.coords t) k 1 + 1 * d.val = d.val
    rw [e]; show 0 + 1 * d.val = _; omega

/-- The masked scores a trip computes from its blocks. -/
theorem block_scores (i : grid0.Coords) (a : Vec Ideal S272x384 .f32) (x y : Vec Ideal S272x128 .f32)
    (k : Fin (k0_t1_loop i).trips) (b : Vec Ideal S272x256 .f32) (p : Vec Ideal S272x128 .f32) (r j : Fin 272) (n : ℕ)
    (hn : (i 1).val = n) (hn8 : n < 8) (hk : k.val < 8) :
    k0_pay7 i a x y k b p (ix2 r j) = if 272 * k.val + j.val ≤ 272 * n + r.val then
      ((∑ d : Fin 128, k0_pay1 a (ix2 r d) * b (ix2 j ⟨d.val, by have := d.isLt; omega⟩))
        + ∑ d : Fin 128, k0_pay2 a x y (ix2 r d) * p (ix2 j d)) * scale else ⊥ := by
  have hiv : Scf.iv 0#32 1#32 k.val = BitVec.ofNat 32 k.val := by simp [Scf.iv]
  unfold k0_pay7 k0_pay3
  generalize k0_pay1 a = a0
  generalize k0_pay2 a x y = a1
  pointwise [dot_S272x128_S272x128_S272x272_1_1_0_0_n_n]
  rw [hiv, Mask.select_sle _ _ (272 * k.val + j.val) (272 * n + r.val) (by omega) (by omega) (Mask.row_word _ 272 _)
      ((Mask.row_word _ 272 _).trans (by rw [hn])), mask_bot]
  rfl

/-- The scores of a query, as a sequence that is `⊥` past the last key. -/
def seq (t : Fin cfg0.N) (r : Fin 272) (j : ℕ) : EReal :=
  if h : j < 2176 then scores (Q m c) (K m c) (P m c) (S m c) (T m c) (head t) (row t r) ⟨j, h⟩ else ⊥

theorem seq_fin (t : Fin cfg0.N) (r : Fin 272) :
    (fun k : Fin 2176 => seq m c t r k.val) = scores (Q m c) (K m c) (P m c) (S m c) (T m c) (head t) (row t r) :=
  funext fun k => dif_pos k.isLt

/-- The scores a trip computes. -/
theorem trip_scores (t : Fin cfg0.N) (k : Fin (k0_t1_loop (grid0.coords t)).trips) (r j : Fin 272) :
    k0_pay7 (grid0.coords t) (iblk m c 0 t) (iblk m c 3 t) (iblk m c 4 t) k (kvBlock m c t k) (kpBlock m c t k) (ix2 r j)
      = seq m c t r (272 * k.val + j.val) := by
  have ht := lt64 t
  have hk := k.isLt
  have hj := j.isLt
  have h1 := trips1 t
  rw [block_scores _ _ _ _ k _ _ r j (t.val % 8) (coords1 t) (by omega) (by omega)]
  unfold seq scores score
  rw [dif_pos (by omega)]
  have e0 := kv_apply m c t k j 0
  simp only [Fin.val_zero, mul_zero, zero_add] at e0
  simp only [qn_apply, qp_apply, kp_apply, e0]

variable (i : grid0.Coords) (a : Vec Ideal S272x384 .f32) (x y : Vec Ideal S272x128 .f32)
  (k : Fin (k0_t1_loop i).trips) (b : Vec Ideal S272x256 .f32) (p : Vec Ideal S272x128 .f32) (r : Fin 272)
  (M L : Vec Ideal S272x1 .f32) (A : Vec Ideal S272x128 .f32)

/-- A trip's largest score. -/
theorem max_step : @Eq EReal (k0_pay8 i a x y k M b p (ix2 r 0))
    (max (M (ix2 r 0)) (Finset.univ.fold max (⊥ : EReal) fun j : Fin 272 => k0_pay7 i a x y k b p (ix2 r j))) := by
  unfold k0_pay8
  generalize k0_pay7 i a x y k b p = s
  pointwise
  rw [neg_inf]

theorem exp_apply (j : Fin 272) : @Eq EReal (k0_pay9 i a x y k M b p (ix2 r j))
    (Ideal.exp (k0_pay7 i a x y k b p (ix2 r j) - k0_pay8 i a x y k M b p (ix2 r 0))) := by
  unfold k0_pay9
  generalize k0_pay7 i a x y k b p = s
  generalize k0_pay8 i a x y k M b p = z
  pointwise

theorem fade_apply : @Eq EReal (k0_pay10 i a x y k M b p (ix2 r 0))
    (Ideal.exp (M (ix2 r 0) - k0_pay8 i a x y k M b p (ix2 r 0))) := by
  unfold k0_pay10
  generalize k0_pay8 i a x y k M b p = z
  pointwise

/-- A trip's sum. -/
theorem sum_step : @Eq EReal (k0_pay11 i a x y k M L b p (ix2 r 0))
    (Ideal.exp (M (ix2 r 0) - k0_pay8 i a x y k M b p (ix2 r 0)) * L (ix2 r 0)
      + ∑ j : Fin 272, Ideal.exp (k0_pay7 i a x y k b p (ix2 r j) - k0_pay8 i a x y k M b p (ix2 r 0))) := by
  have e := exp_apply i a x y k b p r M
  have e' := fade_apply i a x y k b p r M
  unfold k0_pay11
  generalize k0_pay9 i a x y k M b p = s at e ⊢
  generalize k0_pay10 i a x y k M b p = z at e' ⊢
  pointwise
  simp only [e, e']

/-- A trip's weighted values. -/
theorem acc_step (d : Fin 128) : @Eq EReal (k0_pay12 i a x y k M A b p (ix2 r d))
    (Ideal.exp (M (ix2 r 0) - k0_pay8 i a x y k M b p (ix2 r 0)) * A (ix2 r d)
      + ∑ j : Fin 272, Ideal.exp (k0_pay7 i a x y k b p (ix2 r j) - k0_pay8 i a x y k M b p (ix2 r 0))
          * b (ix2 j ⟨128 + d.val, by have := d.isLt; omega⟩)) := by
  have e := exp_apply i a x y k b p r M
  have e' := fade_apply i a x y k b p r M
  unfold k0_pay12
  generalize k0_pay9 i a x y k M b p = s at e ⊢
  generalize k0_pay10 i a x y k M b p = z at e' ⊢
  pointwise [dot_S272x272_S272x128_S272x128_1_0_0_1_n_n]
  simp only [e, e']

theorem start_max : @Eq EReal (k0_pay4 (F := Ideal) (ix2 r 0)) ⊥ := by
  unfold k0_pay4
  pointwise
  exact neg_inf
theorem start_sum : @Eq EReal (k0_pay5 (F := Ideal) (ix2 r 0)) 0 := by
  unfold k0_pay5
  pointwise
theorem start_acc (d : Fin 128) : @Eq EReal (k0_pay6 (F := Ideal) (ix2 r d)) 0 := by
  unfold k0_pay6
  pointwise

/-- The quotient the point leaves. -/
theorem quot_apply (d : Fin 128) : @Eq EReal (k0_pay19 (F := Ideal) L A (ix2 r d)) (Ideal.div (A (ix2 r d)) (L (ix2 r 0))) := by
  unfold k0_pay19
  pointwise

end Cert.Kernel14Ideal.MlaFwd
-- ==== Proof.MlaFwd.Array.lean ====
/- The result of the latent attention's forward call. A point's loop goes through the blocks of keys and carries the
   largest score so far; the quotient it ends with is the sum of the values weighted by the probabilities. -/
module

public import proofs.«01_k».proof.Proof.Common.Idx
public import proofs.«01_k».proof.Proof.MlaFwd.Payload

@[expose] public noncomputable section

set_option maxRecDepth 16384

namespace Cert.Kernel14Ideal.MlaFwd

open Cert.Kernel14Ideal Cert.Kernel14Ideal.Gen Idealize.ShloMosaic Idealize.ShloMosaic.TcCoe Idealize.SL.Sem Cert.Mla Cert.Idx
  Cert.Softmax

variable (m : (ℓ : Loc nD τ sig) → Buf (Elt Ideal) ℓ) (c : Dev nD)
  (hQ : ∀ i, ∃ r : ℝ, @Eq EReal (Q m c i) r) (hK : ∀ i, ∃ r : ℝ, @Eq EReal (K m c i) r)
  (hP : ∀ i, ∃ r : ℝ, @Eq EReal (P m c i) r) (hS : ∀ i, ∃ r : ℝ, @Eq EReal (S m c i) r)
  (hT : ∀ i, ∃ r : ℝ, @Eq EReal (T m c i) r)

include hQ hK hP hS hT

theorem seq_ne_top (t : Fin cfg0.N) (r : Fin 272) (j : ℕ) : seq m c t r j ≠ ⊤ := by
  unfold seq
  split
  · exact scores_ne_top _ _ _ _ _ hQ hK hP hS hT _ _ _
  · exact bot_ne_top

theorem seq_zero (t : Fin cfg0.N) (r : Fin 272) : seq m c t r 0 ≠ ⊥ := by
  obtain ⟨x, hx⟩ := score_num _ _ _ _ _ hQ hK hP hS hT (head t) (row t r) ⟨0, by omega⟩
  unfold seq scores
  rw [dif_pos (by omega), if_pos (Nat.zero_le _), hx]
  exact EReal.coe_ne_bot x

/-- The quotient a point leaves. -/
theorem point (t : Fin cfg0.N) (r : Fin 272) (d : Fin 128) :
    @Eq EReal (k0_pay19 (F := Ideal) (carry m c t (t.val % 8 + 1)).2.1 (carry m c t (t.val % 8 + 1)).2.2 (ix2 r d))
      (out (Q m c) (K m c) (P m c) (S m c) (T m c) (head t) (row t r) d) := by
  have ht := lt64 t
  have h1 := trips1 t
  choose w hw using fun k : Fin 2176 => hK (ix2 k (kcol 1 (head t) d))
  let v : ℕ → ℝ := fun j => if h : j < 2176 then w ⟨j, h⟩ else 0
  have hv : ∀ k : Fin 2176, v k.val = w k := fun k => dif_pos k.isLt
  rw [quot_apply]
  refine (Online.quotient (seq m c t r) (seq_ne_top m c hQ hK hP hS hT t r) (seq_zero m c hQ hK hP hS hT t r) v 272
    (t.val % 8 + 1) (by omega) (fun k => (carry m c t k).1 (ix2 r 0)) (fun k => (carry m c t k).2.1 (ix2 r 0))
    (fun k => (carry m c t k).2.2 (ix2 r d)) (start_max r) (start_sum r) (start_acc r d) ?_ ?_ ?_ 2176 (by omega)
    (by omega) ?_).trans ?_
  · intro k hk
    have e := carry_succ m c t ⟨k, by omega⟩
    have e' := max_step (grid0.coords t) (iblk m c 0 t) (iblk m c 3 t) (iblk m c 4 t) ⟨k, by omega⟩
      (kvBlock m c t ⟨k, by omega⟩) (kpBlock m c t ⟨k, by omega⟩) r (carry m c t k).1
    simp only [trip_scores] at e'
    dsimp only at e ⊢
    rw [e]
    exact e'
  · intro k hk
    have e := carry_succ m c t ⟨k, by omega⟩
    have e' := sum_step (grid0.coords t) (iblk m c 0 t) (iblk m c 3 t) (iblk m c 4 t) ⟨k, by omega⟩
      (kvBlock m c t ⟨k, by omega⟩) (kpBlock m c t ⟨k, by omega⟩) r (carry m c t k).1 (carry m c t k).2.1
    simp only [trip_scores] at e'
    dsimp only at e ⊢
    rw [e]
    exact e'
  · intro k hk
    have e := carry_succ m c t ⟨k, by omega⟩
    have e' := acc_step (grid0.coords t) (iblk m c 0 t) (iblk m c 3 t) (iblk m c 4 t) ⟨k, by omega⟩
      (kvBlock m c t ⟨k, by omega⟩) (kpBlock m c t ⟨k, by omega⟩) r (carry m c t k).1 (carry m c t k).2.2 d
    have e'' : ∀ j : Fin 272, @Eq EReal (kvBlock (F := Ideal) m c t ⟨k, by omega⟩ (ix2 j ⟨128 + d.val, by omega⟩))
        (v (272 * k + j.val)) := fun j => by
      rw [hv (key t ⟨k, by omega⟩ j), ← hw]
      exact kv_apply m c t ⟨k, by omega⟩ j 1 d
    simp only [trip_scores, e''] at e'
    dsimp only at e ⊢
    rw [e]
    exact e'
  · intro j hj
    unfold seq scores
    split
    · exact if_neg (by show ¬j ≤ 272 * (t.val % 8) + r.val; omega)
    · rfl
  · rw [seq_fin]
    unfold out
    exact Finset.sum_congr rfl fun k _ => by rw [hv, ← hw]

omit hQ hK hP hS hT

/-- The head and the dimension a column of the result belongs to. -/
abbrev colHead (e : Fin 1024) : Fin 8 := ⟨e.val / 128, by omega⟩
abbrev colDim (e : Fin 1024) : Fin 128 := ⟨e.val % 128, Nat.mod_lt _ (by omega)⟩

def arr : Buf (Elt Ideal) ((c : Thread nD τ).loc main_v0) := fun i : S2176x1024.Idx =>
  out (Q m c) (K m c) (P m c) (S m c) (T m c) (colHead (i 1)) (i 0) (colDim (i 1))

include hQ hK hP hS hT

theorem flushed (t : Fin cfg0.N) (hf : (cfg0.win 5).flush t = true) :
    (dats m 0 c).flushed 5 t = ((cfg0.win 5).blk t).view.read (Elt Ideal) (arr m c) := by
  obtain ⟨e0, e1⟩ := idx_5 t
  have ht := lt64 t
  rw [Value.flushed5_A, left]
  funext y
  obtain ⟨r, d, rfl⟩ := of2 y
  rw [View.read_apply]
  refine (point m c hQ hK hP hS hT t r d).trans ?_
  rw [show ((cfg0.win 5).blk t).view.emb (ix2 r d) = ix2 (row t r) (hcol (head t) d) from
      ext2 (by show win0_5.index t 0 * 272 + 1 * r.val = 272 * (t.val % 8) + r.val; omega)
        (by show win0_5.index t 1 * 128 + 1 * d.val = 128 * (t.val / 8) + d.val; omega)]
  show _ = out (Q m c) (K m c) (P m c) (S m c) (T m c) (colHead (hcol (head t) d)) (row t r) (colDim (hcol (head t) d))
  have hd := d.isLt
  rw [show colHead (hcol (head t) d) = head t from Fin.ext (by show (128 * (t.val / 8) + d.val) / 128 = t.val / 8; omega),
    show colDim (hcol (head t) d) = d from Fin.ext (by show (128 * (t.val / 8) + d.val) % 128 = d.val; omega)]

theorem final : (dats m 0 c).arrAt 5 cfg0.N = arr m c :=
  (dats m 0 c).arrAt_eq_of_cover 5 (arr m c) (flushed m c hQ hK hP hS hT) fun i : S2176x1024.Idx => by
    obtain ⟨h0, h1⟩ := below2 i
    obtain ⟨t, ht⟩ : ∃ t : Fin cfg0.N, t.val = 8 * ((i 1).val / 128) + (i 0).val / 272 := ⟨⟨_, by rw [show cfg0.N = 64 from N_0]; omega⟩, rfl⟩
    obtain ⟨e0, e1⟩ := idx_5 t
    refine ⟨t, flush0_5 t, ?_⟩
    show i ∈ ((View.whole main_v0).slice (win0_5.rect t)).set
    rw [View.set_slice_whole, Rect.mem_set_unit]
    intro a
    match a with
    | ⟨0, _⟩ =>
      show win0_5.index t 0 * 272 ≤ (i 0).val ∧ (i 0).val < win0_5.index t 0 * 272 + 272
      omega
    | ⟨1, _⟩ =>
      show win0_5.index t 1 * 128 ≤ (i 1).val ∧ (i 1).val < win0_5.index t 1 * 128 + 128
      omega

end Cert.Kernel14Ideal.MlaFwd
-- ==== Proof.MlaFwd.Reference.lean ====
/- The result of the reference of the latent attention, entry by entry. -/
module

public import proofs.«01_k».proof.Proof.Gen.Reference14Ideal.Read
public import proofs.«01_k».proof.Proof.MlaFwd.Math
public import proofs.«01_k».proof.Proof.Common.Index
public import proofs.«01_k».proof.Proof.Common.Mask
public import Idealize.ShloMosaic.Lib.Pointwise

@[expose] public noncomputable section

set_option maxRecDepth 16384

namespace Cert.Reference14Ideal.MlaFwd

open Cert.Reference14Ideal Cert.Reference14Ideal.Gen Cert.Reference14Ideal.Read Idealize.ShloMosaic Cert.Mla Cert.Softmax
open Cert.Index (ext2 ext3)

variable (Q : (⟨S2176x3072, .f32⟩ : BufTy).Contents (Elt Ideal)) (K : (⟨S2176x2048, .f32⟩ : BufTy).Contents (Elt Ideal))
  (P S T : (⟨S2176x128, .f32⟩ : BufTy).Contents (Elt Ideal))

theorem neg_inf : Ideal.ofBits FTy.f32 4286578688#32 = (⊥ : EReal) := by simp [Ideal.ofBits, Ideal.ieee]
theorem zero : Ideal.ofBits FTy.f32 0x00000000#32 = (0 : EReal) := by simp [Ideal.ofBits, Ideal.ieee]

theorem ext4 {n0 n1 n2 n3 : ℕ} (i : (⟨4, ![n0, n1, n2, n3]⟩ : Shape).Idx) (a : Fin n0) (b : Fin n1) (c : Fin n2)
    (d : Fin n3) (h0 : (i 0).val = a.val) (h1 : (i 1).val = b.val) (h2 : (i 2).val = c.val) (h3 : (i 3).val = d.val) :
    i = ix4 a b c d := by
  funext x
  apply Fin.ext
  match x with
  | ⟨0, _⟩ => exact h0
  | ⟨1, _⟩ => exact h1
  | ⟨2, _⟩ => exact h2
  | ⟨3, _⟩ => exact h3

/-- The parts of the queries, and of the keys and values, head by head. -/
theorem q_at (q : Fin 2176) (h : Fin 8) (p : Fin 3) (d : Fin 128) :
    val_main_v0 (F := Ideal) Q (ix4 q h p d) = Q (ix2 q (qcol p h d)) := by
  have := h.isLt; have := p.isLt; have := d.isLt
  rw [val_main_v0_apply]
  refine congrArg Q (ext2 _ _ _ ?_ ?_)
  · show (((q.val * 8 + h.val) * 3 + p.val) * 128 + d.val) / 3072 = q.val; omega
  · show (((q.val * 8 + h.val) * 3 + p.val) * 128 + d.val) % 3072 = 384 * h.val + 128 * p.val + d.val; omega
theorem k_at (k : Fin 2176) (h : Fin 8) (p : Fin 2) (d : Fin 128) :
    val_main_v1 (F := Ideal) K (ix4 k h p d) = K (ix2 k (kcol p h d)) := by
  have := h.isLt; have := p.isLt; have := d.isLt
  rw [val_main_v1_apply]
  refine congrArg K (ext2 _ _ _ ?_ ?_)
  · show (((k.val * 8 + h.val) * 2 + p.val) * 128 + d.val) / 2048 = k.val; omega
  · show (((k.val * 8 + h.val) * 2 + p.val) * 128 + d.val) % 2048 = 256 * h.val + 128 * p.val + d.val; omega
theorem qn_at (q : Fin 2176) (h : Fin 8) (d : Fin 128) :
    val_main_v3 (F := Ideal) Q (ix3 q h d) = Q (ix2 q (qcol 0 h d)) := by
  have := h.isLt; have := d.isLt
  rw [val_main_v3_apply, val_main_v2_apply,
    show idx_main_v2 (idx_main_v3 (ix3 q h d)) = ix4 q h 0 d from ext4 _ _ _ _ _
      (by show ((q.val * 8 + h.val) * 128 + d.val) / 1024 = q.val; omega)
      (by show ((q.val * 8 + h.val) * 128 + d.val) / 128 % 8 = h.val; omega) rfl
      (by show ((q.val * 8 + h.val) * 128 + d.val) % 128 = d.val; omega), q_at]
theorem qa_at (q : Fin 2176) (h : Fin 8) (d : Fin 128) :
    val_main_v5 (F := Ideal) Q (ix3 q h d) = Q (ix2 q (qcol 1 h d)) := by
  have := h.isLt; have := d.isLt
  rw [val_main_v5_apply, val_main_v4_apply,
    show idx_main_v4 (idx_main_v5 (ix3 q h d)) = ix4 q h 1 d from ext4 _ _ _ _ _
      (by show ((q.val * 8 + h.val) * 128 + d.val) / 1024 = q.val; omega)
      (by show ((q.val * 8 + h.val) * 128 + d.val) / 128 % 8 = h.val; omega) rfl
      (by show ((q.val * 8 + h.val) * 128 + d.val) % 128 = d.val; omega), q_at]
theorem qb_at (q : Fin 2176) (h : Fin 8) (d : Fin 128) :
    val_main_v10 (F := Ideal) Q (ix3 q h d) = Q (ix2 q (qcol 2 h d)) := by
  have := h.isLt; have := d.isLt
  rw [val_main_v10_apply, val_main_v9_apply,
    show idx_main_v9 (idx_main_v10 (ix3 q h d)) = ix4 q h 2 d from ext4 _ _ _ _ _
      (by show ((q.val * 8 + h.val) * 128 + d.val) / 1024 = q.val; omega)
      (by show ((q.val * 8 + h.val) * 128 + d.val) / 128 % 8 = h.val; omega) rfl
      (by show ((q.val * 8 + h.val) * 128 + d.val) % 128 = d.val; omega), q_at]
theorem kn_at (q : Fin 2176) (h : Fin 8) (d : Fin 128) :
    val_main_v16 (F := Ideal) K (ix3 q h d) = K (ix2 q (kcol 0 h d)) := by
  have := h.isLt; have := d.isLt
  rw [val_main_v16_apply, val_main_v15_apply,
    show idx_main_v15 (idx_main_v16 (ix3 q h d)) = ix4 q h 0 d from ext4 _ _ _ _ _
      (by show ((q.val * 8 + h.val) * 128 + d.val) / 1024 = q.val; omega)
      (by show ((q.val * 8 + h.val) * 128 + d.val) / 128 % 8 = h.val; omega) rfl
      (by show ((q.val * 8 + h.val) * 128 + d.val) % 128 = d.val; omega), k_at]
theorem v_at (q : Fin 2176) (h : Fin 8) (d : Fin 128) :
    val_main_v18 (F := Ideal) K (ix3 q h d) = K (ix2 q (kcol 1 h d)) := by
  have := h.isLt; have := d.isLt
  rw [val_main_v18_apply, val_main_v17_apply,
    show idx_main_v17 (idx_main_v18 (ix3 q h d)) = ix4 q h 1 d from ext4 _ _ _ _ _
      (by show ((q.val * 8 + h.val) * 128 + d.val) / 1024 = q.val; omega)
      (by show ((q.val * 8 + h.val) * 128 + d.val) / 128 % 8 = h.val; omega) rfl
      (by show ((q.val * 8 + h.val) * 128 + d.val) % 128 = d.val; omega), k_at]
theorem qp_at (q : Fin 2176) (h : Fin 8) (d : Fin 128) :
    @Eq EReal (val_main_v14 (F := Ideal) Q S T (ix3 q h d)) (qp Q S T h q d) := by
  rw [val_main_v14_apply, val_main_v8_apply, val_main_v13_apply, qa_at, qb_at, val_main_v7_apply, val_main_v6_apply,
    val_main_v12_apply, val_main_v11_apply, show idx_main_v6 (idx_main_v7 (ix3 q h d)) = ix2 q d from ext2 _ _ _ rfl rfl,
    show idx_main_v11 (idx_main_v12 (ix3 q h d)) = ix2 q d from ext2 _ _ _ rfl rfl]
  rfl

/-- The two halves of the queries and of the keys. -/
abbrev lo (d : Fin 128) : Fin 256 := ⟨d.val, by have := d.isLt; omega⟩
abbrev hi (d : Fin 128) : Fin 256 := ⟨128 + d.val, by have := d.isLt; omega⟩

theorem qlo_at (h : Fin 8) (q : Fin 2176) (d : Fin 128) :
    val_main_v20 (F := Ideal) Q S T (ix3 h q (lo d)) = Q (ix2 q (qcol 0 h d)) := by
  rw [val_main_v20_apply, show idx_main_v20 (ix3 h q (lo d)) = ix3 q h (lo d) from ext3 _ _ _ _ rfl rfl rfl, ← qn_at Q q h d]
  unfold val_main_v19
  generalize val_main_v3 (F := Ideal) Q = y
  generalize val_main_v14 (F := Ideal) Q S T = z
  pointwise
theorem qhi_at (h : Fin 8) (q : Fin 2176) (d : Fin 128) :
    @Eq EReal (val_main_v20 (F := Ideal) Q S T (ix3 h q (hi d))) (qp Q S T h q d) := by
  rw [val_main_v20_apply, show idx_main_v20 (ix3 h q (hi d)) = ix3 q h (hi d) from ext3 _ _ _ _ rfl rfl rfl, ← qp_at Q S T q h d]
  unfold val_main_v19
  generalize val_main_v3 (F := Ideal) Q = y
  generalize val_main_v14 (F := Ideal) Q S T = z
  pointwise
theorem klo_at (h : Fin 8) (k : Fin 2176) (d : Fin 128) :
    val_main_v24 (F := Ideal) K P (ix3 h k (lo d)) = K (ix2 k (kcol 0 h d)) := by
  rw [val_main_v24_apply, show idx_main_v24 (ix3 h k (lo d)) = ix3 k h (lo d) from ext3 _ _ _ _ rfl rfl rfl, ← kn_at K k h d]
  unfold val_main_v23
  generalize val_main_v16 (F := Ideal) K = y
  generalize val_main_v22 (F := Ideal) P = z
  pointwise
theorem khi_at (h : Fin 8) (k : Fin 2176) (d : Fin 128) :
    val_main_v24 (F := Ideal) K P (ix3 h k (hi d)) = P (ix2 k d) := by
  have e : val_main_v22 (F := Ideal) P (ix3 k h d) = P (ix2 k d) := by
    rw [val_main_v22_apply, val_main_v21_apply]
    exact congrArg P (ext2 _ _ _ rfl rfl)
  rw [val_main_v24_apply, show idx_main_v24 (ix3 h k (hi d)) = ix3 k h (hi d) from ext3 _ _ _ _ rfl rfl rfl, ← e]
  unfold val_main_v23
  generalize val_main_v16 (F := Ideal) K = y
  generalize val_main_v22 (F := Ideal) P = z
  pointwise

/-- The comparison of positions chooses by them. -/
theorem select_mask (h : Fin 8) (q k : Fin 2176) (u v : EReal) :
    Scalar.select (val_main_call0_v1 (F := Ideal) (ix3 h q k)) u v = if k.val ≤ q.val then u else v := by
  rw [val_main_call0_v1_apply, val_main_v33_apply, val_main_v31_apply, val_main_v29_apply, val_main_v28_apply,
    val_main_v32_apply, val_main_v30_apply, val_main_v28_apply]
  exact Mask.select_sle _ _ k.val q.val (by omega) (by omega) rfl rfl u v

/-- A sum over both halves of a head's columns. -/
theorem halves (f : Fin 256 → EReal) : ∑ e, f e = (∑ d, f (lo d)) + ∑ d, f (hi d) :=
  Fin.sum_univ_add (a := 128) (b := 128) f

/-- The masked scores. -/
theorem scores_at (h : Fin 8) (q k : Fin 2176) :
    val_main_v34 (F := Ideal) Q K P S T (ix3 h q k) = scores Q K P S T h q k := by
  rw [val_main_v34_apply, select_mask, val_main_v27_apply, val_main_v25_apply, val_main_v26_apply, val_main_cst_apply,
    val_main_call0_v2_apply, val_main_call0_v0_apply, val_main_cst_0_apply, halves]
  unfold scores score scale
  refine congrArg₂ (fun u v : EReal => if k.val ≤ q.val then u else v) ?_ neg_inf
  refine congrArg₂ (fun u v : EReal => u * v) ?_ rfl
  refine congrArg₂ (fun u v : EReal => u + v) (Finset.sum_congr rfl fun d _ => ?_) (Finset.sum_congr rfl fun d _ => ?_)
  · rw [show lidx_main_v25 (ix3 h q k) (lo d) = ix3 h q (lo d) from ext3 _ _ _ _ rfl rfl rfl,
      show ridx_main_v25 (ix3 h q k) (lo d) = ix3 h k (lo d) from ext3 _ _ _ _ rfl rfl rfl, qlo_at, klo_at]
  · rw [show lidx_main_v25 (ix3 h q k) (hi d) = ix3 h q (hi d) from ext3 _ _ _ _ rfl rfl rfl,
      show ridx_main_v25 (ix3 h q k) (hi d) = ix3 h k (hi d) from ext3 _ _ _ _ rfl rfl rfl, qhi_at, khi_at]

/-- The largest score of a row. -/
theorem top_at (h : Fin 8) (q : Fin 2176) : val_main_v37 (F := Ideal) Q K P S T (ix2 h q) = top (scores Q K P S T h q) := by
  rw [val_main_v37_apply, val_main_v36_apply, val_main_cst_2_apply]
  have e : val_main_v35 (F := Ideal) Q K P S T (ix2 h q) = top (scores Q K P S T h q) := by
    unfold val_main_v35
    pointwise
    simp only [scores_at]
    rw [show val_main_cst_1 (F := Ideal) (Shape.Idx.first h_S_) = (⊥ : EReal) from neg_inf]
    rfl
  rw [e]
  show max (Ideal.ofBits FTy.f32 4286578688#32) _ = _
  rw [neg_inf, max_eq_right bot_le]

theorem ex_at (h : Fin 8) (q k : Fin 2176) :
    val_main_v41 (F := Ideal) Q K P S T (ix3 h q k) = ex (scores Q K P S T h q) k := by
  rw [val_main_v41_apply, val_main_v40_apply, scores_at, val_main_v39_apply, val_main_v38_apply,
    show idx_main_v38 (idx_main_v39 (ix3 h q k)) = ix2 h q from ext2 _ _ _ rfl rfl, top_at]
  rfl

theorem prob_at (h : Fin 8) (q k : Fin 2176) :
    val_main_v45 (F := Ideal) Q K P S T (ix3 h q k) = prob (scores Q K P S T h q) k := by
  rw [val_main_v45_apply, ex_at, val_main_v44_apply, val_main_v43_apply,
    show idx_main_v43 (idx_main_v44 (ix3 h q k)) = ix2 h q from ext2 _ _ _ rfl rfl]
  refine congrArg (Ideal.div _) ?_
  rw [val_main_v42_apply]
  unfold den
  refine (congrArg₂ (· + ·) zero (Finset.sum_congr rfl fun k _ => ?_)).trans (zero_add _)
  rw [show idx_main_v42 (ix2 h q) k = ix3 h q k from ext3 _ _ _ _ rfl rfl rfl, ex_at]

/-- The result. -/
theorem out_at (q : Fin 2176) (h : Fin 8) (d : Fin 128) :
    @Eq EReal (val_main_v50 (F := Ideal) Q K P S T (ix2 q (hcol h d))) (out Q K P S T h q d) := by
  have := h.isLt; have := d.isLt
  show val_main_v49 (F := Ideal) Q K P S T (ix2 q (hcol h d)) = _
  rw [val_main_v49_apply, val_main_v48_apply,
    show idx_main_v48 (idx_main_v49 (ix2 q (hcol h d))) = ix3 h q d from ext3 _ _ _ _
      (by show (q.val * 1024 + (128 * h.val + d.val)) / 128 % 8 = h.val; omega)
      (by show (q.val * 1024 + (128 * h.val + d.val)) / 1024 = q.val; omega)
      (by show (q.val * 1024 + (128 * h.val + d.val)) % 128 = d.val; omega), val_main_v47_apply]
  unfold out
  refine Finset.sum_congr rfl fun k _ => ?_
  rw [show lidx_main_v47 (ix3 h q d) k = ix3 h q k from ext3 _ _ _ _ rfl rfl rfl,
    show ridx_main_v47 (ix3 h q d) k = ix3 h k d from ext3 _ _ _ _ rfl rfl rfl, prob_at, val_main_v46_apply,
    show idx_main_v46 (ix3 h k d) = ix3 k h d from ext3 _ _ _ _ rfl rfl rfl, v_at]

end Cert.Reference14Ideal.MlaFwd
-- ==== Proof.MlaFwd.Claims.lean ====
/- The claims about the latent attention's forward call. -/
module

public import proofs.«01_k».proof.Defs
public import proofs.«01_k».proof.Proof.Gen.Kernel14.Frame
public import proofs.«01_k».proof.Proof.Gen.Kernel14Ideal.Frame
public import proofs.«01_k».proof.Proof.Gen.Reference14Ideal.Run
public import proofs.«01_k».proof.Proof.MlaFwd.Array
public import proofs.«01_k».proof.Proof.MlaFwd.Reference
public import proofs.«01_k».proof.Proof.Common.Finite

@[expose] public noncomputable section

set_option maxRecDepth 16384

namespace Cert.Proof.MlaFwd

open Idealize.ShloMosaic Idealize.ShloMosaic.TcCoe Idealize.SL.Sem Cert.Kernel14Ideal.MlaFwd Cert.Idx

theorem frame_p : Cert.quiescent_Kernel14 := fun m ρ _ => Cert.Kernel14.Gen.frame m ρ
theorem frame_pi : Cert.quiescent_Kernel14Ideal := fun m ρ _ => Cert.Kernel14Ideal.Gen.frame m ρ
theorem frame_ri : Cert.quiescent_Reference14Ideal := fun m ρ _ =>
  (θ_run Cert.Reference14Ideal.defs _ _).mono (fun r h => ⟨fun c => (h c).2, sem_eq_zero_of_no_sems (by decide) r.2⟩)
    (Cert.Reference14Ideal.Value.run (F := Ideal) m ρ)

/-- The program's table gives the mask the value `⊥`. -/
theorem preserves : Cert.preserves_Kernel14_Kernel14Ideal :=
  IdealRules.named_const.statement Cert.Kernel14Ideal.κ "mask" .f32 0xF149F2CA#32 ⊥ rfl

instance pre_facts : Cert.Pre_finite_latent_forward.Facts := ⟨by decide, by decide, by decide⟩

theorem frame_pi_pre : Cert.quiescent_Kernel14Ideal_pre_finite_latent_forward :=
  fun m ρ _ => Cert.Kernel14Ideal.Gen.frame m ρ
theorem frame_ri_pre : Cert.quiescent_Reference14Ideal_pre_finite_latent_forward := fun m ρ _ => frame_ri m ρ trivial

/-- The precondition says that the arguments' entries are numbers. -/
theorem nums (m : (ℓ : Loc Cert.Kernel14Ideal.nD Cert.Kernel14Ideal.τ Cert.Kernel14Ideal.sig) → Buf (Elt Ideal) ℓ)
    (h : Cert.Pre_Kernel14Ideal_finite_latent_forward m) (c : Dev Cert.Kernel14Ideal.nD) :
    (∀ i, ∃ r : ℝ, @Eq EReal (Q m c i) r) ∧ (∀ i, ∃ r : ℝ, @Eq EReal (K m c i) r) ∧ (∀ i, ∃ r : ℝ, @Eq EReal (P m c i) r)
      ∧ (∀ i, ∃ r : ℝ, @Eq EReal (S m c i) r) ∧ (∀ i, ∃ r : ℝ, @Eq EReal (T m c i) r) :=
  ⟨Finite.num _ _ _ (h c).1, Finite.num _ _ _ (h c).2.1, Finite.num _ _ _ (h c).2.2.1, Finite.num _ _ _ (h c).2.2.2.1,
    Finite.num _ _ _ (h c).2.2.2.2⟩

/-- The kernel and the reference compute the same array. -/
theorem algebraic : Cert.algebraic_Kernel14Ideal_Reference14Ideal_pre_finite_latent_forward := by
  intro m ρ m' ρ' hpre hagree
  refine ⟨fun c => arr m c, ?_, ?_⟩
  · refine (θ_run Cert.Kernel14Ideal.defs _ _).mono (fun r h c => ?_) (Cert.Kernel14Ideal.Value.run_blocks (F := Ideal) m ρ)
    obtain ⟨hQ, hK, hP, hS, hT⟩ := nums m hpre c
    obtain ⟨h0, hk⟩ := h c
    exact ⟨h0.trans (final m c hQ hK hP hS hT), hk⟩
  · refine (θ_run Cert.Reference14Ideal.defs _ _).mono (fun r h c => ?_) (Cert.Reference14Ideal.Value.run (F := Ideal) m' ρ')
    obtain ⟨h0, hk⟩ := h c
    obtain ⟨a0, a1, a2, a3, a4⟩ := hagree c
    rw [Cert.Reference14Ideal.Read.val_main_v50_eq, a0, a1, a2, a3, a4] at h0
    refine ⟨h0.trans ?_, hk⟩
    funext i
    obtain ⟨q, e, rfl⟩ := of2 (a := 2176) (b := 1024) i
    have he : e = Cert.Mla.hcol (colHead e) (colDim e) := Fin.ext (by show e.val = 128 * (e.val / 128) + e.val % 128; omega)
    refine Eq.trans ?_ (Cert.Reference14Ideal.MlaFwd.out_at _ _ _ _ _ q (colHead e) (colDim e))
    rw [← he]

end Cert.Proof.MlaFwd
-- ==== Proof.Norm.Math.lean ====
/- Root-mean-square normalisation of a row and its gradients, as formulas over extended reals. -/
module

public import Idealize.ShloMosaic.PureOps.Ideal
public import Idealize.ShloMosaic.Lib.Pointwise
public import Mathlib.Algebra.BigOperators.Fin
public import Mathlib.Tactic.Abel

@[expose] public noncomputable section

namespace Cert.Norm

open Idealize.ShloMosaic

variable {n : ℕ}

/-- The number of a row's entries, as the programs write it: 2048 or 512. -/
abbrev d2048 : EReal := Ideal.ofBits .f32 0x45000000#32
abbrev d512 : EReal := Ideal.ofBits .f32 0x44000000#32

/-- The mean of a row's squares and the small constant added to it. -/
def ms (d : EReal) (x : Fin n → EReal) : EReal := Ideal.div (∑ k, x k * x k) d + Ideal.ofBits .f32 0x358637BD#32

/-- The reciprocal root of it. -/
def inv (d : EReal) (x : Fin n → EReal) : EReal := Ideal.rsqrt (ms d x)

/-- A normalised row with its gains. -/
def norm (d : EReal) (x g : Fin n → EReal) (s : Fin n) : EReal := x s * inv d x * g s

/-- What every entry of the row contributes through the mean: `w` is the gradient times the gains. -/
def slope (d : EReal) (x w : Fin n → EReal) : EReal :=
  Ideal.div ((∑ k, x k * w k) * (Ideal.ofBits .f32 0xBF000000#32 * Ideal.div (inv d x) (ms d x))) d

/-- The gradient of a row. -/
def grad (d : EReal) (x w : Fin n → EReal) (s : Fin n) : EReal := w s * inv d x + x s * slope d x w + slope d x w * x s

/-- A row's part of the gradient of the gains. -/
def gain (d : EReal) (x y : Fin n → EReal) (s : Fin n) : EReal := x s * inv d x * y s

/-! ## The same of the rows of an array of 2176 rows -/

abbrev Mat (W : ℕ) : Type := (⟨2, ![2176, W]⟩ : Shape).Idx → EReal
abbrev Gains (W : ℕ) : Type := (⟨1, ![W]⟩ : Shape).Idx → EReal

variable {W : ℕ}

def rowNorm (d : EReal) (X : Mat W) (g : Gains W) (i : Fin 2176) (s : Fin W) : EReal :=
  norm d (fun k => X (ix2 i k)) (fun k => g (ix1 k)) s
def rowGrad (d : EReal) (X Y : Mat W) (g : Gains W) (i : Fin 2176) (s : Fin W) : EReal :=
  grad d (fun k => X (ix2 i k)) (fun k => Y (ix2 i k) * g (ix1 k)) s
def rowGain (d : EReal) (X Y : Mat W) (i : Fin 2176) (s : Fin W) : EReal :=
  gain d (fun k => X (ix2 i k)) (fun k => Y (ix2 i k)) s

/-- An array plus the normalised rows of another. -/
def resid (H M : Mat 2048) (g : Gains 2048) : Mat 2048 := fun i => H i + rowNorm d2048 M g (i 0) (i 1)

/-- An array plus the gradient of another's rows. -/
def plusGrad (Z X Y : Mat 2048) (g : Gains 2048) : Mat 2048 := fun i => Z i + rowGrad d2048 X Y g (i 0) (i 1)

/-- The gradient that reaches the mixers' result: the one that comes past the second normalisation plus its own. -/
abbrev total (H M : Mat 2048) (g k : Gains 2048) (D Y : Mat 2048) : Mat 2048 := plusGrad D (resid H M g) Y k

/-- An array's entries, the product of two arrays' entries, and the sum of two such products. -/
abbrev entry (X : Mat W) (i : Fin 2176) (s : Fin W) : EReal := X (ix2 i s)
def times (X Y : Mat W) (i : Fin 2176) (s : Fin W) : EReal := X (ix2 i s) * Y (ix2 i s)
def rotate (X Y C S : Mat W) (i : Fin 2176) (s : Fin W) : EReal := X (ix2 i s) * C (ix2 i s) + Y (ix2 i s) * S (ix2 i s)

/-- Columns of an array, and the block of 128 rows from row `128 * n` on. -/
abbrev col {wd : ℕ} (W off : ℕ) (h : off + wd ≤ W) (s : Fin wd) : Fin W := ⟨off + s.val, by have := s.isLt; omega⟩
abbrev row (n : Fin 17) (r : Fin 128) : Fin 2176 := ⟨128 * n.val + r.val, by have := n.isLt; omega⟩
def cols {wd : ℕ} (off : ℕ) (h : off + wd ≤ W) (X : Mat W) : Mat wd := fun i => X (ix2 (i 0) (col W off h (i 1)))
def rows (X : Mat W) (n : Fin 17) : (⟨2, ![128, W]⟩ : Shape).Idx → EReal := fun i => X (ix2 (row n (i 0)) (i 1))
def gains (g : Gains W) : (⟨2, ![1, W]⟩ : Shape).Idx → EReal := fun i => g (ix1 (i 1))

theorem rows_apply (X : Mat W) (n : Fin 17) (r : Fin 128) (s : Fin W) : rows X n (ix2 r s) = X (ix2 (row n r) s) := rfl
theorem gains_apply (g : Gains W) (z : Fin 1) (s : Fin W) : gains g (ix2 z s) = g (ix1 s) := rfl

theorem add_last (z a b c : EReal) : z + a + b + c = z + (a + b + c) := by abel

end Cert.Norm
-- ==== Proof.RmsBwd.Payload.lean ====
/- What the gradient of the first normalisation computes from one block of 128 rows. -/
module

public import proofs.«01_k».proof.Proof.Gen.Kernel17Ideal.Skeleton
public import proofs.«01_k».proof.Proof.Norm.Math
public import Idealize.ShloMosaic.Lib.Pointwise

@[expose] public noncomputable section

set_option maxRecDepth 16384

namespace Cert.Norm

/-- The input's gradient: the normalisation's plus the one that comes past it. -/
def dx (X : Mat 2048) (g : Gains 2048) (Y Z : Mat 2048) (i : Fin 2176) (s : Fin 2048) : EReal :=
  rowGrad d2048 X Y g i s + Z (Idealize.ShloMosaic.ix2 i s)

end Cert.Norm

namespace Cert.Kernel17Ideal.RmsBwd

open Cert.Kernel17Ideal Cert.Kernel17Ideal.Gen Idealize.ShloMosaic Cert.Norm

theorem pay_ms (x : Vec Ideal S128x2048 .f32) (r : Fin 128) (z : Fin 1) :
    k0_pay3 x (ix2 r z) = ms d2048 fun k : Fin 2048 => x (ix2 r k) := by
  unfold k0_pay3
  pointwise
  rfl

theorem pay_dg (X Y : Mat 2048) (n : Fin 17) (a : Vec Ideal S1x2048 .f32) (s : Fin 2048) :
    k0_pay2 (F := Ideal) (k0_pay5 (rows X n) (rows Y n)) a (ix2 0 s) = a (ix2 0 s) + ∑ r : Fin 128, rowGain d2048 X Y (row n r) s := by
  have h := pay_ms (rows X n)
  unfold k0_pay2 k0_pay5 k0_pay4
  generalize k0_pay3 (F := Ideal) (rows X n) = z at h ⊢
  pointwise
  simp only [h]
  rfl

theorem pay_dx (X : Mat 2048) (g : Gains 2048) (Y Z : Mat 2048) (n : Fin 17) (r : Fin 128) (s : Fin 2048) :
    k0_pay6 (F := Ideal) (rows X n) (gains g) (rows Y n) (rows Z n) (ix2 r s) = dx X g Y Z (row n r) s := by
  have h := pay_ms (rows X n)
  unfold k0_pay6 k0_pay4
  generalize k0_pay3 (F := Ideal) (rows X n) = w at h ⊢
  pointwise
  simp only [h, Fin.sum_univ_one]
  rfl

theorem pay_zero (s : Fin 2048) : (k0_pay1 (F := Ideal)) (ix2 0 s) = 0 := by
  unfold k0_pay1
  pointwise

end Cert.Kernel17Ideal.RmsBwd
-- ==== Proof.Norm.Grid.lean ====
/- A sum over the rows of an array that is kept from grid point to grid point, 128 rows at each. -/
module

public import proofs.«01_k».proof.Proof.Norm.Math
public import proofs.«01_k».proof.Proof.Common.Sum
public import proofs.«01_k».proof.Proof.Common.Idx

@[expose] public section

namespace Cert.Norm

theorem grid_sum {N : ℕ} (hN : N = 17) (o : ∀ n, n < N → EReal) (F : Fin 2176 → EReal)
    (first : ∀ n (h : n < N), n % 17 = 0 → o n h = ∑ r : Fin 128, F (row ⟨n, lt_of_lt_of_eq h hN⟩ r))
    (later : ∀ n (h : n < N), ¬n % 17 = 0 → ∀ h', o n h = o (n - 1) h' + ∑ r : Fin 128, F (row ⟨n, lt_of_lt_of_eq h hN⟩ r))
    (n : ℕ) (h : n < N) (hn : n % 17 = 16) : o n h = ∑ j, F j := by
  subst hN
  have hB : ∀ n (h : n < 17), (if h : n < 17 then ∑ r : Fin 128, F (row ⟨n, h⟩ r) else 0) = ∑ r : Fin 128, F (row ⟨n, h⟩ r) :=
    fun n h => dif_pos h
  rw [Sum.running (α := EReal) 17 o (fun n => if h : n < 17 then ∑ r : Fin 128, F (row ⟨n, h⟩ r) else 0)
    (fun n h h0 => by rw [hB n h]; exact first n h h0) (fun n h h0 h' => by rw [hB n h]; exact later n h h0 h') n h, hn]
  refine Sum.blocks 17 128 2176 rfl F _ fun i => ?_
  obtain rfl : n = 16 := by omega
  rw [show 16 - 16 + i.val = i.val by omega]
  exact hB i.val i.isLt

end Cert.Norm
-- ==== Proof.RmsBwd.Array.lean ====
/- The gradient of the first normalisation: grid point `t` computes rows `128 * t` to `128 * t + 127` of the input's
   gradient and adds those rows' part to the gains' gradient. -/
module

public import proofs.«01_k».proof.Proof.Gen.Kernel17Ideal.Value
public import proofs.«01_k».proof.Proof.RmsBwd.Payload
public import proofs.«01_k».proof.Proof.Norm.Grid
public import Idealize.ShloMosaic.Lib.Tactic

@[expose] public noncomputable section

set_option maxRecDepth 16384

namespace Cert.Kernel17Ideal.RmsBwd

open Cert.Kernel17Ideal Cert.Kernel17Ideal.Gen Idealize.ShloMosaic Idealize.ShloMosaic.TcCoe Idealize.SL.Sem Cert.Norm Cert.Idx

variable (m : (ℓ : Loc nD τ sig) → Buf (Elt Ideal) ℓ) (c : Dev nD)

/-- A point's number. -/
abbrev pt (t : Fin cfg0.N) : Fin 17 := ⟨t.val, lt_of_lt_of_eq t.isLt N_0⟩

/-! ## The arrays the call is given, and the blocks a point reads -/

abbrev X : Mat 2048 := m ((c : Thread nD τ).loc main_arg0)
abbrev G : Gains 2048 := m ((c : Thread nD τ).loc main_arg1)
abbrev Y : Mat 2048 := m ((c : Thread nD τ).loc main_arg2)
abbrev Z : Mat 2048 := m ((c : Thread nD τ).loc main_arg3)

theorem idx_0 : ∀ t : Fin grid0.N, win0_0.index t 0 = t.val ∧ win0_0.index t 1 = 0 := by decide +kernel

theorem blk_0 (t : Fin cfg0.N) : (iblk m c 0 t : Vec Ideal S128x2048 .f32) = rows (X m c) (pt t) := by
  have e := idx_0 t
  funext y
  unfold iblk
  rw [View.read_apply]
  show V m c main_arg0 _ = _
  rw [V_main_arg0]
  exact congrArg (m ((c : Thread nD τ).loc main_arg0)) (ext2
    (by show win0_0.index t 0 * 128 + 1 * (y 0).val = 128 * t.val + (y 0).val; omega)
    (by show win0_0.index t 1 * 2048 + 1 * (y 1).val = (y 1).val; omega))

theorem idx_1 : ∀ t : Fin grid0.N, win0_1.index t 0 = 0 ∧ win0_1.index t 1 = 0 := by decide +kernel

theorem blk_1 (t : Fin cfg0.N) : (iblk m c 1 t : Vec Ideal S1x2048 .f32) = gains (G m c) := by
  have e := idx_1 t
  funext y
  obtain ⟨z, s, rfl⟩ := of2 (a := 1) (b := 2048) y
  unfold iblk
  rw [View.read_apply]
  have hV : V m c main_v0 = broadcastInDim S1x2048 ![1] bcast_S2048_S1x2048_1 (m ((c : Thread nD τ).loc main_arg1)) := by
    show StableHlo.after hostOps0 _ _ = _
    after_results
  show V m c main_v0 _ = _
  rw [hV, show ((cfg0.win 1).blk t).view.emb (ix2 z s) = ix2 0 s from ext2
    (by show win0_1.index t 0 * 1 + 1 * z.val = 0; omega) (by show win0_1.index t 1 * 2048 + 1 * s.val = s.val; omega)]
  pointwise
  rfl

theorem idx_2 : ∀ t : Fin grid0.N, win0_2.index t 0 = t.val ∧ win0_2.index t 1 = 0 := by decide +kernel

theorem blk_2 (t : Fin cfg0.N) : (iblk m c 2 t : Vec Ideal S128x2048 .f32) = rows (Y m c) (pt t) := by
  have e := idx_2 t
  funext y
  unfold iblk
  rw [View.read_apply]
  show V m c main_arg2 _ = _
  rw [V_main_arg2]
  exact congrArg (m ((c : Thread nD τ).loc main_arg2)) (ext2
    (by show win0_2.index t 0 * 128 + 1 * (y 0).val = 128 * t.val + (y 0).val; omega)
    (by show win0_2.index t 1 * 2048 + 1 * (y 1).val = (y 1).val; omega))

theorem idx_3 : ∀ t : Fin grid0.N, win0_3.index t 0 = t.val ∧ win0_3.index t 1 = 0 := by decide +kernel

theorem blk_3 (t : Fin cfg0.N) : (iblk m c 3 t : Vec Ideal S128x2048 .f32) = rows (Z m c) (pt t) := by
  have e := idx_3 t
  funext y
  unfold iblk
  rw [View.read_apply]
  show V m c main_arg3 _ = _
  rw [V_main_arg3]
  exact congrArg (m ((c : Thread nD τ).loc main_arg3)) (ext2
    (by show win0_3.index t 0 * 128 + 1 * (y 0).val = 128 * t.val + (y 0).val; omega)
    (by show win0_3.index t 1 * 2048 + 1 * (y 1).val = (y 1).val; omega))

/-! ## What a point leaves -/

/-- The blocks a point leaves, from those it reads and the sums it finds. -/
def leaves (x0 : Vec Ideal S128x2048 .f32) (x1 : Vec Ideal S1x2048 .f32) (x2 : Vec Ideal S128x2048 .f32) (x3 : Vec Ideal S128x2048 .f32)
    (a1 : Vec Ideal S1x2048 .f32) :
    Vec Ideal S128x2048 .f32 × Vec Ideal S1x2048 .f32 :=
  (k0_pay6 (F := Ideal) x0 x1 x2 x3,
    k0_pay2 (F := Ideal) (k0_pay5 x0 x2) a1)

/-- The blocks a point leaves, from the sums it finds. -/
abbrev left (t : Fin cfg0.N) := leaves (iblk m c 0 t) (iblk m c 1 t) (iblk m c 2 t) (iblk m c 3 t)

/-- The first point starts the sums at zero. -/
theorem first (t : Fin cfg0.N) (h0 : t.val % 17 = 0) :
    outsAt0 m c t.val t.isLt = left m c t (k0_pay1 (F := Ideal)) := by
  rw [outsAt0_A m c t h0]
  unfold left leaves
  refine Prod.ext ?_ ?_ <;> dsimp only
  all_goals first | unfold out0_A_4 | unfold out0_A_5
  all_goals
    rw [View.read_writes_eq_canon]; swap
    · intro y; first | apply cover0_A_4 | apply cover0_A_5
    unfold kernelRun0_A; dsimp only; sl_unfold_words
    first
      | rw [View.canon_cons_unit_zero (S := S1x2048) zero2, View.readCov_unit_zero (S := S1x2048) _ zero2]
      | rw [View.canon_unit_zero zero2]
    simp only [View.readAt_eq_ld, (hs0_0 t).read_unread, (hs0_1 t).read_unread, (hs0_2 t).read_unread, (hs0_3 t).read_unread,
      ld2]

/-- Another adds to what the point before it left. -/
theorem later (t : Fin cfg0.N) (h0 : ¬t.val % 17 = 0) (h : t.val - 1 < cfg0.N) :
    outsAt0 m c t.val t.isLt = left m c t (outsAt0 m c (t.val - 1) h).2 := by
  rw [outsAt0_B m c t h0]
  unfold left leaves
  refine Prod.ext ?_ ?_ <;> dsimp only
  all_goals first | unfold out0_B_4 | unfold out0_B_5
  all_goals
    rw [View.read_writes_eq_canon]; swap
    · intro y; first | apply cover0_B_4 | apply cover0_B_5
    unfold kernelRun0_B; dsimp only; sl_unfold_words
    rw [View.canon_unit_zero zero2]
    simp only [View.readAt_eq_ld, (hs0_0 t).read_unread, (hs0_1 t).read_unread, (hs0_2 t).read_unread, (hs0_3 t).read_unread, (hs0_5 t).read_unread,
      ld2]

/-! ## The input's gradient -/

abbrev val_4 (i : S2176x2048.Idx) : EReal := dx (X m c) (G m c) (Y m c) (Z m c) (i 0) (i 1)

/-- The array. -/
def arr_4 : Buf (Elt Ideal) ((c : Thread nD τ).loc main_v1_0) := val_4 m c

theorem idx_4 : ∀ t : Fin grid0.N, win0_4.index t 0 = t.val ∧ win0_4.index t 1 = 0 := by decide +kernel

theorem block_4 (t : Fin cfg0.N) (a1 : Vec Ideal S1x2048 .f32) (r : Fin 128) (s : Fin 2048) :
    @Eq EReal ((left m c t a1).1 (ix2 r s)) (val_4 m c (ix2 (row (pt t) r) s)) := by
  unfold left
  rw [blk_0, blk_1, blk_2, blk_3]
  exact pay_dx _ _ _ _ _ r s

theorem flushed_4 (t : Fin cfg0.N) (hf : (cfg0.win 4).flush t = true) :
    (dats m 0 c).flushed 4 t = ((cfg0.win 4).blk t).view.read (Elt Ideal) (arr_4 m c) := by
  have e := idx_4 t
  rw [Value.flushed4]
  funext y
  obtain ⟨r, s, rfl⟩ := of2 (a := 128) (b := 2048) y
  rw [View.read_apply]
  refine Eq.trans (b := val_4 m c (ix2 (row (pt t) r) s)) ?_ (congrArg (val_4 m c) (ext2
    (by show 128 * t.val + r.val = win0_4.index t 0 * 128 + 1 * r.val; omega)
    (by show s.val = win0_4.index t 1 * 2048 + 1 * s.val; omega)))
  by_cases h0 : t.val % 17 = 0
  · rw [first m c t h0]; exact block_4 m c t _ r s
  · rw [later m c t h0 (lt_of_le_of_lt (Nat.sub_le _ _) t.isLt)]; exact block_4 m c t _ r s

theorem final_4 : (dats m 0 c).arrAt 4 cfg0.N = arr_4 m c :=
  (dats m 0 c).arrAt_eq_of_cover 4 (arr_4 m c) (flushed_4 m c) fun i : S2176x2048.Idx => by
    obtain ⟨h0, h1⟩ := below2 i
    obtain ⟨t, ht⟩ : ∃ t : Fin cfg0.N, t.val = (i 0).val / 128 := ⟨⟨_, by rw [show cfg0.N = 17 from N_0]; omega⟩, rfl⟩
    have e := idx_4 t
    refine ⟨t, flush0_4 t, ?_⟩
    show i ∈ ((View.whole main_v1_0).slice (win0_4.rect t)).set
    rw [View.set_slice_whole, Rect.mem_set_unit]
    exact cover2 (win0_4.index t) 128 2048 i (by omega)

/-! ## The gains' gradient -/

abbrev val_5 (i : Fin 2176) (s : Fin 2048) : EReal := rowGain d2048 (X m c) (Y m c) i s

/-- The array. -/
def arr_5 : Buf (Elt Ideal) ((c : Thread nD τ).loc main_v1_1) := fun i : S1x2048.Idx => (∑ j, val_5 m c j (i 1) : EReal)

theorem idx_5 : ∀ t : Fin grid0.N, win0_5.index t 0 = 0 ∧ win0_5.index t 1 = 0 := by decide +kernel

theorem block_5 (t : Fin cfg0.N) (a1 : Vec Ideal S1x2048 .f32) (s : Fin 2048) :
    (left m c t a1).2 (ix2 0 s) = a1 (ix2 0 s) + ∑ r, val_5 m c (row (pt t) r) s := by
  unfold left
  rw [blk_0, blk_1, blk_2, blk_3]
  exact pay_dg _ _ _ _ s

theorem whole_5 (t : Fin cfg0.N) (h : t.val % 17 = 16) (s : Fin 2048) :
    (outsAt0 m c t.val t.isLt).2 (ix2 0 s) = ∑ j, val_5 m c j s :=
  grid_sum N_0 (fun n h => (outsAt0 m c n h).2 (ix2 0 s)) (fun i => val_5 m c i s)
    (fun n h h0 => by
      rw [first m c ⟨n, h⟩ h0]
      refine (block_5 m c ⟨n, h⟩ _ s).trans ?_
      rw [pay_zero, zero_add])
    (fun n h h0 h' => by rw [later m c ⟨n, h⟩ h0 h']; exact block_5 m c ⟨n, h⟩ _ s) t.val t.isLt h

theorem flushed_5 (t : Fin cfg0.N) (hf : (cfg0.win 5).flush t = true) :
    (dats m 0 c).flushed 5 t = ((cfg0.win 5).blk t).view.read (Elt Ideal) (arr_5 m c) := by
  have e := idx_5 t
  rw [Value.flushed5]
  funext y
  obtain ⟨z, s, rfl⟩ := of2 (a := 1) (b := 2048) y
  obtain rfl : z = 0 := Subsingleton.elim _ _
  rw [View.read_apply]
  exact (whole_5 m c t ((flush0_5 t).mp hf) s).trans (congrArg (fun q : Fin 2048 => ∑ j, val_5 m c j q)
    (Fin.ext (by show s.val = win0_5.index t 1 * 2048 + 1 * s.val; omega)))

theorem final_5 : (dats m 0 c).arrAt 5 cfg0.N = arr_5 m c :=
  (dats m 0 c).arrAt_eq_of_cover 5 (arr_5 m c) (flushed_5 m c) fun i : S1x2048.Idx => by
    obtain ⟨h0, h1⟩ := below2 i
    obtain ⟨t, ht⟩ : ∃ t : Fin cfg0.N, t.val = 16 := ⟨⟨_, lt_of_lt_of_eq (by omega : 16 < 17) N_0.symm⟩, rfl⟩
    have e := idx_5 t
    refine ⟨t, (flush0_5 t).mpr (by omega), ?_⟩
    show i ∈ ((View.whole main_v1_1).slice (win0_5.rect t)).set
    rw [View.set_slice_whole, Rect.mem_set_unit]
    exact cover2 (win0_5.index t) 1 2048 i (by omega)

end Cert.Kernel17Ideal.RmsBwd
-- ==== Proof.RmsBwd.Reference.lean ====
/- The reference of the first normalisation's gradient, entry by entry. -/
module

public import proofs.«01_k».proof.Proof.Gen.Reference17Ideal.Read
public import proofs.«01_k».proof.Proof.RmsBwd.Payload
public import Idealize.ShloMosaic.Lib.Pointwise

@[expose] public noncomputable section

set_option maxRecDepth 16384

namespace Cert.Reference17Ideal.RmsBwd

open Cert.Reference17Ideal Cert.Reference17Ideal.Gen Cert.Reference17Ideal.Read Idealize.ShloMosaic Cert.Norm

theorem mean (X : Mat 2048) (i : Fin 2176) (z : Fin 1) :
    @Eq EReal (val_main_v6 (F := Ideal) X (ix2 i z)) (ms d2048 fun k : Fin 2048 => X (ix2 i k)) := by
  unfold val_main_v6 val_main_v5 val_main_v4 val_main_v3 val_main_v2 val_main_v1 val_main_v0 val_main_cst val_main_cst_0
    val_main_cst_1
  pointwise
  rfl

theorem at_5 (X Y : Mat 2048) (z : Fin 1) (s : Fin 2048) :
    @Eq EReal (val_main_v37 (F := Ideal) X Y (ix2 z s)) (∑ j : Fin 2176, rowGain d2048 X Y j s) := by
  have h := mean X
  unfold val_main_v37 val_main_v21 val_main_v18 val_main_v17 val_main_v16 val_main_v12 val_main_v11 val_main_v7
    val_main_cst_3 val_main_cst_4
  generalize val_main_v6 (F := Ideal) X = w at h ⊢
  pointwise
  simp only [h, Fin.sum_univ_one]
  rfl

theorem at_4 (X : Mat 2048) (g : Gains 2048) (Y Z : Mat 2048) (i : Fin 2176) (s : Fin 2048) :
    @Eq EReal (val_main_v36 (F := Ideal) X g Y Z (ix2 i s)) (dx X g Y Z i s) := by
  have h := mean X
  unfold val_main_v36 val_main_v35 val_main_v34 val_main_v33 val_main_v32 val_main_v31 val_main_v30 val_main_v29
    val_main_v28 val_main_v27 val_main_v26 val_main_v25 val_main_v24 val_main_v23 val_main_v22 val_main_v20 val_main_v19
    val_main_v13 val_main_v10 val_main_v9 val_main_v8 val_main_v7 val_main_cst_5 val_main_cst_6 val_main_cst_2
    val_main_cst_7
  generalize val_main_v6 (F := Ideal) X = w at h ⊢
  pointwise
  simp only [h, Fin.sum_univ_one]
  exact (add_last _ _ _ _).trans (add_comm (G := EReal) _ _)

end Cert.Reference17Ideal.RmsBwd
-- ==== Proof.RmsBwd.Claims.lean ====
/- The claims about the gradient of the first normalisation. -/
module

public import proofs.«01_k».proof.Defs
public import proofs.«01_k».proof.Proof.Gen.Kernel17.Frame
public import proofs.«01_k».proof.Proof.Gen.Reference17Ideal.Run
public import proofs.«01_k».proof.Proof.RmsBwd.Array
public import proofs.«01_k».proof.Proof.RmsBwd.Reference

@[expose] public noncomputable section

set_option maxRecDepth 16384

namespace Cert.Proof.RmsBwd

open Idealize.ShloMosaic Idealize.ShloMosaic.TcCoe Idealize.SL.Sem Cert.Kernel17Ideal.RmsBwd Cert.Reference17Ideal.RmsBwd Cert.Reference17Ideal.Read Cert.Idx

theorem frame_p : Cert.quiescent_Kernel17 := fun m ρ _ => Cert.Kernel17.Gen.frame m ρ
theorem frame_pi : Cert.quiescent_Kernel17Ideal := fun m ρ _ => Cert.Kernel17Ideal.Gen.frame m ρ
theorem frame_ri : Cert.quiescent_Reference17Ideal := fun m ρ _ =>
  (θ_run Cert.Reference17Ideal.defs _ _).mono (fun r h => ⟨fun c => (h c).2.2, sem_eq_zero_of_no_sems (by decide) r.2⟩)
    (Cert.Reference17Ideal.Value.run (F := Ideal) m ρ)

/-- Nothing is rewritten: the two programs have one text. -/
theorem preserves : Cert.preserves_Kernel17_Kernel17Ideal := trivial

/-- The kernel and the reference compute the same. -/
theorem algebraic : Cert.algebraic_Kernel17Ideal_Reference17Ideal := by
  intro m ρ m' ρ' _ hagree
  refine ⟨fun c => arr_4 m c, fun c => arr_5 m c, ?_, ?_⟩
  · refine (θ_run Cert.Kernel17Ideal.defs _ _).mono (fun r h c => ?_) (Cert.Kernel17Ideal.Value.run_blocks (F := Ideal) m ρ)
    obtain ⟨h0, h1, hk⟩ := h c
    exact ⟨h0.trans (final_4 m c), h1.trans (final_5 m c), hk⟩
  · refine (θ_run Cert.Reference17Ideal.defs _ _).mono (fun r h c => ?_) (Cert.Reference17Ideal.Value.run (F := Ideal) m' ρ')
    obtain ⟨h0, h1, hk⟩ := h c
    obtain ⟨a0, a1, a2, a3⟩ := hagree c
    rw [val_main_v36_eq, a0, a1, a2, a3] at h0
    rw [val_main_v37_eq, a0, a2] at h1
    refine ⟨h0.trans (all2 fun r s => ?_), h1.trans (all2 fun r s => ?_), hk⟩
    · exact at_4 _ _ _ _ r s
    · exact at_5 _ _ r s

end Cert.Proof.RmsBwd
-- ==== Proof.ResidBwd.Payload.lean ====
/- What the gradient of the residual with its two normalisations computes from one block of 128 rows. -/
module

public import proofs.«01_k».proof.Proof.Gen.Kernel16Ideal.Skeleton
public import proofs.«01_k».proof.Proof.Norm.Math
public import Idealize.ShloMosaic.Lib.Pointwise

@[expose] public noncomputable section

set_option maxRecDepth 16384

namespace Cert.Kernel16Ideal.ResidBwd

open Cert.Kernel16Ideal Cert.Kernel16Ideal.Gen Idealize.ShloMosaic Cert.Norm

theorem ms_mix (x : Vec Ideal S128x2048 .f32) (r : Fin 128) (z : Fin 1) :
    k0_pay7 x (ix2 r z) = ms d2048 fun k : Fin 2048 => x (ix2 r k) := by
  unfold k0_pay7
  pointwise
  rfl

theorem pay_resid (H M : Mat 2048) (g : Gains 2048) (n : Fin 17) :
    k0_pay11 (F := Ideal) (rows H n) (rows M n) (gains g) = rows (resid H M g) n := by
  funext y
  obtain ⟨r, s, rfl⟩ : ∃ (r : Fin 128) (s : Fin 2048), y = ix2 r s := ⟨y 0, y 1, eq_ix2 y⟩
  have h := ms_mix (rows M n)
  unfold k0_pay11 k0_pay10 k0_pay8 k0_pay5
  generalize k0_pay7 (F := Ideal) (rows M n) = w at h ⊢
  pointwise
  simp only [h]
  rfl

theorem ms_resid (H M : Mat 2048) (g : Gains 2048) (n : Fin 17) (r : Fin 128) (z : Fin 1) :
    k0_pay12 (F := Ideal) (rows H n) (rows M n) (gains g) (ix2 r z)
      = ms d2048 fun k : Fin 2048 => rows (resid H M g) n (ix2 r k) := by
  unfold k0_pay12
  rw [pay_resid]
  generalize rows (resid H M g) n = x
  pointwise
  rfl

theorem pay_total (H M : Mat 2048) (g k : Gains 2048) (D Y : Mat 2048) (n : Fin 17) :
    k0_pay17 (F := Ideal) (k0_pay6 (gains k)) (rows D n) (rows Y n)
        (k0_pay11 (rows H n) (rows M n) (gains g)) (k0_pay13 (rows H n) (rows M n) (gains g))
        (k0_pay14 (rows H n) (rows M n) (gains g)) = rows (total H M g k D Y) n := by
  funext y
  obtain ⟨r, s, rfl⟩ : ∃ (r : Fin 128) (s : Fin 2048), y = ix2 r s := ⟨y 0, y 1, eq_ix2 y⟩
  have h := ms_resid H M g n
  unfold k0_pay17 k0_pay6 k0_pay14 k0_pay13
  rw [pay_resid]
  generalize k0_pay12 (F := Ideal) (rows H n) (rows M n) (gains g) = w at h ⊢
  pointwise
  simp only [h, Fin.sum_univ_one]
  exact add_last _ _ _ _

theorem pay_dh (H M : Mat 2048) (g k : Gains 2048) (D Y : Mat 2048) (n : Fin 17) (r : Fin 128) (s : Fin 2048) :
    k0_pay17 (F := Ideal) (k0_pay6 (gains k)) (rows D n) (rows Y n)
        (k0_pay11 (rows H n) (rows M n) (gains g)) (k0_pay13 (rows H n) (rows M n) (gains g))
        (k0_pay14 (rows H n) (rows M n) (gains g)) (ix2 r s)
      = entry (total H M g k D Y) (row n r) s := by
  rw [pay_total]
  rfl

theorem pay_dm (H M : Mat 2048) (g k : Gains 2048) (D Y : Mat 2048) (n : Fin 17) (r : Fin 128) (s : Fin 2048) :
    k0_pay20 (F := Ideal) (rows M n) (k0_pay5 (gains g)) (k0_pay6 (gains k)) (rows D n) (rows Y n) (k0_pay8 (rows M n))
        (k0_pay9 (rows M n)) (k0_pay11 (rows H n) (rows M n) (gains g)) (k0_pay13 (rows H n) (rows M n) (gains g))
        (k0_pay14 (rows H n) (rows M n) (gains g)) (ix2 r s)
      = rowGrad d2048 M (total H M g k D Y) g (row n r) s := by
  have h := ms_mix (rows M n)
  unfold k0_pay20 k0_pay18
  rw [pay_total]
  unfold k0_pay5 k0_pay9 k0_pay8
  generalize k0_pay7 (F := Ideal) (rows M n) = w at h ⊢
  pointwise
  simp only [h, Fin.sum_univ_one]
  rfl

theorem pay_dg (H M : Mat 2048) (g k : Gains 2048) (D Y : Mat 2048) (n : Fin 17) (a : Vec Ideal S1x2048 .f32) (s : Fin 2048) :
    k0_pay2 (F := Ideal) (k0_pay19 (k0_pay6 (gains k)) (rows D n) (rows Y n) (k0_pay10 (rows M n))
        (k0_pay11 (rows H n) (rows M n) (gains g)) (k0_pay13 (rows H n) (rows M n) (gains g))
        (k0_pay14 (rows H n) (rows M n) (gains g))) a (ix2 0 s)
      = a (ix2 0 s) + ∑ r : Fin 128, rowGain d2048 M (total H M g k D Y) (row n r) s := by
  have h := ms_mix (rows M n)
  unfold k0_pay2 k0_pay19 k0_pay18
  rw [pay_total]
  unfold k0_pay10 k0_pay8
  generalize k0_pay7 (F := Ideal) (rows M n) = w at h ⊢
  pointwise
  simp only [h]
  rfl

theorem pay_dk (H M : Mat 2048) (g : Gains 2048) (Y : Mat 2048) (n : Fin 17) (a : Vec Ideal S1x2048 .f32) (s : Fin 2048) :
    k0_pay4 (F := Ideal) (k0_pay16 (k0_pay15 (rows H n) (rows M n) (gains g) (rows Y n))) a (ix2 0 s)
      = a (ix2 0 s) + ∑ r : Fin 128, rowGain d2048 (resid H M g) Y (row n r) s := by
  have h := ms_resid H M g n
  unfold k0_pay4 k0_pay16 k0_pay15 k0_pay13
  rw [pay_resid]
  generalize k0_pay12 (F := Ideal) (rows H n) (rows M n) (gains g) = w at h ⊢
  pointwise
  simp only [h]
  rfl

theorem pay_zero1 (s : Fin 2048) : (k0_pay1 (F := Ideal)) (ix2 0 s) = 0 := by
  unfold k0_pay1
  pointwise

theorem pay_zero3 (s : Fin 2048) : (k0_pay3 (F := Ideal)) (ix2 0 s) = 0 := by
  unfold k0_pay3
  pointwise

end Cert.Kernel16Ideal.ResidBwd
-- ==== Proof.ResidBwd.Array.lean ====
/- The gradient of the residual with its two normalisations: grid point `t` computes rows `128 * t` to `128 * t + 127`
   of the two inputs' gradients and adds those rows' parts to the gradients of the gains. -/
module

public import proofs.«01_k».proof.Proof.Gen.Kernel16Ideal.Value
public import proofs.«01_k».proof.Proof.ResidBwd.Payload
public import proofs.«01_k».proof.Proof.Norm.Grid
public import Idealize.ShloMosaic.Lib.Tactic

@[expose] public noncomputable section

set_option maxRecDepth 16384

namespace Cert.Kernel16Ideal.ResidBwd

open Cert.Kernel16Ideal Cert.Kernel16Ideal.Gen Idealize.ShloMosaic Idealize.ShloMosaic.TcCoe Idealize.SL.Sem Cert.Norm Cert.Idx

variable (m : (ℓ : Loc nD τ sig) → Buf (Elt Ideal) ℓ) (c : Dev nD)

/-- A point's number. -/
abbrev pt (t : Fin cfg0.N) : Fin 17 := ⟨t.val, lt_of_lt_of_eq t.isLt N_0⟩

/-! ## The arrays the call is given, and the blocks a point reads -/

abbrev H : Mat 2048 := m ((c : Thread nD τ).loc main_arg0)
abbrev M : Mat 2048 := m ((c : Thread nD τ).loc main_arg1)
abbrev G : Gains 2048 := m ((c : Thread nD τ).loc main_arg2)
abbrev K : Gains 2048 := m ((c : Thread nD τ).loc main_arg3)
abbrev D : Mat 2048 := m ((c : Thread nD τ).loc main_arg4)
abbrev Y : Mat 2048 := m ((c : Thread nD τ).loc main_arg5)

theorem idx_0 : ∀ t : Fin grid0.N, win0_0.index t 0 = t.val ∧ win0_0.index t 1 = 0 := by decide +kernel

theorem blk_0 (t : Fin cfg0.N) : (iblk m c 0 t : Vec Ideal S128x2048 .f32) = rows (H m c) (pt t) := by
  have e := idx_0 t
  funext y
  unfold iblk
  rw [View.read_apply]
  show V m c main_arg0 _ = _
  rw [V_main_arg0]
  exact congrArg (m ((c : Thread nD τ).loc main_arg0)) (ext2
    (by show win0_0.index t 0 * 128 + 1 * (y 0).val = 128 * t.val + (y 0).val; omega)
    (by show win0_0.index t 1 * 2048 + 1 * (y 1).val = (y 1).val; omega))

theorem idx_1 : ∀ t : Fin grid0.N, win0_1.index t 0 = t.val ∧ win0_1.index t 1 = 0 := by decide +kernel

theorem blk_1 (t : Fin cfg0.N) : (iblk m c 1 t : Vec Ideal S128x2048 .f32) = rows (M m c) (pt t) := by
  have e := idx_1 t
  funext y
  unfold iblk
  rw [View.read_apply]
  show V m c main_arg1 _ = _
  rw [V_main_arg1]
  exact congrArg (m ((c : Thread nD τ).loc main_arg1)) (ext2
    (by show win0_1.index t 0 * 128 + 1 * (y 0).val = 128 * t.val + (y 0).val; omega)
    (by show win0_1.index t 1 * 2048 + 1 * (y 1).val = (y 1).val; omega))

theorem idx_2 : ∀ t : Fin grid0.N, win0_2.index t 0 = 0 ∧ win0_2.index t 1 = 0 := by decide +kernel

theorem blk_2 (t : Fin cfg0.N) : (iblk m c 2 t : Vec Ideal S1x2048 .f32) = gains (G m c) := by
  have e := idx_2 t
  funext y
  obtain ⟨z, s, rfl⟩ := of2 (a := 1) (b := 2048) y
  unfold iblk
  rw [View.read_apply]
  have hV : V m c main_v0 = broadcastInDim S1x2048 ![1] bcast_S2048_S1x2048_1 (m ((c : Thread nD τ).loc main_arg2)) := by
    show StableHlo.after hostOps0 _ _ = _
    after_results
  show V m c main_v0 _ = _
  rw [hV, show ((cfg0.win 2).blk t).view.emb (ix2 z s) = ix2 0 s from ext2
    (by show win0_2.index t 0 * 1 + 1 * z.val = 0; omega) (by show win0_2.index t 1 * 2048 + 1 * s.val = s.val; omega)]
  pointwise
  rfl

theorem idx_3 : ∀ t : Fin grid0.N, win0_3.index t 0 = 0 ∧ win0_3.index t 1 = 0 := by decide +kernel

theorem blk_3 (t : Fin cfg0.N) : (iblk m c 3 t : Vec Ideal S1x2048 .f32) = gains (K m c) := by
  have e := idx_3 t
  funext y
  obtain ⟨z, s, rfl⟩ := of2 (a := 1) (b := 2048) y
  unfold iblk
  rw [View.read_apply]
  have hV : V m c main_v1 = broadcastInDim S1x2048 ![1] bcast_S2048_S1x2048_1 (m ((c : Thread nD τ).loc main_arg3)) := by
    show StableHlo.after hostOps0 _ _ = _
    after_results
  show V m c main_v1 _ = _
  rw [hV, show ((cfg0.win 3).blk t).view.emb (ix2 z s) = ix2 0 s from ext2
    (by show win0_3.index t 0 * 1 + 1 * z.val = 0; omega) (by show win0_3.index t 1 * 2048 + 1 * s.val = s.val; omega)]
  pointwise
  rfl

theorem idx_4 : ∀ t : Fin grid0.N, win0_4.index t 0 = t.val ∧ win0_4.index t 1 = 0 := by decide +kernel

theorem blk_4 (t : Fin cfg0.N) : (iblk m c 4 t : Vec Ideal S128x2048 .f32) = rows (D m c) (pt t) := by
  have e := idx_4 t
  funext y
  unfold iblk
  rw [View.read_apply]
  show V m c main_arg4 _ = _
  rw [V_main_arg4]
  exact congrArg (m ((c : Thread nD τ).loc main_arg4)) (ext2
    (by show win0_4.index t 0 * 128 + 1 * (y 0).val = 128 * t.val + (y 0).val; omega)
    (by show win0_4.index t 1 * 2048 + 1 * (y 1).val = (y 1).val; omega))

theorem idx_5 : ∀ t : Fin grid0.N, win0_5.index t 0 = t.val ∧ win0_5.index t 1 = 0 := by decide +kernel

theorem blk_5 (t : Fin cfg0.N) : (iblk m c 5 t : Vec Ideal S128x2048 .f32) = rows (Y m c) (pt t) := by
  have e := idx_5 t
  funext y
  unfold iblk
  rw [View.read_apply]
  show V m c main_arg5 _ = _
  rw [V_main_arg5]
  exact congrArg (m ((c : Thread nD τ).loc main_arg5)) (ext2
    (by show win0_5.index t 0 * 128 + 1 * (y 0).val = 128 * t.val + (y 0).val; omega)
    (by show win0_5.index t 1 * 2048 + 1 * (y 1).val = (y 1).val; omega))

/-! ## What a point leaves -/

/-- The blocks a point leaves, from those it reads and the sums it finds. -/
def leaves (x0 : Vec Ideal S128x2048 .f32) (x1 : Vec Ideal S128x2048 .f32) (x2 : Vec Ideal S1x2048 .f32) (x3 : Vec Ideal S1x2048 .f32) (x4 : Vec Ideal S128x2048 .f32) (x5 : Vec Ideal S128x2048 .f32)
    (a2 : Vec Ideal S1x2048 .f32) (a3 : Vec Ideal S1x2048 .f32) :
    Vec Ideal S128x2048 .f32 × Vec Ideal S128x2048 .bf16 × Vec Ideal S1x2048 .f32 × Vec Ideal S1x2048 .f32 :=
  (k0_pay17 (F := Ideal) (k0_pay6 x3) x4 x5 (k0_pay11 x0 x1 x2) (k0_pay13 x0 x1 x2) (k0_pay14 x0 x1 x2),
    k0_pay20 (F := Ideal) x1 (k0_pay5 x2) (k0_pay6 x3) x4 x5 (k0_pay8 x1) (k0_pay9 x1) (k0_pay11 x0 x1 x2) (k0_pay13 x0 x1 x2) (k0_pay14 x0 x1 x2),
    k0_pay2 (F := Ideal) (k0_pay19 (k0_pay6 x3) x4 x5 (k0_pay10 x1) (k0_pay11 x0 x1 x2) (k0_pay13 x0 x1 x2) (k0_pay14 x0 x1 x2)) a2,
    k0_pay4 (F := Ideal) (k0_pay16 (k0_pay15 x0 x1 x2 x5)) a3)

/-- The blocks a point leaves, from the sums it finds. -/
abbrev left (t : Fin cfg0.N) := leaves (iblk m c 0 t) (iblk m c 1 t) (iblk m c 2 t) (iblk m c 3 t) (iblk m c 4 t) (iblk m c 5 t)

/-- The first point starts the sums at zero. -/
theorem first (t : Fin cfg0.N) (h0 : t.val % 17 = 0) :
    outsAt0 m c t.val t.isLt = left m c t (k0_pay1 (F := Ideal)) (k0_pay3 (F := Ideal)) := by
  rw [outsAt0_A m c t h0 h0]
  unfold left leaves
  refine Prod.ext ?_ (Prod.ext ?_ (Prod.ext ?_ ?_)) <;> dsimp only
  · unfold out0_A_6
    rw [View.read_writes_eq_canon]; swap
    · intro y; apply cover0_A_6
    unfold kernelRun0_A; dsimp only; sl_unfold_words
    rw [View.canon_unit_zero zero2]
    simp only [View.readAt_eq_ld, (hs0_0 t).read_unread, (hs0_1 t).read_unread, (hs0_2 t).read_unread, (hs0_3 t).read_unread, (hs0_4 t).read_unread, (hs0_5 t).read_unread, ld2]
  · unfold out0_A_7
    rw [View.read_writes_eq_canon]; swap
    · intro y; apply cover0_A_7
    unfold kernelRun0_A; dsimp only; sl_unfold_words
    rw [View.canon_unit_zero zero2]
    simp only [View.readAt_eq_ld, (hs0_0 t).read_unread, (hs0_1 t).read_unread, (hs0_2 t).read_unread, (hs0_3 t).read_unread, (hs0_4 t).read_unread, (hs0_5 t).read_unread, ld2]
  · unfold out0_A_8
    rw [View.read_writes_eq_canon]; swap
    · intro y; apply cover0_A_8
    unfold kernelRun0_A; dsimp only; sl_unfold_words
    rw [View.canon_cons_unit_zero (S := S1x2048) zero2, View.readCov_unit_zero (S := S1x2048) _ zero2]
    simp only [View.readAt_eq_ld, (hs0_0 t).read_unread, (hs0_1 t).read_unread, (hs0_2 t).read_unread, (hs0_3 t).read_unread, (hs0_4 t).read_unread, (hs0_5 t).read_unread, ld2]
  · unfold out0_A_9
    rw [View.read_writes_eq_canon]; swap
    · intro y; apply cover0_A_9
    unfold kernelRun0_A; dsimp only; sl_unfold_words
    rw [View.canon_cons_unit_zero (S := S1x2048) zero2, View.readCov_unit_zero (S := S1x2048) _ zero2]
    simp only [View.readAt_eq_ld, (hs0_0 t).read_unread, (hs0_1 t).read_unread, (hs0_2 t).read_unread, (hs0_3 t).read_unread, (hs0_4 t).read_unread, (hs0_5 t).read_unread, ld2]

/-- Another adds to what the point before it left. -/
theorem later (t : Fin cfg0.N) (h0 : ¬t.val % 17 = 0) (h : t.val - 1 < cfg0.N) :
    outsAt0 m c t.val t.isLt = left m c t (outsAt0 m c (t.val - 1) h).2.2.1 (outsAt0 m c (t.val - 1) h).2.2.2 := by
  rw [outsAt0_B m c t h0 h0]
  unfold left leaves
  refine Prod.ext ?_ (Prod.ext ?_ (Prod.ext ?_ ?_)) <;> dsimp only
  · unfold out0_B_6
    rw [View.read_writes_eq_canon]; swap
    · intro y; apply cover0_B_6
    unfold kernelRun0_B; dsimp only; sl_unfold_words
    rw [View.canon_unit_zero zero2]
    simp only [View.readAt_eq_ld, (hs0_0 t).read_unread, (hs0_1 t).read_unread, (hs0_2 t).read_unread, (hs0_3 t).read_unread, (hs0_4 t).read_unread, (hs0_5 t).read_unread, ld2]
  · unfold out0_B_7
    rw [View.read_writes_eq_canon]; swap
    · intro y; apply cover0_B_7
    unfold kernelRun0_B; dsimp only; sl_unfold_words
    rw [View.canon_unit_zero zero2]
    simp only [View.readAt_eq_ld, (hs0_0 t).read_unread, (hs0_1 t).read_unread, (hs0_2 t).read_unread, (hs0_3 t).read_unread, (hs0_4 t).read_unread, (hs0_5 t).read_unread, ld2]
  · unfold out0_B_8
    rw [View.read_writes_eq_canon]; swap
    · intro y; apply cover0_B_8
    unfold kernelRun0_B; dsimp only; sl_unfold_words
    rw [View.canon_unit_zero zero2]
    simp only [View.readAt_eq_ld, (hs0_0 t).read_unread, (hs0_1 t).read_unread, (hs0_2 t).read_unread, (hs0_3 t).read_unread, (hs0_4 t).read_unread, (hs0_5 t).read_unread, (hs0_8 t).read_unread, ld2]
  · unfold out0_B_9
    rw [View.read_writes_eq_canon]; swap
    · intro y; apply cover0_B_9
    unfold kernelRun0_B; dsimp only; sl_unfold_words
    rw [View.canon_unit_zero zero2]
    simp only [View.readAt_eq_ld, (hs0_0 t).read_unread, (hs0_1 t).read_unread, (hs0_2 t).read_unread, (hs0_3 t).read_unread, (hs0_4 t).read_unread, (hs0_5 t).read_unread, (hs0_9 t).read_unread, ld2]

/-! ## The gradient of the input -/

abbrev val_6 (i : S2176x2048.Idx) : EReal := entry (total (H m c) (M m c) (G m c) (K m c) (D m c) (Y m c)) (i 0) (i 1)

/-- The array. -/
def arr_6 : Buf (Elt Ideal) ((c : Thread nD τ).loc main_v2_0) := val_6 m c

theorem idx_6 : ∀ t : Fin grid0.N, win0_6.index t 0 = t.val ∧ win0_6.index t 1 = 0 := by decide +kernel

theorem block_6 (t : Fin cfg0.N) (a2 : Vec Ideal S1x2048 .f32) (a3 : Vec Ideal S1x2048 .f32) (r : Fin 128) (s : Fin 2048) :
    @Eq EReal ((left m c t a2 a3).1 (ix2 r s)) (val_6 m c (ix2 (row (pt t) r) s)) := by
  unfold left
  rw [blk_0, blk_1, blk_2, blk_3, blk_4, blk_5]
  exact pay_dh _ _ _ _ _ _ _ r s

theorem flushed_6 (t : Fin cfg0.N) (hf : (cfg0.win 6).flush t = true) :
    (dats m 0 c).flushed 6 t = ((cfg0.win 6).blk t).view.read (Elt Ideal) (arr_6 m c) := by
  have e := idx_6 t
  rw [Value.flushed6]
  funext y
  obtain ⟨r, s, rfl⟩ := of2 (a := 128) (b := 2048) y
  rw [View.read_apply]
  refine Eq.trans (b := val_6 m c (ix2 (row (pt t) r) s)) ?_ (congrArg (val_6 m c) (ext2
    (by show 128 * t.val + r.val = win0_6.index t 0 * 128 + 1 * r.val; omega)
    (by show s.val = win0_6.index t 1 * 2048 + 1 * s.val; omega)))
  by_cases h0 : t.val % 17 = 0
  · rw [first m c t h0]; exact block_6 m c t _ _ r s
  · rw [later m c t h0 (lt_of_le_of_lt (Nat.sub_le _ _) t.isLt)]; exact block_6 m c t _ _ r s

theorem final_6 : (dats m 0 c).arrAt 6 cfg0.N = arr_6 m c :=
  (dats m 0 c).arrAt_eq_of_cover 6 (arr_6 m c) (flushed_6 m c) fun i : S2176x2048.Idx => by
    obtain ⟨h0, h1⟩ := below2 i
    obtain ⟨t, ht⟩ : ∃ t : Fin cfg0.N, t.val = (i 0).val / 128 := ⟨⟨_, by rw [show cfg0.N = 17 from N_0]; omega⟩, rfl⟩
    have e := idx_6 t
    refine ⟨t, flush0_6 t, ?_⟩
    show i ∈ ((View.whole main_v2_0).slice (win0_6.rect t)).set
    rw [View.set_slice_whole, Rect.mem_set_unit]
    exact cover2 (win0_6.index t) 128 2048 i (by omega)

/-! ## The gradient of the mixers' result -/

abbrev val_7 (i : S2176x2048.Idx) : EReal := rowGrad d2048 (M m c) (total (H m c) (M m c) (G m c) (K m c) (D m c) (Y m c)) (G m c) (i 0) (i 1)

/-- The array. -/
def arr_7 : Buf (Elt Ideal) ((c : Thread nD τ).loc main_v2_1) := val_7 m c

theorem idx_7 : ∀ t : Fin grid0.N, win0_7.index t 0 = t.val ∧ win0_7.index t 1 = 0 := by decide +kernel

theorem block_7 (t : Fin cfg0.N) (a2 : Vec Ideal S1x2048 .f32) (a3 : Vec Ideal S1x2048 .f32) (r : Fin 128) (s : Fin 2048) :
    @Eq EReal ((left m c t a2 a3).2.1 (ix2 r s)) (val_7 m c (ix2 (row (pt t) r) s)) := by
  unfold left
  rw [blk_0, blk_1, blk_2, blk_3, blk_4, blk_5]
  exact pay_dm _ _ _ _ _ _ _ r s

theorem flushed_7 (t : Fin cfg0.N) (hf : (cfg0.win 7).flush t = true) :
    (dats m 0 c).flushed 7 t = ((cfg0.win 7).blk t).view.read (Elt Ideal) (arr_7 m c) := by
  have e := idx_7 t
  rw [Value.flushed7]
  funext y
  obtain ⟨r, s, rfl⟩ := of2 (a := 128) (b := 2048) y
  rw [View.read_apply]
  refine Eq.trans (b := val_7 m c (ix2 (row (pt t) r) s)) ?_ (congrArg (val_7 m c) (ext2
    (by show 128 * t.val + r.val = win0_7.index t 0 * 128 + 1 * r.val; omega)
    (by show s.val = win0_7.index t 1 * 2048 + 1 * s.val; omega)))
  by_cases h0 : t.val % 17 = 0
  · rw [first m c t h0]; exact block_7 m c t _ _ r s
  · rw [later m c t h0 (lt_of_le_of_lt (Nat.sub_le _ _) t.isLt)]; exact block_7 m c t _ _ r s

theorem final_7 : (dats m 0 c).arrAt 7 cfg0.N = arr_7 m c :=
  (dats m 0 c).arrAt_eq_of_cover 7 (arr_7 m c) (flushed_7 m c) fun i : S2176x2048.Idx => by
    obtain ⟨h0, h1⟩ := below2 i
    obtain ⟨t, ht⟩ : ∃ t : Fin cfg0.N, t.val = (i 0).val / 128 := ⟨⟨_, by rw [show cfg0.N = 17 from N_0]; omega⟩, rfl⟩
    have e := idx_7 t
    refine ⟨t, flush0_7 t, ?_⟩
    show i ∈ ((View.whole main_v2_1).slice (win0_7.rect t)).set
    rw [View.set_slice_whole, Rect.mem_set_unit]
    exact cover2 (win0_7.index t) 128 2048 i (by omega)

/-! ## The gradient of the first gains -/

abbrev val_8 (i : Fin 2176) (s : Fin 2048) : EReal := rowGain d2048 (M m c) (total (H m c) (M m c) (G m c) (K m c) (D m c) (Y m c)) i s

/-- The array. -/
def arr_8 : Buf (Elt Ideal) ((c : Thread nD τ).loc main_v2_2) := fun i : S1x2048.Idx => (∑ j, val_8 m c j (i 1) : EReal)

theorem idx_8 : ∀ t : Fin grid0.N, win0_8.index t 0 = 0 ∧ win0_8.index t 1 = 0 := by decide +kernel

theorem block_8 (t : Fin cfg0.N) (a2 : Vec Ideal S1x2048 .f32) (a3 : Vec Ideal S1x2048 .f32) (s : Fin 2048) :
    (left m c t a2 a3).2.2.1 (ix2 0 s) = a2 (ix2 0 s) + ∑ r, val_8 m c (row (pt t) r) s := by
  unfold left
  rw [blk_0, blk_1, blk_2, blk_3, blk_4, blk_5]
  exact pay_dg _ _ _ _ _ _ _ _ s

theorem whole_8 (t : Fin cfg0.N) (h : t.val % 17 = 16) (s : Fin 2048) :
    (outsAt0 m c t.val t.isLt).2.2.1 (ix2 0 s) = ∑ j, val_8 m c j s :=
  grid_sum N_0 (fun n h => (outsAt0 m c n h).2.2.1 (ix2 0 s)) (fun i => val_8 m c i s)
    (fun n h h0 => by
      rw [first m c ⟨n, h⟩ h0]
      refine (block_8 m c ⟨n, h⟩ _ _ s).trans ?_
      rw [pay_zero1, zero_add])
    (fun n h h0 h' => by rw [later m c ⟨n, h⟩ h0 h']; exact block_8 m c ⟨n, h⟩ _ _ s) t.val t.isLt h

theorem flushed_8 (t : Fin cfg0.N) (hf : (cfg0.win 8).flush t = true) :
    (dats m 0 c).flushed 8 t = ((cfg0.win 8).blk t).view.read (Elt Ideal) (arr_8 m c) := by
  have e := idx_8 t
  rw [Value.flushed8]
  funext y
  obtain ⟨z, s, rfl⟩ := of2 (a := 1) (b := 2048) y
  obtain rfl : z = 0 := Subsingleton.elim _ _
  rw [View.read_apply]
  exact (whole_8 m c t ((flush0_8 t).mp hf) s).trans (congrArg (fun q : Fin 2048 => ∑ j, val_8 m c j q)
    (Fin.ext (by show s.val = win0_8.index t 1 * 2048 + 1 * s.val; omega)))

theorem final_8 : (dats m 0 c).arrAt 8 cfg0.N = arr_8 m c :=
  (dats m 0 c).arrAt_eq_of_cover 8 (arr_8 m c) (flushed_8 m c) fun i : S1x2048.Idx => by
    obtain ⟨h0, h1⟩ := below2 i
    obtain ⟨t, ht⟩ : ∃ t : Fin cfg0.N, t.val = 16 := ⟨⟨_, lt_of_lt_of_eq (by omega : 16 < 17) N_0.symm⟩, rfl⟩
    have e := idx_8 t
    refine ⟨t, (flush0_8 t).mpr (by omega), ?_⟩
    show i ∈ ((View.whole main_v2_2).slice (win0_8.rect t)).set
    rw [View.set_slice_whole, Rect.mem_set_unit]
    exact cover2 (win0_8.index t) 1 2048 i (by omega)

/-! ## The gradient of the second gains -/

abbrev val_9 (i : Fin 2176) (s : Fin 2048) : EReal := rowGain d2048 (resid (H m c) (M m c) (G m c)) (Y m c) i s

/-- The array. -/
def arr_9 : Buf (Elt Ideal) ((c : Thread nD τ).loc main_v2_3) := fun i : S1x2048.Idx => (∑ j, val_9 m c j (i 1) : EReal)

theorem idx_9 : ∀ t : Fin grid0.N, win0_9.index t 0 = 0 ∧ win0_9.index t 1 = 0 := by decide +kernel

theorem block_9 (t : Fin cfg0.N) (a2 : Vec Ideal S1x2048 .f32) (a3 : Vec Ideal S1x2048 .f32) (s : Fin 2048) :
    (left m c t a2 a3).2.2.2 (ix2 0 s) = a3 (ix2 0 s) + ∑ r, val_9 m c (row (pt t) r) s := by
  unfold left
  rw [blk_0, blk_1, blk_2, blk_3, blk_4, blk_5]
  exact pay_dk _ _ _ _ _ _ s

theorem whole_9 (t : Fin cfg0.N) (h : t.val % 17 = 16) (s : Fin 2048) :
    (outsAt0 m c t.val t.isLt).2.2.2 (ix2 0 s) = ∑ j, val_9 m c j s :=
  grid_sum N_0 (fun n h => (outsAt0 m c n h).2.2.2 (ix2 0 s)) (fun i => val_9 m c i s)
    (fun n h h0 => by
      rw [first m c ⟨n, h⟩ h0]
      refine (block_9 m c ⟨n, h⟩ _ _ s).trans ?_
      rw [pay_zero3, zero_add])
    (fun n h h0 h' => by rw [later m c ⟨n, h⟩ h0 h']; exact block_9 m c ⟨n, h⟩ _ _ s) t.val t.isLt h

theorem flushed_9 (t : Fin cfg0.N) (hf : (cfg0.win 9).flush t = true) :
    (dats m 0 c).flushed 9 t = ((cfg0.win 9).blk t).view.read (Elt Ideal) (arr_9 m c) := by
  have e := idx_9 t
  rw [Value.flushed9]
  funext y
  obtain ⟨z, s, rfl⟩ := of2 (a := 1) (b := 2048) y
  obtain rfl : z = 0 := Subsingleton.elim _ _
  rw [View.read_apply]
  exact (whole_9 m c t ((flush0_9 t).mp hf) s).trans (congrArg (fun q : Fin 2048 => ∑ j, val_9 m c j q)
    (Fin.ext (by show s.val = win0_9.index t 1 * 2048 + 1 * s.val; omega)))

theorem final_9 : (dats m 0 c).arrAt 9 cfg0.N = arr_9 m c :=
  (dats m 0 c).arrAt_eq_of_cover 9 (arr_9 m c) (flushed_9 m c) fun i : S1x2048.Idx => by
    obtain ⟨h0, h1⟩ := below2 i
    obtain ⟨t, ht⟩ : ∃ t : Fin cfg0.N, t.val = 16 := ⟨⟨_, lt_of_lt_of_eq (by omega : 16 < 17) N_0.symm⟩, rfl⟩
    have e := idx_9 t
    refine ⟨t, (flush0_9 t).mpr (by omega), ?_⟩
    show i ∈ ((View.whole main_v2_3).slice (win0_9.rect t)).set
    rw [View.set_slice_whole, Rect.mem_set_unit]
    exact cover2 (win0_9.index t) 1 2048 i (by omega)

end Cert.Kernel16Ideal.ResidBwd
-- ==== Proof.ResidBwd.Reference.lean ====
/- The reference of the gradient of the residual with its two normalisations, entry by entry. -/
module

public import proofs.«01_k».proof.Proof.Gen.Reference16Ideal.Read
public import proofs.«01_k».proof.Proof.Norm.Math
public import Idealize.ShloMosaic.Lib.Pointwise

@[expose] public noncomputable section

set_option maxRecDepth 16384

namespace Cert.Reference16Ideal.ResidBwd

open Cert.Reference16Ideal Cert.Reference16Ideal.Gen Cert.Reference16Ideal.Read Idealize.ShloMosaic Cert.Norm

theorem mean_mix (M : Mat 2048) (i : Fin 2176) (z : Fin 1) :
    @Eq EReal (val_main_v6 (F := Ideal) M (ix2 i z)) (ms d2048 fun k : Fin 2048 => M (ix2 i k)) := by
  unfold val_main_v6 val_main_v5 val_main_cst_1 val_main_v4 val_main_v3 val_main_cst_0 val_main_v2 val_main_v1
    val_main_cst val_main_v0
  pointwise
  rfl

theorem resid_eq (H M : Mat 2048) (g : Gains 2048) : val_main_v16 (F := Ideal) H M g = resid H M g := by
  funext y
  obtain ⟨r, s, rfl⟩ : ∃ (r : Fin 2176) (s : Fin 2048), y = ix2 r s := ⟨y 0, y 1, eq_ix2 y⟩
  have h := mean_mix M
  unfold val_main_v16 val_main_v15 val_main_v14 val_main_v13 val_main_v12 val_main_v11 val_main_v7
  generalize val_main_v6 (F := Ideal) M = w at h ⊢
  pointwise
  simp only [h]
  rfl

theorem mean_resid (H M : Mat 2048) (g : Gains 2048) (i : Fin 2176) (z : Fin 1) :
    @Eq EReal (val_main_v23 (F := Ideal) H M g (ix2 i z)) (ms d2048 fun k : Fin 2048 => resid H M g (ix2 i k)) := by
  unfold val_main_v23 val_main_v22 val_main_cst_5 val_main_v21 val_main_v20 val_main_cst_4 val_main_v19
    val_main_v18 val_main_cst_3 val_main_v17
  rw [resid_eq]
  generalize resid H M g = x
  pointwise
  rfl

theorem total_eq (H M : Mat 2048) (g k : Gains 2048) (D Y : Mat 2048) : val_main_v53 (F := Ideal) H M g k D Y = total H M g k D Y := by
  funext y
  obtain ⟨r, s, rfl⟩ : ∃ (r : Fin 2176) (s : Fin 2048), y = ix2 r s := ⟨y 0, y 1, eq_ix2 y⟩
  have h := mean_resid H M g
  unfold val_main_v53 val_main_v52 val_main_v51 val_main_v50 val_main_v49 val_main_v48 val_main_cst_11
    val_main_v47 val_main_v46 val_main_cst_10 val_main_v45 val_main_v27 val_main_v25 val_main_v26 val_main_cst_6
    val_main_v41 val_main_v40 val_main_cst_9 val_main_v39 val_main_v44 val_main_v43 val_main_v42 val_main_v24
    val_main_v37 val_main_v36 val_main_v30
  rw [resid_eq]
  generalize val_main_v23 (F := Ideal) H M g = w at h ⊢
  pointwise
  simp only [h, Fin.sum_univ_one]
  exact add_last _ _ _ _

theorem at_6 (H M : Mat 2048) (g k : Gains 2048) (D Y : Mat 2048) (i : Fin 2176) (s : Fin 2048) :
    @Eq EReal (val_main_v53 (F := Ideal) H M g k D Y (ix2 i s)) (total H M g k D Y (ix2 i s)) := by
  rw [total_eq]

theorem at_7 (H M : Mat 2048) (g k : Gains 2048) (D Y : Mat 2048) (i : Fin 2176) (s : Fin 2048) :
    @Eq EReal (val_main_v75 (F := Ideal) H M g k D Y (ix2 i s)) (rowGrad d2048 M (total H M g k D Y) g i s) := by
  have h := mean_mix M
  unfold val_main_v75 val_main_v74 val_main_v73 val_main_v72 val_main_v71 val_main_v70 val_main_v69
    val_main_cst_16 val_main_v68 val_main_v67 val_main_cst_15 val_main_v66 val_main_v10 val_main_v8 val_main_v9
    val_main_cst_2 val_main_v63 val_main_v62 val_main_cst_14 val_main_v61 val_main_v65 val_main_v64 val_main_v7
    val_main_v59 val_main_v58 val_main_v13 val_main_v54
  rw [total_eq]
  generalize val_main_v6 (F := Ideal) M = w at h ⊢
  generalize total H M g k D Y = x
  pointwise
  simp only [h, Fin.sum_univ_one]
  rfl

theorem at_8 (H M : Mat 2048) (g k : Gains 2048) (D Y : Mat 2048) (z : Fin 1) (s : Fin 2048) :
    @Eq EReal (val_main_v76 (F := Ideal) H M g k D Y (ix2 z s)) (∑ j : Fin 2176, rowGain d2048 M (total H M g k D Y) j s) := by
  have h := mean_mix M
  unfold val_main_v76 val_main_v60 val_main_cst_13 val_main_v57 val_main_v56 val_main_cst_12 val_main_v55
    val_main_v54 val_main_v12 val_main_v11 val_main_v7
  rw [total_eq]
  generalize val_main_v6 (F := Ideal) M = w at h ⊢
  generalize total H M g k D Y = x
  pointwise
  simp only [h, Fin.sum_univ_one]
  rfl

theorem at_9 (H M : Mat 2048) (g : Gains 2048) (Y : Mat 2048) (z : Fin 1) (s : Fin 2048) :
    @Eq EReal (val_main_v77 (F := Ideal) H M g Y (ix2 z s)) (∑ j : Fin 2176, rowGain d2048 (resid H M g) Y j s) := by
  have h := mean_resid H M g
  unfold val_main_v77 val_main_v38 val_main_cst_8 val_main_v35 val_main_v34 val_main_cst_7 val_main_v33
    val_main_v29 val_main_v28 val_main_v24
  rw [resid_eq]
  generalize val_main_v23 (F := Ideal) H M g = w at h ⊢
  generalize resid H M g = x at h ⊢
  pointwise
  simp only [h, Fin.sum_univ_one]
  rfl

end Cert.Reference16Ideal.ResidBwd
-- ==== Proof.ResidBwd.Claims.lean ====
/- The claims about the gradient of the residual with its two normalisations. -/
module

public import proofs.«01_k».proof.Defs
public import proofs.«01_k».proof.Proof.Gen.Kernel16.Frame
public import proofs.«01_k».proof.Proof.Gen.Reference16Ideal.Run
public import proofs.«01_k».proof.Proof.ResidBwd.Array
public import proofs.«01_k».proof.Proof.ResidBwd.Reference

@[expose] public noncomputable section

set_option maxRecDepth 16384

namespace Cert.Proof.ResidBwd

open Idealize.ShloMosaic Idealize.ShloMosaic.TcCoe Idealize.SL.Sem Cert.Kernel16Ideal.ResidBwd Cert.Reference16Ideal.ResidBwd Cert.Reference16Ideal.Read Cert.Idx

theorem frame_p : Cert.quiescent_Kernel16 := fun m ρ _ => Cert.Kernel16.Gen.frame m ρ
theorem frame_pi : Cert.quiescent_Kernel16Ideal := fun m ρ _ => Cert.Kernel16Ideal.Gen.frame m ρ
theorem frame_ri : Cert.quiescent_Reference16Ideal := fun m ρ _ =>
  (θ_run Cert.Reference16Ideal.defs _ _).mono (fun r h => ⟨fun c => (h c).2.2.2.2, sem_eq_zero_of_no_sems (by decide) r.2⟩)
    (Cert.Reference16Ideal.Value.run (F := Ideal) m ρ)

/-- Nothing is rewritten: the two programs have one text. -/
theorem preserves : Cert.preserves_Kernel16_Kernel16Ideal := trivial

/-- The kernel and the reference compute the same. -/
theorem algebraic : Cert.algebraic_Kernel16Ideal_Reference16Ideal := by
  intro m ρ m' ρ' _ hagree
  refine ⟨fun c => arr_6 m c, fun c => arr_7 m c, fun c => arr_8 m c, fun c => arr_9 m c, ?_, ?_⟩
  · refine (θ_run Cert.Kernel16Ideal.defs _ _).mono (fun r h c => ?_) (Cert.Kernel16Ideal.Value.run_blocks (F := Ideal) m ρ)
    obtain ⟨h0, h1, h2, h3, hk⟩ := h c
    exact ⟨h0.trans (final_6 m c), h1.trans (final_7 m c), h2.trans (final_8 m c), h3.trans (final_9 m c), hk⟩
  · refine (θ_run Cert.Reference16Ideal.defs _ _).mono (fun r h c => ?_) (Cert.Reference16Ideal.Value.run (F := Ideal) m' ρ')
    obtain ⟨h0, h1, h2, h3, hk⟩ := h c
    obtain ⟨a0, a1, a2, a3, a4, a5⟩ := hagree c
    rw [val_main_v53_eq, a0, a1, a2, a3, a4, a5] at h0
    rw [val_main_v75_eq, a0, a1, a2, a3, a4, a5] at h1
    rw [val_main_v76_eq, a0, a1, a2, a3, a4, a5] at h2
    rw [val_main_v77_eq, a0, a1, a2, a5] at h3
    refine ⟨h0.trans (all2 fun r s => ?_), h1.trans (all2 fun r s => ?_), h2.trans (all2 fun r s => ?_), h3.trans (all2 fun r s => ?_), hk⟩
    · exact at_6 _ _ _ _ _ _ r s
    · exact at_7 _ _ _ _ _ _ r s
    · exact at_8 _ _ _ _ _ _ r s
    · exact at_9 _ _ _ _ r s

end Cert.Proof.ResidBwd
-- ==== Proof.PrepBwd.Payload.lean ====
/- What the gradient of the latent attention's inputs computes from one block of 128 rows. -/
module

public import proofs.«01_k».proof.Proof.Gen.Kernel18Ideal.Skeleton
public import proofs.«01_k».proof.Proof.Norm.Math
public import Idealize.ShloMosaic.Lib.Pointwise

@[expose] public noncomputable section

set_option maxRecDepth 16384

namespace Cert.Kernel18Ideal.PrepBwd

open Cert.Kernel18Ideal Cert.Kernel18Ideal.Gen Idealize.ShloMosaic Cert.Norm

theorem ms_q (x : Vec Ideal S128x512 .f32) (r : Fin 128) (z : Fin 1) :
    k0_pay10 x (ix2 r z) = ms d512 fun k : Fin 512 => x (ix2 r k) := by
  unfold k0_pay10
  pointwise
  rfl

theorem ms_k (x : Vec Ideal S128x512 .f32) (r : Fin 128) (z : Fin 1) :
    k0_pay14 x (ix2 r z) = ms d512 fun k : Fin 512 => x (ix2 r k) := by
  unfold k0_pay14
  pointwise
  rfl

theorem pay_cq (X : Mat 512) (g : Gains 512) (Y : Mat 512) (n : Fin 17) (r : Fin 128) (s : Fin 512) :
    k0_pay22 (F := Ideal) (rows X n) (k0_pay8 (gains g)) (rows Y n) (k0_pay11 (rows X n)) (k0_pay12 (rows X n)) (ix2 r s) = rowGrad d512 X Y g (row n r) s := by
  have h := ms_q (rows X n)
  unfold k0_pay22 k0_pay8 k0_pay12 k0_pay11
  generalize k0_pay10 (F := Ideal) (rows X n) = w at h ⊢
  pointwise
  simp only [h, Fin.sum_univ_one]
  rfl

theorem pay_ck (X : Mat 512) (g : Gains 512) (Y : Mat 512) (n : Fin 17) (r : Fin 128) (s : Fin 512) :
    k0_pay1 (F := Ideal) (k0_pay20 (rows X n) (k0_pay9 (gains g)) (rows Y n) (k0_pay15 (rows X n)) (k0_pay16 (rows X n))) (ix2 r s) = rowGrad d512 X Y g (row n r) s := by
  have h := ms_k (rows X n)
  unfold k0_pay1 k0_pay20 k0_pay9 k0_pay16 k0_pay15
  generalize k0_pay14 (F := Ideal) (rows X n) = w at h ⊢
  pointwise
  simp only [h, Fin.sum_univ_one]
  rfl

theorem pay_cos (C Y : Mat 128) (n : Fin 17) (r : Fin 128) (s : Fin 128) :
    k0_pay2 (F := Ideal) (k0_pay18 (rows C n) (rows Y n)) (ix2 r s) = times Y C (row n r) s := by
  unfold k0_pay2 k0_pay18
  pointwise
  rfl

theorem pay_sin (S Y : Mat 128) (n : Fin 17) (r : Fin 128) (s : Fin 128) :
    k0_pay3 (F := Ideal) (k0_pay17 (rows S n) (rows Y n)) (ix2 r s) = times Y S (row n r) s := by
  unfold k0_pay3 k0_pay17
  pointwise
  rfl

theorem pay_gq (X Y : Mat 512) (n : Fin 17) (a : Vec Ideal S1x512 .f32) (s : Fin 512) :
    k0_pay5 (F := Ideal) (k0_pay21 (rows Y n) (k0_pay13 (rows X n))) a (ix2 0 s)
      = a (ix2 0 s) + ∑ r : Fin 128, rowGain d512 X Y (row n r) s := by
  have h := ms_q (rows X n)
  unfold k0_pay5 k0_pay21 k0_pay13 k0_pay11
  generalize k0_pay10 (F := Ideal) (rows X n) = w at h ⊢
  pointwise
  simp only [h]
  rfl

theorem pay_gk (X Y : Mat 512) (n : Fin 17) (a : Vec Ideal S1x512 .f32) (s : Fin 512) :
    k0_pay7 (F := Ideal) (k0_pay19 (rows X n) (rows Y n) (k0_pay15 (rows X n))) a (ix2 0 s)
      = a (ix2 0 s) + ∑ r : Fin 128, rowGain d512 X Y (row n r) s := by
  have h := ms_k (rows X n)
  unfold k0_pay7 k0_pay19 k0_pay15
  generalize k0_pay14 (F := Ideal) (rows X n) = w at h ⊢
  pointwise
  simp only [h]
  rfl

theorem pay_zero4 (s : Fin 512) : (k0_pay4 (F := Ideal)) (ix2 0 s) = 0 := by
  unfold k0_pay4
  pointwise

theorem pay_zero6 (s : Fin 512) : (k0_pay6 (F := Ideal)) (ix2 0 s) = 0 := by
  unfold k0_pay6
  pointwise

end Cert.Kernel18Ideal.PrepBwd
-- ==== Proof.PrepBwd.Array.lean ====
/- The gradient of the latent attention's inputs: grid point `t` computes rows `128 * t` to `128 * t + 127` of the
   gradients of the latent columns and the rotated keys and adds those rows' parts to the gradients of the gains. -/
module

public import proofs.«01_k».proof.Proof.Gen.Kernel18Ideal.Value
public import proofs.«01_k».proof.Proof.PrepBwd.Payload
public import proofs.«01_k».proof.Proof.Norm.Grid
public import Idealize.ShloMosaic.Lib.Tactic

@[expose] public noncomputable section

set_option maxRecDepth 16384

namespace Cert.Kernel18Ideal.PrepBwd

open Cert.Kernel18Ideal Cert.Kernel18Ideal.Gen Idealize.ShloMosaic Idealize.ShloMosaic.TcCoe Idealize.SL.Sem Cert.Norm Cert.Idx

variable (m : (ℓ : Loc nD τ sig) → Buf (Elt Ideal) ℓ) (c : Dev nD)

/-- A point's number. -/
abbrev pt (t : Fin cfg0.N) : Fin 17 := ⟨t.val, lt_of_lt_of_eq t.isLt N_0⟩

/-! ## The arrays the call is given, and the blocks a point reads -/

abbrev CQ : Mat 512 := cols (W := 13824) 12288 (by decide) (m ((c : Thread nD τ).loc main_arg0))
abbrev CK : Mat 512 := cols (W := 13824) 12800 (by decide) (m ((c : Thread nD τ).loc main_arg0))
abbrev GQ : Gains 512 := m ((c : Thread nD τ).loc main_arg1)
abbrev GK : Gains 512 := m ((c : Thread nD τ).loc main_arg2)
abbrev Cos : Mat 128 := m ((c : Thread nD τ).loc main_arg3)
abbrev Sin : Mat 128 := m ((c : Thread nD τ).loc main_arg4)
abbrev DQ : Mat 512 := m ((c : Thread nD τ).loc main_arg5)
abbrev DK : Mat 512 := m ((c : Thread nD τ).loc main_arg6)
abbrev DP : Mat 128 := m ((c : Thread nD τ).loc main_arg7)

theorem idx_0 : ∀ t : Fin grid0.N, win0_0.index t 0 = t.val ∧ win0_0.index t 1 = 24 := by decide +kernel

theorem blk_0 (t : Fin cfg0.N) : (iblk m c 0 t : Vec Ideal S128x512 .f32) = rows (CQ m c) (pt t) := by
  have e := idx_0 t
  funext y
  unfold iblk
  rw [View.read_apply]
  show V m c main_arg0 _ = _
  rw [V_main_arg0]
  exact congrArg (m ((c : Thread nD τ).loc main_arg0)) (ext2
    (by show win0_0.index t 0 * 128 + 1 * (y 0).val = 128 * t.val + (y 0).val; omega)
    (by show win0_0.index t 1 * 512 + 1 * (y 1).val = 12288 + (y 1).val; omega))

theorem idx_1 : ∀ t : Fin grid0.N, win0_1.index t 0 = t.val ∧ win0_1.index t 1 = 25 := by decide +kernel

theorem blk_1 (t : Fin cfg0.N) : (iblk m c 1 t : Vec Ideal S128x512 .f32) = rows (CK m c) (pt t) := by
  have e := idx_1 t
  funext y
  unfold iblk
  rw [View.read_apply]
  show V m c main_arg0 _ = _
  rw [V_main_arg0]
  exact congrArg (m ((c : Thread nD τ).loc main_arg0)) (ext2
    (by show win0_1.index t 0 * 128 + 1 * (y 0).val = 128 * t.val + (y 0).val; omega)
    (by show win0_1.index t 1 * 512 + 1 * (y 1).val = 12800 + (y 1).val; omega))

theorem idx_4 : ∀ t : Fin grid0.N, win0_4.index t 0 = 0 ∧ win0_4.index t 1 = 0 := by decide +kernel

theorem blk_4 (t : Fin cfg0.N) : (iblk m c 4 t : Vec Ideal S1x512 .f32) = gains (GQ m c) := by
  have e := idx_4 t
  funext y
  obtain ⟨z, s, rfl⟩ := of2 (a := 1) (b := 512) y
  unfold iblk
  rw [View.read_apply]
  have hV : V m c main_v0 = broadcastInDim S1x512 ![1] bcast_S512_S1x512_1 (m ((c : Thread nD τ).loc main_arg1)) := by
    show StableHlo.after hostOps0 _ _ = _
    after_results
  show V m c main_v0 _ = _
  rw [hV, show ((cfg0.win 4).blk t).view.emb (ix2 z s) = ix2 0 s from ext2
    (by show win0_4.index t 0 * 1 + 1 * z.val = 0; omega) (by show win0_4.index t 1 * 512 + 1 * s.val = s.val; omega)]
  pointwise
  rfl

theorem idx_5 : ∀ t : Fin grid0.N, win0_5.index t 0 = 0 ∧ win0_5.index t 1 = 0 := by decide +kernel

theorem blk_5 (t : Fin cfg0.N) : (iblk m c 5 t : Vec Ideal S1x512 .f32) = gains (GK m c) := by
  have e := idx_5 t
  funext y
  obtain ⟨z, s, rfl⟩ := of2 (a := 1) (b := 512) y
  unfold iblk
  rw [View.read_apply]
  have hV : V m c main_v1 = broadcastInDim S1x512 ![1] bcast_S512_S1x512_1 (m ((c : Thread nD τ).loc main_arg2)) := by
    show StableHlo.after hostOps0 _ _ = _
    after_results
  show V m c main_v1 _ = _
  rw [hV, show ((cfg0.win 5).blk t).view.emb (ix2 z s) = ix2 0 s from ext2
    (by show win0_5.index t 0 * 1 + 1 * z.val = 0; omega) (by show win0_5.index t 1 * 512 + 1 * s.val = s.val; omega)]
  pointwise
  rfl

theorem idx_6 : ∀ t : Fin grid0.N, win0_6.index t 0 = t.val ∧ win0_6.index t 1 = 0 := by decide +kernel

theorem blk_6 (t : Fin cfg0.N) : (iblk m c 6 t : Vec Ideal S128x128 .f32) = rows (Cos m c) (pt t) := by
  have e := idx_6 t
  funext y
  unfold iblk
  rw [View.read_apply]
  show V m c main_arg3 _ = _
  rw [V_main_arg3]
  exact congrArg (m ((c : Thread nD τ).loc main_arg3)) (ext2
    (by show win0_6.index t 0 * 128 + 1 * (y 0).val = 128 * t.val + (y 0).val; omega)
    (by show win0_6.index t 1 * 128 + 1 * (y 1).val = (y 1).val; omega))

theorem idx_7 : ∀ t : Fin grid0.N, win0_7.index t 0 = t.val ∧ win0_7.index t 1 = 0 := by decide +kernel

theorem blk_7 (t : Fin cfg0.N) : (iblk m c 7 t : Vec Ideal S128x128 .f32) = rows (Sin m c) (pt t) := by
  have e := idx_7 t
  funext y
  unfold iblk
  rw [View.read_apply]
  show V m c main_arg4 _ = _
  rw [V_main_arg4]
  exact congrArg (m ((c : Thread nD τ).loc main_arg4)) (ext2
    (by show win0_7.index t 0 * 128 + 1 * (y 0).val = 128 * t.val + (y 0).val; omega)
    (by show win0_7.index t 1 * 128 + 1 * (y 1).val = (y 1).val; omega))

theorem idx_8 : ∀ t : Fin grid0.N, win0_8.index t 0 = t.val ∧ win0_8.index t 1 = 0 := by decide +kernel

theorem blk_8 (t : Fin cfg0.N) : (iblk m c 8 t : Vec Ideal S128x512 .f32) = rows (DQ m c) (pt t) := by
  have e := idx_8 t
  funext y
  unfold iblk
  rw [View.read_apply]
  show V m c main_arg5 _ = _
  rw [V_main_arg5]
  exact congrArg (m ((c : Thread nD τ).loc main_arg5)) (ext2
    (by show win0_8.index t 0 * 128 + 1 * (y 0).val = 128 * t.val + (y 0).val; omega)
    (by show win0_8.index t 1 * 512 + 1 * (y 1).val = (y 1).val; omega))

theorem idx_9 : ∀ t : Fin grid0.N, win0_9.index t 0 = t.val ∧ win0_9.index t 1 = 0 := by decide +kernel

theorem blk_9 (t : Fin cfg0.N) : (iblk m c 9 t : Vec Ideal S128x512 .f32) = rows (DK m c) (pt t) := by
  have e := idx_9 t
  funext y
  unfold iblk
  rw [View.read_apply]
  show V m c main_arg6 _ = _
  rw [V_main_arg6]
  exact congrArg (m ((c : Thread nD τ).loc main_arg6)) (ext2
    (by show win0_9.index t 0 * 128 + 1 * (y 0).val = 128 * t.val + (y 0).val; omega)
    (by show win0_9.index t 1 * 512 + 1 * (y 1).val = (y 1).val; omega))

theorem idx_10 : ∀ t : Fin grid0.N, win0_10.index t 0 = t.val ∧ win0_10.index t 1 = 0 := by decide +kernel

theorem blk_10 (t : Fin cfg0.N) : (iblk m c 10 t : Vec Ideal S128x128 .f32) = rows (DP m c) (pt t) := by
  have e := idx_10 t
  funext y
  unfold iblk
  rw [View.read_apply]
  show V m c main_arg7 _ = _
  rw [V_main_arg7]
  exact congrArg (m ((c : Thread nD τ).loc main_arg7)) (ext2
    (by show win0_10.index t 0 * 128 + 1 * (y 0).val = 128 * t.val + (y 0).val; omega)
    (by show win0_10.index t 1 * 128 + 1 * (y 1).val = (y 1).val; omega))

/-! ## What a point leaves -/

/-- The blocks a point leaves, from those it reads and the sums it finds. -/
def leaves (x0 : Vec Ideal S128x512 .f32) (x1 : Vec Ideal S128x512 .f32) (x4 : Vec Ideal S1x512 .f32) (x5 : Vec Ideal S1x512 .f32) (x6 : Vec Ideal S128x128 .f32) (x7 : Vec Ideal S128x128 .f32) (x8 : Vec Ideal S128x512 .f32) (x9 : Vec Ideal S128x512 .f32) (x10 : Vec Ideal S128x128 .f32)
    (a4 : Vec Ideal S1x512 .f32) (a5 : Vec Ideal S1x512 .f32) :
    Vec Ideal S128x512 .bf16 × Vec Ideal S128x512 .bf16 × Vec Ideal S128x128 .bf16 × Vec Ideal S128x128 .bf16 × Vec Ideal S1x512 .f32 × Vec Ideal S1x512 .f32 :=
  (k0_pay22 (F := Ideal) x0 (k0_pay8 x4) x8 (k0_pay11 x0) (k0_pay12 x0),
    k0_pay1 (F := Ideal) (k0_pay20 x1 (k0_pay9 x5) x9 (k0_pay15 x1) (k0_pay16 x1)),
    k0_pay2 (F := Ideal) (k0_pay18 x6 x10),
    k0_pay3 (F := Ideal) (k0_pay17 x7 x10),
    k0_pay5 (F := Ideal) (k0_pay21 x8 (k0_pay13 x0)) a4,
    k0_pay7 (F := Ideal) (k0_pay19 x1 x9 (k0_pay15 x1)) a5)

/-- The blocks a point leaves, from the sums it finds. -/
abbrev left (t : Fin cfg0.N) := leaves (iblk m c 0 t) (iblk m c 1 t) (iblk m c 4 t) (iblk m c 5 t) (iblk m c 6 t) (iblk m c 7 t) (iblk m c 8 t) (iblk m c 9 t) (iblk m c 10 t)

/-- The first point starts the sums at zero. -/
theorem first (t : Fin cfg0.N) (h0 : t.val % 17 = 0) :
    outsAt0 m c t.val t.isLt = left m c t (k0_pay4 (F := Ideal)) (k0_pay6 (F := Ideal)) := by
  rw [outsAt0_A m c t h0 h0]
  unfold left leaves
  refine Prod.ext ?_ (Prod.ext ?_ (Prod.ext ?_ (Prod.ext ?_ (Prod.ext ?_ ?_)))) <;> dsimp only
  all_goals first | unfold out0_A_11 | unfold out0_A_12 | unfold out0_A_13 | unfold out0_A_14 | unfold out0_A_15 | unfold out0_A_16
  all_goals
    rw [View.read_writes_eq_canon]; swap
    · intro y; first | (apply cover0_A_11; done) | (apply cover0_A_12; done) | (apply cover0_A_13; done) | (apply cover0_A_14; done) | (apply cover0_A_15; done) | (apply cover0_A_16; done)
    unfold kernelRun0_A; dsimp only; sl_unfold_words
    first
      | rw [View.canon_cons_unit_zero (S := S1x512) zero2, View.readCov_unit_zero (S := S1x512) _ zero2]
      | rw [View.canon_unit_zero zero2]
    simp only [View.readAt_eq_ld, (hs0_0 t).read_unread, (hs0_1 t).read_unread, (hs0_4 t).read_unread, (hs0_5 t).read_unread, (hs0_6 t).read_unread, (hs0_7 t).read_unread, (hs0_8 t).read_unread, (hs0_9 t).read_unread, (hs0_10 t).read_unread,
      ld2]

/-- Another adds to what the point before it left. -/
theorem later (t : Fin cfg0.N) (h0 : ¬t.val % 17 = 0) (h : t.val - 1 < cfg0.N) :
    outsAt0 m c t.val t.isLt = left m c t (outsAt0 m c (t.val - 1) h).2.2.2.2.1 (outsAt0 m c (t.val - 1) h).2.2.2.2.2 := by
  rw [outsAt0_B m c t h0 h0]
  unfold left leaves
  refine Prod.ext ?_ (Prod.ext ?_ (Prod.ext ?_ (Prod.ext ?_ (Prod.ext ?_ ?_)))) <;> dsimp only
  all_goals first | unfold out0_B_11 | unfold out0_B_12 | unfold out0_B_13 | unfold out0_B_14 | unfold out0_B_15 | unfold out0_B_16
  all_goals
    rw [View.read_writes_eq_canon]; swap
    · intro y; first | (apply cover0_B_11; done) | (apply cover0_B_12; done) | (apply cover0_B_13; done) | (apply cover0_B_14; done) | (apply cover0_B_15; done) | (apply cover0_B_16; done)
    unfold kernelRun0_B; dsimp only; sl_unfold_words
    rw [View.canon_unit_zero zero2]
    simp only [View.readAt_eq_ld, (hs0_0 t).read_unread, (hs0_1 t).read_unread, (hs0_4 t).read_unread, (hs0_5 t).read_unread, (hs0_6 t).read_unread, (hs0_7 t).read_unread, (hs0_8 t).read_unread, (hs0_9 t).read_unread, (hs0_10 t).read_unread, (hs0_15 t).read_unread, (hs0_16 t).read_unread,
      ld2]

/-! ## The gradient of the queries' latent columns -/

abbrev val_11 (i : S2176x512.Idx) : EReal := rowGrad d512 (CQ m c) (DQ m c) (GQ m c) (i 0) (i 1)

/-- The array. -/
def arr_11 : Buf (Elt Ideal) ((c : Thread nD τ).loc main_v2_0) := val_11 m c

theorem idx_11 : ∀ t : Fin grid0.N, win0_11.index t 0 = t.val ∧ win0_11.index t 1 = 0 := by decide +kernel

theorem block_11 (t : Fin cfg0.N) (a4 : Vec Ideal S1x512 .f32) (a5 : Vec Ideal S1x512 .f32) (r : Fin 128) (s : Fin 512) :
    @Eq EReal ((left m c t a4 a5).1 (ix2 r s)) (val_11 m c (ix2 (row (pt t) r) s)) := by
  unfold left
  rw [blk_0, blk_1, blk_4, blk_5, blk_6, blk_7, blk_8, blk_9, blk_10]
  exact pay_cq _ _ _ _ r s

theorem flushed_11 (t : Fin cfg0.N) (hf : (cfg0.win 11).flush t = true) :
    (dats m 0 c).flushed 11 t = ((cfg0.win 11).blk t).view.read (Elt Ideal) (arr_11 m c) := by
  have e := idx_11 t
  rw [Value.flushed11]
  funext y
  obtain ⟨r, s, rfl⟩ := of2 (a := 128) (b := 512) y
  rw [View.read_apply]
  refine Eq.trans (b := val_11 m c (ix2 (row (pt t) r) s)) ?_ (congrArg (val_11 m c) (ext2
    (by show 128 * t.val + r.val = win0_11.index t 0 * 128 + 1 * r.val; omega)
    (by show s.val = win0_11.index t 1 * 512 + 1 * s.val; omega)))
  by_cases h0 : t.val % 17 = 0
  · rw [first m c t h0]; exact block_11 m c t _ _ r s
  · rw [later m c t h0 (lt_of_le_of_lt (Nat.sub_le _ _) t.isLt)]; exact block_11 m c t _ _ r s

theorem final_11 : (dats m 0 c).arrAt 11 cfg0.N = arr_11 m c :=
  (dats m 0 c).arrAt_eq_of_cover 11 (arr_11 m c) (flushed_11 m c) fun i : S2176x512.Idx => by
    obtain ⟨h0, h1⟩ := below2 i
    obtain ⟨t, ht⟩ : ∃ t : Fin cfg0.N, t.val = (i 0).val / 128 := ⟨⟨_, by rw [show cfg0.N = 17 from N_0]; omega⟩, rfl⟩
    have e := idx_11 t
    refine ⟨t, flush0_11 t, ?_⟩
    show i ∈ ((View.whole main_v2_0).slice (win0_11.rect t)).set
    rw [View.set_slice_whole, Rect.mem_set_unit]
    exact cover2 (win0_11.index t) 128 512 i (by omega)

/-! ## The gradient of the keys' and values' latent columns -/

abbrev val_12 (i : S2176x512.Idx) : EReal := rowGrad d512 (CK m c) (DK m c) (GK m c) (i 0) (i 1)

/-- The array. -/
def arr_12 : Buf (Elt Ideal) ((c : Thread nD τ).loc main_v2_1) := val_12 m c

theorem idx_12 : ∀ t : Fin grid0.N, win0_12.index t 0 = t.val ∧ win0_12.index t 1 = 0 := by decide +kernel

theorem block_12 (t : Fin cfg0.N) (a4 : Vec Ideal S1x512 .f32) (a5 : Vec Ideal S1x512 .f32) (r : Fin 128) (s : Fin 512) :
    @Eq EReal ((left m c t a4 a5).2.1 (ix2 r s)) (val_12 m c (ix2 (row (pt t) r) s)) := by
  unfold left
  rw [blk_0, blk_1, blk_4, blk_5, blk_6, blk_7, blk_8, blk_9, blk_10]
  exact pay_ck _ _ _ _ r s

theorem flushed_12 (t : Fin cfg0.N) (hf : (cfg0.win 12).flush t = true) :
    (dats m 0 c).flushed 12 t = ((cfg0.win 12).blk t).view.read (Elt Ideal) (arr_12 m c) := by
  have e := idx_12 t
  rw [Value.flushed12]
  funext y
  obtain ⟨r, s, rfl⟩ := of2 (a := 128) (b := 512) y
  rw [View.read_apply]
  refine Eq.trans (b := val_12 m c (ix2 (row (pt t) r) s)) ?_ (congrArg (val_12 m c) (ext2
    (by show 128 * t.val + r.val = win0_12.index t 0 * 128 + 1 * r.val; omega)
    (by show s.val = win0_12.index t 1 * 512 + 1 * s.val; omega)))
  by_cases h0 : t.val % 17 = 0
  · rw [first m c t h0]; exact block_12 m c t _ _ r s
  · rw [later m c t h0 (lt_of_le_of_lt (Nat.sub_le _ _) t.isLt)]; exact block_12 m c t _ _ r s

theorem final_12 : (dats m 0 c).arrAt 12 cfg0.N = arr_12 m c :=
  (dats m 0 c).arrAt_eq_of_cover 12 (arr_12 m c) (flushed_12 m c) fun i : S2176x512.Idx => by
    obtain ⟨h0, h1⟩ := below2 i
    obtain ⟨t, ht⟩ : ∃ t : Fin cfg0.N, t.val = (i 0).val / 128 := ⟨⟨_, by rw [show cfg0.N = 17 from N_0]; omega⟩, rfl⟩
    have e := idx_12 t
    refine ⟨t, flush0_12 t, ?_⟩
    show i ∈ ((View.whole main_v2_1).slice (win0_12.rect t)).set
    rw [View.set_slice_whole, Rect.mem_set_unit]
    exact cover2 (win0_12.index t) 128 512 i (by omega)

/-! ## The gradient of the keys' rotated columns, the part of the cosines -/

abbrev val_13 (i : S2176x128.Idx) : EReal := times (DP m c) (Cos m c) (i 0) (i 1)

/-- The array. -/
def arr_13 : Buf (Elt Ideal) ((c : Thread nD τ).loc main_v2_2) := val_13 m c

theorem idx_13 : ∀ t : Fin grid0.N, win0_13.index t 0 = t.val ∧ win0_13.index t 1 = 0 := by decide +kernel

theorem block_13 (t : Fin cfg0.N) (a4 : Vec Ideal S1x512 .f32) (a5 : Vec Ideal S1x512 .f32) (r : Fin 128) (s : Fin 128) :
    @Eq EReal ((left m c t a4 a5).2.2.1 (ix2 r s)) (val_13 m c (ix2 (row (pt t) r) s)) := by
  unfold left
  rw [blk_0, blk_1, blk_4, blk_5, blk_6, blk_7, blk_8, blk_9, blk_10]
  exact pay_cos _ _ _ r s

theorem flushed_13 (t : Fin cfg0.N) (hf : (cfg0.win 13).flush t = true) :
    (dats m 0 c).flushed 13 t = ((cfg0.win 13).blk t).view.read (Elt Ideal) (arr_13 m c) := by
  have e := idx_13 t
  rw [Value.flushed13]
  funext y
  obtain ⟨r, s, rfl⟩ := of2 (a := 128) (b := 128) y
  rw [View.read_apply]
  refine Eq.trans (b := val_13 m c (ix2 (row (pt t) r) s)) ?_ (congrArg (val_13 m c) (ext2
    (by show 128 * t.val + r.val = win0_13.index t 0 * 128 + 1 * r.val; omega)
    (by show s.val = win0_13.index t 1 * 128 + 1 * s.val; omega)))
  by_cases h0 : t.val % 17 = 0
  · rw [first m c t h0]; exact block_13 m c t _ _ r s
  · rw [later m c t h0 (lt_of_le_of_lt (Nat.sub_le _ _) t.isLt)]; exact block_13 m c t _ _ r s

theorem final_13 : (dats m 0 c).arrAt 13 cfg0.N = arr_13 m c :=
  (dats m 0 c).arrAt_eq_of_cover 13 (arr_13 m c) (flushed_13 m c) fun i : S2176x128.Idx => by
    obtain ⟨h0, h1⟩ := below2 i
    obtain ⟨t, ht⟩ : ∃ t : Fin cfg0.N, t.val = (i 0).val / 128 := ⟨⟨_, by rw [show cfg0.N = 17 from N_0]; omega⟩, rfl⟩
    have e := idx_13 t
    refine ⟨t, flush0_13 t, ?_⟩
    show i ∈ ((View.whole main_v2_2).slice (win0_13.rect t)).set
    rw [View.set_slice_whole, Rect.mem_set_unit]
    exact cover2 (win0_13.index t) 128 128 i (by omega)

/-! ## The part of the sines -/

abbrev val_14 (i : S2176x128.Idx) : EReal := times (DP m c) (Sin m c) (i 0) (i 1)

/-- The array. -/
def arr_14 : Buf (Elt Ideal) ((c : Thread nD τ).loc main_v2_3) := val_14 m c

theorem idx_14 : ∀ t : Fin grid0.N, win0_14.index t 0 = t.val ∧ win0_14.index t 1 = 0 := by decide +kernel

theorem block_14 (t : Fin cfg0.N) (a4 : Vec Ideal S1x512 .f32) (a5 : Vec Ideal S1x512 .f32) (r : Fin 128) (s : Fin 128) :
    @Eq EReal ((left m c t a4 a5).2.2.2.1 (ix2 r s)) (val_14 m c (ix2 (row (pt t) r) s)) := by
  unfold left
  rw [blk_0, blk_1, blk_4, blk_5, blk_6, blk_7, blk_8, blk_9, blk_10]
  exact pay_sin _ _ _ r s

theorem flushed_14 (t : Fin cfg0.N) (hf : (cfg0.win 14).flush t = true) :
    (dats m 0 c).flushed 14 t = ((cfg0.win 14).blk t).view.read (Elt Ideal) (arr_14 m c) := by
  have e := idx_14 t
  rw [Value.flushed14]
  funext y
  obtain ⟨r, s, rfl⟩ := of2 (a := 128) (b := 128) y
  rw [View.read_apply]
  refine Eq.trans (b := val_14 m c (ix2 (row (pt t) r) s)) ?_ (congrArg (val_14 m c) (ext2
    (by show 128 * t.val + r.val = win0_14.index t 0 * 128 + 1 * r.val; omega)
    (by show s.val = win0_14.index t 1 * 128 + 1 * s.val; omega)))
  by_cases h0 : t.val % 17 = 0
  · rw [first m c t h0]; exact block_14 m c t _ _ r s
  · rw [later m c t h0 (lt_of_le_of_lt (Nat.sub_le _ _) t.isLt)]; exact block_14 m c t _ _ r s

theorem final_14 : (dats m 0 c).arrAt 14 cfg0.N = arr_14 m c :=
  (dats m 0 c).arrAt_eq_of_cover 14 (arr_14 m c) (flushed_14 m c) fun i : S2176x128.Idx => by
    obtain ⟨h0, h1⟩ := below2 i
    obtain ⟨t, ht⟩ : ∃ t : Fin cfg0.N, t.val = (i 0).val / 128 := ⟨⟨_, by rw [show cfg0.N = 17 from N_0]; omega⟩, rfl⟩
    have e := idx_14 t
    refine ⟨t, flush0_14 t, ?_⟩
    show i ∈ ((View.whole main_v2_3).slice (win0_14.rect t)).set
    rw [View.set_slice_whole, Rect.mem_set_unit]
    exact cover2 (win0_14.index t) 128 128 i (by omega)

/-! ## The gradient of the queries' gains -/

abbrev val_15 (i : Fin 2176) (s : Fin 512) : EReal := rowGain d512 (CQ m c) (DQ m c) i s

/-- The array. -/
def arr_15 : Buf (Elt Ideal) ((c : Thread nD τ).loc main_v2_4) := fun i : S1x512.Idx => (∑ j, val_15 m c j (i 1) : EReal)

theorem idx_15 : ∀ t : Fin grid0.N, win0_15.index t 0 = 0 ∧ win0_15.index t 1 = 0 := by decide +kernel

theorem block_15 (t : Fin cfg0.N) (a4 : Vec Ideal S1x512 .f32) (a5 : Vec Ideal S1x512 .f32) (s : Fin 512) :
    (left m c t a4 a5).2.2.2.2.1 (ix2 0 s) = a4 (ix2 0 s) + ∑ r, val_15 m c (row (pt t) r) s := by
  unfold left
  rw [blk_0, blk_1, blk_4, blk_5, blk_6, blk_7, blk_8, blk_9, blk_10]
  exact pay_gq _ _ _ _ s

theorem whole_15 (t : Fin cfg0.N) (h : t.val % 17 = 16) (s : Fin 512) :
    (outsAt0 m c t.val t.isLt).2.2.2.2.1 (ix2 0 s) = ∑ j, val_15 m c j s :=
  grid_sum N_0 (fun n h => (outsAt0 m c n h).2.2.2.2.1 (ix2 0 s)) (fun i => val_15 m c i s)
    (fun n h h0 => by
      rw [first m c ⟨n, h⟩ h0]
      refine (block_15 m c ⟨n, h⟩ _ _ s).trans ?_
      rw [pay_zero4, zero_add])
    (fun n h h0 h' => by rw [later m c ⟨n, h⟩ h0 h']; exact block_15 m c ⟨n, h⟩ _ _ s) t.val t.isLt h

theorem flushed_15 (t : Fin cfg0.N) (hf : (cfg0.win 15).flush t = true) :
    (dats m 0 c).flushed 15 t = ((cfg0.win 15).blk t).view.read (Elt Ideal) (arr_15 m c) := by
  have e := idx_15 t
  rw [Value.flushed15]
  funext y
  obtain ⟨z, s, rfl⟩ := of2 (a := 1) (b := 512) y
  obtain rfl : z = 0 := Subsingleton.elim _ _
  rw [View.read_apply]
  exact (whole_15 m c t ((flush0_15 t).mp hf) s).trans (congrArg (fun q : Fin 512 => ∑ j, val_15 m c j q)
    (Fin.ext (by show s.val = win0_15.index t 1 * 512 + 1 * s.val; omega)))

theorem final_15 : (dats m 0 c).arrAt 15 cfg0.N = arr_15 m c :=
  (dats m 0 c).arrAt_eq_of_cover 15 (arr_15 m c) (flushed_15 m c) fun i : S1x512.Idx => by
    obtain ⟨h0, h1⟩ := below2 i
    obtain ⟨t, ht⟩ : ∃ t : Fin cfg0.N, t.val = 16 := ⟨⟨_, lt_of_lt_of_eq (by omega : 16 < 17) N_0.symm⟩, rfl⟩
    have e := idx_15 t
    refine ⟨t, (flush0_15 t).mpr (by omega), ?_⟩
    show i ∈ ((View.whole main_v2_4).slice (win0_15.rect t)).set
    rw [View.set_slice_whole, Rect.mem_set_unit]
    exact cover2 (win0_15.index t) 1 512 i (by omega)

/-! ## The gradient of the keys' and values' gains -/

abbrev val_16 (i : Fin 2176) (s : Fin 512) : EReal := rowGain d512 (CK m c) (DK m c) i s

/-- The array. -/
def arr_16 : Buf (Elt Ideal) ((c : Thread nD τ).loc main_v2_5) := fun i : S1x512.Idx => (∑ j, val_16 m c j (i 1) : EReal)

theorem idx_16 : ∀ t : Fin grid0.N, win0_16.index t 0 = 0 ∧ win0_16.index t 1 = 0 := by decide +kernel

theorem block_16 (t : Fin cfg0.N) (a4 : Vec Ideal S1x512 .f32) (a5 : Vec Ideal S1x512 .f32) (s : Fin 512) :
    (left m c t a4 a5).2.2.2.2.2 (ix2 0 s) = a5 (ix2 0 s) + ∑ r, val_16 m c (row (pt t) r) s := by
  unfold left
  rw [blk_0, blk_1, blk_4, blk_5, blk_6, blk_7, blk_8, blk_9, blk_10]
  exact pay_gk _ _ _ _ s

theorem whole_16 (t : Fin cfg0.N) (h : t.val % 17 = 16) (s : Fin 512) :
    (outsAt0 m c t.val t.isLt).2.2.2.2.2 (ix2 0 s) = ∑ j, val_16 m c j s :=
  grid_sum N_0 (fun n h => (outsAt0 m c n h).2.2.2.2.2 (ix2 0 s)) (fun i => val_16 m c i s)
    (fun n h h0 => by
      rw [first m c ⟨n, h⟩ h0]
      refine (block_16 m c ⟨n, h⟩ _ _ s).trans ?_
      rw [pay_zero6, zero_add])
    (fun n h h0 h' => by rw [later m c ⟨n, h⟩ h0 h']; exact block_16 m c ⟨n, h⟩ _ _ s) t.val t.isLt h

theorem flushed_16 (t : Fin cfg0.N) (hf : (cfg0.win 16).flush t = true) :
    (dats m 0 c).flushed 16 t = ((cfg0.win 16).blk t).view.read (Elt Ideal) (arr_16 m c) := by
  have e := idx_16 t
  rw [Value.flushed16]
  funext y
  obtain ⟨z, s, rfl⟩ := of2 (a := 1) (b := 512) y
  obtain rfl : z = 0 := Subsingleton.elim _ _
  rw [View.read_apply]
  exact (whole_16 m c t ((flush0_16 t).mp hf) s).trans (congrArg (fun q : Fin 512 => ∑ j, val_16 m c j q)
    (Fin.ext (by show s.val = win0_16.index t 1 * 512 + 1 * s.val; omega)))

theorem final_16 : (dats m 0 c).arrAt 16 cfg0.N = arr_16 m c :=
  (dats m 0 c).arrAt_eq_of_cover 16 (arr_16 m c) (flushed_16 m c) fun i : S1x512.Idx => by
    obtain ⟨h0, h1⟩ := below2 i
    obtain ⟨t, ht⟩ : ∃ t : Fin cfg0.N, t.val = 16 := ⟨⟨_, lt_of_lt_of_eq (by omega : 16 < 17) N_0.symm⟩, rfl⟩
    have e := idx_16 t
    refine ⟨t, (flush0_16 t).mpr (by omega), ?_⟩
    show i ∈ ((View.whole main_v2_5).slice (win0_16.rect t)).set
    rw [View.set_slice_whole, Rect.mem_set_unit]
    exact cover2 (win0_16.index t) 1 512 i (by omega)

end Cert.Kernel18Ideal.PrepBwd
-- ==== Proof.PrepBwd.Reference.lean ====
/- The reference of the gradient of the latent attention's inputs, entry by entry. -/
module

public import proofs.«01_k».proof.Proof.Gen.Reference18Ideal.Read
public import proofs.«01_k».proof.Proof.Norm.Math
public import Idealize.ShloMosaic.Lib.Pointwise

@[expose] public noncomputable section

set_option maxRecDepth 16384

namespace Cert.Reference18Ideal.PrepBwd

open Cert.Reference18Ideal Cert.Reference18Ideal.Gen Cert.Reference18Ideal.Read Idealize.ShloMosaic Cert.Norm

theorem v0_eq (X : Mat 13824) : val_main_v0 (F := Ideal) X = cols (wd := 512) 12288 (by decide) X := by
  funext i
  obtain ⟨r, s, rfl⟩ : ∃ (r : Fin 2176) (s : Fin 512), i = ix2 r s := ⟨i 0, i 1, eq_ix2 i⟩
  rw [val_main_v0_apply]
  show X _ = X _
  congr 1
  funext a
  match a with
  | ⟨0, _⟩ => rfl
  | ⟨1, _⟩ => exact Fin.ext (by simp [idx_main_v0, col, ix2]; try omega)

theorem v1_eq (X : Mat 13824) : val_main_v1 (F := Ideal) X = cols (wd := 512) 12800 (by decide) X := by
  funext i
  obtain ⟨r, s, rfl⟩ : ∃ (r : Fin 2176) (s : Fin 512), i = ix2 r s := ⟨i 0, i 1, eq_ix2 i⟩
  rw [val_main_v1_apply]
  show X _ = X _
  congr 1
  funext a
  match a with
  | ⟨0, _⟩ => rfl
  | ⟨1, _⟩ => exact Fin.ext (by simp [idx_main_v1, col, ix2]; try omega)

theorem mean_q (X : Mat 13824) (i : Fin 2176) (z : Fin 1) :
    @Eq EReal (val_main_v10 (F := Ideal) X (ix2 i z)) (ms d512 fun k : Fin 512 => (cols (wd := 512) 12288 (by decide) X) (ix2 i k)) := by
  unfold val_main_v10 val_main_v9 val_main_cst_1 val_main_v8 val_main_v7 val_main_cst_0 val_main_v6 val_main_v5
    val_main_cst val_main_v4
  rw [v0_eq]
  generalize (cols (wd := 512) 12288 (by decide) X) = x
  pointwise
  rfl

theorem mean_k (X : Mat 13824) (i : Fin 2176) (z : Fin 1) :
    @Eq EReal (val_main_v26 (F := Ideal) X (ix2 i z)) (ms d512 fun k : Fin 512 => (cols (wd := 512) 12800 (by decide) X) (ix2 i k)) := by
  unfold val_main_v26 val_main_v25 val_main_cst_5 val_main_v24 val_main_v23 val_main_cst_4 val_main_v22
    val_main_v21 val_main_cst_3 val_main_v20
  rw [v1_eq]
  generalize (cols (wd := 512) 12800 (by decide) X) = x
  pointwise
  rfl

theorem at_11 (X : Mat 13824) (g : Gains 512) (Y : Mat 512) (i : Fin 2176) (s : Fin 512) :
    @Eq EReal (val_main_v83 (F := Ideal) X g Y (ix2 i s)) (rowGrad d512 (cols (wd := 512) 12288 (by decide) X) Y g i s) := by
  have h := mean_q X
  unfold val_main_v83 val_main_v82 val_main_v81 val_main_v80 val_main_v79 val_main_v78 val_main_v77
    val_main_cst_16 val_main_v76 val_main_v75 val_main_cst_15 val_main_v74 val_main_v14 val_main_v12
    val_main_v13 val_main_cst_2 val_main_v71 val_main_v70 val_main_cst_14 val_main_v69 val_main_v73 val_main_v72
    val_main_v11 val_main_v67 val_main_v66 val_main_v17
  rw [v0_eq]
  generalize val_main_v10 (F := Ideal) X = w at h ⊢
  generalize (cols (wd := 512) 12288 (by decide) X) = x at h ⊢
  pointwise
  simp only [h, Fin.sum_univ_one]
  rfl

theorem at_12 (X : Mat 13824) (g : Gains 512) (Y : Mat 512) (i : Fin 2176) (s : Fin 512) :
    @Eq EReal (val_main_v84 (F := Ideal) X g Y (ix2 i s)) (rowGrad d512 (cols (wd := 512) 12800 (by decide) X) Y g i s) := by
  have h := mean_k X
  unfold val_main_v84 val_main_v62 val_main_v61 val_main_v60 val_main_v59 val_main_v58 val_main_v57
    val_main_cst_11 val_main_v56 val_main_v55 val_main_cst_10 val_main_v54 val_main_v30 val_main_v28
    val_main_v29 val_main_cst_6 val_main_v51 val_main_v50 val_main_cst_9 val_main_v49 val_main_v53 val_main_v52
    val_main_v27 val_main_v47 val_main_v46 val_main_v33
  rw [v1_eq]
  generalize val_main_v26 (F := Ideal) X = w at h ⊢
  generalize (cols (wd := 512) 12800 (by decide) X) = x at h ⊢
  pointwise
  simp only [h, Fin.sum_univ_one]
  rfl

theorem at_13 (C Y : Mat 128) (i : Fin 2176) (s : Fin 128) :
    @Eq EReal (val_main_v85 (F := Ideal) C Y (ix2 i s)) (times Y C i s) := by
  unfold val_main_v85 val_main_v42 val_main_v39
  pointwise
  rfl

theorem at_14 (S Y : Mat 128) (i : Fin 2176) (s : Fin 128) :
    @Eq EReal (val_main_v86 (F := Ideal) S Y (ix2 i s)) (times Y S i s) := by
  unfold val_main_v86 val_main_v41 val_main_v40
  pointwise
  rfl

theorem at_15 (X : Mat 13824) (Y : Mat 512) (z : Fin 1) (s : Fin 512) :
    @Eq EReal (val_main_v87 (F := Ideal) X Y (ix2 z s)) (∑ j : Fin 2176, rowGain d512 (cols (wd := 512) 12288 (by decide) X) Y j s) := by
  have h := mean_q X
  unfold val_main_v87 val_main_v68 val_main_cst_13 val_main_v65 val_main_v64 val_main_cst_12 val_main_v63
    val_main_v16 val_main_v15 val_main_v11
  rw [v0_eq]
  generalize val_main_v10 (F := Ideal) X = w at h ⊢
  generalize (cols (wd := 512) 12288 (by decide) X) = x at h ⊢
  pointwise
  simp only [h, Fin.sum_univ_one]
  rfl

theorem at_16 (X : Mat 13824) (Y : Mat 512) (z : Fin 1) (s : Fin 512) :
    @Eq EReal (val_main_v88 (F := Ideal) X Y (ix2 z s)) (∑ j : Fin 2176, rowGain d512 (cols (wd := 512) 12800 (by decide) X) Y j s) := by
  have h := mean_k X
  unfold val_main_v88 val_main_v48 val_main_cst_8 val_main_v45 val_main_v44 val_main_cst_7 val_main_v43
    val_main_v32 val_main_v31 val_main_v27
  rw [v1_eq]
  generalize val_main_v26 (F := Ideal) X = w at h ⊢
  generalize (cols (wd := 512) 12800 (by decide) X) = x at h ⊢
  pointwise
  simp only [h, Fin.sum_univ_one]
  rfl

end Cert.Reference18Ideal.PrepBwd
-- ==== Proof.PrepBwd.Claims.lean ====
/- The claims about the gradient of the latent attention's inputs. -/
module

public import proofs.«01_k».proof.Defs
public import proofs.«01_k».proof.Proof.Gen.Kernel18.Frame
public import proofs.«01_k».proof.Proof.Gen.Reference18Ideal.Run
public import proofs.«01_k».proof.Proof.PrepBwd.Array
public import proofs.«01_k».proof.Proof.PrepBwd.Reference

@[expose] public noncomputable section

set_option maxRecDepth 16384

namespace Cert.Proof.PrepBwd

open Idealize.ShloMosaic Idealize.ShloMosaic.TcCoe Idealize.SL.Sem Cert.Kernel18Ideal.PrepBwd Cert.Reference18Ideal.PrepBwd Cert.Reference18Ideal.Read Cert.Idx

theorem frame_p : Cert.quiescent_Kernel18 := fun m ρ _ => Cert.Kernel18.Gen.frame m ρ
theorem frame_pi : Cert.quiescent_Kernel18Ideal := fun m ρ _ => Cert.Kernel18Ideal.Gen.frame m ρ
theorem frame_ri : Cert.quiescent_Reference18Ideal := fun m ρ _ =>
  (θ_run Cert.Reference18Ideal.defs _ _).mono (fun r h => ⟨fun c => (h c).2.2.2.2.2.2, sem_eq_zero_of_no_sems (by decide) r.2⟩)
    (Cert.Reference18Ideal.Value.run (F := Ideal) m ρ)

/-- Nothing is rewritten: the two programs have one text. -/
theorem preserves : Cert.preserves_Kernel18_Kernel18Ideal := trivial

/-- The kernel and the reference compute the same. -/
theorem algebraic : Cert.algebraic_Kernel18Ideal_Reference18Ideal := by
  intro m ρ m' ρ' _ hagree
  refine ⟨fun c => arr_11 m c, fun c => arr_12 m c, fun c => arr_13 m c, fun c => arr_14 m c, fun c => arr_15 m c, fun c => arr_16 m c, ?_, ?_⟩
  · refine (θ_run Cert.Kernel18Ideal.defs _ _).mono (fun r h c => ?_) (Cert.Kernel18Ideal.Value.run_blocks (F := Ideal) m ρ)
    obtain ⟨h0, h1, h2, h3, h4, h5, hk⟩ := h c
    exact ⟨h0.trans (final_11 m c), h1.trans (final_12 m c), h2.trans (final_13 m c), h3.trans (final_14 m c), h4.trans (final_15 m c), h5.trans (final_16 m c), hk⟩
  · refine (θ_run Cert.Reference18Ideal.defs _ _).mono (fun r h c => ?_) (Cert.Reference18Ideal.Value.run (F := Ideal) m' ρ')
    obtain ⟨h0, h1, h2, h3, h4, h5, hk⟩ := h c
    obtain ⟨a0, a1, a2, a3, a4, a5, a6, a7⟩ := hagree c
    rw [val_main_v83_eq, a0, a1, a5] at h0
    rw [val_main_v84_eq, a0, a2, a6] at h1
    rw [val_main_v85_eq, a3, a7] at h2
    rw [val_main_v86_eq, a4, a7] at h3
    rw [val_main_v87_eq, a0, a5] at h4
    rw [val_main_v88_eq, a0, a6] at h5
    refine ⟨h0.trans (all2 fun r s => ?_), h1.trans (all2 fun r s => ?_), h2.trans (all2 fun r s => ?_), h3.trans (all2 fun r s => ?_), h4.trans (all2 fun r s => ?_), h5.trans (all2 fun r s => ?_), hk⟩
    · exact at_11 _ _ _ r s
    · exact at_12 _ _ _ r s
    · exact at_13 _ _ r s
    · exact at_14 _ _ r s
    · exact at_15 _ _ r s
    · exact at_16 _ _ r s

end Cert.Proof.PrepBwd
-- ==== Proof.Resid.Payload.lean ====
/- What the residual with its two normalisations computes from one block of 128 rows. -/
module

public import proofs.«01_k».proof.Proof.Gen.Kernel22Ideal.Skeleton
public import proofs.«01_k».proof.Proof.Norm.Math
public import Idealize.ShloMosaic.Lib.Pointwise

@[expose] public noncomputable section

set_option maxRecDepth 16384

namespace Cert.Kernel22Ideal.Resid

open Cert.Kernel22Ideal Cert.Kernel22Ideal.Gen Idealize.ShloMosaic Cert.Norm

theorem pay_h (H M : Mat 2048) (g : Gains 2048) (n : Fin 17) (r : Fin 128) (s : Fin 2048) :
    k0_pay1 (F := Ideal) (rows H n) (rows M n) (gains g) (ix2 r s) = resid H M g (ix2 (row n r) s) := by
  unfold k0_pay1
  pointwise
  rfl

theorem pay_n (H M : Mat 2048) (g k : Gains 2048) (n : Fin 17) (r : Fin 128) (s : Fin 2048) :
    k0_pay2 (F := Ideal) (rows H n) (rows M n) (gains g) (gains k) (ix2 r s)
      = rowNorm d2048 (resid H M g) k (row n r) s := by
  have h := fun s => pay_h H M g n r s
  unfold k0_pay2
  generalize k0_pay1 (F := Ideal) (rows H n) (rows M n) (gains g) = w at h ⊢
  pointwise
  simp only [h]
  rfl

end Cert.Kernel22Ideal.Resid
-- ==== Proof.Resid.Array.lean ====
/- The residual with its two normalisations: grid point `t` computes rows `128 * t` to `128 * t + 127`. -/
module

public import proofs.«01_k».proof.Proof.Gen.Kernel22Ideal.Value
public import proofs.«01_k».proof.Proof.Resid.Payload
public import proofs.«01_k».proof.Proof.Norm.Grid
public import Idealize.ShloMosaic.Lib.Tactic

@[expose] public noncomputable section

set_option maxRecDepth 16384

namespace Cert.Kernel22Ideal.Resid

open Cert.Kernel22Ideal Cert.Kernel22Ideal.Gen Idealize.ShloMosaic Idealize.ShloMosaic.TcCoe Idealize.SL.Sem Cert.Norm Cert.Idx

variable (m : (ℓ : Loc nD τ sig) → Buf (Elt Ideal) ℓ) (c : Dev nD)

/-- A point's number. -/
abbrev pt (t : Fin cfg0.N) : Fin 17 := ⟨t.val, lt_of_lt_of_eq t.isLt N_0⟩

/-! ## The arrays the call is given, and the blocks a point reads -/

abbrev H : Mat 2048 := m ((c : Thread nD τ).loc main_arg0)
abbrev M : Mat 2048 := m ((c : Thread nD τ).loc main_arg1)
abbrev G : Gains 2048 := m ((c : Thread nD τ).loc main_arg2)
abbrev K : Gains 2048 := m ((c : Thread nD τ).loc main_arg3)

theorem idx_0 : ∀ t : Fin grid0.N, win0_0.index t 0 = t.val ∧ win0_0.index t 1 = 0 := by decide +kernel

theorem blk_0 (t : Fin cfg0.N) : (iblk m c 0 t : Vec Ideal S128x2048 .f32) = rows (H m c) (pt t) := by
  have e := idx_0 t
  funext y
  unfold iblk
  rw [View.read_apply]
  show V m c main_arg0 _ = _
  rw [V_main_arg0]
  exact congrArg (m ((c : Thread nD τ).loc main_arg0)) (ext2
    (by show win0_0.index t 0 * 128 + 1 * (y 0).val = 128 * t.val + (y 0).val; omega)
    (by show win0_0.index t 1 * 2048 + 1 * (y 1).val = (y 1).val; omega))

theorem idx_1 : ∀ t : Fin grid0.N, win0_1.index t 0 = t.val ∧ win0_1.index t 1 = 0 := by decide +kernel

theorem blk_1 (t : Fin cfg0.N) : (iblk m c 1 t : Vec Ideal S128x2048 .f32) = rows (M m c) (pt t) := by
  have e := idx_1 t
  funext y
  unfold iblk
  rw [View.read_apply]
  show V m c main_arg1 _ = _
  rw [V_main_arg1]
  exact congrArg (m ((c : Thread nD τ).loc main_arg1)) (ext2
    (by show win0_1.index t 0 * 128 + 1 * (y 0).val = 128 * t.val + (y 0).val; omega)
    (by show win0_1.index t 1 * 2048 + 1 * (y 1).val = (y 1).val; omega))

theorem idx_2 : ∀ t : Fin grid0.N, win0_2.index t 0 = 0 ∧ win0_2.index t 1 = 0 := by decide +kernel

theorem blk_2 (t : Fin cfg0.N) : (iblk m c 2 t : Vec Ideal S1x2048 .f32) = gains (G m c) := by
  have e := idx_2 t
  funext y
  obtain ⟨z, s, rfl⟩ := of2 (a := 1) (b := 2048) y
  unfold iblk
  rw [View.read_apply]
  have hV : V m c main_v0 = broadcastInDim S1x2048 ![1] bcast_S2048_S1x2048_1 (m ((c : Thread nD τ).loc main_arg2)) := by
    show StableHlo.after hostOps0 _ _ = _
    after_results
  show V m c main_v0 _ = _
  rw [hV, show ((cfg0.win 2).blk t).view.emb (ix2 z s) = ix2 0 s from ext2
    (by show win0_2.index t 0 * 1 + 1 * z.val = 0; omega) (by show win0_2.index t 1 * 2048 + 1 * s.val = s.val; omega)]
  pointwise
  rfl

theorem idx_3 : ∀ t : Fin grid0.N, win0_3.index t 0 = 0 ∧ win0_3.index t 1 = 0 := by decide +kernel

theorem blk_3 (t : Fin cfg0.N) : (iblk m c 3 t : Vec Ideal S1x2048 .f32) = gains (K m c) := by
  have e := idx_3 t
  funext y
  obtain ⟨z, s, rfl⟩ := of2 (a := 1) (b := 2048) y
  unfold iblk
  rw [View.read_apply]
  have hV : V m c main_v1 = broadcastInDim S1x2048 ![1] bcast_S2048_S1x2048_1 (m ((c : Thread nD τ).loc main_arg3)) := by
    show StableHlo.after hostOps0 _ _ = _
    after_results
  show V m c main_v1 _ = _
  rw [hV, show ((cfg0.win 3).blk t).view.emb (ix2 z s) = ix2 0 s from ext2
    (by show win0_3.index t 0 * 1 + 1 * z.val = 0; omega) (by show win0_3.index t 1 * 2048 + 1 * s.val = s.val; omega)]
  pointwise
  rfl

/-! ## What a point leaves -/

/-! ## The residual -/

abbrev val_4 (i : S2176x2048.Idx) : EReal := entry (resid (H m c) (M m c) (G m c)) (i 0) (i 1)

/-- The array. -/
def arr_4 : Buf (Elt Ideal) ((c : Thread nD τ).loc main_v2_0) := val_4 m c

theorem idx_4 : ∀ t : Fin grid0.N, win0_4.index t 0 = t.val ∧ win0_4.index t 1 = 0 := by decide +kernel

theorem flushed_4 (t : Fin cfg0.N) (hf : (cfg0.win 4).flush t = true) :
    (dats m 0 c).flushed 4 t = ((cfg0.win 4).blk t).view.read (Elt Ideal) (arr_4 m c) := by
  have e := idx_4 t
  rw [Value.flushed4]
  unfold out0_4
  rw [View.canon_unit_zero zero2]
  simp only [View.ld_unit_zero (S := S128x2048) zero2, View.ld_unit_zero (S := S1x2048) zero2]
  funext y
  obtain ⟨r, s, rfl⟩ := of2 (a := 128) (b := 2048) y
  rw [View.read_apply]
  refine Eq.trans (b := val_4 m c (ix2 (row (pt t) r) s)) ?_ (congrArg (val_4 m c) (ext2
    (by show 128 * t.val + r.val = win0_4.index t 0 * 128 + 1 * r.val; omega)
    (by show s.val = win0_4.index t 1 * 2048 + 1 * s.val; omega)))
  show k0_pay1 (F := Ideal) (iblk m c 0 t) (iblk m c 1 t) (iblk m c 2 t) (ix2 r s) = _
  rw [blk_0, blk_1, blk_2]
  exact pay_h _ _ _ _ r s

theorem final_4 : (dats m 0 c).arrAt 4 cfg0.N = arr_4 m c :=
  (dats m 0 c).arrAt_eq_of_cover 4 (arr_4 m c) (flushed_4 m c) fun i : S2176x2048.Idx => by
    obtain ⟨h0, h1⟩ := below2 i
    obtain ⟨t, ht⟩ : ∃ t : Fin cfg0.N, t.val = (i 0).val / 128 := ⟨⟨_, by rw [show cfg0.N = 17 from N_0]; omega⟩, rfl⟩
    have e := idx_4 t
    refine ⟨t, flush0_4 t, ?_⟩
    show i ∈ ((View.whole main_v2_0).slice (win0_4.rect t)).set
    rw [View.set_slice_whole, Rect.mem_set_unit]
    exact cover2 (win0_4.index t) 128 2048 i (by omega)

/-! ## Its normalised rows -/

abbrev val_5 (i : S2176x2048.Idx) : EReal := rowNorm d2048 (resid (H m c) (M m c) (G m c)) (K m c) (i 0) (i 1)

/-- The array. -/
def arr_5 : Buf (Elt Ideal) ((c : Thread nD τ).loc main_v2_1) := val_5 m c

theorem idx_5 : ∀ t : Fin grid0.N, win0_5.index t 0 = t.val ∧ win0_5.index t 1 = 0 := by decide +kernel

theorem flushed_5 (t : Fin cfg0.N) (hf : (cfg0.win 5).flush t = true) :
    (dats m 0 c).flushed 5 t = ((cfg0.win 5).blk t).view.read (Elt Ideal) (arr_5 m c) := by
  have e := idx_5 t
  rw [Value.flushed5]
  unfold out0_5
  rw [View.canon_unit_zero zero2]
  simp only [View.ld_unit_zero (S := S128x2048) zero2, View.ld_unit_zero (S := S1x2048) zero2]
  funext y
  obtain ⟨r, s, rfl⟩ := of2 (a := 128) (b := 2048) y
  rw [View.read_apply]
  refine Eq.trans (b := val_5 m c (ix2 (row (pt t) r) s)) ?_ (congrArg (val_5 m c) (ext2
    (by show 128 * t.val + r.val = win0_5.index t 0 * 128 + 1 * r.val; omega)
    (by show s.val = win0_5.index t 1 * 2048 + 1 * s.val; omega)))
  show k0_pay2 (F := Ideal) (iblk m c 0 t) (iblk m c 1 t) (iblk m c 2 t) (iblk m c 3 t) (ix2 r s) = _
  rw [blk_0, blk_1, blk_2, blk_3]
  exact pay_n _ _ _ _ _ r s

theorem final_5 : (dats m 0 c).arrAt 5 cfg0.N = arr_5 m c :=
  (dats m 0 c).arrAt_eq_of_cover 5 (arr_5 m c) (flushed_5 m c) fun i : S2176x2048.Idx => by
    obtain ⟨h0, h1⟩ := below2 i
    obtain ⟨t, ht⟩ : ∃ t : Fin cfg0.N, t.val = (i 0).val / 128 := ⟨⟨_, by rw [show cfg0.N = 17 from N_0]; omega⟩, rfl⟩
    have e := idx_5 t
    refine ⟨t, flush0_5 t, ?_⟩
    show i ∈ ((View.whole main_v2_1).slice (win0_5.rect t)).set
    rw [View.set_slice_whole, Rect.mem_set_unit]
    exact cover2 (win0_5.index t) 128 2048 i (by omega)

end Cert.Kernel22Ideal.Resid
-- ==== Proof.Resid.Reference.lean ====
/- The reference of the residual with its two normalisations, entry by entry. -/
module

public import proofs.«01_k».proof.Proof.Gen.Reference22Ideal.Read
public import proofs.«01_k».proof.Proof.Norm.Math
public import Idealize.ShloMosaic.Lib.Pointwise

@[expose] public noncomputable section

set_option maxRecDepth 16384

namespace Cert.Reference22Ideal.Resid

open Cert.Reference22Ideal Cert.Reference22Ideal.Gen Cert.Reference22Ideal.Read Idealize.ShloMosaic Cert.Norm

theorem at_4 (H M : Mat 2048) (g : Gains 2048) (i : Fin 2176) (s : Fin 2048) :
    @Eq EReal (val_main_v13 (F := Ideal) H M g (ix2 i s)) (resid H M g (ix2 i s)) := by
  unfold val_main_v13 val_main_v12 val_main_v11 val_main_v10 val_main_v9 val_main_v8 val_main_v7 val_main_v6
    val_main_v5 val_main_cst_1 val_main_v4 val_main_v3 val_main_cst_0 val_main_v2 val_main_v1 val_main_cst
    val_main_v0
  pointwise
  rfl

theorem at_5 (H M : Mat 2048) (g k : Gains 2048) (i : Fin 2176) (s : Fin 2048) :
    @Eq EReal (val_main_v27 (F := Ideal) H M g k (ix2 i s)) (rowNorm d2048 (resid H M g) k i s) := by
  have h := fun s => at_4 H M g i s
  unfold val_main_v27 val_main_v26 val_main_v25 val_main_v24 val_main_v23 val_main_v22 val_main_v21 val_main_v20
    val_main_v19 val_main_cst_4 val_main_v18 val_main_v17 val_main_cst_3 val_main_v16 val_main_v15
    val_main_cst_2 val_main_v14
  generalize val_main_v13 (F := Ideal) H M g = w at h ⊢
  pointwise
  simp only [h]
  rfl

end Cert.Reference22Ideal.Resid
-- ==== Proof.Resid.Claims.lean ====
/- The claims about the residual with its two normalisations. -/
module

public import proofs.«01_k».proof.Defs
public import proofs.«01_k».proof.Proof.Gen.Kernel22.Frame
public import proofs.«01_k».proof.Proof.Gen.Reference22Ideal.Run
public import proofs.«01_k».proof.Proof.Resid.Array
public import proofs.«01_k».proof.Proof.Resid.Reference

@[expose] public noncomputable section

set_option maxRecDepth 16384

namespace Cert.Proof.Resid

open Idealize.ShloMosaic Idealize.ShloMosaic.TcCoe Idealize.SL.Sem Cert.Kernel22Ideal.Resid Cert.Reference22Ideal.Resid Cert.Reference22Ideal.Read Cert.Idx

theorem frame_p : Cert.quiescent_Kernel22 := fun m ρ _ => Cert.Kernel22.Gen.frame m ρ
theorem frame_pi : Cert.quiescent_Kernel22Ideal := fun m ρ _ => Cert.Kernel22Ideal.Gen.frame m ρ
theorem frame_ri : Cert.quiescent_Reference22Ideal := fun m ρ _ =>
  (θ_run Cert.Reference22Ideal.defs _ _).mono (fun r h => ⟨fun c => (h c).2.2, sem_eq_zero_of_no_sems (by decide) r.2⟩)
    (Cert.Reference22Ideal.Value.run (F := Ideal) m ρ)

/-- Nothing is rewritten: the two programs have one text. -/
theorem preserves : Cert.preserves_Kernel22_Kernel22Ideal := trivial

/-- The kernel and the reference compute the same. -/
theorem algebraic : Cert.algebraic_Kernel22Ideal_Reference22Ideal := by
  intro m ρ m' ρ' _ hagree
  refine ⟨fun c => arr_4 m c, fun c => arr_5 m c, ?_, ?_⟩
  · refine (θ_run Cert.Kernel22Ideal.defs _ _).mono (fun r h c => ?_) (Cert.Kernel22Ideal.Value.run_blocks (F := Ideal) m ρ)
    obtain ⟨h0, h1, hk⟩ := h c
    exact ⟨h0.trans (final_4 m c), h1.trans (final_5 m c), hk⟩
  · refine (θ_run Cert.Reference22Ideal.defs _ _).mono (fun r h c => ?_) (Cert.Reference22Ideal.Value.run (F := Ideal) m' ρ')
    obtain ⟨h0, h1, hk⟩ := h c
    obtain ⟨a0, a1, a2, a3⟩ := hagree c
    rw [val_main_v13_eq, a0, a1, a2] at h0
    rw [val_main_v27_eq, a0, a1, a2, a3] at h1
    refine ⟨h0.trans (all2 fun r s => ?_), h1.trans (all2 fun r s => ?_), hk⟩
    · exact at_4 _ _ _ r s
    · exact at_5 _ _ _ _ r s

end Cert.Proof.Resid
-- ==== Proof.Rms.Payload.lean ====
/- What the first normalisation computes from one block of 128 rows. -/
module

public import proofs.«01_k».proof.Proof.Gen.Kernel23Ideal.Skeleton
public import proofs.«01_k».proof.Proof.Norm.Math
public import Idealize.ShloMosaic.Lib.Pointwise

@[expose] public noncomputable section

set_option maxRecDepth 16384

namespace Cert.Kernel23Ideal.Rms

open Cert.Kernel23Ideal Cert.Kernel23Ideal.Gen Idealize.ShloMosaic Cert.Norm

theorem pay_n (X : Mat 2048) (g : Gains 2048) (n : Fin 17) (r : Fin 128) (s : Fin 2048) :
    k0_pay1 (F := Ideal) (rows X n) (gains g) (ix2 r s) = rowNorm d2048 X g (row n r) s := by
  unfold k0_pay1
  pointwise
  rfl

end Cert.Kernel23Ideal.Rms
-- ==== Proof.Rms.Array.lean ====
/- The first normalisation: grid point `t` computes rows `128 * t` to `128 * t + 127`. -/
module

public import proofs.«01_k».proof.Proof.Gen.Kernel23Ideal.Value
public import proofs.«01_k».proof.Proof.Rms.Payload
public import proofs.«01_k».proof.Proof.Norm.Grid
public import Idealize.ShloMosaic.Lib.Tactic

@[expose] public noncomputable section

set_option maxRecDepth 16384

namespace Cert.Kernel23Ideal.Rms

open Cert.Kernel23Ideal Cert.Kernel23Ideal.Gen Idealize.ShloMosaic Idealize.ShloMosaic.TcCoe Idealize.SL.Sem Cert.Norm Cert.Idx

variable (m : (ℓ : Loc nD τ sig) → Buf (Elt Ideal) ℓ) (c : Dev nD)

/-- A point's number. -/
abbrev pt (t : Fin cfg0.N) : Fin 17 := ⟨t.val, lt_of_lt_of_eq t.isLt N_0⟩

/-! ## The arrays the call is given, and the blocks a point reads -/

abbrev X : Mat 2048 := m ((c : Thread nD τ).loc main_arg0)
abbrev G : Gains 2048 := m ((c : Thread nD τ).loc main_arg1)

theorem idx_0 : ∀ t : Fin grid0.N, win0_0.index t 0 = t.val ∧ win0_0.index t 1 = 0 := by decide +kernel

theorem blk_0 (t : Fin cfg0.N) : (iblk m c 0 t : Vec Ideal S128x2048 .f32) = rows (X m c) (pt t) := by
  have e := idx_0 t
  funext y
  unfold iblk
  rw [View.read_apply]
  show V m c main_arg0 _ = _
  rw [V_main_arg0]
  exact congrArg (m ((c : Thread nD τ).loc main_arg0)) (ext2
    (by show win0_0.index t 0 * 128 + 1 * (y 0).val = 128 * t.val + (y 0).val; omega)
    (by show win0_0.index t 1 * 2048 + 1 * (y 1).val = (y 1).val; omega))

theorem idx_1 : ∀ t : Fin grid0.N, win0_1.index t 0 = 0 ∧ win0_1.index t 1 = 0 := by decide +kernel

theorem blk_1 (t : Fin cfg0.N) : (iblk m c 1 t : Vec Ideal S1x2048 .f32) = gains (G m c) := by
  have e := idx_1 t
  funext y
  obtain ⟨z, s, rfl⟩ := of2 (a := 1) (b := 2048) y
  unfold iblk
  rw [View.read_apply]
  have hV : V m c main_v0 = broadcastInDim S1x2048 ![1] bcast_S2048_S1x2048_1 (m ((c : Thread nD τ).loc main_arg1)) := by
    show StableHlo.after hostOps0 _ _ = _
    after_results
  show V m c main_v0 _ = _
  rw [hV, show ((cfg0.win 1).blk t).view.emb (ix2 z s) = ix2 0 s from ext2
    (by show win0_1.index t 0 * 1 + 1 * z.val = 0; omega) (by show win0_1.index t 1 * 2048 + 1 * s.val = s.val; omega)]
  pointwise
  rfl

/-! ## What a point leaves -/

/-! ## The normalised rows -/

abbrev val_2 (i : S2176x2048.Idx) : EReal := rowNorm d2048 (X m c) (G m c) (i 0) (i 1)

/-- The array. -/
def arr_2 : Buf (Elt Ideal) ((c : Thread nD τ).loc main_v1) := val_2 m c

theorem idx_2 : ∀ t : Fin grid0.N, win0_2.index t 0 = t.val ∧ win0_2.index t 1 = 0 := by decide +kernel

theorem flushed_2 (t : Fin cfg0.N) (hf : (cfg0.win 2).flush t = true) :
    (dats m 0 c).flushed 2 t = ((cfg0.win 2).blk t).view.read (Elt Ideal) (arr_2 m c) := by
  have e := idx_2 t
  rw [Value.flushed2]
  unfold out0_2
  rw [View.canon_unit_zero zero2]
  simp only [View.ld_unit_zero (S := S128x2048) zero2, View.ld_unit_zero (S := S1x2048) zero2]
  funext y
  obtain ⟨r, s, rfl⟩ := of2 (a := 128) (b := 2048) y
  rw [View.read_apply]
  refine Eq.trans (b := val_2 m c (ix2 (row (pt t) r) s)) ?_ (congrArg (val_2 m c) (ext2
    (by show 128 * t.val + r.val = win0_2.index t 0 * 128 + 1 * r.val; omega)
    (by show s.val = win0_2.index t 1 * 2048 + 1 * s.val; omega)))
  show k0_pay1 (F := Ideal) (iblk m c 0 t) (iblk m c 1 t) (ix2 r s) = _
  rw [blk_0, blk_1]
  exact pay_n _ _ _ r s

theorem final_2 : (dats m 0 c).arrAt 2 cfg0.N = arr_2 m c :=
  (dats m 0 c).arrAt_eq_of_cover 2 (arr_2 m c) (flushed_2 m c) fun i : S2176x2048.Idx => by
    obtain ⟨h0, h1⟩ := below2 i
    obtain ⟨t, ht⟩ : ∃ t : Fin cfg0.N, t.val = (i 0).val / 128 := ⟨⟨_, by rw [show cfg0.N = 17 from N_0]; omega⟩, rfl⟩
    have e := idx_2 t
    refine ⟨t, flush0_2 t, ?_⟩
    show i ∈ ((View.whole main_v1).slice (win0_2.rect t)).set
    rw [View.set_slice_whole, Rect.mem_set_unit]
    exact cover2 (win0_2.index t) 128 2048 i (by omega)

end Cert.Kernel23Ideal.Rms
-- ==== Proof.Rms.Reference.lean ====
/- The reference of the first normalisation, entry by entry. -/
module

public import proofs.«01_k».proof.Proof.Gen.Reference23Ideal.Read
public import proofs.«01_k».proof.Proof.Norm.Math
public import Idealize.ShloMosaic.Lib.Pointwise

@[expose] public noncomputable section

set_option maxRecDepth 16384

namespace Cert.Reference23Ideal.Rms

open Cert.Reference23Ideal Cert.Reference23Ideal.Gen Cert.Reference23Ideal.Read Idealize.ShloMosaic Cert.Norm

theorem at_2 (X : Mat 2048) (g : Gains 2048) (i : Fin 2176) (s : Fin 2048) :
    @Eq EReal (val_main_v13 (F := Ideal) X g (ix2 i s)) (rowNorm d2048 X g i s) := by
  unfold val_main_v13 val_main_v12 val_main_v11 val_main_v10 val_main_v9 val_main_v8 val_main_v7 val_main_v6
    val_main_v5 val_main_cst_1 val_main_v4 val_main_v3 val_main_cst_0 val_main_v2 val_main_v1 val_main_cst
    val_main_v0
  pointwise
  rfl

end Cert.Reference23Ideal.Rms
-- ==== Proof.Rms.Claims.lean ====
/- The claims about the first normalisation. -/
module

public import proofs.«01_k».proof.Defs
public import proofs.«01_k».proof.Proof.Gen.Kernel23.Frame
public import proofs.«01_k».proof.Proof.Gen.Reference23Ideal.Run
public import proofs.«01_k».proof.Proof.Rms.Array
public import proofs.«01_k».proof.Proof.Rms.Reference

@[expose] public noncomputable section

set_option maxRecDepth 16384

namespace Cert.Proof.Rms

open Idealize.ShloMosaic Idealize.ShloMosaic.TcCoe Idealize.SL.Sem Cert.Kernel23Ideal.Rms Cert.Reference23Ideal.Rms Cert.Reference23Ideal.Read Cert.Idx

theorem frame_p : Cert.quiescent_Kernel23 := fun m ρ _ => Cert.Kernel23.Gen.frame m ρ
theorem frame_pi : Cert.quiescent_Kernel23Ideal := fun m ρ _ => Cert.Kernel23Ideal.Gen.frame m ρ
theorem frame_ri : Cert.quiescent_Reference23Ideal := fun m ρ _ =>
  (θ_run Cert.Reference23Ideal.defs _ _).mono (fun r h => ⟨fun c => (h c).2, sem_eq_zero_of_no_sems (by decide) r.2⟩)
    (Cert.Reference23Ideal.Value.run (F := Ideal) m ρ)

/-- Nothing is rewritten: the two programs have one text. -/
theorem preserves : Cert.preserves_Kernel23_Kernel23Ideal := trivial

/-- The kernel and the reference compute the same. -/
theorem algebraic : Cert.algebraic_Kernel23Ideal_Reference23Ideal := by
  intro m ρ m' ρ' _ hagree
  refine ⟨fun c => arr_2 m c, ?_, ?_⟩
  · refine (θ_run Cert.Kernel23Ideal.defs _ _).mono (fun r h c => ?_) (Cert.Kernel23Ideal.Value.run_blocks (F := Ideal) m ρ)
    obtain ⟨h0, hk⟩ := h c
    exact ⟨h0.trans (final_2 m c), hk⟩
  · refine (θ_run Cert.Reference23Ideal.defs _ _).mono (fun r h c => ?_) (Cert.Reference23Ideal.Value.run (F := Ideal) m' ρ')
    obtain ⟨h0, hk⟩ := h c
    obtain ⟨a0, a1⟩ := hagree c
    rw [val_main_v13_eq, a0, a1] at h0
    refine ⟨h0.trans (all2 fun r s => ?_), hk⟩
    · exact at_2 _ _ r s

end Cert.Proof.Rms
-- ==== Proof.Prep.Payload.lean ====
/- What the computation of the latent attention's inputs computes from one block of 128 rows. -/
module

public import proofs.«01_k».proof.Proof.Gen.Kernel24Ideal.Skeleton
public import proofs.«01_k».proof.Proof.Norm.Math
public import Idealize.ShloMosaic.Lib.Pointwise

@[expose] public noncomputable section

set_option maxRecDepth 16384

namespace Cert.Kernel24Ideal.Prep

open Cert.Kernel24Ideal Cert.Kernel24Ideal.Gen Idealize.ShloMosaic Cert.Norm

theorem pay_q (X : Mat 512) (g : Gains 512) (n : Fin 17) (r : Fin 128) (s : Fin 512) :
    k0_pay2 (F := Ideal) (k0_pay4 (rows X n) (gains g)) (ix2 r s) = rowNorm d512 X g (row n r) s := by
  unfold k0_pay2 k0_pay4
  pointwise
  rfl

theorem pay_k (X : Mat 512) (g : Gains 512) (n : Fin 17) (r : Fin 128) (s : Fin 512) :
    k0_pay3 (F := Ideal) (k0_pay5 (rows X n) (gains g)) (ix2 r s) = rowNorm d512 X g (row n r) s := by
  unfold k0_pay3 k0_pay5
  pointwise
  rfl

theorem pay_p (X Y C S : Mat 128) (n : Fin 17) (r : Fin 128) (s : Fin 128) :
    k0_pay1 (F := Ideal) (k0_pay6 (rows X n) (rows C n)) (k0_pay7 (rows Y n) (rows S n)) (ix2 r s)
      = rotate X Y C S (row n r) s := by
  unfold k0_pay1 k0_pay6 k0_pay7
  pointwise
  rfl

end Cert.Kernel24Ideal.Prep
-- ==== Proof.Prep.Array.lean ====
/- The latent attention's inputs: grid point `t` computes rows `128 * t` to `128 * t + 127` of the normalised latent
   columns and of the rotated keys. -/
module

public import proofs.«01_k».proof.Proof.Gen.Kernel24Ideal.Value
public import proofs.«01_k».proof.Proof.Prep.Payload
public import proofs.«01_k».proof.Proof.Norm.Grid
public import Idealize.ShloMosaic.Lib.Tactic

@[expose] public noncomputable section

set_option maxRecDepth 16384

namespace Cert.Kernel24Ideal.Prep

open Cert.Kernel24Ideal Cert.Kernel24Ideal.Gen Idealize.ShloMosaic Idealize.ShloMosaic.TcCoe Idealize.SL.Sem Cert.Norm Cert.Idx

variable (m : (ℓ : Loc nD τ sig) → Buf (Elt Ideal) ℓ) (c : Dev nD)

/-- A point's number. -/
abbrev pt (t : Fin cfg0.N) : Fin 17 := ⟨t.val, lt_of_lt_of_eq t.isLt N_0⟩

/-! ## The arrays the call is given, and the blocks a point reads -/

abbrev CQ : Mat 512 := cols (W := 13824) 12288 (by decide) (m ((c : Thread nD τ).loc main_arg0))
abbrev CK : Mat 512 := cols (W := 13824) 12800 (by decide) (m ((c : Thread nD τ).loc main_arg0))
abbrev PE : Mat 128 := cols (W := 13824) 13312 (by decide) (m ((c : Thread nD τ).loc main_arg0))
abbrev RO : Mat 128 := cols (W := 13824) 13440 (by decide) (m ((c : Thread nD τ).loc main_arg0))
abbrev GQ : Gains 512 := m ((c : Thread nD τ).loc main_arg1)
abbrev GK : Gains 512 := m ((c : Thread nD τ).loc main_arg2)
abbrev Cos : Mat 128 := m ((c : Thread nD τ).loc main_arg3)
abbrev Sin : Mat 128 := m ((c : Thread nD τ).loc main_arg4)

theorem idx_0 : ∀ t : Fin grid0.N, win0_0.index t 0 = t.val ∧ win0_0.index t 1 = 24 := by decide +kernel

theorem blk_0 (t : Fin cfg0.N) : (iblk m c 0 t : Vec Ideal S128x512 .f32) = rows (CQ m c) (pt t) := by
  have e := idx_0 t
  funext y
  unfold iblk
  rw [View.read_apply]
  show V m c main_arg0 _ = _
  rw [V_main_arg0]
  exact congrArg (m ((c : Thread nD τ).loc main_arg0)) (ext2
    (by show win0_0.index t 0 * 128 + 1 * (y 0).val = 128 * t.val + (y 0).val; omega)
    (by show win0_0.index t 1 * 512 + 1 * (y 1).val = 12288 + (y 1).val; omega))

theorem idx_1 : ∀ t : Fin grid0.N, win0_1.index t 0 = t.val ∧ win0_1.index t 1 = 25 := by decide +kernel

theorem blk_1 (t : Fin cfg0.N) : (iblk m c 1 t : Vec Ideal S128x512 .f32) = rows (CK m c) (pt t) := by
  have e := idx_1 t
  funext y
  unfold iblk
  rw [View.read_apply]
  show V m c main_arg0 _ = _
  rw [V_main_arg0]
  exact congrArg (m ((c : Thread nD τ).loc main_arg0)) (ext2
    (by show win0_1.index t 0 * 128 + 1 * (y 0).val = 128 * t.val + (y 0).val; omega)
    (by show win0_1.index t 1 * 512 + 1 * (y 1).val = 12800 + (y 1).val; omega))

theorem idx_2 : ∀ t : Fin grid0.N, win0_2.index t 0 = t.val ∧ win0_2.index t 1 = 104 := by decide +kernel

theorem blk_2 (t : Fin cfg0.N) : (iblk m c 2 t : Vec Ideal S128x128 .f32) = rows (PE m c) (pt t) := by
  have e := idx_2 t
  funext y
  unfold iblk
  rw [View.read_apply]
  show V m c main_arg0 _ = _
  rw [V_main_arg0]
  exact congrArg (m ((c : Thread nD τ).loc main_arg0)) (ext2
    (by show win0_2.index t 0 * 128 + 1 * (y 0).val = 128 * t.val + (y 0).val; omega)
    (by show win0_2.index t 1 * 128 + 1 * (y 1).val = 13312 + (y 1).val; omega))

theorem idx_3 : ∀ t : Fin grid0.N, win0_3.index t 0 = t.val ∧ win0_3.index t 1 = 105 := by decide +kernel

theorem blk_3 (t : Fin cfg0.N) : (iblk m c 3 t : Vec Ideal S128x128 .f32) = rows (RO m c) (pt t) := by
  have e := idx_3 t
  funext y
  unfold iblk
  rw [View.read_apply]
  show V m c main_arg0 _ = _
  rw [V_main_arg0]
  exact congrArg (m ((c : Thread nD τ).loc main_arg0)) (ext2
    (by show win0_3.index t 0 * 128 + 1 * (y 0).val = 128 * t.val + (y 0).val; omega)
    (by show win0_3.index t 1 * 128 + 1 * (y 1).val = 13440 + (y 1).val; omega))

theorem idx_4 : ∀ t : Fin grid0.N, win0_4.index t 0 = 0 ∧ win0_4.index t 1 = 0 := by decide +kernel

theorem blk_4 (t : Fin cfg0.N) : (iblk m c 4 t : Vec Ideal S1x512 .f32) = gains (GQ m c) := by
  have e := idx_4 t
  funext y
  obtain ⟨z, s, rfl⟩ := of2 (a := 1) (b := 512) y
  unfold iblk
  rw [View.read_apply]
  have hV : V m c main_v0 = broadcastInDim S1x512 ![1] bcast_S512_S1x512_1 (m ((c : Thread nD τ).loc main_arg1)) := by
    show StableHlo.after hostOps0 _ _ = _
    after_results
  show V m c main_v0 _ = _
  rw [hV, show ((cfg0.win 4).blk t).view.emb (ix2 z s) = ix2 0 s from ext2
    (by show win0_4.index t 0 * 1 + 1 * z.val = 0; omega) (by show win0_4.index t 1 * 512 + 1 * s.val = s.val; omega)]
  pointwise
  rfl

theorem idx_5 : ∀ t : Fin grid0.N, win0_5.index t 0 = 0 ∧ win0_5.index t 1 = 0 := by decide +kernel

theorem blk_5 (t : Fin cfg0.N) : (iblk m c 5 t : Vec Ideal S1x512 .f32) = gains (GK m c) := by
  have e := idx_5 t
  funext y
  obtain ⟨z, s, rfl⟩ := of2 (a := 1) (b := 512) y
  unfold iblk
  rw [View.read_apply]
  have hV : V m c main_v1 = broadcastInDim S1x512 ![1] bcast_S512_S1x512_1 (m ((c : Thread nD τ).loc main_arg2)) := by
    show StableHlo.after hostOps0 _ _ = _
    after_results
  show V m c main_v1 _ = _
  rw [hV, show ((cfg0.win 5).blk t).view.emb (ix2 z s) = ix2 0 s from ext2
    (by show win0_5.index t 0 * 1 + 1 * z.val = 0; omega) (by show win0_5.index t 1 * 512 + 1 * s.val = s.val; omega)]
  pointwise
  rfl

theorem idx_6 : ∀ t : Fin grid0.N, win0_6.index t 0 = t.val ∧ win0_6.index t 1 = 0 := by decide +kernel

theorem blk_6 (t : Fin cfg0.N) : (iblk m c 6 t : Vec Ideal S128x128 .f32) = rows (Cos m c) (pt t) := by
  have e := idx_6 t
  funext y
  unfold iblk
  rw [View.read_apply]
  show V m c main_arg3 _ = _
  rw [V_main_arg3]
  exact congrArg (m ((c : Thread nD τ).loc main_arg3)) (ext2
    (by show win0_6.index t 0 * 128 + 1 * (y 0).val = 128 * t.val + (y 0).val; omega)
    (by show win0_6.index t 1 * 128 + 1 * (y 1).val = (y 1).val; omega))

theorem idx_7 : ∀ t : Fin grid0.N, win0_7.index t 0 = t.val ∧ win0_7.index t 1 = 0 := by decide +kernel

theorem blk_7 (t : Fin cfg0.N) : (iblk m c 7 t : Vec Ideal S128x128 .f32) = rows (Sin m c) (pt t) := by
  have e := idx_7 t
  funext y
  unfold iblk
  rw [View.read_apply]
  show V m c main_arg4 _ = _
  rw [V_main_arg4]
  exact congrArg (m ((c : Thread nD τ).loc main_arg4)) (ext2
    (by show win0_7.index t 0 * 128 + 1 * (y 0).val = 128 * t.val + (y 0).val; omega)
    (by show win0_7.index t 1 * 128 + 1 * (y 1).val = (y 1).val; omega))

/-! ## What a point leaves -/

/-! ## The queries' latent columns -/

abbrev val_8 (i : S2176x512.Idx) : EReal := rowNorm d512 (CQ m c) (GQ m c) (i 0) (i 1)

/-- The array. -/
def arr_8 : Buf (Elt Ideal) ((c : Thread nD τ).loc main_v2_0) := val_8 m c

theorem idx_8 : ∀ t : Fin grid0.N, win0_8.index t 0 = t.val ∧ win0_8.index t 1 = 0 := by decide +kernel

theorem flushed_8 (t : Fin cfg0.N) (hf : (cfg0.win 8).flush t = true) :
    (dats m 0 c).flushed 8 t = ((cfg0.win 8).blk t).view.read (Elt Ideal) (arr_8 m c) := by
  have e := idx_8 t
  rw [Value.flushed8]
  unfold out0_8
  rw [View.canon_unit_zero zero2]
  simp only [View.ld_unit_zero (S := S128x128) zero2, View.ld_unit_zero (S := S128x512) zero2, View.ld_unit_zero (S := S1x512) zero2]
  funext y
  obtain ⟨r, s, rfl⟩ := of2 (a := 128) (b := 512) y
  rw [View.read_apply]
  refine Eq.trans (b := val_8 m c (ix2 (row (pt t) r) s)) ?_ (congrArg (val_8 m c) (ext2
    (by show 128 * t.val + r.val = win0_8.index t 0 * 128 + 1 * r.val; omega)
    (by show s.val = win0_8.index t 1 * 512 + 1 * s.val; omega)))
  show k0_pay2 (F := Ideal) (k0_pay4 (iblk m c 0 t) (iblk m c 4 t)) (ix2 r s) = _
  rw [blk_0, blk_4]
  exact pay_q _ _ _ r s

theorem final_8 : (dats m 0 c).arrAt 8 cfg0.N = arr_8 m c :=
  (dats m 0 c).arrAt_eq_of_cover 8 (arr_8 m c) (flushed_8 m c) fun i : S2176x512.Idx => by
    obtain ⟨h0, h1⟩ := below2 i
    obtain ⟨t, ht⟩ : ∃ t : Fin cfg0.N, t.val = (i 0).val / 128 := ⟨⟨_, by rw [show cfg0.N = 17 from N_0]; omega⟩, rfl⟩
    have e := idx_8 t
    refine ⟨t, flush0_8 t, ?_⟩
    show i ∈ ((View.whole main_v2_0).slice (win0_8.rect t)).set
    rw [View.set_slice_whole, Rect.mem_set_unit]
    exact cover2 (win0_8.index t) 128 512 i (by omega)

/-! ## The keys' and values' latent columns -/

abbrev val_9 (i : S2176x512.Idx) : EReal := rowNorm d512 (CK m c) (GK m c) (i 0) (i 1)

/-- The array. -/
def arr_9 : Buf (Elt Ideal) ((c : Thread nD τ).loc main_v2_1) := val_9 m c

theorem idx_9 : ∀ t : Fin grid0.N, win0_9.index t 0 = t.val ∧ win0_9.index t 1 = 0 := by decide +kernel

theorem flushed_9 (t : Fin cfg0.N) (hf : (cfg0.win 9).flush t = true) :
    (dats m 0 c).flushed 9 t = ((cfg0.win 9).blk t).view.read (Elt Ideal) (arr_9 m c) := by
  have e := idx_9 t
  rw [Value.flushed9]
  unfold out0_9
  rw [View.canon_unit_zero zero2]
  simp only [View.ld_unit_zero (S := S128x128) zero2, View.ld_unit_zero (S := S128x512) zero2, View.ld_unit_zero (S := S1x512) zero2]
  funext y
  obtain ⟨r, s, rfl⟩ := of2 (a := 128) (b := 512) y
  rw [View.read_apply]
  refine Eq.trans (b := val_9 m c (ix2 (row (pt t) r) s)) ?_ (congrArg (val_9 m c) (ext2
    (by show 128 * t.val + r.val = win0_9.index t 0 * 128 + 1 * r.val; omega)
    (by show s.val = win0_9.index t 1 * 512 + 1 * s.val; omega)))
  show k0_pay3 (F := Ideal) (k0_pay5 (iblk m c 1 t) (iblk m c 5 t)) (ix2 r s) = _
  rw [blk_1, blk_5]
  exact pay_k _ _ _ r s

theorem final_9 : (dats m 0 c).arrAt 9 cfg0.N = arr_9 m c :=
  (dats m 0 c).arrAt_eq_of_cover 9 (arr_9 m c) (flushed_9 m c) fun i : S2176x512.Idx => by
    obtain ⟨h0, h1⟩ := below2 i
    obtain ⟨t, ht⟩ : ∃ t : Fin cfg0.N, t.val = (i 0).val / 128 := ⟨⟨_, by rw [show cfg0.N = 17 from N_0]; omega⟩, rfl⟩
    have e := idx_9 t
    refine ⟨t, flush0_9 t, ?_⟩
    show i ∈ ((View.whole main_v2_1).slice (win0_9.rect t)).set
    rw [View.set_slice_whole, Rect.mem_set_unit]
    exact cover2 (win0_9.index t) 128 512 i (by omega)

/-! ## The rotated keys -/

abbrev val_10 (i : S2176x128.Idx) : EReal := rotate (PE m c) (RO m c) (Cos m c) (Sin m c) (i 0) (i 1)

/-- The array. -/
def arr_10 : Buf (Elt Ideal) ((c : Thread nD τ).loc main_v2_2) := val_10 m c

theorem idx_10 : ∀ t : Fin grid0.N, win0_10.index t 0 = t.val ∧ win0_10.index t 1 = 0 := by decide +kernel

theorem flushed_10 (t : Fin cfg0.N) (hf : (cfg0.win 10).flush t = true) :
    (dats m 0 c).flushed 10 t = ((cfg0.win 10).blk t).view.read (Elt Ideal) (arr_10 m c) := by
  have e := idx_10 t
  rw [Value.flushed10]
  unfold out0_10
  rw [View.canon_unit_zero zero2]
  simp only [View.ld_unit_zero (S := S128x128) zero2, View.ld_unit_zero (S := S128x512) zero2, View.ld_unit_zero (S := S1x512) zero2]
  funext y
  obtain ⟨r, s, rfl⟩ := of2 (a := 128) (b := 128) y
  rw [View.read_apply]
  refine Eq.trans (b := val_10 m c (ix2 (row (pt t) r) s)) ?_ (congrArg (val_10 m c) (ext2
    (by show 128 * t.val + r.val = win0_10.index t 0 * 128 + 1 * r.val; omega)
    (by show s.val = win0_10.index t 1 * 128 + 1 * s.val; omega)))
  show k0_pay1 (F := Ideal) (k0_pay6 (iblk m c 2 t) (iblk m c 6 t)) (k0_pay7 (iblk m c 3 t) (iblk m c 7 t)) (ix2 r s) = _
  rw [blk_2, blk_3, blk_6, blk_7]
  exact pay_p _ _ _ _ _ r s

theorem final_10 : (dats m 0 c).arrAt 10 cfg0.N = arr_10 m c :=
  (dats m 0 c).arrAt_eq_of_cover 10 (arr_10 m c) (flushed_10 m c) fun i : S2176x128.Idx => by
    obtain ⟨h0, h1⟩ := below2 i
    obtain ⟨t, ht⟩ : ∃ t : Fin cfg0.N, t.val = (i 0).val / 128 := ⟨⟨_, by rw [show cfg0.N = 17 from N_0]; omega⟩, rfl⟩
    have e := idx_10 t
    refine ⟨t, flush0_10 t, ?_⟩
    show i ∈ ((View.whole main_v2_2).slice (win0_10.rect t)).set
    rw [View.set_slice_whole, Rect.mem_set_unit]
    exact cover2 (win0_10.index t) 128 128 i (by omega)

end Cert.Kernel24Ideal.Prep
-- ==== Proof.Prep.Reference.lean ====
/- The reference of the latent attention's inputs, entry by entry. -/
module

public import proofs.«01_k».proof.Proof.Gen.Reference24Ideal.Read
public import proofs.«01_k».proof.Proof.Norm.Math
public import Idealize.ShloMosaic.Lib.Pointwise

@[expose] public noncomputable section

set_option maxRecDepth 16384

namespace Cert.Reference24Ideal.Prep

open Cert.Reference24Ideal Cert.Reference24Ideal.Gen Cert.Reference24Ideal.Read Idealize.ShloMosaic Cert.Norm

theorem v0_eq (X : Mat 13824) : val_main_v0 (F := Ideal) X = cols (wd := 512) 12288 (by decide) X := by
  funext i
  obtain ⟨r, s, rfl⟩ : ∃ (r : Fin 2176) (s : Fin 512), i = ix2 r s := ⟨i 0, i 1, eq_ix2 i⟩
  rw [val_main_v0_apply]
  show X _ = X _
  congr 1
  funext a
  match a with
  | ⟨0, _⟩ => rfl
  | ⟨1, _⟩ => exact Fin.ext (by simp [idx_main_v0, col, ix2]; try omega)

theorem v1_eq (X : Mat 13824) : val_main_v1 (F := Ideal) X = cols (wd := 512) 12800 (by decide) X := by
  funext i
  obtain ⟨r, s, rfl⟩ : ∃ (r : Fin 2176) (s : Fin 512), i = ix2 r s := ⟨i 0, i 1, eq_ix2 i⟩
  rw [val_main_v1_apply]
  show X _ = X _
  congr 1
  funext a
  match a with
  | ⟨0, _⟩ => rfl
  | ⟨1, _⟩ => exact Fin.ext (by simp [idx_main_v1, col, ix2]; try omega)

theorem v2_eq (X : Mat 13824) : val_main_v2 (F := Ideal) X = cols (wd := 128) 13312 (by decide) X := by
  funext i
  obtain ⟨r, s, rfl⟩ : ∃ (r : Fin 2176) (s : Fin 128), i = ix2 r s := ⟨i 0, i 1, eq_ix2 i⟩
  rw [val_main_v2_apply]
  show X _ = X _
  congr 1
  funext a
  match a with
  | ⟨0, _⟩ => rfl
  | ⟨1, _⟩ => exact Fin.ext (by simp [idx_main_v2, col, ix2]; try omega)

theorem v3_eq (X : Mat 13824) : val_main_v3 (F := Ideal) X = cols (wd := 128) 13440 (by decide) X := by
  funext i
  obtain ⟨r, s, rfl⟩ : ∃ (r : Fin 2176) (s : Fin 128), i = ix2 r s := ⟨i 0, i 1, eq_ix2 i⟩
  rw [val_main_v3_apply]
  show X _ = X _
  congr 1
  funext a
  match a with
  | ⟨0, _⟩ => rfl
  | ⟨1, _⟩ => exact Fin.ext (by simp [idx_main_v3, col, ix2]; try omega)

theorem at_8 (X : Mat 13824) (g : Gains 512) (i : Fin 2176) (s : Fin 512) :
    @Eq EReal (val_main_v33 (F := Ideal) X g (ix2 i s)) (rowNorm d512 (cols (wd := 512) 12288 (by decide) X) g i s) := by
  unfold val_main_v33 val_main_v16 val_main_v15 val_main_v14 val_main_v13 val_main_v12 val_main_v11 val_main_v10
    val_main_v9 val_main_cst_1 val_main_v8 val_main_v7 val_main_cst_0 val_main_v6 val_main_v5 val_main_cst
    val_main_v4
  rw [v0_eq]
  generalize (cols (wd := 512) 12288 (by decide) X) = x
  pointwise
  rfl

theorem at_9 (X : Mat 13824) (g : Gains 512) (i : Fin 2176) (s : Fin 512) :
    @Eq EReal (val_main_v34 (F := Ideal) X g (ix2 i s)) (rowNorm d512 (cols (wd := 512) 12800 (by decide) X) g i s) := by
  unfold val_main_v34 val_main_v29 val_main_v28 val_main_v27 val_main_v26 val_main_v25 val_main_v24 val_main_v23
    val_main_v22 val_main_cst_4 val_main_v21 val_main_v20 val_main_cst_3 val_main_v19 val_main_v18
    val_main_cst_2 val_main_v17
  rw [v1_eq]
  generalize (cols (wd := 512) 12800 (by decide) X) = x
  pointwise
  rfl

theorem at_10 (X : Mat 13824) (C S : Mat 128) (i : Fin 2176) (s : Fin 128) :
    @Eq EReal (val_main_v32 (F := Ideal) X C S (ix2 i s))
      (rotate (cols (wd := 128) 13312 (by decide) X) (cols (wd := 128) 13440 (by decide) X) C S i s) := by
  unfold val_main_v32 val_main_v31 val_main_v30
  rw [v2_eq, v3_eq]
  generalize (cols (wd := 128) 13312 (by decide) X) = x
  generalize (cols (wd := 128) 13440 (by decide) X) = y
  pointwise
  rfl

end Cert.Reference24Ideal.Prep
-- ==== Proof.Prep.Claims.lean ====
/- The claims about the latent attention's inputs. -/
module

public import proofs.«01_k».proof.Defs
public import proofs.«01_k».proof.Proof.Gen.Kernel24.Frame
public import proofs.«01_k».proof.Proof.Gen.Reference24Ideal.Run
public import proofs.«01_k».proof.Proof.Prep.Array
public import proofs.«01_k».proof.Proof.Prep.Reference

@[expose] public noncomputable section

set_option maxRecDepth 16384

namespace Cert.Proof.Prep

open Idealize.ShloMosaic Idealize.ShloMosaic.TcCoe Idealize.SL.Sem Cert.Kernel24Ideal.Prep Cert.Reference24Ideal.Prep Cert.Reference24Ideal.Read Cert.Idx

theorem frame_p : Cert.quiescent_Kernel24 := fun m ρ _ => Cert.Kernel24.Gen.frame m ρ
theorem frame_pi : Cert.quiescent_Kernel24Ideal := fun m ρ _ => Cert.Kernel24Ideal.Gen.frame m ρ
theorem frame_ri : Cert.quiescent_Reference24Ideal := fun m ρ _ =>
  (θ_run Cert.Reference24Ideal.defs _ _).mono (fun r h => ⟨fun c => (h c).2.2.2, sem_eq_zero_of_no_sems (by decide) r.2⟩)
    (Cert.Reference24Ideal.Value.run (F := Ideal) m ρ)

/-- Nothing is rewritten: the two programs have one text. -/
theorem preserves : Cert.preserves_Kernel24_Kernel24Ideal := trivial

/-- The kernel and the reference compute the same. -/
theorem algebraic : Cert.algebraic_Kernel24Ideal_Reference24Ideal := by
  intro m ρ m' ρ' _ hagree
  refine ⟨fun c => arr_8 m c, fun c => arr_9 m c, fun c => arr_10 m c, ?_, ?_⟩
  · refine (θ_run Cert.Kernel24Ideal.defs _ _).mono (fun r h c => ?_) (Cert.Kernel24Ideal.Value.run_blocks (F := Ideal) m ρ)
    obtain ⟨h0, h1, h2, hk⟩ := h c
    exact ⟨h0.trans (final_8 m c), h1.trans (final_9 m c), h2.trans (final_10 m c), hk⟩
  · refine (θ_run Cert.Reference24Ideal.defs _ _).mono (fun r h c => ?_) (Cert.Reference24Ideal.Value.run (F := Ideal) m' ρ')
    obtain ⟨h0, h1, h2, hk⟩ := h c
    obtain ⟨a0, a1, a2, a3, a4⟩ := hagree c
    rw [val_main_v33_eq, a0, a1] at h0
    rw [val_main_v34_eq, a0, a2] at h1
    rw [val_main_v32_eq, a0, a3, a4] at h2
    refine ⟨h0.trans (all2 fun r s => ?_), h1.trans (all2 fun r s => ?_), h2.trans (all2 fun r s => ?_), hk⟩
    · exact at_8 _ _ r s
    · exact at_9 _ _ r s
    · exact at_10 _ _ _ r s

end Cert.Proof.Prep
-- ==== Proof.Conv.Math.lean ====
/- The gated convolution of three taps: each column is weighed by its last three rows, with zeros before the first. -/
module

public import Idealize.ShloMosaic.Lib.Pointwise

@[expose] public noncomputable section

namespace Cert.Conv

open Idealize.ShloMosaic

/-- The projection that holds the three branch inputs from column 6144 on, and the taps. -/
abbrev Tall := (⟨2, ![2176, 13824]⟩ : Shape).Idx → EReal
abbrev Taps := (⟨2, ![3, 1024]⟩ : Shape).Idx → EReal

/-- One of the three inputs. -/
def part (o : ℕ) (ho : o + 1024 ≤ 13824) (p : Tall) (r : Fin 2176) (s : Fin 1024) : EReal :=
  p (ix2 r ⟨o + s.val, by have := s.isLt; omega⟩)

/-- The row `k` rows earlier, zero before the first. -/
def back (u : Fin 2176 → EReal) (k : ℕ) (r : Fin 2176) : EReal :=
  if k ≤ r.val then u ⟨r.val - k, by have := r.isLt; omega⟩ else 0

theorem back_zero (u : Fin 2176 → EReal) (r : Fin 2176) : back u 0 r = u r := if_pos (Nat.zero_le _)

/-- The three taps at a row: `b` gates, `u` is what is weighed. -/
def tap (b w0 w1 w2 : EReal) (u : Fin 2176 → EReal) (r : Fin 2176) : EReal :=
  b * (w2 * u r + w1 * back u 1 r + w0 * back u 2 r)

/-- What is weighed: the product of the second and the third input. -/
def prod (p : Tall) (s : Fin 1024) (r : Fin 2176) : EReal := part 7168 (by decide) p r s * part 8192 (by decide) p r s

/-- The convolution. -/
def out (p : Tall) (w : Taps) (r : Fin 2176) (s : Fin 1024) : EReal :=
  tap (part 6144 (by decide) p r s) (w (ix2 0 s)) (w (ix2 1 s)) (w (ix2 2 s)) (prod p s) r

end Cert.Conv
-- ==== Proof.Conv.Array.lean ====
/- The gated convolution: what the kernel leaves. -/
module

public import proofs.«01_k».proof.Proof.Gen.Kernel21Ideal.Value
public import proofs.«01_k».proof.Proof.Common.Idx
public import proofs.«01_k».proof.Proof.Common.Mask
public import proofs.«01_k».proof.Proof.Conv.Math

@[expose] public noncomputable section

set_option maxRecDepth 16384

namespace Cert.Kernel21Ideal.Conv

open Cert.Kernel21Ideal Cert.Kernel21Ideal.Gen Idealize.ShloMosaic Idealize.ShloMosaic.TcCoe Idealize.SL.Sem Cert.Conv Cert.Idx

/-- The rows turned by `k` and weighed, with zeros in the first `k`, are those `k` rows earlier, weighed. -/
theorem turned (k : ℕ) (hk : k < 2176) (w : EReal) (f : Fin 2176 → EReal) (r : Fin 2176) (h : (r.val + 2176 - k) % 2176 < 2176) :
    Scalar.select (IntOp.cmpi .sge (BitVec.ofNat 32 r.val) (BitVec.ofNat 32 k)) (w * f ⟨(r.val + 2176 - k) % 2176, h⟩) (0 : EReal)
      = w * back f k r := by
  have hr := r.isLt
  show Scalar.select (IntOp.cmpi .sle (BitVec.ofNat 32 k) (BitVec.ofNat 32 r.val)) _ _ = _
  rw [Mask.select_sle _ _ k r.val (by omega) (by omega) rfl rfl]
  unfold back
  by_cases h : k ≤ r.val
  · rw [if_pos h, if_pos h]
    exact congrArg (w * f ·) (Fin.ext (by show (r.val + 2176 - k) % 2176 = r.val - k; omega))
  · rw [if_neg h, if_neg h, mul_zero]

/-- What a point leaves of its columns. -/
theorem pay (c x : Vec Ideal S2176x128 .f32) (w : Vec Ideal S3x128 .f32) (b : Vec Ideal S2176x128 .f32) (r : Fin 2176) (s : Fin 128) :
    @Eq EReal (k0_pay1 c x w b (ix2 r s)) (tap (b (ix2 r s)) (w (ix2 0 s)) (w (ix2 1 s)) (w (ix2 2 s))
      (fun q => (c (ix2 q s) : EReal) * x (ix2 q s)) r) := by
  unfold k0_pay1
  pointwise
  exact congrArg (fun a : EReal => b (ix2 r s) * a) (congrArg₂ (fun a b : EReal => a + b)
    (congrArg₂ (fun a b : EReal => a + b) rfl (turned 1 (by decide) _ (fun q => (c (ix2 q s) : EReal) * x (ix2 q s)) r _))
    (turned 2 (by decide) _ (fun q => (c (ix2 q s) : EReal) * x (ix2 q s)) r _))

variable (m : (ℓ : Loc nD τ sig) → Buf (Elt Ideal) ℓ) (c : Dev nD)

/-- The projection and the taps. -/
abbrev P : Tall := m ((c : Thread nD τ).loc main_arg0)
abbrev W : Taps := m ((c : Thread nD τ).loc main_arg1)

theorem idx : ∀ t : Fin grid0.N,
    win0_0.index t 0 = 0 ∧ win0_0.index t 1 = 48 + t.val ∧ win0_1.index t 0 = 0 ∧ win0_1.index t 1 = 56 + t.val ∧
    win0_2.index t 0 = 0 ∧ win0_2.index t 1 = 64 + t.val ∧ win0_3.index t 0 = 0 ∧ win0_3.index t 1 = t.val ∧
    win0_4.index t 0 = 0 ∧ win0_4.index t 1 = t.val := by decide +kernel

theorem lt (t : Fin cfg0.N) : t.val < 8 := lt_of_lt_of_eq t.isLt N_0

/-- The column of the array at column `s` of a point's block. -/
abbrev col (t : Fin cfg0.N) (s : Fin 128) : Fin 1024 := ⟨128 * t.val + s.val, by have := lt t; omega⟩

theorem blk_0 (t : Fin cfg0.N) (r : Fin 2176) (s : Fin 128) :
    @Eq EReal ((iblk m c 0 t : Vec Ideal S2176x128 .f32) (ix2 r s)) (part 6144 (by decide) (P m c) r (col t s)) := by
  have e := idx t
  exact congrArg (m ((c : Thread nD τ).loc main_arg0)) (ext2 (by show win0_0.index t 0 * 2176 + 1 * r.val = r.val; omega)
    (by show win0_0.index t 1 * 128 + 1 * s.val = 6144 + (128 * t.val + s.val); omega))

theorem blk_1 (t : Fin cfg0.N) (r : Fin 2176) (s : Fin 128) :
    @Eq EReal ((iblk m c 1 t : Vec Ideal S2176x128 .f32) (ix2 r s)) (part 7168 (by decide) (P m c) r (col t s)) := by
  have e := idx t
  exact congrArg (m ((c : Thread nD τ).loc main_arg0)) (ext2 (by show win0_1.index t 0 * 2176 + 1 * r.val = r.val; omega)
    (by show win0_1.index t 1 * 128 + 1 * s.val = 7168 + (128 * t.val + s.val); omega))

theorem blk_2 (t : Fin cfg0.N) (r : Fin 2176) (s : Fin 128) :
    @Eq EReal ((iblk m c 2 t : Vec Ideal S2176x128 .f32) (ix2 r s)) (part 8192 (by decide) (P m c) r (col t s)) := by
  have e := idx t
  exact congrArg (m ((c : Thread nD τ).loc main_arg0)) (ext2 (by show win0_2.index t 0 * 2176 + 1 * r.val = r.val; omega)
    (by show win0_2.index t 1 * 128 + 1 * s.val = 8192 + (128 * t.val + s.val); omega))

theorem blk_3 (t : Fin cfg0.N) (r : Fin 3) (s : Fin 128) :
    @Eq EReal ((iblk m c 3 t : Vec Ideal S3x128 .f32) (ix2 r s)) (W m c (ix2 r (col t s))) := by
  have e := idx t
  exact congrArg (m ((c : Thread nD τ).loc main_arg1)) (ext2 (by show win0_3.index t 0 * 3 + 1 * r.val = r.val; omega)
    (by show win0_3.index t 1 * 128 + 1 * s.val = 128 * t.val + s.val; omega))

abbrev val (i : S2176x1024.Idx) : EReal := out (P m c) (W m c) (i 0) (i 1)

/-- The array. -/
def arr : Buf (Elt Ideal) ((c : Thread nD τ).loc main_v0) := val m c

theorem flushed (t : Fin cfg0.N) (hf : (cfg0.win 4).flush t = true) :
    (dats m 0 c).flushed 4 t = ((cfg0.win 4).blk t).view.read (Elt Ideal) (arr m c) := by
  have e := idx t
  rw [Value.flushed4]
  unfold out0_4
  rw [View.canon_unit_zero zero2]
  simp only [View.ld_unit_zero (S := S2176x128) zero2, View.ld_unit_zero (S := S3x128) zero2]
  funext y
  obtain ⟨r, s, rfl⟩ := of2 (a := 2176) (b := 128) y
  rw [View.read_apply]
  refine Eq.trans (b := val m c (ix2 r (col t s))) ?_ (congrArg (val m c) (ext2
    (by show r.val = win0_4.index t 0 * 2176 + 1 * r.val; omega)
    (by show 128 * t.val + s.val = win0_4.index t 1 * 128 + 1 * s.val; omega)))
  refine (pay (iblk m c 1 t) (iblk m c 2 t) (iblk m c 3 t) (iblk m c 0 t) r s).trans ?_
  show _ = out (P m c) (W m c) r (col t s)
  unfold out
  rw [blk_0, blk_3, blk_3, blk_3]
  exact congrArg (fun u => tap _ _ _ _ u r) (funext fun q =>
    congrArg₂ (fun a b : EReal => a * b) (blk_1 m c t q s) (blk_2 m c t q s))

theorem final : (dats m 0 c).arrAt 4 cfg0.N = arr m c :=
  (dats m 0 c).arrAt_eq_of_cover 4 (arr m c) (flushed m c) fun i : S2176x1024.Idx => by
    obtain ⟨h0, h1⟩ := below2 i
    obtain ⟨t, ht⟩ : ∃ t : Fin cfg0.N, t.val = (i 1).val / 128 := ⟨⟨_, by rw [show cfg0.N = 8 from N_0]; omega⟩, rfl⟩
    have e := idx t
    refine ⟨t, flush0_4 t, ?_⟩
    show i ∈ ((View.whole main_v0).slice (win0_4.rect t)).set
    rw [View.set_slice_whole, Rect.mem_set_unit]
    exact cover2 (win0_4.index t) 2176 128 i (by omega)

end Cert.Kernel21Ideal.Conv
-- ==== Proof.Conv.Claims.lean ====
/- The claims about the gated convolution. -/
module

public import proofs.«01_k».proof.Defs
public import proofs.«01_k».proof.Proof.Gen.Kernel21.Frame
public import proofs.«01_k».proof.Proof.Gen.Reference21Ideal.Run
public import proofs.«01_k».proof.Proof.Gen.Reference21Ideal.Read
public import proofs.«01_k».proof.Proof.Conv.Array

@[expose] public noncomputable section

set_option maxRecDepth 16384

namespace Cert.Proof.Conv

open Idealize.ShloMosaic Idealize.ShloMosaic.TcCoe Idealize.SL.Sem Cert.Conv Cert.Idx

theorem frame_p : Cert.quiescent_Kernel21 := fun m ρ _ => Cert.Kernel21.Gen.frame m ρ
theorem frame_pi : Cert.quiescent_Kernel21Ideal := fun m ρ _ => Cert.Kernel21Ideal.Gen.frame m ρ
theorem frame_ri : Cert.quiescent_Reference21Ideal := fun m ρ _ =>
  (θ_run Cert.Reference21Ideal.defs _ _).mono (fun r h => ⟨fun c => (h c).2, sem_eq_zero_of_no_sems (by decide) r.2⟩)
    (Cert.Reference21Ideal.Value.run (F := Ideal) m ρ)

/-- Nothing is rewritten: the two programs have one text. -/
theorem preserves : Cert.preserves_Kernel21_Kernel21Ideal := trivial

section Reference

open Cert.Reference21Ideal Cert.Reference21Ideal.Gen Cert.Reference21Ideal.Read

/-- Two rows of zeros before the product, read from row `2 - k` on. -/
theorem padded (p : Tall) (k : ℕ) (hk : k ≤ 2) (r : Fin 2176) (s : Fin 1024) :
    @Eq EReal (val_main_v5 (F := Ideal) p (ix2 ⟨2 - k + r.val, by have := r.isLt; omega⟩ s)) (back (prod p s) k r) := by
  have hr := r.isLt
  unfold val_main_v5 back
  by_cases h : k ≤ r.val
  · rw [if_pos h]
    refine (concatenate_pair_apply_right 0 (val_main_v3 (F := Ideal)) (val_main_v4 (F := Ideal) p)
      concatenates_S2x1024_S2176x1024_S2178x1024_d0 _ rfl rfl (ix2 (⟨r.val - k, by omega⟩ : Fin 2176) s) (two ?_ ?_) ?_).trans ?_
    · exact fun h => absurd rfl h
    · exact fun _ => rfl
    · show r.val - k + 2 = 2 - k + r.val
      omega
    · rw [val_main_v4_apply, val_main_v1_apply, val_main_v2_apply]
      exact congrArg₂ (fun a b : EReal => a * b) (congrArg p (ext2 rfl rfl)) (congrArg p (ext2 rfl rfl))
  · rw [if_neg h]
    refine (concatenate_pair_apply_left 0 (val_main_v3 (F := Ideal)) (val_main_v4 (F := Ideal) p)
      concatenates_S2x1024_S2176x1024_S2178x1024_d0 _ rfl (ix2 (⟨2 - k + r.val, by omega⟩ : Fin 2) s) (two rfl rfl)).trans ?_
    rw [val_main_v3_apply, val_main_cst_apply]
    simp [Ideal.ofBits, Ideal.ieee]

theorem tap_0 (w : Taps) (r : Fin 2176) (s : Fin 1024) : @Eq EReal (val_main_v10 (F := Ideal) w (ix2 r s)) (w (ix2 0 s)) := by
  rw [val_main_v10_apply, val_main_v9_apply, val_main_v8_apply, val_main_v7_apply]
  exact congrArg w (ext2 rfl (Nat.mod_eq_of_lt s.isLt))

theorem tap_1 (w : Taps) (r : Fin 2176) (s : Fin 1024) : @Eq EReal (val_main_v16 (F := Ideal) w (ix2 r s)) (w (ix2 1 s)) := by
  rw [val_main_v16_apply, val_main_v15_apply, val_main_v14_apply, val_main_v13_apply]
  exact congrArg w (ext2 rfl (Nat.mod_eq_of_lt s.isLt))

theorem tap_2 (w : Taps) (r : Fin 2176) (s : Fin 1024) : @Eq EReal (val_main_v23 (F := Ideal) w (ix2 r s)) (w (ix2 2 s)) := by
  rw [val_main_v23_apply, val_main_v22_apply, val_main_v21_apply, val_main_v20_apply]
  exact congrArg w (ext2 rfl (Nat.mod_eq_of_lt s.isLt))

theorem row_0 (p : Tall) (r : Fin 2176) (s : Fin 1024) : @Eq EReal (val_main_v6 (F := Ideal) p (ix2 r s)) (back (prod p s) 2 r) := by
  rw [val_main_v6_apply, ← padded p 2 (by decide) r s]
  exact congrArg (val_main_v5 (F := Ideal) p) (ext2 (Nat.zero_add _).symm rfl)

theorem row_1 (p : Tall) (r : Fin 2176) (s : Fin 1024) : @Eq EReal (val_main_v12 (F := Ideal) p (ix2 r s)) (back (prod p s) 1 r) := by
  rw [val_main_v12_apply, ← padded p 1 (by decide) r s]
  exact congrArg (val_main_v5 (F := Ideal) p) (ext2 rfl rfl)

theorem row_2 (p : Tall) (r : Fin 2176) (s : Fin 1024) : @Eq EReal (val_main_v19 (F := Ideal) p (ix2 r s)) (prod p s r) := by
  rw [val_main_v19_apply, ← back_zero (prod p s) r, ← padded p 0 (by decide) r s]
  exact congrArg (val_main_v5 (F := Ideal) p) (ext2 rfl rfl)

/-- The reference's result is the convolution. -/
theorem at_out (p : Tall) (w : Taps) (r : Fin 2176) (s : Fin 1024) :
    @Eq EReal (val_main_v27 (F := Ideal) p w (ix2 r s)) (out p w r s) := by
  show @Eq EReal (val_main_v0 (F := Ideal) p (ix2 r s) * (val_main_v6 (F := Ideal) p (ix2 r s) * val_main_v10 (F := Ideal) w (ix2 r s)
    + val_main_v12 (F := Ideal) p (ix2 r s) * val_main_v16 (F := Ideal) w (ix2 r s)
    + val_main_v19 (F := Ideal) p (ix2 r s) * val_main_v23 (F := Ideal) w (ix2 r s) : EReal)) _
  rw [tap_0, tap_1, tap_2, row_0, row_1, row_2, val_main_v0_apply]
  unfold out tap
  refine congrArg₂ (fun a b : EReal => a * b) (congrArg p (ext2 rfl rfl)) ?_
  rw [mul_comm (w (ix2 0 s)), mul_comm (w (ix2 1 s)), mul_comm (w (ix2 2 s)), add_comm (back _ 2 r * _), add_comm (_ + _), ← add_assoc]

end Reference

/-- The kernel and the reference compute the same. -/
theorem algebraic : Cert.algebraic_Kernel21Ideal_Reference21Ideal := by
  intro m ρ m' ρ' _ hagree
  refine ⟨fun c => Cert.Kernel21Ideal.Conv.arr m c, ?_, ?_⟩
  · exact (θ_run Cert.Kernel21Ideal.defs _ _).mono (fun r h c => ⟨(h c).1.trans (Cert.Kernel21Ideal.Conv.final m c), (h c).2⟩)
      (Cert.Kernel21Ideal.Value.run_blocks (F := Ideal) m ρ)
  · refine (θ_run Cert.Reference21Ideal.defs _ _).mono (fun r h c => ?_) (Cert.Reference21Ideal.Value.run (F := Ideal) m' ρ')
    obtain ⟨h0, hk⟩ := h c
    obtain ⟨a0, a1⟩ := hagree c
    rw [Cert.Reference21Ideal.Read.val_main_v27_eq, a0, a1] at h0
    refine ⟨h0.trans (funext fun i => ?_), hk⟩
    obtain ⟨r, s, rfl⟩ := of2 (a := 2176) (b := 1024) i
    exact at_out _ _ r s

end Cert.Proof.Conv
-- ==== Proof.lean ====
module

public import proofs.«01_k».proof.Defs
public import proofs.«01_k».proof.Proof.Fox.Claims
public import proofs.«01_k».proof.Proof.Ffn.Claims
public import proofs.«01_k».proof.Proof.Proj.Claims
public import proofs.«01_k».proof.Proof.DHn.Claims
public import proofs.«01_k».proof.Proof.DHn2.Claims
public import proofs.«01_k».proof.Proof.FfnOut.Claims
public import proofs.«01_k».proof.Proof.Latent.Claims
public import proofs.«01_k».proof.Proof.DCqn.Claims
public import proofs.«01_k».proof.Proof.DCkvn.Claims
public import proofs.«01_k».proof.Proof.Merge.Claims
public import proofs.«01_k».proof.Proof.DwBranch.Claims
public import proofs.«01_k».proof.Proof.FoxFwd.Claims
public import proofs.«01_k».proof.Proof.Mla.Claims
public import proofs.«01_k».proof.Proof.MlaFwd.Claims
public import proofs.«01_k».proof.Proof.RmsBwd.Claims
public import proofs.«01_k».proof.Proof.ResidBwd.Claims
public import proofs.«01_k».proof.Proof.PrepBwd.Claims
public import proofs.«01_k».proof.Proof.Resid.Claims
public import proofs.«01_k».proof.Proof.Rms.Claims
public import proofs.«01_k».proof.Proof.Prep.Claims
public import proofs.«01_k».proof.Proof.Conv.Claims

@[expose] public noncomputable section

namespace Cert.Proof

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel13.Gen.facts, Cert.Kernel13Ideal.Gen.facts, Cert.Reference13Ideal.Gen.facts,
  Cert.Kernel12.Gen.facts, Cert.Kernel12Ideal.Gen.facts, Cert.Reference12Ideal.Gen.facts,
  Cert.Kernel14.Gen.facts, Cert.Kernel14Ideal.Gen.facts, Cert.Reference14Ideal.Gen.facts,
  Cert.Kernel17.Gen.facts, Cert.Kernel17Ideal.Gen.facts, Cert.Reference17Ideal.Gen.facts,
  Cert.Kernel16.Gen.facts, Cert.Kernel16Ideal.Gen.facts, Cert.Reference16Ideal.Gen.facts,
  Cert.Kernel18.Gen.facts, Cert.Kernel18Ideal.Gen.facts, Cert.Reference18Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  Cert.Kernel21.Gen.facts, Cert.Kernel21Ideal.Gen.facts, Cert.Reference21Ideal.Gen.facts,
  Fox.pre_facts,
  Mla.pre_facts,
  MlaFwd.pre_facts,
  Fox.frame_p, Fox.frame_pi, Fox.frame_pi_pre, Fox.frame_ri, Fox.frame_ri_pre,
  Ffn.frame_p, Ffn.frame_pi, Ffn.frame_ri,
  Proj.frame_p, Proj.frame_pi, Proj.frame_ri,
  DHn.frame_p, DHn.frame_pi, DHn.frame_ri,
  DHn2.frame_p, DHn2.frame_pi, DHn2.frame_ri,
  FfnOut.frame_p, FfnOut.frame_pi, FfnOut.frame_ri,
  Latent.frame_p, Latent.frame_pi, Latent.frame_ri,
  DCqn.frame_p, DCqn.frame_pi, DCqn.frame_ri,
  DCkvn.frame_p, DCkvn.frame_pi, DCkvn.frame_ri,
  Merge.frame_p, Merge.frame_pi, Merge.frame_ri,
  DwBranch.frame_p, DwBranch.frame_pi, DwBranch.frame_ri,
  FoxFwd.frame_p, FoxFwd.frame_pi, FoxFwd.frame_ri,
  Mla.frame_p, Mla.frame_pi, Mla.frame_pi_pre, Mla.frame_ri, Mla.frame_ri_pre,
  MlaFwd.frame_p, MlaFwd.frame_pi, MlaFwd.frame_pi_pre, MlaFwd.frame_ri, MlaFwd.frame_ri_pre,
  RmsBwd.frame_p, RmsBwd.frame_pi, RmsBwd.frame_ri,
  ResidBwd.frame_p, ResidBwd.frame_pi, ResidBwd.frame_ri,
  PrepBwd.frame_p, PrepBwd.frame_pi, PrepBwd.frame_ri,
  Resid.frame_p, Resid.frame_pi, Resid.frame_ri,
  Rms.frame_p, Rms.frame_pi, Rms.frame_ri,
  Prep.frame_p, Prep.frame_pi, Prep.frame_ri,
  Conv.frame_p, Conv.frame_pi, Conv.frame_ri,
  Fox.preserves, Fox.algebraic,
  Ffn.preserves, Ffn.algebraic,
  Proj.preserves, Proj.algebraic,
  DHn.preserves, DHn.algebraic,
  DHn2.preserves, DHn2.algebraic,
  FfnOut.preserves, FfnOut.algebraic,
  Latent.preserves, Latent.algebraic,
  DCqn.preserves, DCqn.algebraic,
  DCkvn.preserves, DCkvn.algebraic,
  Merge.preserves, Merge.algebraic,
  DwBranch.preserves, DwBranch.algebraic,
  FoxFwd.preserves, FoxFwd.algebraic,
  Mla.preserves, Mla.algebraic,
  MlaFwd.preserves, MlaFwd.algebraic,
  RmsBwd.preserves, RmsBwd.algebraic,
  ResidBwd.preserves, ResidBwd.algebraic,
  PrepBwd.preserves, PrepBwd.algebraic,
  Resid.preserves, Resid.algebraic,
  Rms.preserves, Rms.algebraic,
  Prep.preserves, Prep.algebraic,
  Conv.preserves, Conv.algebraic⟩

end Cert.Proof
